-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v51_1)) (v2 : (c : Dev Cert.KernelIdeal.nD) → Buf (Elt Ideal) ((c.tc : Thread Cert.KernelIdeal.nD Cert.KernelIdeal.τ).loc Cert.KernelIdeal.main_v51_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_0) = v0 c
          ∧ r.2.mem ((c.tc : Thread Cert.KernelIdeal.nD Cert.KernelIdeal.τ).loc Cert.KernelIdeal.main_v51_1) = v1 c
          ∧ r.2.mem ((c.tc : Thread Cert.KernelIdeal.nD Cert.KernelIdeal.τ).loc Cert.KernelIdeal.main_v51_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)) (v2 : (c : Dev Cert.Kernel5Ideal.nD) → Buf (Elt Ideal) ((c.tc : Thread Cert.Kernel5Ideal.nD Cert.Kernel5Ideal.τ).loc Cert.Kernel5Ideal.main_v5_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_v5_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_v39) = v1 c
          ∧ r.2.mem ((c.tc : Thread Cert.Reference5Ideal.nD Cert.Reference5Ideal.τ).loc Cert.Reference5Ideal.main_v40) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v12_0)) (v1 : (c : Dev Cert.Kernel6Ideal.nD) → Buf (Elt Ideal) ((c.tc : Thread Cert.Kernel6Ideal.nD Cert.Kernel6Ideal.τ).loc Cert.Kernel6Ideal.main_v12_1)) (v2 : (c : Dev Cert.Kernel6Ideal.nD) → Buf (Elt Ideal) ((c.tc : Thread Cert.Kernel6Ideal.nD Cert.Kernel6Ideal.τ).loc Cert.Kernel6Ideal.main_v12_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12_0) = v0 c
          ∧ r.2.mem ((c.tc : Thread Cert.Kernel6Ideal.nD Cert.Kernel6Ideal.τ).loc Cert.Kernel6Ideal.main_v12_1) = v1 c
          ∧ r.2.mem ((c.tc : Thread Cert.Kernel6Ideal.nD Cert.Kernel6Ideal.τ).loc Cert.Kernel6Ideal.main_v12_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v66) = v0 c
          ∧ r.2.mem ((c.tc : Thread Cert.Reference6Ideal.nD Cert.Reference6Ideal.τ).loc Cert.Reference6Ideal.main_v68) = v1 c
          ∧ r.2.mem ((c.tc : Thread Cert.Reference6Ideal.nD Cert.Reference6Ideal.τ).loc Cert.Reference6Ideal.main_v70) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_v16) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v12_0)) (v1 : (c : Dev Cert.Kernel11Ideal.nD) → Buf (Elt Ideal) ((c.tc : Thread Cert.Kernel11Ideal.nD Cert.Kernel11Ideal.τ).loc Cert.Kernel11Ideal.main_v12_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v12_0) = v0 c
          ∧ r.2.mem ((c.tc : Thread Cert.Kernel11Ideal.nD Cert.Kernel11Ideal.τ).loc Cert.Kernel11Ideal.main_v12_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_v16) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v8)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v8) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v25) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v5)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v5)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v6_0)) (v1 : (c : Dev Cert.Kernel16Ideal.nD) → Buf (Elt Ideal) ((c.tc : Thread Cert.Kernel16Ideal.nD Cert.Kernel16Ideal.τ).loc Cert.Kernel16Ideal.main_v6_1)) (v2 : (c : Dev Cert.Kernel16Ideal.nD) → Buf (Elt Ideal) ((c.tc : Thread Cert.Kernel16Ideal.nD Cert.Kernel16Ideal.τ).loc Cert.Kernel16Ideal.main_v6_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v6_0) = v0 c
          ∧ r.2.mem ((c.tc : Thread Cert.Kernel16Ideal.nD Cert.Kernel16Ideal.τ).loc Cert.Kernel16Ideal.main_v6_1) = v1 c
          ∧ r.2.mem ((c.tc : Thread Cert.Kernel16Ideal.nD Cert.Kernel16Ideal.τ).loc Cert.Kernel16Ideal.main_v6_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v38) = v0 c
          ∧ r.2.mem ((c.tc : Thread Cert.Reference16Ideal.nD Cert.Reference16Ideal.τ).loc Cert.Reference16Ideal.main_v39) = v1 c
          ∧ r.2.mem ((c.tc : Thread Cert.Reference16Ideal.nD Cert.Reference16Ideal.τ).loc Cert.Reference16Ideal.main_v40) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_finite : Cert.Pre_finite.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Pre_finite.lean ====
abbrev S4096x12x96 : Shape := ⟨3, ![4096, 12, 96]⟩
abbrev S4096x12x64 : Shape := ⟨3, ![4096, 12, 64]⟩
abbrev S4096x12x320 : Shape := ⟨3, ![4096, 12, 320]⟩
abbrev S_ : Shape := ⟨0, ![]⟩

class Facts : Prop where
  concatenates_S4096x12x96_S4096x12x96_S4096x12x64_S4096x12x64_S4096x12x320_d2 : Shape.Concatenates [S4096x12x96, S4096x12x96, S4096x12x64, S4096x12x64] S4096x12x320 2
  bcast_S_S4096x12x320 : S_.BroadcastsInDim S4096x12x320 (![] : Fin 0 → Fin S4096x12x320.rank)

variable [Facts]

def fn {F : FTy → Type} [FloatOps F] (main_arg0 : FVec F S4096x12x96 .f32) (main_arg1 : FVec F S4096x12x96 .f32) (main_arg2 : FVec F S4096x12x64 .f32) (main_arg3 : FVec F S4096x12x64 .f32) : IVec S4096x12x320 1 :=
  let main_v0 : FVec F S4096x12x320 .f32 := concatenate S4096x12x320 2 [⟨S4096x12x96, main_arg0⟩, ⟨S4096x12x96, main_arg1⟩, ⟨S4096x12x64, main_arg2⟩, ⟨S4096x12x64, main_arg3⟩] concatenates_S4096x12x96_S4096x12x96_S4096x12x64_S4096x12x64_S4096x12x320_d2
  let main_v1 : FVec F S4096x12x320 .f32 := Host.absf main_v0
  let main_cst : FVec F S_ .f32 := constant S_ .f32 0x7F800000#32
  let main_v2 : FVec F S4096x12x320 .f32 := broadcastInDim S4096x12x320 ![] bcast_S_S4096x12x320 main_cst
  let main_v3 : IVec S4096x12x320 1 := cmpf .olt main_v1 main_v2
  main_v3
-- ==== Pre_finite6.lean ====
abbrev S4096x1536 : Shape := ⟨2, ![4096, 1536]⟩
abbrev S256x512 : Shape := ⟨2, ![256, 512]⟩
abbrev S4096x1024 : Shape := ⟨2, ![4096, 1024]⟩
abbrev S4096x256 : Shape := ⟨2, ![4096, 256]⟩
abbrev S256x256 : Shape := ⟨2, ![256, 256]⟩
abbrev S4352x256 : Shape := ⟨2, ![4352, 256]⟩
abbrev S_ : Shape := ⟨0, ![]⟩

class Facts : Prop where
  slices_S4096x1536_S4096x256_0_1280 : S4096x1536.Slices ![0, 1280] S4096x256
  slices_S256x512_S256x256_0_0 : S256x512.Slices ![0, 0] S256x256
  concatenates_S4096x256_S256x256_S4352x256_d0 : Shape.Concatenates [S4096x256, S256x256] S4352x256 0
  bcast_S_S4352x256 : S_.BroadcastsInDim S4352x256 (![] : Fin 0 → Fin S4352x256.rank)

variable [Facts]

def fn {F : FTy → Type} [FloatOps F] (main_arg0 : FVec F S4096x1536 .f32) (main_arg1 : FVec F S256x512 .f32) (main_arg2 : FVec F S4096x1024 .f32) : IVec S4352x256 1 :=
  let main_v0 : FVec F S4096x256 .f32 := (extractStridedSlice S4096x256 ![0, 1280] · slices_S4096x1536_S4096x256_0_1280) main_arg0
  let main_v1 : FVec F S256x256 .f32 := (extractStridedSlice S256x256 ![0, 0] · slices_S256x512_S256x256_0_0) main_arg1
  let main_v2 : FVec F S4352x256 .f32 := (fun a b => concatenate S4352x256 0 [⟨S4096x256, a⟩, ⟨S256x256, b⟩] concatenates_S4096x256_S256x256_S4352x256_d0) main_v0 main_v1
  let main_v3 : FVec F S4352x256 .f32 := Host.absf main_v2
  let main_cst : FVec F S_ .f32 := constant S_ .f32 0x7F800000#32
  let main_v4 : FVec F S4352x256 .f32 := broadcastInDim S4352x256 ![] bcast_S_S4352x256 main_cst
  let main_v5 : IVec S4352x256 1 := cmpf .olt main_v3 main_v4
  main_v5
-- ==== Kernel.lean ====
abbrev S4096x12x96 : Shape := ⟨3, ![4096, 12, 96]⟩
abbrev S4096x12x64 : Shape := ⟨3, ![4096, 12, 64]⟩
abbrev S_ : Shape := ⟨0, ![]⟩
abbrev S12x4096x4096 : Shape := ⟨3, ![12, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S12x4096 : Shape := ⟨2, ![12, 4096]⟩
abbrev S12x4096x1 : Shape := ⟨3, ![12, 4096, 1]⟩
abbrev S12x4096x64 : Shape := ⟨3, ![12, 4096, 64]⟩
abbrev S4096x12x128 : Shape := ⟨3, ![4096, 12, 128]⟩
abbrev S4096x1536 : Shape := ⟨2, ![4096, 1536]⟩
abbrev S3x4x4096 : Shape := ⟨3, ![3, 4, 4096]⟩
abbrev S3x8x4096 : Shape := ⟨3, ![3, 8, 4096]⟩
abbrev S8x128 : Shape := ⟨2, ![8, 128]⟩
abbrev S1024x512 : Shape := ⟨2, ![1024, 512]⟩
abbrev S1x8x1024 : Shape := ⟨3, ![1, 8, 1024]⟩
abbrev S4096x512 : Shape := ⟨2, ![4096, 512]⟩
abbrev S1024x128 : Shape := ⟨2, ![1024, 128]⟩
abbrev S1024x1024 : Shape := ⟨2, ![1024, 1024]⟩
abbrev S1x1x1024 : Shape := ⟨3, ![1, 1, 1024]⟩
abbrev S1x1024 : Shape := ⟨2, ![1, 1024]⟩
abbrev S512x128 : Shape := ⟨2, ![512, 128]⟩
abbrev S512x1024 : Shape := ⟨2, ![512, 1024]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 81
  | .vmem => 20
  | .smem => 0
  | _ => 0

abbrev bufTy : (tb : Table) → Fin (tcTables nBuf tb) → BufTy
  | .hbm, ⟨0, _⟩ => ⟨S4096x12x96, .f32⟩
  | .hbm, ⟨1, _⟩ => ⟨S4096x12x96, .f32⟩
  | .hbm, ⟨2, _⟩ => ⟨S4096x12x64, .f32⟩
  | .hbm, ⟨3, _⟩ => ⟨S4096x12x64, .f32⟩
  | .hbm, ⟨4, _⟩ => ⟨S_, .f32⟩
  | .hbm, ⟨5, _⟩ => ⟨S_, .f32⟩
  | .hbm, ⟨6, _⟩ => ⟨S12x4096x4096, .f32⟩
  | .hbm, ⟨7, _⟩ => ⟨S_, .f32⟩
  | .hbm, ⟨8, _⟩ => ⟨S12x4096x4096, .f32⟩
  | .hbm, ⟨9, _⟩ => ⟨S12x4096x4096, .f32⟩
  | .hbm, ⟨10, _⟩ => ⟨S4096, .i32⟩
  | .hbm, ⟨11, _⟩ => ⟨S1x4096, .i32⟩
  | .hbm, ⟨12, _⟩ => ⟨S4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S1x4096x4096, .i1⟩
  | .hbm, ⟨18, _⟩ => ⟨S_, .f32⟩
  | .hbm, ⟨19, _⟩ => ⟨S_, .f32⟩
  | .hbm, ⟨20, _⟩ => ⟨S12x4096x4096, .i1⟩
  | .hbm, ⟨21, _⟩ => ⟨S12x4096x4096, .f32⟩
  | .hbm, ⟨22, _⟩ => ⟨S12x4096x4096, .f32⟩
  | .hbm, ⟨23, _⟩ => ⟨S_, .f32⟩
  | .hbm, ⟨24, _⟩ => ⟨S12x4096, .f32⟩
  | .hbm, ⟨25, _⟩ => ⟨S12x4096x1, .f32⟩
  | .hbm, ⟨26, _⟩ => ⟨S12x4096x4096, .f32⟩
  | .hbm, ⟨27, _⟩ => ⟨S12x4096x4096, .f32⟩
  | .hbm, ⟨28, _⟩ => ⟨S12x4096x4096, .f32⟩
  | .hbm, ⟨29, _⟩ => ⟨S_, .f32⟩
  | .hbm, ⟨30, _⟩ => ⟨S12x4096, .f32⟩
  | .hbm, ⟨31, _⟩ => ⟨S12x4096x1, .f32⟩
  | .hbm, ⟨32, _⟩ => ⟨S12x4096x4096, .f32⟩
  | .hbm, ⟨33, _⟩ => ⟨S12x4096x4096, .f32⟩
  | .hbm, ⟨34, _⟩ => ⟨S12x4096x64, .f32⟩
  | .hbm, ⟨35, _⟩ => ⟨S12x4096x1, .f32⟩
  | .hbm, ⟨36, _⟩ => ⟨S12x4096x1, .f32⟩
  | .hbm, ⟨37, _⟩ => ⟨S12x4096, .f32⟩
  | .hbm, ⟨38, _⟩ => ⟨S12x4096, .f32⟩
  | .hbm, ⟨39, _⟩ => ⟨S12x4096, .f32⟩
  | .hbm, ⟨40, _⟩ => ⟨S12x4096x64, .f32⟩
  | .hbm, ⟨41, _⟩ => ⟨S12x4096x64, .f32⟩
  | .hbm, ⟨42, _⟩ => ⟨S_, .f32⟩
  | .hbm, ⟨43, _⟩ => ⟨S12x4096, .f32⟩
  | .hbm, ⟨44, _⟩ => ⟨S_, .f32⟩
  | .hbm, ⟨45, _⟩ => ⟨S_, .f32⟩
  | .hbm, ⟨46, _⟩ => ⟨S4096x12x96, .f32⟩
  | .hbm, ⟨47, _⟩ => ⟨S4096x12x96, .f32⟩
  | .hbm, ⟨48, _⟩ => ⟨S_, .i32⟩
  | .hbm, ⟨49, _⟩ => ⟨S_, .f32⟩
  | .hbm, ⟨50, _⟩ => ⟨S4096x12x128, .f32⟩
  | .hbm, ⟨51, _⟩ => ⟨S4096x1536, .f32⟩
  | .hbm, ⟨52, _⟩ => ⟨S4096x1536, .bf16⟩
  | .hbm, ⟨53, _⟩ => ⟨S_, .i32⟩
  | .hbm, ⟨54, _⟩ => ⟨S_, .f32⟩
  | .hbm, ⟨55, _⟩ => ⟨S4096x12x128, .f32⟩
  | .hbm, ⟨56, _⟩ => ⟨S4096x1536, .f32⟩
  | .hbm, ⟨57, _⟩ => ⟨S4096x1536, .bf16⟩
  | .hbm, ⟨58, _⟩ => ⟨S_, .i32⟩
  | .hbm, ⟨59, _⟩ => ⟨S_, .f32⟩
  | .hbm, ⟨60, _⟩ => ⟨S4096x12x128, .f32⟩
  | .hbm, ⟨61, _⟩ => ⟨S4096x1536, .f32⟩
  | .hbm, ⟨62, _⟩ => ⟨S4096x1536, .bf16⟩
  | .hbm, ⟨63, _⟩ => ⟨S_, .i32⟩
  | .hbm, ⟨64, _⟩ => ⟨S_, .f32⟩
  | .hbm, ⟨65, _⟩ => ⟨S4096x12x128, .f32⟩
  | .hbm, ⟨66, _⟩ => ⟨S4096x1536, .f32⟩
  | .hbm, ⟨67, _⟩ => ⟨S4096x1536, .bf16⟩
  | .hbm, ⟨68, _⟩ => ⟨S3x4x4096, .f32⟩
  | .hbm, ⟨69, _⟩ => ⟨S_, .i32⟩
  | .hbm, ⟨70, _⟩ => ⟨S_, .f32⟩
  | .hbm, ⟨71, _⟩ => ⟨S3x8x4096, .f32⟩
  | .hbm, ⟨72, _⟩ => ⟨S3x4x4096, .f32⟩
  | .hbm, ⟨73, _⟩ => ⟨S_, .i32⟩
  | .hbm, ⟨74, _⟩ => ⟨S_, .f32⟩
  | .hbm, ⟨75, _⟩ => ⟨S3x8x4096, .f32⟩
  | .hbm, ⟨76, _⟩ => ⟨S_, .f32⟩
  | .hbm, ⟨77, _⟩ => ⟨S8x128, .f32⟩
  | .hbm, ⟨78, _⟩ => ⟨S4096x1536, .f32⟩
  | .hbm, ⟨79, _⟩ => ⟨S4096x1536, .f32⟩
  | .hbm, ⟨80, _⟩ => ⟨S4096x1536, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1x8x1024, .f32⟩
  | .local _ .vmem, ⟨9, _⟩ => ⟨S1x8x1024, .f32⟩
  | .local _ .vmem, ⟨10, _⟩ => ⟨S1x8x1024, .f32⟩
  | .local _ .vmem, ⟨11, _⟩ => ⟨S1x8x1024, .f32⟩
  | .local _ .vmem, ⟨12, _⟩ => ⟨S4096x512, .f32⟩
  | .local _ .vmem, ⟨13, _⟩ => ⟨S4096x512, .f32⟩
  | .local _ .vmem, ⟨14, _⟩ => ⟨S1024x512, .f32⟩
  | .local _ .vmem, ⟨15, _⟩ => ⟨S1024x512, .f32⟩
  | .local _ .vmem, ⟨16, _⟩ => ⟨S1024x512, .bf16⟩
  | .local _ .vmem, ⟨17, _⟩ => ⟨S1024x512, .bf16⟩
  | .local _ .vmem, ⟨18, _⟩ => ⟨S1024x512, .f32⟩
  | .local _ .vmem, ⟨19, _⟩ => ⟨S1024x512, .f32⟩
  | _, _ => ⟨S4096x12x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c : Ref sig .tc := ⟨.hbm, 48, rfl⟩
abbrev main_call1_v0 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_call2_v0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_call3_v0 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_8 : Ref sig .tc := ⟨.hbm, 63, rfl⟩
abbrev main_call4_v0 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_call5_v0 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_call6_v0 : Ref sig .tc := ⟨.hbm, 74, rfl⟩
abbrev main_v49 : Ref sig .tc := ⟨.hbm, 75, rfl⟩
abbrev main_cst_11 : Ref sig .tc := ⟨.hbm, 76, rfl⟩
abbrev main_v50 : Ref sig .tc := ⟨.hbm, 77, rfl⟩
abbrev main_v51_0 : Ref sig .tc := ⟨.hbm, 78, rfl⟩
abbrev main_v51_1 : Ref sig .tc := ⟨.hbm, 79, rfl⟩
abbrev main_v51_2 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![3, 4, 4], ![false, false, false]⟩

def k0_cond3 (i : grid0.Coords) : BitVec 1 :=
  let arg2 : BitVec 32 := BitVec.ofNat 32 (i 2).val
  let arg1 : BitVec 32 := BitVec.ofNat 32 (i 1).val
  let v8 : BitVec 1 := Scalar.cmpi .sgt arg2 arg1
  let v9 : BitVec 32 := Scalar.extui v8
  let c0_i32_4 : BitVec 32 := 0#32
  let v10 : BitVec 1 := Scalar.cmpi .ne v9 c0_i32_4
  v10

def k0_mult1 (i : grid0.Coords) : BitVec 32 :=
  let arg2 : BitVec 32 := BitVec.ofNat 32 (i 2).val
  let c1024_i32 : BitVec 32 := 1024#32
  let v51 : BitVec 32 := Scalar.muli arg2 c1024_i32
  let c0_i32_31 : BitVec 32 := 0#32
  let v52 : BitVec 32 := Scalar.addi v51 c0_i32_31
  v52
def k0_off1 (i : grid0.Coords) : Fin 2 → Nat :=
  let arg2 : BitVec 32 := BitVec.ofNat 32 (i 2).val
  let c1024_i32 : BitVec 32 := 1024#32
  let v51 : BitVec 32 := Scalar.muli arg2 c1024_i32
  let c0_i32_31 : BitVec 32 := 0#32
  let v52 : BitVec 32 := Scalar.addi v51 c0_i32_31
  let v53 : BitVec 32 := v52
  let v54 : Index := Scalar.indexCast v53
  let c0_32 : Index := 0#32
  ![v54.toNat, 0]
def k0_mult2 (i : grid0.Coords) : BitVec 32 :=
  let arg2 : BitVec 32 := BitVec.ofNat 32 (i 2).val
  let c1024_i32_60 : BitVec 32 := 1024#32
  let v97 : BitVec 32 := Scalar.muli arg2 c1024_i32_60
  let c0_i32_61 : BitVec 32 := 0#32
  let v98 : BitVec 32 := Scalar.addi v97 c0_i32_61
  v98
def k0_off2 (i : grid0.Coords) : Fin 2 → Nat :=
  let arg2 : BitVec 32 := BitVec.ofNat 32 (i 2).val
  let c1024_i32_60 : BitVec 32 := 1024#32
  let v97 : BitVec 32 := Scalar.muli arg2 c1024_i32_60
  let c0_i32_61 : BitVec 32 := 0#32
  let v98 : BitVec 32 := Scalar.addi v97 c0_i32_61
  let v99 : BitVec 32 := v98
  let v100 : Index := Scalar.indexCast v99
  let c128_62 : Index := 128#32
  ![v100.toNat, 128]
def k0_mult3 (i : grid0.Coords) : BitVec 32 :=
  let arg2 : BitVec 32 := BitVec.ofNat 32 (i 2).val
  let c1024_i32_90 : BitVec 32 := 1024#32
  let v143 : BitVec 32 := Scalar.muli arg2 c1024_i32_90
  let c0_i32_91 : BitVec 32 := 0#32
  let v144 : BitVec 32 := Scalar.addi v143 c0_i32_91
  v144
def k0_off3 (i : grid0.Coords) : Fin 2 → Nat :=
  let arg2 : BitVec 32 := BitVec.ofNat 32 (i 2).val
  let c1024_i32_90 : BitVec 32 := 1024#32
  let v143 : BitVec 32 := Scalar.muli arg2 c1024_i32_90
  let c0_i32_91 : BitVec 32 := 0#32
  let v144 : BitVec 32 := Scalar.addi v143 c0_i32_91
  let v145 : BitVec 32 := v144
  let v146 : Index := Scalar.indexCast v145
  let c256_92 : Index := 256#32
  ![v146.toNat, 256]
def k0_mult4 (i : grid0.Coords) : BitVec 32 :=
  let arg2 : BitVec 32 := BitVec.ofNat 32 (i 2).val
  let c1024_i32_120 : BitVec 32 := 1024#32
  let v189 : BitVec 32 := Scalar.muli arg2 c1024_i32_120
  let c0_i32_121 : BitVec 32 := 0#32
  let v190 : BitVec 32 := Scalar.addi v189 c0_i32_121
  v190
def k0_off4 (i : grid0.Coords) : Fin 2 → Nat :=
  let arg2 : BitVec 32 := BitVec.ofNat 32 (i 2).val
  let c1024_i32_120 : BitVec 32 := 1024#32
  let v189 : BitVec 32 := Scalar.muli arg2 c1024_i32_120
  let c0_i32_121 : BitVec 32 := 0#32
  let v190 : BitVec 32 := Scalar.addi v189 c0_i32_121
  let v191 : BitVec 32 := v190
  let v192 : Index := Scalar.indexCast v191
  let c384_122 : Index := 384#32
  ![v192.toNat, 384]
def k0_cond4 (i : grid0.Coords) : BitVec 1 :=
  let arg2 : BitVec 32 := BitVec.ofNat 32 (i 2).val
  let arg1 : BitVec 32 := BitVec.ofNat 32 (i 1).val
  let v11 : BitVec 1 := Scalar.cmpi .eq arg2 arg1
  let v12 : BitVec 32 := Scalar.extui v11
  let c0_i32_5 : BitVec 32 := 0#32
  let v13 : BitVec 1 := Scalar.cmpi .ne v12 c0_i32_5
  v13

def k0_mult5 (i : grid0.Coords) : BitVec 32 :=
  let arg2 : BitVec 32 := BitVec.ofNat 32 (i 2).val
  let c1024_i32 : BitVec 32 := 1024#32
  let v60 : BitVec 32 := Scalar.muli arg2 c1024_i32
  let c0_i32_34 : BitVec 32 := 0#32
  let v61 : BitVec 32 := Scalar.addi v60 c0_i32_34
  v61
def k0_off5 (i : grid0.Coords) : Fin 2 → Nat :=
  let arg2 : BitVec 32 := BitVec.ofNat 32 (i 2).val
  let c1024_i32 : BitVec 32 := 1024#32
  let v60 : BitVec 32 := Scalar.muli arg2 c1024_i32
  let c0_i32_34 : BitVec 32 := 0#32
  let v61 : BitVec 32 := Scalar.addi v60 c0_i32_34
  let v62 : BitVec 32 := v61
  let v63 : Index := Scalar.indexCast v62
  let c0_35 : Index := 0#32
  ![v63.toNat, 0]
def k0_mult6 (i : grid0.Coords) : BitVec 32 :=
  let arg2 : BitVec 32 := BitVec.ofNat 32 (i 2).val
  let c1024_i32_66 : BitVec 32 := 1024#32
  let v115 : BitVec 32 := Scalar.muli arg2 c1024_i32_66
  let c512_i32_67 : BitVec 32 := 512#32
  let v116 : BitVec 32 := Scalar.addi v115 c512_i32_67
  v116
def k0_off6 (i : grid0.Coords) : Fin 2 → Nat :=
  let arg2 : BitVec 32 := BitVec.ofNat 32 (i 2).val
  let c1024_i32_66 : BitVec 32 := 1024#32
  let v115 : BitVec 32 := Scalar.muli arg2 c1024_i32_66
  let c512_i32_67 : BitVec 32 := 512#32
  let v116 : BitVec 32 := Scalar.addi v115 c512_i32_67
  let v117 : BitVec 32 := v116
  let v118 : Index := Scalar.indexCast v117
  let c0_68 : Index := 0#32
  ![v118.toNat, 0]
def k0_mult7 (i : grid0.Coords) : BitVec 32 :=
  let arg2 : BitVec 32 := BitVec.ofNat 32 (i 2).val
  let c1024_i32_99 : BitVec 32 := 1024#32
  let v170 : BitVec 32 := Scalar.muli arg2 c1024_i32_99
  let c0_i32_100 : BitVec 32 := 0#32
  let v171 : BitVec 32 := Scalar.addi v170 c0_i32_100
  v171
def k0_off7 (i : grid0.Coords) : Fin 2 → Nat :=
  let arg2 : BitVec 32 := BitVec.ofNat 32 (i 2).val
  let c1024_i32_99 : BitVec 32 := 1024#32
  let v170 : BitVec 32 := Scalar.muli arg2 c1024_i32_99
  let c0_i32_100 : BitVec 32 := 0#32
  let v171 : BitVec 32 := Scalar.addi v170 c0_i32_100
  let v172 : BitVec 32 := v171
  let v173 : Index := Scalar.indexCast v172
  let c128_101 : Index := 128#32
  ![v173.toNat, 128]
def k0_mult8 (i : grid0.Coords) : BitVec 32 :=
  let arg2 : BitVec 32 := BitVec.ofNat 32 (i 2).val
  let c1024_i32_134 : BitVec 32 := 1024#32
  let v225 : BitVec 32 := Scalar.muli arg2 c1024_i32_134
  let c512_i32_135 : BitVec 32 := 512#32
  let v226 : BitVec 32 := Scalar.addi v225 c512_i32_135
  v226
def k0_off8 (i : grid0.Coords) : Fin 2 → Nat :=
  let arg2 : BitVec 32 := BitVec.ofNat 32 (i 2).val
  let c1024_i32_134 : BitVec 32 := 1024#32
  let v225 : BitVec 32 := Scalar.muli arg2 c1024_i32_134
  let c512_i32_135 : BitVec 32 := 512#32
  let v226 : BitVec 32 := Scalar.addi v225 c512_i32_135
  let v227 : BitVec 32 := v226
  let v228 : Index := Scalar.indexCast v227
  let c128_136 : Index := 128#32
  ![v228.toNat, 128]
def k0_mult9 (i : grid0.Coords) : BitVec 32 :=
  let arg2 : BitVec 32 := BitVec.ofNat 32 (i 2).val
  let c1024_i32_167 : BitVec 32 := 1024#32
  let v280 : BitVec 32 := Scalar.muli arg2 c1024_i32_167
  let c0_i32_168 : BitVec 32 := 0#32
  let v281 : BitVec 32 := Scalar.addi v280 c0_i32_168
  v281
def k0_off9 (i : grid0.Coords) : Fin 2 → Nat :=
  let arg2 : BitVec 32 := BitVec.ofNat 32 (i 2).val
  let c1024_i32_167 : BitVec 32 := 1024#32
  let v280 : BitVec 32 := Scalar.muli arg2 c1024_i32_167
  let c0_i32_168 : BitVec 32 := 0#32
  let v281 : BitVec 32 := Scalar.addi v280 c0_i32_168
  let v282 : BitVec 32 := v281
  let v283 : Index := Scalar.indexCast v282
  let c256_169 : Index := 256#32
  ![v283.toNat, 256]
def k0_mult10 (i : grid0.Coords) : BitVec 32 :=
  let arg2 : BitVec 32 := BitVec.ofNat 32 (i 2).val
  let c1024_i32_202 : BitVec 32 := 1024#32
  let v335 : BitVec 32 := Scalar.muli arg2 c1024_i32_202
  let c512_i32_203 : BitVec 32 := 512#32
  let v336 : BitVec 32 := Scalar.addi v335 c512_i32_203
  v336
def k0_off10 (i : grid0.Coords) : Fin 2 → Nat :=
  let arg2 : BitVec 32 := BitVec.ofNat 32 (i 2).val
  let c1024_i32_202 : BitVec 32 := 1024#32
  let v335 : BitVec 32 := Scalar.muli arg2 c1024_i32_202
  let c512_i32_203 : BitVec 32 := 512#32
  let v336 : BitVec 32 := Scalar.addi v335 c512_i32_203
  let v337 : BitVec 32 := v336
  let v338 : Index := Scalar.indexCast v337
  let c256_204 : Index := 256#32
  ![v338.toNat, 256]
def k0_mult11 (i : grid0.Coords) : BitVec 32 :=
  let arg2 : BitVec 32 := BitVec.ofNat 32 (i 2).val
  let c1024_i32_235 : BitVec 32 := 1024#32
  let v390 : BitVec 32 := Scalar.muli arg2 c1024_i32_235
  let c0_i32_236 : BitVec 32 := 0#32
  let v391 : BitVec 32 := Scalar.addi v390 c0_i32_236
  v391
def k0_off11 (i : grid0.Coords) : Fin 2 → Nat :=
  let arg2 : BitVec 32 := BitVec.ofNat 32 (i 2).val
  let c1024_i32_235 : BitVec 32 := 1024#32
  let v390 : BitVec 32 := Scalar.muli arg2 c1024_i32_235
  let c0_i32_236 : BitVec 32 := 0#32
  let v391 : BitVec 32 := Scalar.addi v390 c0_i32_236
  let v392 : BitVec 32 := v391
  let v393 : Index := Scalar.indexCast v392
  let c384_237 : Index := 384#32
  ![v393.toNat, 384]
def k0_mult12 (i : grid0.Coords) : BitVec 32 :=
  let arg2 : BitVec 32 := BitVec.ofNat 32 (i 2).val
  let c1024_i32_270 : BitVec 32 := 1024#32
  let v445 : BitVec 32 := Scalar.muli arg2 c1024_i32_270
  let c512_i32_271 : BitVec 32 := 512#32
  let v446 : BitVec 32 := Scalar.addi v445 c512_i32_271
  v446
def k0_off12 (i : grid0.Coords) : Fin 2 → Nat :=
  let arg2 : BitVec 32 := BitVec.ofNat 32 (i 2).val
  let c1024_i32_270 : BitVec 32 := 1024#32
  let v445 : BitVec 32 := Scalar.muli arg2 c1024_i32_270
  let c512_i32_271 : BitVec 32 := 512#32
  let v446 : BitVec 32 := Scalar.addi v445 c512_i32_271
  let v447 : BitVec 32 := v446
  let v448 : Index := Scalar.indexCast v447
  let c384_272 : Index := 384#32
  ![v448.toNat, 384]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond5 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_6 : BitVec 32 := 0#32
  let v16 : BitVec 1 := Scalar.cmpi .ne v15 c0_i32_6
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S4096x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S4096x12x96 : Shape := ⟨3, ![4096, 12, 96]⟩
abbrev S4096x12x64 : Shape := ⟨3, ![4096, 12, 64]⟩
abbrev S12x4096x4096 : Shape := ⟨3, ![12, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S12x4096 : Shape := ⟨2, ![12, 4096]⟩
abbrev S12x4096x1 : Shape := ⟨3, ![12, 4096, 1]⟩
abbrev S12x64x4096 : Shape := ⟨3, ![12, 64, 4096]⟩
abbrev S12x4096x96 : Shape := ⟨3, ![12, 4096, 96]⟩
abbrev S4096x12x128 : Shape := ⟨3, ![4096, 12, 128]⟩
abbrev S4096x1536 : Shape := ⟨2, ![4096, 1536]⟩

abbrev nBuf : Space → Nat
  | .hbm => 104
  | .vmem => 0
  | .smem => 0
  | _ => 0

abbrev bufTy : (tb : Table) → Fin (tcTables nBuf tb) → BufTy
  | .hbm, ⟨0, _⟩ => ⟨S4096x12x96, .f32⟩
  | .hbm, ⟨1, _⟩ => ⟨S4096x12x96, .f32⟩
  | .hbm, ⟨2, _⟩ => ⟨S4096x12x64, .f32⟩
  | .hbm, ⟨3, _⟩ => ⟨S4096x12x64, .f32⟩
  | .hbm, ⟨4, _⟩ => ⟨S12x4096x4096, .f32⟩
  | .hbm, ⟨5, _⟩ => ⟨S_, .f32⟩
  | .hbm, ⟨6, _⟩ => ⟨S12x4096x4096, .f32⟩
  | .hbm, ⟨7, _⟩ => ⟨S12x4096x4096, .f32⟩
  | .hbm, ⟨8, _⟩ => ⟨S4096, .i32⟩
  | .hbm, ⟨9, _⟩ => ⟨S1x4096, .i32⟩
  | .hbm, ⟨10, _⟩ => ⟨S4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S1x4096x4096, .i1⟩
  | .hbm, ⟨16, _⟩ => ⟨S_, .f32⟩
  | .hbm, ⟨17, _⟩ => ⟨S_, .f32⟩
  | .hbm, ⟨18, _⟩ => ⟨S12x4096x4096, .i1⟩
  | .hbm, ⟨19, _⟩ => ⟨S12x4096x4096, .f32⟩
  | .hbm, ⟨20, _⟩ => ⟨S12x4096x4096, .f32⟩
  | .hbm, ⟨21, _⟩ => ⟨S_, .f32⟩
  | .hbm, ⟨22, _⟩ => ⟨S12x4096x4096, .f32⟩
  | .hbm, ⟨23, _⟩ => ⟨S_, .f32⟩
  | .hbm, ⟨24, _⟩ => ⟨S12x4096, .f32⟩
  | .hbm, ⟨25, _⟩ => ⟨S12x4096x1, .f32⟩
  | .hbm, ⟨26, _⟩ => ⟨S12x4096x4096, .f32⟩
  | .hbm, ⟨27, _⟩ => ⟨S12x4096x4096, .i1⟩
  | .hbm, ⟨28, _⟩ => ⟨S12x4096x4096, .f32⟩
  | .hbm, ⟨29, _⟩ => ⟨S_, .f32⟩
  | .hbm, ⟨30, _⟩ => ⟨S12x4096, .f32⟩
  | .hbm, ⟨31, _⟩ => ⟨S_, .f32⟩
  | .hbm, ⟨32, _⟩ => ⟨S12x4096, .f32⟩
  | .hbm, ⟨33, _⟩ => ⟨S12x4096, .f32⟩
  | .hbm, ⟨34, _⟩ => ⟨S_, .f32⟩
  | .hbm, ⟨35, _⟩ => ⟨S12x4096, .f32⟩
  | .hbm, ⟨36, _⟩ => ⟨S12x4096, .i1⟩
  | .hbm, ⟨37, _⟩ => ⟨S_, .f32⟩
  | .hbm, ⟨38, _⟩ => ⟨S12x4096, .f32⟩
  | .hbm, ⟨39, _⟩ => ⟨S12x4096, .i1⟩
  | .hbm, ⟨40, _⟩ => ⟨S_, .f32⟩
  | .hbm, ⟨41, _⟩ => ⟨S12x4096, .f32⟩
  | .hbm, ⟨42, _⟩ => ⟨S_, .f32⟩
  | .hbm, ⟨43, _⟩ => ⟨S12x4096, .f32⟩
  | .hbm, ⟨44, _⟩ => ⟨S_, .f32⟩
  | .hbm, ⟨45, _⟩ => ⟨S12x4096, .f32⟩
  | .hbm, ⟨46, _⟩ => ⟨S12x4096, .f32⟩
  | .hbm, ⟨47, _⟩ => ⟨S12x4096, .f32⟩
  | .hbm, ⟨48, _⟩ => ⟨S12x4096x1, .f32⟩
  | .hbm, ⟨49, _⟩ => ⟨S12x4096x4096, .f32⟩
  | .hbm, ⟨50, _⟩ => ⟨S12x4096x4096, .f32⟩
  | .hbm, ⟨51, _⟩ => ⟨S12x4096x4096, .f32⟩
  | .hbm, ⟨52, _⟩ => ⟨S_, .f32⟩
  | .hbm, ⟨53, _⟩ => ⟨S12x4096, .f32⟩
  | .hbm, ⟨54, _⟩ => ⟨S12x4096x1, .f32⟩
  | .hbm, ⟨55, _⟩ => ⟨S12x4096x4096, .f32⟩
  | .hbm, ⟨56, _⟩ => ⟨S12x4096x4096, .f32⟩
  | .hbm, ⟨57, _⟩ => ⟨S12x4096x1, .f32⟩
  | .hbm, ⟨58, _⟩ => ⟨S_, .f32⟩
  | .hbm, ⟨59, _⟩ => ⟨S12x4096x1, .f32⟩
  | .hbm, ⟨60, _⟩ => ⟨S12x4096x1, .f32⟩
  | .hbm, ⟨61, _⟩ => ⟨S12x64x4096, .f32⟩
  | .hbm, ⟨62, _⟩ => ⟨S4096x12x64, .f32⟩
  | .hbm, ⟨63, _⟩ => ⟨S12x64x4096, .f32⟩
  | .hbm, ⟨64, _⟩ => ⟨S12x4096x4096, .f32⟩
  | .hbm, ⟨65, _⟩ => ⟨S12x64x4096, .f32⟩
  | .hbm, ⟨66, _⟩ => ⟨S4096x12x64, .f32⟩
  | .hbm, ⟨67, _⟩ => ⟨S12x4096x4096, .f32⟩
  | .hbm, ⟨68, _⟩ => ⟨S12x4096x4096, .f32⟩
  | .hbm, ⟨69, _⟩ => ⟨S12x4096x4096, .f32⟩
  | .hbm, ⟨70, _⟩ => ⟨S_, .f32⟩
  | .hbm, ⟨71, _⟩ => ⟨S12x4096, .f32⟩
  | .hbm, ⟨72, _⟩ => ⟨S12x4096x1, .f32⟩
  | .hbm, ⟨73, _⟩ => ⟨S12x4096x1, .f32⟩
  | .hbm, ⟨74, _⟩ => ⟨S12x4096x4096, .f32⟩
  | .hbm, ⟨75, _⟩ => ⟨S12x4096x4096, .f32⟩
  | .hbm, ⟨76, _⟩ => ⟨S_, .f32⟩
  | .hbm, ⟨77, _⟩ => ⟨S12x4096, .f32⟩
  | .hbm, ⟨78, _⟩ => ⟨S12x4096x4096, .f32⟩
  | .hbm, ⟨79, _⟩ => ⟨S12x4096x4096, .f32⟩
  | .hbm, ⟨80, _⟩ => ⟨S12x4096x4096, .f32⟩
  | .hbm, ⟨81, _⟩ => ⟨S_, .f32⟩
  | .hbm, ⟨82, _⟩ => ⟨S12x4096x4096, .f32⟩
  | .hbm, ⟨83, _⟩ => ⟨S12x4096x4096, .f32⟩
  | .hbm, ⟨84, _⟩ => ⟨S_, .f32⟩
  | .hbm, ⟨85, _⟩ => ⟨S12x4096x4096, .f32⟩
  | .hbm, ⟨86, _⟩ => ⟨S12x4096x4096, .f32⟩
  | .hbm, ⟨87, _⟩ => ⟨S12x4096x96, .f32⟩
  | .hbm, ⟨88, _⟩ => ⟨S4096x12x96, .f32⟩
  | .hbm, ⟨89, _⟩ => ⟨S12x4096x96, .f32⟩
  | .hbm, ⟨90, _⟩ => ⟨S4096x12x96, .f32⟩
  | .hbm, ⟨91, _⟩ => ⟨S_, .i32⟩
  | .hbm, ⟨92, _⟩ => ⟨S_, .f32⟩
  | .hbm, ⟨93, _⟩ => ⟨S4096x12x128, .f32⟩
  | .hbm, ⟨94, _⟩ => ⟨S4096x1536, .f32⟩
  | .hbm, ⟨95, _⟩ => ⟨S_, .i32⟩
  | .hbm, ⟨96, _⟩ => ⟨S_, .f32⟩
  | .hbm, ⟨97, _⟩ => ⟨S4096x12x128, .f32⟩
  | .hbm, ⟨98, _⟩ => ⟨S4096x1536, .f32⟩
  | .hbm, ⟨99, _⟩ => ⟨S_, .i32⟩
  | .hbm, ⟨100, _⟩ => ⟨S_, .f32⟩
  | .hbm, ⟨101, _⟩ => ⟨S4096x12x128, .f32⟩
  | .hbm, ⟨102, _⟩ => ⟨S4096x1536, .f32⟩
  | .hbm, ⟨103, _⟩ => ⟨S4096x1536, .bf16⟩
  | _, _ => ⟨S4096x12x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_v11_1 : Ref sig .tc := ⟨.hbm, 18, rfl⟩
abbrev main_call0_v2 : Ref sig .tc := ⟨.hbm, 19, rfl⟩
abbrev main_v11_0 : Ref sig .tc := ⟨.hbm, 20, rfl⟩
abbrev main_call0_cst : Ref sig .tc := ⟨.hbm, 21, rfl⟩
abbrev main_v11_2 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_cst : Ref sig .tc := ⟨.hbm, 81, rfl⟩
abbrev main_call1_v0 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_call3_v0 : Ref sig .tc := ⟨.hbm, 96, rfl⟩
abbrev main_v67 : Ref sig .tc := ⟨.hbm, 97, rfl⟩
abbrev main_v68 : Ref sig .tc := ⟨.hbm, 98, rfl⟩
abbrev main_c_15 : Ref sig .tc := ⟨.hbm, 99, rfl⟩
abbrev main_call4_v0 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩

abbrev nD : Nat := 1
abbrev τ : Topo := Topo.v7x

variable {F : FTy → Type} [FloatOps F]
-- ==== Kernel2.lean ====
abbrev S4096x4096 : Shape := ⟨2, ![4096, 4096]⟩
abbrev S4096x1024 : Shape := ⟨2, ![4096, 1024]⟩
abbrev S_ : Shape := ⟨0, ![]⟩
abbrev S8x512x1024 : Shape := ⟨3, ![8, 512, 1024]⟩
abbrev S2048x1024 : Shape := ⟨2, ![2048, 1024]⟩
abbrev S1x512x1024 : Shape := ⟨3, ![1, 512, 1024]⟩
abbrev S2048x512 : Shape := ⟨2, ![2048, 512]⟩
abbrev S512x1024 : Shape := ⟨2, ![512, 1024]⟩

abbrev nBuf : Space → Nat
  | .hbm => 11
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x1024, .bf16⟩
  | .hbm, ⟨8, _⟩ => ⟨S8x512x1024, .f32⟩
  | .hbm, ⟨9, _⟩ => ⟨S8x512x1024, .bf16⟩
  | .hbm, ⟨10, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x1024, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S_ : Shape := ⟨0, ![]⟩
abbrev S8x512x1024 : Shape := ⟨3, ![8, 512, 1024]⟩
abbrev S4096x512 : Shape := ⟨2, ![4096, 512]⟩
abbrev S1x512x1024 : Shape := ⟨3, ![1, 512, 1024]⟩
abbrev S512x1024 : Shape := ⟨2, ![512, 1024]⟩

abbrev nBuf : Space → Nat
  | .hbm => 9
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x1024, .bf16⟩
  | .hbm, ⟨8, _⟩ => ⟨S8x512x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x512x1024, .bf16⟩
  | .local _ .vmem, ⟨4, _⟩ => ⟨S1x512x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S8x512x1024 : Shape := ⟨3, ![8, 512, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4096x1024, .f32⟩
  | .hbm, ⟨11, _⟩ => ⟨S8x512x1024, .f32⟩
  | .hbm, ⟨12, _⟩ => ⟨S8x512x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S8x1024x512 : Shape := ⟨3, ![8, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S8x1024x512, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x8x512, .f32⟩
  | .hbm, ⟨8, _⟩ => ⟨S8x1024x512, .f32⟩
  | .hbm, ⟨9, _⟩ => ⟨S8x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S1024x8x512 : Shape := ⟨3, ![1024, 8, 512]⟩
abbrev S8x1024x512 : Shape := ⟨3, ![8, 1024, 512]⟩
abbrev S1x1024 : Shape := ⟨2, ![1, 1024]⟩
abbrev S256x4096 : Shape := ⟨2, ![256, 4096]⟩
abbrev S256x1024 : Shape := ⟨2, ![256, 1024]⟩
abbrev S256x512 : Shape := ⟨2, ![256, 512]⟩
abbrev S1x1024x512 : Shape := ⟨3, ![1, 1024, 512]⟩
abbrev S1024x512 : Shape := ⟨2, ![1024, 512]⟩
abbrev S256 : Shape := ⟨1, ![256]⟩
abbrev S256x1 : Shape := ⟨2, ![256, 1]⟩

abbrev nBuf : Space → Nat
  | .hbm => 13
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S1024x8x512, .f32⟩
  | .hbm, ⟨6, _⟩ => ⟨S8x1024x512, .f32⟩
  | .hbm, ⟨7, _⟩ => ⟨S8x1024x512, .bf16⟩
  | .hbm, ⟨8, _⟩ => ⟨S4096x4096, .bf16⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S1x1024, .f32⟩
  | .local _ .vmem, ⟨0, _⟩ => ⟨S256x4096, .bf16⟩
  | .local _ .vmem, ⟨1, _⟩ => ⟨S256x4096, .bf16⟩
  | .local _ .vmem, ⟨2, _⟩ => ⟨S8x1024x512, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference5Ideal.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel6.lean ====
abbrev S4096x1536 : Shape := ⟨2, ![4096, 1536]⟩
abbrev S256x512 : Shape := ⟨2, ![256, 512]⟩
abbrev S4096x1024 : Shape := ⟨2, ![4096, 1024]⟩
abbrev S4096x24x64 : Shape := ⟨3, ![4096, 24, 64]⟩
abbrev S_ : Shape := ⟨0, ![]⟩
abbrev S4096x24x128 : Shape := ⟨3, ![4096, 24, 128]⟩
abbrev S4096x3072 : Shape := ⟨2, ![4096, 3072]⟩
abbrev S256x8x64 : Shape := ⟨3, ![256, 8, 64]⟩
abbrev S256x8x128 : Shape := ⟨3, ![256, 8, 128]⟩
abbrev S256x1024 : Shape := ⟨2, ![256, 1024]⟩
abbrev S4096x16x64 : Shape := ⟨3, ![4096, 16, 64]⟩
abbrev S4096x16x128 : Shape := ⟨3, ![4096, 16, 128]⟩
abbrev S4096x2048 : Shape := ⟨2, ![4096, 2048]⟩
abbrev S4096x512 : Shape := ⟨2, ![4096, 512]⟩
abbrev S4096x128 : Shape := ⟨2, ![4096, 128]⟩
abbrev S256x128 : Shape := ⟨2, ![256, 128]⟩
abbrev S256x4096 : Shape := ⟨2, ![256, 4096]⟩
abbrev S4096 : Shape := ⟨1, ![4096]⟩
abbrev S1x4096 : Shape := ⟨2, ![1, 4096]⟩

abbrev nBuf : Space → Nat
  | .hbm => 24
  | .vmem => 14
  | .smem => 0
  | _ => 0

abbrev bufTy : (tb : Table) → Fin (tcTables nBuf tb) → BufTy
  | .hbm, ⟨0, _⟩ => ⟨S4096x1536, .f32⟩
  | .hbm, ⟨1, _⟩ => ⟨S256x512, .f32⟩
  | .hbm, ⟨2, _⟩ => ⟨S4096x1024, .f32⟩
  | .hbm, ⟨3, _⟩ => ⟨S4096x24x64, .f32⟩
  | .hbm, ⟨4, _⟩ => ⟨S_, .i32⟩
  | .hbm, ⟨5, _⟩ => ⟨S_, .f32⟩
  | .hbm, ⟨6, _⟩ => ⟨S4096x24x128, .f32⟩
  | .hbm, ⟨7, _⟩ => ⟨S4096x3072, .f32⟩
  | .hbm, ⟨8, _⟩ => ⟨S4096x3072, .bf16⟩
  | .hbm, ⟨9, _⟩ => ⟨S256x8x64, .f32⟩
  | .hbm, ⟨10, _⟩ => ⟨S_, .i32⟩
  | .hbm, ⟨11, _⟩ => ⟨S_, .f32⟩
  | .hbm, ⟨12, _⟩ => ⟨S256x8x128, .f32⟩
  | .hbm, ⟨13, _⟩ => ⟨S256x1024, .f32⟩
  | .hbm, ⟨14, _⟩ => ⟨S256x1024, .bf16⟩
  | .hbm, ⟨15, _⟩ => ⟨S4096x16x64, .f32⟩
  | .hbm, ⟨16, _⟩ => ⟨S_, .i32⟩
  | .hbm, ⟨17, _⟩ => ⟨S_, .f32⟩
  | .hbm, ⟨18, _⟩ => ⟨S4096x16x128, .f32⟩
  | .hbm, ⟨19, _⟩ => ⟨S4096x2048, .f32⟩
  | .hbm, ⟨20, _⟩ => ⟨S4096x2048, .bf16⟩
  | .hbm, ⟨21, _⟩ => ⟨S4096x512, .bf16⟩
  | .hbm, ⟨22, _⟩ => ⟨S256x512, .f32⟩
  | .hbm, ⟨23, _⟩ => ⟨S256x512, .f32⟩
  | .local _ .vmem, ⟨0, _⟩ => ⟨S4096x128, .bf16⟩
  | .local _ .vmem, ⟨1, _⟩ => ⟨S4096x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_call2_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference6Ideal.lean ====
abbrev S4096x1536 : Shape := ⟨2, ![4096, 1536]⟩
abbrev S256x512 : Shape := ⟨2, ![256, 512]⟩
abbrev S4096x1024 : Shape := ⟨2, ![4096, 1024]⟩
abbrev S256x2x4x64 : Shape := ⟨4, ![256, 2, 4, 64]⟩
abbrev S4096x256 : Shape := ⟨2, ![4096, 256]⟩
abbrev S4096x4x64 : Shape := ⟨3, ![4096, 4, 64]⟩
abbrev S256x1x4x64 : Shape := ⟨4, ![256, 1, 4, 64]⟩
abbrev S256x4x64 : Shape := ⟨3, ![256, 4, 64]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x64x4096 : Shape := ⟨3, ![4, 64, 4096]⟩
abbrev S4x64x256 : Shape := ⟨3, ![4, 64, 256]⟩
abbrev S4x256x64 : Shape := ⟨3, ![4, 256, 64]⟩
abbrev S4x4096x64 : Shape := ⟨3, ![4, 4096, 64]⟩
abbrev S4096x4x128 : Shape := ⟨3, ![4096, 4, 128]⟩
abbrev S4096x512 : Shape := ⟨2, ![4096, 512]⟩
abbrev S256x4x128 : Shape := ⟨3, ![256, 4, 128]⟩

abbrev nBuf : Space → Nat
  | .hbm => 94
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S256x512, .f32⟩
  | .hbm, ⟨2, _⟩ => ⟨S4096x1024, .f32⟩
  | .hbm, ⟨3, _⟩ => ⟨S256x2x4x64, .f32⟩
  | .hbm, ⟨4, _⟩ => ⟨S4096x256, .f32⟩
  | .hbm, ⟨5, _⟩ => ⟨S4096x4x64, .f32⟩
  | .hbm, ⟨6, _⟩ => ⟨S256x1x4x64, .f32⟩
  | .hbm, ⟨7, _⟩ => ⟨S256x4x64, .f32⟩
  | .hbm, ⟨8, _⟩ => ⟨S256x1x4x64, .f32⟩
  | .hbm, ⟨9, _⟩ => ⟨S256x4x64, .f32⟩
  | .hbm, ⟨10, _⟩ => ⟨S4x4096x256, .f32⟩
  | .hbm, ⟨11, _⟩ => ⟨S_, .f32⟩
  | .hbm, ⟨12, _⟩ => ⟨S4x4096x256, .f32⟩
  | .hbm, ⟨13, _⟩ => ⟨S4x4096x256, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x256, .f32⟩
  | .hbm, ⟨18, _⟩ => ⟨S4x4096x256, .i1⟩
  | .hbm, ⟨19, _⟩ => ⟨S4x4096x256, .f32⟩
  | .hbm, ⟨20, _⟩ => ⟨S_, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .f32⟩
  | .hbm, ⟨25, _⟩ => ⟨S_, .f32⟩
  | .hbm, ⟨26, _⟩ => ⟨S4x4096, .f32⟩
  | .hbm, ⟨27, _⟩ => ⟨S4x4096, .i1⟩
  | .hbm, ⟨28, _⟩ => ⟨S_, .f32⟩
  | .hbm, ⟨29, _⟩ => ⟨S4x4096, .f32⟩
  | .hbm, ⟨30, _⟩ => ⟨S4x4096, .i1⟩
  | .hbm, ⟨31, _⟩ => ⟨S_, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S_, .f32⟩
  | .hbm, ⟨36, _⟩ => ⟨S4x4096, .f32⟩
  | .hbm, ⟨37, _⟩ => ⟨S4x4096, .f32⟩
  | .hbm, ⟨38, _⟩ => ⟨S4x4096, .f32⟩
  | .hbm, ⟨39, _⟩ => ⟨S4x4096x1, .f32⟩
  | .hbm, ⟨40, _⟩ => ⟨S4x4096x256, .f32⟩
  | .hbm, ⟨41, _⟩ => ⟨S4x4096x256, .f32⟩
  | .hbm, ⟨42, _⟩ => ⟨S4x4096x256, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S4x4096x256, .f32⟩
  | .hbm, ⟨47, _⟩ => ⟨S4x4096x256, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x64x4096, .f32⟩
  | .hbm, ⟨53, _⟩ => ⟨S4096x4x64, .f32⟩
  | .hbm, ⟨54, _⟩ => ⟨S4096x256, .f32⟩
  | .hbm, ⟨55, _⟩ => ⟨S4096x4x64, .f32⟩
  | .hbm, ⟨56, _⟩ => ⟨S4x64x4096, .f32⟩
  | .hbm, ⟨57, _⟩ => ⟨S4x4096x256, .f32⟩
  | .hbm, ⟨58, _⟩ => ⟨S4x64x256, .f32⟩
  | .hbm, ⟨59, _⟩ => ⟨S256x4x64, .f32⟩
  | .hbm, ⟨60, _⟩ => ⟨S4x4096x256, .f32⟩
  | .hbm, ⟨61, _⟩ => ⟨S4x4096x256, .f32⟩
  | .hbm, ⟨62, _⟩ => ⟨S4x4096x256, .f32⟩
  | .hbm, ⟨63, _⟩ => ⟨S_, .f32⟩
  | .hbm, ⟨64, _⟩ => ⟨S4x4096, .f32⟩
  | .hbm, ⟨65, _⟩ => ⟨S4x4096x1, .f32⟩
  | .hbm, ⟨66, _⟩ => ⟨S4x4096x1, .f32⟩
  | .hbm, ⟨67, _⟩ => ⟨S4x4096x256, .f32⟩
  | .hbm, ⟨68, _⟩ => ⟨S4x4096x256, .f32⟩
  | .hbm, ⟨69, _⟩ => ⟨S_, .f32⟩
  | .hbm, ⟨70, _⟩ => ⟨S4x4096, .f32⟩
  | .hbm, ⟨71, _⟩ => ⟨S4x4096x256, .f32⟩
  | .hbm, ⟨72, _⟩ => ⟨S4x4096x256, .f32⟩
  | .hbm, ⟨73, _⟩ => ⟨S4x4096x256, .f32⟩
  | .hbm, ⟨74, _⟩ => ⟨S_, .f32⟩
  | .hbm, ⟨75, _⟩ => ⟨S4x4096x256, .f32⟩
  | .hbm, ⟨76, _⟩ => ⟨S4x4096x256, .f32⟩
  | .hbm, ⟨77, _⟩ => ⟨S4x256x64, .f32⟩
  | .hbm, ⟨78, _⟩ => ⟨S256x4x64, .f32⟩
  | .hbm, ⟨79, _⟩ => ⟨S4x4096x64, .f32⟩
  | .hbm, ⟨80, _⟩ => ⟨S4096x4x64, .f32⟩
  | .hbm, ⟨81, _⟩ => ⟨S_, .i32⟩
  | .hbm, ⟨82, _⟩ => ⟨S_, .f32⟩
  | .hbm, ⟨83, _⟩ => ⟨S4096x4x128, .f32⟩
  | .hbm, ⟨84, _⟩ => ⟨S4096x512, .f32⟩
  | .hbm, ⟨85, _⟩ => ⟨S4096x512, .bf16⟩
  | .hbm, ⟨86, _⟩ => ⟨S_, .i32⟩
  | .hbm, ⟨87, _⟩ => ⟨S_, .f32⟩
  | .hbm, ⟨88, _⟩ => ⟨S256x4x128, .f32⟩
  | .hbm, ⟨89, _⟩ => ⟨S256x512, .f32⟩
  | .hbm, ⟨90, _⟩ => ⟨S_, .i32⟩
  | .hbm, ⟨91, _⟩ => ⟨S_, .f32⟩
  | .hbm, ⟨92, _⟩ => ⟨S256x4x128, .f32⟩
  | .hbm, ⟨93, _⟩ => ⟨S256x512, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_c : Ref sig .tc := ⟨.hbm, 81, rfl⟩
abbrev main_call0_v0 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_c_13 : Ref sig .tc := ⟨.hbm, 86, rfl⟩
abbrev main_call1_v0 : Ref sig .tc := ⟨.hbm, 87, rfl⟩
abbrev main_v67 : Ref sig .tc := ⟨.hbm, 88, rfl⟩
abbrev main_v68 : Ref sig .tc := ⟨.hbm, 89, rfl⟩
abbrev main_c_14 : Ref sig .tc := ⟨.hbm, 90, rfl⟩
abbrev main_call2_v0 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]
-- ==== Kernel7.lean ====
abbrev S4096x1024 : Shape := ⟨2, ![4096, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S4096x4096 : Shape := ⟨2, ![4096, 4096]⟩
abbrev S2048x1024 : Shape := ⟨2, ![2048, 1024]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S1024x8x512, .f32⟩
  | .hbm, ⟨3, _⟩ => ⟨S8x1024x512, .f32⟩
  | .hbm, ⟨4, _⟩ => ⟨S8x1024x512, .bf16⟩
  | .hbm, ⟨5, _⟩ => ⟨S4096x1024, .bf16⟩
  | .hbm, ⟨6, _⟩ => ⟨S4096x4096, .bf16⟩
  | .hbm, ⟨7, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x4096, .f32⟩
  | .hbm, ⟨8, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel8.lean ====
abbrev S4096x4096 : Shape := ⟨2, ![4096, 4096]⟩
abbrev S4096x1024 : Shape := ⟨2, ![4096, 1024]⟩
abbrev S1024 : Shape := ⟨1, ![1024]⟩
abbrev S8x512x1024 : Shape := ⟨3, ![8, 512, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S4096x4096, .f32⟩
  | .hbm, ⟨5, _⟩ => ⟨S4096x4096, .bf16⟩
  | .hbm, ⟨6, _⟩ => ⟨S8x512x1024, .f32⟩
  | .hbm, ⟨7, _⟩ => ⟨S8x512x1024, .bf16⟩
  | .hbm, ⟨8, _⟩ => ⟨S1x1024, .f32⟩
  | .hbm, ⟨9, _⟩ => ⟨S4096x1024, .f32⟩
  | .hbm, ⟨10, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S8x512x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S4096x4096 : Shape := ⟨2, ![4096, 4096]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S4096x2048 : Shape := ⟨2, ![4096, 2048]⟩
abbrev S2048x1024 : Shape := ⟨2, ![2048, 1024]⟩
abbrev S2048x2048 : Shape := ⟨2, ![2048, 2048]⟩
abbrev S2048x128 : Shape := ⟨2, ![2048, 128]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x2048, .bf16⟩
  | .local _ .vmem, ⟨4, _⟩ => ⟨S2048x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x1024 : Shape := ⟨2, ![4096, 1024]⟩
abbrev S1024x1024 : Shape := ⟨2, ![1024, 1024]⟩
abbrev S_ : Shape := ⟨0, ![]⟩
abbrev S4096x16x64 : Shape := ⟨3, ![4096, 16, 64]⟩
abbrev S4096x16x128 : Shape := ⟨3, ![4096, 16, 128]⟩
abbrev S4096x2048 : Shape := ⟨2, ![4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x16x64, .f32⟩
  | .hbm, ⟨7, _⟩ => ⟨S_, .i32⟩
  | .hbm, ⟨8, _⟩ => ⟨S_, .f32⟩
  | .hbm, ⟨9, _⟩ => ⟨S4096x16x128, .f32⟩
  | .hbm, ⟨10, _⟩ => ⟨S4096x2048, .f32⟩
  | .hbm, ⟨11, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel10.lean ====
abbrev S4096x768 : Shape := ⟨2, ![4096, 768]⟩
abbrev S4096x1024 : Shape := ⟨2, ![4096, 1024]⟩
abbrev S4096x12x64 : Shape := ⟨3, ![4096, 12, 64]⟩
abbrev S_ : Shape := ⟨0, ![]⟩
abbrev S4096x12x128 : Shape := ⟨3, ![4096, 12, 128]⟩
abbrev S4096x1536 : Shape := ⟨2, ![4096, 1536]⟩
abbrev S768x1024 : Shape := ⟨2, ![768, 1024]⟩
abbrev S4096x512 : Shape := ⟨2, ![4096, 512]⟩
abbrev S256x1024 : Shape := ⟨2, ![256, 1024]⟩
abbrev S4096x128 : Shape := ⟨2, ![4096, 128]⟩
abbrev S4096x256 : Shape := ⟨2, ![4096, 256]⟩

abbrev nBuf : Space → Nat
  | .hbm => 10
  | .vmem => 5
  | .smem => 0
  | _ => 0

abbrev bufTy : (tb : Table) → Fin (tcTables nBuf tb) → BufTy
  | .hbm, ⟨0, _⟩ => ⟨S4096x768, .f32⟩
  | .hbm, ⟨1, _⟩ => ⟨S4096x1024, .f32⟩
  | .hbm, ⟨2, _⟩ => ⟨S4096x12x64, .f32⟩
  | .hbm, ⟨3, _⟩ => ⟨S_, .i32⟩
  | .hbm, ⟨4, _⟩ => ⟨S_, .f32⟩
  | .hbm, ⟨5, _⟩ => ⟨S4096x12x128, .f32⟩
  | .hbm, ⟨6, _⟩ => ⟨S4096x1536, .f32⟩
  | .hbm, ⟨7, _⟩ => ⟨S4096x1536, .bf16⟩
  | .hbm, ⟨8, _⟩ => ⟨S4096x1024, .bf16⟩
  | .hbm, ⟨9, _⟩ => ⟨S768x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![3, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x768 : Shape := ⟨2, ![4096, 768]⟩
abbrev S4096x1024 : Shape := ⟨2, ![4096, 1024]⟩
abbrev S_ : Shape := ⟨0, ![]⟩
abbrev S768x1024 : Shape := ⟨2, ![768, 1024]⟩
abbrev S1024x768 : Shape := ⟨2, ![1024, 768]⟩

abbrev nBuf : Space → Nat
  | .hbm => 7
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x1024, .f32⟩
  | .hbm, ⟨2, _⟩ => ⟨S_, .f32⟩
  | .hbm, ⟨3, _⟩ => ⟨S768x1024, .f32⟩
  | .hbm, ⟨4, _⟩ => ⟨S4096x1024, .f32⟩
  | .hbm, ⟨5, _⟩ => ⟨S1024x768, .f32⟩
  | .hbm, ⟨6, _⟩ => ⟨S768x1024, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S4096x768 : Shape := ⟨2, ![4096, 768]⟩
abbrev S4096x256 : Shape := ⟨2, ![4096, 256]⟩
abbrev S1024x1024 : Shape := ⟨2, ![1024, 1024]⟩
abbrev S4096x1024 : Shape := ⟨2, ![4096, 1024]⟩
abbrev S1024 : Shape := ⟨1, ![1024]⟩
abbrev S768x1024 : Shape := ⟨2, ![768, 1024]⟩
abbrev S256x1024 : Shape := ⟨2, ![256, 1024]⟩
abbrev S4096x12x64 : Shape := ⟨3, ![4096, 12, 64]⟩
abbrev S_ : Shape := ⟨0, ![]⟩
abbrev S4096x12x128 : Shape := ⟨3, ![4096, 12, 128]⟩
abbrev S4096x1536 : Shape := ⟨2, ![4096, 1536]⟩
abbrev S4096x4x64 : Shape := ⟨3, ![4096, 4, 64]⟩
abbrev S4096x4x128 : Shape := ⟨3, ![4096, 4, 128]⟩
abbrev S4096x512 : Shape := ⟨2, ![4096, 512]⟩
abbrev S1x1024 : Shape := ⟨2, ![1, 1024]⟩
abbrev S512x1536 : Shape := ⟨2, ![512, 1536]⟩
abbrev S512x1024 : Shape := ⟨2, ![512, 1024]⟩
abbrev S512x512 : Shape := ⟨2, ![512, 512]⟩
abbrev S512x128 : Shape := ⟨2, ![512, 128]⟩
abbrev S512x768 : Shape := ⟨2, ![512, 768]⟩
abbrev S512x256 : Shape := ⟨2, ![512, 256]⟩
abbrev S512 : Shape := ⟨1, ![512]⟩
abbrev S512x1 : Shape := ⟨2, ![512, 1]⟩

abbrev nBuf : Space → Nat
  | .hbm => 23
  | .vmem => 13
  | .smem => 0
  | _ => 0

abbrev bufTy : (tb : Table) → Fin (tcTables nBuf tb) → BufTy
  | .hbm, ⟨0, _⟩ => ⟨S4096x768, .f32⟩
  | .hbm, ⟨1, _⟩ => ⟨S4096x256, .f32⟩
  | .hbm, ⟨2, _⟩ => ⟨S1024x1024, .f32⟩
  | .hbm, ⟨3, _⟩ => ⟨S4096x1024, .f32⟩
  | .hbm, ⟨4, _⟩ => ⟨S1024, .f32⟩
  | .hbm, ⟨5, _⟩ => ⟨S1024x1024, .bf16⟩
  | .hbm, ⟨6, _⟩ => ⟨S768x1024, .bf16⟩
  | .hbm, ⟨7, _⟩ => ⟨S256x1024, .bf16⟩
  | .hbm, ⟨8, _⟩ => ⟨S4096x12x64, .f32⟩
  | .hbm, ⟨9, _⟩ => ⟨S_, .i32⟩
  | .hbm, ⟨10, _⟩ => ⟨S_, .f32⟩
  | .hbm, ⟨11, _⟩ => ⟨S4096x12x128, .f32⟩
  | .hbm, ⟨12, _⟩ => ⟨S4096x1536, .f32⟩
  | .hbm, ⟨13, _⟩ => ⟨S4096x1536, .bf16⟩
  | .hbm, ⟨14, _⟩ => ⟨S4096x4x64, .f32⟩
  | .hbm, ⟨15, _⟩ => ⟨S_, .i32⟩
  | .hbm, ⟨16, _⟩ => ⟨S_, .f32⟩
  | .hbm, ⟨17, _⟩ => ⟨S4096x4x128, .f32⟩
  | .hbm, ⟨18, _⟩ => ⟨S4096x512, .f32⟩
  | .hbm, ⟨19, _⟩ => ⟨S4096x512, .bf16⟩
  | .hbm, ⟨20, _⟩ => ⟨S1x1024, .f32⟩
  | .hbm, ⟨21, _⟩ => ⟨S4096x1024, .f32⟩
  | .hbm, ⟨22, _⟩ => ⟨S4096x1024, .bf16⟩
  | .local _ .vmem, ⟨0, _⟩ => ⟨S512x1536, .bf16⟩
  | .local _ .vmem, ⟨1, _⟩ => ⟨S512x1536, .bf16⟩
  | .local _ .vmem, ⟨2, _⟩ => ⟨S768x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x512, .bf16⟩
  | .local _ .vmem, ⟨7, _⟩ => ⟨S512x512, .bf16⟩
  | .local _ .vmem, ⟨8, _⟩ => ⟨S256x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference11Ideal.lean ====
abbrev S4096x768 : Shape := ⟨2, ![4096, 768]⟩
abbrev S4096x256 : Shape := ⟨2, ![4096, 256]⟩
abbrev S1024x1024 : Shape := ⟨2, ![1024, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x256, .f32⟩
  | .hbm, ⟨2, _⟩ => ⟨S1024x1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel12.lean ====
abbrev S4096x1536 : Shape := ⟨2, ![4096, 1536]⟩
abbrev S256x512 : Shape := ⟨2, ![256, 512]⟩
abbrev S4096x24x64 : Shape := ⟨3, ![4096, 24, 64]⟩
abbrev S_ : Shape := ⟨0, ![]⟩
abbrev S4096x24x128 : Shape := ⟨3, ![4096, 24, 128]⟩
abbrev S4096x3072 : Shape := ⟨2, ![4096, 3072]⟩
abbrev S256x8x64 : Shape := ⟨3, ![256, 8, 64]⟩
abbrev S256x8x128 : Shape := ⟨3, ![256, 8, 128]⟩
abbrev S256x1024 : Shape := ⟨2, ![256, 1024]⟩
abbrev S4096x512 : Shape := ⟨2, ![4096, 512]⟩
abbrev S4096x128 : Shape := ⟨2, ![4096, 128]⟩
abbrev S256x128 : Shape := ⟨2, ![256, 128]⟩
abbrev S256x4096 : Shape := ⟨2, ![256, 4096]⟩
abbrev S4096 : Shape := ⟨1, ![4096]⟩
abbrev S1x4096 : Shape := ⟨2, ![1, 4096]⟩
abbrev S128x4096 : Shape := ⟨2, ![128, 4096]⟩

abbrev nBuf : Space → Nat
  | .hbm => 15
  | .vmem => 8
  | .smem => 0
  | _ => 0

abbrev bufTy : (tb : Table) → Fin (tcTables nBuf tb) → BufTy
  | .hbm, ⟨0, _⟩ => ⟨S4096x1536, .f32⟩
  | .hbm, ⟨1, _⟩ => ⟨S256x512, .f32⟩
  | .hbm, ⟨2, _⟩ => ⟨S4096x24x64, .f32⟩
  | .hbm, ⟨3, _⟩ => ⟨S_, .i32⟩
  | .hbm, ⟨4, _⟩ => ⟨S_, .f32⟩
  | .hbm, ⟨5, _⟩ => ⟨S4096x24x128, .f32⟩
  | .hbm, ⟨6, _⟩ => ⟨S4096x3072, .f32⟩
  | .hbm, ⟨7, _⟩ => ⟨S4096x3072, .bf16⟩
  | .hbm, ⟨8, _⟩ => ⟨S256x8x64, .f32⟩
  | .hbm, ⟨9, _⟩ => ⟨S_, .i32⟩
  | .hbm, ⟨10, _⟩ => ⟨S_, .f32⟩
  | .hbm, ⟨11, _⟩ => ⟨S256x8x128, .f32⟩
  | .hbm, ⟨12, _⟩ => ⟨S256x1024, .f32⟩
  | .hbm, ⟨13, _⟩ => ⟨S256x1024, .bf16⟩
  | .hbm, ⟨14, _⟩ => ⟨S4096x512, .bf16⟩
  | .local _ .vmem, ⟨0, _⟩ => ⟨S4096x128, .bf16⟩
  | .local _ .vmem, ⟨1, _⟩ => ⟨S4096x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S4096x128, .bf16⟩
  | .local _ .vmem, ⟨7, _⟩ => ⟨S4096x128, .bf16⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S4096x1536 : Shape := ⟨2, ![4096, 1536]⟩
abbrev S256x512 : Shape := ⟨2, ![256, 512]⟩
abbrev S256x2x4x64 : Shape := ⟨4, ![256, 2, 4, 64]⟩
abbrev S4096x256 : Shape := ⟨2, ![4096, 256]⟩
abbrev S4096x4x64 : Shape := ⟨3, ![4096, 4, 64]⟩
abbrev S256x1x4x64 : Shape := ⟨4, ![256, 1, 4, 64]⟩
abbrev S256x4x64 : Shape := ⟨3, ![256, 4, 64]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x64x4096 : Shape := ⟨3, ![4, 64, 4096]⟩
abbrev S4096x4x128 : Shape := ⟨3, ![4096, 4, 128]⟩
abbrev S4096x512 : Shape := ⟨2, ![4096, 512]⟩

abbrev nBuf : Space → Nat
  | .hbm => 34
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S256x512, .f32⟩
  | .hbm, ⟨2, _⟩ => ⟨S256x2x4x64, .f32⟩
  | .hbm, ⟨3, _⟩ => ⟨S4096x256, .f32⟩
  | .hbm, ⟨4, _⟩ => ⟨S4096x4x64, .f32⟩
  | .hbm, ⟨5, _⟩ => ⟨S256x1x4x64, .f32⟩
  | .hbm, ⟨6, _⟩ => ⟨S256x4x64, .f32⟩
  | .hbm, ⟨7, _⟩ => ⟨S256x1x4x64, .f32⟩
  | .hbm, ⟨8, _⟩ => ⟨S256x4x64, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x256, .f32⟩
  | .hbm, ⟨20, _⟩ => ⟨S4x4096x256, .f32⟩
  | .hbm, ⟨21, _⟩ => ⟨S4x4096x256, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x256, .f32⟩
  | .hbm, ⟨26, _⟩ => ⟨S4x4096x256, .f32⟩
  | .hbm, ⟨27, _⟩ => ⟨S4x64x4096, .f32⟩
  | .hbm, ⟨28, _⟩ => ⟨S4096x4x64, .f32⟩
  | .hbm, ⟨29, _⟩ => ⟨S_, .i32⟩
  | .hbm, ⟨30, _⟩ => ⟨S_, .f32⟩
  | .hbm, ⟨31, _⟩ => ⟨S4096x4x128, .f32⟩
  | .hbm, ⟨32, _⟩ => ⟨S4096x512, .f32⟩
  | .hbm, ⟨33, _⟩ => ⟨S4096x512, .bf16⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_call0_v0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel13.lean ====
abbrev S4096x1024 : Shape := ⟨2, ![4096, 1024]⟩
abbrev S1024x1536 : Shape := ⟨2, ![1024, 1536]⟩
abbrev S4096x3072 : Shape := ⟨2, ![4096, 3072]⟩
abbrev S1024x384 : Shape := ⟨2, ![1024, 384]⟩
abbrev S4096x768 : Shape := ⟨2, ![4096, 768]⟩
abbrev S4096x384 : Shape := ⟨2, ![4096, 384]⟩
abbrev S4096x128 : Shape := ⟨2, ![4096, 128]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1536, .f32⟩
  | .hbm, ⟨2, _⟩ => ⟨S4096x1024, .bf16⟩
  | .hbm, ⟨3, _⟩ => ⟨S1024x1536, .bf16⟩
  | .hbm, ⟨4, _⟩ => ⟨S4096x3072, .bf16⟩
  | .local _ .vmem, ⟨0, _⟩ => ⟨S4096x1024, .bf16⟩
  | .local _ .vmem, ⟨1, _⟩ => ⟨S1024x384, .bf16⟩
  | .local _ .vmem, ⟨2, _⟩ => ⟨S1024x384, .bf16⟩
  | .local _ .vmem, ⟨3, _⟩ => ⟨S4096x768, .bf16⟩
  | .local _ .vmem, ⟨4, _⟩ => ⟨S4096x768, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S4096x1024 : Shape := ⟨2, ![4096, 1024]⟩
abbrev S1024x1536 : Shape := ⟨2, ![1024, 1536]⟩
abbrev S4096x1536 : Shape := ⟨2, ![4096, 1536]⟩
abbrev S4096x24x64 : Shape := ⟨3, ![4096, 24, 64]⟩
abbrev S_ : Shape := ⟨0, ![]⟩
abbrev S4096x24x128 : Shape := ⟨3, ![4096, 24, 128]⟩
abbrev S4096x3072 : Shape := ⟨2, ![4096, 3072]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1536, .f32⟩
  | .hbm, ⟨2, _⟩ => ⟨S4096x1536, .f32⟩
  | .hbm, ⟨3, _⟩ => ⟨S4096x24x64, .f32⟩
  | .hbm, ⟨4, _⟩ => ⟨S_, .i32⟩
  | .hbm, ⟨5, _⟩ => ⟨S_, .f32⟩
  | .hbm, ⟨6, _⟩ => ⟨S4096x24x128, .f32⟩
  | .hbm, ⟨7, _⟩ => ⟨S4096x3072, .f32⟩
  | .hbm, ⟨8, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel14.lean ====
abbrev S4096x256 : Shape := ⟨2, ![4096, 256]⟩
abbrev S4096x1024 : Shape := ⟨2, ![4096, 1024]⟩
abbrev S4096x4x64 : Shape := ⟨3, ![4096, 4, 64]⟩
abbrev S_ : Shape := ⟨0, ![]⟩
abbrev S4096x4x128 : Shape := ⟨3, ![4096, 4, 128]⟩
abbrev S4096x512 : Shape := ⟨2, ![4096, 512]⟩
abbrev S256x1024 : Shape := ⟨2, ![256, 1024]⟩
abbrev S4096x128 : Shape := ⟨2, ![4096, 128]⟩

abbrev nBuf : Space → Nat
  | .hbm => 10
  | .vmem => 3
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S4096x4x64, .f32⟩
  | .hbm, ⟨3, _⟩ => ⟨S_, .i32⟩
  | .hbm, ⟨4, _⟩ => ⟨S_, .f32⟩
  | .hbm, ⟨5, _⟩ => ⟨S4096x4x128, .f32⟩
  | .hbm, ⟨6, _⟩ => ⟨S4096x512, .f32⟩
  | .hbm, ⟨7, _⟩ => ⟨S4096x512, .bf16⟩
  | .hbm, ⟨8, _⟩ => ⟨S4096x1024, .bf16⟩
  | .hbm, ⟨9, _⟩ => ⟨S256x1024, .f32⟩
  | .local _ .vmem, ⟨0, _⟩ => ⟨S4096x512, .bf16⟩
  | .local _ .vmem, ⟨1, _⟩ => ⟨S4096x1024, .bf16⟩
  | .local _ .vmem, ⟨2, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference14Ideal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S1024x256, .f32⟩
  | .hbm, ⟨6, _⟩ => ⟨S256x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S4096x1024 : Shape := ⟨2, ![4096, 1024]⟩
abbrev S4096x1536 : Shape := ⟨2, ![4096, 1536]⟩
abbrev S4096x24x64 : Shape := ⟨3, ![4096, 24, 64]⟩
abbrev S_ : Shape := ⟨0, ![]⟩
abbrev S4096x24x128 : Shape := ⟨3, ![4096, 24, 128]⟩
abbrev S4096x3072 : Shape := ⟨2, ![4096, 3072]⟩
abbrev S1024x1536 : Shape := ⟨2, ![1024, 1536]⟩
abbrev S4096x512 : Shape := ⟨2, ![4096, 512]⟩
abbrev S1024x256 : Shape := ⟨2, ![1024, 256]⟩
abbrev S4096x128 : Shape := ⟨2, ![4096, 128]⟩
abbrev S4096x256 : Shape := ⟨2, ![4096, 256]⟩

abbrev nBuf : Space → Nat
  | .hbm => 10
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S4096x1024, .bf16⟩
  | .hbm, ⟨3, _⟩ => ⟨S4096x24x64, .f32⟩
  | .hbm, ⟨4, _⟩ => ⟨S_, .i32⟩
  | .hbm, ⟨5, _⟩ => ⟨S_, .f32⟩
  | .hbm, ⟨6, _⟩ => ⟨S4096x24x128, .f32⟩
  | .hbm, ⟨7, _⟩ => ⟨S4096x3072, .f32⟩
  | .hbm, ⟨8, _⟩ => ⟨S4096x3072, .bf16⟩
  | .hbm, ⟨9, _⟩ => ⟨S1024x1536, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x256, .f32⟩
  | .local _ .vmem, ⟨4, _⟩ => ⟨S1024x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S4096x1024 : Shape := ⟨2, ![4096, 1024]⟩
abbrev S4096x1536 : Shape := ⟨2, ![4096, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S_, .f32⟩
  | .hbm, ⟨3, _⟩ => ⟨S1024x1536, .f32⟩
  | .hbm, ⟨4, _⟩ => ⟨S4096x1536, .f32⟩
  | .hbm, ⟨5, _⟩ => ⟨S1536x1024, .f32⟩
  | .hbm, ⟨6, _⟩ => ⟨S1024x1536, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S4096x1024 : Shape := ⟨2, ![4096, 1024]⟩
abbrev S1024 : Shape := ⟨1, ![1024]⟩
abbrev S1024x1536 : Shape := ⟨2, ![1024, 1536]⟩
abbrev S4096x1536 : Shape := ⟨2, ![4096, 1536]⟩
abbrev S4096x24x64 : Shape := ⟨3, ![4096, 24, 64]⟩
abbrev S_ : Shape := ⟨0, ![]⟩
abbrev S4096x24x128 : Shape := ⟨3, ![4096, 24, 128]⟩
abbrev S4096x3072 : Shape := ⟨2, ![4096, 3072]⟩
abbrev S1x1024 : Shape := ⟨2, ![1, 1024]⟩
abbrev S512x3072 : Shape := ⟨2, ![512, 3072]⟩
abbrev S512x1024 : Shape := ⟨2, ![512, 1024]⟩
abbrev S512x128 : Shape := ⟨2, ![512, 128]⟩
abbrev S512x1536 : Shape := ⟨2, ![512, 1536]⟩
abbrev S512 : Shape := ⟨1, ![512]⟩
abbrev S512x1 : Shape := ⟨2, ![512, 1]⟩

abbrev nBuf : Space → Nat
  | .hbm => 16
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1536, .f32⟩
  | .hbm, ⟨3, _⟩ => ⟨S4096x1536, .f32⟩
  | .hbm, ⟨4, _⟩ => ⟨S4096x1024, .f32⟩
  | .hbm, ⟨5, _⟩ => ⟨S4096x24x64, .f32⟩
  | .hbm, ⟨6, _⟩ => ⟨S_, .i32⟩
  | .hbm, ⟨7, _⟩ => ⟨S_, .f32⟩
  | .hbm, ⟨8, _⟩ => ⟨S4096x24x128, .f32⟩
  | .hbm, ⟨9, _⟩ => ⟨S4096x3072, .f32⟩
  | .hbm, ⟨10, _⟩ => ⟨S4096x3072, .bf16⟩
  | .hbm, ⟨11, _⟩ => ⟨S1024x1536, .bf16⟩
  | .hbm, ⟨12, _⟩ => ⟨S1x1024, .f32⟩
  | .hbm, ⟨13, _⟩ => ⟨S4096x1024, .f32⟩
  | .hbm, ⟨14, _⟩ => ⟨S4096x1024, .bf16⟩
  | .hbm, ⟨15, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x1536, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference16Ideal.lean ====
abbrev S4096x1024 : Shape := ⟨2, ![4096, 1024]⟩
abbrev S1024 : Shape := ⟨1, ![1024]⟩
abbrev S1024x1536 : Shape := ⟨2, ![1024, 1536]⟩
abbrev S4096x1536 : Shape := ⟨2, ![4096, 1536]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1536, .f32⟩
  | .hbm, ⟨3, _⟩ => ⟨S4096x1536, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1536, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel17.lean ====
abbrev S4096x256 : Shape := ⟨2, ![4096, 256]⟩
abbrev S256x1536 : Shape := ⟨2, ![256, 1536]⟩
abbrev S4096x1536 : Shape := ⟨2, ![4096, 1536]⟩
abbrev S256x512 : Shape := ⟨2, ![256, 512]⟩
abbrev S4096x512 : Shape := ⟨2, ![4096, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x1536, .f32⟩
  | .hbm, ⟨2, _⟩ => ⟨S4096x256, .bf16⟩
  | .hbm, ⟨3, _⟩ => ⟨S256x1536, .bf16⟩
  | .hbm, ⟨4, _⟩ => ⟨S4096x1536, .f32⟩
  | .local _ .vmem, ⟨0, _⟩ => ⟨S4096x256, .bf16⟩
  | .local _ .vmem, ⟨1, _⟩ => ⟨S256x512, .bf16⟩
  | .local _ .vmem, ⟨2, _⟩ => ⟨S256x512, .bf16⟩
  | .local _ .vmem, ⟨3, _⟩ => ⟨S4096x512, .f32⟩
  | .local _ .vmem, ⟨4, _⟩ => ⟨S4096x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S4096x256 : Shape := ⟨2, ![4096, 256]⟩
abbrev S256x1536 : Shape := ⟨2, ![256, 1536]⟩
abbrev S4096x1536 : Shape := ⟨2, ![4096, 1536]⟩

abbrev nBuf : Space → Nat
  | .hbm => 3
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1536, .f32⟩
  | .hbm, ⟨2, _⟩ => ⟨S4096x1536, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel18.lean ====
abbrev S256x1536 : Shape := ⟨2, ![256, 1536]⟩
abbrev S4096x1536 : Shape := ⟨2, ![4096, 1536]⟩
abbrev S4096x256 : Shape := ⟨2, ![4096, 256]⟩

abbrev nBuf : Space → Nat
  | .hbm => 5
  | .vmem => 3
  | .smem => 0
  | _ => 0

abbrev bufTy : (tb : Table) → Fin (tcTables nBuf tb) → BufTy
  | .hbm, ⟨0, _⟩ => ⟨S256x1536, .f32⟩
  | .hbm, ⟨1, _⟩ => ⟨S4096x1536, .f32⟩
  | .hbm, ⟨2, _⟩ => ⟨S4096x1536, .bf16⟩
  | .hbm, ⟨3, _⟩ => ⟨S256x1536, .bf16⟩
  | .hbm, ⟨4, _⟩ => ⟨S4096x256, .f32⟩
  | .local _ .vmem, ⟨0, _⟩ => ⟨S4096x1536, .bf16⟩
  | .local _ .vmem, ⟨1, _⟩ => ⟨S256x1536, .bf16⟩
  | .local _ .vmem, ⟨2, _⟩ => ⟨S4096x256, .f32⟩
  | _, _ => ⟨S256x1536, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S256x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference18Ideal.lean ====
abbrev S256x1536 : Shape := ⟨2, ![256, 1536]⟩
abbrev S4096x1536 : Shape := ⟨2, ![4096, 1536]⟩
abbrev S_ : Shape := ⟨0, ![]⟩
abbrev S4096x256 : Shape := ⟨2, ![4096, 256]⟩

abbrev nBuf : Space → Nat
  | .hbm => 6
  | .vmem => 0
  | .smem => 0
  | _ => 0

abbrev bufTy : (tb : Table) → Fin (tcTables nBuf tb) → BufTy
  | .hbm, ⟨0, _⟩ => ⟨S256x1536, .f32⟩
  | .hbm, ⟨1, _⟩ => ⟨S4096x1536, .f32⟩
  | .hbm, ⟨2, _⟩ => ⟨S_, .f32⟩
  | .hbm, ⟨3, _⟩ => ⟨S4096x256, .f32⟩
  | .hbm, ⟨4, _⟩ => ⟨S4096x1536, .f32⟩
  | .hbm, ⟨5, _⟩ => ⟨S4096x256, .f32⟩
  | _, _ => ⟨S256x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel19.lean ====
abbrev S4096x256 : Shape := ⟨2, ![4096, 256]⟩
abbrev S4096x1536 : Shape := ⟨2, ![4096, 1536]⟩
abbrev S256x1536 : Shape := ⟨2, ![256, 1536]⟩
abbrev S4096x768 : Shape := ⟨2, ![4096, 768]⟩
abbrev S256x768 : Shape := ⟨2, ![256, 768]⟩

abbrev nBuf : Space → Nat
  | .hbm => 5
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x1536, .f32⟩
  | .hbm, ⟨2, _⟩ => ⟨S4096x256, .bf16⟩
  | .hbm, ⟨3, _⟩ => ⟨S4096x1536, .bf16⟩
  | .hbm, ⟨4, _⟩ => ⟨S256x1536, .f32⟩
  | .local _ .vmem, ⟨0, _⟩ => ⟨S4096x256, .bf16⟩
  | .local _ .vmem, ⟨1, _⟩ => ⟨S4096x768, .bf16⟩
  | .local _ .vmem, ⟨2, _⟩ => ⟨S4096x768, .bf16⟩
  | .local _ .vmem, ⟨3, _⟩ => ⟨S256x768, .f32⟩
  | .local _ .vmem, ⟨4, _⟩ => ⟨S256x768, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S4096x256 : Shape := ⟨2, ![4096, 256]⟩
abbrev S4096x1536 : Shape := ⟨2, ![4096, 1536]⟩
abbrev S_ : Shape := ⟨0, ![]⟩
abbrev S256x1536 : Shape := ⟨2, ![256, 1536]⟩
abbrev S1536x256 : Shape := ⟨2, ![1536, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1536, .f32⟩
  | .hbm, ⟨2, _⟩ => ⟨S_, .f32⟩
  | .hbm, ⟨3, _⟩ => ⟨S256x1536, .f32⟩
  | .hbm, ⟨4, _⟩ => ⟨S4096x1536, .f32⟩
  | .hbm, ⟨5, _⟩ => ⟨S1536x256, .f32⟩
  | .hbm, ⟨6, _⟩ => ⟨S256x1536, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel20.lean ====
abbrev S4096x1024 : Shape := ⟨2, ![4096, 1024]⟩
abbrev S1024x1280 : Shape := ⟨2, ![1024, 1280]⟩
abbrev S4096x1280 : Shape := ⟨2, ![4096, 1280]⟩
abbrev S2048x1024 : Shape := ⟨2, ![2048, 1024]⟩
abbrev S1024x640 : Shape := ⟨2, ![1024, 640]⟩
abbrev S2048x640 : Shape := ⟨2, ![2048, 640]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1280, .f32⟩
  | .hbm, ⟨2, _⟩ => ⟨S4096x1024, .bf16⟩
  | .hbm, ⟨3, _⟩ => ⟨S1024x1280, .bf16⟩
  | .hbm, ⟨4, _⟩ => ⟨S4096x1280, .f32⟩
  | .local _ .vmem, ⟨0, _⟩ => ⟨S2048x1024, .bf16⟩
  | .local _ .vmem, ⟨1, _⟩ => ⟨S2048x1024, .bf16⟩
  | .local _ .vmem, ⟨2, _⟩ => ⟨S1024x640, .bf16⟩
  | .local _ .vmem, ⟨3, _⟩ => ⟨S1024x640, .bf16⟩
  | .local _ .vmem, ⟨4, _⟩ => ⟨S2048x640, .f32⟩
  | .local _ .vmem, ⟨5, _⟩ => ⟨S2048x640, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S4096x1024 : Shape := ⟨2, ![4096, 1024]⟩
abbrev S1024x1280 : Shape := ⟨2, ![1024, 1280]⟩
abbrev S4096x1280 : Shape := ⟨2, ![4096, 1280]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1280, .f32⟩
  | .hbm, ⟨2, _⟩ => ⟨S4096x1280, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel21.lean ====
abbrev S4096x1024 : Shape := ⟨2, ![4096, 1024]⟩
abbrev S4096x1280 : Shape := ⟨2, ![4096, 1280]⟩
abbrev S1024x1280 : Shape := ⟨2, ![1024, 1280]⟩
abbrev S4096x640 : Shape := ⟨2, ![4096, 640]⟩
abbrev S1024x640 : Shape := ⟨2, ![1024, 640]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1280, .f32⟩
  | .hbm, ⟨2, _⟩ => ⟨S4096x1024, .bf16⟩
  | .hbm, ⟨3, _⟩ => ⟨S4096x1280, .bf16⟩
  | .hbm, ⟨4, _⟩ => ⟨S1024x1280, .f32⟩
  | .local _ .vmem, ⟨0, _⟩ => ⟨S4096x1024, .bf16⟩
  | .local _ .vmem, ⟨1, _⟩ => ⟨S4096x640, .bf16⟩
  | .local _ .vmem, ⟨2, _⟩ => ⟨S4096x640, .bf16⟩
  | .local _ .vmem, ⟨3, _⟩ => ⟨S1024x640, .f32⟩
  | .local _ .vmem, ⟨4, _⟩ => ⟨S1024x640, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference21Ideal.lean ====
abbrev S4096x1024 : Shape := ⟨2, ![4096, 1024]⟩
abbrev S4096x1280 : Shape := ⟨2, ![4096, 1280]⟩
abbrev S_ : Shape := ⟨0, ![]⟩
abbrev S1024x1280 : Shape := ⟨2, ![1024, 1280]⟩
abbrev S1280x1024 : Shape := ⟨2, ![1280, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1280, .f32⟩
  | .hbm, ⟨2, _⟩ => ⟨S_, .f32⟩
  | .hbm, ⟨3, _⟩ => ⟨S1024x1280, .f32⟩
  | .hbm, ⟨4, _⟩ => ⟨S4096x1280, .f32⟩
  | .hbm, ⟨5, _⟩ => ⟨S1280x1024, .f32⟩
  | .hbm, ⟨6, _⟩ => ⟨S1024x1280, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel22.lean ====
abbrev S4096x384 : Shape := ⟨2, ![4096, 384]⟩
abbrev S384x1536 : Shape := ⟨2, ![384, 1536]⟩
abbrev S4096x1536 : Shape := ⟨2, ![4096, 1536]⟩
abbrev S384x512 : Shape := ⟨2, ![384, 512]⟩
abbrev S4096x512 : Shape := ⟨2, ![4096, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x384, .f32⟩
  | .hbm, ⟨1, _⟩ => ⟨S384x1536, .f32⟩
  | .hbm, ⟨2, _⟩ => ⟨S4096x384, .bf16⟩
  | .hbm, ⟨3, _⟩ => ⟨S384x1536, .bf16⟩
  | .hbm, ⟨4, _⟩ => ⟨S4096x1536, .f32⟩
  | .local _ .vmem, ⟨0, _⟩ => ⟨S4096x384, .bf16⟩
  | .local _ .vmem, ⟨1, _⟩ => ⟨S384x512, .bf16⟩
  | .local _ .vmem, ⟨2, _⟩ => ⟨S384x512, .bf16⟩
  | .local _ .vmem, ⟨3, _⟩ => ⟨S4096x512, .f32⟩
  | .local _ .vmem, ⟨4, _⟩ => ⟨S4096x512, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference22Ideal.lean ====
abbrev S4096x384 : Shape := ⟨2, ![4096, 384]⟩
abbrev S384x1536 : Shape := ⟨2, ![384, 1536]⟩
abbrev S4096x1536 : Shape := ⟨2, ![4096, 1536]⟩

abbrev nBuf : Space → Nat
  | .hbm => 3
  | .vmem => 0
  | .smem => 0
  | _ => 0

abbrev bufTy : (tb : Table) → Fin (tcTables nBuf tb) → BufTy
  | .hbm, ⟨0, _⟩ => ⟨S4096x384, .f32⟩
  | .hbm, ⟨1, _⟩ => ⟨S384x1536, .f32⟩
  | .hbm, ⟨2, _⟩ => ⟨S4096x1536, .f32⟩
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel23.lean ====
abbrev S384x1536 : Shape := ⟨2, ![384, 1536]⟩
abbrev S4096x1536 : Shape := ⟨2, ![4096, 1536]⟩
abbrev S4096x384 : Shape := ⟨2, ![4096, 384]⟩
abbrev S2048x1536 : Shape := ⟨2, ![2048, 1536]⟩
abbrev S2048x384 : Shape := ⟨2, ![2048, 384]⟩

abbrev nBuf : Space → Nat
  | .hbm => 5
  | .vmem => 5
  | .smem => 0
  | _ => 0

abbrev bufTy : (tb : Table) → Fin (tcTables nBuf tb) → BufTy
  | .hbm, ⟨0, _⟩ => ⟨S384x1536, .f32⟩
  | .hbm, ⟨1, _⟩ => ⟨S4096x1536, .f32⟩
  | .hbm, ⟨2, _⟩ => ⟨S4096x1536, .bf16⟩
  | .hbm, ⟨3, _⟩ => ⟨S384x1536, .bf16⟩
  | .hbm, ⟨4, _⟩ => ⟨S4096x384, .f32⟩
  | .local _ .vmem, ⟨0, _⟩ => ⟨S2048x1536, .bf16⟩
  | .local _ .vmem, ⟨1, _⟩ => ⟨S2048x1536, .bf16⟩
  | .local _ .vmem, ⟨2, _⟩ => ⟨S384x1536, .bf16⟩
  | .local _ .vmem, ⟨3, _⟩ => ⟨S2048x384, .f32⟩
  | .local _ .vmem, ⟨4, _⟩ => ⟨S2048x384, .f32⟩
  | _, _ => ⟨S384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S384x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference23Ideal.lean ====
abbrev S384x1536 : Shape := ⟨2, ![384, 1536]⟩
abbrev S4096x1536 : Shape := ⟨2, ![4096, 1536]⟩
abbrev S_ : Shape := ⟨0, ![]⟩
abbrev S4096x384 : Shape := ⟨2, ![4096, 384]⟩

abbrev nBuf : Space → Nat
  | .hbm => 6
  | .vmem => 0
  | .smem => 0
  | _ => 0

abbrev bufTy : (tb : Table) → Fin (tcTables nBuf tb) → BufTy
  | .hbm, ⟨0, _⟩ => ⟨S384x1536, .f32⟩
  | .hbm, ⟨1, _⟩ => ⟨S4096x1536, .f32⟩
  | .hbm, ⟨2, _⟩ => ⟨S_, .f32⟩
  | .hbm, ⟨3, _⟩ => ⟨S4096x384, .f32⟩
  | .hbm, ⟨4, _⟩ => ⟨S4096x1536, .f32⟩
  | .hbm, ⟨5, _⟩ => ⟨S4096x384, .f32⟩
  | _, _ => ⟨S384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel24.lean ====
abbrev S4096x384 : Shape := ⟨2, ![4096, 384]⟩
abbrev S4096x1536 : Shape := ⟨2, ![4096, 1536]⟩
abbrev S384x1536 : Shape := ⟨2, ![384, 1536]⟩
abbrev S4096x768 : Shape := ⟨2, ![4096, 768]⟩
abbrev S384x768 : Shape := ⟨2, ![384, 768]⟩

abbrev nBuf : Space → Nat
  | .hbm => 5
  | .vmem => 5
  | .smem => 0
  | _ => 0

abbrev bufTy : (tb : Table) → Fin (tcTables nBuf tb) → BufTy
  | .hbm, ⟨0, _⟩ => ⟨S4096x384, .f32⟩
  | .hbm, ⟨1, _⟩ => ⟨S4096x1536, .f32⟩
  | .hbm, ⟨2, _⟩ => ⟨S4096x384, .bf16⟩
  | .hbm, ⟨3, _⟩ => ⟨S4096x1536, .bf16⟩
  | .hbm, ⟨4, _⟩ => ⟨S384x1536, .f32⟩
  | .local _ .vmem, ⟨0, _⟩ => ⟨S4096x384, .bf16⟩
  | .local _ .vmem, ⟨1, _⟩ => ⟨S4096x768, .bf16⟩
  | .local _ .vmem, ⟨2, _⟩ => ⟨S4096x768, .bf16⟩
  | .local _ .vmem, ⟨3, _⟩ => ⟨S384x768, .f32⟩
  | .local _ .vmem, ⟨4, _⟩ => ⟨S384x768, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S384x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference24Ideal.lean ====
abbrev S4096x384 : Shape := ⟨2, ![4096, 384]⟩
abbrev S4096x1536 : Shape := ⟨2, ![4096, 1536]⟩
abbrev S_ : Shape := ⟨0, ![]⟩
abbrev S384x1536 : Shape := ⟨2, ![384, 1536]⟩
abbrev S1536x384 : Shape := ⟨2, ![1536, 384]⟩

abbrev nBuf : Space → Nat
  | .hbm => 7
  | .vmem => 0
  | .smem => 0
  | _ => 0

abbrev bufTy : (tb : Table) → Fin (tcTables nBuf tb) → BufTy
  | .hbm, ⟨0, _⟩ => ⟨S4096x384, .f32⟩
  | .hbm, ⟨1, _⟩ => ⟨S4096x1536, .f32⟩
  | .hbm, ⟨2, _⟩ => ⟨S_, .f32⟩
  | .hbm, ⟨3, _⟩ => ⟨S384x1536, .f32⟩
  | .hbm, ⟨4, _⟩ => ⟨S4096x1536, .f32⟩
  | .hbm, ⟨5, _⟩ => ⟨S1536x384, .f32⟩
  | .hbm, ⟨6, _⟩ => ⟨S384x1536, .f32⟩
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Bwd.Cases.lean ====
module

public import proofs.«01_k».proof.Proof.Gen.KernelIdeal.Frame
public import proofs.«01_k».proof.Proof.Gen.KernelIdeal.Skeleton
public import Idealize.ShloMosaic.Lib.Pipeline.TableIdle
public import Idealize.ShloMosaic.Lib.WordCmp

/-! Where each case of the body happens on the grid. -/

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Condition 0 of the body, from the grid coordinates. -/
abbrev cond0_0 (i : grid0.Coords) : Prop := k0_cond1 i = 1#1
/-- Condition 0 of the body as arithmetic of the point. -/
theorem hcond0_0 : ∀ t : Fin cfg0.N, cond0_0 (grid0.coords t) ↔ t.val % 16 = 0 :=
  (fun t => by
    have ht : t.val < 48 := Nat.lt_of_lt_of_eq t.isLt N_0
    have e0 : (grid0.coords t 0).val = t.val / 16 % 3 := Pipeline.Grid.coords_val t 0 (by decide) rfl
    have e1 : (grid0.coords t 1).val = t.val / 4 % 4 := Pipeline.Grid.coords_val t 1 (by decide) rfl
    have e2 : (grid0.coords t 2).val = t.val / 1 % 4 := Pipeline.Grid.coords_val t 2 (by decide) rfl
    simp only [cond0_0, k0_cond1, e0, e1, e2]
    word_cmp
   : ∀ t : Fin grid0.N, cond0_0 (grid0.coords t) ↔ t.val % 16 = 0)

/-- Condition 1 of the body, from the grid coordinates. -/
abbrev cond0_1 (i : grid0.Coords) : Prop := (Scalar.cmpi .ne (Scalar.extui (Scalar.cmpi .eq (BitVec.ofNat 32 (i 2).val) 0#32)) 0#32) = 1#1
/-- Condition 1 of the body as arithmetic of the point. -/
theorem hcond0_1 : ∀ t : Fin cfg0.N, cond0_1 (grid0.coords t) ↔ t.val % 4 = 0 :=
  (fun t => by
    have ht : t.val < 48 := Nat.lt_of_lt_of_eq t.isLt N_0
    have e0 : (grid0.coords t 0).val = t.val / 16 % 3 := Pipeline.Grid.coords_val t 0 (by decide) rfl
    have e1 : (grid0.coords t 1).val = t.val / 4 % 4 := Pipeline.Grid.coords_val t 1 (by decide) rfl
    have e2 : (grid0.coords t 2).val = t.val / 1 % 4 := Pipeline.Grid.coords_val t 2 (by decide) rfl
    simp only [cond0_1, e0, e1, e2]
    word_cmp
   : ∀ t : Fin grid0.N, cond0_1 (grid0.coords t) ↔ t.val % 4 = 0)

/-- Condition 2 of the body, from the grid coordinates. -/
abbrev cond0_2 (i : grid0.Coords) : Prop := k0_cond3 i = 1#1
/-- Condition 2 of the body as arithmetic of the point. -/
theorem hcond0_2 : ∀ t : Fin cfg0.N, cond0_2 (grid0.coords t) ↔ t.val / 4 % 4 + 1 ≤ t.val % 4 :=
  (by decide +kernel : ∀ t : Fin grid0.N, cond0_2 (grid0.coords t) ↔ t.val / 4 % 4 + 1 ≤ t.val % 4)

/-- Condition 3 of the body, from the grid coordinates. -/
abbrev cond0_3 (i : grid0.Coords) : Prop := k0_cond4 i = 1#1
/-- Condition 3 of the body as arithmetic of the point. -/
theorem hcond0_3 : ∀ t : Fin cfg0.N, cond0_3 (grid0.coords t) ↔ t.val / 4 % 4 = t.val % 4 :=
  (by decide +kernel : ∀ t : Fin grid0.N, cond0_3 (grid0.coords t) ↔ t.val / 4 % 4 = t.val % 4)

/-- Condition 4 of the body, from the grid coordinates. -/
abbrev cond0_4 (i : grid0.Coords) : Prop := k0_cond5 i = 1#1
/-- Condition 4 of the body as arithmetic of the point. -/
theorem hcond0_4 : ∀ t : Fin cfg0.N, cond0_4 (grid0.coords t) ↔ t.val % 4 = 3 :=
  (fun t => by
    have ht : t.val < 48 := Nat.lt_of_lt_of_eq t.isLt N_0
    have e0 : (grid0.coords t 0).val = t.val / 16 % 3 := Pipeline.Grid.coords_val t 0 (by decide) rfl
    have e1 : (grid0.coords t 1).val = t.val / 4 % 4 := Pipeline.Grid.coords_val t 1 (by decide) rfl
    have e2 : (grid0.coords t 2).val = t.val / 1 % 4 := Pipeline.Grid.coords_val t 2 (by decide) rfl
    simp only [cond0_4, k0_cond5, e0, e1, e2]
    word_cmp
   : ∀ t : Fin grid0.N, cond0_4 (grid0.coords t) ↔ t.val % 4 = 3)

theorem on0 {t : Fin cfg0.N} (h : t.val % 16 = 0) : cond0_0 (grid0.coords t) := (hcond0_0 t).mpr h

theorem off0 {t : Fin cfg0.N} (h : ¬t.val % 16 = 0) : ¬cond0_0 (grid0.coords t) := (hcond0_0 t).not.mpr h

theorem on1 {t : Fin cfg0.N} (h : t.val % 4 = 0) : cond0_1 (grid0.coords t) := (hcond0_1 t).mpr h

theorem off1 {t : Fin cfg0.N} (h : ¬t.val % 4 = 0) : ¬cond0_1 (grid0.coords t) := (hcond0_1 t).not.mpr h

theorem on2 {t : Fin cfg0.N} (h : t.val / 4 % 4 + 1 ≤ t.val % 4) : cond0_2 (grid0.coords t) := (hcond0_2 t).mpr h

theorem off2 {t : Fin cfg0.N} (h : ¬t.val / 4 % 4 + 1 ≤ t.val % 4) : ¬cond0_2 (grid0.coords t) := (hcond0_2 t).not.mpr h

theorem on3 {t : Fin cfg0.N} (h : t.val / 4 % 4 = t.val % 4) : cond0_3 (grid0.coords t) := (hcond0_3 t).mpr h

theorem off3 {t : Fin cfg0.N} (h : ¬t.val / 4 % 4 = t.val % 4) : ¬cond0_3 (grid0.coords t) := (hcond0_3 t).not.mpr h

theorem on4 {t : Fin cfg0.N} (h : t.val % 4 = 3) : cond0_4 (grid0.coords t) := (hcond0_4 t).mpr h

theorem off4 {t : Fin cfg0.N} (h : ¬t.val % 4 = 3) : ¬cond0_4 (grid0.coords t) := (hcond0_4 t).not.mpr h

/-- Window 0 is an input. -/
theorem liveAt0_0 : ∀ t : Fin cfg0.N, cfg0.idle 0 (grid0.coords t) = false := fun _ => rfl
/-- Window 1 is an input. -/
theorem liveAt0_1 : ∀ t : Fin cfg0.N, cfg0.idle 1 (grid0.coords t) = false := fun _ => rfl
/-- Window 2 is an input. -/
theorem liveAt0_2 : ∀ t : Fin cfg0.N, cfg0.idle 2 (grid0.coords t) = false := fun _ => rfl
/-- Window 3 is an input. -/
theorem liveAt0_3 : ∀ t : Fin cfg0.N, cfg0.idle 3 (grid0.coords t) = false := fun _ => rfl
/-- Window 4 is an input. -/
theorem liveAt0_4 : ∀ t : Fin cfg0.N, cfg0.idle 4 (grid0.coords t) = false := fun _ => rfl
/-- Window 5 is an input. -/
theorem liveAt0_5 : ∀ t : Fin cfg0.N, cfg0.idle 5 (grid0.coords t) = false := fun _ => rfl

/-- The conditions of case A together. -/
abbrev conds0_A (i : grid0.Coords) : Prop := cond0_0 i ∧ cond0_1 i ∧ ¬cond0_2 i ∧ cond0_3 i ∧ ¬cond0_4 i
instance conds0_A.dec (i : grid0.Coords) : Decidable (conds0_A i) :=
  @instDecidableAnd _ _ inferInstance (@instDecidableAnd _ _ inferInstance (@instDecidableAnd _ _ inferInstance (@instDecidableAnd _ _ inferInstance inferInstance)))
/-- The conditions of case B together. -/
abbrev conds0_B (i : grid0.Coords) : Prop := ¬cond0_0 i ∧ ¬cond0_1 i ∧ cond0_2 i ∧ ¬cond0_3 i ∧ ¬cond0_4 i
instance conds0_B.dec (i : grid0.Coords) : Decidable (conds0_B i) :=
  @instDecidableAnd _ _ inferInstance (@instDecidableAnd _ _ inferInstance (@instDecidableAnd _ _ inferInstance (@instDecidableAnd _ _ inferInstance inferInstance)))
/-- The conditions of case C together. -/
abbrev conds0_C (i : grid0.Coords) : Prop := ¬cond0_0 i ∧ ¬cond0_1 i ∧ cond0_2 i ∧ ¬cond0_3 i ∧ cond0_4 i
instance conds0_C.dec (i : grid0.Coords) : Decidable (conds0_C i) :=
  @instDecidableAnd _ _ inferInstance (@instDecidableAnd _ _ inferInstance (@instDecidableAnd _ _ inferInstance (@instDecidableAnd _ _ inferInstance inferInstance)))
/-- The conditions of case D together. -/
abbrev conds0_D (i : grid0.Coords) : Prop := ¬cond0_0 i ∧ cond0_1 i ∧ ¬cond0_2 i ∧ ¬cond0_3 i ∧ ¬cond0_4 i
instance conds0_D.dec (i : grid0.Coords) : Decidable (conds0_D i) :=
  @instDecidableAnd _ _ inferInstance (@instDecidableAnd _ _ inferInstance (@instDecidableAnd _ _ inferInstance (@instDecidableAnd _ _ inferInstance inferInstance)))
/-- The conditions of case E together. -/
abbrev conds0_E (i : grid0.Coords) : Prop := ¬cond0_0 i ∧ ¬cond0_1 i ∧ ¬cond0_2 i ∧ cond0_3 i ∧ ¬cond0_4 i
instance conds0_E.dec (i : grid0.Coords) : Decidable (conds0_E i) :=
  @instDecidableAnd _ _ inferInstance (@instDecidableAnd _ _ inferInstance (@instDecidableAnd _ _ inferInstance (@instDecidableAnd _ _ inferInstance inferInstance)))
/-- The conditions of case F together. -/
abbrev conds0_F (i : grid0.Coords) : Prop := ¬cond0_0 i ∧ ¬cond0_1 i ∧ ¬cond0_2 i ∧ ¬cond0_3 i ∧ ¬cond0_4 i
instance conds0_F.dec (i : grid0.Coords) : Decidable (conds0_F i) :=
  @instDecidableAnd _ _ inferInstance (@instDecidableAnd _ _ inferInstance (@instDecidableAnd _ _ inferInstance (@instDecidableAnd _ _ inferInstance inferInstance)))
/-- The conditions of case G together. -/
abbrev conds0_G (i : grid0.Coords) : Prop := ¬cond0_0 i ∧ ¬cond0_1 i ∧ ¬cond0_2 i ∧ cond0_3 i ∧ cond0_4 i
instance conds0_G.dec (i : grid0.Coords) : Decidable (conds0_G i) :=
  @instDecidableAnd _ _ inferInstance (@instDecidableAnd _ _ inferInstance (@instDecidableAnd _ _ inferInstance (@instDecidableAnd _ _ inferInstance inferInstance)))
/-- Whether window 6 holds nothing yet, by position. -/
def freshTab0_6 : ℕ → Bool
  | 0 => true
  | n + 1 => (0x800080008000 : ℕ).testBit n
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
/-- Window 6 is stored at the points of case A. -/
theorem liveAt0_6_A : ∀ t : Fin cfg0.N, cond0_0 (grid0.coords t) → cond0_1 (grid0.coords t) → ¬cond0_2 (grid0.coords t) → cond0_3 (grid0.coords t) → ¬cond0_4 (grid0.coords t) → cfg0.idle 6 (grid0.coords t) = false :=
  fun t h0 h1 h2 h3 h4 => (by decide +kernel : ∀ t : Fin cfg0.N, conds0_A (grid0.coords t) → cfg0.idle 6 (grid0.coords t) = false) t ⟨h0, h1, h2, h3, h4⟩
/-- Window 6 is stored at the points of case B. -/
theorem liveAt0_6_B : ∀ t : Fin cfg0.N, ¬cond0_0 (grid0.coords t) → ¬cond0_1 (grid0.coords t) → cond0_2 (grid0.coords t) → ¬cond0_3 (grid0.coords t) → ¬cond0_4 (grid0.coords t) → cfg0.idle 6 (grid0.coords t) = false :=
  fun t h0 h1 h2 h3 h4 => (by decide +kernel : ∀ t : Fin cfg0.N, conds0_B (grid0.coords t) → cfg0.idle 6 (grid0.coords t) = false) t ⟨h0, h1, h2, h3, h4⟩
/-- Window 6 already holds something at the points of case B. -/
theorem notFresh0_6_B : ∀ t : Fin cfg0.N, ¬cond0_0 (grid0.coords t) → ¬cond0_1 (grid0.coords t) → cond0_2 (grid0.coords t) → ¬cond0_3 (grid0.coords t) → ¬cond0_4 (grid0.coords t) → cfg0.fresh 6 t.val = false :=
  fun t h0 h1 h2 h3 h4 => (by intro t; rw [fresh0_6_eq t]; revert t; decide +kernel : ∀ t : Fin cfg0.N, conds0_B (grid0.coords t) → cfg0.fresh 6 t.val = false) t ⟨h0, h1, h2, h3, h4⟩
/-- Window 6 is stored at the points of case C. -/
theorem liveAt0_6_C : ∀ t : Fin cfg0.N, ¬cond0_0 (grid0.coords t) → ¬cond0_1 (grid0.coords t) → cond0_2 (grid0.coords t) → ¬cond0_3 (grid0.coords t) → cond0_4 (grid0.coords t) → cfg0.idle 6 (grid0.coords t) = false :=
  fun t h0 h1 h2 h3 h4 => (by decide +kernel : ∀ t : Fin cfg0.N, conds0_C (grid0.coords t) → cfg0.idle 6 (grid0.coords t) = false) t ⟨h0, h1, h2, h3, h4⟩
/-- Window 6 already holds something at the points of case C. -/
theorem notFresh0_6_C : ∀ t : Fin cfg0.N, ¬cond0_0 (grid0.coords t) → ¬cond0_1 (grid0.coords t) → cond0_2 (grid0.coords t) → ¬cond0_3 (grid0.coords t) → cond0_4 (grid0.coords t) → cfg0.fresh 6 t.val = false :=
  fun t h0 h1 h2 h3 h4 => (by intro t; rw [fresh0_6_eq t]; revert t; decide +kernel : ∀ t : Fin cfg0.N, conds0_C (grid0.coords t) → cfg0.fresh 6 t.val = false) t ⟨h0, h1, h2, h3, h4⟩
/-- Window 6 is not stored at the points of case D. -/
theorem idleAt0_6_D : ∀ t : Fin cfg0.N, ¬cond0_0 (grid0.coords t) → cond0_1 (grid0.coords t) → ¬cond0_2 (grid0.coords t) → ¬cond0_3 (grid0.coords t) → ¬cond0_4 (grid0.coords t) → cfg0.idle 6 (grid0.coords t) = true :=
  fun t h0 h1 h2 h3 h4 => (by decide +kernel : ∀ t : Fin cfg0.N, conds0_D (grid0.coords t) → cfg0.idle 6 (grid0.coords t) = true) t ⟨h0, h1, h2, h3, h4⟩
/-- Window 6 is not written back at the points of case D. -/
theorem noFlush0_6_D : ∀ t : Fin cfg0.N, ¬cond0_0 (grid0.coords t) → cond0_1 (grid0.coords t) → ¬cond0_2 (grid0.coords t) → ¬cond0_3 (grid0.coords t) → ¬cond0_4 (grid0.coords t) → (cfg0.win 6).flush t = false :=
  fun t h0 h1 h2 h3 h4 => (by decide +kernel : ∀ t : Fin cfg0.N, conds0_D (grid0.coords t) → (cfg0.win 6).flush t = false) t ⟨h0, h1, h2, h3, h4⟩
/-- Window 6 is stored at the points of case E. -/
theorem liveAt0_6_E : ∀ t : Fin cfg0.N, ¬cond0_0 (grid0.coords t) → ¬cond0_1 (grid0.coords t) → ¬cond0_2 (grid0.coords t) → cond0_3 (grid0.coords t) → ¬cond0_4 (grid0.coords t) → cfg0.idle 6 (grid0.coords t) = false :=
  fun t h0 h1 h2 h3 h4 => (by decide +kernel : ∀ t : Fin cfg0.N, conds0_E (grid0.coords t) → cfg0.idle 6 (grid0.coords t) = false) t ⟨h0, h1, h2, h3, h4⟩
/-- Window 6 already holds something at the points of case E. -/
theorem notFresh0_6_E : ∀ t : Fin cfg0.N, ¬cond0_0 (grid0.coords t) → ¬cond0_1 (grid0.coords t) → ¬cond0_2 (grid0.coords t) → cond0_3 (grid0.coords t) → ¬cond0_4 (grid0.coords t) → cfg0.fresh 6 t.val = false :=
  fun t h0 h1 h2 h3 h4 => (by intro t; rw [fresh0_6_eq t]; revert t; decide +kernel : ∀ t : Fin cfg0.N, conds0_E (grid0.coords t) → cfg0.fresh 6 t.val = false) t ⟨h0, h1, h2, h3, h4⟩
/-- Window 6 is not stored at the points of case F. -/
theorem idleAt0_6_F : ∀ t : Fin cfg0.N, ¬cond0_0 (grid0.coords t) → ¬cond0_1 (grid0.coords t) → ¬cond0_2 (grid0.coords t) → ¬cond0_3 (grid0.coords t) → ¬cond0_4 (grid0.coords t) → cfg0.idle 6 (grid0.coords t) = true :=
  fun t h0 h1 h2 h3 h4 => (by decide +kernel : ∀ t : Fin cfg0.N, conds0_F (grid0.coords t) → cfg0.idle 6 (grid0.coords t) = true) t ⟨h0, h1, h2, h3, h4⟩
/-- Window 6 is not written back at the points of case F. -/
theorem noFlush0_6_F : ∀ t : Fin cfg0.N, ¬cond0_0 (grid0.coords t) → ¬cond0_1 (grid0.coords t) → ¬cond0_2 (grid0.coords t) → ¬cond0_3 (grid0.coords t) → ¬cond0_4 (grid0.coords t) → (cfg0.win 6).flush t = false :=
  fun t h0 h1 h2 h3 h4 => (by decide +kernel : ∀ t : Fin cfg0.N, conds0_F (grid0.coords t) → (cfg0.win 6).flush t = false) t ⟨h0, h1, h2, h3, h4⟩
/-- Window 6 is stored at the points of case G. -/
theorem liveAt0_6_G : ∀ t : Fin cfg0.N, ¬cond0_0 (grid0.coords t) → ¬cond0_1 (grid0.coords t) → ¬cond0_2 (grid0.coords t) → cond0_3 (grid0.coords t) → cond0_4 (grid0.coords t) → cfg0.idle 6 (grid0.coords t) = false :=
  fun t h0 h1 h2 h3 h4 => (by decide +kernel : ∀ t : Fin cfg0.N, conds0_G (grid0.coords t) → cfg0.idle 6 (grid0.coords t) = false) t ⟨h0, h1, h2, h3, h4⟩
/-- Window 6 already holds something at the points of case G. -/
theorem notFresh0_6_G : ∀ t : Fin cfg0.N, ¬cond0_0 (grid0.coords t) → ¬cond0_1 (grid0.coords t) → ¬cond0_2 (grid0.coords t) → cond0_3 (grid0.coords t) → cond0_4 (grid0.coords t) → cfg0.fresh 6 t.val = false :=
  fun t h0 h1 h2 h3 h4 => (by intro t; rw [fresh0_6_eq t]; revert t; decide +kernel : ∀ t : Fin cfg0.N, conds0_G (grid0.coords t) → cfg0.fresh 6 t.val = false) t ⟨h0, h1, h2, h3, h4⟩
/-- Window 7 is not stored at the points of case A. -/
theorem idleAt0_7_A : ∀ t : Fin cfg0.N, cond0_0 (grid0.coords t) → cond0_1 (grid0.coords t) → ¬cond0_2 (grid0.coords t) → cond0_3 (grid0.coords t) → ¬cond0_4 (grid0.coords t) → cfg0.idle 7 (grid0.coords t) = true :=
  fun t h0 h1 h2 h3 h4 => (by decide +kernel : ∀ t : Fin cfg0.N, conds0_A (grid0.coords t) → cfg0.idle 7 (grid0.coords t) = true) t ⟨h0, h1, h2, h3, h4⟩
/-- Window 7 is not written back at the points of case A. -/
theorem noFlush0_7_A : ∀ t : Fin cfg0.N, cond0_0 (grid0.coords t) → cond0_1 (grid0.coords t) → ¬cond0_2 (grid0.coords t) → cond0_3 (grid0.coords t) → ¬cond0_4 (grid0.coords t) → (cfg0.win 7).flush t = false :=
  fun t h0 h1 h2 h3 h4 => (by decide +kernel : ∀ t : Fin cfg0.N, conds0_A (grid0.coords t) → (cfg0.win 7).flush t = false) t ⟨h0, h1, h2, h3, h4⟩
/-- Window 7 is not stored at the points of case B. -/
theorem idleAt0_7_B : ∀ t : Fin cfg0.N, ¬cond0_0 (grid0.coords t) → ¬cond0_1 (grid0.coords t) → cond0_2 (grid0.coords t) → ¬cond0_3 (grid0.coords t) → ¬cond0_4 (grid0.coords t) → cfg0.idle 7 (grid0.coords t) = true :=
  fun t h0 h1 h2 h3 h4 => (by decide +kernel : ∀ t : Fin cfg0.N, conds0_B (grid0.coords t) → cfg0.idle 7 (grid0.coords t) = true) t ⟨h0, h1, h2, h3, h4⟩
/-- Window 7 is not written back at the points of case B. -/
theorem noFlush0_7_B : ∀ t : Fin cfg0.N, ¬cond0_0 (grid0.coords t) → ¬cond0_1 (grid0.coords t) → cond0_2 (grid0.coords t) → ¬cond0_3 (grid0.coords t) → ¬cond0_4 (grid0.coords t) → (cfg0.win 7).flush t = false :=
  fun t h0 h1 h2 h3 h4 => (by decide +kernel : ∀ t : Fin cfg0.N, conds0_B (grid0.coords t) → (cfg0.win 7).flush t = false) t ⟨h0, h1, h2, h3, h4⟩
/-- Window 7 is stored at the points of case C. -/
theorem liveAt0_7_C : ∀ t : Fin cfg0.N, ¬cond0_0 (grid0.coords t) → ¬cond0_1 (grid0.coords t) → cond0_2 (grid0.coords t) → ¬cond0_3 (grid0.coords t) → cond0_4 (grid0.coords t) → cfg0.idle 7 (grid0.coords t) = false :=
  fun t h0 h1 h2 h3 h4 => (by decide +kernel : ∀ t : Fin cfg0.N, conds0_C (grid0.coords t) → cfg0.idle 7 (grid0.coords t) = false) t ⟨h0, h1, h2, h3, h4⟩
/-- Window 7 is not stored at the points of case D. -/
theorem idleAt0_7_D : ∀ t : Fin cfg0.N, ¬cond0_0 (grid0.coords t) → cond0_1 (grid0.coords t) → ¬cond0_2 (grid0.coords t) → ¬cond0_3 (grid0.coords t) → ¬cond0_4 (grid0.coords t) → cfg0.idle 7 (grid0.coords t) = true :=
  fun t h0 h1 h2 h3 h4 => (by decide +kernel : ∀ t : Fin cfg0.N, conds0_D (grid0.coords t) → cfg0.idle 7 (grid0.coords t) = true) t ⟨h0, h1, h2, h3, h4⟩
/-- Window 7 is not written back at the points of case D. -/
theorem noFlush0_7_D : ∀ t : Fin cfg0.N, ¬cond0_0 (grid0.coords t) → cond0_1 (grid0.coords t) → ¬cond0_2 (grid0.coords t) → ¬cond0_3 (grid0.coords t) → ¬cond0_4 (grid0.coords t) → (cfg0.win 7).flush t = false :=
  fun t h0 h1 h2 h3 h4 => (by decide +kernel : ∀ t : Fin cfg0.N, conds0_D (grid0.coords t) → (cfg0.win 7).flush t = false) t ⟨h0, h1, h2, h3, h4⟩
/-- Window 7 is not stored at the points of case E. -/
theorem idleAt0_7_E : ∀ t : Fin cfg0.N, ¬cond0_0 (grid0.coords t) → ¬cond0_1 (grid0.coords t) → ¬cond0_2 (grid0.coords t) → cond0_3 (grid0.coords t) → ¬cond0_4 (grid0.coords t) → cfg0.idle 7 (grid0.coords t) = true :=
  fun t h0 h1 h2 h3 h4 => (by decide +kernel : ∀ t : Fin cfg0.N, conds0_E (grid0.coords t) → cfg0.idle 7 (grid0.coords t) = true) t ⟨h0, h1, h2, h3, h4⟩
/-- Window 7 is not written back at the points of case E. -/
theorem noFlush0_7_E : ∀ t : Fin cfg0.N, ¬cond0_0 (grid0.coords t) → ¬cond0_1 (grid0.coords t) → ¬cond0_2 (grid0.coords t) → cond0_3 (grid0.coords t) → ¬cond0_4 (grid0.coords t) → (cfg0.win 7).flush t = false :=
  fun t h0 h1 h2 h3 h4 => (by decide +kernel : ∀ t : Fin cfg0.N, conds0_E (grid0.coords t) → (cfg0.win 7).flush t = false) t ⟨h0, h1, h2, h3, h4⟩
/-- Window 7 is not stored at the points of case F. -/
theorem idleAt0_7_F : ∀ t : Fin cfg0.N, ¬cond0_0 (grid0.coords t) → ¬cond0_1 (grid0.coords t) → ¬cond0_2 (grid0.coords t) → ¬cond0_3 (grid0.coords t) → ¬cond0_4 (grid0.coords t) → cfg0.idle 7 (grid0.coords t) = true :=
  fun t h0 h1 h2 h3 h4 => (by decide +kernel : ∀ t : Fin cfg0.N, conds0_F (grid0.coords t) → cfg0.idle 7 (grid0.coords t) = true) t ⟨h0, h1, h2, h3, h4⟩
/-- Window 7 is not written back at the points of case F. -/
theorem noFlush0_7_F : ∀ t : Fin cfg0.N, ¬cond0_0 (grid0.coords t) → ¬cond0_1 (grid0.coords t) → ¬cond0_2 (grid0.coords t) → ¬cond0_3 (grid0.coords t) → ¬cond0_4 (grid0.coords t) → (cfg0.win 7).flush t = false :=
  fun t h0 h1 h2 h3 h4 => (by decide +kernel : ∀ t : Fin cfg0.N, conds0_F (grid0.coords t) → (cfg0.win 7).flush t = false) t ⟨h0, h1, h2, h3, h4⟩
/-- Window 7 is stored at the points of case G. -/
theorem liveAt0_7_G : ∀ t : Fin cfg0.N, ¬cond0_0 (grid0.coords t) → ¬cond0_1 (grid0.coords t) → ¬cond0_2 (grid0.coords t) → cond0_3 (grid0.coords t) → cond0_4 (grid0.coords t) → cfg0.idle 7 (grid0.coords t) = false :=
  fun t h0 h1 h2 h3 h4 => (by decide +kernel : ∀ t : Fin cfg0.N, conds0_G (grid0.coords t) → cfg0.idle 7 (grid0.coords t) = false) t ⟨h0, h1, h2, h3, h4⟩
/-- Window 8 is not stored at the points of case A. -/
theorem idleAt0_8_A : ∀ t : Fin cfg0.N, cond0_0 (grid0.coords t) → cond0_1 (grid0.coords t) → ¬cond0_2 (grid0.coords t) → cond0_3 (grid0.coords t) → ¬cond0_4 (grid0.coords t) → cfg0.idle 8 (grid0.coords t) = true :=
  fun t h0 h1 h2 h3 h4 => (by decide +kernel : ∀ t : Fin cfg0.N, conds0_A (grid0.coords t) → cfg0.idle 8 (grid0.coords t) = true) t ⟨h0, h1, h2, h3, h4⟩
/-- Window 8 is not written back at the points of case A. -/
theorem noFlush0_8_A : ∀ t : Fin cfg0.N, cond0_0 (grid0.coords t) → cond0_1 (grid0.coords t) → ¬cond0_2 (grid0.coords t) → cond0_3 (grid0.coords t) → ¬cond0_4 (grid0.coords t) → (cfg0.win 8).flush t = false :=
  fun t h0 h1 h2 h3 h4 => (by decide +kernel : ∀ t : Fin cfg0.N, conds0_A (grid0.coords t) → (cfg0.win 8).flush t = false) t ⟨h0, h1, h2, h3, h4⟩
/-- Window 8 is not stored at the points of case B. -/
theorem idleAt0_8_B : ∀ t : Fin cfg0.N, ¬cond0_0 (grid0.coords t) → ¬cond0_1 (grid0.coords t) → cond0_2 (grid0.coords t) → ¬cond0_3 (grid0.coords t) → ¬cond0_4 (grid0.coords t) → cfg0.idle 8 (grid0.coords t) = true :=
  fun t h0 h1 h2 h3 h4 => (by decide +kernel : ∀ t : Fin cfg0.N, conds0_B (grid0.coords t) → cfg0.idle 8 (grid0.coords t) = true) t ⟨h0, h1, h2, h3, h4⟩
/-- Window 8 is not written back at the points of case B. -/
theorem noFlush0_8_B : ∀ t : Fin cfg0.N, ¬cond0_0 (grid0.coords t) → ¬cond0_1 (grid0.coords t) → cond0_2 (grid0.coords t) → ¬cond0_3 (grid0.coords t) → ¬cond0_4 (grid0.coords t) → (cfg0.win 8).flush t = false :=
  fun t h0 h1 h2 h3 h4 => (by decide +kernel : ∀ t : Fin cfg0.N, conds0_B (grid0.coords t) → (cfg0.win 8).flush t = false) t ⟨h0, h1, h2, h3, h4⟩
/-- Window 8 is stored at the points of case C. -/
theorem liveAt0_8_C : ∀ t : Fin cfg0.N, ¬cond0_0 (grid0.coords t) → ¬cond0_1 (grid0.coords t) → cond0_2 (grid0.coords t) → ¬cond0_3 (grid0.coords t) → cond0_4 (grid0.coords t) → cfg0.idle 8 (grid0.coords t) = false :=
  fun t h0 h1 h2 h3 h4 => (by decide +kernel : ∀ t : Fin cfg0.N, conds0_C (grid0.coords t) → cfg0.idle 8 (grid0.coords t) = false) t ⟨h0, h1, h2, h3, h4⟩
/-- Window 8 is not stored at the points of case D. -/
theorem idleAt0_8_D : ∀ t : Fin cfg0.N, ¬cond0_0 (grid0.coords t) → cond0_1 (grid0.coords t) → ¬cond0_2 (grid0.coords t) → ¬cond0_3 (grid0.coords t) → ¬cond0_4 (grid0.coords t) → cfg0.idle 8 (grid0.coords t) = true :=
  fun t h0 h1 h2 h3 h4 => (by decide +kernel : ∀ t : Fin cfg0.N, conds0_D (grid0.coords t) → cfg0.idle 8 (grid0.coords t) = true) t ⟨h0, h1, h2, h3, h4⟩
/-- Window 8 is not written back at the points of case D. -/
theorem noFlush0_8_D : ∀ t : Fin cfg0.N, ¬cond0_0 (grid0.coords t) → cond0_1 (grid0.coords t) → ¬cond0_2 (grid0.coords t) → ¬cond0_3 (grid0.coords t) → ¬cond0_4 (grid0.coords t) → (cfg0.win 8).flush t = false :=
  fun t h0 h1 h2 h3 h4 => (by decide +kernel : ∀ t : Fin cfg0.N, conds0_D (grid0.coords t) → (cfg0.win 8).flush t = false) t ⟨h0, h1, h2, h3, h4⟩
/-- Window 8 is not stored at the points of case E. -/
theorem idleAt0_8_E : ∀ t : Fin cfg0.N, ¬cond0_0 (grid0.coords t) → ¬cond0_1 (grid0.coords t) → ¬cond0_2 (grid0.coords t) → cond0_3 (grid0.coords t) → ¬cond0_4 (grid0.coords t) → cfg0.idle 8 (grid0.coords t) = true :=
  fun t h0 h1 h2 h3 h4 => (by decide +kernel : ∀ t : Fin cfg0.N, conds0_E (grid0.coords t) → cfg0.idle 8 (grid0.coords t) = true) t ⟨h0, h1, h2, h3, h4⟩
/-- Window 8 is not written back at the points of case E. -/
theorem noFlush0_8_E : ∀ t : Fin cfg0.N, ¬cond0_0 (grid0.coords t) → ¬cond0_1 (grid0.coords t) → ¬cond0_2 (grid0.coords t) → cond0_3 (grid0.coords t) → ¬cond0_4 (grid0.coords t) → (cfg0.win 8).flush t = false :=
  fun t h0 h1 h2 h3 h4 => (by decide +kernel : ∀ t : Fin cfg0.N, conds0_E (grid0.coords t) → (cfg0.win 8).flush t = false) t ⟨h0, h1, h2, h3, h4⟩
/-- Window 8 is not stored at the points of case F. -/
theorem idleAt0_8_F : ∀ t : Fin cfg0.N, ¬cond0_0 (grid0.coords t) → ¬cond0_1 (grid0.coords t) → ¬cond0_2 (grid0.coords t) → ¬cond0_3 (grid0.coords t) → ¬cond0_4 (grid0.coords t) → cfg0.idle 8 (grid0.coords t) = true :=
  fun t h0 h1 h2 h3 h4 => (by decide +kernel : ∀ t : Fin cfg0.N, conds0_F (grid0.coords t) → cfg0.idle 8 (grid0.coords t) = true) t ⟨h0, h1, h2, h3, h4⟩
/-- Window 8 is not written back at the points of case F. -/
theorem noFlush0_8_F : ∀ t : Fin cfg0.N, ¬cond0_0 (grid0.coords t) → ¬cond0_1 (grid0.coords t) → ¬cond0_2 (grid0.coords t) → ¬cond0_3 (grid0.coords t) → ¬cond0_4 (grid0.coords t) → (cfg0.win 8).flush t = false :=
  fun t h0 h1 h2 h3 h4 => (by decide +kernel : ∀ t : Fin cfg0.N, conds0_F (grid0.coords t) → (cfg0.win 8).flush t = false) t ⟨h0, h1, h2, h3, h4⟩
/-- Window 8 is stored at the points of case G. -/
theorem liveAt0_8_G : ∀ t : Fin cfg0.N, ¬cond0_0 (grid0.coords t) → ¬cond0_1 (grid0.coords t) → ¬cond0_2 (grid0.coords t) → cond0_3 (grid0.coords t) → cond0_4 (grid0.coords t) → cfg0.idle 8 (grid0.coords t) = false :=
  fun t h0 h1 h2 h3 h4 => (by decide +kernel : ∀ t : Fin cfg0.N, conds0_G (grid0.coords t) → cfg0.idle 8 (grid0.coords t) = false) t ⟨h0, h1, h2, h3, h4⟩

/-- A buffer of window 6 as a view. -/
abbrev VO0_6 : View sig .tc .vmem S4096x512 .f32 := (Memref.whole cc0_stg6_0 : Memref sig .tc .vmem S4096x512 .f32).view
/-- A buffer of window 7 as a view. -/
abbrev VO0_7 : View sig .tc .vmem S1024x512 .f32 := (Memref.whole cc0_stg7_0 : Memref sig .tc .vmem S1024x512 .f32).view
/-- A buffer of window 8 as a view. -/
abbrev VO0_8 : View sig .tc .vmem S1024x512 .bf16 := (Memref.whole cc0_stg8_0 : Memref sig .tc .vmem S1024x512 .bf16).view
/-- The buffer of window 0 at a point. -/
abbrev ms0_0 (t : Fin cfg0.N) : Memref sig .tc .vmem S1024x512 .bf16 := win0_0.stage (cfg0.slots t 0)
/-- It is a whole buffer. -/
abbrev hs0_0 (t : Fin cfg0.N) : (ms0_0 t).IsWhole := hstage0_0 ((cfg0.slots t 0).cast nbuf0_0)
/-- The buffer of window 1 at a point. -/
abbrev ms0_1 (t : Fin cfg0.N) : Memref sig .tc .vmem S1024x512 .bf16 := win0_1.stage (cfg0.slots t 1)
/-- It is a whole buffer. -/
abbrev hs0_1 (t : Fin cfg0.N) : (ms0_1 t).IsWhole := hstage0_1 ((cfg0.slots t 1).cast nbuf0_1)
/-- The buffer of window 2 at a point. -/
abbrev ms0_2 (t : Fin cfg0.N) : Memref sig .tc .vmem S1024x512 .bf16 := win0_2.stage (cfg0.slots t 2)
/-- It is a whole buffer. -/
abbrev hs0_2 (t : Fin cfg0.N) : (ms0_2 t).IsWhole := hstage0_2 ((cfg0.slots t 2).cast nbuf0_2)
/-- The buffer of window 3 at a point. -/
abbrev ms0_3 (t : Fin cfg0.N) : Memref sig .tc .vmem S1024x512 .bf16 := win0_3.stage (cfg0.slots t 3)
/-- It is a whole buffer. -/
abbrev hs0_3 (t : Fin cfg0.N) : (ms0_3 t).IsWhole := hstage0_3 ((cfg0.slots t 3).cast nbuf0_3)
/-- The buffer of window 4 at a point. -/
abbrev ms0_4 (t : Fin cfg0.N) : Memref sig .tc .vmem S1x8x1024 .f32 := win0_4.stage (cfg0.slots t 4)
/-- It is a whole buffer. -/
abbrev hs0_4 (t : Fin cfg0.N) : (ms0_4 t).IsWhole := hstage0_4 ((cfg0.slots t 4).cast nbuf0_4)
/-- The buffer of window 5 at a point. -/
abbrev ms0_5 (t : Fin cfg0.N) : Memref sig .tc .vmem S1x8x1024 .f32 := win0_5.stage (cfg0.slots t 5)
/-- It is a whole buffer. -/
abbrev hs0_5 (t : Fin cfg0.N) : (ms0_5 t).IsWhole := hstage0_5 ((cfg0.slots t 5).cast nbuf0_5)
/-- The buffer of window 6 at a point. -/
abbrev ms0_6 (t : Fin cfg0.N) : Memref sig .tc .vmem S4096x512 .f32 := win0_6.stage (cfg0.slots t 6)
/-- It is a whole buffer. -/
abbrev hs0_6 (t : Fin cfg0.N) : (ms0_6 t).IsWhole := hstage0_6 ((cfg0.slots t 6).cast nbuf0_6)
/-- The buffer of window 7 at a point. -/
abbrev ms0_7 (t : Fin cfg0.N) : Memref sig .tc .vmem S1024x512 .f32 := win0_7.stage (cfg0.slots t 7)
/-- It is a whole buffer. -/
abbrev hs0_7 (t : Fin cfg0.N) : (ms0_7 t).IsWhole := hstage0_7 ((cfg0.slots t 7).cast nbuf0_7)
/-- The buffer of window 8 at a point. -/
abbrev ms0_8 (t : Fin cfg0.N) : Memref sig .tc .vmem S1024x512 .bf16 := win0_8.stage (cfg0.slots t 8)
/-- It is a whole buffer. -/
abbrev hs0_8 (t : Fin cfg0.N) : (ms0_8 t).IsWhole := hstage0_8 ((cfg0.slots t 8).cast nbuf0_8)
/-- Accumulator 0. -/
abbrev scM0_0 : Memref sig .tc .vmem S1024x512 .f32 := Memref.whole cc0_scratch0
/-- Accumulator 1. -/
abbrev scM0_1 : Memref sig .tc .vmem S1024x512 .f32 := Memref.whole cc0_scratch1
/-- Accumulator 0 as a view. -/
abbrev VS0_0 : View sig .tc .vmem S1024x512 .f32 := scM0_0.view
/-- Accumulator 1 as a view. -/
abbrev VS0_1 : View sig .tc .vmem S1024x512 .f32 := scM0_1.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Bwd

end
-- ==== Proof.Bwd.RunA.lean ====
module

public import proofs.«01_k».proof.Proof.Bwd.Cases

/-! The body of the attention backward kernel run in case A of its conditions. -/

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run in case A: the pieces it stores, with the proof that it runs. -/
noncomputable def kernelRun0_A (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x8x1024 .f32) (harg7 : arg7.IsWhole) (arg8 : Memref sig .tc .vmem S1x8x1024 .f32) (harg8 : arg8.IsWhole) (arg10 : Memref sig .tc .vmem S4096x512 .f32) (harg10 : arg10.IsWhole) (arg11 : Memref sig .tc .vmem S1024x512 .f32) (harg11 : arg11.IsWhole) (arg12 : Memref sig .tc .vmem S1024x512 .bf16) (harg12 : arg12.IsWhole) (arg13 : Memref sig .tc .vmem S1024x512 .f32) (harg13 : arg13.IsWhole) (arg14 : Memref sig .tc .vmem S1024x512 .f32) (harg14 : arg14.IsWhole) (hc0 : cond0_0 i) (hc1 : cond0_1 i) (hc2 : ¬cond0_2 i) (hc3 : cond0_3 i) (hc4 : ¬cond0_4 i)
    (x0 : Vec F S1024x512 .bf16) (x1 : Vec F S1024x512 .bf16) (x2 : Vec F S1024x512 .bf16) (x3 : Vec F S1024x512 .bf16) (x4 : Vec F S1x8x1024 .f32) (x5 : Vec F S1x8x1024 .f32) :
    Σ' (L6 : List (View.Piece (Elt F) S4096x512 .f32)), Σ' (L7 : List (View.Piece (Elt F) S1024x512 .f32)), Σ' (L8 : List (View.Piece (Elt F) S1024x512 .bf16)), Σ' (LS0 : List (View.Piece (Elt F) S1024x512 .f32)), { LS1 : List (View.Piece (Elt F) S1024x512 .f32) //
      ∀ (xi7 : Vec F S1024x512 .f32) (xi8 : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg10 fullShare d) ∗ owns (c : Thread nD τ) arg11 fullShare xi7 ∗ owns (c : Thread nD τ) arg12 fullShare xi8 ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg10.view.loc (c : Thread nD τ) ↦[arg10.view.set]{fullShare} arg10.view.writes (Elt F) f L6) ∗ owns (c : Thread nD τ) arg11 fullShare xi7 ∗ owns (c : Thread nD τ) arg12 fullShare xi8 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0_mla_attn_bwd i arg3 harg3 arg4 harg4 arg5 harg5 arg6 harg6 arg7 harg7 arg8 harg8 (Memref.whole main_v50) (Memref.isWhole_whole _) arg10 harg10 arg11 harg11 arg12 harg12 arg13 harg13 arg14 harg14) K } := by
  refine ⟨?_, [], [], ?_, ?_, fun xi7 xi8 E K => ?run⟩
  case run =>
    simp only [cc0_mla_attn_bwd_eq_skeleton]; unfold cc0_mla_attn_bwd_skel
    simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg11.eq_unread hf7; obtain rfl := harg12.eq_unread hf8
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]
    · iexists _; isplitr; · ipureintro; exact harg11.read_unread _
      iexact H7
    isplitl [H8]
    · iexists _; isplitr; · ipureintro; exact harg12.read_unread _
      iexact H8
    isplitl [HS0]; · iexists _; iexact HS0
    iexists _; iexact HS1

end Cert.KernelIdeal.Bwd

end
-- ==== Proof.Bwd.RunB.lean ====
module

public import proofs.«01_k».proof.Proof.Bwd.RunA

/-! The body of the attention backward kernel run in case B of its conditions. -/

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run in case B: the pieces it stores, with the proof that it runs. -/
noncomputable def kernelRun0_B (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x8x1024 .f32) (harg7 : arg7.IsWhole) (arg8 : Memref sig .tc .vmem S1x8x1024 .f32) (harg8 : arg8.IsWhole) (arg10 : Memref sig .tc .vmem S4096x512 .f32) (harg10 : arg10.IsWhole) (arg11 : Memref sig .tc .vmem S1024x512 .f32) (harg11 : arg11.IsWhole) (arg12 : Memref sig .tc .vmem S1024x512 .bf16) (harg12 : arg12.IsWhole) (arg13 : Memref sig .tc .vmem S1024x512 .f32) (harg13 : arg13.IsWhole) (arg14 : Memref sig .tc .vmem S1024x512 .f32) (harg14 : arg14.IsWhole) (hc0 : ¬cond0_0 i) (hc1 : ¬cond0_1 i) (hc2 : cond0_2 i) (hc3 : ¬cond0_3 i) (hc4 : ¬cond0_4 i)
    (x0 : Vec F S1024x512 .bf16) (x1 : Vec F S1024x512 .bf16) (x2 : Vec F S1024x512 .bf16) (x3 : Vec F S1024x512 .bf16) (x4 : Vec F S1x8x1024 .f32) (x5 : Vec F S1x8x1024 .f32) (xo6 : Vec F S4096x512 .f32) (xs0 : Vec F S1024x512 .f32) (xs1 : Vec F S1024x512 .f32) :
    Σ' (L6 : List (View.Piece (Elt F) S4096x512 .f32)), Σ' (L7 : List (View.Piece (Elt F) S1024x512 .f32)), Σ' (L8 : List (View.Piece (Elt F) S1024x512 .bf16)), Σ' (LS0 : List (View.Piece (Elt F) S1024x512 .f32)), { LS1 : List (View.Piece (Elt F) S1024x512 .f32) //
      ∀ (xi7 : Vec F S1024x512 .f32) (xi8 : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg10 fullShare xo6 ∗ owns (c : Thread nD τ) arg11 fullShare xi7 ∗ owns (c : Thread nD τ) arg12 fullShare xi8 ∗ owns (c : Thread nD τ) arg13 fullShare xs0 ∗ owns (c : Thread nD τ) arg14 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (arg10.view.loc (c : Thread nD τ) ↦[arg10.view.set]{fullShare} arg10.view.writes (Elt F) (harg10.unread xo6) L6) ∗ owns (c : Thread nD τ) arg11 fullShare xi7 ∗ owns (c : Thread nD τ) arg12 fullShare xi8 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0_mla_attn_bwd i arg3 harg3 arg4 harg4 arg5 harg5 arg6 harg6 arg7 harg7 arg8 harg8 (Memref.whole main_v50) (Memref.isWhole_whole _) arg10 harg10 arg11 harg11 arg12 harg12 arg13 harg13 arg14 harg14) K } := by
  refine ⟨?_, [], [], ?_, ?_, fun xi7 xi8 E K => ?run⟩
  case run =>
    simp only [cc0_mla_attn_bwd_eq_skeleton]; unfold cc0_mla_attn_bwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hf6; obtain rfl := harg11.eq_unread hf7; obtain rfl := harg12.eq_unread hf8; obtain rfl := harg13.eq_unread hfs0; obtain rfl := harg14.eq_unread hfs1
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexact H6
    isplitl [H7]
    · iexists _; isplitr; · ipureintro; exact harg11.read_unread _
      iexact H7
    isplitl [H8]
    · iexists _; isplitr; · ipureintro; exact harg12.read_unread _
      iexact H8
    isplitl [HS0]; · iexists _; iexact HS0
    iexists _; iexact HS1

end Cert.KernelIdeal.Bwd

end
-- ==== Proof.Bwd.RunC.lean ====
module

public import proofs.«01_k».proof.Proof.Bwd.RunB

/-! The body of the attention backward kernel run in case C of its conditions. -/

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run in case C: the pieces it stores, with the proof that it runs. -/
noncomputable def kernelRun0_C (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x8x1024 .f32) (harg7 : arg7.IsWhole) (arg8 : Memref sig .tc .vmem S1x8x1024 .f32) (harg8 : arg8.IsWhole) (arg10 : Memref sig .tc .vmem S4096x512 .f32) (harg10 : arg10.IsWhole) (arg11 : Memref sig .tc .vmem S1024x512 .f32) (harg11 : arg11.IsWhole) (arg12 : Memref sig .tc .vmem S1024x512 .bf16) (harg12 : arg12.IsWhole) (arg13 : Memref sig .tc .vmem S1024x512 .f32) (harg13 : arg13.IsWhole) (arg14 : Memref sig .tc .vmem S1024x512 .f32) (harg14 : arg14.IsWhole) (hc0 : ¬cond0_0 i) (hc1 : ¬cond0_1 i) (hc2 : cond0_2 i) (hc3 : ¬cond0_3 i) (hc4 : cond0_4 i)
    (x0 : Vec F S1024x512 .bf16) (x1 : Vec F S1024x512 .bf16) (x2 : Vec F S1024x512 .bf16) (x3 : Vec F S1024x512 .bf16) (x4 : Vec F S1x8x1024 .f32) (x5 : Vec F S1x8x1024 .f32) (xo6 : Vec F S4096x512 .f32) (xs0 : Vec F S1024x512 .f32) (xs1 : Vec F S1024x512 .f32) :
    Σ' (L6 : List (View.Piece (Elt F) S4096x512 .f32)), Σ' (L7 : List (View.Piece (Elt F) S1024x512 .f32)), Σ' (L8 : List (View.Piece (Elt F) S1024x512 .bf16)), Σ' (LS0 : List (View.Piece (Elt F) S1024x512 .f32)), { LS1 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg10 fullShare xo6 ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (arg10.view.loc (c : Thread nD τ) ↦[arg10.view.set]{fullShare} arg10.view.writes (Elt F) (harg10.unread xo6) L6) ∗ (∃ f, arg11.view.loc (c : Thread nD τ) ↦[arg11.view.set]{fullShare} arg11.view.writes (Elt F) f L7) ∗ (∃ f, arg12.view.loc (c : Thread nD τ) ↦[arg12.view.set]{fullShare} arg12.view.writes (Elt F) f L8) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0_mla_attn_bwd i arg3 harg3 arg4 harg4 arg5 harg5 arg6 harg6 arg7 harg7 arg8 harg8 (Memref.whole main_v50) (Memref.isWhole_whole _) arg10 harg10 arg11 harg11 arg12 harg12 arg13 harg13 arg14 harg14) K } := by
  refine ⟨?_, ?_, ?_, ?_, ?_, fun E K => ?run⟩
  case run =>
    simp only [cc0_mla_attn_bwd_eq_skeleton]; unfold cc0_mla_attn_bwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hf6; obtain rfl := harg13.eq_unread hfs0; obtain rfl := harg14.eq_unread hfs1
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexact H6
    isplitl [H7]; · iexists _; iexact H7
    isplitl [H8]; · iexists _; iexact H8
    isplitl [HS0]; · iexists _; iexact HS0
    iexists _; iexact HS1

end Cert.KernelIdeal.Bwd

end
-- ==== Proof.Bwd.RunD.lean ====
module

public import proofs.«01_k».proof.Proof.Bwd.RunC

/-! The body of the attention backward kernel run in case D of its conditions. -/

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run in case D: the pieces it stores, with the proof that it runs. -/
noncomputable def kernelRun0_D (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x8x1024 .f32) (harg7 : arg7.IsWhole) (arg8 : Memref sig .tc .vmem S1x8x1024 .f32) (harg8 : arg8.IsWhole) (arg10 : Memref sig .tc .vmem S4096x512 .f32) (harg10 : arg10.IsWhole) (arg11 : Memref sig .tc .vmem S1024x512 .f32) (harg11 : arg11.IsWhole) (arg12 : Memref sig .tc .vmem S1024x512 .bf16) (harg12 : arg12.IsWhole) (arg13 : Memref sig .tc .vmem S1024x512 .f32) (harg13 : arg13.IsWhole) (arg14 : Memref sig .tc .vmem S1024x512 .f32) (harg14 : arg14.IsWhole) (hc0 : ¬cond0_0 i) (hc1 : cond0_1 i) (hc2 : ¬cond0_2 i) (hc3 : ¬cond0_3 i) (hc4 : ¬cond0_4 i)
    (x0 : Vec F S1024x512 .bf16) (x1 : Vec F S1024x512 .bf16) (x2 : Vec F S1024x512 .bf16) (x3 : Vec F S1024x512 .bf16) (x4 : Vec F S1x8x1024 .f32) (x5 : Vec F S1x8x1024 .f32) :
    Σ' (L6 : List (View.Piece (Elt F) S4096x512 .f32)), Σ' (L7 : List (View.Piece (Elt F) S1024x512 .f32)), Σ' (L8 : List (View.Piece (Elt F) S1024x512 .bf16)), Σ' (LS0 : List (View.Piece (Elt F) S1024x512 .f32)), { LS1 : List (View.Piece (Elt F) S1024x512 .f32) //
      ∀ (xi6 : Vec F S4096x512 .f32) (xi7 : Vec F S1024x512 .f32) (xi8 : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg10 fullShare xi6 ∗ owns (c : Thread nD τ) arg11 fullShare xi7 ∗ owns (c : Thread nD τ) arg12 fullShare xi8 ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg10 fullShare xi6 ∗ owns (c : Thread nD τ) arg11 fullShare xi7 ∗ owns (c : Thread nD τ) arg12 fullShare xi8 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0_mla_attn_bwd i arg3 harg3 arg4 harg4 arg5 harg5 arg6 harg6 arg7 harg7 arg8 harg8 (Memref.whole main_v50) (Memref.isWhole_whole _) arg10 harg10 arg11 harg11 arg12 harg12 arg13 harg13 arg14 harg14) K } := by
  refine ⟨[], [], [], ?_, ?_, fun xi6 xi7 xi8 E K => ?run⟩
  case run =>
    simp only [cc0_mla_attn_bwd_eq_skeleton]; unfold cc0_mla_attn_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hf6; obtain rfl := harg11.eq_unread hf7; obtain rfl := harg12.eq_unread hf8
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [HS0]; · iexists _; iexact HS0
    iexists _; iexact HS1

end Cert.KernelIdeal.Bwd

end
-- ==== Proof.Bwd.RunE.lean ====
module

public import proofs.«01_k».proof.Proof.Bwd.RunD

/-! The body of the attention backward kernel run in case E of its conditions. -/

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run in case E: the pieces it stores, with the proof that it runs. -/
noncomputable def kernelRun0_E (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x8x1024 .f32) (harg7 : arg7.IsWhole) (arg8 : Memref sig .tc .vmem S1x8x1024 .f32) (harg8 : arg8.IsWhole) (arg10 : Memref sig .tc .vmem S4096x512 .f32) (harg10 : arg10.IsWhole) (arg11 : Memref sig .tc .vmem S1024x512 .f32) (harg11 : arg11.IsWhole) (arg12 : Memref sig .tc .vmem S1024x512 .bf16) (harg12 : arg12.IsWhole) (arg13 : Memref sig .tc .vmem S1024x512 .f32) (harg13 : arg13.IsWhole) (arg14 : Memref sig .tc .vmem S1024x512 .f32) (harg14 : arg14.IsWhole) (hc0 : ¬cond0_0 i) (hc1 : ¬cond0_1 i) (hc2 : ¬cond0_2 i) (hc3 : cond0_3 i) (hc4 : ¬cond0_4 i)
    (x0 : Vec F S1024x512 .bf16) (x1 : Vec F S1024x512 .bf16) (x2 : Vec F S1024x512 .bf16) (x3 : Vec F S1024x512 .bf16) (x4 : Vec F S1x8x1024 .f32) (x5 : Vec F S1x8x1024 .f32) (xo6 : Vec F S4096x512 .f32) (xs0 : Vec F S1024x512 .f32) (xs1 : Vec F S1024x512 .f32) :
    Σ' (L6 : List (View.Piece (Elt F) S4096x512 .f32)), Σ' (L7 : List (View.Piece (Elt F) S1024x512 .f32)), Σ' (L8 : List (View.Piece (Elt F) S1024x512 .bf16)), Σ' (LS0 : List (View.Piece (Elt F) S1024x512 .f32)), { LS1 : List (View.Piece (Elt F) S1024x512 .f32) //
      ∀ (xi7 : Vec F S1024x512 .f32) (xi8 : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg10 fullShare xo6 ∗ owns (c : Thread nD τ) arg11 fullShare xi7 ∗ owns (c : Thread nD τ) arg12 fullShare xi8 ∗ owns (c : Thread nD τ) arg13 fullShare xs0 ∗ owns (c : Thread nD τ) arg14 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (arg10.view.loc (c : Thread nD τ) ↦[arg10.view.set]{fullShare} arg10.view.writes (Elt F) (harg10.unread xo6) L6) ∗ owns (c : Thread nD τ) arg11 fullShare xi7 ∗ owns (c : Thread nD τ) arg12 fullShare xi8 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0_mla_attn_bwd i arg3 harg3 arg4 harg4 arg5 harg5 arg6 harg6 arg7 harg7 arg8 harg8 (Memref.whole main_v50) (Memref.isWhole_whole _) arg10 harg10 arg11 harg11 arg12 harg12 arg13 harg13 arg14 harg14) K } := by
  refine ⟨?_, [], [], ?_, ?_, fun xi7 xi8 E K => ?run⟩
  case run =>
    simp only [cc0_mla_attn_bwd_eq_skeleton]; unfold cc0_mla_attn_bwd_skel
    simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hf6; obtain rfl := harg11.eq_unread hf7; obtain rfl := harg12.eq_unread hf8; obtain rfl := harg13.eq_unread hfs0; obtain rfl := harg14.eq_unread hfs1
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexact H6
    isplitl [H7]
    · iexists _; isplitr; · ipureintro; exact harg11.read_unread _
      iexact H7
    isplitl [H8]
    · iexists _; isplitr; · ipureintro; exact harg12.read_unread _
      iexact H8
    isplitl [HS0]; · iexists _; iexact HS0
    iexists _; iexact HS1

end Cert.KernelIdeal.Bwd

end
-- ==== Proof.Bwd.RunF.lean ====
module

public import proofs.«01_k».proof.Proof.Bwd.RunE

/-! The body of the attention backward kernel run in case F of its conditions. -/

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run in case F: the pieces it stores, with the proof that it runs. -/
noncomputable def kernelRun0_F (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x8x1024 .f32) (harg7 : arg7.IsWhole) (arg8 : Memref sig .tc .vmem S1x8x1024 .f32) (harg8 : arg8.IsWhole) (arg10 : Memref sig .tc .vmem S4096x512 .f32) (harg10 : arg10.IsWhole) (arg11 : Memref sig .tc .vmem S1024x512 .f32) (harg11 : arg11.IsWhole) (arg12 : Memref sig .tc .vmem S1024x512 .bf16) (harg12 : arg12.IsWhole) (arg13 : Memref sig .tc .vmem S1024x512 .f32) (harg13 : arg13.IsWhole) (arg14 : Memref sig .tc .vmem S1024x512 .f32) (harg14 : arg14.IsWhole) (hc0 : ¬cond0_0 i) (hc1 : ¬cond0_1 i) (hc2 : ¬cond0_2 i) (hc3 : ¬cond0_3 i) (hc4 : ¬cond0_4 i)
    (x0 : Vec F S1024x512 .bf16) (x1 : Vec F S1024x512 .bf16) (x2 : Vec F S1024x512 .bf16) (x3 : Vec F S1024x512 .bf16) (x4 : Vec F S1x8x1024 .f32) (x5 : Vec F S1x8x1024 .f32) (xs0 : Vec F S1024x512 .f32) (xs1 : Vec F S1024x512 .f32) :
    Σ' (L6 : List (View.Piece (Elt F) S4096x512 .f32)), Σ' (L7 : List (View.Piece (Elt F) S1024x512 .f32)), Σ' (L8 : List (View.Piece (Elt F) S1024x512 .bf16)), Σ' (LS0 : List (View.Piece (Elt F) S1024x512 .f32)), { LS1 : List (View.Piece (Elt F) S1024x512 .f32) //
      ∀ (xi6 : Vec F S4096x512 .f32) (xi7 : Vec F S1024x512 .f32) (xi8 : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg10 fullShare xi6 ∗ owns (c : Thread nD τ) arg11 fullShare xi7 ∗ owns (c : Thread nD τ) arg12 fullShare xi8 ∗ owns (c : Thread nD τ) arg13 fullShare xs0 ∗ owns (c : Thread nD τ) arg14 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg10 fullShare xi6 ∗ owns (c : Thread nD τ) arg11 fullShare xi7 ∗ owns (c : Thread nD τ) arg12 fullShare xi8 ∗ owns (c : Thread nD τ) arg13 fullShare xs0 ∗ owns (c : Thread nD τ) arg14 fullShare xs1) -∗ K ⟨⟩))
          ⊢ wp frame (wpE (defs₀ (F := F)) Variants.none c none) E (cc0_mla_attn_bwd i arg3 harg3 arg4 harg4 arg5 harg5 arg6 harg6 arg7 harg7 arg8 harg8 (Memref.whole main_v50) (Memref.isWhole_whole _) arg10 harg10 arg11 harg11 arg12 harg12 arg13 harg13 arg14 harg14) K } := by
  refine ⟨[], [], [], [], [], fun xi6 xi7 xi8 E K => ?run⟩
  case run =>
    simp only [cc0_mla_attn_bwd_eq_skeleton]; unfold cc0_mla_attn_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hf6; obtain rfl := harg11.eq_unread hf7; obtain rfl := harg12.eq_unread hf8; obtain rfl := harg13.eq_unread hfs0; obtain rfl := harg14.eq_unread hfs1
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [HS0]
    · iexists _; isplitr; · ipureintro; exact harg13.read_unread _
      iexact HS0
    iexists _; isplitr; · ipureintro; exact harg14.read_unread _
    iexact HS1

end Cert.KernelIdeal.Bwd

end
-- ==== Proof.Bwd.RunG.lean ====
module

public import proofs.«01_k».proof.Proof.Bwd.RunF

/-! The body of the attention backward kernel run in case G of its conditions. -/

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run in case G: the pieces it stores, with the proof that it runs. -/
noncomputable def kernelRun0_G (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x8x1024 .f32) (harg7 : arg7.IsWhole) (arg8 : Memref sig .tc .vmem S1x8x1024 .f32) (harg8 : arg8.IsWhole) (arg10 : Memref sig .tc .vmem S4096x512 .f32) (harg10 : arg10.IsWhole) (arg11 : Memref sig .tc .vmem S1024x512 .f32) (harg11 : arg11.IsWhole) (arg12 : Memref sig .tc .vmem S1024x512 .bf16) (harg12 : arg12.IsWhole) (arg13 : Memref sig .tc .vmem S1024x512 .f32) (harg13 : arg13.IsWhole) (arg14 : Memref sig .tc .vmem S1024x512 .f32) (harg14 : arg14.IsWhole) (hc0 : ¬cond0_0 i) (hc1 : ¬cond0_1 i) (hc2 : ¬cond0_2 i) (hc3 : cond0_3 i) (hc4 : cond0_4 i)
    (x0 : Vec F S1024x512 .bf16) (x1 : Vec F S1024x512 .bf16) (x2 : Vec F S1024x512 .bf16) (x3 : Vec F S1024x512 .bf16) (x4 : Vec F S1x8x1024 .f32) (x5 : Vec F S1x8x1024 .f32) (xo6 : Vec F S4096x512 .f32) (xs0 : Vec F S1024x512 .f32) (xs1 : Vec F S1024x512 .f32) :
    Σ' (L6 : List (View.Piece (Elt F) S4096x512 .f32)), Σ' (L7 : List (View.Piece (Elt F) S1024x512 .f32)), Σ' (L8 : List (View.Piece (Elt F) S1024x512 .bf16)), Σ' (LS0 : List (View.Piece (Elt F) S1024x512 .f32)), { LS1 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg10 fullShare xo6 ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (arg10.view.loc (c : Thread nD τ) ↦[arg10.view.set]{fullShare} arg10.view.writes (Elt F) (harg10.unread xo6) L6) ∗ (∃ f, arg11.view.loc (c : Thread nD τ) ↦[arg11.view.set]{fullShare} arg11.view.writes (Elt F) f L7) ∗ (∃ f, arg12.view.loc (c : Thread nD τ) ↦[arg12.view.set]{fullShare} arg12.view.writes (Elt F) f L8) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0_mla_attn_bwd i arg3 harg3 arg4 harg4 arg5 harg5 arg6 harg6 arg7 harg7 arg8 harg8 (Memref.whole main_v50) (Memref.isWhole_whole _) arg10 harg10 arg11 harg11 arg12 harg12 arg13 harg13 arg14 harg14) K } := by
  refine ⟨?_, ?_, ?_, ?_, ?_, fun E K => ?run⟩
  case run =>
    simp only [cc0_mla_attn_bwd_eq_skeleton]; unfold cc0_mla_attn_bwd_skel
    simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hf6; obtain rfl := harg13.eq_unread hfs0; obtain rfl := harg14.eq_unread hfs1
    sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexact H6
    isplitl [H7]; · iexists _; iexact H7
    isplitl [H8]; · iexists _; iexact H8
    isplitl [HS0]; · iexists _; iexact HS0
    iexists _; iexact HS1

end Cert.KernelIdeal.Bwd

end
-- ==== Proof.Bwd.Outs.lean ====
module

public import proofs.«01_k».proof.Proof.Bwd.RunG
public import Idealize.ShloMosaic.Lib.Claim

/-! What each case of the body leaves in the outputs and the accumulators. -/

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

variable (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x8x1024 .f32) (harg7 : arg7.IsWhole) (arg8 : Memref sig .tc .vmem S1x8x1024 .f32) (harg8 : arg8.IsWhole) (arg10 : Memref sig .tc .vmem S4096x512 .f32) (harg10 : arg10.IsWhole) (arg11 : Memref sig .tc .vmem S1024x512 .f32) (harg11 : arg11.IsWhole) (arg12 : Memref sig .tc .vmem S1024x512 .bf16) (harg12 : arg12.IsWhole) (arg13 : Memref sig .tc .vmem S1024x512 .f32) (harg13 : arg13.IsWhole) (arg14 : Memref sig .tc .vmem S1024x512 .f32) (harg14 : arg14.IsWhole)

section

variable (hc0 : cond0_0 i) (hc1 : cond0_1 i) (hc2 : ¬cond0_2 i) (hc3 : cond0_3 i) (hc4 : ¬cond0_4 i)
    (x0 : Vec F S1024x512 .bf16) (x1 : Vec F S1024x512 .bf16) (x2 : Vec F S1024x512 .bf16) (x3 : Vec F S1024x512 .bf16) (x4 : Vec F S1x8x1024 .f32) (x5 : Vec F S1x8x1024 .f32)

/-- The stores of case A cover output 6. -/
theorem cover0_A_6 (y : S4096x512.Idx) :
    ∃ pc ∈ (kernelRun0_A c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5).1, y ∈ pc.1.set :=
  View.cover_of_wholeMem (kernelRun0_A c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5).1 (by sl_whole_mem) y

/-- What case A leaves in output 6. -/
def out0_A_6 : Vec F S4096x512 .f32 :=
  VO0_6.read (Elt F) (VO0_6.writes (Elt F) VO0_6.junk (kernelRun0_A c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5).1)

/-- What case A leaves in output 7. -/
def out0_A_7 : Vec F S1024x512 .f32 :=
  VO0_7.read (Elt F) (VO0_7.writes (Elt F) VO0_7.junk (kernelRun0_A c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5).2.1)

/-- What case A leaves in output 8. -/
def out0_A_8 : Vec F S1024x512 .bf16 :=
  VO0_8.read (Elt F) (VO0_8.writes (Elt F) VO0_8.junk (kernelRun0_A c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5).2.2.1)

/-- The stores of case A cover accumulator 0. -/
theorem scover0_A_0 (y : S1024x512.Idx) :
    ∃ pc ∈ (kernelRun0_A c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5).2.2.2.1, y ∈ pc.1.set :=
  View.cover_of_wholeMem (kernelRun0_A c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5).2.2.2.1 (by sl_whole_mem) y

/-- What case A leaves in accumulator 0. -/
def sout0_A_0 : Vec F S1024x512 .f32 :=
  VS0_0.read (Elt F) (VS0_0.writes (Elt F) VS0_0.junk (kernelRun0_A c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5).2.2.2.1)

/-- The stores of case A cover accumulator 1. -/
theorem scover0_A_1 (y : S1024x512.Idx) :
    ∃ pc ∈ (kernelRun0_A c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5).2.2.2.2.1, y ∈ pc.1.set :=
  View.cover_of_wholeMem (kernelRun0_A c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5).2.2.2.2.1 (by sl_whole_mem) y

/-- What case A leaves in accumulator 1. -/
def sout0_A_1 : Vec F S1024x512 .f32 :=
  VS0_1.read (Elt F) (VS0_1.writes (Elt F) VS0_1.junk (kernelRun0_A c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5).2.2.2.2.1)

end

section

variable (hc0 : ¬cond0_0 i) (hc1 : ¬cond0_1 i) (hc2 : cond0_2 i) (hc3 : ¬cond0_3 i) (hc4 : ¬cond0_4 i)
    (x0 : Vec F S1024x512 .bf16) (x1 : Vec F S1024x512 .bf16) (x2 : Vec F S1024x512 .bf16) (x3 : Vec F S1024x512 .bf16) (x4 : Vec F S1x8x1024 .f32) (x5 : Vec F S1x8x1024 .f32) (xo6 : Vec F S4096x512 .f32) (xs0 : Vec F S1024x512 .f32) (xs1 : Vec F S1024x512 .f32)

/-- What case B leaves in output 6. -/
def out0_B_6 : Vec F S4096x512 .f32 :=
  arg10.view.read (Elt F) (arg10.view.writes (Elt F) (harg10.unread xo6) (kernelRun0_B c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).1)

/-- What case B leaves in output 7. -/
def out0_B_7 : Vec F S1024x512 .f32 :=
  VO0_7.read (Elt F) (VO0_7.writes (Elt F) VO0_7.junk (kernelRun0_B c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.1)

/-- What case B leaves in output 8. -/
def out0_B_8 : Vec F S1024x512 .bf16 :=
  VO0_8.read (Elt F) (VO0_8.writes (Elt F) VO0_8.junk (kernelRun0_B c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.1)

/-- The stores of case B cover accumulator 0. -/
theorem scover0_B_0 (y : S1024x512.Idx) :
    ∃ pc ∈ (kernelRun0_B c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.2.1, y ∈ pc.1.set :=
  View.cover_of_tiledL (kernelRun0_B c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.2.1 S1024x128.size (by sl_kernel_rfl) y

/-- What case B leaves in accumulator 0. -/
def sout0_B_0 : Vec F S1024x512 .f32 :=
  VS0_0.read (Elt F) (VS0_0.writes (Elt F) VS0_0.junk (kernelRun0_B c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.2.1)

/-- The stores of case B cover accumulator 1. -/
theorem scover0_B_1 (y : S1024x512.Idx) :
    ∃ pc ∈ (kernelRun0_B c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.2.2.1, y ∈ pc.1.set :=
  View.cover_of_tiledL (kernelRun0_B c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.2.2.1 S1024x128.size (by sl_kernel_rfl) y

/-- What case B leaves in accumulator 1. -/
def sout0_B_1 : Vec F S1024x512 .f32 :=
  VS0_1.read (Elt F) (VS0_1.writes (Elt F) VS0_1.junk (kernelRun0_B c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.2.2.1)

end

section

variable (hc0 : ¬cond0_0 i) (hc1 : ¬cond0_1 i) (hc2 : cond0_2 i) (hc3 : ¬cond0_3 i) (hc4 : cond0_4 i)
    (x0 : Vec F S1024x512 .bf16) (x1 : Vec F S1024x512 .bf16) (x2 : Vec F S1024x512 .bf16) (x3 : Vec F S1024x512 .bf16) (x4 : Vec F S1x8x1024 .f32) (x5 : Vec F S1x8x1024 .f32) (xo6 : Vec F S4096x512 .f32) (xs0 : Vec F S1024x512 .f32) (xs1 : Vec F S1024x512 .f32)

/-- What case C leaves in output 6. -/
def out0_C_6 : Vec F S4096x512 .f32 :=
  arg10.view.read (Elt F) (arg10.view.writes (Elt F) (harg10.unread xo6) (kernelRun0_C c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).1)

/-- The stores of case C cover output 7. -/
theorem cover0_C_7 (y : S1024x512.Idx) :
    ∃ pc ∈ (kernelRun0_C c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.1, y ∈ pc.1.set :=
  View.cover_of_tiledL (kernelRun0_C c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.1 S1024x512.size (by sl_kernel_rfl) y

/-- What case C leaves in output 7. -/
def out0_C_7 : Vec F S1024x512 .f32 :=
  VO0_7.read (Elt F) (VO0_7.writes (Elt F) VO0_7.junk (kernelRun0_C c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.1)

/-- The stores of case C cover output 8. -/
theorem cover0_C_8 (y : S1024x512.Idx) :
    ∃ pc ∈ (kernelRun0_C c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.1, y ∈ pc.1.set :=
  View.cover_of_tiledL (kernelRun0_C c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.1 S1024x512.size (by sl_kernel_rfl) y

/-- What case C leaves in output 8. -/
def out0_C_8 : Vec F S1024x512 .bf16 :=
  VO0_8.read (Elt F) (VO0_8.writes (Elt F) VO0_8.junk (kernelRun0_C c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.1)

/-- The stores of case C cover accumulator 0. -/
theorem scover0_C_0 (y : S1024x512.Idx) :
    ∃ pc ∈ (kernelRun0_C c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.2.1, y ∈ pc.1.set :=
  View.cover_of_tiledL (kernelRun0_C c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.2.1 S1024x128.size (by sl_kernel_rfl) y

/-- What case C leaves in accumulator 0. -/
def sout0_C_0 : Vec F S1024x512 .f32 :=
  VS0_0.read (Elt F) (VS0_0.writes (Elt F) VS0_0.junk (kernelRun0_C c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.2.1)

/-- The stores of case C cover accumulator 1. -/
theorem scover0_C_1 (y : S1024x512.Idx) :
    ∃ pc ∈ (kernelRun0_C c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.2.2.1, y ∈ pc.1.set :=
  View.cover_of_tiledL (kernelRun0_C c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.2.2.1 S1024x128.size (by sl_kernel_rfl) y

/-- What case C leaves in accumulator 1. -/
def sout0_C_1 : Vec F S1024x512 .f32 :=
  VS0_1.read (Elt F) (VS0_1.writes (Elt F) VS0_1.junk (kernelRun0_C c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.2.2.1)

end

section

variable (hc0 : ¬cond0_0 i) (hc1 : cond0_1 i) (hc2 : ¬cond0_2 i) (hc3 : ¬cond0_3 i) (hc4 : ¬cond0_4 i)
    (x0 : Vec F S1024x512 .bf16) (x1 : Vec F S1024x512 .bf16) (x2 : Vec F S1024x512 .bf16) (x3 : Vec F S1024x512 .bf16) (x4 : Vec F S1x8x1024 .f32) (x5 : Vec F S1x8x1024 .f32)

/-- What case D leaves in output 6. -/
def out0_D_6 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x8x1024 .f32) (harg7 : arg7.IsWhole) (arg8 : Memref sig .tc .vmem S1x8x1024 .f32) (harg8 : arg8.IsWhole) (arg10 : Memref sig .tc .vmem S4096x512 .f32) (harg10 : arg10.IsWhole) (arg11 : Memref sig .tc .vmem S1024x512 .f32) (harg11 : arg11.IsWhole) (arg12 : Memref sig .tc .vmem S1024x512 .bf16) (harg12 : arg12.IsWhole) (arg13 : Memref sig .tc .vmem S1024x512 .f32) (harg13 : arg13.IsWhole) (arg14 : Memref sig .tc .vmem S1024x512 .f32) (harg14 : arg14.IsWhole) (hc0 : ¬cond0_0 i) (hc1 : cond0_1 i) (hc2 : ¬cond0_2 i) (hc3 : ¬cond0_3 i) (hc4 : ¬cond0_4 i)
    (x0 : Vec F S1024x512 .bf16) (x1 : Vec F S1024x512 .bf16) (x2 : Vec F S1024x512 .bf16) (x3 : Vec F S1024x512 .bf16) (x4 : Vec F S1x8x1024 .f32) (x5 : Vec F S1x8x1024 .f32) (xo6 : Vec F S4096x512 .f32) : Vec F S4096x512 .f32 := xo6

/-- What case D leaves in output 7. -/
def out0_D_7 : Vec F S1024x512 .f32 :=
  VO0_7.read (Elt F) (VO0_7.writes (Elt F) VO0_7.junk (kernelRun0_D c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5).2.1)

/-- What case D leaves in output 8. -/
def out0_D_8 : Vec F S1024x512 .bf16 :=
  VO0_8.read (Elt F) (VO0_8.writes (Elt F) VO0_8.junk (kernelRun0_D c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5).2.2.1)

/-- The stores of case D cover accumulator 0. -/
theorem scover0_D_0 (y : S1024x512.Idx) :
    ∃ pc ∈ (kernelRun0_D c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5).2.2.2.1, y ∈ pc.1.set :=
  View.cover_of_tiledL (kernelRun0_D c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5).2.2.2.1 S1024x512.size (by sl_kernel_rfl) y

/-- What case D leaves in accumulator 0. -/
def sout0_D_0 : Vec F S1024x512 .f32 :=
  VS0_0.read (Elt F) (VS0_0.writes (Elt F) VS0_0.junk (kernelRun0_D c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5).2.2.2.1)

/-- The stores of case D cover accumulator 1. -/
theorem scover0_D_1 (y : S1024x512.Idx) :
    ∃ pc ∈ (kernelRun0_D c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5).2.2.2.2.1, y ∈ pc.1.set :=
  View.cover_of_tiledL (kernelRun0_D c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5).2.2.2.2.1 S1024x512.size (by sl_kernel_rfl) y

/-- What case D leaves in accumulator 1. -/
def sout0_D_1 : Vec F S1024x512 .f32 :=
  VS0_1.read (Elt F) (VS0_1.writes (Elt F) VS0_1.junk (kernelRun0_D c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5).2.2.2.2.1)

end

section

variable (hc0 : ¬cond0_0 i) (hc1 : ¬cond0_1 i) (hc2 : ¬cond0_2 i) (hc3 : cond0_3 i) (hc4 : ¬cond0_4 i)
    (x0 : Vec F S1024x512 .bf16) (x1 : Vec F S1024x512 .bf16) (x2 : Vec F S1024x512 .bf16) (x3 : Vec F S1024x512 .bf16) (x4 : Vec F S1x8x1024 .f32) (x5 : Vec F S1x8x1024 .f32) (xo6 : Vec F S4096x512 .f32) (xs0 : Vec F S1024x512 .f32) (xs1 : Vec F S1024x512 .f32)

/-- What case E leaves in output 6. -/
def out0_E_6 : Vec F S4096x512 .f32 :=
  arg10.view.read (Elt F) (arg10.view.writes (Elt F) (harg10.unread xo6) (kernelRun0_E c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).1)

/-- What case E leaves in output 7. -/
def out0_E_7 : Vec F S1024x512 .f32 :=
  VO0_7.read (Elt F) (VO0_7.writes (Elt F) VO0_7.junk (kernelRun0_E c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.1)

/-- What case E leaves in output 8. -/
def out0_E_8 : Vec F S1024x512 .bf16 :=
  VO0_8.read (Elt F) (VO0_8.writes (Elt F) VO0_8.junk (kernelRun0_E c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.1)

/-- The stores of case E cover accumulator 0. -/
theorem scover0_E_0 (y : S1024x512.Idx) :
    ∃ pc ∈ (kernelRun0_E c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.2.1, y ∈ pc.1.set :=
  View.cover_of_tiledL (kernelRun0_E c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.2.1 S512x128.size (by sl_kernel_rfl) y

/-- What case E leaves in accumulator 0. -/
def sout0_E_0 : Vec F S1024x512 .f32 :=
  VS0_0.read (Elt F) (VS0_0.writes (Elt F) VS0_0.junk (kernelRun0_E c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.2.1)

/-- The stores of case E cover accumulator 1. -/
theorem scover0_E_1 (y : S1024x512.Idx) :
    ∃ pc ∈ (kernelRun0_E c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.2.2.1, y ∈ pc.1.set :=
  View.cover_of_tiledL (kernelRun0_E c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.2.2.1 S512x128.size (by sl_kernel_rfl) y

/-- What case E leaves in accumulator 1. -/
def sout0_E_1 : Vec F S1024x512 .f32 :=
  VS0_1.read (Elt F) (VS0_1.writes (Elt F) VS0_1.junk (kernelRun0_E c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.2.2.1)

end

section

variable (hc0 : ¬cond0_0 i) (hc1 : ¬cond0_1 i) (hc2 : ¬cond0_2 i) (hc3 : ¬cond0_3 i) (hc4 : ¬cond0_4 i)
    (x0 : Vec F S1024x512 .bf16) (x1 : Vec F S1024x512 .bf16) (x2 : Vec F S1024x512 .bf16) (x3 : Vec F S1024x512 .bf16) (x4 : Vec F S1x8x1024 .f32) (x5 : Vec F S1x8x1024 .f32) (xs0 : Vec F S1024x512 .f32) (xs1 : Vec F S1024x512 .f32)

/-- What case F leaves in output 6. -/
def out0_F_6 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x8x1024 .f32) (harg7 : arg7.IsWhole) (arg8 : Memref sig .tc .vmem S1x8x1024 .f32) (harg8 : arg8.IsWhole) (arg10 : Memref sig .tc .vmem S4096x512 .f32) (harg10 : arg10.IsWhole) (arg11 : Memref sig .tc .vmem S1024x512 .f32) (harg11 : arg11.IsWhole) (arg12 : Memref sig .tc .vmem S1024x512 .bf16) (harg12 : arg12.IsWhole) (arg13 : Memref sig .tc .vmem S1024x512 .f32) (harg13 : arg13.IsWhole) (arg14 : Memref sig .tc .vmem S1024x512 .f32) (harg14 : arg14.IsWhole) (hc0 : ¬cond0_0 i) (hc1 : ¬cond0_1 i) (hc2 : ¬cond0_2 i) (hc3 : ¬cond0_3 i) (hc4 : ¬cond0_4 i)
    (x0 : Vec F S1024x512 .bf16) (x1 : Vec F S1024x512 .bf16) (x2 : Vec F S1024x512 .bf16) (x3 : Vec F S1024x512 .bf16) (x4 : Vec F S1x8x1024 .f32) (x5 : Vec F S1x8x1024 .f32) (xs0 : Vec F S1024x512 .f32) (xs1 : Vec F S1024x512 .f32) (xo6 : Vec F S4096x512 .f32) : Vec F S4096x512 .f32 := xo6

/-- What case F leaves in output 7. -/
def out0_F_7 : Vec F S1024x512 .f32 :=
  VO0_7.read (Elt F) (VO0_7.writes (Elt F) VO0_7.junk (kernelRun0_F c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xs0 xs1).2.1)

/-- What case F leaves in output 8. -/
def out0_F_8 : Vec F S1024x512 .bf16 :=
  VO0_8.read (Elt F) (VO0_8.writes (Elt F) VO0_8.junk (kernelRun0_F c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xs0 xs1).2.2.1)

/-- What case F leaves in accumulator 0. -/
def sout0_F_0 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x8x1024 .f32) (harg7 : arg7.IsWhole) (arg8 : Memref sig .tc .vmem S1x8x1024 .f32) (harg8 : arg8.IsWhole) (arg10 : Memref sig .tc .vmem S4096x512 .f32) (harg10 : arg10.IsWhole) (arg11 : Memref sig .tc .vmem S1024x512 .f32) (harg11 : arg11.IsWhole) (arg12 : Memref sig .tc .vmem S1024x512 .bf16) (harg12 : arg12.IsWhole) (arg13 : Memref sig .tc .vmem S1024x512 .f32) (harg13 : arg13.IsWhole) (arg14 : Memref sig .tc .vmem S1024x512 .f32) (harg14 : arg14.IsWhole) (hc0 : ¬cond0_0 i) (hc1 : ¬cond0_1 i) (hc2 : ¬cond0_2 i) (hc3 : ¬cond0_3 i) (hc4 : ¬cond0_4 i)
    (x0 : Vec F S1024x512 .bf16) (x1 : Vec F S1024x512 .bf16) (x2 : Vec F S1024x512 .bf16) (x3 : Vec F S1024x512 .bf16) (x4 : Vec F S1x8x1024 .f32) (x5 : Vec F S1x8x1024 .f32) (xs0 : Vec F S1024x512 .f32) (xs1 : Vec F S1024x512 .f32) : Vec F S1024x512 .f32 := xs0

/-- What case F leaves in accumulator 1. -/
def sout0_F_1 (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1x8x1024 .f32) (harg7 : arg7.IsWhole) (arg8 : Memref sig .tc .vmem S1x8x1024 .f32) (harg8 : arg8.IsWhole) (arg10 : Memref sig .tc .vmem S4096x512 .f32) (harg10 : arg10.IsWhole) (arg11 : Memref sig .tc .vmem S1024x512 .f32) (harg11 : arg11.IsWhole) (arg12 : Memref sig .tc .vmem S1024x512 .bf16) (harg12 : arg12.IsWhole) (arg13 : Memref sig .tc .vmem S1024x512 .f32) (harg13 : arg13.IsWhole) (arg14 : Memref sig .tc .vmem S1024x512 .f32) (harg14 : arg14.IsWhole) (hc0 : ¬cond0_0 i) (hc1 : ¬cond0_1 i) (hc2 : ¬cond0_2 i) (hc3 : ¬cond0_3 i) (hc4 : ¬cond0_4 i)
    (x0 : Vec F S1024x512 .bf16) (x1 : Vec F S1024x512 .bf16) (x2 : Vec F S1024x512 .bf16) (x3 : Vec F S1024x512 .bf16) (x4 : Vec F S1x8x1024 .f32) (x5 : Vec F S1x8x1024 .f32) (xs0 : Vec F S1024x512 .f32) (xs1 : Vec F S1024x512 .f32) : Vec F S1024x512 .f32 := xs1

end

section

variable (hc0 : ¬cond0_0 i) (hc1 : ¬cond0_1 i) (hc2 : ¬cond0_2 i) (hc3 : cond0_3 i) (hc4 : cond0_4 i)
    (x0 : Vec F S1024x512 .bf16) (x1 : Vec F S1024x512 .bf16) (x2 : Vec F S1024x512 .bf16) (x3 : Vec F S1024x512 .bf16) (x4 : Vec F S1x8x1024 .f32) (x5 : Vec F S1x8x1024 .f32) (xo6 : Vec F S4096x512 .f32) (xs0 : Vec F S1024x512 .f32) (xs1 : Vec F S1024x512 .f32)

/-- What case G leaves in output 6. -/
def out0_G_6 : Vec F S4096x512 .f32 :=
  arg10.view.read (Elt F) (arg10.view.writes (Elt F) (harg10.unread xo6) (kernelRun0_G c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).1)

/-- The stores of case G cover output 7. -/
theorem cover0_G_7 (y : S1024x512.Idx) :
    ∃ pc ∈ (kernelRun0_G c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.1, y ∈ pc.1.set :=
  View.cover_of_tiledL (kernelRun0_G c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.1 S1024x512.size (by sl_kernel_rfl) y

/-- What case G leaves in output 7. -/
def out0_G_7 : Vec F S1024x512 .f32 :=
  VO0_7.read (Elt F) (VO0_7.writes (Elt F) VO0_7.junk (kernelRun0_G c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.1)

/-- The stores of case G cover output 8. -/
theorem cover0_G_8 (y : S1024x512.Idx) :
    ∃ pc ∈ (kernelRun0_G c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.1, y ∈ pc.1.set :=
  View.cover_of_tiledL (kernelRun0_G c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.1 S1024x512.size (by sl_kernel_rfl) y

/-- What case G leaves in output 8. -/
def out0_G_8 : Vec F S1024x512 .bf16 :=
  VO0_8.read (Elt F) (VO0_8.writes (Elt F) VO0_8.junk (kernelRun0_G c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.1)

/-- The stores of case G cover accumulator 0. -/
theorem scover0_G_0 (y : S1024x512.Idx) :
    ∃ pc ∈ (kernelRun0_G c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.2.1, y ∈ pc.1.set :=
  View.cover_of_tiledL (kernelRun0_G c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.2.1 S512x128.size (by sl_kernel_rfl) y

/-- What case G leaves in accumulator 0. -/
def sout0_G_0 : Vec F S1024x512 .f32 :=
  VS0_0.read (Elt F) (VS0_0.writes (Elt F) VS0_0.junk (kernelRun0_G c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.2.1)

/-- The stores of case G cover accumulator 1. -/
theorem scover0_G_1 (y : S1024x512.Idx) :
    ∃ pc ∈ (kernelRun0_G c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.2.2.1, y ∈ pc.1.set :=
  View.cover_of_tiledL (kernelRun0_G c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.2.2.1 S512x128.size (by sl_kernel_rfl) y

/-- What case G leaves in accumulator 1. -/
def sout0_G_1 : Vec F S1024x512 .f32 :=
  VS0_1.read (Elt F) (VS0_1.writes (Elt F) VS0_1.junk (kernelRun0_G c i arg3 harg3 arg4 harg4 arg5 harg5 arg6 harg6 arg7 harg7 arg8 harg8 arg10 harg10 arg11 harg11 arg12 harg12 arg13 harg13 arg14 harg14 hc0 hc1 hc2 hc3 hc4 x0 x1 x2 x3 x4 x5 xo6 xs0 xs1).2.2.2.2.1)

end

end Cert.KernelIdeal.Bwd

end
-- ==== Proof.Bwd.After.lean ====
module

public import proofs.«01_k».proof.Proof.Bwd.Outs

/-! What the outputs and the accumulators hold after each point. -/

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The contents after a point of case A. -/
def pointA (c : Dev nD) (t : Fin cfg0.N) (h0 : t.val % 16 = 0) (h1 : t.val % 4 = 0) (h2 : ¬t.val / 4 % 4 + 1 ≤ t.val % 4) (h3 : t.val / 4 % 4 = t.val % 4) (h4 : ¬t.val % 4 = 3) :
    Vec F S4096x512 .f32 × Vec F S1024x512 .f32 × Vec F S1024x512 .bf16 × Vec F S1024x512 .f32 × Vec F S1024x512 .f32 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (on0 h0) (on1 h1) (off2 h2) (on3 h3) (off4 h4) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (on0 h0) (on1 h1) (off2 h2) (on3 h3) (off4 h4) (iblk m c 0 t) (iblk m c 1 t) (iblk m c 2 t) (iblk m c 3 t) (iblk m c 4 t) (iblk m c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (on0 h0) (on1 h1) (off2 h2) (on3 h3) (off4 h4) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (on0 h0) (on1 h1) (off2 h2) (on3 h3) (off4 h4) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (on0 h0) (on1 h1) (off2 h2) (on3 h3) (off4 h4) (iblk m c 0 t) (iblk m c 1 t) (iblk m c 2 t) (iblk m c 3 t) (iblk m c 4 t) (iblk m c 5 t))

/-- The contents after a point of case B, from those before it. -/
def pointB (c : Dev nD) (t : Fin cfg0.N) (h0 : ¬t.val % 16 = 0) (h1 : ¬t.val % 4 = 0) (h2 : t.val / 4 % 4 + 1 ≤ t.val % 4) (h3 : ¬t.val / 4 % 4 = t.val % 4) (h4 : ¬t.val % 4 = 3) (prev : Vec F S4096x512 .f32 × Vec F S1024x512 .f32 × Vec F S1024x512 .bf16 × Vec F S1024x512 .f32 × Vec F S1024x512 .f32) :
    Vec F S4096x512 .f32 × Vec F S1024x512 .f32 × Vec F S1024x512 .bf16 × Vec F S1024x512 .f32 × Vec F S1024x512 .f32 :=
  (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (off0 h0) (off1 h1) (on2 h2) (off3 h3) (off4 h4) (iblk m c 0 t) (iblk m c 1 t) (iblk m c 2 t) (iblk m c 3 t) (iblk m c 4 t) (iblk m c 5 t) prev.1 prev.2.2.2.1 prev.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (off0 h0) (off1 h1) (on2 h2) (off3 h3) (off4 h4) (iblk m c 0 t) (iblk m c 1 t) (iblk m c 2 t) (iblk m c 3 t) (iblk m c 4 t) (iblk m c 5 t) prev.1 prev.2.2.2.1 prev.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (off0 h0) (off1 h1) (on2 h2) (off3 h3) (off4 h4) (iblk m c 0 t) (iblk m c 1 t) (iblk m c 2 t) (iblk m c 3 t) (iblk m c 4 t) (iblk m c 5 t) prev.1 prev.2.2.2.1 prev.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (off0 h0) (off1 h1) (on2 h2) (off3 h3) (off4 h4) (iblk m c 0 t) (iblk m c 1 t) (iblk m c 2 t) (iblk m c 3 t) (iblk m c 4 t) (iblk m c 5 t) prev.1 prev.2.2.2.1 prev.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (off0 h0) (off1 h1) (on2 h2) (off3 h3) (off4 h4) (iblk m c 0 t) (iblk m c 1 t) (iblk m c 2 t) (iblk m c 3 t) (iblk m c 4 t) (iblk m c 5 t) prev.1 prev.2.2.2.1 prev.2.2.2.2)

/-- The contents after a point of case C, from those before it. -/
def pointC (c : Dev nD) (t : Fin cfg0.N) (h0 : ¬t.val % 16 = 0) (h1 : ¬t.val % 4 = 0) (h2 : t.val / 4 % 4 + 1 ≤ t.val % 4) (h3 : ¬t.val / 4 % 4 = t.val % 4) (h4 : t.val % 4 = 3) (prev : Vec F S4096x512 .f32 × Vec F S1024x512 .f32 × Vec F S1024x512 .bf16 × Vec F S1024x512 .f32 × Vec F S1024x512 .f32) :
    Vec F S4096x512 .f32 × Vec F S1024x512 .f32 × Vec F S1024x512 .bf16 × Vec F S1024x512 .f32 × Vec F S1024x512 .f32 :=
  (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (off0 h0) (off1 h1) (on2 h2) (off3 h3) (on4 h4) (iblk m c 0 t) (iblk m c 1 t) (iblk m c 2 t) (iblk m c 3 t) (iblk m c 4 t) (iblk m c 5 t) prev.1 prev.2.2.2.1 prev.2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (off0 h0) (off1 h1) (on2 h2) (off3 h3) (on4 h4) (iblk m c 0 t) (iblk m c 1 t) (iblk m c 2 t) (iblk m c 3 t) (iblk m c 4 t) (iblk m c 5 t) prev.1 prev.2.2.2.1 prev.2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (off0 h0) (off1 h1) (on2 h2) (off3 h3) (on4 h4) (iblk m c 0 t) (iblk m c 1 t) (iblk m c 2 t) (iblk m c 3 t) (iblk m c 4 t) (iblk m c 5 t) prev.1 prev.2.2.2.1 prev.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (off0 h0) (off1 h1) (on2 h2) (off3 h3) (on4 h4) (iblk m c 0 t) (iblk m c 1 t) (iblk m c 2 t) (iblk m c 3 t) (iblk m c 4 t) (iblk m c 5 t) prev.1 prev.2.2.2.1 prev.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (off0 h0) (off1 h1) (on2 h2) (off3 h3) (on4 h4) (iblk m c 0 t) (iblk m c 1 t) (iblk m c 2 t) (iblk m c 3 t) (iblk m c 4 t) (iblk m c 5 t) prev.1 prev.2.2.2.1 prev.2.2.2.2)

/-- The contents after a point of case D, from those before it. -/
def pointD (c : Dev nD) (t : Fin cfg0.N) (h0 : ¬t.val % 16 = 0) (h1 : t.val % 4 = 0) (h2 : ¬t.val / 4 % 4 + 1 ≤ t.val % 4) (h3 : ¬t.val / 4 % 4 = t.val % 4) (h4 : ¬t.val % 4 = 3) (prev : Vec F S4096x512 .f32 × Vec F S1024x512 .f32 × Vec F S1024x512 .bf16 × Vec F S1024x512 .f32 × Vec F S1024x512 .f32) :
    Vec F S4096x512 .f32 × Vec F S1024x512 .f32 × Vec F S1024x512 .bf16 × Vec F S1024x512 .f32 × Vec F S1024x512 .f32 :=
  (out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (off0 h0) (on1 h1) (off2 h2) (off3 h3) (off4 h4) (iblk m c 0 t) (iblk m c 1 t) (iblk m c 2 t) (iblk m c 3 t) (iblk m c 4 t) (iblk m c 5 t) prev.1, out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (off0 h0) (on1 h1) (off2 h2) (off3 h3) (off4 h4) (iblk m c 0 t) (iblk m c 1 t) (iblk m c 2 t) (iblk m c 3 t) (iblk m c 4 t) (iblk m c 5 t), out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (off0 h0) (on1 h1) (off2 h2) (off3 h3) (off4 h4) (iblk m c 0 t) (iblk m c 1 t) (iblk m c 2 t) (iblk m c 3 t) (iblk m c 4 t) (iblk m c 5 t), sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (off0 h0) (on1 h1) (off2 h2) (off3 h3) (off4 h4) (iblk m c 0 t) (iblk m c 1 t) (iblk m c 2 t) (iblk m c 3 t) (iblk m c 4 t) (iblk m c 5 t), sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (off0 h0) (on1 h1) (off2 h2) (off3 h3) (off4 h4) (iblk m c 0 t) (iblk m c 1 t) (iblk m c 2 t) (iblk m c 3 t) (iblk m c 4 t) (iblk m c 5 t))

/-- The contents after a point of case E, from those before it. -/
def pointE (c : Dev nD) (t : Fin cfg0.N) (h0 : ¬t.val % 16 = 0) (h1 : ¬t.val % 4 = 0) (h2 : ¬t.val / 4 % 4 + 1 ≤ t.val % 4) (h3 : t.val / 4 % 4 = t.val % 4) (h4 : ¬t.val % 4 = 3) (prev : Vec F S4096x512 .f32 × Vec F S1024x512 .f32 × Vec F S1024x512 .bf16 × Vec F S1024x512 .f32 × Vec F S1024x512 .f32) :
    Vec F S4096x512 .f32 × Vec F S1024x512 .f32 × Vec F S1024x512 .bf16 × Vec F S1024x512 .f32 × Vec F S1024x512 .f32 :=
  (out0_E_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (off0 h0) (off1 h1) (off2 h2) (on3 h3) (off4 h4) (iblk m c 0 t) (iblk m c 1 t) (iblk m c 2 t) (iblk m c 3 t) (iblk m c 4 t) (iblk m c 5 t) prev.1 prev.2.2.2.1 prev.2.2.2.2, out0_E_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (off0 h0) (off1 h1) (off2 h2) (on3 h3) (off4 h4) (iblk m c 0 t) (iblk m c 1 t) (iblk m c 2 t) (iblk m c 3 t) (iblk m c 4 t) (iblk m c 5 t) prev.1 prev.2.2.2.1 prev.2.2.2.2, out0_E_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (off0 h0) (off1 h1) (off2 h2) (on3 h3) (off4 h4) (iblk m c 0 t) (iblk m c 1 t) (iblk m c 2 t) (iblk m c 3 t) (iblk m c 4 t) (iblk m c 5 t) prev.1 prev.2.2.2.1 prev.2.2.2.2, sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (off0 h0) (off1 h1) (off2 h2) (on3 h3) (off4 h4) (iblk m c 0 t) (iblk m c 1 t) (iblk m c 2 t) (iblk m c 3 t) (iblk m c 4 t) (iblk m c 5 t) prev.1 prev.2.2.2.1 prev.2.2.2.2, sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (off0 h0) (off1 h1) (off2 h2) (on3 h3) (off4 h4) (iblk m c 0 t) (iblk m c 1 t) (iblk m c 2 t) (iblk m c 3 t) (iblk m c 4 t) (iblk m c 5 t) prev.1 prev.2.2.2.1 prev.2.2.2.2)

/-- The contents after a point of case F, from those before it. -/
def pointF (c : Dev nD) (t : Fin cfg0.N) (h0 : ¬t.val % 16 = 0) (h1 : ¬t.val % 4 = 0) (h2 : ¬t.val / 4 % 4 + 1 ≤ t.val % 4) (h3 : ¬t.val / 4 % 4 = t.val % 4) (h4 : ¬t.val % 4 = 3) (prev : Vec F S4096x512 .f32 × Vec F S1024x512 .f32 × Vec F S1024x512 .bf16 × Vec F S1024x512 .f32 × Vec F S1024x512 .f32) :
    Vec F S4096x512 .f32 × Vec F S1024x512 .f32 × Vec F S1024x512 .bf16 × Vec F S1024x512 .f32 × Vec F S1024x512 .f32 :=
  (out0_F_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (off0 h0) (off1 h1) (off2 h2) (off3 h3) (off4 h4) (iblk m c 0 t) (iblk m c 1 t) (iblk m c 2 t) (iblk m c 3 t) (iblk m c 4 t) (iblk m c 5 t) prev.2.2.2.1 prev.2.2.2.2 prev.1, out0_F_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (off0 h0) (off1 h1) (off2 h2) (off3 h3) (off4 h4) (iblk m c 0 t) (iblk m c 1 t) (iblk m c 2 t) (iblk m c 3 t) (iblk m c 4 t) (iblk m c 5 t) prev.2.2.2.1 prev.2.2.2.2, out0_F_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (off0 h0) (off1 h1) (off2 h2) (off3 h3) (off4 h4) (iblk m c 0 t) (iblk m c 1 t) (iblk m c 2 t) (iblk m c 3 t) (iblk m c 4 t) (iblk m c 5 t) prev.2.2.2.1 prev.2.2.2.2, sout0_F_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (off0 h0) (off1 h1) (off2 h2) (off3 h3) (off4 h4) (iblk m c 0 t) (iblk m c 1 t) (iblk m c 2 t) (iblk m c 3 t) (iblk m c 4 t) (iblk m c 5 t) prev.2.2.2.1 prev.2.2.2.2, sout0_F_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (off0 h0) (off1 h1) (off2 h2) (off3 h3) (off4 h4) (iblk m c 0 t) (iblk m c 1 t) (iblk m c 2 t) (iblk m c 3 t) (iblk m c 4 t) (iblk m c 5 t) prev.2.2.2.1 prev.2.2.2.2)

/-- The contents after a point of case G, from those before it. -/
def pointG (c : Dev nD) (t : Fin cfg0.N) (h0 : ¬t.val % 16 = 0) (h1 : ¬t.val % 4 = 0) (h2 : ¬t.val / 4 % 4 + 1 ≤ t.val % 4) (h3 : t.val / 4 % 4 = t.val % 4) (h4 : t.val % 4 = 3) (prev : Vec F S4096x512 .f32 × Vec F S1024x512 .f32 × Vec F S1024x512 .bf16 × Vec F S1024x512 .f32 × Vec F S1024x512 .f32) :
    Vec F S4096x512 .f32 × Vec F S1024x512 .f32 × Vec F S1024x512 .bf16 × Vec F S1024x512 .f32 × Vec F S1024x512 .f32 :=
  (out0_G_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (off0 h0) (off1 h1) (off2 h2) (on3 h3) (on4 h4) (iblk m c 0 t) (iblk m c 1 t) (iblk m c 2 t) (iblk m c 3 t) (iblk m c 4 t) (iblk m c 5 t) prev.1 prev.2.2.2.1 prev.2.2.2.2, out0_G_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (off0 h0) (off1 h1) (off2 h2) (on3 h3) (on4 h4) (iblk m c 0 t) (iblk m c 1 t) (iblk m c 2 t) (iblk m c 3 t) (iblk m c 4 t) (iblk m c 5 t) prev.1 prev.2.2.2.1 prev.2.2.2.2, out0_G_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (off0 h0) (off1 h1) (off2 h2) (on3 h3) (on4 h4) (iblk m c 0 t) (iblk m c 1 t) (iblk m c 2 t) (iblk m c 3 t) (iblk m c 4 t) (iblk m c 5 t) prev.1 prev.2.2.2.1 prev.2.2.2.2, sout0_G_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (off0 h0) (off1 h1) (off2 h2) (on3 h3) (on4 h4) (iblk m c 0 t) (iblk m c 1 t) (iblk m c 2 t) (iblk m c 3 t) (iblk m c 4 t) (iblk m c 5 t) prev.1 prev.2.2.2.1 prev.2.2.2.2, sout0_G_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (off0 h0) (off1 h1) (off2 h2) (on3 h3) (on4 h4) (iblk m c 0 t) (iblk m c 1 t) (iblk m c 2 t) (iblk m c 3 t) (iblk m c 4 t) (iblk m c 5 t) prev.1 prev.2.2.2.1 prev.2.2.2.2)

/-- What the outputs and the accumulators hold after each point. -/
def outsAt0 (c : Dev nD) : (n : ℕ) → n < cfg0.N → Vec F S4096x512 .f32 × Vec F S1024x512 .f32 × Vec F S1024x512 .bf16 × Vec F S1024x512 .f32 × Vec F S1024x512 .f32
  | 0, hn => pointA m c ⟨0, hn⟩ (Nat.zero_mod _) (Nat.zero_mod _) (by (try dsimp only); omega) (by (try dsimp only) <;> omega) (by (try dsimp only); omega)
  | n + 1, hn =>
    if h0 : (n + 1) % 16 = 0 then
      if h1 : (n + 1) % 4 = 0 then
        if h2 : (n + 1) / 4 % 4 + 1 ≤ (n + 1) % 4 then
          False.elim (by have hN : n + 1 < 48 := lt_of_lt_of_eq hn (show cfg0.N = 48 from N_0); omega)
        else
          if h3 : (n + 1) / 4 % 4 = (n + 1) % 4 then
            if h4 : (n + 1) % 4 = 3 then
              False.elim (by have hN : n + 1 < 48 := lt_of_lt_of_eq hn (show cfg0.N = 48 from N_0); omega)
            else
              pointA m c ⟨n + 1, hn⟩ h0 h1 h2 h3 h4
          else
            False.elim (by have hN : n + 1 < 48 := lt_of_lt_of_eq hn (show cfg0.N = 48 from N_0); omega)
      else
        False.elim (by have hN : n + 1 < 48 := lt_of_lt_of_eq hn (show cfg0.N = 48 from N_0); omega)
    else
      if h1 : (n + 1) % 4 = 0 then
        if h2 : (n + 1) / 4 % 4 + 1 ≤ (n + 1) % 4 then
          False.elim (by have hN : n + 1 < 48 := lt_of_lt_of_eq hn (show cfg0.N = 48 from N_0); omega)
        else
          if h3 : (n + 1) / 4 % 4 = (n + 1) % 4 then
            False.elim (by have hN : n + 1 < 48 := lt_of_lt_of_eq hn (show cfg0.N = 48 from N_0); omega)
          else
            if h4 : (n + 1) % 4 = 3 then
              False.elim (by have hN : n + 1 < 48 := lt_of_lt_of_eq hn (show cfg0.N = 48 from N_0); omega)
            else
              pointD m c ⟨n + 1, hn⟩ h0 h1 h2 h3 h4 (outsAt0 c n (Nat.lt_of_succ_lt hn))
      else
        if h2 : (n + 1) / 4 % 4 + 1 ≤ (n + 1) % 4 then
          if h3 : (n + 1) / 4 % 4 = (n + 1) % 4 then
            False.elim (by have hN : n + 1 < 48 := lt_of_lt_of_eq hn (show cfg0.N = 48 from N_0); omega)
          else
            if h4 : (n + 1) % 4 = 3 then
              pointC m c ⟨n + 1, hn⟩ h0 h1 h2 h3 h4 (outsAt0 c n (Nat.lt_of_succ_lt hn))
            else
              pointB m c ⟨n + 1, hn⟩ h0 h1 h2 h3 h4 (outsAt0 c n (Nat.lt_of_succ_lt hn))
        else
          if h3 : (n + 1) / 4 % 4 = (n + 1) % 4 then
            if h4 : (n + 1) % 4 = 3 then
              pointG m c ⟨n + 1, hn⟩ h0 h1 h2 h3 h4 (outsAt0 c n (Nat.lt_of_succ_lt hn))
            else
              pointE m c ⟨n + 1, hn⟩ h0 h1 h2 h3 h4 (outsAt0 c n (Nat.lt_of_succ_lt hn))
          else
            if h4 : (n + 1) % 4 = 3 then
              False.elim (by have hN : n + 1 < 48 := lt_of_lt_of_eq hn (show cfg0.N = 48 from N_0); omega)
            else
              pointF m c ⟨n + 1, hn⟩ h0 h1 h2 h3 h4 (outsAt0 c n (Nat.lt_of_succ_lt hn))

/-- The contents after a point of case A. -/
theorem outsAt0_A (c : Dev nD) (t : Fin cfg0.N) (h0 : t.val % 16 = 0) (h1 : t.val % 4 = 0) (h2 : ¬t.val / 4 % 4 + 1 ≤ t.val % 4) (h3 : t.val / 4 % 4 = t.val % 4) (h4 : ¬t.val % 4 = 3) :
    outsAt0 m c t.val t.isLt = pointA m c t h0 h1 h2 h3 h4 := by
  obtain ⟨n, hn⟩ := t
  cases n with
  | zero => exact rfl
  | succ n => exact (dif_pos h0).trans ((dif_pos h1).trans ((dif_neg h2).trans ((dif_pos h3).trans ((dif_neg h4).trans rfl))))

/-- The contents after a point of case B. -/
theorem outsAt0_B (c : Dev nD) (t : Fin cfg0.N) (h0 : ¬t.val % 16 = 0) (h1 : ¬t.val % 4 = 0) (h2 : t.val / 4 % 4 + 1 ≤ t.val % 4) (h3 : ¬t.val / 4 % 4 = t.val % 4) (h4 : ¬t.val % 4 = 3) :
    outsAt0 m c t.val t.isLt = pointB m c t h0 h1 h2 h3 h4 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_neg h4).trans rfl))))

/-- The contents after a point of case C. -/
theorem outsAt0_C (c : Dev nD) (t : Fin cfg0.N) (h0 : ¬t.val % 16 = 0) (h1 : ¬t.val % 4 = 0) (h2 : t.val / 4 % 4 + 1 ≤ t.val % 4) (h3 : ¬t.val / 4 % 4 = t.val % 4) (h4 : t.val % 4 = 3) :
    outsAt0 m c t.val t.isLt = pointC m c t h0 h1 h2 h3 h4 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_pos h4).trans rfl))))

/-- The contents after a point of case D. -/
theorem outsAt0_D (c : Dev nD) (t : Fin cfg0.N) (h0 : ¬t.val % 16 = 0) (h1 : t.val % 4 = 0) (h2 : ¬t.val / 4 % 4 + 1 ≤ t.val % 4) (h3 : ¬t.val / 4 % 4 = t.val % 4) (h4 : ¬t.val % 4 = 3) :
    outsAt0 m c t.val t.isLt = pointD m c t h0 h1 h2 h3 h4 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans ((dif_neg h4).trans rfl))))

/-- The contents after a point of case E. -/
theorem outsAt0_E (c : Dev nD) (t : Fin cfg0.N) (h0 : ¬t.val % 16 = 0) (h1 : ¬t.val % 4 = 0) (h2 : ¬t.val / 4 % 4 + 1 ≤ t.val % 4) (h3 : t.val / 4 % 4 = t.val % 4) (h4 : ¬t.val % 4 = 3) :
    outsAt0 m c t.val t.isLt = pointE m c t h0 h1 h2 h3 h4 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_neg h4).trans rfl))))

/-- The contents after a point of case F. -/
theorem outsAt0_F (c : Dev nD) (t : Fin cfg0.N) (h0 : ¬t.val % 16 = 0) (h1 : ¬t.val % 4 = 0) (h2 : ¬t.val / 4 % 4 + 1 ≤ t.val % 4) (h3 : ¬t.val / 4 % 4 = t.val % 4) (h4 : ¬t.val % 4 = 3) :
    outsAt0 m c t.val t.isLt = pointF m c t h0 h1 h2 h3 h4 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_neg h4).trans rfl))))

/-- The contents after a point of case G. -/
theorem outsAt0_G (c : Dev nD) (t : Fin cfg0.N) (h0 : ¬t.val % 16 = 0) (h1 : ¬t.val % 4 = 0) (h2 : ¬t.val / 4 % 4 + 1 ≤ t.val % 4) (h3 : t.val / 4 % 4 = t.val % 4) (h4 : t.val % 4 = 3) :
    outsAt0 m c t.val t.isLt = pointG m c t h0 h1 h2 h3 h4 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_pos h4).trans rfl))))

end Cert.KernelIdeal.Bwd

end
-- ==== Proof.Bwd.Body.lean ====
module

public import proofs.«01_k».proof.Proof.Bwd.After

/-! The run of the whole program. -/

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What holds between points: the accumulators at their contents. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2)) ∗ (∃ r, prngReg c r)) := by
  cases n with
  | zero => exact absurd rfl hz
  | succ n => rfl

/-- The data of the run: the arrays, and what each block holds after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What window 0 holds after the body. -/
theorem after0_0 (c : Dev nD) (t : Fin cfg0.N) : (dats m 0 c).after 0 t = iblk m c 0 t := by dsimp only [dats]
/-- What window 1 holds after the body. -/
theorem after0_1 (c : Dev nD) (t : Fin cfg0.N) : (dats m 0 c).after 1 t = iblk m c 1 t := by dsimp only [dats]
/-- What window 2 holds after the body. -/
theorem after0_2 (c : Dev nD) (t : Fin cfg0.N) : (dats m 0 c).after 2 t = iblk m c 2 t := by dsimp only [dats]
/-- What window 3 holds after the body. -/
theorem after0_3 (c : Dev nD) (t : Fin cfg0.N) : (dats m 0 c).after 3 t = iblk m c 3 t := by dsimp only [dats]
/-- What window 4 holds after the body. -/
theorem after0_4 (c : Dev nD) (t : Fin cfg0.N) : (dats m 0 c).after 4 t = iblk m c 4 t := by dsimp only [dats]
/-- What window 5 holds after the body. -/
theorem after0_5 (c : Dev nD) (t : Fin cfg0.N) : (dats m 0 c).after 5 t = iblk m c 5 t := by dsimp only [dats]
/-- What window 6 holds after the body. -/
theorem after0_6 (c : Dev nD) (t : Fin cfg0.N) : (dats m 0 c).after 6 t = (outsAt0 m c t.val t.isLt).1 := by dsimp only [dats]
/-- What window 7 holds after the body. -/
theorem after0_7 (c : Dev nD) (t : Fin cfg0.N) : (dats m 0 c).after 7 t = (outsAt0 m c t.val t.isLt).2.1 := by dsimp only [dats]
/-- What window 8 holds after the body. -/
theorem after0_8 (c : Dev nD) (t : Fin cfg0.N) : (dats m 0 c).after 8 t = (outsAt0 m c t.val t.isLt).2.2.1 := by dsimp only [dats]

/-- What input 0 holds before the body. -/
theorem before0_0 (c : Dev nD) (t : Fin cfg0.N) (d) : (dats m 0 c).before 0 t d = iblk m c 0 t :=
  before0_0_of m (dats m 0 c) (A_eq m c 0) (after0_0 m c) t d
/-- What input 1 holds before the body. -/
theorem before0_1 (c : Dev nD) (t : Fin cfg0.N) (d) : (dats m 0 c).before 1 t d = iblk m c 1 t :=
  before0_1_of m (dats m 0 c) (A_eq m c 1) (after0_1 m c) t d
/-- What input 2 holds before the body. -/
theorem before0_2 (c : Dev nD) (t : Fin cfg0.N) (d) : (dats m 0 c).before 2 t d = iblk m c 2 t :=
  before0_2_of m (dats m 0 c) (A_eq m c 2) (after0_2 m c) t d
/-- What input 3 holds before the body. -/
theorem before0_3 (c : Dev nD) (t : Fin cfg0.N) (d) : (dats m 0 c).before 3 t d = iblk m c 3 t :=
  before0_3_of m (dats m 0 c) (A_eq m c 3) (after0_3 m c) t d
/-- What input 4 holds before the body. -/
theorem before0_4 (c : Dev nD) (t : Fin cfg0.N) (d) : (dats m 0 c).before 4 t d = iblk m c 4 t :=
  before0_4_of m (dats m 0 c) (A_eq m c 4) (after0_4 m c) t d
/-- What input 5 holds before the body. -/
theorem before0_5 (c : Dev nD) (t : Fin cfg0.N) (d) : (dats m 0 c).before 5 t d = iblk m c 5 t :=
  before0_5_of m (dats m 0 c) (A_eq m c 5) (after0_5 m c) t d

theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have hN : t.val < 48 := lt_of_lt_of_eq t.isLt (show cfg0.N = 48 from N_0)
  rw [after0_6, after0_6]
  by_cases h0 : t.val % 16 = 0
  · by_cases h1 : t.val % 4 = 0
    · by_cases h2 : t.val / 4 % 4 + 1 ≤ t.val % 4
      · exfalso; omega
      · by_cases h3 : t.val / 4 % 4 = t.val % 4
        · by_cases h4 : t.val % 4 = 3
          · exfalso; omega
          · rw [liveAt0_6_A t (on0 h0) (on1 h1) (off2 h2) (on3 h3) (off4 h4)] at hi
            exact absurd hi Bool.false_ne_true
        · exfalso; omega
    · exfalso; omega
  · by_cases h1 : t.val % 4 = 0
    · by_cases h2 : t.val / 4 % 4 + 1 ≤ t.val % 4
      · exfalso; omega
      · by_cases h3 : t.val / 4 % 4 = t.val % 4
        · exfalso; omega
        · by_cases h4 : t.val % 4 = 3
          · exfalso; omega
          · rw [outsAt0_D m c t h0 h1 h2 h3 h4, pointD]
            dsimp only
            unfold out0_D_6
            rfl
    · by_cases h2 : t.val / 4 % 4 + 1 ≤ t.val % 4
      · by_cases h3 : t.val / 4 % 4 = t.val % 4
        · exfalso; omega
        · by_cases h4 : t.val % 4 = 3
          · rw [liveAt0_6_C t (off0 h0) (off1 h1) (on2 h2) (off3 h3) (on4 h4)] at hi
            exact absurd hi Bool.false_ne_true
          · rw [liveAt0_6_B t (off0 h0) (off1 h1) (on2 h2) (off3 h3) (off4 h4)] at hi
            exact absurd hi Bool.false_ne_true
      · by_cases h3 : t.val / 4 % 4 = t.val % 4
        · by_cases h4 : t.val % 4 = 3
          · rw [liveAt0_6_G t (off0 h0) (off1 h1) (off2 h2) (on3 h3) (on4 h4)] at hi
            exact absurd hi Bool.false_ne_true
          · rw [liveAt0_6_E t (off0 h0) (off1 h1) (off2 h2) (on3 h3) (off4 h4)] at hi
            exact absurd hi Bool.false_ne_true
        · by_cases h4 : t.val % 4 = 3
          · exfalso; omega
          · rw [outsAt0_F m c t h0 h1 h2 h3 h4, pointF]
            dsimp only
            unfold out0_F_6
            rfl
/-- What output 6 holds before the body in case B. -/
theorem before0_6_B (c : Dev nD) (t : Fin cfg0.N) (h0 : ¬t.val % 16 = 0) (h1 : ¬t.val % 4 = 0) (h2 : t.val / 4 % 4 + 1 ≤ t.val % 4) (h3 : ¬t.val / 4 % 4 = t.val % 4) (h4 : ¬t.val % 4 = 3) (d) :
    (dats m 0 c).before 6 t d = (outsAt0 m c (t.val - 1) (Nat.lt_of_le_of_lt (Nat.sub_le _ _) t.isLt)).1 := by
  rw [Dat.before_out_traj _ 6 rfl (fun _ _ => rfl) (hcarry0_6 m c) t.val t rfl d,
    if_neg (by rw [notFresh0_6_B t (off0 h0) (off1 h1) (on2 h2) (off3 h3) (off4 h4)]; exact Bool.false_ne_true)]
  dsimp only [dats]
/-- What output 6 holds before the body in case C. -/
theorem before0_6_C (c : Dev nD) (t : Fin cfg0.N) (h0 : ¬t.val % 16 = 0) (h1 : ¬t.val % 4 = 0) (h2 : t.val / 4 % 4 + 1 ≤ t.val % 4) (h3 : ¬t.val / 4 % 4 = t.val % 4) (h4 : t.val % 4 = 3) (d) :
    (dats m 0 c).before 6 t d = (outsAt0 m c (t.val - 1) (Nat.lt_of_le_of_lt (Nat.sub_le _ _) t.isLt)).1 := by
  rw [Dat.before_out_traj _ 6 rfl (fun _ _ => rfl) (hcarry0_6 m c) t.val t rfl d,
    if_neg (by rw [notFresh0_6_C t (off0 h0) (off1 h1) (on2 h2) (off3 h3) (on4 h4)]; exact Bool.false_ne_true)]
  dsimp only [dats]
/-- What output 6 holds before the body in case E. -/
theorem before0_6_E (c : Dev nD) (t : Fin cfg0.N) (h0 : ¬t.val % 16 = 0) (h1 : ¬t.val % 4 = 0) (h2 : ¬t.val / 4 % 4 + 1 ≤ t.val % 4) (h3 : t.val / 4 % 4 = t.val % 4) (h4 : ¬t.val % 4 = 3) (d) :
    (dats m 0 c).before 6 t d = (outsAt0 m c (t.val - 1) (Nat.lt_of_le_of_lt (Nat.sub_le _ _) t.isLt)).1 := by
  rw [Dat.before_out_traj _ 6 rfl (fun _ _ => rfl) (hcarry0_6 m c) t.val t rfl d,
    if_neg (by rw [notFresh0_6_E t (off0 h0) (off1 h1) (off2 h2) (on3 h3) (off4 h4)]; exact Bool.false_ne_true)]
  dsimp only [dats]
/-- What output 6 holds before the body in case G. -/
theorem before0_6_G (c : Dev nD) (t : Fin cfg0.N) (h0 : ¬t.val % 16 = 0) (h1 : ¬t.val % 4 = 0) (h2 : ¬t.val / 4 % 4 + 1 ≤ t.val % 4) (h3 : t.val / 4 % 4 = t.val % 4) (h4 : t.val % 4 = 3) (d) :
    (dats m 0 c).before 6 t d = (outsAt0 m c (t.val - 1) (Nat.lt_of_le_of_lt (Nat.sub_le _ _) t.isLt)).1 := by
  rw [Dat.before_out_traj _ 6 rfl (fun _ _ => rfl) (hcarry0_6 m c) t.val t rfl d,
    if_neg (by rw [notFresh0_6_G t (off0 h0) (off1 h1) (off2 h2) (on3 h3) (on4 h4)]; exact Bool.false_ne_true)]
  dsimp only [dats]

/-- What the body takes at one point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What the body returns at one point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 22400000 in
/-- The body at one point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 48 := lt_of_lt_of_eq t.isLt (show cfg0.N = 48 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases h0 : t.val % 16 = 0
  · by_cases h1 : t.val % 4 = 0
    · by_cases h2 : t.val / 4 % 4 + 1 ≤ t.val % 4
      · exfalso; omega
      · by_cases h3 : t.val / 4 % 4 = t.val % 4
        · by_cases h4 : t.val % 4 = 3
          · exfalso; omega
          · rw [show (dats m 0 c).leavesExact 6 t = owns (c : Thread nD τ) (ms0_6 t) fullShare ((dats m 0 c).after 6 t) from by
      unfold Dat.leavesExact; rw [liveAt0_6_A t (on0 h0) (on1 h1) (off2 h2) (on3 h3) (off4 h4)], after0_6]
            rw [Dat.leavesExact_idle (dats m 0 c) 7 t (idleAt0_7_A t (on0 h0) (on1 h1) (off2 h2) (on3 h3) (off4 h4)) (noFlush0_7_A t (on0 h0) (on1 h1) (off2 h2) (on3 h3) (off4 h4))]
            rw [Dat.leavesExact_idle (dats m 0 c) 8 t (idleAt0_8_A t (on0 h0) (on1 h1) (off2 h2) (on3 h3) (off4 h4)) (noFlush0_8_A t (on0 h0) (on1 h1) (off2 h2) (on3 h3) (off4 h4))]
            by_cases hz : t.val = 0
            · rw [PhiS_castSucc m c t, PhiS_zero m c _ _ hz, PhiA0_eq]
              rw [outsAt0_A m c t h0 h1 h2 h3 h4, pointA]
              unfold out0_A_6 sout0_A_0 sout0_A_1; (try dsimp only)
              iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
              iapply ((kernelRun0_A c (grid0.coords t) _ _ _ _ _ _ _ _ _ _ _ _ _ _ _ _ _ _ _ _ _ _ (on0 h0) (on1 h1) (off2 h2) (on3 h3) (off4 h4) (iblk m c 0 t) (iblk m c 1 t) (iblk m c 2 t) (iblk m c 3 t) (iblk m c 4 t) (iblk m c 5 t)).2.2.2.2.2 _ _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexists _; iexact H6
              isplitl [H7]; · iexact H7
              isplitl [H8]; · iexact H8
              isplitl [HS0]; · iexact HS0
              isplitl [HS1]; · iexact HS1
              iintro ⟨H0, H1, H2, H3, H4, H5, ⟨%e6, H6⟩, H7, H8, ⟨%es0, HS0⟩, ⟨%es1, HS1⟩⟩
              isplitl [HS0 HS1 Hg]
              · isplitl [HS0 HS1]
                · isplitl [HS0]
                  · unfold owns; iexists _; isplitr
                    swap; · iexact HS0
                    ipureintro; exact View.read_writes_of_cover _ _ _ _ _ (scover0_A_0 c _ _ _ _ _ _ _ _ _ _ _ _ _ _ _ _ _ _ _ _ _ _ _ _ _ _ _ _ _ _ _ _ _ _)
                  unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]
              · unfold owns; iexists _; isplitr
                swap; · iexact H6
                ipureintro; exact View.read_writes_of_cover _ _ _ _ _ (cover0_A_6 c _ _ _ _ _ _ _ _ _ _ _ _ _ _ _ _ _ _ _ _ _ _ _ _ _ _ _ _ _ _ _ _ _ _)
              isplitl [H7]; · iexists _; iexact H7
              iexists _; iexact H8
            · rw [PhiS_castSucc m c t, PhiS_pos m c _ _ hz]
              rw [outsAt0_A m c t h0 h1 h2 h3 h4, pointA]
              unfold out0_A_6 sout0_A_0 sout0_A_1; (try dsimp only)
              iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
              iapply ((kernelRun0_A c (grid0.coords t) _ _ _ _ _ _ _ _ _ _ _ _ _ _ _ _ _ _ _ _ _ _ (on0 h0) (on1 h1) (off2 h2) (on3 h3) (off4 h4) (iblk m c 0 t) (iblk m c 1 t) (iblk m c 2 t) (iblk m c 3 t) (iblk m c 4 t) (iblk m c 5 t)).2.2.2.2.2 _ _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexists _; iexact H6
              isplitl [H7]; · iexact H7
              isplitl [H8]; · iexact H8
              isplitl [HS0]; · iexists _; iexact HS0
              isplitl [HS1]; · iexists _; iexact HS1
              iintro ⟨H0, H1, H2, H3, H4, H5, ⟨%e6, H6⟩, H7, H8, ⟨%es0, HS0⟩, ⟨%es1, HS1⟩⟩
              isplitl [HS0 HS1 Hg]
              · isplitl [HS0 HS1]
                · isplitl [HS0]
                  · unfold owns; iexists _; isplitr
                    swap; · iexact HS0
                    ipureintro; exact View.read_writes_of_cover _ _ _ _ _ (scover0_A_0 c _ _ _ _ _ _ _ _ _ _ _ _ _ _ _ _ _ _ _ _ _ _ _ _ _ _ _ _ _ _ _ _ _ _)
                  unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]
              · unfold owns; iexists _; isplitr
                swap; · iexact H6
                ipureintro; exact View.read_writes_of_cover _ _ _ _ _ (cover0_A_6 c _ _ _ _ _ _ _ _ _ _ _ _ _ _ _ _ _ _ _ _ _ _ _ _ _ _ _ _ _ _ _ _ _ _)
              isplitl [H7]; · iexists _; iexact H7
              iexists _; iexact H8
        · exfalso; omega
    · exfalso; omega
  · by_cases h1 : t.val % 4 = 0
    · by_cases h2 : t.val / 4 % 4 + 1 ≤ t.val % 4
      · exfalso; omega
      · by_cases h3 : t.val / 4 % 4 = t.val % 4
        · exfalso; omega
        · by_cases h4 : t.val % 4 = 3
          · exfalso; omega
          · rw [Dat.leavesExact_idle (dats m 0 c) 6 t (idleAt0_6_D t (off0 h0) (on1 h1) (off2 h2) (off3 h3) (off4 h4)) (noFlush0_6_D t (off0 h0) (on1 h1) (off2 h2) (off3 h3) (off4 h4))]
            rw [Dat.leavesExact_idle (dats m 0 c) 7 t (idleAt0_7_D t (off0 h0) (on1 h1) (off2 h2) (off3 h3) (off4 h4)) (noFlush0_7_D t (off0 h0) (on1 h1) (off2 h2) (off3 h3) (off4 h4))]
            rw [Dat.leavesExact_idle (dats m 0 c) 8 t (idleAt0_8_D t (off0 h0) (on1 h1) (off2 h2) (off3 h3) (off4 h4)) (noFlush0_8_D t (off0 h0) (on1 h1) (off2 h2) (off3 h3) (off4 h4))]
            by_cases hz : t.val = 0
            · exfalso; have hN : t.val < 48 := lt_of_lt_of_eq t.isLt (show cfg0.N = 48 from N_0); omega
            · rw [PhiS_castSucc m c t, PhiS_pos m c _ _ hz]
              rw [outsAt0_D m c t h0 h1 h2 h3 h4, pointD]
              unfold sout0_D_0 sout0_D_1; (try dsimp only)
              iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
              iapply ((kernelRun0_D c (grid0.coords t) _ _ _ _ _ _ _ _ _ _ _ _ _ _ _ _ _ _ _ _ _ _ (off0 h0) (on1 h1) (off2 h2) (off3 h3) (off4 h4) (iblk m c 0 t) (iblk m c 1 t) (iblk m c 2 t) (iblk m c 3 t) (iblk m c 4 t) (iblk m c 5 t)).2.2.2.2.2 _ _ _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [HS0]; · iexists _; iexact HS0
              isplitl [HS1]; · iexists _; iexact HS1
              iintro ⟨H0, H1, H2, H3, H4, H5, H6, H7, H8, ⟨%es0, HS0⟩, ⟨%es1, HS1⟩⟩
              isplitl [HS0 HS1 Hg]
              · isplitl [HS0 HS1]
                · isplitl [HS0]
                  · unfold owns; iexists _; isplitr
                    swap; · iexact HS0
                    ipureintro; exact View.read_writes_of_cover _ _ _ _ _ (scover0_D_0 c _ _ _ _ _ _ _ _ _ _ _ _ _ _ _ _ _ _ _ _ _ _ _ _ _ _ _ _ _ _ _ _ _ _)
                  unfold owns; iexists _; isplitr
                  swap; · iexact HS1
                  ipureintro; exact View.read_writes_of_cover _ _ _ _ _ (scover0_D_1 c _ _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexists _; iexact H6
              isplitl [H7]; · iexists _; iexact H7
              iexists _; iexact H8
    · by_cases h2 : t.val / 4 % 4 + 1 ≤ t.val % 4
      · by_cases h3 : t.val / 4 % 4 = t.val % 4
        · exfalso; omega
        · by_cases h4 : t.val % 4 = 3
          · rw [show (dats m 0 c).leavesExact 6 t = owns (c : Thread nD τ) (ms0_6 t) fullShare ((dats m 0 c).after 6 t) from by
      unfold Dat.leavesExact; rw [liveAt0_6_C t (off0 h0) (off1 h1) (on2 h2) (off3 h3) (on4 h4)], after0_6]
            rw [show (dats m 0 c).leavesExact 7 t = owns (c : Thread nD τ) (ms0_7 t) fullShare ((dats m 0 c).after 7 t) from by
      unfold Dat.leavesExact; rw [liveAt0_7_C t (off0 h0) (off1 h1) (on2 h2) (off3 h3) (on4 h4)], after0_7]
            rw [show (dats m 0 c).leavesExact 8 t = owns (c : Thread nD τ) (ms0_8 t) fullShare ((dats m 0 c).after 8 t) from by
      unfold Dat.leavesExact; rw [liveAt0_8_C t (off0 h0) (off1 h1) (on2 h2) (off3 h3) (on4 h4)], after0_8]
            by_cases hz : t.val = 0
            · exfalso; have hN : t.val < 48 := lt_of_lt_of_eq t.isLt (show cfg0.N = 48 from N_0); omega
            · rw [PhiS_castSucc m c t, PhiS_pos m c _ _ hz]
              rw [outsAt0_C m c t h0 h1 h2 h3 h4, pointC]
              simp only [before0_6_C m c t h0 h1 h2 h3 h4]
              unfold out0_C_6 out0_C_7 out0_C_8 sout0_C_0 sout0_C_1; (try dsimp only)
              iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
              iapply ((kernelRun0_C c (grid0.coords t) _ _ _ _ _ _ _ _ _ _ _ _ _ _ _ _ _ _ _ _ _ _ (off0 h0) (off1 h1) (on2 h2) (off3 h3) (on4 h4) (iblk m c 0 t) (iblk m c 1 t) (iblk m c 2 t) (iblk m c 3 t) (iblk m c 4 t) (iblk m c 5 t) _ _ _).2.2.2.2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexists _; iexact H7
              isplitl [H8]; · iexists _; iexact H8
              isplitl [HS0]; · iexact HS0
              isplitl [HS1]; · iexact HS1
              iintro ⟨H0, H1, H2, H3, H4, H5, H6, ⟨%e7, H7⟩, ⟨%e8, H8⟩, ⟨%es0, HS0⟩, ⟨%es1, HS1⟩⟩
              isplitl [HS0 HS1 Hg]
              · isplitl [HS0 HS1]
                · isplitl [HS0]
                  · unfold owns; iexists _; isplitr
                    swap; · iexact HS0
                    ipureintro; exact View.read_writes_of_cover _ _ _ _ _ (scover0_C_0 c _ _ _ _ _ _ _ _ _ _ _ _ _ _ _ _ _ _ _ _ _ _ _ _ _ _ _ _ _ _ _ _ _ _ _ _ _)
                  unfold owns; iexists _; isplitr
                  swap; · iexact HS1
                  ipureintro; exact View.read_writes_of_cover _ _ _ _ _ (scover0_C_1 c _ _ _ _ _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]
              · unfold owns; iexists _; isplitr
                swap; · iexact H6
                ipureintro; rfl
              isplitl [H7]
              · unfold owns; iexists _; isplitr
                swap; · iexact H7
                ipureintro; exact View.read_writes_of_cover _ _ _ _ _ (cover0_C_7 c _ _ _ _ _ _ _ _ _ _ _ _ _ _ _ _ _ _ _ _ _ _ _ _ _ _ _ _ _ _ _ _ _ _ _ _ _)
              unfold owns; iexists _; isplitr
              swap; · iexact H8
              ipureintro; exact View.read_writes_of_cover _ _ _ _ _ (cover0_C_8 c _ _ _ _ _ _ _ _ _ _ _ _ _ _ _ _ _ _ _ _ _ _ _ _ _ _ _ _ _ _ _ _ _ _ _ _ _)
          · rw [show (dats m 0 c).leavesExact 6 t = owns (c : Thread nD τ) (ms0_6 t) fullShare ((dats m 0 c).after 6 t) from by
      unfold Dat.leavesExact; rw [liveAt0_6_B t (off0 h0) (off1 h1) (on2 h2) (off3 h3) (off4 h4)], after0_6]
            rw [Dat.leavesExact_idle (dats m 0 c) 7 t (idleAt0_7_B t (off0 h0) (off1 h1) (on2 h2) (off3 h3) (off4 h4)) (noFlush0_7_B t (off0 h0) (off1 h1) (on2 h2) (off3 h3) (off4 h4))]
            rw [Dat.leavesExact_idle (dats m 0 c) 8 t (idleAt0_8_B t (off0 h0) (off1 h1) (on2 h2) (off3 h3) (off4 h4)) (noFlush0_8_B t (off0 h0) (off1 h1) (on2 h2) (off3 h3) (off4 h4))]
            by_cases hz : t.val = 0
            · exfalso; have hN : t.val < 48 := lt_of_lt_of_eq t.isLt (show cfg0.N = 48 from N_0); omega
            · rw [PhiS_castSucc m c t, PhiS_pos m c _ _ hz]
              rw [outsAt0_B m c t h0 h1 h2 h3 h4, pointB]
              simp only [before0_6_B m c t h0 h1 h2 h3 h4]
              unfold out0_B_6 sout0_B_0 sout0_B_1; (try dsimp only)
              iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
              iapply ((kernelRun0_B c (grid0.coords t) _ _ _ _ _ _ _ _ _ _ _ _ _ _ _ _ _ _ _ _ _ _ (off0 h0) (off1 h1) (on2 h2) (off3 h3) (off4 h4) (iblk m c 0 t) (iblk m c 1 t) (iblk m c 2 t) (iblk m c 3 t) (iblk m c 4 t) (iblk m c 5 t) _ _ _).2.2.2.2.2 _ _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [HS0]; · iexact HS0
              isplitl [HS1]; · iexact HS1
              iintro ⟨H0, H1, H2, H3, H4, H5, H6, H7, H8, ⟨%es0, HS0⟩, ⟨%es1, HS1⟩⟩
              isplitl [HS0 HS1 Hg]
              · isplitl [HS0 HS1]
                · isplitl [HS0]
                  · unfold owns; iexists _; isplitr
                    swap; · iexact HS0
                    ipureintro; exact View.read_writes_of_cover _ _ _ _ _ (scover0_B_0 c _ _ _ _ _ _ _ _ _ _ _ _ _ _ _ _ _ _ _ _ _ _ _ _ _ _ _ _ _ _ _ _ _ _ _ _ _)
                  unfold owns; iexists _; isplitr
                  swap; · iexact HS1
                  ipureintro; exact View.read_writes_of_cover _ _ _ _ _ (scover0_B_1 c _ _ _ _ _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]
              · unfold owns; iexists _; isplitr
                swap; · iexact H6
                ipureintro; rfl
              isplitl [H7]; · iexists _; iexact H7
              iexists _; iexact H8
      · by_cases h3 : t.val / 4 % 4 = t.val % 4
        · by_cases h4 : t.val % 4 = 3
          · rw [show (dats m 0 c).leavesExact 6 t = owns (c : Thread nD τ) (ms0_6 t) fullShare ((dats m 0 c).after 6 t) from by
      unfold Dat.leavesExact; rw [liveAt0_6_G t (off0 h0) (off1 h1) (off2 h2) (on3 h3) (on4 h4)], after0_6]
            rw [show (dats m 0 c).leavesExact 7 t = owns (c : Thread nD τ) (ms0_7 t) fullShare ((dats m 0 c).after 7 t) from by
      unfold Dat.leavesExact; rw [liveAt0_7_G t (off0 h0) (off1 h1) (off2 h2) (on3 h3) (on4 h4)], after0_7]
            rw [show (dats m 0 c).leavesExact 8 t = owns (c : Thread nD τ) (ms0_8 t) fullShare ((dats m 0 c).after 8 t) from by
      unfold Dat.leavesExact; rw [liveAt0_8_G t (off0 h0) (off1 h1) (off2 h2) (on3 h3) (on4 h4)], after0_8]
            by_cases hz : t.val = 0
            · exfalso; have hN : t.val < 48 := lt_of_lt_of_eq t.isLt (show cfg0.N = 48 from N_0); omega
            · rw [PhiS_castSucc m c t, PhiS_pos m c _ _ hz]
              rw [outsAt0_G m c t h0 h1 h2 h3 h4, pointG]
              simp only [before0_6_G m c t h0 h1 h2 h3 h4]
              unfold out0_G_6 out0_G_7 out0_G_8 sout0_G_0 sout0_G_1; (try dsimp only)
              iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
              iapply ((kernelRun0_G c (grid0.coords t) _ _ _ _ _ _ _ _ _ _ _ _ _ _ _ _ _ _ _ _ _ _ (off0 h0) (off1 h1) (off2 h2) (on3 h3) (on4 h4) (iblk m c 0 t) (iblk m c 1 t) (iblk m c 2 t) (iblk m c 3 t) (iblk m c 4 t) (iblk m c 5 t) _ _ _).2.2.2.2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexists _; iexact H7
              isplitl [H8]; · iexists _; iexact H8
              isplitl [HS0]; · iexact HS0
              isplitl [HS1]; · iexact HS1
              iintro ⟨H0, H1, H2, H3, H4, H5, H6, ⟨%e7, H7⟩, ⟨%e8, H8⟩, ⟨%es0, HS0⟩, ⟨%es1, HS1⟩⟩
              isplitl [HS0 HS1 Hg]
              · isplitl [HS0 HS1]
                · isplitl [HS0]
                  · unfold owns; iexists _; isplitr
                    swap; · iexact HS0
                    ipureintro; exact View.read_writes_of_cover _ _ _ _ _ (scover0_G_0 c _ _ _ _ _ _ _ _ _ _ _ _ _ _ _ _ _ _ _ _ _ _ _ _ _ _ _ _ _ _ _ _ _ _ _ _ _)
                  unfold owns; iexists _; isplitr
                  swap; · iexact HS1
                  ipureintro; exact View.read_writes_of_cover _ _ _ _ _ (scover0_G_1 c _ _ _ _ _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]
              · unfold owns; iexists _; isplitr
                swap; · iexact H6
                ipureintro; rfl
              isplitl [H7]
              · unfold owns; iexists _; isplitr
                swap; · iexact H7
                ipureintro; exact View.read_writes_of_cover _ _ _ _ _ (cover0_G_7 c _ _ _ _ _ _ _ _ _ _ _ _ _ _ _ _ _ _ _ _ _ _ _ _ _ _ _ _ _ _ _ _ _ _ _ _ _)
              unfold owns; iexists _; isplitr
              swap; · iexact H8
              ipureintro; exact View.read_writes_of_cover _ _ _ _ _ (cover0_G_8 c _ _ _ _ _ _ _ _ _ _ _ _ _ _ _ _ _ _ _ _ _ _ _ _ _ _ _ _ _ _ _ _ _ _ _ _ _)
          · rw [show (dats m 0 c).leavesExact 6 t = owns (c : Thread nD τ) (ms0_6 t) fullShare ((dats m 0 c).after 6 t) from by
      unfold Dat.leavesExact; rw [liveAt0_6_E t (off0 h0) (off1 h1) (off2 h2) (on3 h3) (off4 h4)], after0_6]
            rw [Dat.leavesExact_idle (dats m 0 c) 7 t (idleAt0_7_E t (off0 h0) (off1 h1) (off2 h2) (on3 h3) (off4 h4)) (noFlush0_7_E t (off0 h0) (off1 h1) (off2 h2) (on3 h3) (off4 h4))]
            rw [Dat.leavesExact_idle (dats m 0 c) 8 t (idleAt0_8_E t (off0 h0) (off1 h1) (off2 h2) (on3 h3) (off4 h4)) (noFlush0_8_E t (off0 h0) (off1 h1) (off2 h2) (on3 h3) (off4 h4))]
            by_cases hz : t.val = 0
            · exfalso; have hN : t.val < 48 := lt_of_lt_of_eq t.isLt (show cfg0.N = 48 from N_0); omega
            · rw [PhiS_castSucc m c t, PhiS_pos m c _ _ hz]
              rw [outsAt0_E m c t h0 h1 h2 h3 h4, pointE]
              simp only [before0_6_E m c t h0 h1 h2 h3 h4]
              unfold out0_E_6 sout0_E_0 sout0_E_1; (try dsimp only)
              iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
              iapply ((kernelRun0_E c (grid0.coords t) _ _ _ _ _ _ _ _ _ _ _ _ _ _ _ _ _ _ _ _ _ _ (off0 h0) (off1 h1) (off2 h2) (on3 h3) (off4 h4) (iblk m c 0 t) (iblk m c 1 t) (iblk m c 2 t) (iblk m c 3 t) (iblk m c 4 t) (iblk m c 5 t) _ _ _).2.2.2.2.2 _ _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [HS0]; · iexact HS0
              isplitl [HS1]; · iexact HS1
              iintro ⟨H0, H1, H2, H3, H4, H5, H6, H7, H8, ⟨%es0, HS0⟩, ⟨%es1, HS1⟩⟩
              isplitl [HS0 HS1 Hg]
              · isplitl [HS0 HS1]
                · isplitl [HS0]
                  · unfold owns; iexists _; isplitr
                    swap; · iexact HS0
                    ipureintro; exact View.read_writes_of_cover _ _ _ _ _ (scover0_E_0 c _ _ _ _ _ _ _ _ _ _ _ _ _ _ _ _ _ _ _ _ _ _ _ _ _ _ _ _ _ _ _ _ _ _ _ _ _)
                  unfold owns; iexists _; isplitr
                  swap; · iexact HS1
                  ipureintro; exact View.read_writes_of_cover _ _ _ _ _ (scover0_E_1 c _ _ _ _ _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]
              · unfold owns; iexists _; isplitr
                swap; · iexact H6
                ipureintro; rfl
              isplitl [H7]; · iexists _; iexact H7
              iexists _; iexact H8
        · by_cases h4 : t.val % 4 = 3
          · exfalso; omega
          · rw [Dat.leavesExact_idle (dats m 0 c) 6 t (idleAt0_6_F t (off0 h0) (off1 h1) (off2 h2) (off3 h3) (off4 h4)) (noFlush0_6_F t (off0 h0) (off1 h1) (off2 h2) (off3 h3) (off4 h4))]
            rw [Dat.leavesExact_idle (dats m 0 c) 7 t (idleAt0_7_F t (off0 h0) (off1 h1) (off2 h2) (off3 h3) (off4 h4)) (noFlush0_7_F t (off0 h0) (off1 h1) (off2 h2) (off3 h3) (off4 h4))]
            rw [Dat.leavesExact_idle (dats m 0 c) 8 t (idleAt0_8_F t (off0 h0) (off1 h1) (off2 h2) (off3 h3) (off4 h4)) (noFlush0_8_F t (off0 h0) (off1 h1) (off2 h2) (off3 h3) (off4 h4))]
            by_cases hz : t.val = 0
            · exfalso; have hN : t.val < 48 := lt_of_lt_of_eq t.isLt (show cfg0.N = 48 from N_0); omega
            · rw [PhiS_castSucc m c t, PhiS_pos m c _ _ hz]
              rw [outsAt0_F m c t h0 h1 h2 h3 h4, pointF]
              unfold sout0_F_0 sout0_F_1; (try dsimp only)
              iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
              iapply ((kernelRun0_F c (grid0.coords t) _ _ _ _ _ _ _ _ _ _ _ _ _ _ _ _ _ _ _ _ _ _ (off0 h0) (off1 h1) (off2 h2) (off3 h3) (off4 h4) (iblk m c 0 t) (iblk m c 1 t) (iblk m c 2 t) (iblk m c 3 t) (iblk m c 4 t) (iblk m c 5 t) _ _).2.2.2.2.2 _ _ _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [HS0]; · iexact HS0
              isplitl [HS1]; · iexact HS1
              iintro ⟨H0, H1, H2, H3, H4, H5, H6, H7, H8, HS0, HS1⟩
              isplitl [HS0 HS1 Hg]
              · isplitl [HS0 HS1]
                · isplitl [HS0]
                  · iexact HS0
                  iexact HS1
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexists _; iexact H6
              isplitl [H7]; · iexists _; iexact H7
              iexists _; iexact H8

theorem defs₀_row (t : Fin cfg0.N) :
    defs₀ (F := F) .tc cfg0.body (cfg0.bodyArgs t (cfg0.slots t)) = bodyAt0 t := by
  unfold defs₀; rw [Defs.onTc_tc]

/-- The body at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 48 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The whole program runs to the state the points leave. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays are left unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame of the program. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Bwd

end
-- ==== Proof.Bwd.Blocks.lean ====
module

public import proofs.«01_k».proof.Proof.Bwd.Body
public import Idealize.ShloMosaic.Lib.Pipeline.Value

/-! The output arrays after the run, block by block. -/

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem flushed6 (c : Dev nD) (t : Fin cfg0.N) :
    (dats m 0 c).flushed 6 t = (cfg0.win 6).cut (grid0.coords t) ((outsAt0 m c t.val t.isLt).1) := by
  show (cfg0.win 6).cut (grid0.coords t) ((dats m 0 c).after 6 t) = _
  rw [after0_6]

theorem flushed7 (c : Dev nD) (t : Fin cfg0.N) :
    (dats m 0 c).flushed 7 t = (cfg0.win 7).cut (grid0.coords t) ((outsAt0 m c t.val t.isLt).2.1) := by
  show (cfg0.win 7).cut (grid0.coords t) ((dats m 0 c).after 7 t) = _
  rw [after0_7]

theorem flushed8 (c : Dev nD) (t : Fin cfg0.N) :
    (dats m 0 c).flushed 8 t = (cfg0.win 8).cut (grid0.coords t) ((outsAt0 m c t.val t.isLt).2.2.1) := by
  show (cfg0.win 8).cut (grid0.coords t) ((dats m 0 c).after 8 t) = _
  rw [after0_8]

theorem post6 (r : PUnit × MemSt nD τ sig (Elt F)) (h : Pipeline.FramePost cfgs (dats m) 0 (V m) r) (c : Dev nD) :
    r.2.mem ((c : Thread nD τ).loc main_v51_0) = (dats m 0 c).arrAt 6 cfg0.N :=
  (h c).1 6

theorem post7 (r : PUnit × MemSt nD τ sig (Elt F)) (h : Pipeline.FramePost cfgs (dats m) 0 (V m) r) (c : Dev nD) :
    r.2.mem ((c : Thread nD τ).loc main_v51_1) = (dats m 0 c).arrAt 7 cfg0.N :=
  (h c).1 7

theorem post8 (r : PUnit × MemSt nD τ sig (Elt F)) (h : Pipeline.FramePost cfgs (dats m) 0 (V m) r) (c : Dev nD) :
    r.2.mem ((c : Thread nD τ).loc main_v51_2) = (dats m 0 c).arrAt 8 cfg0.N :=
  (h c).1 8

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The run, with each output array named. -/
theorem run_blocks : θ_run defs (onTc (τ := τ) (main (F := F))) ⟨m, fun _ => 0, ρ⟩ fun r => ∀ c : Dev nD,
      r.2.mem ((c : Thread nD τ).loc main_v51_0) = (dats m 0 c).arrAt 6 cfg0.N
      ∧ r.2.mem ((c : Thread nD τ).loc main_v51_1) = (dats m 0 c).arrAt 7 cfg0.N
      ∧ r.2.mem ((c : Thread nD τ).loc main_v51_2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post6 m r h c,
      post7 m r h c,
      post8 m r h c,
      kept_main_arg0 m r h c,
      kept_main_arg1 m r h c,
      kept_main_arg2 m r h c,
      kept_main_arg3 m r h c⟩)
    (run_main m ρ)

end Cert.KernelIdeal.Bwd

end
-- ==== Proof.Bwd.Word.lean ====
module

public import proofs.«01_k».proof.Defs
public import proofs.«01_k».proof.Proof.Gen.Kernel
public import proofs.«01_k».proof.Proof.Bwd.Body

/-! The frame of the kernel as it is, from the run of the program whose constants are named. That run is over any float
values and any reading of the names, and where each name reads as its own float word the two programs are one. -/

@[expose] public section

set_option maxRecDepth 16384

noncomputable section

namespace Cert.Kernel.Word

open Idealize.ShloMosaic Idealize.SL.Sem

/-- Every named constant reads as the float word that the kernel has in its place. -/
@[reducible] def words : Named Bits := ⟨fun _ _ {φ} b => Scalar.ofBits φ b⟩

attribute [local instance] words

set_option maxHeartbeats 4000000

/-- With the names read so, the two programs have the same body. -/
theorem defs₀_eq : Cert.Kernel.defs₀ (F := Bits) = Cert.KernelIdeal.defs₀ (F := Bits) := by
  refine congrArg Defs.onTc ?_
  funext k a
  obtain ⟨k, hk⟩ := k
  obtain rfl : k = 0 := by omega
  obtain ⟨t, s⟩ := a
  rfl

/-- The kernel runs, leaves its arguments unchanged and every semaphore counter at zero. -/
theorem frame : Cert.quiescent_Kernel := fun m ρ _ => by
  have h := Cert.KernelIdeal.Bwd.frame (F := Bits) m ρ
  have e : Cert.Kernel.defs (F := Bits) = Cert.KernelIdeal.defs (F := Bits) := congrArg (Pipeline.defs Cert.KernelIdeal.pcfgs) defs₀_eq
  rw [e]
  exact h

end Cert.Kernel.Word

end
-- ==== Proof.Bwd.Tiles.lean ====
module

public import proofs.«01_k».proof.Proof.Gen.KernelIdeal.Skeleton
public import Idealize.ShloMosaic.Lib.Pointwise
public import Idealize.ShloMosaic.Lib.Pipeline.ValueKit
public import Idealize.ShloMosaic.Lib.WritesUnit

/-! Arrays of real numbers, and what the operations of the kernel's body make of them. -/

@[expose] public section

set_option maxRecDepth 16384

noncomputable section

namespace Cert.KernelIdeal.Bwd

open Cert.KernelIdeal.Gen
open Idealize.ShloMosaic

/-- An array of two axes whose entries are the real numbers `f row column`. -/
def tile {e : FTy} (n m : ℕ) (f : ℕ → ℕ → ℝ) : FVec Ideal ⟨2, ![n, m]⟩ e :=
  fun y => ((f (y 0).val (y 1).val : ℝ) : EReal)

/-- A block of eight rows under a leading unit axis whose entries are the real numbers `f row column`. -/
def tile3 (m : ℕ) (f : ℕ → ℕ → ℝ) : FVec Ideal ⟨3, ![1, 8, m]⟩ .f32 :=
  fun y => ((f (y 1).val (y 2).val : ℝ) : EReal)

theorem coe_sum {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

theorem coe_range_sum {n : ℕ} (f : ℕ → ℝ) : ∑ k : Fin n, ((f k : ℝ) : EReal) = ((∑ k ∈ Finset.range n, f k : ℝ) : EReal) := by
  rw [coe_sum, Finset.sum_range]

theorem sle_words (c : ℕ) (hc : c ≤ 512) (a b : ℕ) (ha : a < 1024) (hb : b < 1024) :
    IntOp.cmpi .sle (IntOp.addi (BitVec.ofNat 32 c) (BitVec.ofNat 32 a)) (IntOp.addi (BitVec.ofNat 32 c) (BitVec.ofNat 32 b))
      = BitVec.ofBool (decide (a ≤ b)) := by
  unfold IntOp.cmpi IntOp.addi
  congr 1
  show BitVec.sle _ _ = _
  rw [BitVec.sle_eq_decide]
  congr 1
  simp only [BitVec.toInt_eq_toNat_cond, BitVec.toNat_add, BitVec.toNat_ofNat]
  apply propext
  omega

theorem select_le (a b : ℕ) (x y : EReal) : Scalar.select (BitVec.ofBool (decide (a ≤ b))) x y = if a ≤ b then x else y := by
  by_cases h : a ≤ b <;> simp [Scalar.select, h]

/-- The mask of the scores is `⊥`. -/
theorem mask_word : Named.named (F := Ideal) κ "mask" (φ := .f32) 0xF149F2CA#32 = (⊥ : EReal) :=
  IdealRules.named_const.ideal_named_scalar _ _ _ _ rfl

/-- The scale of the scores, as a real number. -/
def scale : ℝ := 13698540 * 2 ^ (-27 : ℤ)

theorem scale_word : (Scalar.ofBits .f32 0x3DD105EC#32 : Ideal .f32) = ((scale : ℝ) : EReal) := by
  show Ideal.ofBits .f32 0x3DD105EC#32 = _
  simp [Ideal.ofBits, Ideal.ieee, scale, -EReal.coe_mul]

theorem mm_full_s (f g : ℕ → ℕ → ℝ) :
    matmul dot_S1024x128_S1024x128_S1024x1024_1_1_0_0_n_n none (tile (e := .bf16) 1024 128 f) (tile (e := .bf16) 1024 128 g) (constant S1024x1024 .f32 0x00000000#32)
      = tile 1024 1024 fun a b => ∑ d ∈ Finset.range 128, f a d * g b d := by
  funext y
  idx_vars y
  pointwise [tile]
  simp only [← EReal.coe_mul, coe_sum, Finset.sum_range]

theorem mm_full_v (f g : ℕ → ℕ → ℝ) :
    matmul dot_S1024x1024_S1024x128_S1024x128_1_0_0_1_n_n none (tile (e := .bf16) 1024 1024 f) (tile (e := .bf16) 1024 128 g) (constant S1024x128 .f32 0x00000000#32)
      = tile 1024 128 fun a b => ∑ d ∈ Finset.range 1024, f a d * g d b := by
  funext y
  idx_vars y
  pointwise [tile]
  simp only [← EReal.coe_mul, coe_sum, Finset.sum_range]

theorem mm_full_q (f g : ℕ → ℕ → ℝ) :
    matmul dot_S1024x1024_S1024x128_S1024x128_0_0_1_1_n_n none (tile (e := .bf16) 1024 1024 f) (tile (e := .bf16) 1024 128 g) (constant S1024x128 .f32 0x00000000#32)
      = tile 1024 128 fun a b => ∑ d ∈ Finset.range 1024, f d a * g d b := by
  funext y
  idx_vars y
  pointwise [tile]
  simp only [← EReal.coe_mul, coe_sum, Finset.sum_range]

theorem exp_full (s : ℕ → ℕ → ℝ) (l : ℕ → ℝ) :
    exp2 (subf (tile (e := .f32) 1024 1024 s) (broadcastTo S1024x1024 (tile (e := .f32) 1 1024 fun _ b => l b) broadcasts_S1x1024_S1024x1024))
      = tile 1024 1024 fun a b => (2 : ℝ) ^ (s a b - l b) := by
  funext y
  idx_vars y
  pointwise [tile]
  rw [← EReal.coe_sub]
  rfl

theorem ds_full (p s : ℕ → ℕ → ℝ) (l : ℕ → ℝ) :
    truncf .bf16 (mulf (tile (e := .f32) 1024 1024 p) (subf (tile 1024 1024 s) (broadcastTo S1024x1024 (tile (e := .f32) 1 1024 fun _ b => l b) broadcasts_S1x1024_S1024x1024))) bitsLt_bf16_f32
      = tile 1024 1024 fun a b => p a b * (s a b - l b) := by
  funext y
  idx_vars y
  pointwise [tile]
  rw [← EReal.coe_sub, ← EReal.coe_mul]

theorem trunc_full (p : ℕ → ℕ → ℝ) : truncf .bf16 (tile (e := .f32) 1024 1024 p) bitsLt_bf16_f32 = tile 1024 1024 p := by
  funext y
  rfl

theorem mm_top_s (f g : ℕ → ℕ → ℝ) :
    matmul dot_S512x128_S1024x128_S512x1024_1_1_0_0_n_n none (tile (e := .bf16) 512 128 f) (tile (e := .bf16) 1024 128 g) (constant S512x1024 .f32 0x00000000#32)
      = tile 512 1024 fun a b => ∑ d ∈ Finset.range 128, f a d * g b d := by
  funext y
  idx_vars y
  pointwise [tile]
  simp only [← EReal.coe_mul, coe_sum, Finset.sum_range]

theorem mm_top_v (f g : ℕ → ℕ → ℝ) :
    matmul dot_S512x1024_S1024x128_S512x128_1_0_0_1_n_n none (tile (e := .bf16) 512 1024 f) (tile (e := .bf16) 1024 128 g) (constant S512x128 .f32 0x00000000#32)
      = tile 512 128 fun a b => ∑ d ∈ Finset.range 1024, f a d * g d b := by
  funext y
  idx_vars y
  pointwise [tile]
  simp only [← EReal.coe_mul, coe_sum, Finset.sum_range]

theorem mm_top_q (f g : ℕ → ℕ → ℝ) :
    matmul dot_S512x1024_S512x128_S1024x128_0_0_1_1_n_n none (tile (e := .bf16) 512 1024 f) (tile (e := .bf16) 512 128 g) (constant S1024x128 .f32 0x00000000#32)
      = tile 1024 128 fun a b => ∑ d ∈ Finset.range 512, f d a * g d b := by
  funext y
  idx_vars y
  pointwise [tile]
  simp only [← EReal.coe_mul, coe_sum, Finset.sum_range]

theorem exp_top (s : ℕ → ℕ → ℝ) (l : ℕ → ℝ) :
    exp2 (subf (tile (e := .f32) 512 1024 s) (broadcastTo S512x1024 (tile (e := .f32) 1 1024 fun _ b => l b) broadcasts_S1x1024_S512x1024))
      = tile 512 1024 fun a b => (2 : ℝ) ^ (s a b - l b) := by
  funext y
  idx_vars y
  pointwise [tile]
  rw [← EReal.coe_sub]
  rfl

theorem ds_top (p s : ℕ → ℕ → ℝ) (l : ℕ → ℝ) :
    truncf .bf16 (mulf (tile (e := .f32) 512 1024 p) (subf (tile 512 1024 s) (broadcastTo S512x1024 (tile (e := .f32) 1 1024 fun _ b => l b) broadcasts_S1x1024_S512x1024))) bitsLt_bf16_f32
      = tile 512 1024 fun a b => p a b * (s a b - l b) := by
  funext y
  idx_vars y
  pointwise [tile]
  rw [← EReal.coe_sub, ← EReal.coe_mul]

theorem trunc_top (p : ℕ → ℕ → ℝ) : truncf .bf16 (tile (e := .f32) 512 1024 p) bitsLt_bf16_f32 = tile 512 1024 p := by
  funext y
  rfl

theorem mm_bot_s (f g : ℕ → ℕ → ℝ) :
    matmul dot_S512x128_S512x128_S512x512_1_1_0_0_n_n none (tile (e := .bf16) 512 128 f) (tile (e := .bf16) 512 128 g) (constant S512x512 .f32 0x00000000#32)
      = tile 512 512 fun a b => ∑ d ∈ Finset.range 128, f a d * g b d := by
  funext y
  idx_vars y
  pointwise [tile]
  simp only [← EReal.coe_mul, coe_sum, Finset.sum_range]

theorem mm_bot_v (f g : ℕ → ℕ → ℝ) :
    matmul dot_S512x512_S512x128_S512x128_1_0_0_1_n_n none (tile (e := .bf16) 512 512 f) (tile (e := .bf16) 512 128 g) (constant S512x128 .f32 0x00000000#32)
      = tile 512 128 fun a b => ∑ d ∈ Finset.range 512, f a d * g d b := by
  funext y
  idx_vars y
  pointwise [tile]
  simp only [← EReal.coe_mul, coe_sum, Finset.sum_range]

theorem mm_bot_q (f g : ℕ → ℕ → ℝ) :
    matmul dot_S512x512_S512x128_S512x128_0_0_1_1_n_n none (tile (e := .bf16) 512 512 f) (tile (e := .bf16) 512 128 g) (constant S512x128 .f32 0x00000000#32)
      = tile 512 128 fun a b => ∑ d ∈ Finset.range 512, f d a * g d b := by
  funext y
  idx_vars y
  pointwise [tile]
  simp only [← EReal.coe_mul, coe_sum, Finset.sum_range]

theorem exp_bot (s : ℕ → ℕ → ℝ) (l : ℕ → ℝ) :
    exp2 (subf (tile (e := .f32) 512 512 s) (broadcastTo S512x512 (tile (e := .f32) 1 512 fun _ b => l b) broadcasts_S1x512_S512x512))
      = tile 512 512 fun a b => (2 : ℝ) ^ (s a b - l b) := by
  funext y
  idx_vars y
  pointwise [tile]
  rw [← EReal.coe_sub]
  rfl

theorem ds_bot (p s : ℕ → ℕ → ℝ) (l : ℕ → ℝ) :
    truncf .bf16 (mulf (tile (e := .f32) 512 512 p) (subf (tile 512 512 s) (broadcastTo S512x512 (tile (e := .f32) 1 512 fun _ b => l b) broadcasts_S1x512_S512x512))) bitsLt_bf16_f32
      = tile 512 512 fun a b => p a b * (s a b - l b) := by
  funext y
  idx_vars y
  pointwise [tile]
  rw [← EReal.coe_sub, ← EReal.coe_mul]

theorem trunc_bot (p : ℕ → ℕ → ℝ) : truncf .bf16 (tile (e := .f32) 512 512 p) bitsLt_bf16_f32 = tile 512 512 p := by
  funext y
  rfl

theorem mask_top (s : ℕ → ℕ → ℝ) (l : ℕ → ℝ) :
    exp2 (subf (select (cmpi .sle (addi (broadcast S512x1024 0#32) (iota .tc S512x1024 32 (@List.cons (Fin 2) (0 : Fin S512x1024.rank) (@List.nil (Fin 2))) iota_S512x1024_d0_w32)) (addi (broadcast S512x1024 0#32) (iota .tc S512x1024 32 (@List.cons (Fin 2) (1 : Fin S512x1024.rank) (@List.nil (Fin 2))) iota_S512x1024_d1_w32)))
        (tile (e := .f32) 512 1024 s) (broadcast S512x1024 (Named.named (F := Ideal) κ "mask" 0xF149F2CA#32))) (broadcastTo S512x1024 (tile (e := .f32) 1 1024 fun _ b => l b) broadcasts_S1x1024_S512x1024))
      = tile 512 1024 fun a b => if a ≤ b then (2 : ℝ) ^ (s a b - l b) else 0 := by
  funext y
  idx_vars y
  pointwise [tile]
  rw [sle_words 0 (by norm_num) _ _ (by omega) (by omega), mask_word, select_le]
  split
  · rw [← EReal.coe_sub]
    rfl
  · rw [EReal.bot_sub]
    rfl

theorem mask_bot (s : ℕ → ℕ → ℝ) (l : ℕ → ℝ) :
    exp2 (subf (select (cmpi .sle (addi (broadcast S512x512 512#32) (iota .tc S512x512 32 (@List.cons (Fin 2) (0 : Fin S512x512.rank) (@List.nil (Fin 2))) iota_S512x512_d0_w32)) (addi (broadcast S512x512 512#32) (iota .tc S512x512 32 (@List.cons (Fin 2) (1 : Fin S512x512.rank) (@List.nil (Fin 2))) iota_S512x512_d1_w32)))
        (tile (e := .f32) 512 512 s) (broadcast S512x512 (Named.named (F := Ideal) κ "mask" 0xF149F2CA#32))) (broadcastTo S512x512 (tile (e := .f32) 1 512 fun _ b => l b) broadcasts_S1x512_S512x512))
      = tile 512 512 fun a b => if a ≤ b then (2 : ℝ) ^ (s a b - l b) else 0 := by
  funext y
  idx_vars y
  pointwise [tile]
  rw [sle_words 512 (by norm_num) _ _ (by omega) (by omega), mask_word, select_le]
  split
  · rw [← EReal.coe_sub]
    rfl
  · rw [EReal.bot_sub]
    rfl

theorem scale_full (f : ℕ → ℕ → ℝ) :
    mulf (tile (e := .f32) 1024 128 f) (broadcast S1024x128 (Scalar.ofBits .f32 0x3DD105EC#32)) = tile 1024 128 fun a b => f a b * scale := by
  funext y
  idx_vars y
  pointwise [tile]
  rw [show Ideal.ofBits .f32 0x3DD105EC#32 = _ from scale_word, ← EReal.coe_mul]

theorem scale_bot (f : ℕ → ℕ → ℝ) :
    mulf (tile (e := .f32) 512 128 f) (broadcast S512x128 (Scalar.ofBits .f32 0x3DD105EC#32)) = tile 512 128 fun a b => f a b * scale := by
  funext y
  idx_vars y
  pointwise [tile]
  rw [show Ideal.ofBits .f32 0x3DD105EC#32 = _ from scale_word, ← EReal.coe_mul]

theorem addf_tile {n m : ℕ} (f g : ℕ → ℕ → ℝ) :
    addf (tile (e := .f32) n m f) (tile n m g) = tile n m fun a b => f a b + g a b := by
  funext y
  exact (EReal.coe_add _ _).symm

theorem cast_tile {e : FTy} {n m : ℕ} (f : ℕ → ℕ → ℝ) (h : (⟨2, ![n, m]⟩ : Shape).ShapeCasts ⟨2, ![n, m]⟩) :
    shapeCast ⟨2, ![n, m]⟩ (tile (e := e) n m f) h = tile n m f := by
  funext y
  simp only [shapeCast, Shape.reshapeEquiv_self]

theorem ld_tile_f32 {R C n m : ℕ} (f : ℕ → ℕ → ℝ) (off : Fin 2 → ℕ) (h) :
    View.ld (Val := Elt Ideal) (e' := .f32) (tile (e := .f32) R C f) (Rect.unit (s := ⟨2, ![R, C]⟩) off ![n, m] h)
      = (tile (e := .f32) n m fun a b => f (off 0 + a) (off 1 + b)) := by
  funext y
  show ((f (off 0 + 1 * (y 0).val) (off 1 + 1 * (y 1).val) : ℝ) : EReal) = _
  rw [one_mul, one_mul]
  rfl

theorem ld_tile_bf16 {R C n m : ℕ} (f : ℕ → ℕ → ℝ) (off : Fin 2 → ℕ) (h) :
    View.ld (Val := Elt Ideal) (e' := .bf16) (tile (e := .bf16) R C f) (Rect.unit (s := ⟨2, ![R, C]⟩) off ![n, m] h)
      = (tile (e := .bf16) n m fun a b => f (off 0 + a) (off 1 + b)) := by
  funext y
  show ((f (off 0 + 1 * (y 0).val) (off 1 + 1 * (y 1).val) : ℝ) : EReal) = _
  rw [one_mul, one_mul]
  rfl

/-- A row of real numbers under two unit axes. -/
def row (n : ℕ) (f : ℕ → ℝ) : FVec Ideal ⟨3, ![1, 1, n]⟩ .f32 := fun y => ((f (y 2).val : ℝ) : EReal)

theorem ld_tile3 {m n : ℕ} (f : ℕ → ℕ → ℝ) (off : Fin 3 → ℕ) (h) :
    View.ld (Val := Elt Ideal) (e' := .f32) (tile3 m f) (Rect.unit (s := ⟨3, ![1, 8, m]⟩) off ![1, 1, n] h)
      = row n fun b => f (off 1) (off 2 + b) := by
  funext y
  show ((f (off 1 + 1 * (y 1).val) (off 2 + 1 * (y 2).val) : ℝ) : EReal) = _
  have h1 : (y 1).val = 0 := by have : (y 1).val < 1 := (y 1).isLt; omega
  rw [one_mul, one_mul, h1, Nat.add_zero]
  rfl

theorem cast_row_1024 (f : ℕ → ℝ) :
    shapeCast S1x1024 (row 1024 f) shapeCasts_S1x1x1024_S1x1024 = tile (e := .f32) 1 1024 fun _ b => f b := by
  funext y
  idx_vars y
  pointwise [row, tile]

theorem cast_row_512 (f : ℕ → ℝ) :
    shapeCast S1x512 (row 512 f) shapeCasts_S1x1x512_S1x512 = tile (e := .f32) 1 512 fun _ b => f b := by
  funext y
  idx_vars y
  pointwise [row, tile]

/-- The real numbers `g` put into an array at row `r` and column `c`. -/
def put {R C : ℕ} (r c n m : ℕ) (g : ℕ → ℕ → ℝ) (X : (⟨2, ![R, C]⟩ : Shape).Idx → EReal) : (⟨2, ![R, C]⟩ : Shape).Idx → EReal :=
  fun y => if (r ≤ (y 0).val ∧ (y 0).val < r + n) ∧ (c ≤ (y 1).val ∧ (y 1).val < c + m) then ((g ((y 0).val - r) ((y 1).val - c) : ℝ) : EReal) else X y

theorem read_cons_tile {sig : RefSig} {κ : Kind} {sp : Space} {R C n m : ℕ} (v : View sig κ sp ⟨2, ![R, C]⟩ .f32) (f) (off : Fin 2 → ℕ) (h) (g : ℕ → ℕ → ℝ)
    (L : List (View.Piece (Elt Ideal) ⟨2, ![R, C]⟩ .f32)) :
    v.read (Elt Ideal) (v.writes (Elt Ideal) f (⟨Rect.unit (s := ⟨2, ![R, C]⟩) off ![n, m] h, tile (e := .f32) n m g⟩ :: L))
      = put (off 0) (off 1) n m g (v.read (Elt Ideal) (v.writes (Elt Ideal) f L)) := by
  funext y
  rw [View.read_writes_cons_unit v f h _ L y rfl]
  unfold put
  by_cases hy : ∀ a : Fin 2, off a ≤ (y a).val ∧ (y a).val < off a + ![n, m] a
  · rw [dif_pos hy, if_pos (show _ from ⟨hy 0, hy 1⟩)]
    rfl
  · have hn : ¬ ((off 0 ≤ (y 0).val ∧ (y 0).val < off 0 + n) ∧ (off 1 ≤ (y 1).val ∧ (y 1).val < off 1 + m)) := fun k => hy (Fin.forall_fin_two.mpr k)
    rw [dif_neg hy, if_neg hn]

theorem canon_cons_tile {R C n m : ℕ} (off : Fin 2 → ℕ) (h) (g : ℕ → ℕ → ℝ) (L : List (View.Piece (Elt Ideal) ⟨2, ![R, C]⟩ .f32)) :
    View.canon (⟨Rect.unit (s := ⟨2, ![R, C]⟩) off ![n, m] h, tile (e := .f32) n m g⟩ :: L) = put (off 0) (off 1) n m g (View.canon L) := by
  funext y
  unfold put
  by_cases hy : ∀ a : Fin 2, off a ≤ (y a).val ∧ (y a).val < off a + ![n, m] a
  · rw [if_pos (show _ from ⟨hy 0, hy 1⟩)]
    have e : y = (Rect.unit (s := ⟨2, ![R, C]⟩) off ![n, m] h).emb (Rect.unitLocal (s := ⟨2, ![R, C]⟩) (off := off) (size := ![n, m]) y hy) :=
      funext fun a => Fin.ext (by
        show (y a).val = off a + 1 * ((y a).val - off a)
        have := (hy a).1
        omega)
    conv_lhs => rw [e]
    rw [View.canon_cons_emb]
    rfl
  · have hn : ¬ ((off 0 ≤ (y 0).val ∧ (y 0).val < off 0 + n) ∧ (off 1 ≤ (y 1).val ∧ (y 1).val < off 1 + m)) := fun k => hy (Fin.forall_fin_two.mpr k)
    rw [if_neg hn]
    refine View.canon_cons_of_not_mem _ _ fun hm => hy ?_
    exact (Rect.mem_set_unit (inb := h)).mp hm

/-- A load inside the part last put reads what was put. -/
theorem ld_put {R C n m n' m' r c : ℕ} (g : ℕ → ℕ → ℝ) (X : (⟨2, ![R, C]⟩ : Shape).Idx → EReal) (off : Fin 2 → ℕ) (h)
    (hr : r ≤ off 0 ∧ off 0 + n' ≤ r + n) (hc : c ≤ off 1 ∧ off 1 + m' ≤ c + m) :
    View.ld (Val := Elt Ideal) (e' := .f32) (put r c n m g X) (Rect.unit (s := ⟨2, ![R, C]⟩) off ![n', m'] h)
      = (tile (e := .f32) n' m' fun a b => g (off 0 - r + a) (off 1 - c + b)) := by
  funext y
  have h0 : (y 0).val < n' := (y 0).isLt
  have h1 : (y 1).val < m' := (y 1).isLt
  show put r c n m g X _ = _
  unfold put tile
  have e0 : ((Rect.unit (s := ⟨2, ![R, C]⟩) off ![n', m'] h).idx y 0).val = off 0 + (y 0).val := by
    show off 0 + 1 * (y 0).val = _
    rw [one_mul]
  have e1 : ((Rect.unit (s := ⟨2, ![R, C]⟩) off ![n', m'] h).idx y 1).val = off 1 + (y 1).val := by
    show off 1 + 1 * (y 1).val = _
    rw [one_mul]
  rw [e0, e1, if_pos (by omega), show off 0 + (y 0).val - r = off 0 - r + (y 0).val by omega,
    show off 1 + (y 1).val - c = off 1 - c + (y 1).val by omega]

/-- Putting real numbers into an array of real numbers. -/
theorem put_tile {R C : ℕ} (r c n m : ℕ) (g f : ℕ → ℕ → ℝ) :
    put r c n m g (tile (e := .f32) R C f) = tile (e := .f32) R C fun a b => if (r ≤ a ∧ a < r + n) ∧ (c ≤ b ∧ b < c + m) then g (a - r) (b - c) else f a b := by
  funext y
  unfold put tile
  dsimp only
  split_ifs <;> rfl

/-- A load of what was stored reads the stored contents. -/
theorem readCov_ld {sig : RefSig} {κ : Kind} {sp : Space} {s : Shape} {e : EltTy} (v : View sig κ sp s e) (L : List (View.Piece (Elt Ideal) s e)) (r : Rect s) :
    v.readCov L r.toLoadRect = View.ld (View.canon L) r :=
  View.readCov_eq_canon' v L r.toLoadRect

/-- The word of `ln 2`. -/
theorem ln2_tile (f : ℕ → ℕ → ℝ) :
    mulf (tile (e := .f32) 1024 512 f) (broadcast S1024x512 (Named.named (F := Ideal) κ "ln2" 0x3F317218#32)) = tile 1024 512 fun a b => f a b * Real.log 2 := by
  funext y
  pointwise [tile]
  rw [show (Named.named (F := Ideal) κ "ln2" (φ := .f32) 0x3F317218#32 : EReal) = ((Real.log 2 : ℝ) : EReal) from rfl, ← EReal.coe_mul]

theorem trunc_sc (f : ℕ → ℕ → ℝ) (h) : truncf .bf16 (tile (e := .f32) 1024 512 f) h = tile (e := .bf16) 1024 512 f := rfl

theorem zero_sc : broadcast S1024x512 (FloatOps.ofBits (F := Ideal) FTy.f32 0#32) = tile (e := .f32) 1024 512 fun _ _ => 0 := by
  funext y
  pointwise [tile]
  simp

theorem zero_dq : broadcast S4096x512 (FloatOps.ofBits (F := Ideal) FTy.f32 0#32) = tile (e := .f32) 4096 512 fun _ _ => 0 := by
  funext y
  pointwise [tile]
  simp

end Cert.KernelIdeal.Bwd
-- ==== Proof.Bwd.Model.lean ====
module

public import proofs.«01_k».proof.Proof.Bwd.Tiles

/-! The attention's backward pass on real numbers: what the plain gradient computes. -/

@[expose] public section

noncomputable section

namespace Cert.Model

open Cert.KernelIdeal.Bwd (scale)

/-- The scores of query `i` and key `j` in head `h`. -/
def score (q k : ℕ → ℕ → ℕ → ℝ) (h i j : ℕ) : ℝ := (∑ x ∈ Finset.range 96, q i h x * k j h x) * scale

/-- The largest score of query `i`. -/
def top (q k : ℕ → ℕ → ℕ → ℝ) (h i : ℕ) : ℝ := (Finset.range (i + 1)).sup' ⟨0, Finset.mem_range.2 (Nat.succ_pos i)⟩ (score q k h i)

/-- The exponentials of the scores, zero for the keys after the query. -/
def ex (q k : ℕ → ℕ → ℕ → ℝ) (h i j : ℕ) : ℝ := if j ≤ i then Real.exp (score q k h i j - top q k h i) else 0

def tot (q k : ℕ → ℕ → ℕ → ℝ) (h i : ℕ) : ℝ := ∑ j ∈ Finset.range 4096, ex q k h i j

/-- The probabilities. -/
def pr (q k : ℕ → ℕ → ℕ → ℝ) (h i j : ℕ) : ℝ := ex q k h i j / tot q k h i

/-- The gradients of the probabilities. -/
def dp (v d : ℕ → ℕ → ℕ → ℝ) (h i j : ℕ) : ℝ := ∑ x ∈ Finset.range 64, d i h x * v j h x

/-- The sum over a query's output of output times cotangent. -/
def del (q k v d : ℕ → ℕ → ℕ → ℝ) (h i : ℕ) : ℝ :=
  ∑ x ∈ Finset.range 64, (∑ j ∈ Finset.range 4096, pr q k h i j * v j h x) * d i h x

/-- The gradients of the scores. -/
def gs (q k v d : ℕ → ℕ → ℕ → ℝ) (h i j : ℕ) : ℝ := pr q k h i j * (dp v d h i j - del q k v d h i)

def gq (q k v d : ℕ → ℕ → ℕ → ℝ) (h i x : ℕ) : ℝ := (∑ j ∈ Finset.range 4096, gs q k v d h i j * k j h x) * scale

def gk (q k v d : ℕ → ℕ → ℕ → ℝ) (h j x : ℕ) : ℝ := (∑ i ∈ Finset.range 4096, gs q k v d h i j * q i h x) * scale

def gv (q k d : ℕ → ℕ → ℕ → ℝ) (h j x : ℕ) : ℝ := ∑ i ∈ Finset.range 4096, pr q k h i j * d i h x

variable (q k v d : ℕ → ℕ → ℕ → ℝ)

theorem tot_pos (h i : ℕ) : 0 < tot q k h i := by
  refine Finset.sum_pos' (fun j _ => ?_) ⟨0, Finset.mem_range.2 (by norm_num), ?_⟩
  · unfold ex
    split_ifs
    · exact (Real.exp_pos _).le
    · exact le_rfl
  · unfold ex
    rw [if_pos (Nat.zero_le _)]
    exact Real.exp_pos _

/-- The row sums of probabilities times their gradients, by the output. -/
theorem del_eq (h i : ℕ) : del q k v d h i = ∑ j ∈ Finset.range 4096, pr q k h i j * dp v d h i j := by
  unfold del dp
  simp only [Finset.sum_mul, Finset.mul_sum]
  rw [Finset.sum_comm]
  exact Finset.sum_congr rfl fun j _ => Finset.sum_congr rfl fun x _ => by ring

/-- The gradient of the scores as the softmax's derivative writes it. -/
theorem gs_eq (h i j : ℕ) :
    (dp v d h i j / tot q k h i + -(∑ j' ∈ Finset.range 4096, dp v d h i j' * (1 / (tot q k h i * tot q k h i)) * ex q k h i j')) * ex q k h i j
      = gs q k v d h i j := by
  have ht : tot q k h i ≠ 0 := (tot_pos q k h i).ne'
  have e : (∑ j' ∈ Finset.range 4096, dp v d h i j' * (1 / (tot q k h i * tot q k h i)) * ex q k h i j') = del q k v d h i / tot q k h i := by
    rw [del_eq, Finset.sum_div]
    refine Finset.sum_congr rfl fun j' _ => ?_
    unfold pr
    field_simp
  rw [e]
  unfold gs pr
  field_simp
  ring

theorem gs_above (h i j : ℕ) (hj : ¬j ≤ i) : gs q k v d h i j = 0 := by
  unfold gs pr ex
  rw [if_neg hj]
  simp

/-- The probabilities from the saved logarithm. -/
theorem pr_eq (h i j : ℕ) : pr q k h i j
    = if j ≤ i then (2 : ℝ) ^ (score q k h i j / Real.log 2 - (top q k h i + Real.log (tot q k h i)) / Real.log 2) else 0 := by
  unfold pr ex
  split_ifs
  · have hl : Real.log 2 ≠ 0 := (Real.log_pos (by norm_num)).ne'
    rw [Real.rpow_def_of_pos (by norm_num), ← sub_div, mul_div_cancel₀ _ hl, ← sub_sub, Real.exp_sub _ (Real.log _), Real.exp_log (tot_pos q k h i)]
  · exact zero_div _

end Cert.Model

end
-- ==== Proof.Bwd.Ref.lean ====
module

public import proofs.«01_k».proof.Proof.Bwd.Model
public import proofs.«01_k».proof.Proof.Gen.ReferenceIdeal.Read
public import Idealize.ShloMosaic.Lib.KernelVsHost

/-! The plain gradient's values on real arguments, one operation after the other. -/

@[expose] public section

set_option maxRecDepth 16384

noncomputable section

namespace Cert.ReferenceIdeal.Real

open Cert.ReferenceIdeal Cert.ReferenceIdeal.Gen Cert.ReferenceIdeal.Read
open Idealize.ShloMosaic
open Cert.KernelIdeal.Bwd (scale scale_word coe_range_sum)
open Cert.Model

/-- The entries of an array of three axes are the real numbers `f`. -/
abbrev Is {a b c : ℕ} (X : FVec Ideal ⟨3, ![a, b, c]⟩ .f32) (f : ℕ → ℕ → ℕ → ℝ) : Prop :=
  ∀ y, X y = ((f (y 0).val (y 1).val (y 2).val : ℝ) : EReal)

theorem zero_word : (Ideal.ofBits .f32 0x00000000#32 : EReal) = ((0 : ℝ) : EReal) := by
  simp [Ideal.ofBits, Ideal.ieee]

theorem bot_word : (Ideal.ofBits .f32 0xFF800000#32 : EReal) = ⊥ := by
  simp [Ideal.ofBits, Ideal.ieee]

theorem one_word : (Ideal.ofBits .f32 0x3F800000#32 : EReal) = ((1 : ℝ) : EReal) := by
  simp [Ideal.ofBits, Ideal.ieee, -EReal.coe_mul]
  norm_num

theorem sle_rows (a b : ℕ) (ha : a < 4096) (hb : b < 4096) :
    IntOp.cmpi .sle (BitVec.ofNat 32 a) (BitVec.ofNat 32 b) = BitVec.ofBool (decide (a ≤ b)) := by
  unfold IntOp.cmpi
  congr 1
  show BitVec.sle _ _ = _
  rw [BitVec.sle_eq_decide]
  congr 1
  simp only [BitVec.toInt_eq_toNat_cond, BitVec.toNat_ofNat]
  apply propext
  omega

theorem div_real (x y : ℝ) (hy : y ≠ 0) : Ideal.div (x : EReal) (y : EReal) = ((x / y : ℝ) : EReal) := by
  rw [Ideal.div_coe hy, ← EReal.coe_mul, mul_one_div]

theorem sum_real {n : ℕ} (f : Fin n → EReal) (g : ℕ → ℝ) (h : ∀ k : Fin n, f k = ((g k.val : ℝ) : EReal)) :
    ∑ k : Fin n, f k = ((∑ k ∈ Finset.range n, g k : ℝ) : EReal) := by
  rw [← coe_range_sum]
  exact Finset.sum_congr rfl fun k _ => h k

variable {x0 x1 : FVec Ideal ⟨3, ![4096, 12, 96]⟩ .f32} {x2 x3 : FVec Ideal ⟨3, ![4096, 12, 64]⟩ .f32}
  {q k v d : ℕ → ℕ → ℕ → ℝ}

theorem at_v2 (h0 : Is x0 q) (h1 : Is x1 k) (y : S12x4096x4096.Idx) :
    val_main_v2 (F := Ideal) x0 x1 y = ((score q k (y 0).val (y 1).val (y 2).val : ℝ) : EReal) := by
  rw [val_main_v2_apply, val_main_v0_apply, val_main_v1_apply, val_main_cst_apply]
  refine Eq.trans (congrArg₂ (· * ·) (sum_real _ (fun x => q (y 1).val (y 0).val x * k (y 2).val (y 0).val x) fun x => ?_) scale_word) ?_
  · rw [h0, h1, ← EReal.coe_mul]
  · rw [← EReal.coe_mul]
    rfl

theorem at_mask (y : S12x4096x4096.Idx) :
    val_main_v11_1 (F := Ideal) y = BitVec.ofBool (decide ((y 2).val ≤ (y 1).val)) := by
  rw [val_main_v11_1_apply, val_main_v10_apply, val_main_v9_apply, val_main_v7_apply, val_main_v4_apply, val_main_v8_apply, val_main_v6_apply]
  exact sle_rows _ _ (y 2).isLt (y 1).isLt

theorem at_v11 (h0 : Is x0 q) (h1 : Is x1 k) (y : S12x4096x4096.Idx) :
    val_main_v11_0 (F := Ideal) x0 x1 y
      = if (y 2).val ≤ (y 1).val then ((score q k (y 0).val (y 1).val (y 2).val : ℝ) : EReal) else ⊥ := by
  rw [val_main_v11_0_apply, at_mask, at_v2 h0 h1, Cert.KernelIdeal.Bwd.select_le, val_main_call0_v2_apply, val_main_call0_v0_apply, val_main_cst_0_apply]
  rw [Ideal.ofBits_def, bot_word]

theorem at_v12 (h0 : Is x0 q) (h1 : Is x1 k) (y : S12x4096.Idx) :
    val_main_v12 (F := Ideal) x0 x1 y = ((top q k (y 0).val (y 1).val : ℝ) : EReal) := by
  unfold val_main_v12
  rw [Host.reduce_eq_fold_single (FloatOps.maximumf (F := Ideal) (φ := .f32)) _ _ _ (by decide) h_S_]
  show Finset.fold max (Ideal.ofBits .f32 0xFF800000#32 : EReal) _ _ = _
  rw [bot_word]
  have hy : (y 1).val < 4096 := (y 1).isLt
  refine le_antisymm ((Finset.fold_max_le _).2 ⟨bot_le, fun j _ => ?_⟩) ((Finset.le_fold_max _).2 (Or.inr ?_))
  · refine (at_v11 h0 h1 _).trans_le ?_
    split_ifs with hj
    · exact EReal.coe_le_coe_iff.2 (Finset.le_sup' (score q k _ _) (Finset.mem_range.2 (Nat.lt_succ_of_le hj)))
    · exact bot_le
  · obtain ⟨j, hj, e⟩ := Finset.exists_mem_eq_sup' (⟨0, Finset.mem_range.2 (Nat.succ_pos (y 1).val)⟩ : (Finset.range ((y 1).val + 1)).Nonempty) (score q k (y 0).val (y 1).val)
    have hj := Finset.mem_range.1 hj
    refine ⟨⟨j, by show j < 4096; omega⟩, Finset.mem_univ _, ?_⟩
    unfold top
    rw [e]
    refine le_of_eq (Eq.trans ?_ (at_v11 h0 h1 _).symm)
    exact (if_pos (Nat.le_of_lt_succ hj)).symm

theorem at_v32 (h0 : Is x0 q) (h1 : Is x1 k) : Is (val_main_v32 (F := Ideal) x0 x1) (ex q k) := by
  intro y
  rw [val_main_v32_apply, val_main_v31_apply, at_v11 h0 h1, val_main_v30_apply, val_main_v29_apply, val_main_v19_apply, at_v12 h0 h1,
    val_main_v18_apply, val_main_cst_3_apply, Ideal.ofBits_def, bot_word, Ideal.maximumf_def, max_eq_right bot_le, Ideal.subf_def, Ideal.hostUnary_exp_def]
  unfold ex
  split_ifs
  · rw [← EReal.coe_sub]
    rfl
  · rw [EReal.bot_sub, Ideal.exp_bot, EReal.coe_zero]

theorem at_v33 (h0 : Is x0 q) (h1 : Is x1 k) (y : S12x4096.Idx) :
    val_main_v33 (F := Ideal) x0 x1 y = ((tot q k (y 0).val (y 1).val : ℝ) : EReal) := by
  rw [val_main_v33_apply, val_main_cst_9_apply, Ideal.ofBits_def, zero_word, EReal.coe_zero, zero_add]
  exact sum_real _ (ex q k (y 0).val (y 1).val) fun j => at_v32 h0 h1 _

theorem at_v34 (h0 : Is x0 q) (h1 : Is x1 k) (y : S12x4096x1.Idx) :
    val_main_v34 (F := Ideal) x0 x1 y = ((tot q k (y 0).val (y 1).val : ℝ) : EReal) := by
  rw [val_main_v34_apply, at_v33 h0 h1]

theorem at_v36 (h0 : Is x0 q) (h1 : Is x1 k) : Is (val_main_v36 (F := Ideal) x0 x1) (pr q k) := by
  intro y
  rw [val_main_v36_apply, val_main_v35_apply, at_v34 h0 h1, at_v32 h0 h1, Ideal.hostDivf_def, div_real _ _ (tot_pos q k _ _).ne']
  rfl

theorem at_v43 (h2 : Is x2 v) (h3 : Is x3 d) : Is (val_main_v43 (F := Ideal) x2 x3) (dp v d) := by
  intro y
  rw [val_main_v43_apply]
  refine sum_real _ (fun x => d (y 1).val (y 0).val x * v (y 2).val (y 0).val x) fun x => ?_
  rw [val_main_v42_apply, h2, h3, ← EReal.coe_mul]

theorem at_v49 (h0 : Is x0 q) (h1 : Is x1 k) (h2 : Is x2 v) (h3 : Is x3 d) (y : S12x4096.Idx) :
    val_main_v49 (F := Ideal) x0 x1 x2 x3 y
      = ((∑ j ∈ Finset.range 4096, dp v d (y 0).val (y 1).val j * (1 / (tot q k (y 0).val (y 1).val * tot q k (y 0).val (y 1).val)) * ex q k (y 0).val (y 1).val j : ℝ) : EReal) := by
  rw [val_main_v49_apply, val_main_cst_11_apply, Ideal.ofBits_def, zero_word, EReal.coe_zero, zero_add]
  refine sum_real _ (fun j => dp v d (y 0).val (y 1).val j * (1 / (tot q k (y 0).val (y 1).val * tot q k (y 0).val (y 1).val)) * ex q k (y 0).val (y 1).val j) fun j => ?_
  have ht := (tot_pos q k (y 0).val (y 1).val).ne'
  rw [val_main_v48_apply, at_v32 h0 h1, val_main_v47_apply, at_v43 h2 h3, val_main_v46_apply, val_main_v39_apply, val_main_v37_apply, at_v34 h0 h1,
    val_main_v38_apply, val_main_cst_10_apply, Ideal.ofBits_def, one_word]
  simp only [Ideal.mulf_def, Ideal.hostDivf_def]
  rw [← EReal.coe_mul, div_real, ← EReal.coe_mul, ← EReal.coe_mul]
  exact mul_ne_zero ht ht

theorem at_v54 (h0 : Is x0 q) (h1 : Is x1 k) (h2 : Is x2 v) (h3 : Is x3 d) (y : S12x4096.Idx) :
    val_main_v54 (F := Ideal) x0 x1 x2 x3 y
      = ((-(∑ j ∈ Finset.range 4096, dp v d (y 0).val (y 1).val j * (1 / (tot q k (y 0).val (y 1).val * tot q k (y 0).val (y 1).val)) * ex q k (y 0).val (y 1).val j) : ℝ) : EReal) := by
  have hy : (y 1).val < 4096 := (y 1).isLt
  have e0 : (idx_main_v50 (idx_main_v54 y 0) 0).val = (y 0).val := by
    show (((y 0).val * 4096 + (y 1).val) * 1 + 0) / 4096 = (y 0).val
    omega
  have e1 : (idx_main_v50 (idx_main_v54 y 0) 1).val = (y 1).val := by
    show (((y 0).val * 4096 + (y 1).val) * 1 + 0) % 4096 = (y 1).val
    omega
  rw [val_main_v54_apply, val_main_cst_12_apply, Ideal.ofBits_def, zero_word, EReal.coe_zero, zero_add, Fin.sum_univ_one, val_main_v51_apply, Ideal.hostNegf_def, Ideal.negf_def,
    val_main_v50_apply, at_v49 h0 h1 h2 h3, e0, e1, EReal.coe_neg]

theorem at_v60 (h0 : Is x0 q) (h1 : Is x1 k) (h2 : Is x2 v) (h3 : Is x3 d) :
    Is (val_main_v60 (F := Ideal) x0 x1 x2 x3) fun h i j => gs q k v d h i j * scale := by
  intro y
  rw [val_main_v60_apply, val_main_v59_apply, val_main_cst_13_apply, val_main_v58_apply, at_mask, val_main_v57_apply, val_main_v56_apply,
    val_main_v53_apply, val_main_v55_apply, at_v54 h0 h1 h2 h3, at_v43 h2 h3, val_main_v52_apply, at_v34 h0 h1, at_v32 h0 h1, Cert.KernelIdeal.Bwd.select_le,
    val_main_call1_v0_apply, val_main_call1_cst_apply]
  simp only [Ideal.mulf_def, Ideal.hostDivf_def, Ideal.addf_def]
  refine Eq.trans (congrArg₂ (· * ·) ?_ scale_word) (EReal.coe_mul _ _).symm
  rw [div_real _ _ (tot_pos q k _ _).ne', ← EReal.coe_add, ← EReal.coe_mul]
  split_ifs with hj
  · exact congrArg _ (gs_eq q k v d _ _ _)
  · rw [gs_above q k v d _ _ _ hj]
    exact zero_word

theorem at_v64 (h0 : Is x0 q) (h1 : Is x1 k) (h2 : Is x2 v) (h3 : Is x3 d) :
    Is (val_main_v64 (F := Ideal) x0 x1 x2 x3) fun i h x => gq q k v d h i x := by
  intro y
  rw [val_main_v64_apply, val_main_v63_apply]
  refine (sum_real _ (fun j => gs q k v d (y 1).val (y 0).val j * scale * k j (y 1).val (y 2).val) fun j => ?_).trans ?_
  · rw [at_v60 h0 h1 h2 h3, h1, ← EReal.coe_mul]
  · dsimp only
    unfold gq
    rw [Finset.sum_mul]
    exact congrArg _ (Finset.sum_congr rfl fun j _ => by ring)

theorem at_v62 (h0 : Is x0 q) (h1 : Is x1 k) (h2 : Is x2 v) (h3 : Is x3 d) :
    Is (val_main_v62 (F := Ideal) x0 x1 x2 x3) fun j h x => gk q k v d h j x := by
  intro y
  rw [val_main_v62_apply, val_main_v61_apply]
  refine (sum_real _ (fun i => gs q k v d (y 1).val i (y 0).val * scale * q i (y 1).val (y 2).val) fun i => ?_).trans ?_
  · rw [at_v60 h0 h1 h2 h3, h0, ← EReal.coe_mul]
  · dsimp only
    unfold gk
    rw [Finset.sum_mul]
    exact congrArg _ (Finset.sum_congr rfl fun j _ => by ring)

theorem at_v45 (h0 : Is x0 q) (h1 : Is x1 k) (h3 : Is x3 d) :
    Is (val_main_v45 (F := Ideal) x0 x1 x3) fun j h x => gv q k d h j x := by
  intro y
  rw [val_main_v45_apply, val_main_v44_apply]
  refine sum_real _ (fun i => pr q k (y 1).val i (y 0).val * d i (y 1).val (y 2).val) fun i => ?_
  rw [val_main_v42_apply, at_v36 h0 h1, h3, ← EReal.coe_mul, mul_comm]

end Cert.ReferenceIdeal.Real

end
-- ==== Proof.Bwd.Slots.lean ====
module

public import proofs.«01_k».proof.Proof.Bwd.Ref

/-! A head's features in a slot of 128 columns, and four heads' rows in a block of eight. -/

@[expose] public section

set_option maxRecDepth 16384

noncomputable section

namespace Cert.ReferenceIdeal.Real

open Idealize.ShloMosaic
open Cert.Model

/-- The features of each head in its slot of columns, zeros after them. -/
def slot (w : ℕ) (f : ℕ → ℕ → ℕ → ℝ) (n b : ℕ) : ℝ := if b % 128 < w then f n (b / 128) (b % 128) else 0

theorem zero_int : (sitofp .f32 (constantI (⟨0, ![]⟩ : Shape) 32 0#32) : FVec Ideal ⟨0, ![]⟩ .f32) = fun _ => ((0 : ℝ) : EReal) := by
  funext i
  show (((0#32 : BitVec 32).toInt : ℝ) : EReal) = _
  simp

theorem slots96 {X : FVec Ideal ⟨3, ![4096, 12, 96]⟩ .f32} {f : ℕ → ℕ → ℕ → ℝ} (hX : Is X f) {v : FVec Ideal ⟨0, ![]⟩ .f32}
    (hv : v = fun _ => ((0 : ℝ) : EReal))
    (h : Shape.Pads (⟨3, ![4096, 12, 96]⟩ : Shape) ![0, 0, 0] ![0, 0, 32] ![0, 0, 0] ⟨3, ![4096, 12, 128]⟩) (hu : 0 < (⟨0, ![]⟩ : Shape).numel)
    (hc : (⟨3, ![4096, 12, 128]⟩ : Shape).ShapeCasts ⟨2, ![4096, 1536]⟩) (y : (⟨2, ![4096, 1536]⟩ : Shape).Idx) :
    shapeCast (⟨2, ![4096, 1536]⟩ : Shape) (pad (⟨3, ![4096, 12, 128]⟩ : Shape) ![0, 0, 0] ![0, 0, 32] ![0, 0, 0] X v h hu) hc y
      = ((slot 96 f (y 0).val (y 1).val : ℝ) : EReal) := by
  have h0 : (y 0).val < 4096 := (y 0).isLt
  have h1 : (y 1).val < 1536 := (y 1).isLt
  rw [shapeCast_apply _ hc y (ValueIdx.ix3 ⟨(y 0).val, h0⟩ ⟨(y 1).val / 128, by omega⟩ ⟨(y 1).val % 128, by omega⟩)
    (by rw [Shape.rowMajor_val_three, Shape.rowMajor_val_two]; show ((y 0).val * 12 + (y 1).val / 128) * 128 + (y 1).val % 128 = (y 0).val * 1536 + (y 1).val; omega)]
  unfold slot
  split_ifs with hb
  · rw [pad_apply_of_inside ![0, 0, 0] ![0, 0, 32] ![0, 0, 0] X v h hu _ (ValueIdx.ix3 ⟨(y 0).val, h0⟩ ⟨(y 1).val / 128, by omega⟩ ⟨(y 1).val % 128, hb⟩)
      (fun a => by fin_cases a <;> simp), hX]
  · rw [pad_apply_of_not_inside ![0, 0, 0] ![0, 0, 32] ![0, 0, 0] X v h hu _ 2 (by simpa using fun _ => hb), hv]

theorem slots64 {X : FVec Ideal ⟨3, ![4096, 12, 64]⟩ .f32} {f : ℕ → ℕ → ℕ → ℝ} (hX : Is X f) {v : FVec Ideal ⟨0, ![]⟩ .f32}
    (hv : v = fun _ => ((0 : ℝ) : EReal))
    (h : Shape.Pads (⟨3, ![4096, 12, 64]⟩ : Shape) ![0, 0, 0] ![0, 0, 64] ![0, 0, 0] ⟨3, ![4096, 12, 128]⟩) (hu : 0 < (⟨0, ![]⟩ : Shape).numel)
    (hc : (⟨3, ![4096, 12, 128]⟩ : Shape).ShapeCasts ⟨2, ![4096, 1536]⟩) (y : (⟨2, ![4096, 1536]⟩ : Shape).Idx) :
    shapeCast (⟨2, ![4096, 1536]⟩ : Shape) (pad (⟨3, ![4096, 12, 128]⟩ : Shape) ![0, 0, 0] ![0, 0, 64] ![0, 0, 0] X v h hu) hc y
      = ((slot 64 f (y 0).val (y 1).val : ℝ) : EReal) := by
  have h0 : (y 0).val < 4096 := (y 0).isLt
  have h1 : (y 1).val < 1536 := (y 1).isLt
  rw [shapeCast_apply _ hc y (ValueIdx.ix3 ⟨(y 0).val, h0⟩ ⟨(y 1).val / 128, by omega⟩ ⟨(y 1).val % 128, by omega⟩)
    (by rw [Shape.rowMajor_val_three, Shape.rowMajor_val_two]; show ((y 0).val * 12 + (y 1).val / 128) * 128 + (y 1).val % 128 = (y 0).val * 1536 + (y 1).val; omega)]
  unfold slot
  split_ifs with hb
  · rw [pad_apply_of_inside ![0, 0, 0] ![0, 0, 64] ![0, 0, 0] X v h hu _ (ValueIdx.ix3 ⟨(y 0).val, h0⟩ ⟨(y 1).val / 128, by omega⟩ ⟨(y 1).val % 128, hb⟩)
      (fun a => by fin_cases a <;> simp), hX]
  · rw [pad_apply_of_not_inside ![0, 0, 0] ![0, 0, 64] ![0, 0, 0] X v h hu _ 2 (by simpa using fun _ => hb), hv]

/-- The row of head `4 g + r` in row `r` of block `g`, zeros in the last four rows. -/
def rows8 (f : ℕ → ℕ → ℝ) (g r n : ℕ) : ℝ := if r < 4 then f (4 * g + r) n else 0

theorem rows_at {X : FVec Ideal ⟨2, ![12, 4096]⟩ .f32} {f : ℕ → ℕ → ℝ} (hX : ∀ y, X y = ((f (y 0).val (y 1).val : ℝ) : EReal)) {v : FVec Ideal ⟨0, ![]⟩ .f32}
    (hv : v = fun _ => ((0 : ℝ) : EReal)) (hc : (⟨2, ![12, 4096]⟩ : Shape).ShapeCasts ⟨3, ![3, 4, 4096]⟩)
    (h : Shape.Pads (⟨3, ![3, 4, 4096]⟩ : Shape) ![0, 0, 0] ![0, 4, 0] ![0, 0, 0] ⟨3, ![3, 8, 4096]⟩) (hu : 0 < (⟨0, ![]⟩ : Shape).numel)
    (y : (⟨3, ![3, 8, 4096]⟩ : Shape).Idx) :
    pad (⟨3, ![3, 8, 4096]⟩ : Shape) ![0, 0, 0] ![0, 4, 0] ![0, 0, 0] (shapeCast (⟨3, ![3, 4, 4096]⟩ : Shape) X hc) v h hu y
      = ((rows8 f (y 0).val (y 1).val (y 2).val : ℝ) : EReal) := by
  have h0 : (y 0).val < 3 := (y 0).isLt
  have h1 : (y 1).val < 8 := (y 1).isLt
  have h2 : (y 2).val < 4096 := (y 2).isLt
  unfold rows8
  split_ifs with hr
  · rw [pad_apply_of_inside ![0, 0, 0] ![0, 4, 0] ![0, 0, 0] _ v h hu y (ValueIdx.ix3 ⟨(y 0).val, h0⟩ ⟨(y 1).val, hr⟩ ⟨(y 2).val, h2⟩)
      (fun a => by fin_cases a <;> simp)]
    rw [shapeCast_apply _ hc _ (ValueIdx.ix2 ⟨4 * (y 0).val + (y 1).val, by omega⟩ ⟨(y 2).val, h2⟩)
      (by rw [Shape.rowMajor_val_three, Shape.rowMajor_val_two]; show (4 * (y 0).val + (y 1).val) * 4096 + (y 2).val = ((y 0).val * 4 + (y 1).val) * 4096 + (y 2).val; ring), hX]
  · rw [pad_apply_of_not_inside ![0, 0, 0] ![0, 4, 0] ![0, 0, 0] (shapeCast (⟨3, ![3, 4, 4096]⟩ : Shape) X hc) v h hu y 1 (by simpa using fun _ => hr), hv]

open Cert.ReferenceIdeal Cert.ReferenceIdeal.Gen Cert.ReferenceIdeal.Read

variable {x0 x1 : FVec Ideal ⟨3, ![4096, 12, 96]⟩ .f32} {x2 x3 : FVec Ideal ⟨3, ![4096, 12, 64]⟩ .f32}
  {q k v d : ℕ → ℕ → ℕ → ℝ}

theorem at_v66 (h0 : Is x0 q) (h1 : Is x1 k) (h2 : Is x2 v) (h3 : Is x3 d) (y : (⟨2, ![4096, 1536]⟩ : Shape).Idx) :
    val_main_v66 (F := Ideal) x0 x1 x2 x3 y = ((slot 96 (fun i h x => gq q k v d h i x) (y 0).val (y 1).val : ℝ) : EReal) :=
  slots96 (at_v64 h0 h1 h2 h3) zero_int _ _ _ y

theorem at_v68 (h0 : Is x0 q) (h1 : Is x1 k) (h2 : Is x2 v) (h3 : Is x3 d) (y : (⟨2, ![4096, 1536]⟩ : Shape).Idx) :
    val_main_v68 (F := Ideal) x0 x1 x2 x3 y = ((slot 96 (fun j h x => gk q k v d h j x) (y 0).val (y 1).val : ℝ) : EReal) :=
  slots96 (at_v62 h0 h1 h2 h3) zero_int _ _ _ y

theorem at_v71 (h0 : Is x0 q) (h1 : Is x1 k) (h3 : Is x3 d) (y : (⟨2, ![4096, 1536]⟩ : Shape).Idx) :
    val_main_v71 (F := Ideal) x0 x1 x3 y = ((slot 64 (fun j h x => gv q k d h j x) (y 0).val (y 1).val : ℝ) : EReal) :=
  slots64 (at_v45 h0 h1 h3) zero_int pads_S4096x12x64_S4096x12x128_000_000_0640 h_S_ shapeCasts_S4096x12x128_S4096x1536 y

end Cert.ReferenceIdeal.Real

end
-- ==== Proof.Bwd.Steps.lean ====
module

public import proofs.«01_k».proof.Proof.Bwd.Tiles
public import proofs.«01_k».proof.Proof.Bwd.Blocks
public import Idealize.ShloMosaic.Lib.Pipeline.ReadBack

/-! What one point of the grid makes of real numbers. -/

@[expose] public section

set_option maxRecDepth 16384

noncomputable section

namespace Cert.KernelIdeal.Bwd

open Cert.KernelIdeal.Gen
open Idealize.ShloMosaic

/-! ## One point of the grid, on real numbers -/

/-- The product of a row of `k` and a row of `q` over the columns of head `h`. -/
def sc (q k : ℕ → ℕ → ℝ) (h a n : ℕ) : ℝ := ∑ d ∈ Finset.range 128, k a (128 * h + d) * q n (128 * h + d)

/-- The probabilities of a block below the diagonal. -/
def pFull (q k l : ℕ → ℕ → ℝ) (h a n : ℕ) : ℝ := (2 : ℝ) ^ (sc q k h a n - l h n)

/-- The probabilities of a block on the diagonal. -/
def pDiag (q k l : ℕ → ℕ → ℝ) (h a n : ℕ) : ℝ := if a ≤ n then (2 : ℝ) ^ (sc q k h a n - l h n) else 0

/-- The derivative of the scores. -/
def dsOf (p : ℕ → ℕ → ℕ → ℝ) (v d e : ℕ → ℕ → ℝ) (h a n : ℕ) : ℝ := p h a n * (sc d v h a n - e h n)

/-- An accumulator of 1024 keys after one block of queries. -/
def stepV (p : ℕ → ℕ → ℕ → ℝ) (d s : ℕ → ℕ → ℝ) (a b : ℕ) : ℝ := s a b + ∑ n ∈ Finset.range 1024, p (b / 128) a n * d n b

/-- The gradient of the queries after one block of keys. -/
def stepQ (i : ℕ) (p : ℕ → ℕ → ℕ → ℝ) (k o : ℕ → ℕ → ℝ) (y b : ℕ) : ℝ :=
  if y / 1024 = i then o y b + (∑ a ∈ Finset.range 1024, p (b / 128) a (y - 1024 * i) * k a b) * scale else o y b

theorem four_cols (G : ℕ → ℕ → ℕ → ℝ) (X : (⟨2, ![1024, 512]⟩ : Shape).Idx → EReal) :
    put 0 384 1024 128 (fun a b => G 3 a (384 + b)) (put 0 256 1024 128 (fun a b => G 2 a (256 + b))
      (put 0 128 1024 128 (fun a b => G 1 a (128 + b)) (put 0 0 1024 128 (fun a b => G 0 a b) X)))
      = tile (e := .f32) 1024 512 fun a b => G (b / 128) a b := by
  funext y
  have h0 : (y 0).val < 1024 := (y 0).isLt
  have h1 : (y 1).val < 512 := (y 1).isLt
  unfold put tile
  generalize (y 0).val = a at *
  generalize (y 1).val = b at *
  dsimp only
  split_ifs with c3 c2 c1 c0
  · rw [show b / 128 = 3 by omega, show 384 + (b - 384) = b by omega, show a - 0 = a by omega]
  · rw [show b / 128 = 2 by omega, show 256 + (b - 256) = b by omega, show a - 0 = a by omega]
  · rw [show b / 128 = 1 by omega, show 128 + (b - 128) = b by omega, show a - 0 = a by omega]
  · rw [show b / 128 = 0 by omega, show b - 0 = b by omega, show a - 0 = a by omega]
  · omega

/-- The same with each head's rows put in two halves. -/
theorem eight_parts (G T B : ℕ → ℕ → ℕ → ℝ) (X : (⟨2, ![1024, 512]⟩ : Shape).Idx → EReal)
    (hT : ∀ h a b, a < 512 → T h a b = G h a b) (hB : ∀ h a b, a < 512 → B h a b = G h (512 + a) b) :
    put 512 384 512 128 (fun a b => B 3 a (384 + b)) (put 0 384 512 128 (fun a b => T 3 a (384 + b))
    (put 512 256 512 128 (fun a b => B 2 a (256 + b)) (put 0 256 512 128 (fun a b => T 2 a (256 + b))
    (put 512 128 512 128 (fun a b => B 1 a (128 + b)) (put 0 128 512 128 (fun a b => T 1 a (128 + b))
    (put 512 0 512 128 (fun a b => B 0 a b) (put 0 0 512 128 (fun a b => T 0 a b) X)))))))
      = tile (e := .f32) 1024 512 fun a b => G (b / 128) a b := by
  funext y
  have h0 : (y 0).val < 1024 := (y 0).isLt
  have h1 : (y 1).val < 512 := (y 1).isLt
  unfold put tile
  generalize (y 0).val = a at *
  generalize (y 1).val = b at *
  dsimp only
  split_ifs with c7 c6 c5 c4 c3 c2 c1 c0
  · rw [hB _ _ _ (by omega), show b / 128 = 3 by omega, show 384 + (b - 384) = b by omega, show 512 + (a - 512) = a by omega]
  · rw [hT _ _ _ (by omega), show b / 128 = 3 by omega, show 384 + (b - 384) = b by omega, show a - 0 = a by omega]
  · rw [hB _ _ _ (by omega), show b / 128 = 2 by omega, show 256 + (b - 256) = b by omega, show 512 + (a - 512) = a by omega]
  · rw [hT _ _ _ (by omega), show b / 128 = 2 by omega, show 256 + (b - 256) = b by omega, show a - 0 = a by omega]
  · rw [hB _ _ _ (by omega), show b / 128 = 1 by omega, show 128 + (b - 128) = b by omega, show 512 + (a - 512) = a by omega]
  · rw [hT _ _ _ (by omega), show b / 128 = 1 by omega, show 128 + (b - 128) = b by omega, show a - 0 = a by omega]
  · rw [hB _ _ _ (by omega), show b / 128 = 0 by omega, show b - 0 = b by omega, show 512 + (a - 512) = a by omega]
  · rw [hT _ _ _ (by omega), show b / 128 = 0 by omega, show b - 0 = b by omega, show a - 0 = a by omega]
  · omega

/-- Four heads' columns put into the rows of one block of the gradient of the queries. -/
theorem four_rows (i : ℕ) (G : ℕ → ℕ → ℕ → ℕ → ℝ) (o : ℕ → ℕ → ℝ) :
    put (1024 * i) 384 1024 128 (fun a b => G 3 a (1024 * i + a) (384 + b)) (put (1024 * i) 256 1024 128 (fun a b => G 2 a (1024 * i + a) (256 + b))
      (put (1024 * i) 128 1024 128 (fun a b => G 1 a (1024 * i + a) (128 + b)) (put (1024 * i) 0 1024 128 (fun a b => G 0 a (1024 * i + a) b) (tile (e := .f32) 4096 512 o))))
      = tile (e := .f32) 4096 512 fun y b => if y / 1024 = i then G (b / 128) (y - 1024 * i) y b else o y b := by
  funext y
  have h1 : (y 1).val < 512 := (y 1).isLt
  unfold put tile
  generalize (y 0).val = a at *
  generalize (y 1).val = b at *
  dsimp only
  split_ifs with c3 c c2 c c1 c c0 c c
  all_goals first
    | omega
    | rfl
    | (rw [show b / 128 = 3 by omega, show 384 + (b - 384) = b by omega, show 1024 * i + (a - 1024 * i) = a by omega])
    | (rw [show b / 128 = 2 by omega, show 256 + (b - 256) = b by omega, show 1024 * i + (a - 1024 * i) = a by omega])
    | (rw [show b / 128 = 1 by omega, show 128 + (b - 128) = b by omega, show 1024 * i + (a - 1024 * i) = a by omega])
    | (rw [show b / 128 = 0 by omega, show b - 0 = b by omega, show 1024 * i + (a - 1024 * i) = a by omega])

/-- The same with each head's rows put first whole and then, from the middle on, again. -/
theorem eight_rows (i : ℕ) (G : ℕ → ℕ → ℕ → ℕ → ℝ) (T B : ℕ → ℕ → ℕ → ℝ) (o : ℕ → ℕ → ℝ)
    (hT : ∀ h a b, a < 512 → T h a b = G h a (1024 * i + a) b) (hB : ∀ h a b, a < 512 → B h a b = G h (512 + a) (1024 * i + (512 + a)) b) :
    put (1024 * i + 512) 384 512 128 (fun a b => B 3 a (384 + b)) (put (1024 * i) 384 1024 128 (fun a b => T 3 a (384 + b))
    (put (1024 * i + 512) 256 512 128 (fun a b => B 2 a (256 + b)) (put (1024 * i) 256 1024 128 (fun a b => T 2 a (256 + b))
    (put (1024 * i + 512) 128 512 128 (fun a b => B 1 a (128 + b)) (put (1024 * i) 128 1024 128 (fun a b => T 1 a (128 + b))
    (put (1024 * i + 512) 0 512 128 (fun a b => B 0 a b) (put (1024 * i) 0 1024 128 (fun a b => T 0 a b) (tile (e := .f32) 4096 512 o))))))))
      = tile (e := .f32) 4096 512 fun y b => if y / 1024 = i then G (b / 128) (y - 1024 * i) y b else o y b := by
  funext y
  have h1 : (y 1).val < 512 := (y 1).isLt
  unfold put tile
  generalize (y 0).val = a at *
  generalize (y 1).val = b at *
  dsimp only
  by_cases c : a / 1024 = i
  · rw [if_pos c]
    obtain ⟨x, rfl⟩ : ∃ x, a = 1024 * i + x := ⟨a - 1024 * i, by omega⟩
    have hx : x < 1024 := by omega
    rw [show 1024 * i + x - 1024 * i = x by omega, show 1024 * i + x - (1024 * i + 512) = x - 512 by omega]
    split_ifs
    all_goals first
      | omega
      | (rw [hT _ _ _ (by omega), show b / 128 = 0 by omega, show b - 0 = b by omega])
      | (rw [hT _ _ _ (by omega), show b / 128 = 1 by omega, show 128 + (b - 128) = b by omega])
      | (rw [hT _ _ _ (by omega), show b / 128 = 2 by omega, show 256 + (b - 256) = b by omega])
      | (rw [hT _ _ _ (by omega), show b / 128 = 3 by omega, show 384 + (b - 384) = b by omega])
      | (rw [hB _ _ _ (by omega), show b / 128 = 0 by omega, show b - 0 = b by omega, show 512 + (x - 512) = x by omega])
      | (rw [hB _ _ _ (by omega), show b / 128 = 1 by omega, show 128 + (b - 128) = b by omega, show 512 + (x - 512) = x by omega])
      | (rw [hB _ _ _ (by omega), show b / 128 = 2 by omega, show 256 + (b - 256) = b by omega, show 512 + (x - 512) = x by omega])
      | (rw [hB _ _ _ (by omega), show b / 128 = 3 by omega, show 384 + (b - 384) = b by omega, show 512 + (x - 512) = x by omega])
  · rw [if_neg c]
    have n5 : ¬ (1024 * i + 512 ≤ a ∧ a < 1024 * i + 512 + 512) := by omega
    have n0 : ¬ (1024 * i ≤ a ∧ a < 1024 * i + 1024) := by omega
    simp only [n5, n0, false_and, if_false]

theorem sum_low (F : ℕ → ℝ) (h : ∀ n, n < 512 → F (512 + n) = 0) : ∑ n ∈ Finset.range 1024, F n = ∑ n ∈ Finset.range 512, F n := by
  rw [show 1024 = 512 + 512 from rfl, Finset.sum_range_add, Finset.sum_eq_zero (s := Finset.range 512) (f := fun n => F (512 + n)) fun n hn => h n (Finset.mem_range.mp hn), add_zero]

theorem sum_high (F : ℕ → ℝ) (h : ∀ n, n < 512 → F n = 0) : ∑ n ∈ Finset.range 1024, F n = ∑ n ∈ Finset.range 512, F (512 + n) := by
  rw [show 1024 = 512 + 512 from rfl, Finset.sum_range_add, Finset.sum_eq_zero (s := Finset.range 512) (f := F) fun n hn => h n (Finset.mem_range.mp hn), zero_add]

theorem sum_both (F : ℕ → ℝ) : ∑ n ∈ Finset.range 1024, F n = ∑ n ∈ Finset.range 512, F n + ∑ n ∈ Finset.range 512, F (512 + n) := by
  rw [show 1024 = 512 + 512 from rfl, Finset.sum_range_add]

theorem pDiag_high (q k l : ℕ → ℕ → ℝ) (h a n : ℕ) : pDiag q k l h (512 + a) (512 + n) = if a ≤ n then (2 : ℝ) ^ (sc q k h (512 + a) (512 + n) - l h (512 + n)) else 0 := by
  unfold pDiag
  simp only [Nat.add_le_add_iff_left]

theorem pDiag_above (q k l : ℕ → ℕ → ℝ) {h a n : ℕ} (hn : n < a) : pDiag q k l h a n = 0 := if_neg (by omega)

/-- A load beside the part last put reads what was there before. -/
theorem ld_put_skip {R C n m n' m' r c : ℕ} (g : ℕ → ℕ → ℝ) (X : (⟨2, ![R, C]⟩ : Shape).Idx → EReal) (off : Fin 2 → ℕ) (h)
    (hd : (off 0 + n' ≤ r ∨ r + n ≤ off 0) ∨ (off 1 + m' ≤ c ∨ c + m ≤ off 1)) :
    View.ld (Val := Elt Ideal) (e' := .f32) (put r c n m g X) (Rect.unit (s := ⟨2, ![R, C]⟩) off ![n', m'] h)
      = View.ld (Val := Elt Ideal) (e' := .f32) X (Rect.unit (s := ⟨2, ![R, C]⟩) off ![n', m'] h) := by
  funext y
  have h0 : (y 0).val < n' := (y 0).isLt
  have h1 : (y 1).val < m' := (y 1).isLt
  show put r c n m g X _ = X _
  unfold put
  have e0 : ((Rect.unit (s := ⟨2, ![R, C]⟩) off ![n', m'] h).idx y 0).val = off 0 + (y 0).val := by
    show off 0 + 1 * (y 0).val = _
    rw [one_mul]
  have e1 : ((Rect.unit (s := ⟨2, ![R, C]⟩) off ![n', m'] h).idx y 1).val = off 1 + (y 1).val := by
    show off 1 + 1 * (y 1).val = _
    rw [one_mul]
  rw [e0, e1, if_neg (by omega)]

theorem out_ln2 {X : (⟨2, ![1024, 512]⟩ : Shape).Idx → EReal} {f : ℕ → ℕ → ℝ} (hX : X = tile (e := .f32) 1024 512 f) (w0 w1) :
    View.canon (Val := Elt Ideal) (e := .f32) [⟨Rect.unit (s := ⟨2, ![1024, 512]⟩) ![0, 0] ![1024, 512] w0, (mulf (View.ld (Val := Elt Ideal) (e' := .f32) X (Rect.unit (s := ⟨2, ![1024, 512]⟩) ![0, 0] ![1024, 512] w1) : FVec Ideal S1024x512 .f32) (broadcast S1024x512 (Named.named (F := Ideal) κ "ln2" (φ := .f32) 0x3F317218#32)) : FVec Ideal S1024x512 .f32)⟩]
      = tile (e := .f32) 1024 512 fun a b => f a b * Real.log 2 := by
  subst hX
  rw [View.canon_cons_unit_lit (S := ⟨2, ![1024, 512]⟩) w0 _ _ (by decide), View.ld_unit_lit (S := ⟨2, ![1024, 512]⟩) w1 _ (by decide)]
  exact ln2_tile f

theorem out_trunc {X : (⟨2, ![1024, 512]⟩ : Shape).Idx → EReal} {f : ℕ → ℕ → ℝ} (hX : X = tile (e := .f32) 1024 512 f) (w0 w1) (h : FTy.bits .bf16 < FTy.bits .f32) :
    View.canon (Val := Elt Ideal) (e := .bf16) [⟨Rect.unit (s := ⟨2, ![1024, 512]⟩) ![0, 0] ![1024, 512] w0, (truncf .bf16 (View.ld (Val := Elt Ideal) (e' := .f32) X (Rect.unit (s := ⟨2, ![1024, 512]⟩) ![0, 0] ![1024, 512] w1) : FVec Ideal S1024x512 .f32) h : FVec Ideal S1024x512 .bf16)⟩]
      = tile (e := .bf16) 1024 512 f := by
  subst hX
  rw [View.canon_cons_unit_lit (S := ⟨2, ![1024, 512]⟩) w0 _ _ (by decide), View.ld_unit_lit (S := ⟨2, ![1024, 512]⟩) w1 _ (by decide)]
  rfl

theorem put_all (g : ℕ → ℕ → ℝ) (X) : put 0 0 1024 512 g X = tile (e := .f32) 1024 512 g := by
  funext y
  have h0 : (y 0).val < 1024 := (y 0).isLt
  have h1 : (y 1).val < 512 := (y 1).isLt
  unfold put tile
  rw [if_pos (by omega)]
  rfl

theorem put_all_dq (g : ℕ → ℕ → ℝ) (X) : put 0 0 4096 512 g X = tile (e := .f32) 4096 512 g := by
  funext y
  have h0 : (y 0).val < 4096 := (y 0).isLt
  have h1 : (y 1).val < 512 := (y 1).isLt
  unfold put tile
  rw [if_pos (by omega)]
  rfl

theorem off1_0 : ∀ t : Fin cfg0.N, k0_off1 (grid0.coords t) 0 = 1024 * (t.val % 4) := by decide +kernel
theorem off1_1 : ∀ t : Fin cfg0.N, k0_off1 (grid0.coords t) 1 = 0 := by decide +kernel
theorem off2_0 : ∀ t : Fin cfg0.N, k0_off2 (grid0.coords t) 0 = 1024 * (t.val % 4) := by decide +kernel
theorem off2_1 : ∀ t : Fin cfg0.N, k0_off2 (grid0.coords t) 1 = 128 := by decide +kernel
theorem off3_0 : ∀ t : Fin cfg0.N, k0_off3 (grid0.coords t) 0 = 1024 * (t.val % 4) := by decide +kernel
theorem off3_1 : ∀ t : Fin cfg0.N, k0_off3 (grid0.coords t) 1 = 256 := by decide +kernel
theorem off4_0 : ∀ t : Fin cfg0.N, k0_off4 (grid0.coords t) 0 = 1024 * (t.val % 4) := by decide +kernel
theorem off4_1 : ∀ t : Fin cfg0.N, k0_off4 (grid0.coords t) 1 = 384 := by decide +kernel
theorem off5_0 : ∀ t : Fin cfg0.N, k0_off5 (grid0.coords t) 0 = 1024 * (t.val % 4) := by decide +kernel
theorem off5_1 : ∀ t : Fin cfg0.N, k0_off5 (grid0.coords t) 1 = 0 := by decide +kernel
theorem off6_0 : ∀ t : Fin cfg0.N, k0_off6 (grid0.coords t) 0 = 1024 * (t.val % 4) + 512 := by decide +kernel
theorem off6_1 : ∀ t : Fin cfg0.N, k0_off6 (grid0.coords t) 1 = 0 := by decide +kernel
theorem off7_0 : ∀ t : Fin cfg0.N, k0_off7 (grid0.coords t) 0 = 1024 * (t.val % 4) := by decide +kernel
theorem off7_1 : ∀ t : Fin cfg0.N, k0_off7 (grid0.coords t) 1 = 128 := by decide +kernel
theorem off8_0 : ∀ t : Fin cfg0.N, k0_off8 (grid0.coords t) 0 = 1024 * (t.val % 4) + 512 := by decide +kernel
theorem off8_1 : ∀ t : Fin cfg0.N, k0_off8 (grid0.coords t) 1 = 128 := by decide +kernel
theorem off9_0 : ∀ t : Fin cfg0.N, k0_off9 (grid0.coords t) 0 = 1024 * (t.val % 4) := by decide +kernel
theorem off9_1 : ∀ t : Fin cfg0.N, k0_off9 (grid0.coords t) 1 = 256 := by decide +kernel
theorem off10_0 : ∀ t : Fin cfg0.N, k0_off10 (grid0.coords t) 0 = 1024 * (t.val % 4) + 512 := by decide +kernel
theorem off10_1 : ∀ t : Fin cfg0.N, k0_off10 (grid0.coords t) 1 = 256 := by decide +kernel
theorem off11_0 : ∀ t : Fin cfg0.N, k0_off11 (grid0.coords t) 0 = 1024 * (t.val % 4) := by decide +kernel
theorem off11_1 : ∀ t : Fin cfg0.N, k0_off11 (grid0.coords t) 1 = 384 := by decide +kernel
theorem off12_0 : ∀ t : Fin cfg0.N, k0_off12 (grid0.coords t) 0 = 1024 * (t.val % 4) + 512 := by decide +kernel
theorem off12_1 : ∀ t : Fin cfg0.N, k0_off12 (grid0.coords t) 1 = 384 := by decide +kernel

variable (m : (ℓ : Loc nD τ sig) → Buf (Elt Ideal) ℓ)

/-- The blocks that a point reads are real numbers. -/
structure Blk (c : Dev nD) (t : Fin cfg0.N) (q k v d l e : ℕ → ℕ → ℝ) : Prop where
  q : iblk m c 0 t = tile (e := .bf16) 1024 512 q
  k : iblk m c 1 t = tile (e := .bf16) 1024 512 k
  v : iblk m c 2 t = tile (e := .bf16) 1024 512 v
  d : iblk m c 3 t = tile (e := .bf16) 1024 512 d
  l : iblk m c 4 t = tile3 1024 l
  e : iblk m c 5 t = tile3 1024 e

/-- The contents that a point leaves are real numbers. -/
structure Left (c : Dev nD) (n : ℕ) (hn : n < cfg0.N) (o s0 s1 : ℕ → ℕ → ℝ) : Prop where
  o : (outsAt0 m c n hn).1 = tile (e := .f32) 4096 512 o
  s0 : (outsAt0 m c n hn).2.2.2.1 = tile (e := .f32) 1024 512 s0
  s1 : (outsAt0 m c n hn).2.2.2.2 = tile (e := .f32) 1024 512 s1

theorem step_B (c : Dev nD) (t : Fin cfg0.N) (h0 : ¬t.val % 16 = 0) (h1 : ¬t.val % 4 = 0) (h2 : t.val / 4 % 4 + 1 ≤ t.val % 4) (h3 : ¬t.val / 4 % 4 = t.val % 4) (h4 : ¬t.val % 4 = 3)
    {q k v d l e : ℕ → ℕ → ℝ} (X : Blk m c t q k v d l e) {o s0 s1 : ℕ → ℕ → ℝ} (P : Left m c (t.val - 1) (Nat.lt_of_le_of_lt (Nat.sub_le _ _) t.isLt) o s0 s1) :
    Left m c t.val t.isLt (stepQ (t.val % 4) (dsOf (pFull q k l) v d e) k o) (stepV (dsOf (pFull q k l) v d e) q s0) (stepV (pFull q k l) d s1) := by
  have R := outsAt0_B m c t h0 h1 h2 h3 h4
  rw [pointB, X.q, X.k, X.v, X.d, X.l, X.e, P.o, P.s0, P.s1] at R
  refine ⟨?_, ?_, ?_⟩
  · rw [R]
    dsimp only
    unfold out0_B_6
    frame_open
    unfold_payloads
    simp only [View.read_writes_junk_eq_canon, View.readAt_eq_ld, readCov_ld, Memref.IsWhole.read_unread, read_unread_whole, ld_tile_f32, ld_tile_bf16, ld_tile3]
    try dsimp only [Matrix.cons_val_zero, Matrix.cons_val_one, Matrix.cons_val]
    simp only [cast_row_1024, cast_row_512, cast_tile, mm_full_s, mm_full_v, mm_full_q, exp_full, ds_full, trunc_full, mm_top_s, mm_top_v, mm_top_q, mask_top, ds_top, trunc_top, mm_bot_s, mm_bot_v, mm_bot_q, mask_bot, ds_bot, trunc_bot, scale_full, scale_bot, addf_tile, canon_cons_tile, read_cons_tile, Nat.zero_add]
    try dsimp only [Matrix.cons_val_zero, Matrix.cons_val_one, Matrix.cons_val]
    simp only [off1_0, off1_1, off2_0, off2_1, off3_0, off3_1, off4_0, off4_1, View.writes_nil, Memref.IsWhole.read_unread, Nat.zero_add]
    exact (four_rows (t.val % 4) (fun h x y b => o y b + (∑ a ∈ Finset.range 1024, dsOf (pFull q k l) v d e h a x * k a b) * scale) o)
  · rw [R]
    dsimp only
    unfold sout0_B_0
    frame_open
    unfold_payloads
    simp only [View.read_writes_junk_eq_canon, View.readAt_eq_ld, readCov_ld, Memref.IsWhole.read_unread, read_unread_whole, ld_tile_f32, ld_tile_bf16, ld_tile3]
    try dsimp only [Matrix.cons_val_zero, Matrix.cons_val_one, Matrix.cons_val]
    simp only [cast_row_1024, cast_row_512, cast_tile, mm_full_s, mm_full_v, mm_full_q, exp_full, ds_full, trunc_full, mm_top_s, mm_top_v, mm_top_q, mask_top, ds_top, trunc_top, mm_bot_s, mm_bot_v, mm_bot_q, mask_bot, ds_bot, trunc_bot, scale_full, scale_bot, addf_tile, canon_cons_tile, read_cons_tile, Nat.zero_add]
    try dsimp only [Matrix.cons_val_zero, Matrix.cons_val_one, Matrix.cons_val]
    exact four_cols (fun h a b => s0 a b + ∑ n ∈ Finset.range 1024, dsOf (pFull q k l) v d e h a n * q n b) _
  · rw [R]
    dsimp only
    unfold sout0_B_1
    frame_open
    unfold_payloads
    simp only [View.read_writes_junk_eq_canon, View.readAt_eq_ld, readCov_ld, Memref.IsWhole.read_unread, read_unread_whole, ld_tile_f32, ld_tile_bf16, ld_tile3]
    try dsimp only [Matrix.cons_val_zero, Matrix.cons_val_one, Matrix.cons_val]
    simp only [cast_row_1024, cast_row_512, cast_tile, mm_full_s, mm_full_v, mm_full_q, exp_full, ds_full, trunc_full, mm_top_s, mm_top_v, mm_top_q, mask_top, ds_top, trunc_top, mm_bot_s, mm_bot_v, mm_bot_q, mask_bot, ds_bot, trunc_bot, scale_full, scale_bot, addf_tile, canon_cons_tile, read_cons_tile, Nat.zero_add]
    try dsimp only [Matrix.cons_val_zero, Matrix.cons_val_one, Matrix.cons_val]
    exact four_cols (fun h a b => s1 a b + ∑ n ∈ Finset.range 1024, pFull q k l h a n * d n b) _

theorem step_C (c : Dev nD) (t : Fin cfg0.N) (h0 : ¬t.val % 16 = 0) (h1 : ¬t.val % 4 = 0) (h2 : t.val / 4 % 4 + 1 ≤ t.val % 4) (h3 : ¬t.val / 4 % 4 = t.val % 4) (h4 : t.val % 4 = 3)
    {q k v d l e : ℕ → ℕ → ℝ} (X : Blk m c t q k v d l e) {o s0 s1 : ℕ → ℕ → ℝ} (P : Left m c (t.val - 1) (Nat.lt_of_le_of_lt (Nat.sub_le _ _) t.isLt) o s0 s1) :
    Left m c t.val t.isLt (stepQ (t.val % 4) (dsOf (pFull q k l) v d e) k o) (stepV (dsOf (pFull q k l) v d e) q s0) (stepV (pFull q k l) d s1) := by
  have R := outsAt0_C m c t h0 h1 h2 h3 h4
  rw [pointC, X.q, X.k, X.v, X.d, X.l, X.e, P.o, P.s0, P.s1] at R
  refine ⟨?_, ?_, ?_⟩
  · rw [R]
    dsimp only
    unfold out0_C_6
    frame_open
    unfold_payloads
    simp only [View.read_writes_junk_eq_canon, View.readAt_eq_ld, readCov_ld, Memref.IsWhole.read_unread, read_unread_whole, ld_tile_f32, ld_tile_bf16, ld_tile3]
    try dsimp only [Matrix.cons_val_zero, Matrix.cons_val_one, Matrix.cons_val]
    simp only [cast_row_1024, cast_row_512, cast_tile, mm_full_s, mm_full_v, mm_full_q, exp_full, ds_full, trunc_full, mm_top_s, mm_top_v, mm_top_q, mask_top, ds_top, trunc_top, mm_bot_s, mm_bot_v, mm_bot_q, mask_bot, ds_bot, trunc_bot, scale_full, scale_bot, addf_tile, canon_cons_tile, read_cons_tile, Nat.zero_add]
    try dsimp only [Matrix.cons_val_zero, Matrix.cons_val_one, Matrix.cons_val]
    simp only [off1_0, off1_1, off2_0, off2_1, off3_0, off3_1, off4_0, off4_1, View.writes_nil, Memref.IsWhole.read_unread, Nat.zero_add]
    exact (four_rows (t.val % 4) (fun h x y b => o y b + (∑ a ∈ Finset.range 1024, dsOf (pFull q k l) v d e h a x * k a b) * scale) o)
  · rw [R]
    dsimp only
    unfold sout0_C_0
    frame_open
    unfold_payloads
    simp only [View.read_writes_junk_eq_canon, View.readAt_eq_ld, readCov_ld, Memref.IsWhole.read_unread, read_unread_whole, ld_tile_f32, ld_tile_bf16, ld_tile3]
    try dsimp only [Matrix.cons_val_zero, Matrix.cons_val_one, Matrix.cons_val]
    simp only [cast_row_1024, cast_row_512, cast_tile, mm_full_s, mm_full_v, mm_full_q, exp_full, ds_full, trunc_full, mm_top_s, mm_top_v, mm_top_q, mask_top, ds_top, trunc_top, mm_bot_s, mm_bot_v, mm_bot_q, mask_bot, ds_bot, trunc_bot, scale_full, scale_bot, addf_tile, canon_cons_tile, read_cons_tile, Nat.zero_add]
    try dsimp only [Matrix.cons_val_zero, Matrix.cons_val_one, Matrix.cons_val]
    exact four_cols (fun h a b => s0 a b + ∑ n ∈ Finset.range 1024, dsOf (pFull q k l) v d e h a n * q n b) _
  · rw [R]
    dsimp only
    unfold sout0_C_1
    frame_open
    unfold_payloads
    simp only [View.read_writes_junk_eq_canon, View.readAt_eq_ld, readCov_ld, Memref.IsWhole.read_unread, read_unread_whole, ld_tile_f32, ld_tile_bf16, ld_tile3]
    try dsimp only [Matrix.cons_val_zero, Matrix.cons_val_one, Matrix.cons_val]
    simp only [cast_row_1024, cast_row_512, cast_tile, mm_full_s, mm_full_v, mm_full_q, exp_full, ds_full, trunc_full, mm_top_s, mm_top_v, mm_top_q, mask_top, ds_top, trunc_top, mm_bot_s, mm_bot_v, mm_bot_q, mask_bot, ds_bot, trunc_bot, scale_full, scale_bot, addf_tile, canon_cons_tile, read_cons_tile, Nat.zero_add]
    try dsimp only [Matrix.cons_val_zero, Matrix.cons_val_one, Matrix.cons_val]
    exact four_cols (fun h a b => s1 a b + ∑ n ∈ Finset.range 1024, pFull q k l h a n * d n b) _

theorem step_F (c : Dev nD) (t : Fin cfg0.N) (h0 : ¬t.val % 16 = 0) (h1 : ¬t.val % 4 = 0) (h2 : ¬t.val / 4 % 4 + 1 ≤ t.val % 4) (h3 : ¬t.val / 4 % 4 = t.val % 4) (h4 : ¬t.val % 4 = 3)
    {q k v d l e : ℕ → ℕ → ℝ} (X : Blk m c t q k v d l e) {o s0 s1 : ℕ → ℕ → ℝ} (P : Left m c (t.val - 1) (Nat.lt_of_le_of_lt (Nat.sub_le _ _) t.isLt) o s0 s1) :
    Left m c t.val t.isLt o s0 s1 := by
  have R := outsAt0_F m c t h0 h1 h2 h3 h4
  rw [pointF, X.q, X.k, X.v, X.d, X.l, X.e, P.o, P.s0, P.s1] at R
  refine ⟨?_, ?_, ?_⟩
  · rw [R]
    dsimp only
    unfold out0_F_6
    simp only [View.writes_nil, View.read_writes_junk_eq_canon, Memref.IsWhole.read_unread, read_unread_whole]
  · rw [R]
    dsimp only
    unfold sout0_F_0
    simp only [View.writes_nil, View.read_writes_junk_eq_canon, Memref.IsWhole.read_unread, read_unread_whole]
  · rw [R]
    dsimp only
    unfold sout0_F_1
    simp only [View.writes_nil, View.read_writes_junk_eq_canon, Memref.IsWhole.read_unread, read_unread_whole]

theorem step_D (c : Dev nD) (t : Fin cfg0.N) (h0 : ¬t.val % 16 = 0) (h1 : t.val % 4 = 0) (h2 : ¬t.val / 4 % 4 + 1 ≤ t.val % 4) (h3 : ¬t.val / 4 % 4 = t.val % 4) (h4 : ¬t.val % 4 = 3)
    {q k v d l e : ℕ → ℕ → ℝ} (X : Blk m c t q k v d l e) {o s0 s1 : ℕ → ℕ → ℝ} (P : Left m c (t.val - 1) (Nat.lt_of_le_of_lt (Nat.sub_le _ _) t.isLt) o s0 s1) :
    Left m c t.val t.isLt o (fun _ _ => 0) (fun _ _ => 0) := by
  have R := outsAt0_D m c t h0 h1 h2 h3 h4
  rw [pointD, X.q, X.k, X.v, X.d, X.l, X.e, P.o] at R
  refine ⟨?_, ?_, ?_⟩
  · rw [R]
    dsimp only
    unfold out0_D_6
    simp only [View.writes_nil, Memref.IsWhole.read_unread]
  · rw [R]
    clear R
    dsimp only
    unfold sout0_D_0
    frame_open
    unfold_payloads
    simp only [View.writes_nil, View.read_writes_junk_eq_canon, Memref.IsWhole.read_unread, read_unread_whole, zero_sc, zero_dq, cast_tile, canon_cons_tile, put_tile]
    dsimp only [Matrix.cons_val_zero, Matrix.cons_val_one, Matrix.cons_val]
    exact put_all _ _
  · rw [R]
    clear R
    dsimp only
    unfold sout0_D_1
    frame_open
    unfold_payloads
    simp only [View.writes_nil, View.read_writes_junk_eq_canon, Memref.IsWhole.read_unread, read_unread_whole, zero_sc, zero_dq, cast_tile, canon_cons_tile, put_tile]
    dsimp only [Matrix.cons_val_zero, Matrix.cons_val_one, Matrix.cons_val]
    exact put_all _ _

theorem step_E (c : Dev nD) (t : Fin cfg0.N) (h0 : ¬t.val % 16 = 0) (h1 : ¬t.val % 4 = 0) (h2 : ¬t.val / 4 % 4 + 1 ≤ t.val % 4) (h3 : t.val / 4 % 4 = t.val % 4) (h4 : ¬t.val % 4 = 3)
    {q k v d l e : ℕ → ℕ → ℝ} (X : Blk m c t q k v d l e) {o s0 s1 : ℕ → ℕ → ℝ} (P : Left m c (t.val - 1) (Nat.lt_of_le_of_lt (Nat.sub_le _ _) t.isLt) o s0 s1) :
    Left m c t.val t.isLt (stepQ (t.val % 4) (dsOf (pDiag q k l) v d e) k o) (stepV (dsOf (pDiag q k l) v d e) q s0) (stepV (pDiag q k l) d s1) := by
  have R := outsAt0_E m c t h0 h1 h2 h3 h4
  rw [pointE, X.q, X.k, X.v, X.d, X.l, X.e, P.o, P.s0, P.s1] at R
  refine ⟨?_, ?_, ?_⟩
  · rw [R]
    clear R
    dsimp only
    unfold out0_E_6
    frame_open
    unfold_payloads
    simp only [View.read_writes_junk_eq_canon, View.readAt_eq_ld, readCov_ld, Memref.IsWhole.read_unread, read_unread_whole, ld_tile_f32, ld_tile_bf16, ld_tile3]
    try dsimp only [Matrix.cons_val_zero, Matrix.cons_val_one, Matrix.cons_val]
    simp only [cast_row_1024, cast_row_512, cast_tile, mm_full_s, mm_full_v, mm_full_q, exp_full, ds_full, trunc_full, mm_top_s, mm_top_v, mm_top_q, mask_top, ds_top, trunc_top, mm_bot_s, mm_bot_v, mm_bot_q, mask_bot, ds_bot, trunc_bot, scale_full, scale_bot, addf_tile, canon_cons_tile, read_cons_tile, Nat.zero_add]
    try dsimp only [Matrix.cons_val_zero, Matrix.cons_val_one, Matrix.cons_val]
    try simp (disch := (simp only [off1_0, off1_1, off2_0, off2_1, off3_0, off3_1, off4_0, off4_1, off5_0, off5_1, off6_0, off6_1, off7_0, off7_1, off8_0, off8_1, off9_0, off9_1, off10_0, off10_1, off11_0, off11_1, off12_0, off12_1]; omega)) only [ld_put, cast_row_1024, cast_row_512, cast_tile, mm_full_s, mm_full_v, mm_full_q, exp_full, ds_full, trunc_full, mm_top_s, mm_top_v, mm_top_q, mask_top, ds_top, trunc_top, mm_bot_s, mm_bot_v, mm_bot_q, mask_bot, ds_bot, trunc_bot, scale_full, scale_bot, addf_tile, canon_cons_tile, read_cons_tile, Nat.zero_add]
    simp only [off1_0, off1_1, off2_0, off2_1, off3_0, off3_1, off4_0, off4_1, off5_0, off5_1, off6_0, off6_1, off7_0, off7_1, off8_0, off8_1, off9_0, off9_1, off10_0, off10_1, off11_0, off11_1, off12_0, off12_1, View.writes_nil, Memref.IsWhole.read_unread, Nat.zero_add, Nat.sub_self, Nat.add_sub_cancel_left, Nat.add_assoc]
    refine (eight_rows (t.val % 4) (fun h x y b => o y b + (∑ a ∈ Finset.range 1024, dsOf (pDiag q k l) v d e h a x * k a b) * scale)
      (fun h x b => o (1024 * (t.val % 4) + x) b + (∑ a ∈ Finset.range 512, dsOf (pDiag q k l) v d e h a x * k a b) * scale)
      (fun h x b => o (1024 * (t.val % 4) + (512 + x)) b + (∑ a ∈ Finset.range 512, dsOf (pDiag q k l) v d e h a (512 + x) * k a b) * scale
        + (∑ a ∈ Finset.range 512, (if a ≤ x then (2 : ℝ) ^ (sc q k h (512 + a) (512 + x) - l h (512 + x)) else 0) * (sc d v h (512 + a) (512 + x) - e h (512 + x)) * k (512 + a) b) * scale)
      o (fun h x b hx => ?_) (fun h x b hx => ?_))
    · rw [sum_low _ fun a ha => by rw [dsOf, pDiag_above q k l (by omega), zero_mul, zero_mul]]
    · rw [sum_both]
      simp only [dsOf, pDiag_high]
      ring
  · rw [R]
    clear R
    dsimp only
    unfold sout0_E_0
    frame_open
    unfold_payloads
    simp only [View.read_writes_junk_eq_canon, View.readAt_eq_ld, readCov_ld, Memref.IsWhole.read_unread, read_unread_whole, ld_tile_f32, ld_tile_bf16, ld_tile3]
    try dsimp only [Matrix.cons_val_zero, Matrix.cons_val_one, Matrix.cons_val]
    simp only [cast_row_1024, cast_row_512, cast_tile, mm_full_s, mm_full_v, mm_full_q, exp_full, ds_full, trunc_full, mm_top_s, mm_top_v, mm_top_q, mask_top, ds_top, trunc_top, mm_bot_s, mm_bot_v, mm_bot_q, mask_bot, ds_bot, trunc_bot, scale_full, scale_bot, addf_tile, canon_cons_tile, read_cons_tile, Nat.zero_add]
    try dsimp only [Matrix.cons_val_zero, Matrix.cons_val_one, Matrix.cons_val]
    refine eight_parts (fun h a b => s0 a b + ∑ n ∈ Finset.range 1024, dsOf (pDiag q k l) v d e h a n * q n b)
      (fun h a b => s0 a b + ∑ n ∈ Finset.range 1024, dsOf (pDiag q k l) v d e h a n * q n b)
      (fun h a b => s0 (512 + a) b + ∑ n ∈ Finset.range 512, (if a ≤ n then (2 : ℝ) ^ (sc q k h (512 + a) (512 + n) - l h (512 + n)) else 0) * (sc d v h (512 + a) (512 + n) - e h (512 + n)) * q (512 + n) b)
      _ (fun h a b ha => rfl) (fun h a b ha => ?_)
    rw [sum_high _ fun n hn => by rw [dsOf, pDiag_above q k l (by omega), zero_mul, zero_mul]]
    simp only [dsOf, pDiag_high]
  · rw [R]
    clear R
    dsimp only
    unfold sout0_E_1
    frame_open
    unfold_payloads
    simp only [View.read_writes_junk_eq_canon, View.readAt_eq_ld, readCov_ld, Memref.IsWhole.read_unread, read_unread_whole, ld_tile_f32, ld_tile_bf16, ld_tile3]
    try dsimp only [Matrix.cons_val_zero, Matrix.cons_val_one, Matrix.cons_val]
    simp only [cast_row_1024, cast_row_512, cast_tile, mm_full_s, mm_full_v, mm_full_q, exp_full, ds_full, trunc_full, mm_top_s, mm_top_v, mm_top_q, mask_top, ds_top, trunc_top, mm_bot_s, mm_bot_v, mm_bot_q, mask_bot, ds_bot, trunc_bot, scale_full, scale_bot, addf_tile, canon_cons_tile, read_cons_tile, Nat.zero_add]
    try dsimp only [Matrix.cons_val_zero, Matrix.cons_val_one, Matrix.cons_val]
    refine eight_parts (fun h a b => s1 a b + ∑ n ∈ Finset.range 1024, pDiag q k l h a n * d n b)
      (fun h a b => s1 a b + ∑ n ∈ Finset.range 1024, pDiag q k l h a n * d n b)
      (fun h a b => s1 (512 + a) b + ∑ n ∈ Finset.range 512, (if a ≤ n then (2 : ℝ) ^ (sc q k h (512 + a) (512 + n) - l h (512 + n)) else 0) * d (512 + n) b)
      _ (fun h a b ha => rfl) (fun h a b ha => ?_)
    rw [sum_high _ fun n hn => by rw [pDiag_above q k l (by omega), zero_mul]]
    simp only [pDiag_high]

theorem step_G (c : Dev nD) (t : Fin cfg0.N) (h0 : ¬t.val % 16 = 0) (h1 : ¬t.val % 4 = 0) (h2 : ¬t.val / 4 % 4 + 1 ≤ t.val % 4) (h3 : t.val / 4 % 4 = t.val % 4) (h4 : t.val % 4 = 3)
    {q k v d l e : ℕ → ℕ → ℝ} (X : Blk m c t q k v d l e) {o s0 s1 : ℕ → ℕ → ℝ} (P : Left m c (t.val - 1) (Nat.lt_of_le_of_lt (Nat.sub_le _ _) t.isLt) o s0 s1) :
    Left m c t.val t.isLt (stepQ (t.val % 4) (dsOf (pDiag q k l) v d e) k o) (stepV (dsOf (pDiag q k l) v d e) q s0) (stepV (pDiag q k l) d s1) := by
  have R := outsAt0_G m c t h0 h1 h2 h3 h4
  rw [pointG, X.q, X.k, X.v, X.d, X.l, X.e, P.o, P.s0, P.s1] at R
  refine ⟨?_, ?_, ?_⟩
  · rw [R]
    clear R
    dsimp only
    unfold out0_G_6
    frame_open
    unfold_payloads
    simp only [View.read_writes_junk_eq_canon, View.readAt_eq_ld, readCov_ld, Memref.IsWhole.read_unread, read_unread_whole, ld_tile_f32, ld_tile_bf16, ld_tile3]
    try dsimp only [Matrix.cons_val_zero, Matrix.cons_val_one, Matrix.cons_val]
    simp only [cast_row_1024, cast_row_512, cast_tile, mm_full_s, mm_full_v, mm_full_q, exp_full, ds_full, trunc_full, mm_top_s, mm_top_v, mm_top_q, mask_top, ds_top, trunc_top, mm_bot_s, mm_bot_v, mm_bot_q, mask_bot, ds_bot, trunc_bot, scale_full, scale_bot, addf_tile, canon_cons_tile, read_cons_tile, Nat.zero_add]
    try dsimp only [Matrix.cons_val_zero, Matrix.cons_val_one, Matrix.cons_val]
    try simp (disch := (simp only [off1_0, off1_1, off2_0, off2_1, off3_0, off3_1, off4_0, off4_1, off5_0, off5_1, off6_0, off6_1, off7_0, off7_1, off8_0, off8_1, off9_0, off9_1, off10_0, off10_1, off11_0, off11_1, off12_0, off12_1]; omega)) only [ld_put, cast_row_1024, cast_row_512, cast_tile, mm_full_s, mm_full_v, mm_full_q, exp_full, ds_full, trunc_full, mm_top_s, mm_top_v, mm_top_q, mask_top, ds_top, trunc_top, mm_bot_s, mm_bot_v, mm_bot_q, mask_bot, ds_bot, trunc_bot, scale_full, scale_bot, addf_tile, canon_cons_tile, read_cons_tile, Nat.zero_add]
    simp only [off1_0, off1_1, off2_0, off2_1, off3_0, off3_1, off4_0, off4_1, off5_0, off5_1, off6_0, off6_1, off7_0, off7_1, off8_0, off8_1, off9_0, off9_1, off10_0, off10_1, off11_0, off11_1, off12_0, off12_1, View.writes_nil, Memref.IsWhole.read_unread, Nat.zero_add, Nat.sub_self, Nat.add_sub_cancel_left, Nat.add_assoc]
    refine (eight_rows (t.val % 4) (fun h x y b => o y b + (∑ a ∈ Finset.range 1024, dsOf (pDiag q k l) v d e h a x * k a b) * scale)
      (fun h x b => o (1024 * (t.val % 4) + x) b + (∑ a ∈ Finset.range 512, dsOf (pDiag q k l) v d e h a x * k a b) * scale)
      (fun h x b => o (1024 * (t.val % 4) + (512 + x)) b + (∑ a ∈ Finset.range 512, dsOf (pDiag q k l) v d e h a (512 + x) * k a b) * scale
        + (∑ a ∈ Finset.range 512, (if a ≤ x then (2 : ℝ) ^ (sc q k h (512 + a) (512 + x) - l h (512 + x)) else 0) * (sc d v h (512 + a) (512 + x) - e h (512 + x)) * k (512 + a) b) * scale)
      o (fun h x b hx => ?_) (fun h x b hx => ?_))
    · rw [sum_low _ fun a ha => by rw [dsOf, pDiag_above q k l (by omega), zero_mul, zero_mul]]
    · rw [sum_both]
      simp only [dsOf, pDiag_high]
      ring
  · rw [R]
    clear R
    dsimp only
    unfold sout0_G_0
    frame_open
    unfold_payloads
    simp only [View.read_writes_junk_eq_canon, View.readAt_eq_ld, readCov_ld, Memref.IsWhole.read_unread, read_unread_whole, ld_tile_f32, ld_tile_bf16, ld_tile3]
    try dsimp only [Matrix.cons_val_zero, Matrix.cons_val_one, Matrix.cons_val]
    simp only [cast_row_1024, cast_row_512, cast_tile, mm_full_s, mm_full_v, mm_full_q, exp_full, ds_full, trunc_full, mm_top_s, mm_top_v, mm_top_q, mask_top, ds_top, trunc_top, mm_bot_s, mm_bot_v, mm_bot_q, mask_bot, ds_bot, trunc_bot, scale_full, scale_bot, addf_tile, canon_cons_tile, read_cons_tile, Nat.zero_add]
    try dsimp only [Matrix.cons_val_zero, Matrix.cons_val_one, Matrix.cons_val]
    refine eight_parts (fun h a b => s0 a b + ∑ n ∈ Finset.range 1024, dsOf (pDiag q k l) v d e h a n * q n b)
      (fun h a b => s0 a b + ∑ n ∈ Finset.range 1024, dsOf (pDiag q k l) v d e h a n * q n b)
      (fun h a b => s0 (512 + a) b + ∑ n ∈ Finset.range 512, (if a ≤ n then (2 : ℝ) ^ (sc q k h (512 + a) (512 + n) - l h (512 + n)) else 0) * (sc d v h (512 + a) (512 + n) - e h (512 + n)) * q (512 + n) b)
      _ (fun h a b ha => rfl) (fun h a b ha => ?_)
    rw [sum_high _ fun n hn => by rw [dsOf, pDiag_above q k l (by omega), zero_mul, zero_mul]]
    simp only [dsOf, pDiag_high]
  · rw [R]
    clear R
    dsimp only
    unfold sout0_G_1
    frame_open
    unfold_payloads
    simp only [View.read_writes_junk_eq_canon, View.readAt_eq_ld, readCov_ld, Memref.IsWhole.read_unread, read_unread_whole, ld_tile_f32, ld_tile_bf16, ld_tile3]
    try dsimp only [Matrix.cons_val_zero, Matrix.cons_val_one, Matrix.cons_val]
    simp only [cast_row_1024, cast_row_512, cast_tile, mm_full_s, mm_full_v, mm_full_q, exp_full, ds_full, trunc_full, mm_top_s, mm_top_v, mm_top_q, mask_top, ds_top, trunc_top, mm_bot_s, mm_bot_v, mm_bot_q, mask_bot, ds_bot, trunc_bot, scale_full, scale_bot, addf_tile, canon_cons_tile, read_cons_tile, Nat.zero_add]
    try dsimp only [Matrix.cons_val_zero, Matrix.cons_val_one, Matrix.cons_val]
    refine eight_parts (fun h a b => s1 a b + ∑ n ∈ Finset.range 1024, pDiag q k l h a n * d n b)
      (fun h a b => s1 a b + ∑ n ∈ Finset.range 1024, pDiag q k l h a n * d n b)
      (fun h a b => s1 (512 + a) b + ∑ n ∈ Finset.range 512, (if a ≤ n then (2 : ℝ) ^ (sc q k h (512 + a) (512 + n) - l h (512 + n)) else 0) * d (512 + n) b)
      _ (fun h a b ha => rfl) (fun h a b ha => ?_)
    rw [sum_high _ fun n hn => by rw [pDiag_above q k l (by omega), zero_mul]]
    simp only [pDiag_high]

theorem step_A (c : Dev nD) (t : Fin cfg0.N) (h0 : t.val % 16 = 0) (h1 : t.val % 4 = 0) (h2 : ¬t.val / 4 % 4 + 1 ≤ t.val % 4) (h3 : t.val / 4 % 4 = t.val % 4) (h4 : ¬t.val % 4 = 3)
    {q k v d l e : ℕ → ℕ → ℝ} (X : Blk m c t q k v d l e)  :
    Left m c t.val t.isLt (stepQ (t.val % 4) (dsOf (pDiag q k l) v d e) k fun _ _ => 0) (stepV (dsOf (pDiag q k l) v d e) q fun _ _ => 0) (stepV (pDiag q k l) d fun _ _ => 0) := by
  have R := outsAt0_A m c t h0 h1 h2 h3 h4
  rw [pointA, X.q, X.k, X.v, X.d, X.l, X.e] at R
  let o : ℕ → ℕ → ℝ := fun _ _ => 0
  let s0 : ℕ → ℕ → ℝ := fun _ _ => 0
  let s1 : ℕ → ℕ → ℝ := fun _ _ => 0
  refine ⟨?_, ?_, ?_⟩
  · rw [R]
    clear R
    dsimp only
    unfold out0_A_6
    frame_open
    unfold_payloads
    simp only [View.read_writes_junk_eq_canon, View.readAt_eq_ld, readCov_ld, Memref.IsWhole.read_unread, read_unread_whole, ld_tile_f32, ld_tile_bf16, ld_tile3]
    try dsimp only [Matrix.cons_val_zero, Matrix.cons_val_one, Matrix.cons_val]
    simp only [cast_row_1024, cast_row_512, cast_tile, mm_full_s, mm_full_v, mm_full_q, exp_full, ds_full, trunc_full, mm_top_s, mm_top_v, mm_top_q, mask_top, ds_top, trunc_top, mm_bot_s, mm_bot_v, mm_bot_q, mask_bot, ds_bot, trunc_bot, scale_full, scale_bot, addf_tile, canon_cons_tile, read_cons_tile, Nat.zero_add]
    try dsimp only [Matrix.cons_val_zero, Matrix.cons_val_one, Matrix.cons_val]
    try simp (disch := (simp only [Matrix.cons_val_zero, Matrix.cons_val_one, Matrix.cons_val, off1_0, off1_1, off2_0, off2_1, off3_0, off3_1, off4_0, off4_1, off5_0, off5_1, off6_0, off6_1, off7_0, off7_1, off8_0, off8_1, off9_0, off9_1, off10_0, off10_1, off11_0, off11_1, off12_0, off12_1]; omega)) only [zero_sc, zero_dq, Matrix.cons_val_zero, Matrix.cons_val_one, Matrix.cons_val, put_all, put_all_dq, ld_tile_f32, ld_put, ld_put_skip, cast_row_1024, cast_row_512, cast_tile, mm_full_s, mm_full_v, mm_full_q, exp_full, ds_full, trunc_full, mm_top_s, mm_top_v, mm_top_q, mask_top, ds_top, trunc_top, mm_bot_s, mm_bot_v, mm_bot_q, mask_bot, ds_bot, trunc_bot, scale_full, scale_bot, addf_tile, canon_cons_tile, read_cons_tile, Nat.zero_add]
    try simp (disch := (simp only [off1_0, off1_1, off2_0, off2_1, off3_0, off3_1, off4_0, off4_1, off5_0, off5_1, off6_0, off6_1, off7_0, off7_1, off8_0, off8_1, off9_0, off9_1, off10_0, off10_1, off11_0, off11_1, off12_0, off12_1]; omega)) only [ld_put, cast_row_1024, cast_row_512, cast_tile, mm_full_s, mm_full_v, mm_full_q, exp_full, ds_full, trunc_full, mm_top_s, mm_top_v, mm_top_q, mask_top, ds_top, trunc_top, mm_bot_s, mm_bot_v, mm_bot_q, mask_bot, ds_bot, trunc_bot, scale_full, scale_bot, addf_tile, canon_cons_tile, read_cons_tile, Nat.zero_add]
    simp only [off1_0, off1_1, off2_0, off2_1, off3_0, off3_1, off4_0, off4_1, off5_0, off5_1, off6_0, off6_1, off7_0, off7_1, off8_0, off8_1, off9_0, off9_1, off10_0, off10_1, off11_0, off11_1, off12_0, off12_1, View.writes_nil, Memref.IsWhole.read_unread, Nat.zero_add, Nat.sub_self, Nat.add_sub_cancel_left, Nat.add_assoc]
    refine (eight_rows (t.val % 4) (fun h x y b => o y b + (∑ a ∈ Finset.range 1024, dsOf (pDiag q k l) v d e h a x * k a b) * scale)
      (fun h x b => o (1024 * (t.val % 4) + x) b + (∑ a ∈ Finset.range 512, dsOf (pDiag q k l) v d e h a x * k a b) * scale)
      (fun h x b => o (1024 * (t.val % 4) + (512 + x)) b + (∑ a ∈ Finset.range 512, dsOf (pDiag q k l) v d e h a (512 + x) * k a b) * scale
        + (∑ a ∈ Finset.range 512, (if a ≤ x then (2 : ℝ) ^ (sc q k h (512 + a) (512 + x) - l h (512 + x)) else 0) * (sc d v h (512 + a) (512 + x) - e h (512 + x)) * k (512 + a) b) * scale)
      o (fun h x b hx => ?_) (fun h x b hx => ?_))
    · rw [sum_low _ fun a ha => by rw [dsOf, pDiag_above q k l (by omega), zero_mul, zero_mul]]
    · rw [sum_both]
      simp only [dsOf, pDiag_high]
      ring
  · rw [R]
    clear R
    dsimp only
    unfold sout0_A_0
    frame_open
    unfold_payloads
    simp only [View.read_writes_junk_eq_canon, View.readAt_eq_ld, readCov_ld, Memref.IsWhole.read_unread, read_unread_whole, ld_tile_f32, ld_tile_bf16, ld_tile3]
    try dsimp only [Matrix.cons_val_zero, Matrix.cons_val_one, Matrix.cons_val]
    simp only [cast_row_1024, cast_row_512, cast_tile, mm_full_s, mm_full_v, mm_full_q, exp_full, ds_full, trunc_full, mm_top_s, mm_top_v, mm_top_q, mask_top, ds_top, trunc_top, mm_bot_s, mm_bot_v, mm_bot_q, mask_bot, ds_bot, trunc_bot, scale_full, scale_bot, addf_tile, canon_cons_tile, read_cons_tile, Nat.zero_add]
    try dsimp only [Matrix.cons_val_zero, Matrix.cons_val_one, Matrix.cons_val]
    try simp (disch := (simp only [Matrix.cons_val_zero, Matrix.cons_val_one, Matrix.cons_val, off1_0, off1_1, off2_0, off2_1, off3_0, off3_1, off4_0, off4_1, off5_0, off5_1, off6_0, off6_1, off7_0, off7_1, off8_0, off8_1, off9_0, off9_1, off10_0, off10_1, off11_0, off11_1, off12_0, off12_1]; omega)) only [zero_sc, zero_dq, Matrix.cons_val_zero, Matrix.cons_val_one, Matrix.cons_val, put_all, put_all_dq, ld_tile_f32, ld_put, ld_put_skip, cast_row_1024, cast_row_512, cast_tile, mm_full_s, mm_full_v, mm_full_q, exp_full, ds_full, trunc_full, mm_top_s, mm_top_v, mm_top_q, mask_top, ds_top, trunc_top, mm_bot_s, mm_bot_v, mm_bot_q, mask_bot, ds_bot, trunc_bot, scale_full, scale_bot, addf_tile, canon_cons_tile, read_cons_tile, Nat.zero_add]
    refine eight_parts (fun h a b => s0 a b + ∑ n ∈ Finset.range 1024, dsOf (pDiag q k l) v d e h a n * q n b)
      (fun h a b => s0 a b + ∑ n ∈ Finset.range 1024, dsOf (pDiag q k l) v d e h a n * q n b)
      (fun h a b => s0 (512 + a) b + ∑ n ∈ Finset.range 512, (if a ≤ n then (2 : ℝ) ^ (sc q k h (512 + a) (512 + n) - l h (512 + n)) else 0) * (sc d v h (512 + a) (512 + n) - e h (512 + n)) * q (512 + n) b)
      _ (fun h a b ha => rfl) (fun h a b ha => ?_)
    rw [sum_high _ fun n hn => by rw [dsOf, pDiag_above q k l (by omega), zero_mul, zero_mul]]
    simp only [dsOf, pDiag_high]
  · rw [R]
    clear R
    dsimp only
    unfold sout0_A_1
    frame_open
    unfold_payloads
    simp only [View.read_writes_junk_eq_canon, View.readAt_eq_ld, readCov_ld, Memref.IsWhole.read_unread, read_unread_whole, ld_tile_f32, ld_tile_bf16, ld_tile3]
    try dsimp only [Matrix.cons_val_zero, Matrix.cons_val_one, Matrix.cons_val]
    simp only [cast_row_1024, cast_row_512, cast_tile, mm_full_s, mm_full_v, mm_full_q, exp_full, ds_full, trunc_full, mm_top_s, mm_top_v, mm_top_q, mask_top, ds_top, trunc_top, mm_bot_s, mm_bot_v, mm_bot_q, mask_bot, ds_bot, trunc_bot, scale_full, scale_bot, addf_tile, canon_cons_tile, read_cons_tile, Nat.zero_add]
    try dsimp only [Matrix.cons_val_zero, Matrix.cons_val_one, Matrix.cons_val]
    try simp (disch := (simp only [Matrix.cons_val_zero, Matrix.cons_val_one, Matrix.cons_val, off1_0, off1_1, off2_0, off2_1, off3_0, off3_1, off4_0, off4_1, off5_0, off5_1, off6_0, off6_1, off7_0, off7_1, off8_0, off8_1, off9_0, off9_1, off10_0, off10_1, off11_0, off11_1, off12_0, off12_1]; omega)) only [zero_sc, zero_dq, Matrix.cons_val_zero, Matrix.cons_val_one, Matrix.cons_val, put_all, put_all_dq, ld_tile_f32, ld_put, ld_put_skip, cast_row_1024, cast_row_512, cast_tile, mm_full_s, mm_full_v, mm_full_q, exp_full, ds_full, trunc_full, mm_top_s, mm_top_v, mm_top_q, mask_top, ds_top, trunc_top, mm_bot_s, mm_bot_v, mm_bot_q, mask_bot, ds_bot, trunc_bot, scale_full, scale_bot, addf_tile, canon_cons_tile, read_cons_tile, Nat.zero_add]
    refine eight_parts (fun h a b => s1 a b + ∑ n ∈ Finset.range 1024, pDiag q k l h a n * d n b)
      (fun h a b => s1 a b + ∑ n ∈ Finset.range 1024, pDiag q k l h a n * d n b)
      (fun h a b => s1 (512 + a) b + ∑ n ∈ Finset.range 512, (if a ≤ n then (2 : ℝ) ^ (sc q k h (512 + a) (512 + n) - l h (512 + n)) else 0) * d (512 + n) b)
      _ (fun h a b ha => rfl) (fun h a b ha => ?_)
    rw [sum_high _ fun n hn => by rw [pDiag_above q k l (by omega), zero_mul]]
    simp only [pDiag_high]

theorem outs_C (c : Dev nD) (t : Fin cfg0.N) (h0 : ¬t.val % 16 = 0) (h1 : ¬t.val % 4 = 0) (h2 : t.val / 4 % 4 + 1 ≤ t.val % 4) (h3 : ¬t.val / 4 % 4 = t.val % 4) (h4 : t.val % 4 = 3)
    {q k v d l e : ℕ → ℕ → ℝ} (X : Blk m c t q k v d l e) {o s0 s1 : ℕ → ℕ → ℝ} (P : Left m c (t.val - 1) (Nat.lt_of_le_of_lt (Nat.sub_le _ _) t.isLt) o s0 s1) :
    (outsAt0 m c t.val t.isLt).2.1 = tile (e := .f32) 1024 512 (fun a b => stepV (dsOf (pFull q k l) v d e) q s0 a b * Real.log 2)
      ∧ (outsAt0 m c t.val t.isLt).2.2.1 = tile (e := .bf16) 1024 512 (stepV (pFull q k l) d s1) := by
  have R := outsAt0_C m c t h0 h1 h2 h3 h4
  rw [pointC, X.q, X.k, X.v, X.d, X.l, X.e, P.o, P.s0, P.s1] at R
  refine ⟨?_, ?_⟩
  · rw [R]
    clear R
    dsimp only
    unfold out0_C_7
    frame_open
    unfold_payloads
    simp only [View.read_writes_junk_eq_canon, View.readAt_eq_ld, readCov_ld, Memref.IsWhole.read_unread, read_unread_whole, ld_tile_f32, ld_tile_bf16, ld_tile3]
    try dsimp only [Matrix.cons_val_zero, Matrix.cons_val_one, Matrix.cons_val]
    simp only [cast_row_1024, cast_row_512, cast_tile, mm_full_s, mm_full_v, mm_full_q, exp_full, ds_full, trunc_full, mm_top_s, mm_top_v, mm_top_q, mask_top, ds_top, trunc_top, mm_bot_s, mm_bot_v, mm_bot_q, mask_bot, ds_bot, trunc_bot, scale_full, scale_bot, addf_tile, canon_cons_tile, read_cons_tile, Nat.zero_add]
    try dsimp only [Matrix.cons_val_zero, Matrix.cons_val_one, Matrix.cons_val]
    exact out_ln2 (four_cols (fun h a b => s0 a b + ∑ n ∈ Finset.range 1024, dsOf (pFull q k l) v d e h a n * q n b) _) _ _
  · rw [R]
    clear R
    dsimp only
    unfold out0_C_8
    frame_open
    unfold_payloads
    simp only [View.read_writes_junk_eq_canon, View.readAt_eq_ld, readCov_ld, Memref.IsWhole.read_unread, read_unread_whole, ld_tile_f32, ld_tile_bf16, ld_tile3]
    try dsimp only [Matrix.cons_val_zero, Matrix.cons_val_one, Matrix.cons_val]
    simp only [cast_row_1024, cast_row_512, cast_tile, mm_full_s, mm_full_v, mm_full_q, exp_full, ds_full, trunc_full, mm_top_s, mm_top_v, mm_top_q, mask_top, ds_top, trunc_top, mm_bot_s, mm_bot_v, mm_bot_q, mask_bot, ds_bot, trunc_bot, scale_full, scale_bot, addf_tile, canon_cons_tile, read_cons_tile, Nat.zero_add]
    try dsimp only [Matrix.cons_val_zero, Matrix.cons_val_one, Matrix.cons_val]
    exact out_trunc (four_cols (fun h a b => s1 a b + ∑ n ∈ Finset.range 1024, pFull q k l h a n * d n b) _) _ _ _

theorem outs_G (c : Dev nD) (t : Fin cfg0.N) (h0 : ¬t.val % 16 = 0) (h1 : ¬t.val % 4 = 0) (h2 : ¬t.val / 4 % 4 + 1 ≤ t.val % 4) (h3 : t.val / 4 % 4 = t.val % 4) (h4 : t.val % 4 = 3)
    {q k v d l e : ℕ → ℕ → ℝ} (X : Blk m c t q k v d l e) {o s0 s1 : ℕ → ℕ → ℝ} (P : Left m c (t.val - 1) (Nat.lt_of_le_of_lt (Nat.sub_le _ _) t.isLt) o s0 s1) :
    (outsAt0 m c t.val t.isLt).2.1 = tile (e := .f32) 1024 512 (fun a b => stepV (dsOf (pDiag q k l) v d e) q s0 a b * Real.log 2)
      ∧ (outsAt0 m c t.val t.isLt).2.2.1 = tile (e := .bf16) 1024 512 (stepV (pDiag q k l) d s1) := by
  have R := outsAt0_G m c t h0 h1 h2 h3 h4
  rw [pointG, X.q, X.k, X.v, X.d, X.l, X.e, P.o, P.s0, P.s1] at R
  refine ⟨?_, ?_⟩
  · rw [R]
    clear R
    dsimp only
    unfold out0_G_7
    frame_open
    unfold_payloads
    simp only [View.read_writes_junk_eq_canon, View.readAt_eq_ld, readCov_ld, Memref.IsWhole.read_unread, read_unread_whole, ld_tile_f32, ld_tile_bf16, ld_tile3]
    try dsimp only [Matrix.cons_val_zero, Matrix.cons_val_one, Matrix.cons_val]
    simp only [cast_row_1024, cast_row_512, cast_tile, mm_full_s, mm_full_v, mm_full_q, exp_full, ds_full, trunc_full, mm_top_s, mm_top_v, mm_top_q, mask_top, ds_top, trunc_top, mm_bot_s, mm_bot_v, mm_bot_q, mask_bot, ds_bot, trunc_bot, scale_full, scale_bot, addf_tile, canon_cons_tile, read_cons_tile, Nat.zero_add]
    try dsimp only [Matrix.cons_val_zero, Matrix.cons_val_one, Matrix.cons_val]
    refine out_ln2 (eight_parts (fun h a b => s0 a b + ∑ n ∈ Finset.range 1024, dsOf (pDiag q k l) v d e h a n * q n b)
      (fun h a b => s0 a b + ∑ n ∈ Finset.range 1024, dsOf (pDiag q k l) v d e h a n * q n b)
      (fun h a b => s0 (512 + a) b + ∑ n ∈ Finset.range 512, (if a ≤ n then (2 : ℝ) ^ (sc q k h (512 + a) (512 + n) - l h (512 + n)) else 0) * (sc d v h (512 + a) (512 + n) - e h (512 + n)) * q (512 + n) b)
      _ (fun h a b ha => rfl) (fun h a b ha => ?_)) _ _
    rw [sum_high _ fun n hn => by rw [dsOf, pDiag_above q k l (by omega), zero_mul, zero_mul]]
    simp only [dsOf, pDiag_high]

  · rw [R]
    clear R
    dsimp only
    unfold out0_G_8
    frame_open
    unfold_payloads
    simp only [View.read_writes_junk_eq_canon, View.readAt_eq_ld, readCov_ld, Memref.IsWhole.read_unread, read_unread_whole, ld_tile_f32, ld_tile_bf16, ld_tile3]
    try dsimp only [Matrix.cons_val_zero, Matrix.cons_val_one, Matrix.cons_val]
    simp only [cast_row_1024, cast_row_512, cast_tile, mm_full_s, mm_full_v, mm_full_q, exp_full, ds_full, trunc_full, mm_top_s, mm_top_v, mm_top_q, mask_top, ds_top, trunc_top, mm_bot_s, mm_bot_v, mm_bot_q, mask_bot, ds_bot, trunc_bot, scale_full, scale_bot, addf_tile, canon_cons_tile, read_cons_tile, Nat.zero_add]
    try dsimp only [Matrix.cons_val_zero, Matrix.cons_val_one, Matrix.cons_val]
    refine out_trunc (eight_parts (fun h a b => s1 a b + ∑ n ∈ Finset.range 1024, pDiag q k l h a n * d n b)
      (fun h a b => s1 a b + ∑ n ∈ Finset.range 1024, pDiag q k l h a n * d n b)
      (fun h a b => s1 (512 + a) b + ∑ n ∈ Finset.range 512, (if a ≤ n then (2 : ℝ) ^ (sc q k h (512 + a) (512 + n) - l h (512 + n)) else 0) * d (512 + n) b)
      _ (fun h a b ha => rfl) (fun h a b ha => ?_)) _ _ _
    rw [sum_high _ fun n hn => by rw [pDiag_above q k l (by omega), zero_mul]]
    simp only [pDiag_high]

end Cert.KernelIdeal.Bwd
-- ==== Proof.Bwd.Sums.lean ====
module

public import proofs.«01_k».proof.Proof.Bwd.Steps

/-! The backward pass as sums over all keys and queries, and one point's share of them. -/

@[expose] public section

set_option maxRecDepth 16384

noncomputable section

namespace Cert.KernelIdeal.Bwd

open Cert.KernelIdeal.Gen
open Idealize.ShloMosaic

/-- The scores (or the products of values and cotangents) of head `4 g + h`: row `a` of `k` against row `n` of `q`. -/
def dots (q k : ℕ → ℕ → ℝ) (g h a n : ℕ) : ℝ :=
  ∑ d ∈ Finset.range 128, k a (512 * g + (128 * h + d)) * q n (512 * g + (128 * h + d))

/-- The probabilities, zero above the diagonal. -/
def prob (q k : ℕ → ℕ → ℝ) (l : ℕ → ℕ → ℕ → ℝ) (g h a n : ℕ) : ℝ :=
  if a ≤ n then (2 : ℝ) ^ (dots q k g h a n - l g h n) else 0

/-- The gradients of the scores. -/
def grad (q k v d : ℕ → ℕ → ℝ) (l e : ℕ → ℕ → ℕ → ℝ) (g h a n : ℕ) : ℝ :=
  prob q k l g h a n * (dots d v g h a n - e g h n)

/-- The rows of a block of keys after the queries `0 … 1024 i - 1`. -/
def upto (w : ℕ → ℕ → ℕ → ℝ) (d : ℕ → ℕ → ℝ) (g j i a b : ℕ) : ℝ :=
  ∑ n ∈ Finset.range (1024 * i), w (b / 128) (1024 * j + a) n * d n (512 * g + b)

/-- The rows of the queries after the key blocks `0 … j - 1`, and after block `j` for the query blocks `0 … i - 1`. -/
def over (w : ℕ → ℕ → ℕ → ℝ) (k : ℕ → ℕ → ℝ) (g j i y b : ℕ) : ℝ :=
  (∑ a ∈ Finset.range (1024 * if y / 1024 < i then j + 1 else j), w (b / 128) a y * k a (512 * g + b)) * scale

theorem prob_above (q k : ℕ → ℕ → ℝ) (l : ℕ → ℕ → ℕ → ℝ) (g h a n : ℕ) (hn : n < a) : prob q k l g h a n = 0 :=
  if_neg (by omega)

theorem grad_above (q k v d : ℕ → ℕ → ℝ) (l e : ℕ → ℕ → ℕ → ℝ) (g h a n : ℕ) (hn : n < a) :
    grad q k v d l e g h a n = 0 := by
  rw [grad, prob_above _ _ _ _ _ _ _ hn, zero_mul]

/-- Below the diagonal a block's queries add their share. -/
theorem upto_add (w : ℕ → ℕ → ℕ → ℝ) (d : ℕ → ℕ → ℝ) (g j i a b : ℕ) (p : ℕ → ℕ → ℕ → ℝ)
    (hp : ∀ h n, n < 1024 → p h a n = w h (1024 * j + a) (1024 * i + n)) :
    stepV p (fun n c => d (1024 * i + n) (512 * g + c)) (upto w d g j i) a b = upto w d g j (i + 1) a b := by
  unfold stepV upto
  rw [show 1024 * (i + 1) = 1024 * i + 1024 by ring, Finset.sum_range_add]
  congr 1
  refine Finset.sum_congr rfl fun n hn => ?_
  rw [hp _ _ (Finset.mem_range.1 hn)]

/-- Above the diagonal nothing has been added. -/
theorem upto_above (w : ℕ → ℕ → ℕ → ℝ) (hw : ∀ h a n, n < a → w h a n = 0) (d : ℕ → ℕ → ℝ) (g j i a b : ℕ) (hi : i ≤ j) :
    upto w d g j i a b = 0 := by
  refine Finset.sum_eq_zero fun n hn => ?_
  have := Finset.mem_range.1 hn
  rw [hw _ _ _ (by omega), zero_mul]

/-- Below the diagonal a block's keys add their share. -/
theorem over_add (w : ℕ → ℕ → ℕ → ℝ) (k : ℕ → ℕ → ℝ) (g j i y b : ℕ) (p : ℕ → ℕ → ℕ → ℝ)
    (hp : ∀ h a n, a < 1024 → n < 1024 → p h a n = w h (1024 * j + a) (1024 * i + n)) :
    stepQ i p (fun a c => k (1024 * j + a) (512 * g + c)) (over w k g j i) y b = over w k g j (i + 1) y b := by
  unfold stepQ over
  by_cases hy : y / 1024 = i
  · rw [if_pos hy, if_neg (by omega), if_pos (by omega), show 1024 * (j + 1) = 1024 * j + 1024 by ring, Finset.sum_range_add, add_mul]
    congr 2
    refine Finset.sum_congr rfl fun a ha => ?_
    rw [hp _ _ _ (Finset.mem_range.1 ha) (by omega), show 1024 * i + (y - 1024 * i) = y by omega]
  · rw [if_neg hy]
    by_cases h : y / 1024 < i
    · rw [if_pos h, if_pos (by omega)]
    · rw [if_neg h, if_neg (by omega)]

/-- Above the diagonal nothing is added. -/
theorem over_above (w : ℕ → ℕ → ℕ → ℝ) (hw : ∀ h a n, n < a → w h a n = 0) (k : ℕ → ℕ → ℝ) (g j i y b : ℕ) (hi : i < j) :
    over w k g j (i + 1) y b = over w k g j i y b := by
  unfold over
  by_cases hy : y / 1024 = i
  · rw [if_pos (by omega), if_neg (by omega), show 1024 * (j + 1) = 1024 * j + 1024 by ring, Finset.sum_range_add]
    rw [Finset.sum_eq_zero (s := Finset.range 1024), add_zero]
    intro a ha
    rw [hw _ _ _ (by omega), zero_mul]
  · by_cases h : y / 1024 < i
    · rw [if_pos h, if_pos (by omega)]
    · rw [if_neg h, if_neg (by omega)]

/-- The key blocks `0 … j - 1` for all queries: the start of key block `j` is the end of the one before. -/
theorem over_next (w : ℕ → ℕ → ℕ → ℝ) (k : ℕ → ℕ → ℝ) (g j y b : ℕ) (hy : y < 4096) :
    over w k g (j + 1) 0 y b = over w k g j 4 y b := by
  unfold over
  rw [if_neg (by omega), if_pos (by omega)]

theorem over_first (w : ℕ → ℕ → ℕ → ℝ) (k : ℕ → ℕ → ℝ) (g y b : ℕ) : over w k g 0 0 y b = 0 := by
  unfold over
  rw [if_neg (by omega)]
  simp

theorem upto_first (w : ℕ → ℕ → ℕ → ℝ) (d : ℕ → ℕ → ℝ) (g j a b : ℕ) : upto w d g j 0 a b = 0 := by
  unfold upto
  simp

/-- Arrays of the same real numbers are equal. -/
theorem tile_congr {e : FTy} {n m : ℕ} {f f' : ℕ → ℕ → ℝ} (h : ∀ a b, a < n → b < m → f a b = f' a b) :
    tile (e := e) n m f = tile n m f' :=
  funext fun y => by unfold tile; rw [h _ _ (y 0).isLt (y 1).isLt]

end Cert.KernelIdeal.Bwd

end
-- ==== Proof.Bwd.Grid.lean ====
module

public import proofs.«01_k».proof.Proof.Bwd.Sums

/-! The contents after every point of the grid, and the output arrays after the last. -/

@[expose] public section

set_option maxRecDepth 16384

noncomputable section

namespace Cert.KernelIdeal.Bwd

open Cert.KernelIdeal.Gen
open Idealize.ShloMosaic
open Idealize.ShloMosaic.Pipeline (Dat)

variable (m : (ℓ : Loc nD τ sig) → Buf (Elt Ideal) ℓ)

/-- The operands of the call are real numbers. -/
structure Args (c : Dev nD) (q k v d : ℕ → ℕ → ℝ) (l e : ℕ → ℕ → ℕ → ℝ) : Prop where
  q : ∀ y, V m c main_v36 y = ((q (y 0).val (y 1).val : ℝ) : EReal)
  k : ∀ y, V m c main_v39 y = ((k (y 0).val (y 1).val : ℝ) : EReal)
  v : ∀ y, V m c main_v42 y = ((v (y 0).val (y 1).val : ℝ) : EReal)
  d : ∀ y, V m c main_v45 y = ((d (y 0).val (y 1).val : ℝ) : EReal)
  l : ∀ y, V m c main_v47 y = ((l (y 0).val (y 1).val (y 2).val : ℝ) : EReal)
  e : ∀ y, V m c main_v49 y = ((e (y 0).val (y 1).val (y 2).val : ℝ) : EReal)

theorem idx : ∀ t : Fin cfg0.N,
    win0_0.index t = ![max (t.val % 4) (t.val / 4 % 4), t.val / 16] ∧ win0_1.index t = ![t.val / 4 % 4, t.val / 16]
      ∧ win0_2.index t = ![t.val / 4 % 4, t.val / 16] ∧ win0_3.index t = ![max (t.val % 4) (t.val / 4 % 4), t.val / 16]
      ∧ win0_4.index t = ![t.val / 16, 0, max (t.val % 4) (t.val / 4 % 4)] ∧ win0_5.index t = ![t.val / 16, 0, max (t.val % 4) (t.val / 4 % 4)]
      ∧ win0_6.index t = ![0, t.val / 16] ∧ win0_7.index t = ![t.val / 4 % 4, t.val / 16] ∧ win0_8.index t = ![t.val / 4 % 4, t.val / 16] :=
  (by decide +kernel : ∀ t : Fin grid0.N, _)

set_option maxHeartbeats 1600000 in
/-- The blocks of point `t`. -/
theorem blk (c : Dev nD) (t : Fin cfg0.N) {q k v d : ℕ → ℕ → ℝ} {l e : ℕ → ℕ → ℕ → ℝ} (A : Args m c q k v d l e) :
    Blk m c t (fun a b => q (1024 * max (t.val % 4) (t.val / 4 % 4) + a) (512 * (t.val / 16) + b))
      (fun a b => k (1024 * (t.val / 4 % 4) + a) (512 * (t.val / 16) + b))
      (fun a b => v (1024 * (t.val / 4 % 4) + a) (512 * (t.val / 16) + b))
      (fun a b => d (1024 * max (t.val % 4) (t.val / 4 % 4) + a) (512 * (t.val / 16) + b))
      (fun r n => l (t.val / 16) r (1024 * max (t.val % 4) (t.val / 4 % 4) + n))
      (fun r n => e (t.val / 16) r (1024 * max (t.val % 4) (t.val / 4 % 4) + n)) := by
  refine ⟨?_, ?_, ?_, ?_, ?_, ?_⟩
  · funext y
    refine (A.q (((cfg0.win 0).blk t).view.emb y)).trans ?_
    unfold tile
    blk_simp [idx t]
    simp [mul_comm, add_comm]
  · funext y
    refine (A.k (((cfg0.win 1).blk t).view.emb y)).trans ?_
    unfold tile
    blk_simp [idx t]
    simp [mul_comm, add_comm]
  · funext y
    refine (A.v (((cfg0.win 2).blk t).view.emb y)).trans ?_
    unfold tile
    blk_simp [idx t]
    simp [mul_comm, add_comm]
  · funext y
    refine (A.d (((cfg0.win 3).blk t).view.emb y)).trans ?_
    unfold tile
    blk_simp [idx t]
    simp [mul_comm, add_comm]
  · funext y
    refine (A.l (((cfg0.win 4).blk t).view.emb y)).trans ?_
    unfold tile3
    blk_simp [idx t]
    have h0 : (y 0).val = 0 := by have := (y 0).isLt; change _ < 1 at this; omega
    simp [mul_comm, add_comm, h0]
  · funext y
    refine (A.e (((cfg0.win 5).blk t).view.emb y)).trans ?_
    unfold tile3
    blk_simp [idx t]
    have h0 : (y 0).val = 0 := by have := (y 0).isLt; change _ < 1 at this; omega
    simp [mul_comm, add_comm, h0]

variable {m} in
theorem Left.congr {c : Dev nD} {n : ℕ} {hn : n < cfg0.N} {o o' s0 s0' s1 s1' : ℕ → ℕ → ℝ} (X : Left m c n hn o s0 s1)
    (ho : ∀ a b, a < 4096 → b < 512 → o a b = o' a b) (h0 : ∀ a b, a < 1024 → b < 512 → s0 a b = s0' a b)
    (h1 : ∀ a b, a < 1024 → b < 512 → s1 a b = s1' a b) : Left m c n hn o' s0' s1' :=
  ⟨X.o.trans (tile_congr ho), X.s0.trans (tile_congr h0), X.s1.trans (tile_congr h1)⟩

section

variable {q k v d : ℕ → ℕ → ℝ} {l e : ℕ → ℕ → ℕ → ℝ}

/-- Below the diagonal. -/
theorem full_prob (g i j : ℕ) (hij : j < i) (h a n : ℕ) (ha : a < 1024) :
    pFull (fun a b => q (1024 * i + a) (512 * g + b)) (fun a b => k (1024 * j + a) (512 * g + b)) (fun r n => l g r (1024 * i + n)) h a n
      = prob q k l g h (1024 * j + a) (1024 * i + n) := by
  unfold prob
  rw [if_pos (by omega)]
  rfl

theorem full_grad (g i j : ℕ) (hij : j < i) (h a n : ℕ) (ha : a < 1024) :
    dsOf (pFull (fun a b => q (1024 * i + a) (512 * g + b)) (fun a b => k (1024 * j + a) (512 * g + b)) (fun r n => l g r (1024 * i + n)))
        (fun a b => v (1024 * j + a) (512 * g + b)) (fun a b => d (1024 * i + a) (512 * g + b)) (fun r n => e g r (1024 * i + n)) h a n
      = grad q k v d l e g h (1024 * j + a) (1024 * i + n) := by
  unfold dsOf grad
  rw [full_prob g i j hij h a n ha]
  rfl

/-- On the diagonal. -/
theorem diag_prob (g i j : ℕ) (hij : j = i) (h a n : ℕ) :
    pDiag (fun a b => q (1024 * i + a) (512 * g + b)) (fun a b => k (1024 * j + a) (512 * g + b)) (fun r n => l g r (1024 * i + n)) h a n
      = prob q k l g h (1024 * j + a) (1024 * i + n) := by
  subst hij
  unfold prob pDiag
  simp only [Nat.add_le_add_iff_left]
  rfl

theorem diag_grad (g i j : ℕ) (hij : j = i) (h a n : ℕ) :
    dsOf (pDiag (fun a b => q (1024 * i + a) (512 * g + b)) (fun a b => k (1024 * j + a) (512 * g + b)) (fun r n => l g r (1024 * i + n)))
        (fun a b => v (1024 * j + a) (512 * g + b)) (fun a b => d (1024 * i + a) (512 * g + b)) (fun r n => e g r (1024 * i + n)) h a n
      = grad q k v d l e g h (1024 * j + a) (1024 * i + n) := by
  unfold dsOf grad
  rw [diag_prob g i j hij h a n]
  rfl

/-- What point `n` leaves: query blocks `0 … i` of key block `j` in group `g`, where `n = 16 g + 4 j + i`. -/
abbrev After (c : Dev nD) (q k v d : ℕ → ℕ → ℝ) (l e : ℕ → ℕ → ℕ → ℝ) (n : ℕ) (hn : n < cfg0.N) : Prop :=
  Left m c n hn (over (grad q k v d l e (n / 16)) k (n / 16) (n / 4 % 4) (n % 4 + 1))
    (upto (grad q k v d l e (n / 16)) q (n / 16) (n / 4 % 4) (n % 4 + 1)) (upto (prob q k l (n / 16)) d (n / 16) (n / 4 % 4) (n % 4 + 1))

/-- What a point finds of its own key block. -/
theorem found (c : Dev nD) (t : Fin cfg0.N) (h1 : ¬t.val % 4 = 0) (IH : After m c q k v d l e (t.val - 1) (Nat.lt_of_le_of_lt (Nat.sub_le _ _) t.isLt)) :
    Left m c (t.val - 1) (Nat.lt_of_le_of_lt (Nat.sub_le _ _) t.isLt)
      (over (grad q k v d l e (t.val / 16)) k (t.val / 16) (t.val / 4 % 4) (t.val % 4))
      (upto (grad q k v d l e (t.val / 16)) q (t.val / 16) (t.val / 4 % 4) (t.val % 4)) (upto (prob q k l (t.val / 16)) d (t.val / 16) (t.val / 4 % 4) (t.val % 4)) := by
  have e1 : (t.val - 1) / 16 = t.val / 16 := by omega
  have e2 : (t.val - 1) / 4 % 4 = t.val / 4 % 4 := by omega
  have e3 : (t.val - 1) % 4 + 1 = t.val % 4 := by omega
  unfold After at IH
  rwa [e1, e2, e3] at IH

theorem after_point (c : Dev nD) (A : Args m c q k v d l e) (t : Fin cfg0.N)
    (IH : ¬t.val % 16 = 0 → After m c q k v d l e (t.val - 1) (Nat.lt_of_le_of_lt (Nat.sub_le _ _) t.isLt)) :
    After m c q k v d l e t.val t.isLt := by
  have X := blk m c t A
  by_cases h0 : t.val % 16 = 0
  · have h1 : t.val % 4 = 0 := by omega
    have h3 : t.val / 4 % 4 = t.val % 4 := by omega
    rw [max_eq_left (by omega)] at X
    refine (step_A m c t h0 h1 (by omega) h3 (by omega) X).congr (fun a b ha hb => ?_) (fun a b ha hb => ?_) (fun a b ha hb => ?_)
    · refine Eq.trans ?_ (over_add _ _ _ _ _ _ _ _ fun h a n ha hn => diag_grad _ _ _ h3 h a n)
      unfold stepQ
      rw [h3, h1, over_first]
    · refine Eq.trans ?_ (upto_add _ _ _ _ _ _ _ _ fun h n hn => diag_grad _ _ _ h3 h a n)
      unfold stepV
      rw [h3, h1, upto_first]
    · refine Eq.trans ?_ (upto_add _ _ _ _ _ _ _ _ fun h n hn => diag_prob _ _ _ h3 h a n)
      unfold stepV
      rw [h3, h1, upto_first]
  have IH := IH h0
  by_cases h1 : t.val % 4 = 0
  · have P : Left m c (t.val - 1) (Nat.lt_of_le_of_lt (Nat.sub_le _ _) t.isLt) _ _ _ := IH
    refine (step_D m c t h0 h1 (by omega) (by omega) (by omega) X P).congr (fun a b ha hb => ?_) (fun a b ha hb => ?_) (fun a b ha hb => ?_)
    · refine Eq.trans ?_ (over_above _ (grad_above q k v d l e _) _ _ _ _ _ _ (by omega)).symm
      rw [h1]
      obtain ⟨j, hj⟩ : ∃ j, t.val / 4 % 4 = j + 1 := ⟨t.val / 4 % 4 - 1, by omega⟩
      rw [hj, over_next _ _ _ _ _ _ ha]
      rw [show (t.val - 1) / 16 = t.val / 16 by omega, show (t.val - 1) / 4 % 4 = j by omega, show (t.val - 1) % 4 + 1 = 4 by omega]
    · exact (upto_above _ (grad_above q k v d l e _) _ _ _ _ _ _ (by omega)).symm
    · exact (upto_above _ (prob_above q k l _) _ _ _ _ _ _ (by omega)).symm
  have P := found m c t h1 IH
  by_cases h2 : t.val / 4 % 4 + 1 ≤ t.val % 4
  · rw [max_eq_left (by omega)] at X
    have S : Left m c t.val t.isLt _ _ _ :=
      if h4 : t.val % 4 = 3 then step_C m c t h0 h1 h2 (by omega) h4 X P else step_B m c t h0 h1 h2 (by omega) h4 X P
    exact S.congr (fun a b ha hb => over_add _ _ _ _ _ _ _ _ fun h a n ha hn => full_grad _ _ _ h2 h a n ha)
      (fun a b ha hb => upto_add _ _ _ _ _ _ _ _ fun h n hn => full_grad _ _ _ h2 h a n ha)
      (fun a b ha hb => upto_add _ _ _ _ _ _ _ _ fun h n hn => full_prob _ _ _ h2 h a n ha)
  by_cases h3 : t.val / 4 % 4 = t.val % 4
  · rw [max_eq_left (by omega)] at X
    have S : Left m c t.val t.isLt _ _ _ :=
      if h4 : t.val % 4 = 3 then step_G m c t h0 h1 h2 h3 h4 X P else step_E m c t h0 h1 h2 h3 h4 X P
    exact S.congr (fun a b ha hb => over_add _ _ _ _ _ _ _ _ fun h a n ha hn => diag_grad _ _ _ h3 h a n)
      (fun a b ha hb => upto_add _ _ _ _ _ _ _ _ fun h n hn => diag_grad _ _ _ h3 h a n)
      (fun a b ha hb => upto_add _ _ _ _ _ _ _ _ fun h n hn => diag_prob _ _ _ h3 h a n)
  · refine (step_F m c t h0 h1 h2 h3 (by omega) X P).congr (fun a b ha hb => ?_) (fun a b ha hb => ?_) (fun a b ha hb => ?_)
    · exact (over_above _ (grad_above q k v d l e _) _ _ _ _ _ _ (by omega)).symm
    · rw [upto_above _ (grad_above q k v d l e _) _ _ _ _ _ _ (by omega), upto_above _ (grad_above q k v d l e _) _ _ _ _ _ _ (by omega)]
    · rw [upto_above _ (prob_above q k l _) _ _ _ _ _ _ (by omega), upto_above _ (prob_above q k l _) _ _ _ _ _ _ (by omega)]

theorem after_all (c : Dev nD) (A : Args m c q k v d l e) (n : ℕ) : ∀ hn : n < cfg0.N, After m c q k v d l e n hn := by
  induction n with
  | zero => exact fun hn => after_point m c A ⟨0, hn⟩ fun h => absurd rfl h
  | succ n ih => exact fun hn => after_point m c A ⟨n + 1, hn⟩ fun _ => ih (Nat.lt_of_succ_lt hn)

/-- What the last query block of a key block leaves in the blocks of `dk` and `dv`. -/
theorem outs (c : Dev nD) (A : Args m c q k v d l e) (t : Fin cfg0.N) (h4 : t.val % 4 = 3) :
    (outsAt0 m c t.val t.isLt).2.1 = tile (e := .f32) 1024 512 (fun a b => upto (grad q k v d l e (t.val / 16)) q (t.val / 16) (t.val / 4 % 4) 4 a b * Real.log 2)
      ∧ (outsAt0 m c t.val t.isLt).2.2.1 = tile (e := .bf16) 1024 512 (upto (prob q k l (t.val / 16)) d (t.val / 16) (t.val / 4 % 4) 4) := by
  have X := blk m c t A
  have P := found m c t (by omega) (after_all m c A (t.val - 1) (Nat.lt_of_le_of_lt (Nat.sub_le _ _) t.isLt))
  rw [max_eq_left (by omega)] at X
  by_cases h2 : t.val / 4 % 4 + 1 ≤ t.val % 4
  · obtain ⟨R7, R8⟩ := outs_C m c t (by omega) (by omega) h2 (by omega) h4 X P
    refine ⟨R7.trans (tile_congr fun a b ha hb => ?_), R8.trans (tile_congr fun a b ha hb => ?_)⟩
    · rw [upto_add _ _ _ _ _ _ _ _ fun h n hn => full_grad _ _ _ h2 h a n ha, h4]
    · rw [upto_add _ _ _ _ _ _ _ _ fun h n hn => full_prob _ _ _ h2 h a n ha, h4]
  · have h3 : t.val / 4 % 4 = t.val % 4 := by omega
    obtain ⟨R7, R8⟩ := outs_G m c t (by omega) (by omega) h2 h3 h4 X P
    refine ⟨R7.trans (tile_congr fun a b ha hb => ?_), R8.trans (tile_congr fun a b ha hb => ?_)⟩
    · rw [upto_add _ _ _ _ _ _ _ _ fun h n hn => diag_grad _ _ _ h3 h a n, h4]
    · rw [upto_add _ _ _ _ _ _ _ _ fun h n hn => diag_prob _ _ _ h3 h a n, h4]

/-- The gradient of the queries after the run. -/
theorem final6 (c : Dev nD) (A : Args m c q k v d l e) : (dats m 0 c).arrAt 6 cfg0.N
    = tile (e := .f32) 4096 1536 (fun y b => (∑ a ∈ Finset.range 4096, grad q k v d l e (b / 512) (b % 512 / 128) a y * k a b) * scale) := by
  refine (dats m 0 c).arrAt_eq_of_covers 6 _ (by decide +kernel) fun t hf y => ?_
  have h := (flush0_6 t).1 hf
  blk_simp
  rw [after0_6, (after_all m c A t.val t.isLt).o]
  have h0 : (y 0).val < 4096 := (y 0).isLt
  have h1 : (y 1).val < 512 := (y 1).isLt
  unfold tile
  blk_simp [idx t]
  have e1 : (t.val / 16 * 512 + (y 1).val) / 512 = t.val / 16 := by omega
  have e2 : (t.val / 16 * 512 + (y 1).val) % 512 / 128 = (y 1).val / 128 := by omega
  rw [e1, e2, mul_comm (t.val / 16) 512]
  unfold over
  rw [if_pos (by omega), show 1024 * (t.val / 4 % 4 + 1) = 4096 by omega]

theorem final7 (c : Dev nD) (A : Args m c q k v d l e) : (dats m 0 c).arrAt 7 cfg0.N
    = tile (e := .f32) 4096 1536 (fun a b => (∑ n ∈ Finset.range 4096, grad q k v d l e (b / 512) (b % 512 / 128) a n * q n b) * Real.log 2) := by
  refine (dats m 0 c).arrAt_eq_of_covers 7 _ (by decide +kernel) fun t hf y => ?_
  have h := (flush0_7 t).1 hf
  blk_simp
  rw [after0_7, (outs m c A t h).1]
  have h0 : (y 0).val < 1024 := (y 0).isLt
  have h1 : (y 1).val < 512 := (y 1).isLt
  unfold tile
  blk_simp [idx t]
  have e1 : (t.val / 16 * 512 + (y 1).val) / 512 = t.val / 16 := by omega
  have e2 : (t.val / 16 * 512 + (y 1).val) % 512 / 128 = (y 1).val / 128 := by omega
  rw [e1, e2, mul_comm (t.val / 16) 512, mul_comm (t.val / 4 % 4) 1024]
  rfl

theorem final8 (c : Dev nD) (A : Args m c q k v d l e) : (dats m 0 c).arrAt 8 cfg0.N
    = tile (e := .bf16) 4096 1536 (fun a b => ∑ n ∈ Finset.range 4096, prob q k l (b / 512) (b % 512 / 128) a n * d n b) := by
  refine (dats m 0 c).arrAt_eq_of_covers 8 _ (by decide +kernel) fun t hf y => ?_
  have h := (flush0_8 t).1 hf
  blk_simp
  rw [after0_8, (outs m c A t h).2]
  have h0 : (y 0).val < 1024 := (y 0).isLt
  have h1 : (y 1).val < 512 := (y 1).isLt
  unfold tile
  blk_simp [idx t]
  have e1 : (t.val / 16 * 512 + (y 1).val) / 512 = t.val / 16 := by omega
  have e2 : (t.val / 16 * 512 + (y 1).val) % 512 / 128 = (y 1).val / 128 := by omega
  rw [e1, e2, mul_comm (t.val / 16) 512, mul_comm (t.val / 4 % 4) 1024]
  rfl

end

end Cert.KernelIdeal.Bwd

end
-- ==== Proof.Bwd.Host.lean ====
module

public import proofs.«01_k».proof.Proof.Bwd.Slots
public import proofs.«01_k».proof.Proof.Bwd.Grid
public import Idealize.ShloMosaic.Lib.StableHlo.ReadAt

/-! The operands of the call: what the host computes of real arguments. -/

@[expose] public section

set_option maxRecDepth 16384

noncomputable section

namespace Cert.KernelIdeal.Bwd

open Cert.KernelIdeal Cert.KernelIdeal.Gen
open Idealize.ShloMosaic Idealize.ShloMosaic.TcCoe
open Cert.ReferenceIdeal.Real Cert.Model
open Cert.ReferenceIdeal.Read (val_main_v12 val_main_v19 val_main_v32 val_main_v34 val_main_v36 val_main_v18 val_main_cst_3 val_main_v19_apply val_main_v18_apply val_main_cst_3_apply)

variable (m : (ℓ : Loc nD τ sig) → Buf (Elt Ideal) ℓ)

/-- The logarithm of the number two, as the host computes it. -/
def log2 : FVec Ideal S_ .f32 := Host.log (constant (F := Ideal) S_ .f32 0x40000000#32)

theorem log2_at : log2 = fun _ => ((Real.log 2 : ℝ) : EReal) := by
  funext i
  show Ideal.log (Ideal.ofBits .f32 0x40000000#32) = _
  rw [show (Ideal.ofBits .f32 0x40000000#32 : EReal) = ((2 : ℝ) : EReal) by simp [Ideal.ofBits, Ideal.ieee, -EReal.coe_mul]; norm_num]
  simp

/-- The scaled queries. -/
def hQ (x : FVec Ideal S4096x12x96 .f32) : FVec Ideal S4096x12x96 .f32 :=
  mulf x (broadcastInDim S4096x12x96 ![] bcast_S_S4096x12x96 (Host.divf (constant (F := Ideal) S_ .f32 0x3DD105EC#32) log2))

/-- The saved logarithms of the row sums, base two. -/
def hLse (x0 x1 : FVec Ideal S4096x12x96 .f32) : FVec Ideal S12x4096 .f32 :=
  Host.divf (shapeCast S12x4096 (addf (broadcastInDim S12x4096x1 ![0, 1] bcast_S12x4096_S12x4096x1_0_1 (val_main_v12 (F := Ideal) x0 x1)) (Host.log (val_main_v34 (F := Ideal) x0 x1))) shapeCasts_S12x4096x1_S12x4096)
    (broadcastInDim S12x4096 ![] bcast_S_S12x4096 log2)

abbrev dotO : DotDims S12x4096x4096 S4096x12x64 S12x4096x64 := dot_S12x4096x4096_S4096x12x64_S12x4096x64_2_0_1_2_0_1

/-- The attention's output, head by head. -/
def hOut (p : FVec Ideal S12x4096x4096 .f32) (x2 : FVec Ideal S4096x12x64 .f32) : FVec Ideal S12x4096x64 .f32 := Host.dotGeneral dotO none p x2

/-- The saved row sums of output times cotangent. -/
def hDel (x0 x1 : FVec Ideal S4096x12x96 .f32) (x2 x3 : FVec Ideal S4096x12x64 .f32) : FVec Ideal S12x4096 .f32 :=
  Host.reduceAdd (mulf (hOut (val_main_v36 (F := Ideal) x0 x1) x2)
    (transpose S12x4096x64 [1, 0, 2] x3 transposes_S4096x12x64_S12x4096x64_1_0_2)) (constant (F := Ideal) S_ .f32 0x00000000#32) reducesTo_S12x4096x64_S12x4096_d2 h_S_

variable {q k v d : ℕ → ℕ → ℕ → ℝ}

theorem add_at {s : Shape} (a b : FVec Ideal s .f32) (z : s.Idx) : addf a b z = a z + b z := rfl
theorem mul_at {s : Shape} (a b : FVec Ideal s .f32) (z : s.Idx) : mulf a b z = a z * b z := rfl
theorem div_at {s : Shape} (a b : FVec Ideal s .f32) (z : s.Idx) : Host.divf a b z = Ideal.div (a z) (b z) := rfl
theorem log_at {s : Shape} (a : FVec Ideal s .f32) (z : s.Idx) : Host.log a z = Ideal.log (a z) := rfl

theorem hQ_at {x : FVec Ideal S4096x12x96 .f32} (hx : Is x q) : Is (hQ x) fun n h a => q n h a * (scale / Real.log 2) := by
  intro y
  unfold hQ
  rw [log2_at]
  generalize hw : Host.divf (constant (F := Ideal) S_ .f32 0x3DD105EC#32) (fun _ => ((Real.log 2 : ℝ) : EReal)) = w
  have hw' : w (fun a => a.elim0) = ((scale / Real.log 2 : ℝ) : EReal) := by
    rw [← hw]
    show Ideal.div (Ideal.ofBits .f32 0x3DD105EC#32) _ = _
    rw [show Ideal.ofBits .f32 0x3DD105EC#32 = ((scale : ℝ) : EReal) from scale_word, div_real _ _ (Real.log_pos one_lt_two).ne']
  show x y * broadcastInDim S4096x12x96 ![] bcast_S_S4096x12x96 w y = _
  rw [broadcastInDim_apply ![] bcast_S_S4096x12x96 w y (fun a => a.elim0) (fun a => a.elim0), hw', hx, ← EReal.coe_mul]

theorem hLse_at {x0 x1 : FVec Ideal S4096x12x96 .f32} (h0 : Is x0 q) (h1 : Is x1 k) (y : S12x4096.Idx) :
    hLse x0 x1 y = (((top q k (y 0).val (y 1).val + Real.log (tot q k (y 0).val (y 1).val)) / Real.log 2 : ℝ) : EReal) := by
  have e0 : (y 0).val < 12 := (y 0).isLt
  have e1 : (y 1).val < 4096 := (y 1).isLt
  have ht := tot_pos q k (y 0).val (y 1).val
  unfold hLse
  rw [log2_at]
  have hT := at_v12 h0 h1
  have hS := at_v34 h0 h1
  generalize val_main_v12 (F := Ideal) x0 x1 = T at hT ⊢
  generalize val_main_v34 (F := Ideal) x0 x1 = U at hS ⊢
  generalize hw : (fun _ : S_.Idx => ((Real.log 2 : ℝ) : EReal)) = w
  have hw' : w (fun a => a.elim0) = ((Real.log 2 : ℝ) : EReal) := by rw [← hw]
  rw [div_at, broadcastInDim_apply ![] bcast_S_S12x4096 w y (fun a => a.elim0) (fun a => a.elim0), hw',
    shapeCast_apply _ shapeCasts_S12x4096x1_S12x4096 y (ValueIdx.ix3 ⟨(y 0).val, e0⟩ ⟨(y 1).val, e1⟩ ⟨0, Nat.one_pos⟩)
      (by rw [Shape.rowMajor_val_three, Shape.rowMajor_val_two]; show ((y 0).val * 4096 + (y 1).val) * 1 + 0 = (y 0).val * 4096 + (y 1).val; ring)]
  rw [add_at, log_at, broadcastInDim_apply ![0, 1] bcast_S12x4096_S12x4096x1_0_1 T _ y (fun a => by fin_cases a <;> rfl), hT, hS]
  refine Eq.trans (congrArg (fun z => Ideal.div (_ + z) _) (?_ : _ = ((Real.log (tot q k (y 0).val (y 1).val) : ℝ) : EReal))) ?_
  · refine (Ideal.log_coe _).trans (if_neg (not_le.2 ?_))
    exact ht
  · rw [← EReal.coe_add, div_real _ _ (Real.log_pos one_lt_two).ne']

theorem hOut_at {p : FVec Ideal S12x4096x4096 .f32} {x2 : FVec Ideal S4096x12x64 .f32} {f : ℕ → ℕ → ℕ → ℝ} (hp : Is p f) (h2 : Is x2 v) :
    Is (hOut p x2) fun h i x => ∑ j ∈ Finset.range 4096, f h i j * v j h x := by
  intro y
  unfold hOut
  simp only [Host.dotGeneral]
  rw [Ideal.dotGeneral_apply, ← Equiv.sum_comp (ValueIdx.contrEquiv1 dotO 4096 rfl rfl).symm]
  refine sum_real _ (fun j => f (y 0).val (y 1).val j * v j (y 0).val (y 2).val) fun j => ?_
  have hj := ValueIdx.contrEquiv1_symm_val dotO 4096 rfl rfl j
  generalize (ValueIdx.contrEquiv1 dotO 4096 rfl rfl).symm j = c at hj
  have l0 : (dotO.lhsIdx y c 0).val = (y 0).val := by
    unfold DotDims.lhsIdx
    rw [dif_pos (show (0 : Fin S12x4096x4096.rank) ∈ dotO.lhsBatch by decide)]
    rfl
  have l1 : (dotO.lhsIdx y c 1).val = (y 1).val := by
    unfold DotDims.lhsIdx
    rw [dif_neg (show ¬(1 : Fin S12x4096x4096.rank) ∈ dotO.lhsBatch by decide), dif_pos (show (1 : Fin S12x4096x4096.rank) ∈ dotO.lhsNonContracting by decide)]
    rfl
  have l2 : (dotO.lhsIdx y c 2).val = j.val := (dotO.lhsIdx_val_of_single rfl y c).trans hj
  have r0 : (dotO.rhsIdx y c 0).val = j.val := (dotO.rhsIdx_val_of_single rfl y c).trans hj
  have r1 : (dotO.rhsIdx y c 1).val = (y 0).val := by
    unfold DotDims.rhsIdx
    rw [dif_pos (show (1 : Fin S4096x12x64.rank) ∈ dotO.rhsBatch by decide)]
    rfl
  have r2 : (dotO.rhsIdx y c 2).val = (y 2).val := by
    unfold DotDims.rhsIdx
    rw [dif_neg (show ¬(2 : Fin S4096x12x64.rank) ∈ dotO.rhsBatch by decide), dif_pos (show (2 : Fin S4096x12x64.rank) ∈ dotO.rhsNonContracting by decide)]
    rfl
  rw [hp, h2, l0, l1, l2, r0, r1, r2, ← EReal.coe_mul]

theorem hDel_at {x0 x1 : FVec Ideal S4096x12x96 .f32} {x2 x3 : FVec Ideal S4096x12x64 .f32} (h0 : Is x0 q) (h1 : Is x1 k) (h2 : Is x2 v) (h3 : Is x3 d)
    (y : S12x4096.Idx) : hDel x0 x1 x2 x3 y = ((del q k v d (y 0).val (y 1).val : ℝ) : EReal) := by
  unfold hDel
  have hO := hOut_at (at_v36 h0 h1) h2
  generalize hOut (val_main_v36 (F := Ideal) x0 x1) x2 = o at hO ⊢
  simp only [Host.reduceAdd, Ideal.hostReduceAdd_def]
  rw [Ideal.hostReduceAdd_single reducesTo_S12x4096x64_S12x4096_d2 (by decide)]
  refine Eq.trans (congrArg₂ (· + ·) zero_word (sum_real _ (fun x => (∑ j ∈ Finset.range 4096, pr q k (y 0).val (y 1).val j * v j (y 0).val x) * d (y 1).val (y 0).val x) fun x => ?_)) ?_
  · rw [mul_at, hO, transpose_apply [1, 0, 2] x3 transposes_S4096x12x64_S12x4096x64_1_0_2 _ (ValueIdx.ix3 ⟨(y 1).val, (y 1).isLt⟩ ⟨(y 0).val, (y 0).isLt⟩ x)
      (fun b => by fin_cases b <;> rfl), h3, ← EReal.coe_mul]
    rfl
  · rw [← EReal.coe_add, zero_add]
    rfl

theorem V36 (c : Dev nD) : V m c main_v36 = truncf (F := Ideal) .bf16 (shapeCast S4096x1536 (pad S4096x12x128 ![0, 0, 0] ![0, 0, 32] ![0, 0, 0] (hQ (m ((c : Thread nD τ).loc main_arg0)))
      (sitofp .f32 (constantI S_ 32 0#32)) pads_S4096x12x96_S4096x12x128_000_000_0320 h_S_) shapeCasts_S4096x12x128_S4096x1536) bitsLt_bf16_f32 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_simp
  rfl

theorem V39 (c : Dev nD) : V m c main_v39 = truncf (F := Ideal) .bf16 (shapeCast S4096x1536 (pad S4096x12x128 ![0, 0, 0] ![0, 0, 32] ![0, 0, 0] (m ((c : Thread nD τ).loc main_arg1) : FVec Ideal S4096x12x96 .f32)
      (sitofp .f32 (constantI S_ 32 0#32)) pads_S4096x12x96_S4096x12x128_000_000_0320 h_S_) shapeCasts_S4096x12x128_S4096x1536) bitsLt_bf16_f32 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_simp
  rfl

theorem V42 (c : Dev nD) : V m c main_v42 = truncf (F := Ideal) .bf16 (shapeCast S4096x1536 (pad S4096x12x128 ![0, 0, 0] ![0, 0, 64] ![0, 0, 0] (m ((c : Thread nD τ).loc main_arg2) : FVec Ideal S4096x12x64 .f32)
      (sitofp .f32 (constantI S_ 32 0#32)) pads_S4096x12x64_S4096x12x128_000_000_0640 h_S_) shapeCasts_S4096x12x128_S4096x1536) bitsLt_bf16_f32 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_simp
  rfl

theorem V45 (c : Dev nD) : V m c main_v45 = truncf (F := Ideal) .bf16 (shapeCast S4096x1536 (pad S4096x12x128 ![0, 0, 0] ![0, 0, 64] ![0, 0, 0] (m ((c : Thread nD τ).loc main_arg3) : FVec Ideal S4096x12x64 .f32)
      (sitofp .f32 (constantI S_ 32 0#32)) pads_S4096x12x64_S4096x12x128_000_000_0640 h_S_) shapeCasts_S4096x12x128_S4096x1536) bitsLt_bf16_f32 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_simp
  rfl

/-- On real arguments the largest score is no `⊥`. -/
theorem top_max {x0 x1 : FVec Ideal S4096x12x96 .f32} (h0 : Is x0 q) (h1 : Is x1 k) : val_main_v19 (F := Ideal) x0 x1 = val_main_v12 (F := Ideal) x0 x1 := by
  funext y
  rw [val_main_v19_apply, val_main_v18_apply, val_main_cst_3_apply, Ideal.ofBits_def, bot_word, Ideal.maximumf_def, max_eq_right bot_le]

theorem V47 (c : Dev nD) (h0 : Is (m ((c : Thread nD τ).loc main_arg0)) q) (h1 : Is (m ((c : Thread nD τ).loc main_arg1)) k) :
    V m c main_v47 = pad S3x8x4096 ![0, 0, 0] ![0, 4, 0] ![0, 0, 0] (shapeCast S3x4x4096 (hLse (m ((c : Thread nD τ).loc main_arg0)) (m ((c : Thread nD τ).loc main_arg1))) shapeCasts_S12x4096_S3x4x4096)
      (sitofp .f32 (constantI S_ 32 0#32)) pads_S3x4x4096_S3x8x4096_000_040_000 h_S_ := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_simp
  unfold hLse val_main_v34 Cert.ReferenceIdeal.Read.val_main_v33 val_main_v32 Cert.ReferenceIdeal.Read.val_main_v31 Cert.ReferenceIdeal.Read.val_main_v30 Cert.ReferenceIdeal.Read.val_main_v29
  rw [top_max h0 h1]
  rfl

theorem V49 (c : Dev nD) (h0 : Is (m ((c : Thread nD τ).loc main_arg0)) q) (h1 : Is (m ((c : Thread nD τ).loc main_arg1)) k) :
    V m c main_v49 = pad S3x8x4096 ![0, 0, 0] ![0, 4, 0] ![0, 0, 0] (shapeCast S3x4x4096 (hDel (m ((c : Thread nD τ).loc main_arg0)) (m ((c : Thread nD τ).loc main_arg1)) (m ((c : Thread nD τ).loc main_arg2)) (m ((c : Thread nD τ).loc main_arg3))) shapeCasts_S12x4096_S3x4x4096)
      (sitofp .f32 (constantI S_ 32 0#32)) pads_S3x4x4096_S3x8x4096_000_040_000 h_S_ := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_simp
  unfold hDel val_main_v36 Cert.ReferenceIdeal.Read.val_main_v35 val_main_v34 Cert.ReferenceIdeal.Read.val_main_v33 val_main_v32 Cert.ReferenceIdeal.Read.val_main_v31 Cert.ReferenceIdeal.Read.val_main_v30 Cert.ReferenceIdeal.Read.val_main_v29
  rw [top_max h0 h1]
  rfl

/-- The call's operands on real arguments. -/
theorem args (c : Dev nD) (h0 : Is (m ((c : Thread nD τ).loc main_arg0)) q) (h1 : Is (m ((c : Thread nD τ).loc main_arg1)) k)
    (h2 : Is (m ((c : Thread nD τ).loc main_arg2)) v) (h3 : Is (m ((c : Thread nD τ).loc main_arg3)) d) :
    Args m c (slot 96 fun n h x => q n h x * (scale / Real.log 2)) (slot 96 k) (slot 64 v) (slot 64 d)
      (rows8 fun h n => (top q k h n + Real.log (tot q k h n)) / Real.log 2) (rows8 fun h n => del q k v d h n) where
  q y := (congrFun (V36 m c) y).trans (slots96 (hQ_at h0) zero_int pads_S4096x12x96_S4096x12x128_000_000_0320 h_S_ shapeCasts_S4096x12x128_S4096x1536 y)
  k y := (congrFun (V39 m c) y).trans (slots96 h1 zero_int pads_S4096x12x96_S4096x12x128_000_000_0320 h_S_ shapeCasts_S4096x12x128_S4096x1536 y)
  v y := (congrFun (V42 m c) y).trans (slots64 h2 zero_int pads_S4096x12x64_S4096x12x128_000_000_0640 h_S_ shapeCasts_S4096x12x128_S4096x1536 y)
  d y := (congrFun (V45 m c) y).trans (slots64 h3 zero_int pads_S4096x12x64_S4096x12x128_000_000_0640 h_S_ shapeCasts_S4096x12x128_S4096x1536 y)
  l y := (congrFun (V47 m c h0 h1) y).trans (rows_at (hLse_at h0 h1) zero_int _ _ _ y)
  e y := (congrFun (V49 m c h0 h1) y).trans (rows_at (hDel_at h0 h1 h2 h3) zero_int _ _ _ y)

end Cert.KernelIdeal.Bwd

end
-- ==== Proof.Bwd.Final.lean ====
module

public import proofs.«01_k».proof.Proof.Bwd.Host

/-! The three results of the call on real arguments are the plain gradients, laid out in slots of 128 lanes a head. -/

@[expose] public section

noncomputable section

namespace Cert.KernelIdeal.Bwd

open Cert.KernelIdeal Cert.KernelIdeal.Gen
open Idealize.ShloMosaic Idealize.ShloMosaic.TcCoe
open Cert.ReferenceIdeal.Real Cert.Model

theorem slot_lane (w : ℕ) (f : ℕ → ℕ → ℕ → ℝ) (n g h x : ℕ) (hh : h < 4) (hx : x < 128) :
    slot w f n (512 * g + (128 * h + x)) = if x < w then f n (4 * g + h) x else 0 := by
  unfold slot
  rw [show (512 * g + (128 * h + x)) % 128 = x by omega, show (512 * g + (128 * h + x)) / 128 = 4 * g + h by omega]

/-- A product over a slot is the product over its head's features. -/
theorem dots_slots (w : ℕ) (hw : w ≤ 128) (f f' : ℕ → ℕ → ℕ → ℝ) (g h a n : ℕ) (hh : h < 4) :
    dots (slot w f) (slot w f') g h a n = ∑ x ∈ Finset.range w, f' a (4 * g + h) x * f n (4 * g + h) x := by
  unfold dots
  refine (Finset.sum_subset (Finset.range_subset_range.2 hw) fun x hx hx' => ?_).symm.trans (Finset.sum_congr rfl fun x hx => ?_)
  · rw [slot_lane w f' a g h x hh (Finset.mem_range.1 hx), if_neg fun hc => hx' (Finset.mem_range.2 hc), zero_mul]
  · have hx := Finset.mem_range.1 hx
    rw [slot_lane w f' a g h x hh (by omega), slot_lane w f n g h x hh (by omega), if_pos hx, if_pos hx]

variable (q k v d : ℕ → ℕ → ℕ → ℝ)

abbrev sQ : ℕ → ℕ → ℝ := slot 96 fun n h x => q n h x * (scale / Real.log 2)
abbrev sL : ℕ → ℕ → ℕ → ℝ := rows8 fun h n => (top q k h n + Real.log (tot q k h n)) / Real.log 2
abbrev sE : ℕ → ℕ → ℕ → ℝ := rows8 fun h n => del q k v d h n

theorem prob_slots (g h a n : ℕ) (hh : h < 4) : prob (sQ q) (slot 96 k) (sL q k) g h a n = pr q k (4 * g + h) n a := by
  unfold prob
  rw [pr_eq, dots_slots 96 (by norm_num) _ _ g h a n hh]
  unfold sL rows8
  rw [if_pos hh]
  refine if_congr Iff.rfl (congrArg (fun z : ℝ => (2 : ℝ) ^ (z - _)) ?_) rfl
  unfold score
  rw [mul_div_assoc, Finset.sum_mul]
  exact Finset.sum_congr rfl fun x _ => by ring

theorem grad_slots (g h a n : ℕ) (hh : h < 4) :
    grad (sQ q) (slot 96 k) (slot 64 v) (slot 64 d) (sL q k) (sE q k v d) g h a n = gs q k v d (4 * g + h) n a := by
  unfold grad gs
  rw [prob_slots q k g h a n hh, dots_slots 64 (by norm_num) _ _ g h a n hh]
  unfold sE rows8
  rw [if_pos hh]
  unfold dp
  dsimp only
  refine congrArg (fun z : ℝ => pr q k (4 * g + h) n a * (z - del q k v d (4 * g + h) n)) ?_
  exact Finset.sum_congr rfl fun x _ => by ring

theorem head_of (b : ℕ) : 4 * (b / 512) + b % 512 / 128 = b / 128 := by omega
theorem head_lt (b : ℕ) : b % 512 / 128 < 4 := by omega

theorem log_two_ne : Real.log 2 ≠ 0 := (Real.log_pos one_lt_two).ne'

theorem out_q (y b : ℕ) :
    (∑ a ∈ Finset.range 4096, grad (sQ q) (slot 96 k) (slot 64 v) (slot 64 d) (sL q k) (sE q k v d) (b / 512) (b % 512 / 128) a y * slot 96 k a b) * scale
      = slot 96 (fun i h x => gq q k v d h i x) y b := by
  simp only [grad_slots q k v d _ _ _ _ (head_lt b), head_of]
  unfold slot
  split_ifs with hb
  · rfl
  · simp

theorem out_k (a b : ℕ) :
    (∑ n ∈ Finset.range 4096, grad (sQ q) (slot 96 k) (slot 64 v) (slot 64 d) (sL q k) (sE q k v d) (b / 512) (b % 512 / 128) a n * sQ q n b) * Real.log 2
      = slot 96 (fun j h x => gk q k v d h j x) a b := by
  simp only [grad_slots q k v d _ _ _ _ (head_lt b), head_of]
  unfold sQ slot
  split_ifs with hb
  · dsimp only
    unfold gk
    rw [Finset.sum_mul, Finset.sum_mul]
    refine Finset.sum_congr rfl fun n _ => ?_
    have := log_two_ne
    field_simp
  · simp

theorem out_v (a b : ℕ) :
    (∑ n ∈ Finset.range 4096, prob (sQ q) (slot 96 k) (sL q k) (b / 512) (b % 512 / 128) a n * slot 64 d n b)
      = slot 64 (fun j h x => gv q k d h j x) a b := by
  simp only [prob_slots q k _ _ _ _ (head_lt b), head_of]
  unfold slot
  split_ifs with hb
  · rfl
  · simp

variable {q k v d}
variable (m : (ℓ : Loc nD τ sig) → Buf (Elt Ideal) ℓ)

/-- The call's first result. -/
theorem res6 (c : Dev nD) (h0 : Is (m ((c : Thread nD τ).loc main_arg0)) q) (h1 : Is (m ((c : Thread nD τ).loc main_arg1)) k)
    (h2 : Is (m ((c : Thread nD τ).loc main_arg2)) v) (h3 : Is (m ((c : Thread nD τ).loc main_arg3)) d) :
    (dats m 0 c).arrAt 6 cfg0.N = Cert.ReferenceIdeal.Read.val_main_v66 (F := Ideal) (m ((c : Thread nD τ).loc main_arg0)) (m ((c : Thread nD τ).loc main_arg1))
      (m ((c : Thread nD τ).loc main_arg2)) (m ((c : Thread nD τ).loc main_arg3)) := by
  refine (final6 m c (args m c h0 h1 h2 h3)).trans (funext fun y => ?_)
  refine Eq.trans ?_ (at_v66 h0 h1 h2 h3 y).symm
  exact congrArg (fun z : ℝ => (z : EReal)) (out_q q k v d _ _)

/-- The call's second result. -/
theorem res7 (c : Dev nD) (h0 : Is (m ((c : Thread nD τ).loc main_arg0)) q) (h1 : Is (m ((c : Thread nD τ).loc main_arg1)) k)
    (h2 : Is (m ((c : Thread nD τ).loc main_arg2)) v) (h3 : Is (m ((c : Thread nD τ).loc main_arg3)) d) :
    (dats m 0 c).arrAt 7 cfg0.N = Cert.ReferenceIdeal.Read.val_main_v68 (F := Ideal) (m ((c : Thread nD τ).loc main_arg0)) (m ((c : Thread nD τ).loc main_arg1))
      (m ((c : Thread nD τ).loc main_arg2)) (m ((c : Thread nD τ).loc main_arg3)) := by
  refine (final7 m c (args m c h0 h1 h2 h3)).trans (funext fun y => ?_)
  refine Eq.trans ?_ (at_v68 h0 h1 h2 h3 y).symm
  exact congrArg (fun z : ℝ => (z : EReal)) (out_k q k v d _ _)

/-- The call's third result. -/
theorem res8 (c : Dev nD) (h0 : Is (m ((c : Thread nD τ).loc main_arg0)) q) (h1 : Is (m ((c : Thread nD τ).loc main_arg1)) k)
    (h2 : Is (m ((c : Thread nD τ).loc main_arg2)) v) (h3 : Is (m ((c : Thread nD τ).loc main_arg3)) d) :
    (dats m 0 c).arrAt 8 cfg0.N = Cert.ReferenceIdeal.Read.val_main_v71 (F := Ideal) (m ((c : Thread nD τ).loc main_arg0)) (m ((c : Thread nD τ).loc main_arg1))
      (m ((c : Thread nD τ).loc main_arg3)) := by
  refine (final8 m c (args m c h0 h1 h2 h3)).trans (funext fun y => ?_)
  refine Eq.trans ?_ (at_v71 h0 h1 h3 y).symm
  exact congrArg (fun z : ℝ => (z : EReal)) (out_v q k d _ _)

end Cert.KernelIdeal.Bwd

end
-- ==== Proof.Bwd.Finite.lean ====
module

public import proofs.«01_k».proof.Proof.Bwd.Ref
public import proofs.«01_k».proof.Proof.Gen.Pre_finite

/-! Arguments of which the precondition holds are real numbers. -/

@[expose] public section

noncomputable section

namespace Cert.Pre_finite.Real

open Idealize.ShloMosaic Cert.Pre_finite Cert.Pre_finite.Gen
open Cert.ReferenceIdeal.Real (Is)

variable {x0 x1 : FVec Ideal S4096x12x96 .f32} {x2 x3 : FVec Ideal S4096x12x64 .f32}

theorem inf_word : (Ideal.ofBits .f32 0x7F800000#32 : EReal) = ⊤ := by
  simp [Ideal.ofBits, Ideal.ieee, -EReal.coe_mul]

/-- An extended real of magnitude below infinity is a real. -/
theorem real_of_lt (x : EReal) (h : (max x (-x) : EReal) < ⊤) : ((x.toReal : ℝ) : EReal) = x := by
  refine EReal.coe_toReal (fun e => ?_) fun e => ?_
  · rw [e] at h; simp at h
  · rw [e] at h; simp at h

/-- The joined arguments. -/
def joined (x0 x1 : FVec Ideal S4096x12x96 .f32) (x2 x3 : FVec Ideal S4096x12x64 .f32) : FVec Ideal S4096x12x320 .f32 :=
  concatenate S4096x12x320 2 [⟨S4096x12x96, x0⟩, ⟨S4096x12x96, x1⟩, ⟨S4096x12x64, x2⟩, ⟨S4096x12x64, x3⟩] concatenates_S4096x12x96_S4096x12x96_S4096x12x64_S4096x12x64_S4096x12x320_d2

theorem joined_real (h : fn (F := Ideal) x0 x1 x2 x3 = fun _ => 1#1) (y : S4096x12x320.Idx) :
    (((joined x0 x1 x2 x3 y).toReal : ℝ) : EReal) = joined x0 x1 x2 x3 y := by
  have e := congrFun h y
  unfold fn at e
  change cmpf .olt (Host.absf (joined x0 x1 x2 x3)) _ y = 1#1 at e
  generalize joined x0 x1 x2 x3 = j at e ⊢
  refine real_of_lt _ ?_
  change BitVec.ofBool (decide (max (j y) (-j y) < Ideal.ofBits .f32 0x7F800000#32)) = 1#1 at e
  rw [inf_word] at e
  by_contra hc
  rw [decide_eq_false hc] at e
  exact absurd e (by decide)

theorem real0 (h : fn (F := Ideal) x0 x1 x2 x3 = fun _ => 1#1) : Is x0 fun a b e => if hb : a < 4096 ∧ b < 12 ∧ e < 96 then (x0 (ValueIdx.ix3 ⟨a, hb.1⟩ ⟨b, hb.2.1⟩ ⟨e, hb.2.2⟩)).toReal else 0 := by
  intro y
  have b0 : (y 0).val < 4096 := (y 0).isLt
  have b1 : (y 1).val < 12 := (y 1).isLt
  have b2 : (y 2).val < 96 := (y 2).isLt
  have e : joined x0 x1 x2 x3 (ValueIdx.ix3 ⟨(y 0).val, b0⟩ ⟨(y 1).val, b1⟩ ⟨0 + (y 2).val, by omega⟩) = x0 y :=
    concatenate_apply_piece (t := S4096x12x320) 2 [⟨S4096x12x96, x0⟩, ⟨S4096x12x96, x1⟩, ⟨S4096x12x64, x2⟩, ⟨S4096x12x64, x3⟩] concatenates_S4096x12x96_S4096x12x96_S4096x12x64_S4096x12x64_S4096x12x320_d2 _ 0 (show 0 < 4 by decide) S4096x12x96 x0 rfl rfl 0 (by rfl) y
      (fun b hb => by
        match b, hb with
        | ⟨0, _⟩, _ => rfl
        | ⟨1, _⟩, _ => rfl
        | ⟨2, _⟩, hb => exact absurd rfl hb) rfl
  have ey : (ValueIdx.ix3 ⟨(y 0).val, b0⟩ ⟨(y 1).val, b1⟩ ⟨(y 2).val, b2⟩ : S4096x12x96.Idx) = y :=
    funext fun b => Fin.ext (by match b with | ⟨0, _⟩ => rfl | ⟨1, _⟩ => rfl | ⟨2, _⟩ => rfl)
  have r := joined_real h (ValueIdx.ix3 ⟨(y 0).val, b0⟩ ⟨(y 1).val, b1⟩ ⟨0 + (y 2).val, by omega⟩)
  rw [e] at r
  dsimp only
  rw [dif_pos ⟨b0, b1, b2⟩, ey, r]

theorem real1 (h : fn (F := Ideal) x0 x1 x2 x3 = fun _ => 1#1) : Is x1 fun a b e => if hb : a < 4096 ∧ b < 12 ∧ e < 96 then (x1 (ValueIdx.ix3 ⟨a, hb.1⟩ ⟨b, hb.2.1⟩ ⟨e, hb.2.2⟩)).toReal else 0 := by
  intro y
  have b0 : (y 0).val < 4096 := (y 0).isLt
  have b1 : (y 1).val < 12 := (y 1).isLt
  have b2 : (y 2).val < 96 := (y 2).isLt
  have e : joined x0 x1 x2 x3 (ValueIdx.ix3 ⟨(y 0).val, b0⟩ ⟨(y 1).val, b1⟩ ⟨96 + (y 2).val, by omega⟩) = x1 y :=
    concatenate_apply_piece (t := S4096x12x320) 2 [⟨S4096x12x96, x0⟩, ⟨S4096x12x96, x1⟩, ⟨S4096x12x64, x2⟩, ⟨S4096x12x64, x3⟩] concatenates_S4096x12x96_S4096x12x96_S4096x12x64_S4096x12x64_S4096x12x320_d2 _ 1 (show 1 < 4 by decide) S4096x12x96 x1 rfl rfl 96 (by rfl) y
      (fun b hb => by
        match b, hb with
        | ⟨0, _⟩, _ => rfl
        | ⟨1, _⟩, _ => rfl
        | ⟨2, _⟩, hb => exact absurd rfl hb) rfl
  have ey : (ValueIdx.ix3 ⟨(y 0).val, b0⟩ ⟨(y 1).val, b1⟩ ⟨(y 2).val, b2⟩ : S4096x12x96.Idx) = y :=
    funext fun b => Fin.ext (by match b with | ⟨0, _⟩ => rfl | ⟨1, _⟩ => rfl | ⟨2, _⟩ => rfl)
  have r := joined_real h (ValueIdx.ix3 ⟨(y 0).val, b0⟩ ⟨(y 1).val, b1⟩ ⟨96 + (y 2).val, by omega⟩)
  rw [e] at r
  dsimp only
  rw [dif_pos ⟨b0, b1, b2⟩, ey, r]

theorem real2 (h : fn (F := Ideal) x0 x1 x2 x3 = fun _ => 1#1) : Is x2 fun a b e => if hb : a < 4096 ∧ b < 12 ∧ e < 64 then (x2 (ValueIdx.ix3 ⟨a, hb.1⟩ ⟨b, hb.2.1⟩ ⟨e, hb.2.2⟩)).toReal else 0 := by
  intro y
  have b0 : (y 0).val < 4096 := (y 0).isLt
  have b1 : (y 1).val < 12 := (y 1).isLt
  have b2 : (y 2).val < 64 := (y 2).isLt
  have e : joined x0 x1 x2 x3 (ValueIdx.ix3 ⟨(y 0).val, b0⟩ ⟨(y 1).val, b1⟩ ⟨192 + (y 2).val, by omega⟩) = x2 y :=
    concatenate_apply_piece (t := S4096x12x320) 2 [⟨S4096x12x96, x0⟩, ⟨S4096x12x96, x1⟩, ⟨S4096x12x64, x2⟩, ⟨S4096x12x64, x3⟩] concatenates_S4096x12x96_S4096x12x96_S4096x12x64_S4096x12x64_S4096x12x320_d2 _ 2 (show 2 < 4 by decide) S4096x12x64 x2 rfl rfl 192 (by rfl) y
      (fun b hb => by
        match b, hb with
        | ⟨0, _⟩, _ => rfl
        | ⟨1, _⟩, _ => rfl
        | ⟨2, _⟩, hb => exact absurd rfl hb) rfl
  have ey : (ValueIdx.ix3 ⟨(y 0).val, b0⟩ ⟨(y 1).val, b1⟩ ⟨(y 2).val, b2⟩ : S4096x12x64.Idx) = y :=
    funext fun b => Fin.ext (by match b with | ⟨0, _⟩ => rfl | ⟨1, _⟩ => rfl | ⟨2, _⟩ => rfl)
  have r := joined_real h (ValueIdx.ix3 ⟨(y 0).val, b0⟩ ⟨(y 1).val, b1⟩ ⟨192 + (y 2).val, by omega⟩)
  rw [e] at r
  dsimp only
  rw [dif_pos ⟨b0, b1, b2⟩, ey, r]

theorem real3 (h : fn (F := Ideal) x0 x1 x2 x3 = fun _ => 1#1) : Is x3 fun a b e => if hb : a < 4096 ∧ b < 12 ∧ e < 64 then (x3 (ValueIdx.ix3 ⟨a, hb.1⟩ ⟨b, hb.2.1⟩ ⟨e, hb.2.2⟩)).toReal else 0 := by
  intro y
  have b0 : (y 0).val < 4096 := (y 0).isLt
  have b1 : (y 1).val < 12 := (y 1).isLt
  have b2 : (y 2).val < 64 := (y 2).isLt
  have e : joined x0 x1 x2 x3 (ValueIdx.ix3 ⟨(y 0).val, b0⟩ ⟨(y 1).val, b1⟩ ⟨256 + (y 2).val, by omega⟩) = x3 y :=
    concatenate_apply_piece (t := S4096x12x320) 2 [⟨S4096x12x96, x0⟩, ⟨S4096x12x96, x1⟩, ⟨S4096x12x64, x2⟩, ⟨S4096x12x64, x3⟩] concatenates_S4096x12x96_S4096x12x96_S4096x12x64_S4096x12x64_S4096x12x320_d2 _ 3 (show 3 < 4 by decide) S4096x12x64 x3 rfl rfl 256 (by rfl) y
      (fun b hb => by
        match b, hb with
        | ⟨0, _⟩, _ => rfl
        | ⟨1, _⟩, _ => rfl
        | ⟨2, _⟩, hb => exact absurd rfl hb) rfl
  have ey : (ValueIdx.ix3 ⟨(y 0).val, b0⟩ ⟨(y 1).val, b1⟩ ⟨(y 2).val, b2⟩ : S4096x12x64.Idx) = y :=
    funext fun b => Fin.ext (by match b with | ⟨0, _⟩ => rfl | ⟨1, _⟩ => rfl | ⟨2, _⟩ => rfl)
  have r := joined_real h (ValueIdx.ix3 ⟨(y 0).val, b0⟩ ⟨(y 1).val, b1⟩ ⟨256 + (y 2).val, by omega⟩)
  rw [e] at r
  dsimp only
  rw [dif_pos ⟨b0, b1, b2⟩, ey, r]

end Cert.Pre_finite.Real

end
-- ==== Proof.Mlp.HiddenGrad.lean ====
module

public import proofs.«01_k».proof.Proof.Gen.Kernel2Ideal.Value
public import proofs.«01_k».proof.Proof.Gen.Reference2Ideal.Read
public import Idealize.ShloMosaic.Lib.Pointwise
public import Idealize.ShloMosaic.Lib.Pipeline.ValueKit
public import Idealize.ShloMosaic.Lib.StableHlo.ReadAt

/-! The gradient of the hidden features before the square and the ramp. -/

@[expose] public section

set_option maxRecDepth 16384

noncomputable section

namespace Cert.Kernel2Ideal.Mlp

open Cert.Kernel2Ideal Cert.Kernel2Ideal.Gen
open Idealize.ShloMosaic Idealize.ShloMosaic.TcCoe
open Cert.Reference2Ideal.Read (val_main_v0 val_main_v1 val_main_v6 val_main_v10 val_main_v12 val_main_v6_apply val_main_call0_v0)

variable (m : (ℓ : Loc nD τ sig) → Buf (Elt Ideal) ℓ)

/-- One block of the product with its factor, entry by entry. -/
theorem mm (l : FVec Ideal S2048x1024 .bf16) (r : FVec Ideal S1x512x1024 .bf16) (a : FVec Ideal S2048x512 .bf16) (y : S2048x512.Idx) :
    k0_pay1 r l a y = (∑ k : Fin 1024, l (ix2 (y 0) k) * r (ix3 0 (y 1) k)) * (Ideal.ofBits .f32 0x40000000#32 * a y) := by
  unfold k0_pay1
  idx_vars y
  pointwise []

theorem out (x0 : Vec Ideal S2048x1024 .bf16) (x1 : Vec Ideal S1x512x1024 .bf16) (x2 : Vec Ideal S2048x512 .bf16) : out0_3 x0 x1 x2 = k0_pay1 x1 x0 x2 := by
  unfold out0_3
  rw [View.canon_unit_zero (by decide), View.ld_unit_zero (by decide), View.ld_unit_zero (by decide), View.ld_unit_zero (by decide)]

theorem idx : ∀ t : Fin cfg0.N, win0_0.index t = ![t.val / 8, 0] ∧ win0_1.index t = ![t.val % 8, 0, 0] ∧ win0_2.index t = ![t.val / 8, t.val % 8] ∧ win0_3.index t = ![t.val / 8, t.val % 8] :=
  (by decide +kernel : ∀ t : Fin grid0.N, _)

/-- The third operand is the ramp. -/
theorem arg2 (c : Dev nD) : V m c main_v2 = val_main_v0 (F := Ideal) (m ((c : Thread nD τ).loc main_arg0)) := by
  simp only [V, hostOps0, List.flatten_cons, List.flatten_nil, List.append_nil, List.cons_append, List.nil_append]
  after_reads_simp
  rfl

theorem arg0 (c : Dev nD) : V m c main_v3 = m ((c : Thread nD τ).loc main_arg2) := by
  simp only [V, hostOps0, List.flatten_cons, List.flatten_nil, List.append_nil, List.cons_append, List.nil_append]
  after_reads_simp
  rfl

theorem arg1 (c : Dev nD) : V m c main_v5 = shapeCast S8x512x1024 (m ((c : Thread nD τ).loc main_arg1) : FVec Ideal S4096x1024 .f32) shapeCasts_S4096x1024_S8x512x1024 := by
  simp only [V, hostOps0, List.flatten_cons, List.flatten_nil, List.append_nil, List.cons_append, List.nil_append]
  after_reads_simp
  rfl

theorem blk0 (c : Dev nD) (t : Fin cfg0.N) (y : S2048x1024.Idx) (i : S4096x1024.Idx) (h0 : (i 0).val = 2048 * (t.val / 8) + (y 0).val) (h1 : (i 1).val = (y 1).val) :
    iblk m c 0 t y = m ((c : Thread nD τ).loc main_arg2) i := by
  refine (congrFun (arg0 m c) (((cfg0.win 0).blk t).view.emb y)).trans (congrArg _ (funext fun a => Fin.ext ?_))
  fin_cases a <;> (blk_simp [idx t]; simp [h0, h1, mul_comm])

theorem blk1 (c : Dev nD) (t : Fin cfg0.N) (y : S1x512x1024.Idx) (i : S4096x1024.Idx) (h0 : (i 0).val = 512 * (t.val % 8) + (y 1).val) (h1 : (i 1).val = (y 2).val) :
    iblk m c 1 t y = m ((c : Thread nD τ).loc main_arg1) i := by
  have e0 : (y 0).val = 0 := by have : (y 0).val < 1 := (y 0).isLt; omega
  have e2 : (y 2).val < 1024 := (y 2).isLt
  refine (congrFun (arg1 m c) (((cfg0.win 1).blk t).view.emb y)).trans ?_
  refine shapeCast_apply _ shapeCasts_S4096x1024_S8x512x1024 _ i ?_
  rw [Shape.rowMajor_val_two, Shape.rowMajor_val_three]
  blk_simp [idx t]
  rw [h0, h1]
  omega

theorem blk2 (c : Dev nD) (t : Fin cfg0.N) (y : S2048x512.Idx) (i : S4096x4096.Idx) (h0 : (i 0).val = 2048 * (t.val / 8) + (y 0).val) (h1 : (i 1).val = 512 * (t.val % 8) + (y 1).val) :
    iblk m c 2 t y = val_main_v0 (F := Ideal) (m ((c : Thread nD τ).loc main_arg0)) i := by
  refine (congrFun (arg2 m c) (((cfg0.win 2).blk t).view.emb y)).trans (congrArg _ (funext fun a => Fin.ext ?_))
  fin_cases a <;> (blk_simp [idx t]; simp [h0, h1, mul_comm])

theorem zero_at (i : S4096x4096.Idx) : val_main_call0_v0 (F := Ideal) i = (0 : EReal) ∧ val_main_v1 (F := Ideal) i = (0 : EReal) ∧ val_main_v10 (F := Ideal) i = (0 : EReal) := by
  rw [Cert.Reference2Ideal.Read.val_main_call0_v0_apply, Cert.Reference2Ideal.Read.val_main_v1_apply, Cert.Reference2Ideal.Read.val_main_v10_apply]
  have h : (Ideal.ofBits .f32 0x00000000#32 : EReal) = 0 := by simp [Ideal.ofBits, Ideal.ieee]
  exact ⟨h, h, h⟩

theorem two_word : (Ideal.ofBits .f32 0x40000000#32 : EReal) = 1 + 1 := by
  rw [show (Ideal.ofBits .f32 0x40000000#32 : EReal) = ((2 : ℝ) : EReal) by simp [Ideal.ofBits, Ideal.ieee, -EReal.coe_mul]; norm_num]
  rw [show (2 : ℝ) = 1 + 1 by norm_num, EReal.coe_add, EReal.coe_one]

/-- The factor of the square and the ramp, on every extended real. -/
theorem factor (s u : EReal) : s * (Ideal.ofBits .f32 0x40000000#32 * max u 0) = Scalar.select (Ideal.cmp .ogt u 0) (max u 0 * s + s * max u 0) 0 := by
  rw [two_word]
  by_cases h : 0 < u
  · rw [max_eq_left h.le, EReal.right_distrib_of_nonneg zero_le_one zero_le_one, one_mul, EReal.left_distrib_of_nonneg h.le h.le, mul_comm u s]
    simp [Scalar.select, Ideal.cmp, h]
  · rw [max_eq_right (not_lt.1 h)]
    simp [Scalar.select, Ideal.cmp, h]

/-- The reference's gradient, entry by entry. -/
theorem ref (x0 : FVec Ideal S4096x4096 .f32) (x1 x2 : FVec Ideal S4096x1024 .f32) (i : S4096x4096.Idx) :
    val_main_v12 (F := Ideal) x0 x1 x2 i
      = (∑ k : Fin 1024, x2 (ix2 (i 0) k) * x1 (ix2 (i 1) k)) * (Ideal.ofBits .f32 0x40000000#32 * val_main_v0 (F := Ideal) x0 i) := by
  obtain ⟨z0, z1, z2⟩ := zero_at i
  have h6 : val_main_v6 (F := Ideal) x1 x2 i = ∑ k : Fin 1024, x2 (ix2 (i 0) k) * x1 (ix2 (i 1) k) := by
    refine (val_main_v6_apply x1 x2 i).trans (Finset.sum_congr rfl fun k _ => congrArg₂ (fun a b : EReal => a * b) (congrArg x2 (funext fun a => ?_)) (congrArg x1 (funext fun a => ?_))) <;> fin_cases a <;> rfl
  rw [← h6]
  show Scalar.select (Ideal.cmp .ogt (x0 i) (val_main_v1 (F := Ideal) i)) (max (x0 i) (val_main_call0_v0 (F := Ideal) i) * val_main_v6 (F := Ideal) x1 x2 i + val_main_v6 (F := Ideal) x1 x2 i * max (x0 i) (val_main_call0_v0 (F := Ideal) i)) (val_main_v10 (F := Ideal) i) = val_main_v6 (F := Ideal) x1 x2 i * (_ * max (x0 i) (val_main_call0_v0 (F := Ideal) i))
  rw [z0, z1, z2]
  exact (factor _ _).symm

/-- The call's result is the reference's gradient. -/
theorem final (c : Dev nD) : (dats m 0 c).arrAt 3 cfg0.N
    = val_main_v12 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out]
  refine (mm _ _ _ y).trans (Eq.trans ?_ (ref _ _ _ _).symm)
  refine congrArg₂ (fun a b : EReal => a * b) (Finset.sum_congr rfl fun k _ => congrArg₂ (fun a b : EReal => a * b) (blk0 m c t _ _ ?_ rfl) (blk1 m c t _ _ ?_ rfl))
    (congrArg (fun a : EReal => _ * a) (blk2 m c t _ _ ?_ ?_))
  · blk_simp [idx t]
    simp [mul_comm]
  · blk_simp [idx t]
    simp [mul_comm]
  · blk_simp [idx t]
    simp [mul_comm]
  · blk_simp [idx t]
    simp [mul_comm]

end Cert.Kernel2Ideal.Mlp

end
-- ==== Proof.Mlp.DownGrad.lean ====
module

public import proofs.«01_k».proof.Proof.Gen.Kernel3Ideal.Value
public import proofs.«01_k».proof.Proof.Gen.Reference3Ideal.Read
public import Idealize.ShloMosaic.Lib.Pointwise
public import Idealize.ShloMosaic.Lib.Pipeline.ValueKit
public import Idealize.ShloMosaic.Lib.StableHlo.ReadAt

/-! The gradient of the second layer's weights, block by block. -/

@[expose] public section

set_option maxRecDepth 16384

noncomputable section

namespace Cert.Kernel3Ideal.Mlp

open Cert.Kernel3Ideal Cert.Kernel3Ideal.Gen
open Idealize.ShloMosaic Idealize.ShloMosaic.TcCoe
open Cert.Reference3Ideal.Read (val_main_v2 val_main_v7 val_main_v6_apply val_main_v5_apply val_main_v4_apply)

variable (m : (ℓ : Loc nD τ sig) → Buf (Elt Ideal) ℓ)

/-- One block of the product, entry by entry. -/
theorem mm (l : FVec Ideal S4096x512 .bf16) (r : FVec Ideal S4096x1024 .bf16) (y : S1x512x1024.Idx) :
    k0_pay1 r l y = ∑ k : Fin 4096, l (ix2 k (y 1)) * r (ix2 k (y 2)) := by
  unfold k0_pay1
  idx_vars y
  pointwise []

theorem out (x0 : Vec Ideal S4096x512 .bf16) (x1 : Vec Ideal S4096x1024 .bf16) : out0_2 x0 x1 = k0_pay1 x1 x0 := by
  unfold out0_2
  rw [View.canon_unit_zero (by decide), View.ld_unit_zero (by decide), View.ld_unit_zero (by decide)]

theorem idx : ∀ t : Fin cfg0.N, win0_0.index t = ![0, t.val] ∧ win0_1.index t = ![0, 0] ∧ win0_2.index t = ![t.val, 0, 0] :=
  (by decide +kernel : ∀ t : Fin grid0.N, _)

/-- The first operand is the square of the ramp. -/
theorem arg0 (c : Dev nD) : V m c main_v3 = val_main_v2 (F := Ideal) (m ((c : Thread nD τ).loc main_arg0)) := by
  simp only [V, hostOps0, List.flatten_cons, List.flatten_nil, List.append_nil, List.cons_append, List.nil_append]
  after_reads_simp
  rfl

theorem arg1 (c : Dev nD) : V m c main_v4 = m ((c : Thread nD τ).loc main_arg1) := by
  simp only [V, hostOps0, List.flatten_cons, List.flatten_nil, List.append_nil, List.cons_append, List.nil_append]
  after_reads_simp
  rfl

theorem blk0 (c : Dev nD) (t : Fin cfg0.N) (y : S4096x512.Idx) (i : S4096x4096.Idx) (h0 : (i 0).val = (y 0).val) (h1 : (i 1).val = 512 * t.val + (y 1).val) :
    iblk m c 0 t y = val_main_v2 (F := Ideal) (m ((c : Thread nD τ).loc main_arg0)) i := by
  refine (congrFun (arg0 m c) (((cfg0.win 0).blk t).view.emb y)).trans (congrArg _ (funext fun a => Fin.ext ?_))
  fin_cases a <;> (blk_simp [idx t]; simp [h0, h1, mul_comm])

theorem blk1 (c : Dev nD) (t : Fin cfg0.N) (y i : S4096x1024.Idx) (h0 : (i 0).val = (y 0).val) (h1 : (i 1).val = (y 1).val) :
    iblk m c 1 t y = m ((c : Thread nD τ).loc main_arg1) i := by
  refine (congrFun (arg1 m c) (((cfg0.win 1).blk t).view.emb y)).trans (congrArg _ (funext fun a => Fin.ext ?_))
  fin_cases a <;> (blk_simp [idx t]; simp [h0, h1])

/-- The reference's gradient, entry by entry. -/
theorem ref (x0 : FVec Ideal S4096x4096 .f32) (x1 : FVec Ideal S4096x1024 .f32) (i : S8x512x1024.Idx) :
    val_main_v7 (F := Ideal) x0 x1 i
      = ∑ k : Fin 4096, val_main_v2 (F := Ideal) x0 (ix2 k ⟨512 * (i 0).val + (i 1).val, by have h0 : (i 0).val < 8 := (i 0).isLt; have h1 : (i 1).val < 512 := (i 1).isLt; omega⟩) * x1 (ix2 k (i 2)) := by
  have h0 : (i 0).val < 8 := (i 0).isLt
  have h1 : (i 1).val < 512 := (i 1).isLt
  have h2 : (i 2).val < 1024 := (i 2).isLt
  refine (val_main_v6_apply (F := Ideal) x0 x1 i).trans ?_
  rw [val_main_v5_apply, val_main_v4_apply]
  refine Finset.sum_congr rfl fun k _ => (mul_comm _ _).trans (congrArg₂ (fun a b : EReal => a * b) (congrArg (val_main_v2 (F := Ideal) x0) (funext fun a => Fin.ext ?_)) (congrArg x1 (funext fun a => Fin.ext ?_)))
  · fin_cases a
    · rfl
    · show (((i 0).val * 512 + (i 1).val) * 1024 + (i 2).val) / 1024 = 512 * (i 0).val + (i 1).val
      omega
  · fin_cases a
    · rfl
    · show (((i 0).val * 512 + (i 1).val) * 1024 + (i 2).val) % 1024 = (i 2).val
      omega

/-- The call's result is the reference's gradient. -/
theorem final (c : Dev nD) : (dats m 0 c).arrAt 2 cfg0.N
    = val_main_v7 (F := Ideal) (m ((c : Thread nD τ).loc main_arg0)) (m ((c : Thread nD τ).loc main_arg1)) := by
  refine (dats m 0 c).arrAt_eq_of_covers 2 _ (by decide +kernel) fun t hf y => ?_
  have h0 : (y 0).val = 0 := by have : (y 0).val < 1 := (y 0).isLt; omega
  blk_simp
  rw [after0_2, out]
  refine (mm _ _ y).trans (Eq.trans ?_ (ref _ _ _).symm)
  refine Finset.sum_congr rfl fun k _ => congrArg₂ (fun a b : EReal => a * b) (blk0 m c t _ _ rfl ?_) (blk1 m c t _ _ rfl ?_)
  · blk_simp [idx t, h0]
  · blk_simp [idx t]

end Cert.Kernel3Ideal.Mlp

end
-- ==== Proof.Mlp.UpGrad.lean ====
module

public import proofs.«01_k».proof.Proof.Gen.Kernel4Ideal.Value
public import proofs.«01_k».proof.Proof.Gen.Reference4Ideal.Read
public import Idealize.ShloMosaic.Lib.Pointwise
public import Idealize.ShloMosaic.Lib.Pipeline.ValueKit
public import Idealize.ShloMosaic.Lib.StableHlo.ReadAt

/-! The gradient of the first layer's weights, block by block. -/

@[expose] public section

set_option maxRecDepth 16384

noncomputable section

namespace Cert.Kernel4Ideal.Mlp

open Cert.Kernel4Ideal Cert.Kernel4Ideal.Gen
open Idealize.ShloMosaic Idealize.ShloMosaic.TcCoe

variable (m : (ℓ : Loc nD τ sig) → Buf (Elt Ideal) ℓ)

theorem mm (l : FVec Ideal S4096x1024 .bf16) (r : FVec Ideal S4096x512 .bf16) (y : S1x1024x512.Idx) :
    k0_pay1 r l y = ∑ k : Fin 4096, l (ix2 k (y 1)) * r (ix2 k (y 2)) := by
  unfold k0_pay1
  idx_vars y
  pointwise []

theorem out (x0 : Vec Ideal S4096x1024 .bf16) (x1 : Vec Ideal S4096x512 .bf16) : out0_2 x0 x1 = k0_pay1 x1 x0 := by
  unfold out0_2
  rw [View.canon_unit_zero (by decide), View.ld_unit_zero (by decide), View.ld_unit_zero (by decide)]

theorem idx : ∀ t : Fin cfg0.N, win0_0.index t = ![0, 0] ∧ win0_1.index t = ![0, t.val] ∧ win0_2.index t = ![t.val, 0, 0] :=
  (by decide +kernel : ∀ t : Fin grid0.N, _)

theorem arg0 (c : Dev nD) : V m c main_v0 = m ((c : Thread nD τ).loc main_arg0) := by
  simp only [V, hostOps0, List.flatten_cons, List.flatten_nil, List.append_nil, List.cons_append, List.nil_append]
  after_reads_simp
  rfl

theorem arg1 (c : Dev nD) : V m c main_v1 = m ((c : Thread nD τ).loc main_arg1) := by
  simp only [V, hostOps0, List.flatten_cons, List.flatten_nil, List.append_nil, List.cons_append, List.nil_append]
  after_reads_simp
  rfl

theorem blk0 (c : Dev nD) (t : Fin cfg0.N) (y i : S4096x1024.Idx) (h0 : (i 0).val = (y 0).val) (h1 : (i 1).val = (y 1).val) :
    iblk m c 0 t y = m ((c : Thread nD τ).loc main_arg0) i := by
  refine (congrFun (arg0 m c) (((cfg0.win 0).blk t).view.emb y)).trans (congrArg _ (funext fun a => Fin.ext ?_))
  fin_cases a <;> (blk_simp [idx t]; simp [h0, h1])

theorem blk1 (c : Dev nD) (t : Fin cfg0.N) (y : S4096x512.Idx) (i : S4096x4096.Idx) (h0 : (i 0).val = (y 0).val) (h1 : (i 1).val = 512 * t.val + (y 1).val) :
    iblk m c 1 t y = m ((c : Thread nD τ).loc main_arg1) i := by
  refine (congrFun (arg1 m c) (((cfg0.win 1).blk t).view.emb y)).trans (congrArg _ (funext fun a => Fin.ext ?_))
  fin_cases a <;> (blk_simp [idx t]; simp [h0, h1, mul_comm])

/-- The reference's gradient, entry by entry. -/
theorem ref (x0 : FVec Ideal S4096x1024 .f32) (x1 : FVec Ideal S4096x4096 .f32) (i : S8x1024x512.Idx) :
    Cert.Reference4Ideal.Read.val_main_v6 (F := Ideal) x0 x1 i
      = ∑ k : Fin 4096, x0 (ix2 k (i 1)) * x1 (ix2 k ⟨512 * (i 0).val + (i 2).val, by have h0 : (i 0).val < 8 := (i 0).isLt; have h2 : (i 2).val < 512 := (i 2).isLt; omega⟩) := by
  have h0 : (i 0).val < 8 := (i 0).isLt
  have h1 : (i 1).val < 1024 := (i 1).isLt
  have h2 : (i 2).val < 512 := (i 2).isLt
  refine (Cert.Reference4Ideal.Read.val_main_v5_apply (F := Ideal) x0 x1 i).trans ?_
  rw [Cert.Reference4Ideal.Read.val_main_v4_apply, Cert.Reference4Ideal.Read.val_main_v3_apply, Cert.Reference4Ideal.Read.val_main_v2_apply]
  refine Finset.sum_congr rfl fun k _ => (mul_comm _ _).trans (congrArg₂ (fun a b : EReal => a * b) (congrArg x0 (funext fun a => Fin.ext ?_)) (congrArg x1 (funext fun a => Fin.ext ?_)))
  · fin_cases a
    · rfl
    · show (((i 1).val * 8 + (i 0).val) * 512 + (i 2).val) / 4096 = (i 1).val
      omega
  · fin_cases a
    · rfl
    · show (((i 1).val * 8 + (i 0).val) * 512 + (i 2).val) % 4096 = 512 * (i 0).val + (i 2).val
      omega

theorem final (c : Dev nD) : (dats m 0 c).arrAt 2 cfg0.N
    = Cert.Reference4Ideal.Read.val_main_v6 (F := Ideal) (m ((c : Thread nD τ).loc main_arg0)) (m ((c : Thread nD τ).loc main_arg1)) := by
  refine (dats m 0 c).arrAt_eq_of_covers 2 _ (by decide +kernel) fun t hf y => ?_
  have h0 : (y 0).val = 0 := by have : (y 0).val < 1 := (y 0).isLt; omega
  blk_simp
  rw [after0_2, out]
  refine (mm _ _ y).trans (Eq.trans ?_ (ref _ _ _).symm)
  refine Finset.sum_congr rfl fun k _ => congrArg₂ (fun a b : EReal => a * b) (blk0 m c t _ _ rfl ?_) (blk1 m c t _ _ rfl ?_)
  · blk_simp [idx t]
  · blk_simp [idx t, h0]

end Cert.Kernel4Ideal.Mlp

end
-- ==== Proof.Mlp.InputTiles.lean ====
module

public import proofs.«01_k».proof.Proof.Gen.Kernel5Ideal.Value
public import Idealize.ShloMosaic.Lib.Pointwise
public import Idealize.ShloMosaic.Lib.Pipeline.ValueKit
public import Idealize.ShloMosaic.Lib.StableHlo.ReadAt

/-! The gradient of the MLP's input through its norm: what a grid point computes from its blocks. -/

@[expose] public section

set_option maxRecDepth 16384

noncomputable section

namespace Cert.Kernel5Ideal.Mlp

open Cert.Kernel5Ideal Cert.Kernel5Ideal.Gen
open Idealize.ShloMosaic Idealize.ShloMosaic.TcCoe Idealize.ShloMosaic.Tactic

/-- One block's product. -/
def part (a : FVec Ideal S256x512 .bf16) (b : FVec Ideal S1x1024x512 .bf16) (y : S256x1024.Idx) : EReal :=
  ∑ k : Fin 512, a (ix2 (y 0) k) * b (ix3 0 (y 1) k)

theorem parts (a0 a1 a2 a3 a4 a5 a6 a7 : FVec Ideal S256x512 .bf16) (b0 b1 b2 b3 b4 b5 b6 b7 : FVec Ideal S1x1024x512 .bf16) (y : S256x1024.Idx) :
    k0_pay7 (F := Ideal) (k0_pay5 a0 b0 a1 b1 a2 b2 a3 b3) (k0_pay6 a4 b4) a5 b5 a6 b6 a7 b7 y
      = part a0 b0 y + part a1 b1 y + part a2 b2 y + part a3 b3 y + part a4 b4 y + part a5 b5 y + part a6 b6 y + part a7 b7 y := by
  unfold k0_pay7 k0_pay5 k0_pay6 part
  idx_vars y
  pointwise []

theorem root (x : FVec Ideal S256x1024 .f32) (y : S256x1.Idx) :
    k0_pay8 (F := Ideal) x y = Ideal.rsqrt (Ideal.div (∑ k : Fin 1024, x (ix2 (y 0) k) * x (ix2 (y 0) k)) (Ideal.ofBits .f32 0x44800000#32) + Ideal.ofBits .f32 0x358637BD#32) := by
  unfold k0_pay8
  idx_vars y
  pointwise []

theorem normed (x : FVec Ideal S256x1024 .f32) (y : S256x1024.Idx) : k0_pay9 (F := Ideal) x y = x y * k0_pay8 (F := Ideal) x (ix2 (y 0) 0) := by
  unfold k0_pay9
  generalize k0_pay8 (F := Ideal) x = q
  idx_vars y
  pointwise []

theorem gain (r : FVec Ideal S256x1024 .f32) (q : FVec Ideal S256x1024 .f32) (p : FVec Ideal S1x1024 .f32) (y : S1x1024.Idx) :
    k0_pay4 (F := Ideal) r q p y = p y + ∑ k : Fin 256, r (ix2 k (y 1)) * q (ix2 k (y 1)) := by
  unfold k0_pay4
  idx_vars y
  pointwise []

theorem combined (q : FVec Ideal S256x1 .f32) (n a b d : FVec Ideal S256x1024 .f32) (y : S256x1024.Idx) :
    k0_pay1 (F := Ideal) q n a b d y = q (ix2 (y 0) 0) * (a y - n y * Ideal.div (∑ k : Fin 1024, b (ix2 (y 0) k)) (Ideal.ofBits .f32 0x44800000#32)) + d y := by
  unfold k0_pay1
  idx_vars y
  pointwise []

theorem scaled (a c : FVec Ideal S256x1024 .f32) (b5 b6 b7 : FVec Ideal S256x512 .bf16) (w5 w6 w7 : FVec Ideal S1x1024x512 .bf16) (g : FVec Ideal S1x1024 .f32) (y : S256x1024.Idx) :
    k0_pay10 (F := Ideal) a c b5 w5 b6 w6 b7 w7 g y = k0_pay7 (F := Ideal) a c b5 w5 b6 w6 b7 w7 y * g (ix2 0 (y 1)) := by
  unfold k0_pay10
  generalize k0_pay7 (F := Ideal) a c b5 w5 b6 w6 b7 w7 = r
  idx_vars y
  pointwise []

theorem scaledNormed (a c : FVec Ideal S256x1024 .f32) (b5 b6 b7 : FVec Ideal S256x512 .bf16) (w5 w6 w7 : FVec Ideal S1x1024x512 .bf16) (x : FVec Ideal S256x1024 .f32) (g : FVec Ideal S1x1024 .f32) (y : S256x1024.Idx) :
    k0_pay11 (F := Ideal) a c b5 w5 b6 w6 b7 w7 x g y = k0_pay7 (F := Ideal) a c b5 w5 b6 w6 b7 w7 y * g (ix2 0 (y 1)) * k0_pay9 (F := Ideal) x y :=
  congrArg (fun v : EReal => v * k0_pay9 (F := Ideal) x y) (scaled a c b5 b6 b7 w5 w6 w7 g y)

/-- A block of 512 columns of the cotangent's rows. -/
def col (x : Vec Ideal S256x4096 .bf16) (d : Fin 8) : FVec Ideal S256x512 .bf16 :=
  View.ld x (Rect.unit (s := S256x4096) ![0, 512 * d.val] ![256, 512] (fun a => by fin_cases a <;> simp [S256x4096] <;> omega))

/-- One device's block of the weight. -/
def slab (x : Vec Ideal S8x1024x512 .bf16) (d : Fin 8) : FVec Ideal S1x1024x512 .bf16 :=
  View.ld x (Rect.unit (s := S8x1024x512) ![d.val, 0, 0] ![1, 1024, 512] (fun a => by fin_cases a <;> simp [S8x1024x512] <;> omega))

theorem col_at (x : Vec Ideal S256x4096 .bf16) (d : Fin 8) (i : Fin 256) (k : Fin 512) : col x d (ix2 i k) = x (ix2 i ⟨512 * d.val + k.val, by omega⟩) :=
  congrArg x (funext fun a => Fin.ext (by fin_cases a <;> simp))

theorem slab_at (x : Vec Ideal S8x1024x512 .bf16) (d : Fin 8) (j : Fin 1024) (k : Fin 512) : slab x d (ix3 0 j k) = x (ix3 d j k) :=
  congrArg x (funext fun a => Fin.ext (by fin_cases a <;> simp))

/-- The products of the eight blocks, added up. -/
def rows (x0 : FVec Ideal S256x4096 .bf16) (x1 : FVec Ideal S8x1024x512 .bf16) : FVec Ideal S256x1024 .f32 :=
  k0_pay7 (F := Ideal) (k0_pay5 (col x0 0) (slab x1 0) (col x0 1) (slab x1 1) (col x0 2) (slab x1 2) (col x0 3) (slab x1 3)) (k0_pay6 (col x0 4) (slab x1 4))
    (col x0 5) (slab x1 5) (col x0 6) (slab x1 6) (col x0 7) (slab x1 7)

theorem rows_at (x0 : FVec Ideal S256x4096 .bf16) (x1 : FVec Ideal S8x1024x512 .bf16) (y : S256x1024.Idx) :
    rows x0 x1 y = ∑ d : Fin 8, ∑ k : Fin 512, x0 (ix2 (y 0) ⟨512 * d.val + k.val, by omega⟩) * x1 (ix3 d (y 1) k) := by
  have h : ∀ d : Fin 8, part (col x0 d) (slab x1 d) y = ∑ k : Fin 512, x0 (ix2 (y 0) ⟨512 * d.val + k.val, by omega⟩) * x1 (ix3 d (y 1) k) := fun d =>
    Finset.sum_congr rfl fun k _ => congrArg₂ (fun a b : EReal => a * b) (col_at x0 d (y 0) k) (slab_at x1 d (y 1) k)
  refine (parts _ _ _ _ _ _ _ _ _ _ _ _ _ _ _ _ y).trans ?_
  rw [Fin.sum_univ_eight]
  simp only [h]

/-- The block of the input's gradient, from the operands' blocks. -/
def outX (x0 : FVec Ideal S256x4096 .bf16) (x1 : FVec Ideal S8x1024x512 .bf16) (x2 : FVec Ideal S256x1024 .f32) (x3 : FVec Ideal S1x1024 .f32) (x4 : FVec Ideal S256x1024 .f32) : FVec Ideal S256x1024 .f32 :=
  k0_pay1 (F := Ideal) (k0_pay8 x2) (k0_pay9 x2)
    (k0_pay10 (k0_pay5 (col x0 0) (slab x1 0) (col x0 1) (slab x1 1) (col x0 2) (slab x1 2) (col x0 3) (slab x1 3)) (k0_pay6 (col x0 4) (slab x1 4)) (col x0 5) (slab x1 5) (col x0 6) (slab x1 6) (col x0 7) (slab x1 7) x3)
    (k0_pay11 (k0_pay5 (col x0 0) (slab x1 0) (col x0 1) (slab x1 1) (col x0 2) (slab x1 2) (col x0 3) (slab x1 3)) (k0_pay6 (col x0 4) (slab x1 4)) (col x0 5) (slab x1 5) (col x0 6) (slab x1 6) (col x0 7) (slab x1 7) x2 x3)
    x4

theorem outX_at (x0 : FVec Ideal S256x4096 .bf16) (x1 : FVec Ideal S8x1024x512 .bf16) (x2 : FVec Ideal S256x1024 .f32) (x3 : FVec Ideal S1x1024 .f32) (x4 : FVec Ideal S256x1024 .f32) (y : S256x1024.Idx) :
    outX x0 x1 x2 x3 x4 y = k0_pay8 (F := Ideal) x2 (ix2 (y 0) 0) * (rows x0 x1 y * x3 (ix2 0 (y 1)) - x2 y * k0_pay8 (F := Ideal) x2 (ix2 (y 0) 0)
      * Ideal.div (∑ k : Fin 1024, rows x0 x1 (ix2 (y 0) k) * x3 (ix2 0 k) * (x2 (ix2 (y 0) k) * k0_pay8 (F := Ideal) x2 (ix2 (y 0) 0))) (Ideal.ofBits .f32 0x44800000#32)) + x4 y := by
  refine (combined _ _ _ _ _ y).trans ?_
  simp only [scaled, scaledNormed, normed]
  rfl

variable (m : (ℓ : Loc nD τ sig) → Buf (Elt Ideal) ℓ)

theorem hz : (![0, 0] : Fin 2 → Nat) = fun _ => 0 := funext fun a => by fin_cases a <;> rfl

/-- What the first grid point leaves in the three output blocks. -/
theorem outsA (c : Dev nD) (t : Fin cfg0.N) (h0 : t.val % 16 = 0) :
    (outsAt0 m c t.val t.isLt).1 = outX (iblk m c 0 t) (iblk m c 1 t) (iblk m c 2 t) (iblk m c 3 t) (iblk m c 4 t)
      ∧ (outsAt0 m c t.val t.isLt).2.1 = outX (iblk m c 0 t) (iblk m c 1 t) (iblk m c 2 t) (iblk m c 3 t) (iblk m c 4 t)
      ∧ (outsAt0 m c t.val t.isLt).2.2 = k0_pay4 (F := Ideal) (rows (iblk m c 0 t) (iblk m c 1 t)) (k0_pay9 (iblk m c 2 t)) (k0_pay3 (F := Ideal)) := by
  rw [outsAt0_A m c t h0]
  dsimp only
  unfold out0_A_5 out0_A_6 out0_A_7
  rw [View.read_writes_eq_canon _ _ _ (cover0_A_5 c _ _ _ _ _ _ _ _ _ _ _ _ _ _ _ _ _ _ _ _ _ _ _), View.read_writes_eq_canon _ _ _ (cover0_A_6 c _ _ _ _ _ _ _ _ _ _ _ _ _ _ _ _ _ _ _ _ _ _ _), View.read_writes_eq_canon _ _ _ (cover0_A_7 c _ _ _ _ _ _ _ _ _ _ _ _ _ _ _ _ _ _ _ _ _ _ _)]
  unfold kernelRun0_A
  dsimp only
  sl_unfold_words
  rw [View.canon_unit_zero (S := S256x1024) hz, View.canon_unit_zero (S := S256x1024) hz, View.canon_cons_unit_zero (S := S1x1024) hz, View.readCov_unit_zero (S := S1x1024) _ hz]
  simp only [View.readAt_eq_ld, (hs0_0 t).read_unread, (hs0_1 t).read_unread, (hs0_2 t).read_unread, (hs0_3 t).read_unread, (hs0_4 t).read_unread, View.ld_unit_zero (S := S256x1024) hz, View.ld_unit_zero (S := S1x1024) hz]
  exact ⟨rfl, rfl, rfl⟩

/-- What every later grid point leaves. -/
theorem outsB (c : Dev nD) (t : Fin cfg0.N) (h0 : ¬ t.val % 16 = 0) :
    (outsAt0 m c t.val t.isLt).1 = outX (iblk m c 0 t) (iblk m c 1 t) (iblk m c 2 t) (iblk m c 3 t) (iblk m c 4 t)
      ∧ (outsAt0 m c t.val t.isLt).2.1 = outX (iblk m c 0 t) (iblk m c 1 t) (iblk m c 2 t) (iblk m c 3 t) (iblk m c 4 t)
      ∧ (outsAt0 m c t.val t.isLt).2.2 = k0_pay4 (F := Ideal) (rows (iblk m c 0 t) (iblk m c 1 t)) (k0_pay9 (iblk m c 2 t)) (outsAt0 m c (t.val - 1) (Nat.lt_of_le_of_lt (Nat.sub_le _ _) t.isLt)).2.2 := by
  rw [outsAt0_B m c t h0]
  dsimp only
  unfold out0_B_5 out0_B_6 out0_B_7
  rw [View.read_writes_eq_canon _ _ _ (cover0_B_5 c _ _ _ _ _ _ _ _ _ _ _ _ _ _ _ _ _ _ _ _ _ _ _ _), View.read_writes_eq_canon _ _ _ (cover0_B_6 c _ _ _ _ _ _ _ _ _ _ _ _ _ _ _ _ _ _ _ _ _ _ _ _), View.read_writes_eq_canon _ _ _ (cover0_B_7 c _ _ _ _ _ _ _ _ _ _ _ _ _ _ _ _ _ _ _ _ _ _ _ _)]
  unfold kernelRun0_B
  dsimp only
  sl_unfold_words
  rw [View.canon_unit_zero (S := S256x1024) hz, View.canon_unit_zero (S := S256x1024) hz, View.canon_unit_zero (S := S1x1024) hz]
  simp only [View.readAt_eq_ld, (hs0_0 t).read_unread, (hs0_1 t).read_unread, (hs0_2 t).read_unread, (hs0_3 t).read_unread, (hs0_4 t).read_unread, (hs0_7 t).read_unread, View.ld_unit_zero (S := S256x1024) hz, View.ld_unit_zero (S := S1x1024) hz]
  exact ⟨rfl, rfl, rfl⟩

end Cert.Kernel5Ideal.Mlp

end
-- ==== Proof.Mlp.Norm.lean ====
module

public import Idealize.ShloMosaic.PureOps.Ideal.Laws
public import Idealize.ShloMosaic.PureOps

/-! The gradient of a division by the root of the mean square, on extended reals: the form that uses the normalised values, and the
derivative of the root written out. -/

@[expose] public section

noncomputable section

namespace Cert.Mlp.Norm

open Idealize.ShloMosaic

/-- A finite factor that is not negative goes into a sum, whatever the summands are. -/
theorem mul_sum {ι : Type} (s : Finset ι) (f : ι → EReal) {q : EReal} (h0 : 0 ≤ q) (h1 : q ≠ ⊤) : q * ∑ i ∈ s, f i = ∑ i ∈ s, q * f i := by
  classical
  induction s using Finset.induction_on with
  | empty => simp
  | insert a s ha ih => rw [Finset.sum_insert ha, Finset.sum_insert ha, EReal.left_distrib_of_nonneg_of_ne_top h0 h1, ih]

theorem square_nonneg (x : EReal) : 0 ≤ x * x := by
  induction x with
  | bot => simp
  | top => simp
  | coe r => rw [← EReal.coe_mul]; exact_mod_cast mul_self_nonneg r

/-- The words of the three constants. -/
theorem word_1024 : (Ideal.ofBits .f32 0x44800000#32 : EReal) = ((1024 : ℝ) : EReal) := by
  simp [Ideal.ofBits, Ideal.ieee, -EReal.coe_mul]; norm_num

theorem word_half : (Ideal.ofBits .f32 0xBF000000#32 : EReal) = ((-1 / 2 : ℝ) : EReal) := by
  simp [Ideal.ofBits, Ideal.ieee, -EReal.coe_mul]; norm_num

theorem word_eps : ∃ e : ℝ, 0 < e ∧ (Ideal.ofBits .f32 0x358637BD#32 : EReal) = (e : EReal) := by
  refine ⟨_, ?_, by simp [Ideal.ofBits, Ideal.ieee, -EReal.coe_mul]; rfl⟩
  positivity

theorem twice (z : EReal) : z + z = ((2 : ℝ) : EReal) * z := by
  rw [show (2 : ℝ) = 1 + 1 by norm_num, EReal.coe_add, EReal.coe_one, EReal.right_distrib_of_nonneg zero_le_one zero_le_one, one_mul]

/-- The mean of squares, with the small constant, is a positive real number or infinite. -/
theorem base_cases {n : ℕ} (x : Fin n → EReal) :
    (Ideal.div (∑ k, x k * x k) (Ideal.ofBits .f32 0x44800000#32) + Ideal.ofBits .f32 0x358637BD#32 = ⊤)
      ∨ ∃ r : ℝ, 0 < r ∧ Ideal.div (∑ k, x k * x k) (Ideal.ofBits .f32 0x44800000#32) + Ideal.ofBits .f32 0x358637BD#32 = (r : EReal) := by
  obtain ⟨e, he, hw⟩ := word_eps
  rw [hw, word_1024, Ideal.div_coe (by norm_num)]
  have h0 : (0 : EReal) ≤ (∑ k, x k * x k) * ((1 / 1024 : ℝ) : EReal) :=
    mul_nonneg (Finset.sum_nonneg fun k _ => square_nonneg (x k)) (by exact_mod_cast (by norm_num : (0 : ℝ) ≤ 1 / 1024))
  generalize (∑ k, x k * x k) * ((1 / 1024 : ℝ) : EReal) = y at h0
  induction y with
  | bot => simp at h0
  | top => left; simp
  | coe r => right; exact ⟨r + e, add_pos_of_nonneg_of_pos (by exact_mod_cast h0) he, by rw [EReal.coe_add]⟩

/-- The reciprocal root is a real number that is not negative. -/
theorem root_cases {s : EReal} (h : s = ⊤ ∨ ∃ r : ℝ, 0 < r ∧ s = (r : EReal)) : 0 ≤ Ideal.rsqrt s ∧ Ideal.rsqrt s ≠ ⊤ := by
  rcases h with rfl | ⟨r, hr, rfl⟩
  · simp
  · rw [Ideal.rsqrt_coe, if_neg (not_lt.2 hr.le), if_neg hr.ne']
    exact ⟨by exact_mod_cast inv_nonneg.2 (Real.sqrt_nonneg r), EReal.coe_ne_top _⟩

/-- One entry of the gradient: by the normalised values, and by the derivative of the reciprocal root. -/
theorem entry {s : EReal} (h : s = ⊤ ∨ ∃ r : ℝ, 0 < r ∧ s = (r : EReal)) (a d x S : EReal) :
    Ideal.rsqrt s * (a - x * Ideal.rsqrt s * Ideal.div (Ideal.rsqrt s * S) (Ideal.ofBits .f32 0x44800000#32)) + d
      = d + a * Ideal.rsqrt s
          + x * Ideal.div (S * (Ideal.ofBits .f32 0xBF000000#32 * Ideal.div (Ideal.rsqrt s) s)) (Ideal.ofBits .f32 0x44800000#32)
          + Ideal.div (S * (Ideal.ofBits .f32 0xBF000000#32 * Ideal.div (Ideal.rsqrt s) s)) (Ideal.ofBits .f32 0x44800000#32) * x := by
  rw [word_1024, word_half, Ideal.div_coe (by norm_num), Ideal.div_coe (by norm_num)]
  rcases h with rfl | ⟨r, hr, rfl⟩
  · simp [Ideal.div]
  · rw [Ideal.rsqrt_coe, if_neg (not_lt.2 hr.le), if_neg hr.ne', Ideal.div_coe hr.ne']
    have hp : (√r)⁻¹ * (√r)⁻¹ = 1 / r := by rw [← mul_inv, Real.mul_self_sqrt hr.le, one_div]
    have hp0 : 0 ≤ (√r)⁻¹ := inv_nonneg.2 (Real.sqrt_nonneg r)
    generalize (√r)⁻¹ = p at hp hp0
    rw [← hp, sub_eq_add_neg, EReal.left_distrib_of_nonneg_of_ne_top (by exact_mod_cast hp0) (EReal.coe_ne_top p)]
    have hz : (p : EReal) * -(x * p * (p * S * ((1 / 1024 : ℝ) : EReal))) = ((2 : ℝ) : EReal) * (x * (S * (((-1 / 2 : ℝ) : EReal) * (p * ((p * p : ℝ) : EReal))) * ((1 / 1024 : ℝ) : EReal))) := by
      rw [← neg_one_mul, show (-1 : EReal) = ((-1 : ℝ) : EReal) by norm_num]
      have e1 : (p : EReal) * (((-1 : ℝ) : EReal) * (x * p * (p * S * ((1 / 1024 : ℝ) : EReal)))) = x * S * (p * ((-1 : ℝ) : EReal) * p * p * ((1 / 1024 : ℝ) : EReal)) := by ac_rfl
      have e2 : ((2 : ℝ) : EReal) * (x * (S * (((-1 / 2 : ℝ) : EReal) * (p * ((p * p : ℝ) : EReal))) * ((1 / 1024 : ℝ) : EReal)))
          = x * S * (((2 : ℝ) : EReal) * ((-1 / 2 : ℝ) : EReal) * p * ((p * p : ℝ) : EReal) * ((1 / 1024 : ℝ) : EReal)) := by ac_rfl
      rw [e1, e2]
      simp only [← EReal.coe_mul]
      congr 2
      ring
    rw [hz, ← twice, mul_comm _ x, mul_comm a]
    abel

end Cert.Mlp.Norm

end
-- ==== Proof.Mlp.InputRef.lean ====
module

public import proofs.«01_k».proof.Proof.Gen.Kernel5Ideal.Value
public import proofs.«01_k».proof.Proof.Gen.Reference5Ideal.Read
public import proofs.«01_k».proof.Proof.Mlp.Norm
public import Idealize.ShloMosaic.Lib.Pointwise
public import Idealize.ShloMosaic.Lib.Pipeline.ValueKit
public import Idealize.ShloMosaic.Lib.StableHlo.ReadAt

/-! The gradient of the MLP's input through its norm: the gradients as sums over the arguments, and the reference's results. -/

@[expose] public section

set_option maxRecDepth 16384

noncomputable section

namespace Cert.Kernel5Ideal.Mlp

open Cert.Kernel5Ideal Cert.Mlp.Norm
open Idealize.ShloMosaic
open Cert.Reference5Ideal.Read

/-- A row's mean square with the small constant. -/
def base (x : FVec Ideal S4096x1024 .f32) (i : Fin 4096) : EReal :=
  Ideal.div (∑ k : Fin 1024, x (ix2 i k) * x (ix2 i k)) (Ideal.ofBits .f32 0x44800000#32) + Ideal.ofBits .f32 0x358637BD#32

/-- The gradient of the normalised and scaled input: the product of the cotangent with the transposed weight. -/
def gradU (w : FVec Ideal S1024x4096 .f32) (du : FVec Ideal S4096x4096 .f32) (i : Fin 4096) (j : Fin 1024) : EReal :=
  ∑ k : Fin 4096, du (ix2 i k) * w (ix2 j k)

/-- The gradient of the input, by its normalised values. -/
def gradX (x : FVec Ideal S4096x1024 .f32) (g : FVec Ideal S1024 .f32) (w : FVec Ideal S1024x4096 .f32) (du : FVec Ideal S4096x4096 .f32)
    (d : FVec Ideal S4096x1024 .f32) (i : S4096x1024.Idx) : EReal :=
  Ideal.rsqrt (base x (i 0)) * (gradU w du (i 0) (i 1) * g (ix1 (i 1)) - x i * Ideal.rsqrt (base x (i 0))
    * Ideal.div (∑ k : Fin 1024, gradU w du (i 0) k * g (ix1 k) * (x (ix2 (i 0) k) * Ideal.rsqrt (base x (i 0)))) (Ideal.ofBits .f32 0x44800000#32)) + d i

/-- The summand of the gain's gradient from one row. -/
def gainAt (x : FVec Ideal S4096x1024 .f32) (w : FVec Ideal S1024x4096 .f32) (du : FVec Ideal S4096x4096 .f32) (j : Fin 1024) (i : Fin 4096) : EReal :=
  gradU w du i j * (x (ix2 i j) * Ideal.rsqrt (base x i))

/-- The gradient of the gain. -/
def gradG (x : FVec Ideal S4096x1024 .f32) (w : FVec Ideal S1024x4096 .f32) (du : FVec Ideal S4096x4096 .f32) (i : S1x1024.Idx) : EReal :=
  ∑ k : Fin 4096, gainAt x w du (i 1) k

theorem zero_word : (Ideal.ofBits .f32 0x00000000#32 : EReal) = 0 := by simp [Ideal.ofBits, Ideal.ieee]

variable (x : FVec Ideal S4096x1024 .f32) (g : FVec Ideal S1024 .f32) (w : FVec Ideal S1024x4096 .f32) (du : FVec Ideal S4096x4096 .f32) (d : FVec Ideal S4096x1024 .f32)

theorem ref_base (i : Cert.Reference5Ideal.S4096x1.Idx) : val_main_v6 (F := Ideal) x i = base x (i 0) := by
  rw [val_main_v6_apply, val_main_v4_apply, val_main_v2_apply, val_main_v1_apply, val_main_v3_apply, val_main_cst_0_apply, val_main_v5_apply, val_main_cst_1_apply, val_main_cst_apply]
  refine congrArg₂ (fun a b : EReal => a + b) (congrArg₂ Ideal.div ?_ rfl) rfl
  refine (congrArg (fun a : EReal => a + _) zero_word).trans ((zero_add _).trans (Finset.sum_congr rfl fun k _ => ?_))
  have e : idx_main_v1 (idx_main_v2 i) k = ix2 (i 0) k := funext fun a => Fin.ext (by fin_cases a <;> rfl)
  rw [e]
  rfl

theorem ref_root (i : Cert.Reference5Ideal.S4096x1.Idx) : val_main_v7 (F := Ideal) x i = Ideal.rsqrt (base x (i 0)) :=
  (val_main_v7_apply (F := Ideal) x i).trans (congrArg Ideal.rsqrt (ref_base x i))

theorem ref_gradU (i : S4096x1024.Idx) : val_main_v17 (F := Ideal) w du i = gradU w du (i 0) (i 1) := by
  rw [val_main_v17_apply]
  refine Finset.sum_congr rfl fun k _ => congrArg₂ (fun a b : EReal => a * b) (congrArg du (funext fun a => Fin.ext ?_)) (congrArg w (funext fun a => Fin.ext ?_)) <;> fin_cases a <;> rfl

theorem ref_scaled (i : S4096x1024.Idx) : val_main_v22 (F := Ideal) g w du i = gradU w du (i 0) (i 1) * g (ix1 (i 1)) := by
  rw [val_main_v22_apply, ref_gradU, val_main_v21_apply, val_main_v13_apply]
  have e : idx_main_v13 (idx_main_v21 i) = ix1 (i 1) := funext fun a => Fin.ext (by fin_cases a; rfl)
  rw [e]
  rfl

theorem ref_slope (i : S4096x1024.Idx) : val_main_v34 (F := Ideal) x g w du i
    = Ideal.div ((∑ k : Fin 1024, x (ix2 (i 0) k) * (gradU w du (i 0) k * g (ix1 k))) * (Ideal.ofBits .f32 0xBF000000#32 * Ideal.div (Ideal.rsqrt (base x (i 0))) (base x (i 0)))) (Ideal.ofBits .f32 0x44800000#32) := by
  rw [val_main_v34_apply, val_main_v33_apply, val_main_cst_7_apply]
  refine (congrArg (fun a : EReal => a + _) zero_word).trans ((zero_add _).trans ?_)
  rw [Fin.sum_univ_one, val_main_v32_apply, val_main_v31_apply, val_main_cst_6_apply, val_main_v30_apply, val_main_v26_apply, val_main_v25_apply, val_main_cst_5_apply, val_main_v10_apply, val_main_v9_apply, val_main_cst_2_apply, val_main_v8_apply, ref_root, ref_base]
  refine congrArg₂ Ideal.div (congrArg₂ (fun a b : EReal => a * b) ?_ rfl) rfl
  refine (congrArg (fun a : EReal => a + _) zero_word).trans ((zero_add _).trans (Finset.sum_congr rfl fun k _ => ?_))
  have e : idx_main_v25 (idx_main_v26 (idx_main_v33 (idx_main_v34 i) 0)) k = ix2 (i 0) k := funext fun a => Fin.ext (by
    fin_cases a
    · simp
    · rfl)
  rw [e]
  exact (val_main_v24_apply (F := Ideal) x g w du _).trans (congrArg (fun a : EReal => x (ix2 (i 0) k) * a) (ref_scaled g w du _))

/-- The reference's gradient of the input. -/
theorem ref_x (i : S4096x1024.Idx) : val_main_v38 (F := Ideal) x g w du d i = gradX x g w du d i := by
  rw [val_main_v38_apply, val_main_v36_apply, val_main_v29_apply, val_main_v28_apply, val_main_v35_apply, val_main_v37_apply, val_main_v27_apply, ref_root, ref_scaled, ref_slope]
  have h : base x (i 0) = ⊤ ∨ ∃ r : ℝ, 0 < r ∧ base x (i 0) = (r : EReal) := base_cases fun k : Fin 1024 => x (ix2 (i 0) k)
  have e := entry h (gradU w du (i 0) (i 1) * g (ix1 (i 1))) (d i) (x i) (∑ k : Fin 1024, x (ix2 (i 0) k) * (gradU w du (i 0) k * g (ix1 k)))
  refine e.symm.trans ?_
  unfold gradX
  have hs : ∑ k : Fin 1024, gradU w du (i 0) k * g (ix1 k) * (x (ix2 (i 0) k) * Ideal.rsqrt (base x (i 0)))
      = Ideal.rsqrt (base x (i 0)) * ∑ k : Fin 1024, x (ix2 (i 0) k) * (gradU w du (i 0) k * g (ix1 k)) := by
    rw [mul_sum _ _ (root_cases h).1 (root_cases h).2]
    exact Finset.sum_congr rfl fun k _ => by ac_rfl
  rw [hs]

/-- The same in the shorter format. -/
theorem ref_x16 (i : S4096x1024.Idx) : val_main_v39 (F := Ideal) x g w du d i = gradX x g w du d i :=
  (val_main_v39_apply (F := Ideal) x g w du d i).trans (ref_x x g w du d i)

/-- The reference's gradient of the gain. -/
theorem ref_g (i : S1x1024.Idx) : val_main_v40 (F := Ideal) x w du i = gradG x w du i := by
  rw [val_main_v40_apply, val_main_v23_apply, val_main_cst_4_apply]
  refine (congrArg (fun a : EReal => a + _) zero_word).trans ((zero_add _).trans ?_)
  rw [Fin.sum_univ_one, val_main_v20_apply, val_main_v19_apply, val_main_cst_3_apply]
  refine (congrArg (fun a : EReal => a + _) zero_word).trans ((zero_add _).trans (Finset.sum_congr rfl fun k _ => ?_))
  have h1 : (i 1).val < 1024 := (i 1).isLt
  have h0 : (i 0).val = 0 := by have : (i 0).val < 1 := (i 0).isLt; omega
  have e : idx_main_v19 (idx_main_v20 (idx_main_v23 (idx_main_v40 i) 0)) k = ix2 k (i 1) := funext fun a => Fin.ext (by
    fin_cases a
    · rfl
    · simp [h0])
  rw [e]
  refine (val_main_v18_apply (F := Ideal) x w du _).trans (Eq.trans ?_ (mul_comm _ _))
  refine congrArg₂ (fun a b : EReal => a * b) ((val_main_v12_apply (F := Ideal) x _).trans (congrArg (fun a : EReal => x (ix2 k (i 1)) * a) ?_)) (ref_gradU w du _)
  exact (val_main_v11_apply (F := Ideal) x _).trans (ref_root x _)

end Cert.Kernel5Ideal.Mlp

end
-- ==== Proof.Mlp.InputGrad.lean ====
module

public import proofs.«01_k».proof.Proof.Mlp.InputTiles
public import proofs.«01_k».proof.Proof.Mlp.InputRef

/-! The gradient of the MLP's input through its norm: the three arrays after the run. -/

@[expose] public section

set_option maxRecDepth 16384

noncomputable section

namespace Cert.Kernel5Ideal.Mlp

open Cert.Kernel5Ideal Cert.Kernel5Ideal.Gen
open Idealize.ShloMosaic Idealize.ShloMosaic.TcCoe
open Cert.Reference5Ideal.Read (val_main_v38 val_main_v39 val_main_v40)

variable (m : (ℓ : Loc nD τ sig) → Buf (Elt Ideal) ℓ)

/-- A sum over a range cut into blocks of equal length. -/
theorem sum_blocks (a b : ℕ) (f : Fin (a * b) → EReal) (h : ∀ (d : Fin a) (k : Fin b), b * d.val + k.val < a * b) :
    ∑ i, f i = ∑ d : Fin a, ∑ k : Fin b, f ⟨b * d.val + k.val, h d k⟩ := by
  rw [← finProdFinEquiv.sum_comp, Fintype.sum_prod_type]
  exact Finset.sum_congr rfl fun d _ => Finset.sum_congr rfl fun k _ => congrArg f (Fin.ext (by simp [finProdFinEquiv, add_comm]))

theorem idx : ∀ t : Fin cfg0.N, win0_0.index t = ![t.val, 0] ∧ win0_1.index t = ![0, 0, 0] ∧ win0_2.index t = ![t.val, 0] ∧ win0_3.index t = ![0, 0] ∧ win0_4.index t = ![t.val, 0]
    ∧ win0_5.index t = ![t.val, 0] ∧ win0_6.index t = ![t.val, 0] ∧ win0_7.index t = ![0, 0] :=
  (by decide +kernel : ∀ t : Fin grid0.N, _)

theorem arg0 (c : Dev nD) : V m c main_v3 = m ((c : Thread nD τ).loc main_arg3) := by
  simp only [V, hostOps0, List.flatten_cons, List.flatten_nil, List.append_nil, List.cons_append, List.nil_append]
  after_reads_simp
  rfl

theorem arg1 (c : Dev nD) : V m c main_v2 = transpose S8x1024x512 [1, 0, 2] (shapeCast S1024x8x512 (m ((c : Thread nD τ).loc main_arg2) : FVec Ideal S1024x4096 .f32) shapeCasts_S1024x4096_S1024x8x512) transposes_S1024x8x512_S8x1024x512_1_0_2 := by
  simp only [V, hostOps0, List.flatten_cons, List.flatten_nil, List.append_nil, List.cons_append, List.nil_append]
  after_reads_simp
  rfl

theorem arg2 (c : Dev nD) : V m c main_arg0 = m ((c : Thread nD τ).loc main_arg0) := by
  simp only [V, hostOps0, List.flatten_cons, List.flatten_nil, List.append_nil, List.cons_append, List.nil_append]
  after_reads_simp

theorem arg3 (c : Dev nD) : V m c main_v4 = shapeCast S1x1024 (m ((c : Thread nD τ).loc main_arg1) : FVec Ideal S1024 .f32) shapeCasts_S1024_S1x1024 := by
  simp only [V, hostOps0, List.flatten_cons, List.flatten_nil, List.append_nil, List.cons_append, List.nil_append]
  after_reads_simp
  rfl

theorem arg4 (c : Dev nD) : V m c main_arg4 = m ((c : Thread nD τ).loc main_arg4) := by
  simp only [V, hostOps0, List.flatten_cons, List.flatten_nil, List.append_nil, List.cons_append, List.nil_append]
  after_reads_simp

theorem blk0 (c : Dev nD) (t : Fin cfg0.N) (y : S256x4096.Idx) (i : S4096x4096.Idx) (h0 : (i 0).val = 256 * t.val + (y 0).val) (h1 : (i 1).val = (y 1).val) :
    iblk m c 0 t y = m ((c : Thread nD τ).loc main_arg3) i := by
  refine (congrFun (arg0 m c) (((cfg0.win 0).blk t).view.emb y)).trans (congrArg _ (funext fun a => Fin.ext ?_))
  fin_cases a <;> (blk_simp [idx t]; simp [h0, h1, mul_comm])

theorem blk1 (c : Dev nD) (t : Fin cfg0.N) (y : S8x1024x512.Idx) (i : S1024x4096.Idx) (h0 : (i 0).val = (y 1).val) (h1 : (i 1).val = 512 * (y 0).val + (y 2).val) :
    iblk m c 1 t y = m ((c : Thread nD τ).loc main_arg2) i := by
  have e2 : (y 2).val < 512 := (y 2).isLt
  refine (congrFun (arg1 m c) (((cfg0.win 1).blk t).view.emb y)).trans ?_
  refine (transpose_apply _ _ transposes_S1024x8x512_S8x1024x512_1_0_2 _ (ix3 (y 1) (y 0) (y 2)) fun b => ?_).trans ?_
  · fin_cases b <;> (blk_simp [idx t]; rfl)
  · refine shapeCast_apply _ shapeCasts_S1024x4096_S1024x8x512 _ i ?_
    rw [Shape.rowMajor_val_two, Shape.rowMajor_val_three]
    show (i 0).val * 4096 + (i 1).val = ((y 1).val * 8 + (y 0).val) * 512 + (y 2).val
    rw [h0, h1]
    omega

theorem blk2 (c : Dev nD) (t : Fin cfg0.N) (y : S256x1024.Idx) (i : S4096x1024.Idx) (h0 : (i 0).val = 256 * t.val + (y 0).val) (h1 : (i 1).val = (y 1).val) :
    iblk m c 2 t y = m ((c : Thread nD τ).loc main_arg0) i := by
  refine (congrFun (arg2 m c) (((cfg0.win 2).blk t).view.emb y)).trans (congrArg _ (funext fun a => Fin.ext ?_))
  fin_cases a <;> (blk_simp [idx t]; simp [h0, h1, mul_comm])

theorem blk3 (c : Dev nD) (t : Fin cfg0.N) (y : S1x1024.Idx) (i : S1024.Idx) (h0 : (i 0).val = (y 1).val) :
    iblk m c 3 t y = m ((c : Thread nD τ).loc main_arg1) i := by
  have e0 : (y 0).val = 0 := by have : (y 0).val < 1 := (y 0).isLt; omega
  refine (congrFun (arg3 m c) (((cfg0.win 3).blk t).view.emb y)).trans ?_
  refine shapeCast_apply _ shapeCasts_S1024_S1x1024 _ i ?_
  rw [Shape.rowMajor_val_one, Shape.rowMajor_val_two]
  blk_simp [idx t]
  simp [h0, e0]

theorem blk4 (c : Dev nD) (t : Fin cfg0.N) (y : S256x1024.Idx) (i : S4096x1024.Idx) (h0 : (i 0).val = 256 * t.val + (y 0).val) (h1 : (i 1).val = (y 1).val) :
    iblk m c 4 t y = m ((c : Thread nD τ).loc main_arg4) i := by
  refine (congrFun (arg4 m c) (((cfg0.win 4).blk t).view.emb y)).trans (congrArg _ (funext fun a => Fin.ext ?_))
  fin_cases a <;> (blk_simp [idx t]; simp [h0, h1, mul_comm])

/-- The block's product is the gradient at the block's rows. -/
theorem rows_eq (c : Dev nD) (t : Fin cfg0.N) (y : S256x1024.Idx) (i : Fin 4096) (j : Fin 1024) (h0 : i.val = 256 * t.val + (y 0).val) (h1 : j.val = (y 1).val) :
    rows (iblk m c 0 t) (iblk m c 1 t) y = gradU (m ((c : Thread nD τ).loc main_arg2)) (m ((c : Thread nD τ).loc main_arg3)) i j := by
  refine (rows_at _ _ y).trans (Eq.trans ?_ (sum_blocks 8 512 _ fun d k => by omega).symm)
  exact Finset.sum_congr rfl fun d _ => Finset.sum_congr rfl fun k _ => congrArg₂ (fun a b : EReal => a * b) (blk0 m c t _ _ h0 rfl) (blk1 m c t _ _ h1 rfl)

/-- The block's reciprocal root is the row's. -/
theorem root_eq (c : Dev nD) (t : Fin cfg0.N) (y : S256x1.Idx) (i : Fin 4096) (h0 : i.val = 256 * t.val + (y 0).val) :
    k0_pay8 (F := Ideal) (iblk m c 2 t) y = Ideal.rsqrt (base (m ((c : Thread nD τ).loc main_arg0)) i) := by
  refine (root _ y).trans (congrArg (fun s : EReal => Ideal.rsqrt (Ideal.div s _ + _)) (Finset.sum_congr rfl fun k _ => ?_))
  exact congrArg₂ (fun a b : EReal => a * b) (blk2 m c t _ (ix2 i k) h0 rfl) (blk2 m c t _ (ix2 i k) h0 rfl)

/-- A block's gradient is the gradient, if the block's data are the arguments' row. -/
theorem outX_of {x0 : FVec Ideal S256x4096 .bf16} {x1 : FVec Ideal S8x1024x512 .bf16} {x2 : FVec Ideal S256x1024 .f32} {x3 : FVec Ideal S1x1024 .f32} {x4 : FVec Ideal S256x1024 .f32}
    {x : FVec Ideal S4096x1024 .f32} {g : FVec Ideal S1024 .f32} {w : FVec Ideal S1024x4096 .f32} {du : FVec Ideal S4096x4096 .f32} {d : FVec Ideal S4096x1024 .f32}
    (r : Fin 256) (i : Fin 4096) (j : Fin 1024) (hr : ∀ k, rows x0 x1 (ix2 r k) = gradU w du i k) (hg : ∀ k, x3 (ix2 0 k) = g (ix1 k))
    (hx : ∀ k, x2 (ix2 r k) = x (ix2 i k)) (hd : x4 (ix2 r j) = d (ix2 i j)) (hq : k0_pay8 (F := Ideal) x2 (ix2 r 0) = Ideal.rsqrt (base x i)) :
    outX x0 x1 x2 x3 x4 (ix2 r j) = gradX x g w du d (ix2 i j) := by
  refine (outX_at x0 x1 x2 x3 x4 (ix2 r j)).trans ?_
  show k0_pay8 (F := Ideal) x2 (ix2 r 0) * (rows x0 x1 (ix2 r j) * x3 (ix2 0 j) - x2 (ix2 r j) * k0_pay8 (F := Ideal) x2 (ix2 r 0)
      * Ideal.div (∑ k : Fin 1024, rows x0 x1 (ix2 r k) * x3 (ix2 0 k) * (x2 (ix2 r k) * k0_pay8 (F := Ideal) x2 (ix2 r 0))) (Ideal.ofBits .f32 0x44800000#32)) + x4 (ix2 r j) = _
  simp only [hr, hg, hx, hd, hq]
  rfl

/-- A block of the input's gradient. -/
theorem outX_eq (c : Dev nD) (t : Fin cfg0.N) (y : S256x1024.Idx) (i : S4096x1024.Idx) (h0 : (i 0).val = 256 * t.val + (y 0).val) (h1 : (i 1).val = (y 1).val) :
    outX (iblk m c 0 t) (iblk m c 1 t) (iblk m c 2 t) (iblk m c 3 t) (iblk m c 4 t) y
      = gradX (m ((c : Thread nD τ).loc main_arg0)) (m ((c : Thread nD τ).loc main_arg1)) (m ((c : Thread nD τ).loc main_arg2)) (m ((c : Thread nD τ).loc main_arg3)) (m ((c : Thread nD τ).loc main_arg4)) i := by
  have hy : y = ix2 (y 0) (y 1) := funext fun a => by fin_cases a <;> rfl
  have hi : i = ix2 (i 0) (y 1) := funext fun a => Fin.ext (by fin_cases a; exacts [rfl, h1])
  rw [hy, hi]
  exact outX_of (y 0) (i 0) (y 1) (fun k => rows_eq m c t _ (i 0) k h0 rfl) (fun k => blk3 m c t _ (ix1 k) rfl) (fun k => blk2 m c t _ (ix2 (i 0) k) h0 rfl)
    (blk4 m c t _ (ix2 (i 0) (y 1)) h0 rfl) (root_eq m c t _ (i 0) h0)

/-- One grid point's summand of the gain's gradient. -/
theorem gain_eq (c : Dev nD) (t : Fin cfg0.N) (p : FVec Ideal S1x1024 .f32) (y : S1x1024.Idx) :
    k0_pay4 (F := Ideal) (rows (iblk m c 0 t) (iblk m c 1 t)) (k0_pay9 (iblk m c 2 t)) p y
      = p y + ∑ k : Fin 256, gainAt (m ((c : Thread nD τ).loc main_arg0)) (m ((c : Thread nD τ).loc main_arg2)) (m ((c : Thread nD τ).loc main_arg3)) (y 1)
          ⟨256 * t.val + k.val, by have : t.val < 16 := t.isLt; omega⟩ := by
  refine (gain _ _ _ y).trans (congrArg (fun s : EReal => p y + s) (Finset.sum_congr rfl fun k _ => ?_))
  refine congrArg₂ (fun a b : EReal => a * b) (rows_eq m c t _ _ _ rfl rfl) ((normed _ _).trans ?_)
  exact congrArg₂ (fun a b : EReal => a * b) (blk2 m c t _ (ix2 _ (y 1)) rfl rfl) (root_eq m c t _ _ rfl)

/-- The gain's gradient after each grid point: the rows of the points so far. -/
theorem gains (c : Dev nD) (y : S1x1024.Idx) : ∀ (n : ℕ) (h : n < cfg0.N), (outsAt0 m c n h).2.2 y
    = ∑ d : Fin (n + 1), ∑ k : Fin 256, gainAt (m ((c : Thread nD τ).loc main_arg0)) (m ((c : Thread nD τ).loc main_arg2)) (m ((c : Thread nD τ).loc main_arg3)) (y 1)
        ⟨256 * d.val + k.val, by have : n < 16 := h; omega⟩
  | 0, h => by
    rw [(outsA m c ⟨0, h⟩ rfl).2.2, gain_eq, Fin.sum_univ_one]
    exact (congrArg (fun a : EReal => a + _) zero_word).trans (zero_add _)
  | n + 1, h => by
    have hn : n + 1 < 16 := h
    rw [(outsB m c ⟨n + 1, h⟩ (by show ¬ (n + 1) % 16 = 0; omega)).2.2, gain_eq, Fin.sum_univ_castSucc (n := n + 1)]
    exact congrArg₂ (fun a b : EReal => a + b) (gains c y n (Nat.lt_of_succ_lt h)) rfl

theorem final5 (c : Dev nD) : (dats m 0 c).arrAt 5 cfg0.N
    = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  have h : (outsAt0 m c t.val t.isLt).1 = outX (iblk m c 0 t) (iblk m c 1 t) (iblk m c 2 t) (iblk m c 3 t) (iblk m c 4 t) :=
    if h0 : t.val % 16 = 0 then (outsA m c t h0).1 else (outsB m c t h0).1
  rw [h]
  refine (outX_eq m c t y _ ?_ ?_).trans (ref_x _ _ _ _ _ _).symm
  · blk_simp [idx t]; simp [mul_comm]
  · blk_simp [idx t]

theorem final6 (c : Dev nD) : (dats m 0 c).arrAt 6 cfg0.N
    = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have h : (outsAt0 m c t.val t.isLt).2.1 = outX (iblk m c 0 t) (iblk m c 1 t) (iblk m c 2 t) (iblk m c 3 t) (iblk m c 4 t) :=
    if h0 : t.val % 16 = 0 then (outsA m c t h0).2.1 else (outsB m c t h0).2.1
  rw [h]
  refine (outX_eq m c t y _ ?_ ?_).trans (ref_x16 _ _ _ _ _ _).symm
  · blk_simp [idx t]; simp [mul_comm]
  · blk_simp [idx t]

theorem final7 (c : Dev nD) : (dats m 0 c).arrAt 7 cfg0.N
    = val_main_v40 (F := Ideal) (m ((c : Thread nD τ).loc main_arg0)) (m ((c : Thread nD τ).loc main_arg2)) (m ((c : Thread nD τ).loc main_arg3)) := by
  refine (dats m 0 c).arrAt_eq_of_covers 7 _ (by decide +kernel) fun t hf y => ?_
  have ht : t.val < 16 := t.isLt
  have h15 : t.val = 15 := by have := (flush0_7 t).mp hf; omega
  blk_simp
  rw [after0_7]
  refine (gains m c y t.val t.isLt).trans (Eq.trans ?_ (ref_g _ _ _ _).symm)
  have e7 : win0_7.index t 1 = 0 := congrFun (idx t).2.2.2.2.2.2.2 1
  obtain rfl : t = ⟨15, by decide⟩ := Fin.ext h15
  refine Eq.trans ?_ (sum_blocks 16 256 _ fun d k => by omega).symm
  refine Finset.sum_congr rfl fun d _ => Finset.sum_congr rfl fun k _ => congrArg (fun j => gainAt _ _ _ j _) (Fin.ext ?_)
  blk_simp
  exact ((congrArg (fun n : ℕ => n * 1024 + (y 1).val) e7).trans (by simp)).symm

end Cert.Kernel5Ideal.Mlp

end
-- ==== Proof.Mlp.Up.lean ====
module

public import proofs.«01_k».proof.Proof.Gen.Kernel7Ideal.Value
public import proofs.«01_k».proof.Proof.Gen.Reference7Ideal.Read
public import Idealize.ShloMosaic.Lib.Pointwise
public import Idealize.ShloMosaic.Lib.Pipeline.ValueKit
public import Idealize.ShloMosaic.Lib.StableHlo.ReadAt

/-! The MLP's first layer: the hidden features' ramp and its square. -/

@[expose] public section

set_option maxRecDepth 16384

noncomputable section

namespace Cert.Kernel7Ideal.Mlp

open Cert.Kernel7Ideal Cert.Kernel7Ideal.Gen
open Idealize.ShloMosaic Idealize.ShloMosaic.TcCoe
open Cert.Reference7Ideal.Read

variable (m : (ℓ : Loc nD τ sig) → Buf (Elt Ideal) ℓ)

/-- One block of the product with its ramp, entry by entry. -/
theorem mm (l : FVec Ideal S2048x1024 .bf16) (r : FVec Ideal S1x1024x512 .bf16) (y : S2048x512.Idx) :
    k0_pay1 (F := Ideal) r l y = max (∑ k : Fin 1024, l (ix2 (y 0) k) * r (ix3 0 k (y 1))) (Ideal.ofBits .f32 0x00000000#32) := by
  unfold k0_pay1
  idx_vars y
  pointwise []

theorem out2 (x0 : Vec Ideal S2048x1024 .bf16) (x1 : Vec Ideal S1x1024x512 .bf16) : out0_2 x0 x1 = k0_pay2 x1 x0 := by
  unfold out0_2
  rw [View.canon_unit_zero (by decide), View.ld_unit_zero (by decide), View.ld_unit_zero (by decide)]

theorem out3 (x0 : Vec Ideal S2048x1024 .bf16) (x1 : Vec Ideal S1x1024x512 .bf16) : out0_3 x0 x1 = k0_pay3 x1 x0 := by
  unfold out0_3
  rw [View.canon_unit_zero (by decide), View.ld_unit_zero (by decide), View.ld_unit_zero (by decide)]

theorem idx : ∀ t : Fin cfg0.N, win0_0.index t = ![t.val / 8, 0] ∧ win0_1.index t = ![t.val % 8, 0, 0] ∧ win0_2.index t = ![t.val / 8, t.val % 8] ∧ win0_3.index t = ![t.val / 8, t.val % 8] :=
  (by decide +kernel : ∀ t : Fin grid0.N, _)

theorem arg0 (c : Dev nD) : V m c main_v3 = m ((c : Thread nD τ).loc main_arg0) := by
  simp only [V, hostOps0, List.flatten_cons, List.flatten_nil, List.append_nil, List.cons_append, List.nil_append]
  after_reads_simp
  rfl

theorem arg1 (c : Dev nD) : V m c main_v2 = transpose S8x1024x512 [1, 0, 2] (shapeCast S1024x8x512 (m ((c : Thread nD τ).loc main_arg1) : FVec Ideal S1024x4096 .f32) shapeCasts_S1024x4096_S1024x8x512) transposes_S1024x8x512_S8x1024x512_1_0_2 := by
  simp only [V, hostOps0, List.flatten_cons, List.flatten_nil, List.append_nil, List.cons_append, List.nil_append]
  after_reads_simp
  rfl

theorem blk0 (c : Dev nD) (t : Fin cfg0.N) (y : S2048x1024.Idx) (i : S4096x1024.Idx) (h0 : (i 0).val = 2048 * (t.val / 8) + (y 0).val) (h1 : (i 1).val = (y 1).val) :
    iblk m c 0 t y = m ((c : Thread nD τ).loc main_arg0) i := by
  refine (congrFun (arg0 m c) (((cfg0.win 0).blk t).view.emb y)).trans (congrArg _ (funext fun a => Fin.ext ?_))
  fin_cases a <;> (blk_simp [idx t]; simp [h0, h1, mul_comm])

theorem blk1 (c : Dev nD) (t : Fin cfg0.N) (y : S1x1024x512.Idx) (i : S1024x4096.Idx) (h0 : (i 0).val = (y 1).val) (h1 : (i 1).val = 512 * (t.val % 8) + (y 2).val) :
    iblk m c 1 t y = m ((c : Thread nD τ).loc main_arg1) i := by
  have e0 : (y 0).val = 0 := by have : (y 0).val < 1 := (y 0).isLt; omega
  have e2 : (y 2).val < 512 := (y 2).isLt
  refine (congrFun (arg1 m c) (((cfg0.win 1).blk t).view.emb y)).trans ?_
  refine (transpose_apply _ _ transposes_S1024x8x512_S8x1024x512_1_0_2 _ (ix3 (y 1) ⟨t.val % 8, by omega⟩ (y 2)) fun b => ?_).trans ?_
  · fin_cases b <;> (blk_simp [idx t]; simp [e0])
  · refine shapeCast_apply _ shapeCasts_S1024x4096_S1024x8x512 _ i ?_
    rw [Shape.rowMajor_val_two, Shape.rowMajor_val_three]
    show (i 0).val * 4096 + (i 1).val = ((y 1).val * 8 + t.val % 8) * 512 + (y 2).val
    rw [h0, h1]
    omega

/-- The ramp of the product of input and weight. -/
def ramp (x : FVec Ideal S4096x1024 .f32) (w : FVec Ideal S1024x4096 .f32) (i : S4096x4096.Idx) : EReal :=
  max (∑ k : Fin 1024, x (ix2 (i 0) k) * w (ix2 k (i 1))) (Ideal.ofBits .f32 0x00000000#32)

theorem ref (x : FVec Ideal S4096x1024 .f32) (w : FVec Ideal S1024x4096 .f32) (i : S4096x4096.Idx) : val_main_v1 (F := Ideal) x w i = ramp x w i := by
  refine (val_main_v1_apply (F := Ideal) x w i).trans (congrArg₂ (fun a b : EReal => max a b) ?_ ?_)
  · refine (val_main_v0_apply x w i).trans (Finset.sum_congr rfl fun k _ => congrArg₂ (fun a b : EReal => a * b) (congrArg x (funext fun a => ?_)) (congrArg w (funext fun a => ?_))) <;> fin_cases a <;> rfl
  · exact val_main_call0_v0_apply (F := Ideal) i

/-- A block's ramp is the ramp at the block's place. -/
theorem block (c : Dev nD) (t : Fin cfg0.N) (y : S2048x512.Idx) (i : S4096x4096.Idx) (h0 : (i 0).val = 2048 * (t.val / 8) + (y 0).val) (h1 : (i 1).val = 512 * (t.val % 8) + (y 1).val) :
    k0_pay1 (F := Ideal) (iblk m c 1 t) (iblk m c 0 t) y = ramp (m ((c : Thread nD τ).loc main_arg0)) (m ((c : Thread nD τ).loc main_arg1)) i :=
  (mm _ _ y).trans (congrArg (fun s : EReal => max s _) (Finset.sum_congr rfl fun k _ => congrArg₂ (fun a b : EReal => a * b) (blk0 m c t _ _ h0 rfl) (blk1 m c t _ _ rfl h1)))

theorem final2 (c : Dev nD) : (dats m 0 c).arrAt 2 cfg0.N = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2, out2]
  refine (block m c t y _ ?_ ?_).trans ((val_main_v2_apply (F := Ideal) _ _ _).trans (ref _ _ _)).symm
  · blk_simp [idx t]; simp [mul_comm]
  · blk_simp [idx t]; simp [mul_comm]

theorem final3 (c : Dev nD) : (dats m 0 c).arrAt 3 cfg0.N = val_main_v4 (F := Ideal) (m ((c : Thread nD τ).loc main_arg0)) (m ((c : Thread nD τ).loc main_arg1)) := by
  refine (dats m 0 c).arrAt_eq_of_covers 3 _ (by decide +kernel) fun t hf y => ?_
  blk_simp
  rw [after0_3, out3]
  refine (congrArg (fun a : EReal => a * a) (block m c t y (((cfg0.win 3).blk t).view.emb y) ?_ ?_)).trans
    ((val_main_v4_apply (F := Ideal) _ _ _).trans ((val_main_v3_apply (F := Ideal) _ _ _).trans (congrArg (fun a : EReal => a * a) (ref _ _ _)))).symm
  · blk_simp [idx t]; simp [mul_comm]
  · blk_simp [idx t]; simp [mul_comm]

end Cert.Kernel7Ideal.Mlp

end
-- ==== Proof.Mlp.Down.lean ====
module

public import proofs.«01_k».proof.Proof.Gen.Kernel8Ideal.Value
public import proofs.«01_k».proof.Proof.Gen.Reference8Ideal.Read
public import Idealize.ShloMosaic.Lib.Pointwise
public import Idealize.ShloMosaic.Lib.Pipeline.ValueKit
public import Idealize.ShloMosaic.Lib.StableHlo.ReadAt

/-! The MLP's second layer with the residual added, and the next layer's input after the norm. -/

@[expose] public section

set_option maxRecDepth 16384

noncomputable section

namespace Cert.Kernel8Ideal.Mlp

open Cert.Kernel8Ideal Cert.Kernel8Ideal.Gen
open Idealize.ShloMosaic Idealize.ShloMosaic.TcCoe
open Cert.Reference8Ideal.Read

variable (m : (ℓ : Loc nD τ sig) → Buf (Elt Ideal) ℓ)

/-- One block of the product with the residual, entry by entry. -/
theorem mm (l : FVec Ideal S512x4096 .bf16) (r : FVec Ideal S8x512x1024 .bf16) (x : FVec Ideal S512x1024 .f32) (y : S512x1024.Idx) :
    k0_pay1 (F := Ideal) r l x y = (∑ k : Fin 4096, l (ix2 (y 0) k) * r (ix3 ⟨k.val / 512, by omega⟩ ⟨k.val % 512, by omega⟩ (y 1))) + x y := by
  unfold k0_pay1
  idx_vars y
  pointwise []

/-- The block after the norm, entry by entry. -/
theorem normed (l : FVec Ideal S512x4096 .bf16) (r : FVec Ideal S8x512x1024 .bf16) (x : FVec Ideal S512x1024 .f32) (g : FVec Ideal S1x1024 .f32) (y : S512x1024.Idx) :
    k0_pay2 (F := Ideal) r l x g y = k0_pay1 (F := Ideal) r l x y
      * Ideal.rsqrt (Ideal.div (∑ k : Fin 1024, k0_pay1 (F := Ideal) r l x (ix2 (y 0) k) * k0_pay1 (F := Ideal) r l x (ix2 (y 0) k)) (Ideal.ofBits .f32 0x44800000#32) + Ideal.ofBits .f32 0x358637BD#32)
      * g (ix2 0 (y 1)) := by
  unfold k0_pay2
  generalize k0_pay1 (F := Ideal) r l x = p
  idx_vars y
  pointwise []

theorem out4 (x0 : Vec Ideal S512x4096 .bf16) (x1 : Vec Ideal S8x512x1024 .bf16) (x2 : Vec Ideal S512x1024 .f32) (x3 : Vec Ideal S1x1024 .f32) : out0_4 x0 x1 x2 x3 = k0_pay1 x1 x0 x2 := by
  unfold out0_4
  rw [View.canon_unit_zero (by decide), View.ld_unit_zero (by decide), View.ld_unit_zero (by decide), View.ld_unit_zero (by decide)]

theorem out5 (x0 : Vec Ideal S512x4096 .bf16) (x1 : Vec Ideal S8x512x1024 .bf16) (x2 : Vec Ideal S512x1024 .f32) (x3 : Vec Ideal S1x1024 .f32) : out0_5 x0 x1 x2 x3 = k0_pay2 x1 x0 x2 x3 := by
  unfold out0_5
  rw [View.canon_unit_zero (by decide), View.ld_unit_zero (by decide), View.ld_unit_zero (by decide), View.ld_unit_zero (by decide), View.ld_unit_zero (by decide)]

theorem idx : ∀ t : Fin cfg0.N, win0_0.index t = ![t.val, 0] ∧ win0_1.index t = ![0, 0, 0] ∧ win0_2.index t = ![t.val, 0] ∧ win0_3.index t = ![0, 0]
    ∧ win0_4.index t = ![t.val, 0] ∧ win0_5.index t = ![t.val, 0] :=
  (by decide +kernel : ∀ t : Fin grid0.N, _)

/-- The first operand is the square of the hidden features. -/
theorem arg0 (c : Dev nD) : V m c main_v1 = val_main_v0 (F := Ideal) (m ((c : Thread nD τ).loc main_arg0)) := by
  simp only [V, hostOps0, List.flatten_cons, List.flatten_nil, List.append_nil, List.cons_append, List.nil_append]
  after_reads_simp
  rfl

theorem arg1 (c : Dev nD) : V m c main_v3 = shapeCast S8x512x1024 (m ((c : Thread nD τ).loc main_arg1) : FVec Ideal S4096x1024 .f32) shapeCasts_S4096x1024_S8x512x1024 := by
  simp only [V, hostOps0, List.flatten_cons, List.flatten_nil, List.append_nil, List.cons_append, List.nil_append]
  after_reads_simp
  rfl

theorem arg2 (c : Dev nD) : V m c main_arg2 = m ((c : Thread nD τ).loc main_arg2) := by
  simp only [V, hostOps0, List.flatten_cons, List.flatten_nil, List.append_nil, List.cons_append, List.nil_append]
  after_reads_simp

theorem arg3 (c : Dev nD) : V m c main_v4 = shapeCast S1x1024 (m ((c : Thread nD τ).loc main_arg3) : FVec Ideal S1024 .f32) shapeCasts_S1024_S1x1024 := by
  simp only [V, hostOps0, List.flatten_cons, List.flatten_nil, List.append_nil, List.cons_append, List.nil_append]
  after_reads_simp
  rfl

theorem blk0 (c : Dev nD) (t : Fin cfg0.N) (y : S512x4096.Idx) (i : S4096x4096.Idx) (h0 : (i 0).val = 512 * t.val + (y 0).val) (h1 : (i 1).val = (y 1).val) :
    iblk m c 0 t y = val_main_v0 (F := Ideal) (m ((c : Thread nD τ).loc main_arg0)) i := by
  refine (congrFun (arg0 m c) (((cfg0.win 0).blk t).view.emb y)).trans (congrArg _ (funext fun a => Fin.ext ?_))
  fin_cases a <;> (blk_simp [idx t]; simp [h0, h1, mul_comm])

theorem blk1 (c : Dev nD) (t : Fin cfg0.N) (y : S8x512x1024.Idx) (i : S4096x1024.Idx) (h0 : (i 0).val = 512 * (y 0).val + (y 1).val) (h1 : (i 1).val = (y 2).val) :
    iblk m c 1 t y = m ((c : Thread nD τ).loc main_arg1) i := by
  have e2 : (y 2).val < 1024 := (y 2).isLt
  refine (congrFun (arg1 m c) (((cfg0.win 1).blk t).view.emb y)).trans ?_
  refine shapeCast_apply _ shapeCasts_S4096x1024_S8x512x1024 _ i ?_
  rw [Shape.rowMajor_val_two, Shape.rowMajor_val_three]
  blk_simp [idx t]
  rw [h0, h1]
  simp
  omega

theorem blk2 (c : Dev nD) (t : Fin cfg0.N) (y : S512x1024.Idx) (i : S4096x1024.Idx) (h0 : (i 0).val = 512 * t.val + (y 0).val) (h1 : (i 1).val = (y 1).val) :
    iblk m c 2 t y = m ((c : Thread nD τ).loc main_arg2) i := by
  refine (congrFun (arg2 m c) (((cfg0.win 2).blk t).view.emb y)).trans (congrArg _ (funext fun a => Fin.ext ?_))
  fin_cases a <;> (blk_simp [idx t]; simp [h0, h1, mul_comm])

theorem blk3 (c : Dev nD) (t : Fin cfg0.N) (y : S1x1024.Idx) (i : S1024.Idx) (h0 : (i 0).val = (y 1).val) :
    iblk m c 3 t y = m ((c : Thread nD τ).loc main_arg3) i := by
  have e0 : (y 0).val = 0 := by have : (y 0).val < 1 := (y 0).isLt; omega
  refine (congrFun (arg3 m c) (((cfg0.win 3).blk t).view.emb y)).trans ?_
  refine shapeCast_apply _ shapeCasts_S1024_S1x1024 _ i ?_
  rw [Shape.rowMajor_val_one, Shape.rowMajor_val_two]
  blk_simp [idx t]
  simp [h0, e0]

/-- The residual with the second layer's product added. -/
def added (a : FVec Ideal S4096x4096 .f32) (w : FVec Ideal S4096x1024 .f32) (x : FVec Ideal S4096x1024 .f32) (i : S4096x1024.Idx) : EReal :=
  x i + ∑ k : Fin 4096, val_main_v0 (F := Ideal) a (ix2 (i 0) k) * w (ix2 k (i 1))

/-- Its rows divided by the root of their mean square, times the gain. -/
def scaled (a : FVec Ideal S4096x4096 .f32) (w : FVec Ideal S4096x1024 .f32) (x : FVec Ideal S4096x1024 .f32) (g : FVec Ideal S1024 .f32) (i : S4096x1024.Idx) : EReal :=
  added a w x i * Ideal.rsqrt (Ideal.div (∑ k : Fin 1024, added a w x (ix2 (i 0) k) * added a w x (ix2 (i 0) k)) (Ideal.ofBits .f32 0x44800000#32) + Ideal.ofBits .f32 0x358637BD#32) * g (ix1 (i 1))

section Reference

variable (a : FVec Ideal S4096x4096 .f32) (w : FVec Ideal S4096x1024 .f32) (x : FVec Ideal S4096x1024 .f32) (g : FVec Ideal S1024 .f32)

theorem ref_added (i : S4096x1024.Idx) : val_main_v2 (F := Ideal) a w x i = added a w x i := by
  refine (val_main_v2_apply (F := Ideal) a w x i).trans (congrArg (fun s : EReal => x i + s) ?_)
  refine (val_main_v1_apply a w i).trans (Finset.sum_congr rfl fun k _ => congrArg₂ (fun a b : EReal => a * b) (congrArg (val_main_v0 (F := Ideal) a) (funext fun b => ?_)) (congrArg w (funext fun b => ?_))) <;> fin_cases b <;> rfl

theorem zero_word : (Ideal.ofBits .f32 0x00000000#32 : EReal) = 0 := by simp [Ideal.ofBits, Ideal.ieee]

theorem ref_scaled (i : S4096x1024.Idx) : val_main_v16 (F := Ideal) a w x g i = scaled a w x g i := by
  refine (val_main_v16_apply (F := Ideal) a w x g i).trans ((val_main_v15_apply (F := Ideal) a w x g i).trans ?_)
  rw [val_main_v12_apply, ref_added, val_main_v11_apply, val_main_v10_apply, val_main_v9_apply, val_main_v7_apply, val_main_v5_apply, val_main_v4_apply, val_main_v6_apply,
    val_main_cst_0_apply, val_main_v8_apply, val_main_cst_1_apply, val_main_cst_apply, val_main_v14_apply, val_main_v13_apply]
  refine congrArg₂ (fun a b : EReal => a * b) (congrArg (fun s : EReal => added a w x i * Ideal.rsqrt (Ideal.div s _ + _)) ?_) (congrArg g (funext fun b => ?_))
  · refine (congrArg (fun a : EReal => a + _) zero_word).trans ((zero_add _).trans (Finset.sum_congr rfl fun k _ => ?_))
    refine (val_main_v3_apply (F := Ideal) a w x _).trans (congrArg (fun s : EReal => s * s) ((ref_added a w x _).trans (congrArg (added a w x) (funext fun b => ?_))))
    fin_cases b <;> rfl
  · fin_cases b; rfl

end Reference

/-- A block's product with the residual, at the block's place. -/
theorem block (c : Dev nD) (t : Fin cfg0.N) (y : S512x1024.Idx) (i : S4096x1024.Idx) (h0 : (i 0).val = 512 * t.val + (y 0).val) (h1 : (i 1).val = (y 1).val) :
    k0_pay1 (F := Ideal) (iblk m c 1 t) (iblk m c 0 t) (iblk m c 2 t) y
      = added (m ((c : Thread nD τ).loc main_arg0)) (m ((c : Thread nD τ).loc main_arg1)) (m ((c : Thread nD τ).loc main_arg2)) i := by
  refine (mm _ _ _ y).trans ((add_comm _ _).trans (congrArg₂ (fun a b : EReal => a + b) (blk2 m c t y i h0 h1) (Finset.sum_congr rfl fun k _ => congrArg₂ (fun a b : EReal => a * b) (blk0 m c t _ _ h0 rfl) ?_)))
  refine blk1 m c t _ _ ?_ h1
  show k.val = 512 * (k.val / 512) + k.val % 512
  omega

theorem final4 (c : Dev nD) : (dats m 0 c).arrAt 4 cfg0.N
    = val_main_v2 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, out4]
  refine (block m c t y _ ?_ ?_).trans (ref_added _ _ _ _).symm
  · blk_simp [idx t]; simp [mul_comm]
  · blk_simp [idx t]

/-- A block after the norm, at the block's place. -/
theorem block_normed (c : Dev nD) (t : Fin cfg0.N) (y : S512x1024.Idx) (i : S4096x1024.Idx) (h0 : (i 0).val = 512 * t.val + (y 0).val) (h1 : (i 1).val = (y 1).val) :
    k0_pay2 (F := Ideal) (iblk m c 1 t) (iblk m c 0 t) (iblk m c 2 t) (iblk m c 3 t) y
      = scaled (m ((c : Thread nD τ).loc main_arg0)) (m ((c : Thread nD τ).loc main_arg1)) (m ((c : Thread nD τ).loc main_arg2)) (m ((c : Thread nD τ).loc main_arg3)) i := by
  refine (normed _ _ _ _ y).trans (congrArg₂ (fun a b : EReal => a * b) (congrArg₂ (fun a b : EReal => a * Ideal.rsqrt (Ideal.div b _ + _)) (block m c t y i h0 h1) (Finset.sum_congr rfl fun k _ => ?_)) (blk3 m c t _ _ h1))
  exact congrArg (fun s : EReal => s * s) (block m c t _ (ix2 (i 0) k) h0 rfl)

theorem final5 (c : Dev nD) : (dats m 0 c).arrAt 5 cfg0.N
    = val_main_v16 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, out5]
  refine (block_normed m c t y _ ?_ ?_).trans (ref_scaled _ _ _ _ _).symm
  · blk_simp [idx t]; simp [mul_comm]
  · blk_simp [idx t]

end Cert.Kernel8Ideal.Mlp

end
-- ==== Proof.Cross.Model.lean ====
module

public import proofs.«01_k».proof.Proof.Mlp.Norm

/-! One query's weights over the memory slots and the gradient of its scores, on extended reals: as the kernel writes it, by the weights,
and as the derivative of the quotient is written out. -/

@[expose] public section

noncomputable section

namespace Cert.Cross

open Idealize.ShloMosaic
open Cert.Mlp.Norm (mul_sum)

variable {n : ℕ}

/-- The greatest score of a row. -/
def top (s : Fin n → EReal) : EReal := Finset.univ.fold max ⊥ s

/-- The exponential of a score's distance to the greatest one. -/
def ex (s : Fin n → EReal) (j : Fin n) : EReal := Ideal.exp (s j - top s)

/-- A row's total. -/
def tot (s : Fin n → EReal) : EReal := ∑ j, ex s j

/-- A row's weight. -/
def wt (s : Fin n → EReal) (j : Fin n) : EReal := Ideal.div (ex s j) (tot s)

/-- The gradient of a score, by the weights; `d` is the gradient of the weights. -/
def grad (s d : Fin n → EReal) (j : Fin n) : EReal := wt s j * (d j - ∑ i, wt s i * d i)

/-- The gradient of a score, by the derivative of the quotient. -/
def quot (s d : Fin n → EReal) (j : Fin n) : EReal :=
  (Ideal.div (d j) (tot s) + -∑ i, d i * Ideal.div 1 (tot s * tot s) * ex s i) * ex s j

/-- Real scores have a real greatest score. -/
theorem top_real (f : Fin (n + 1) → ℝ) : ∃ r : ℝ, top (fun j => (f j : EReal)) = (r : EReal) := by
  refine ⟨Finset.univ.sup' Finset.univ_nonempty f, le_antisymm ?_ ?_⟩
  · exact (Finset.fold_max_le _).2 ⟨bot_le, fun j _ => EReal.coe_le_coe_iff.2 (Finset.le_sup' f (Finset.mem_univ j))⟩
  · obtain ⟨j, hj, e⟩ := Finset.exists_mem_eq_sup' (Finset.univ_nonempty (α := Fin (n + 1))) f
    exact (Finset.le_fold_max _).2 (Or.inr ⟨j, hj, by rw [e]⟩)

/-- The exponentials and the total of real scores are positive real numbers. -/
theorem reals (f : Fin (n + 1) → ℝ) : ∃ (e : Fin (n + 1) → ℝ) (l : ℝ), (∀ j, 0 < e j) ∧ 0 < l ∧ (∀ j, ex (fun j => (f j : EReal)) j = (e j : EReal)) ∧ tot (fun j => (f j : EReal)) = (l : EReal) := by
  obtain ⟨r, hr⟩ := top_real f
  have he : ∀ j, ex (fun j => (f j : EReal)) j = ((Real.exp (f j - r) : ℝ) : EReal) := fun j => by
    unfold ex
    rw [hr, ← EReal.coe_sub]
    rfl
  refine ⟨fun j => Real.exp (f j - r), ∑ j, Real.exp (f j - r), fun j => Real.exp_pos _, Finset.sum_pos (fun j _ => Real.exp_pos _) Finset.univ_nonempty, he, ?_⟩
  unfold tot
  rw [Finset.sum_congr rfl fun j _ => he j]
  exact (map_sum (⟨⟨Real.toEReal, EReal.coe_zero⟩, EReal.coe_add⟩ : ℝ →+ EReal) _ _).symm

/-- The two forms of a score's gradient are equal, whatever the weights' gradients are. -/
theorem grad_eq (f : Fin (n + 1) → ℝ) (d : Fin (n + 1) → EReal) (j : Fin (n + 1)) : grad (fun j => (f j : EReal)) d j = quot (fun j => (f j : EReal)) d j := by
  obtain ⟨e, l, he, hl, h1, h2⟩ := reals f
  unfold grad quot wt
  simp only [h1, h2]
  rw [← EReal.coe_mul, Ideal.div_coe hl.ne']
  simp only [Ideal.div_coe hl.ne', Ideal.div_coe (mul_pos hl hl).ne', one_mul, ← EReal.coe_mul]
  have hp : ∀ j, 0 ≤ e j * (1 / l) := fun j => mul_nonneg (he j).le (one_div_nonneg.2 hl.le)
  have hs : ∑ i, d i * ((1 / (l * l) : ℝ) : EReal) * (e i : EReal) = ((1 / l : ℝ) : EReal) * ∑ i, ((e i * (1 / l) : ℝ) : EReal) * d i := by
    rw [mul_sum _ _ (by exact_mod_cast (one_div_nonneg.2 hl.le)) (EReal.coe_ne_top _)]
    refine Finset.sum_congr rfl fun i _ => ?_
    rw [mul_assoc, mul_comm (d i), ← mul_assoc, ← EReal.coe_mul, ← EReal.coe_mul]
    congr 2
    field_simp
  rw [hs, sub_eq_add_neg, EReal.left_distrib_of_nonneg_of_ne_top (by exact_mod_cast hp j) (EReal.coe_ne_top _), mul_comm _ (e j : EReal),
    EReal.left_distrib_of_nonneg_of_ne_top (by exact_mod_cast (he j).le) (EReal.coe_ne_top _), mul_neg, mul_neg]
  refine congrArg₂ (fun a b : EReal => a + -b) ?_ ?_
  · rw [mul_left_comm, EReal.coe_mul]
    ac_rfl
  · rw [← mul_assoc, ← EReal.coe_mul]

/-- The scores' scale. -/
theorem scale_word : (Ideal.ofBits .f32 0x3E000000#32 : EReal) = ((1 / 8 : ℝ) : EReal) := by
  simp [Ideal.ofBits, Ideal.ieee, -EReal.coe_mul]; norm_num

/-- The scale goes into a sum. -/
theorem scale_sum {m : ℕ} (g k : Fin m → EReal) : (∑ i, g i * k i) * Ideal.ofBits .f32 0x3E000000#32 = ∑ i, g i * Ideal.ofBits .f32 0x3E000000#32 * k i := by
  rw [mul_comm, mul_sum _ _ (by rw [scale_word]; exact_mod_cast (by norm_num : (0 : ℝ) ≤ 1 / 8)) (by rw [scale_word]; exact EReal.coe_ne_top _)]
  exact Finset.sum_congr rfl fun i _ => by ac_rfl

/-- A sum whose later summands are zero. -/
theorem sum_half (f : Fin 128 → EReal) (g : Fin 64 → EReal) (h : ∀ x : Fin 64, f ⟨x.val, by omega⟩ = g x) (h0 : ∀ x : Fin 128, 64 ≤ x.val → f x = 0) : ∑ x, f x = ∑ x, g x := by
  refine (Fin.sum_univ_add (a := 64) (b := 64) f).trans ?_
  rw [Finset.sum_eq_zero (f := fun i : Fin 64 => f (Fin.natAdd 64 i)) fun i _ => h0 _ (by simp), add_zero]
  exact Finset.sum_congr rfl fun x _ => h x

end Cert.Cross

end
-- ==== Proof.Cross.Tiles.lean ====
module

public import proofs.«01_k».proof.Proof.Gen.Kernel6Ideal.Value
public import proofs.«01_k».proof.Proof.Cross.Model
public import Idealize.ShloMosaic.Lib.Pointwise
public import Idealize.ShloMosaic.Lib.Pipeline.ValueKit
public import Idealize.ShloMosaic.Lib.StableHlo.ReadAt

/-! The gradient of the memory attention: what a grid point computes from its blocks. -/

@[expose] public section

set_option maxRecDepth 16384

noncomputable section

namespace Cert.Kernel6Ideal.Cross

open Cert.Kernel6Ideal Cert.Kernel6Ideal.Gen Cert.Cross
open Idealize.ShloMosaic Idealize.ShloMosaic.TcCoe Idealize.ShloMosaic.Tactic

/-- A block's scores of the query `i`. -/
def sc (q : FVec Ideal S4096x128 .bf16) (k : FVec Ideal S256x128 .bf16) (i : Fin 4096) (j : Fin 256) : EReal :=
  (∑ x : Fin 128, k (ix2 j x) * q (ix2 i x)) * Ideal.ofBits .f32 0x3E000000#32

/-- The gradients of the query's weights. -/
def dw (v : FVec Ideal S256x128 .bf16) (d : FVec Ideal S4096x128 .bf16) (i : Fin 4096) (j : Fin 256) : EReal :=
  ∑ x : Fin 128, v (ix2 j x) * d (ix2 i x)

theorem bot_word : (Ideal.ofBits .f32 0xFF800000#32 : EReal) = ⊥ := by
  simp [Ideal.ofBits, Ideal.ieee]

theorem weights (q : FVec Ideal S4096x128 .bf16) (k : FVec Ideal S256x128 .bf16) (y : S256x4096.Idx) :
    k0_pay8 (F := Ideal) q k y = wt (sc q k (y 1)) (y 0) := by
  unfold k0_pay8 k0_pay5 k0_pay6 wt tot ex top sc
  rw [← bot_word]
  idx_vars y
  pointwise []

theorem grads (q d : FVec Ideal S4096x128 .bf16) (k v : FVec Ideal S256x128 .bf16) (y : S256x4096.Idx) :
    k0_pay9 (F := Ideal) q k d v y = grad (sc q k (y 1)) (dw v d (y 1)) (y 0) := by
  have h : k0_pay9 (F := Ideal) q k d v y = k0_pay8 (F := Ideal) q k y * (dw v d (y 1) (y 0) - ∑ j : Fin 256, k0_pay8 (F := Ideal) q k (ix2 j (y 1)) * dw v d (y 1) j) := by
    unfold k0_pay9 k0_pay7 dw
    generalize k0_pay8 (F := Ideal) q k = p
    idx_vars y
    pointwise []
  rw [h]
  unfold grad
  simp only [weights]
  rfl

theorem dqs (q d : FVec Ideal S4096x128 .bf16) (k v : FVec Ideal S256x128 .bf16) (y : S4096x128.Idx) :
    k0_pay10 (F := Ideal) q k d v y = (∑ j : Fin 256, grad (sc q k (y 0)) (dw v d (y 0)) j * k (ix2 j (y 1))) * Ideal.ofBits .f32 0x3E000000#32 := by
  have h : k0_pay10 (F := Ideal) q k d v y = (∑ j : Fin 256, k0_pay9 (F := Ideal) q k d v (ix2 j (y 0)) * k (ix2 j (y 1))) * Ideal.ofBits .f32 0x3E000000#32 := by
    unfold k0_pay10 k0_pay6
    generalize k0_pay9 (F := Ideal) q k d v = p
    idx_vars y
    pointwise []
  rw [h]
  simp only [grads]
  rfl

theorem dks (q d : FVec Ideal S4096x128 .bf16) (k v : FVec Ideal S256x128 .bf16) (y : S256x128.Idx) :
    k0_pay1 (F := Ideal) (k0_pay5 q) (k0_pay9 q k d v) (k0_pay3 (F := Ideal)) y = (∑ i : Fin 4096, grad (sc q k i) (dw v d i) (y 0) * q (ix2 i (y 1))) * Ideal.ofBits .f32 0x3E000000#32 := by
  have h : k0_pay1 (F := Ideal) (k0_pay5 q) (k0_pay9 q k d v) (k0_pay3 (F := Ideal)) y
      = Ideal.ofBits .f32 0x00000000#32 + (∑ i : Fin 4096, k0_pay9 (F := Ideal) q k d v (ix2 (y 0) i) * q (ix2 i (y 1))) * Ideal.ofBits .f32 0x3E000000#32 := by
    unfold k0_pay1 k0_pay5 k0_pay3
    generalize k0_pay9 (F := Ideal) q k d v = p
    idx_vars y
    pointwise []
  rw [h, show (Ideal.ofBits .f32 0x00000000#32 : EReal) = 0 by simp [Ideal.ofBits, Ideal.ieee], zero_add]
  simp only [grads]
  rfl

theorem dvs (q d : FVec Ideal S4096x128 .bf16) (k : FVec Ideal S256x128 .bf16) (y : S256x128.Idx) :
    k0_pay2 (F := Ideal) (k0_pay7 d) (k0_pay8 q k) (k0_pay4 (F := Ideal)) y = ∑ i : Fin 4096, wt (sc q k i) (y 0) * d (ix2 i (y 1)) := by
  have h : k0_pay2 (F := Ideal) (k0_pay7 d) (k0_pay8 q k) (k0_pay4 (F := Ideal)) y
      = Ideal.ofBits .f32 0x00000000#32 + ∑ i : Fin 4096, k0_pay8 (F := Ideal) q k (ix2 (y 0) i) * d (ix2 i (y 1)) := by
    unfold k0_pay2 k0_pay7 k0_pay4
    generalize k0_pay8 (F := Ideal) q k = p
    idx_vars y
    pointwise []
  rw [h, show (Ideal.ofBits .f32 0x00000000#32 : EReal) = 0 by simp [Ideal.ofBits, Ideal.ieee], zero_add]
  simp only [weights]
  rfl

variable (m : (ℓ : Loc nD τ sig) → Buf (Elt Ideal) ℓ)

theorem hz : (![0, 0] : Fin 2 → Nat) = fun _ => 0 := funext fun a => by fin_cases a <;> rfl

/-- What a grid point leaves in the three output blocks. -/
theorem outs (c : Dev nD) (t : Fin cfg0.N) :
    (outsAt0 m c t).1 = k0_pay10 (F := Ideal) (iblk m c 0 t) (iblk m c 1 t) (iblk m c 3 t) (iblk m c 2 t)
      ∧ (outsAt0 m c t).2.1 = k0_pay1 (F := Ideal) (k0_pay5 (iblk m c 0 t)) (k0_pay9 (iblk m c 0 t) (iblk m c 1 t) (iblk m c 3 t) (iblk m c 2 t)) (k0_pay3 (F := Ideal))
      ∧ (outsAt0 m c t).2.2 = k0_pay2 (F := Ideal) (k0_pay7 (iblk m c 3 t)) (k0_pay8 (iblk m c 0 t) (iblk m c 1 t)) (k0_pay4 (F := Ideal)) := by
  unfold outsAt0
  dsimp only
  unfold out0_A_4 out0_A_5 out0_A_6
  rw [View.read_writes_eq_canon _ _ _ (cover0_A_4 c _ _ _ _ _ _ _ _ _ _ _ _ _ _ _ _ _ _ _ _), View.read_writes_eq_canon _ _ _ (cover0_A_5 c _ _ _ _ _ _ _ _ _ _ _ _ _ _ _ _ _ _ _ _), View.read_writes_eq_canon _ _ _ (cover0_A_6 c _ _ _ _ _ _ _ _ _ _ _ _ _ _ _ _ _ _ _ _)]
  unfold kernelRun0_A
  dsimp only
  sl_unfold_words
  rw [View.canon_unit_zero (S := S4096x128) hz, View.canon_cons_unit_zero (S := S256x128) hz, View.canon_cons_unit_zero (S := S256x128) hz, View.readCov_unit_zero (S := S256x128) _ hz, View.readCov_unit_zero (S := S256x128) _ hz]
  simp only [View.readAt_eq_ld, (hs0_0 t).read_unread, (hs0_1 t).read_unread, (hs0_2 t).read_unread, (hs0_3 t).read_unread, View.ld_unit_zero (S := S4096x128) hz, View.ld_unit_zero (S := S256x128) hz]
  refine ⟨?_, ?_, ?_⟩ <;> first | trivial | rfl

end Cert.Kernel6Ideal.Cross

end
-- ==== Proof.Cross.Ref.lean ====
module

public import proofs.«01_k».proof.Proof.Cross.Model
public import proofs.«01_k».proof.Proof.Gen.Reference6Ideal.Read
public import Idealize.ShloMosaic.Lib.KernelVsHost

/-! The plain gradient of the attention over the memory slots, one operation after the other. -/

@[expose] public section

set_option maxRecDepth 16384

noncomputable section

namespace Cert.Reference6Ideal.Cross

open Cert.Reference6Ideal Cert.Reference6Ideal.Gen Cert.Reference6Ideal.Read
open Idealize.ShloMosaic
open Cert.Cross
open ValueIdx (ix2 ix3)

variable (x0 : FVec Ideal S4096x1536 .f32) (x1 : FVec Ideal S256x512 .f32) (x2 : FVec Ideal S4096x1024 .f32)

/-- A head's queries. -/
def qe (h : Fin 4) (i : Fin 4096) (x : Fin 64) : EReal := x0 (ix2 i ⟨1280 + 64 * h.val + x.val, by omega⟩)

/-- A head's keys. -/
def ke (h : Fin 4) (j : Fin 256) (x : Fin 64) : EReal := x1 (ix2 j ⟨64 * h.val + x.val, by omega⟩)

/-- A head's values. -/
def ve (h : Fin 4) (j : Fin 256) (x : Fin 64) : EReal := x1 (ix2 j ⟨256 + 64 * h.val + x.val, by omega⟩)

/-- The cotangent of a head's output. -/
def de (h : Fin 4) (i : Fin 4096) (x : Fin 64) : EReal := x2 (ix2 i ⟨768 + 64 * h.val + x.val, by omega⟩)

/-- A query's scores. -/
def score (h : Fin 4) (i : Fin 4096) (j : Fin 256) : EReal := (∑ x, qe x0 h i x * ke x1 h j x) * Ideal.ofBits .f32 0x3E000000#32

/-- The gradient of a query's weights. -/
def dwt (h : Fin 4) (i : Fin 4096) (j : Fin 256) : EReal := ∑ x, de x2 h i x * ve x1 h j x

theorem zero_word : (Ideal.ofBits .f32 0x00000000#32 : EReal) = 0 := by
  simp [Ideal.ofBits, Ideal.ieee]

theorem bot_word : (Ideal.ofBits .f32 0xFF800000#32 : EReal) = ⊥ := by
  simp [Ideal.ofBits, Ideal.ieee]

theorem one_word : (Ideal.ofBits .f32 0x3F800000#32 : EReal) = 1 := by
  simp [Ideal.ofBits, Ideal.ieee, -EReal.coe_mul]
  norm_num

/-- A head's feature is a column. -/
theorem flat (n h x : ℕ) (hh : h < 4) (hx : x < 64) : ((n * 4 + h) * 64 + x) / 256 = n ∧ ((n * 4 + h) * 64 + x) % 256 = 64 * h + x
    ∧ ((n * 4 + h) * 64 + x) / 64 % 4 = h ∧ ((n * 4 + h) * 64 + x) % 64 = x := by omega

theorem at_v2 (y : S4096x4x64.Idx) : val_main_v2 (F := Ideal) x0 y = qe x0 (y 1) (y 0) (y 2) := by
  have e1 : (y 1).val < 4 := (y 1).isLt
  have e2 : (y 2).val < 64 := (y 2).isLt
  obtain ⟨f1, f2, _, _⟩ := flat (y 0).val (y 1).val (y 2).val e1 e2
  refine (val_main_v2_apply (F := Ideal) x0 y).trans ((val_main_v1_apply (F := Ideal) x0 _).trans (congrArg x0 (funext fun a => Fin.ext ?_)))
  match a with
  | ⟨0, _⟩ => exact f1
  | ⟨1, _⟩ => exact (congrArg (1280 + ·) f2).trans (Nat.add_assoc _ _ _).symm

theorem at_v41 (y : S4096x4x64.Idx) : val_main_v41 (F := Ideal) x2 y = de x2 (y 1) (y 0) (y 2) := by
  have e1 : (y 1).val < 4 := (y 1).isLt
  have e2 : (y 2).val < 64 := (y 2).isLt
  obtain ⟨f1, f2, _, _⟩ := flat (y 0).val (y 1).val (y 2).val e1 e2
  refine (val_main_v41_apply (F := Ideal) x2 y).trans ((val_main_v40_apply (F := Ideal) x2 _).trans (congrArg x2 (funext fun a => Fin.ext ?_)))
  match a with
  | ⟨0, _⟩ => exact f1
  | ⟨1, _⟩ => exact (congrArg (768 + ·) f2).trans (Nat.add_assoc _ _ _).symm

theorem at_v4 (y : S256x4x64.Idx) : val_main_v4 (F := Ideal) x1 y = ke x1 (y 1) (y 0) (y 2) := by
  have e0 : (y 0).val < 256 := (y 0).isLt
  have e1 : (y 1).val < 4 := (y 1).isLt
  have e2 : (y 2).val < 64 := (y 2).isLt
  obtain ⟨f1, _, f3, f4⟩ := flat (y 0).val (y 1).val (y 2).val e1 e2
  refine (val_main_v4_apply (F := Ideal) x1 y).trans ((val_main_v3_apply (F := Ideal) x1 _).trans ((val_main_v0_apply (F := Ideal) x1 _).trans (congrArg x1 (funext fun a => Fin.ext ?_))))
  match a with
  | ⟨0, _⟩ =>
    show ((((((y 0).val * 4 + (y 1).val) * 64 + (y 2).val) / 256 * 2 + 0) * 4 + (((y 0).val * 4 + (y 1).val) * 64 + (y 2).val) / 64 % 4) * 64 + (((y 0).val * 4 + (y 1).val) * 64 + (y 2).val) % 64) / 512 = (y 0).val
    rw [f1, f3, f4]; omega
  | ⟨1, _⟩ =>
    show ((((((y 0).val * 4 + (y 1).val) * 64 + (y 2).val) / 256 * 2 + 0) * 4 + (((y 0).val * 4 + (y 1).val) * 64 + (y 2).val) / 64 % 4) * 64 + (((y 0).val * 4 + (y 1).val) * 64 + (y 2).val) % 64) % 512 = 64 * (y 1).val + (y 2).val
    rw [f1, f3, f4]; omega

theorem at_v6 (y : S256x4x64.Idx) : val_main_v6 (F := Ideal) x1 y = ve x1 (y 1) (y 0) (y 2) := by
  have e0 : (y 0).val < 256 := (y 0).isLt
  have e1 : (y 1).val < 4 := (y 1).isLt
  have e2 : (y 2).val < 64 := (y 2).isLt
  obtain ⟨f1, _, f3, f4⟩ := flat (y 0).val (y 1).val (y 2).val e1 e2
  refine (val_main_v6_apply (F := Ideal) x1 y).trans ((val_main_v5_apply (F := Ideal) x1 _).trans ((val_main_v0_apply (F := Ideal) x1 _).trans (congrArg x1 (funext fun a => Fin.ext ?_))))
  match a with
  | ⟨0, _⟩ =>
    show ((((((y 0).val * 4 + (y 1).val) * 64 + (y 2).val) / 256 * 2 + (1 + 0)) * 4 + (((y 0).val * 4 + (y 1).val) * 64 + (y 2).val) / 64 % 4) * 64 + (((y 0).val * 4 + (y 1).val) * 64 + (y 2).val) % 64) / 512 = (y 0).val
    rw [f1, f3, f4]; omega
  | ⟨1, _⟩ =>
    show ((((((y 0).val * 4 + (y 1).val) * 64 + (y 2).val) / 256 * 2 + (1 + 0)) * 4 + (((y 0).val * 4 + (y 1).val) * 64 + (y 2).val) / 64 % 4) * 64 + (((y 0).val * 4 + (y 1).val) * 64 + (y 2).val) % 64) % 512 = 256 + 64 * (y 1).val + (y 2).val
    rw [f1, f3, f4]; omega

theorem at_v9 (y : S4x4096x256.Idx) : val_main_v9 (F := Ideal) x0 x1 y = score x0 x1 (y 0) (y 1) (y 2) := by
  refine (val_main_v9_apply (F := Ideal) x0 x1 y).trans (congrArg₂ (fun a b : EReal => a * b) ?_ ?_)
  · exact (val_main_v7_apply x0 x1 y).trans (Finset.sum_congr rfl fun x _ => congrArg₂ (fun a b : EReal => a * b) (at_v2 x0 _) (at_v4 x1 _))
  · exact val_main_v8_apply (F := Ideal) y

theorem at_v43 (y : S4x4096x256.Idx) : val_main_v43 (F := Ideal) x1 x2 y = dwt x1 x2 (y 0) (y 1) (y 2) :=
  (val_main_v43_apply x1 x2 y).trans (Finset.sum_congr rfl fun x _ => congrArg₂ (fun a b : EReal => a * b) ((val_main_v42_apply (F := Ideal) x2 _).trans (at_v41 x2 _)) (at_v6 x1 _))

theorem at_v10 (y : S4x4096.Idx) : val_main_v10 (F := Ideal) x0 x1 y = top (score x0 x1 (y 0) (y 1)) := by
  unfold val_main_v10
  rw [Host.reduce_eq_fold_single (FloatOps.maximumf (F := Ideal) (φ := .f32)) _ _ _ (by decide) h_S_]
  show Finset.fold max (Ideal.ofBits .f32 0xFF800000#32 : EReal) _ _ = _
  rw [bot_word]
  exact congrArg (fun f => Finset.fold max (⊥ : EReal) f Finset.univ) (funext fun j => at_v9 x0 x1 _)

theorem at_v30 (y : S4x4096x256.Idx) : val_main_v30 (F := Ideal) x0 x1 y = ex (score x0 x1 (y 0) (y 1)) (y 2) := by
  refine (val_main_v30_apply (F := Ideal) x0 x1 y).trans ?_
  refine congrArg Ideal.exp ((val_main_v29_apply (F := Ideal) x0 x1 y).trans (congrArg₂ (fun a b : EReal => a - b) (at_v9 x0 x1 y) ?_))
  refine (val_main_v28_apply (F := Ideal) x0 x1 y).trans ((val_main_v27_apply (F := Ideal) x0 x1 _).trans ((val_main_v17_apply (F := Ideal) x0 x1 _).trans ?_))
  refine (congrArg₂ (fun a b : EReal => max a b) ((val_main_v16_apply (F := Ideal) _).trans bot_word) (at_v10 x0 x1 _)).trans (max_eq_right bot_le)

theorem at_v32 (y : S4x4096x1.Idx) : val_main_v32 (F := Ideal) x0 x1 y = tot (score x0 x1 (y 0) (y 1)) := by
  refine (val_main_v32_apply (F := Ideal) x0 x1 y).trans ((val_main_v31_apply x0 x1 _).trans ?_)
  refine (congrArg₂ (fun a b : EReal => a + b) (zero_word) (Finset.sum_congr rfl fun j _ => at_v30 x0 x1 _)).trans (zero_add _)

theorem at_v34 (y : S4x4096x256.Idx) : val_main_v34 (F := Ideal) x0 x1 y = wt (score x0 x1 (y 0) (y 1)) (y 2) :=
  (val_main_v34_apply (F := Ideal) x0 x1 y).trans (congrArg₂ Ideal.div (at_v30 x0 x1 y) ((val_main_v33_apply (F := Ideal) x0 x1 y).trans (at_v32 x0 x1 _)))

theorem at_v37 (y : S4x4096x1.Idx) : val_main_v37 (F := Ideal) x0 x1 y = Ideal.div 1 (tot (score x0 x1 (y 0) (y 1)) * tot (score x0 x1 (y 0) (y 1))) := by
  refine (val_main_v37_apply (F := Ideal) x0 x1 y).trans (congrArg₂ Ideal.div ((val_main_v36_apply (F := Ideal) y).trans one_word) ?_)
  exact (val_main_v35_apply (F := Ideal) x0 x1 y).trans (congrArg₂ (fun a b : EReal => a * b) (at_v32 x0 x1 y) (at_v32 x0 x1 y))

theorem at_v49 (y : S4x4096.Idx) : val_main_v49 (F := Ideal) x0 x1 x2 y
    = ∑ j, dwt x1 x2 (y 0) (y 1) j * Ideal.div 1 (tot (score x0 x1 (y 0) (y 1)) * tot (score x0 x1 (y 0) (y 1))) * ex (score x0 x1 (y 0) (y 1)) j := by
  refine (val_main_v49_apply x0 x1 x2 y).trans ((congrArg₂ (fun a b : EReal => a + b) zero_word (Finset.sum_congr rfl fun j _ => ?_)).trans (zero_add _))
  refine (val_main_v48_apply (F := Ideal) x0 x1 x2 _).trans (congrArg₂ (fun a b : EReal => a * b) ?_ (at_v30 x0 x1 _))
  exact (val_main_v47_apply (F := Ideal) x0 x1 x2 _).trans (congrArg₂ (fun a b : EReal => a * b) (at_v43 x1 x2 _) ((val_main_v46_apply (F := Ideal) x0 x1 _).trans (at_v37 x0 x1 _)))

theorem at_v51 (y : S4x4096x1.Idx) : val_main_v51 (F := Ideal) x0 x1 x2 y
    = -∑ j, dwt x1 x2 (y 0) (y 1) j * Ideal.div 1 (tot (score x0 x1 (y 0) (y 1)) * tot (score x0 x1 (y 0) (y 1))) * ex (score x0 x1 (y 0) (y 1)) j := by
  have e0 : (y 0).val < 4 := (y 0).isLt
  have e1 : (y 1).val < 4096 := (y 1).isLt
  have e2 : (y 2).val < 1 := (y 2).isLt
  refine (val_main_v51_apply (F := Ideal) x0 x1 x2 y).trans (congrArg (fun a : EReal => -a) ((val_main_v50_apply (F := Ideal) x0 x1 x2 y).trans ?_))
  rw [show idx_main_v50 y = (ix2 (y 0) (y 1) : S4x4096.Idx) from funext fun a => Fin.ext (match a with
    | ⟨0, _⟩ => by show (((y 0).val * 4096 + (y 1).val) * 1 + (y 2).val) / 4096 = (y 0).val; omega
    | ⟨1, _⟩ => by show (((y 0).val * 4096 + (y 1).val) * 1 + (y 2).val) % 4096 = (y 1).val; omega)]
  exact at_v49 x0 x1 x2 _

theorem at_v57 (y : S4x4096x256.Idx) : val_main_v57 (F := Ideal) x0 x1 x2 y = quot (score x0 x1 (y 0) (y 1)) (dwt x1 x2 (y 0) (y 1)) (y 2) := by
  refine (val_main_v57_apply (F := Ideal) x0 x1 x2 y).trans (congrArg₂ (fun a b : EReal => a * b) ?_ (at_v30 x0 x1 y))
  refine (val_main_v56_apply (F := Ideal) x0 x1 x2 y).trans (congrArg₂ (fun a b : EReal => a + b) ?_ ?_)
  · exact (val_main_v53_apply (F := Ideal) x0 x1 x2 y).trans (congrArg₂ Ideal.div (at_v43 x1 x2 y) ((val_main_v52_apply (F := Ideal) x0 x1 y).trans (at_v32 x0 x1 _)))
  · refine (val_main_v55_apply (F := Ideal) x0 x1 x2 y).trans ((val_main_v54_apply x0 x1 x2 _).trans ((congrArg₂ (fun a b : EReal => a + b) zero_word (Fin.sum_univ_one _)).trans ((zero_add _).trans ?_)))
    exact at_v51 x0 x1 x2 _

theorem at_v59 (y : S4x4096x256.Idx) : val_main_v59 (F := Ideal) x0 x1 x2 y
    = quot (score x0 x1 (y 0) (y 1)) (dwt x1 x2 (y 0) (y 1)) (y 2) * Ideal.ofBits .f32 0x3E000000#32 :=
  (val_main_v59_apply (F := Ideal) x0 x1 x2 y).trans (congrArg₂ (fun a b : EReal => a * b) (at_v57 x0 x1 x2 y) (val_main_v58_apply (F := Ideal) y))

/-- The gradient of the queries. -/
def gq (h : Fin 4) (i : Fin 4096) (x : Fin 64) : EReal := ∑ j, quot (score x0 x1 h i) (dwt x1 x2 h i) j * Ideal.ofBits .f32 0x3E000000#32 * ke x1 h j x

/-- The gradient of the keys. -/
def gk (h : Fin 4) (j : Fin 256) (x : Fin 64) : EReal := ∑ i, quot (score x0 x1 h i) (dwt x1 x2 h i) j * Ideal.ofBits .f32 0x3E000000#32 * qe x0 h i x

/-- The gradient of the values. -/
def gv (h : Fin 4) (j : Fin 256) (x : Fin 64) : EReal := ∑ i, de x2 h i x * wt (score x0 x1 h i) j

theorem at_v63 (y : S4096x4x64.Idx) : val_main_v63 (F := Ideal) x0 x1 x2 y = gq x0 x1 x2 (y 1) (y 0) (y 2) :=
  (val_main_v63_apply (F := Ideal) x0 x1 x2 y).trans ((val_main_v62_apply x0 x1 x2 _).trans
    (Finset.sum_congr rfl fun j _ => congrArg₂ (fun a b : EReal => a * b) (at_v59 x0 x1 x2 _) (at_v4 x1 _)))

theorem at_v61 (y : S256x4x64.Idx) : val_main_v61 (F := Ideal) x0 x1 x2 y = gk x0 x1 x2 (y 1) (y 0) (y 2) :=
  (val_main_v61_apply (F := Ideal) x0 x1 x2 y).trans ((val_main_v60_apply x0 x1 x2 _).trans
    (Finset.sum_congr rfl fun i _ => congrArg₂ (fun a b : EReal => a * b) (at_v59 x0 x1 x2 _) (at_v2 x0 _)))

theorem at_v45 (y : S256x4x64.Idx) : val_main_v45 (F := Ideal) x0 x1 x2 y = gv x0 x1 x2 (y 1) (y 0) (y 2) :=
  (val_main_v45_apply (F := Ideal) x0 x1 x2 y).trans ((val_main_v44_apply x0 x1 x2 _).trans
    (Finset.sum_congr rfl fun i _ => congrArg₂ (fun a b : EReal => a * b) ((val_main_v42_apply (F := Ideal) x2 _).trans (at_v41 x2 _)) (at_v34 x0 x1 _)))

/-- The features of each head in its slot of columns, zeros after them. -/
def slot {n : ℕ} (f : Fin 4 → Fin n → Fin 64 → EReal) (h : Fin 4) (i : Fin n) (x : ℕ) : EReal := if hx : x < 64 then f h i ⟨x, hx⟩ else 0

theorem zero_int : (sitofp .f32 (constantI (⟨0, ![]⟩ : Shape) 32 0#32) : FVec Ideal ⟨0, ![]⟩ .f32) = fun _ => 0 := by
  funext i
  show (((0#32 : BitVec 32).toInt : ℝ) : EReal) = _
  simp

theorem slots {n : ℕ} {X : FVec Ideal ⟨3, ![n, 4, 64]⟩ .f32} {f : Fin 4 → Fin n → Fin 64 → EReal} (hX : ∀ y : (⟨3, ![n, 4, 64]⟩ : Shape).Idx, X y = f (y 1) (y 0) (y 2)) {v : FVec Ideal ⟨0, ![]⟩ .f32}
    (hv : v = fun _ => 0)
    (hp : Shape.Pads (⟨3, ![n, 4, 64]⟩ : Shape) ![0, 0, 0] ![0, 0, 64] ![0, 0, 0] ⟨3, ![n, 4, 128]⟩) (hu : 0 < (⟨0, ![]⟩ : Shape).numel)
    (hc : (⟨3, ![n, 4, 128]⟩ : Shape).ShapeCasts ⟨2, ![n, 512]⟩) (y : (⟨2, ![n, 512]⟩ : Shape).Idx) (h : Fin 4) (x : ℕ) (hx : x < 128) (e : (y 1).val = 128 * h.val + x) :
    shapeCast (⟨2, ![n, 512]⟩ : Shape) (pad (⟨3, ![n, 4, 128]⟩ : Shape) ![0, 0, 0] ![0, 0, 64] ![0, 0, 0] X v hp hu) hc y = slot f h (y 0) x := by
  rw [shapeCast_apply _ hc y (ix3 (y 0) h ⟨x, hx⟩)
    (by rw [Shape.rowMajor_val_three, Shape.rowMajor_val_two]; show ((y 0).val * 4 + h.val) * 128 + x = (y 0).val * 512 + (y 1).val; omega)]
  unfold slot
  split_ifs with hb
  · rw [pad_apply_of_inside ![0, 0, 0] ![0, 0, 64] ![0, 0, 0] X v hp hu _ (ix3 (y 0) h ⟨x, hb⟩) (fun a => by fin_cases a <;> simp), hX]
    rfl
  · rw [pad_apply_of_not_inside ![0, 0, 0] ![0, 0, 64] ![0, 0, 0] X v hp hu _ 2 (by
      have e2 : ((ix3 (y 0) h ⟨x, hx⟩ : (⟨3, ![n, 4, 128]⟩ : Shape).Idx) 2).val = x := rfl
      simpa [e2] using fun _ => hb), hv]

theorem at_v66 (y : S4096x512.Idx) (h : Fin 4) (x : ℕ) (hx : x < 128) (e : (y 1).val = 128 * h.val + x) : val_main_v66 (F := Ideal) x0 x1 x2 y = slot (gq x0 x1 x2) h (y 0) x :=
  slots (at_v63 x0 x1 x2) zero_int pads_S4096x4x64_S4096x4x128_000_000_0640 h_S_ shapeCasts_S4096x4x128_S4096x512 y h x hx e

theorem at_v68 (y : S256x512.Idx) (h : Fin 4) (x : ℕ) (hx : x < 128) (e : (y 1).val = 128 * h.val + x) : val_main_v68 (F := Ideal) x0 x1 x2 y = slot (gk x0 x1 x2) h (y 0) x :=
  slots (at_v61 x0 x1 x2) zero_int pads_S256x4x64_S256x4x128_000_000_0640 h_S_ shapeCasts_S256x4x128_S256x512 y h x hx e

theorem at_v70 (y : S256x512.Idx) (h : Fin 4) (x : ℕ) (hx : x < 128) (e : (y 1).val = 128 * h.val + x) : val_main_v70 (F := Ideal) x0 x1 x2 y = slot (gv x0 x1 x2) h (y 0) x :=
  slots (at_v45 x0 x1 x2) zero_int pads_S256x4x64_S256x4x128_000_000_0640 h_S_ shapeCasts_S256x4x128_S256x512 y h x hx e

end Cert.Reference6Ideal.Cross

end
-- ==== Proof.Cross.Host.lean ====
module

public import proofs.«01_k».proof.Proof.Cross.Tiles
public import proofs.«01_k».proof.Proof.Cross.Ref
public import Idealize.ShloMosaic.Lib.Pointwise
public import Idealize.ShloMosaic.Lib.Pipeline.ValueKit
public import Idealize.ShloMosaic.Lib.StableHlo.ReadAt

/-! The blocks of the attention over the memory slots: each head's features, padded with zeros to 128. -/

@[expose] public section

set_option maxRecDepth 16384

noncomputable section

namespace Cert.Kernel6Ideal.Cross

open Cert.Kernel6Ideal Cert.Kernel6Ideal.Gen
open Idealize.ShloMosaic Idealize.ShloMosaic.TcCoe
open Cert.Cross
open Cert.Reference6Ideal.Cross (qe ke ve de score dwt slot zero_int)

variable (m : (ℓ : Loc nD τ sig) → Buf (Elt Ideal) ℓ)

/-- An array whose heads of 64 columns are padded to 128. -/
theorem padded {n H C D : ℕ} (hC : C = H * 64) (hD : D = H * 128) (X : FVec Ideal ⟨2, ![n, C]⟩ .f32) {v : FVec Ideal ⟨0, ![]⟩ .f32} (hv : v = fun _ => 0)
    (h1 : (⟨2, ![n, C]⟩ : Shape).ShapeCasts ⟨3, ![n, H, 64]⟩)
    (hp : Shape.Pads (⟨3, ![n, H, 64]⟩ : Shape) ![0, 0, 0] ![0, 0, 64] ![0, 0, 0] ⟨3, ![n, H, 128]⟩) (hu : 0 < (⟨0, ![]⟩ : Shape).numel)
    (h2 : (⟨3, ![n, H, 128]⟩ : Shape).ShapeCasts ⟨2, ![n, D]⟩) (y : (⟨2, ![n, D]⟩ : Shape).Idx) (i : Fin n) (g : Fin H) (x : ℕ) (hx : x < 128)
    (e0 : (y 0).val = i.val) (e1 : (y 1).val = 128 * g.val + x) :
    shapeCast (⟨2, ![n, D]⟩ : Shape) (pad (⟨3, ![n, H, 128]⟩ : Shape) ![0, 0, 0] ![0, 0, 64] ![0, 0, 0] (shapeCast (⟨3, ![n, H, 64]⟩ : Shape) X h1) v hp hu) h2 y
      = if hb : x < 64 then X (ix2 i ⟨64 * g.val + x, by omega⟩) else 0 := by
  subst hC hD
  rw [shapeCast_apply _ h2 y (ix3 i g ⟨x, hx⟩)
    (by rw [Shape.rowMajor_val_three, Shape.rowMajor_val_two]; show (i.val * H + g.val) * 128 + x = (y 0).val * (H * 128) + (y 1).val; rw [e0, e1]; ring)]
  split_ifs with hb
  · rw [pad_apply_of_inside ![0, 0, 0] ![0, 0, 64] ![0, 0, 0] _ v hp hu _ (ix3 i g ⟨x, hb⟩) (fun a => by fin_cases a <;> simp)]
    exact shapeCast_apply X h1 _ _ (by rw [Shape.rowMajor_val_three, Shape.rowMajor_val_two]; show i.val * (H * 64) + (64 * g.val + x) = (i.val * H + g.val) * 64 + x; ring)
  · rw [pad_apply_of_not_inside ![0, 0, 0] ![0, 0, 64] ![0, 0, 0] (shapeCast (⟨3, ![n, H, 64]⟩ : Shape) X h1) v hp hu _ 2 (by
      have e2 : ((ix3 i g ⟨x, hx⟩ : (⟨3, ![n, H, 128]⟩ : Shape).Idx) 2).val = x := rfl
      simpa [e2] using fun _ => hb), hv]

theorem arg0 (c : Dev nD) : V m c main_v3 = truncf (F := Ideal) .bf16 (shapeCast S4096x3072 (pad S4096x24x128 ![0, 0, 0] ![0, 0, 64] ![0, 0, 0]
    (shapeCast S4096x24x64 (m ((c : Thread nD τ).loc main_arg0) : FVec Ideal S4096x1536 .f32) shapeCasts_S4096x1536_S4096x24x64)
    (sitofp .f32 (constantI S_ 32 0#32)) pads_S4096x24x64_S4096x24x128_000_000_0640 h_S_) shapeCasts_S4096x24x128_S4096x3072) bitsLt_bf16_f32 := by
  simp only [V, hostOps0, hostOps0_1, hostOps0_2, hostOps0_3, hostOps0_4, hostOps0_5, hostOps0_6, List.flatten_cons, List.flatten_nil, List.append_nil, List.cons_append, List.nil_append]
  after_reads_simp
  rfl

theorem arg1 (c : Dev nD) : V m c main_v7 = truncf (F := Ideal) .bf16 (shapeCast S256x1024 (pad S256x8x128 ![0, 0, 0] ![0, 0, 64] ![0, 0, 0]
    (shapeCast S256x8x64 (m ((c : Thread nD τ).loc main_arg1) : FVec Ideal S256x512 .f32) shapeCasts_S256x512_S256x8x64)
    (sitofp .f32 (constantI S_ 32 0#32)) pads_S256x8x64_S256x8x128_000_000_0640 h_S_) shapeCasts_S256x8x128_S256x1024) bitsLt_bf16_f32 := by
  simp only [V, hostOps0, hostOps0_1, hostOps0_2, hostOps0_3, hostOps0_4, hostOps0_5, hostOps0_6, List.flatten_cons, List.flatten_nil, List.append_nil, List.cons_append, List.nil_append]
  after_reads_simp
  rfl

theorem arg2 (c : Dev nD) : V m c main_v11 = truncf (F := Ideal) .bf16 (shapeCast S4096x2048 (pad S4096x16x128 ![0, 0, 0] ![0, 0, 64] ![0, 0, 0]
    (shapeCast S4096x16x64 (m ((c : Thread nD τ).loc main_arg2) : FVec Ideal S4096x1024 .f32) shapeCasts_S4096x1024_S4096x16x64)
    (sitofp .f32 (constantI S_ 32 0#32)) pads_S4096x16x64_S4096x16x128_000_000_0640 h_S_) shapeCasts_S4096x16x128_S4096x2048) bitsLt_bf16_f32 := by
  simp only [V, hostOps0, hostOps0_1, hostOps0_2, hostOps0_3, hostOps0_4, hostOps0_5, hostOps0_6, List.flatten_cons, List.flatten_nil, List.append_nil, List.cons_append, List.nil_append]
  after_reads_simp
  rfl

theorem idx : ∀ t : Fin cfg0.N, win0_0.index t = ![0, 20 + t.val] ∧ win0_1.index t = ![0, t.val] ∧ win0_2.index t = ![0, 4 + t.val] ∧ win0_3.index t = ![0, 12 + t.val]
    ∧ win0_4.index t = ![0, t.val] ∧ win0_5.index t = ![0, t.val] ∧ win0_6.index t = ![0, t.val] :=
  (by decide +kernel : ∀ t : Fin grid0.N, _)

theorem four (t : Fin cfg0.N) : t.val < 4 := lt_of_lt_of_eq t.isLt (by decide +kernel : cfg0.N = 4)

/-- The head of a grid point. -/
def head (t : Fin cfg0.N) : Fin 4 := ⟨t.val, four t⟩

theorem blk0 (c : Dev nD) (t : Fin cfg0.N) (i : Fin 4096) (x : Fin 128) :
    iblk m c 0 t (ix2 i x) = slot (qe (m ((c : Thread nD τ).loc main_arg0))) (head t) i x.val := by
  have ht := four t
  refine (congrFun (arg0 m c) (((cfg0.win 0).blk t).view.emb (ix2 i x))).trans ?_
  refine (padded (n := 4096) (H := 24) rfl rfl (m ((c : Thread nD τ).loc main_arg0) : FVec Ideal S4096x1536 .f32) zero_int shapeCasts_S4096x1536_S4096x24x64 pads_S4096x24x64_S4096x24x128_000_000_0640 h_S_ shapeCasts_S4096x24x128_S4096x3072
    (((cfg0.win 0).blk t).view.emb (ix2 i x)) i ⟨20 + t.val, by omega⟩ x.val x.isLt ?_ ?_).trans ?_
  · blk_simp [idx t]
  · blk_simp [idx t]; simp [mul_comm]
  · unfold slot qe
    split_ifs with hb
    · refine congrArg _ (funext fun a => Fin.ext ?_)
      fin_cases a
      · rfl
      · show 64 * (20 + t.val) + x.val = 1280 + 64 * t.val + x.val; omega
    · rfl

theorem blk1 (c : Dev nD) (t : Fin cfg0.N) (j : Fin 256) (x : Fin 128) :
    iblk m c 1 t (ix2 j x) = slot (ke (m ((c : Thread nD τ).loc main_arg1))) (head t) j x.val := by
  have ht := four t
  refine (congrFun (arg1 m c) (((cfg0.win 1).blk t).view.emb (ix2 j x))).trans ?_
  refine (padded (n := 256) (H := 8) rfl rfl (m ((c : Thread nD τ).loc main_arg1) : FVec Ideal S256x512 .f32) zero_int shapeCasts_S256x512_S256x8x64 pads_S256x8x64_S256x8x128_000_000_0640 h_S_ shapeCasts_S256x8x128_S256x1024
    (((cfg0.win 1).blk t).view.emb (ix2 j x)) j ⟨t.val, by omega⟩ x.val x.isLt ?_ ?_).trans ?_
  · blk_simp [idx t]
  · blk_simp [idx t]; simp [mul_comm]
  · rfl

theorem blk2 (c : Dev nD) (t : Fin cfg0.N) (j : Fin 256) (x : Fin 128) :
    iblk m c 2 t (ix2 j x) = slot (ve (m ((c : Thread nD τ).loc main_arg1))) (head t) j x.val := by
  have ht := four t
  refine (congrFun (arg1 m c) (((cfg0.win 2).blk t).view.emb (ix2 j x))).trans ?_
  refine (padded (n := 256) (H := 8) rfl rfl (m ((c : Thread nD τ).loc main_arg1) : FVec Ideal S256x512 .f32) zero_int shapeCasts_S256x512_S256x8x64 pads_S256x8x64_S256x8x128_000_000_0640 h_S_ shapeCasts_S256x8x128_S256x1024
    (((cfg0.win 2).blk t).view.emb (ix2 j x)) j ⟨4 + t.val, by omega⟩ x.val x.isLt ?_ ?_).trans ?_
  · blk_simp [idx t]
  · blk_simp [idx t]; simp [mul_comm]
  · unfold slot ve
    split_ifs with hb
    · refine congrArg _ (funext fun a => Fin.ext ?_)
      fin_cases a
      · rfl
      · show 64 * (4 + t.val) + x.val = 256 + 64 * t.val + x.val; omega
    · rfl

theorem blk3 (c : Dev nD) (t : Fin cfg0.N) (i : Fin 4096) (x : Fin 128) :
    iblk m c 3 t (ix2 i x) = slot (de (m ((c : Thread nD τ).loc main_arg2))) (head t) i x.val := by
  have ht := four t
  refine (congrFun (arg2 m c) (((cfg0.win 3).blk t).view.emb (ix2 i x))).trans ?_
  refine (padded (n := 4096) (H := 16) rfl rfl (m ((c : Thread nD τ).loc main_arg2) : FVec Ideal S4096x1024 .f32) zero_int shapeCasts_S4096x1024_S4096x16x64 pads_S4096x16x64_S4096x16x128_000_000_0640 h_S_ shapeCasts_S4096x16x128_S4096x2048
    (((cfg0.win 3).blk t).view.emb (ix2 i x)) i ⟨12 + t.val, by omega⟩ x.val x.isLt ?_ ?_).trans ?_
  · blk_simp [idx t]
  · blk_simp [idx t]; simp [mul_comm]
  · unfold slot de
    split_ifs with hb
    · refine congrArg _ (funext fun a => Fin.ext ?_)
      fin_cases a
      · rfl
      · show 64 * (12 + t.val) + x.val = 768 + 64 * t.val + x.val; omega
    · rfl

/-- A product of two padded rows is the product of the rows. -/
theorem slots_sum {n l : ℕ} (f : Fin 4 → Fin n → Fin 64 → EReal) (g : Fin 4 → Fin l → Fin 64 → EReal) (h : Fin 4) (i : Fin n) (j : Fin l) :
    ∑ x : Fin 128, slot g h j x.val * slot f h i x.val = ∑ x : Fin 64, f h i x * g h j x := by
  refine sum_half _ _ (fun x => ?_) fun x hx => ?_
  · have hx : x.val < 64 := x.isLt
    show slot g h j x.val * slot f h i x.val = _
    unfold slot
    rw [dif_pos hx, dif_pos hx, mul_comm]
  · unfold slot
    rw [dif_neg (by omega), zero_mul]

theorem scores (c : Dev nD) (t : Fin cfg0.N) (i : Fin 4096) :
    sc (iblk m c 0 t) (iblk m c 1 t) i = score (m ((c : Thread nD τ).loc main_arg0)) (m ((c : Thread nD τ).loc main_arg1)) (head t) i :=
  funext fun j => congrArg (fun a : EReal => a * _) ((Finset.sum_congr rfl fun x _ => congrArg₂ (fun a b : EReal => a * b) (blk1 m c t j x) (blk0 m c t i x)).trans (slots_sum _ _ _ _ _))

theorem products (c : Dev nD) (t : Fin cfg0.N) (i : Fin 4096) :
    dw (iblk m c 2 t) (iblk m c 3 t) i = dwt (m ((c : Thread nD τ).loc main_arg1)) (m ((c : Thread nD τ).loc main_arg2)) (head t) i :=
  funext fun j => (Finset.sum_congr rfl fun x _ => congrArg₂ (fun a b : EReal => a * b) (blk2 m c t j x) (blk3 m c t i x)).trans (slots_sum _ _ _ _ _)

end Cert.Kernel6Ideal.Cross

end
-- ==== Proof.Cross.Final.lean ====
module

public import proofs.«01_k».proof.Proof.Cross.Host

/-! The results of the gradient of the attention over the memory slots, for queries and keys of real numbers. -/

@[expose] public section

set_option maxRecDepth 16384

noncomputable section

namespace Cert.Kernel6Ideal.Cross

open Cert.Kernel6Ideal Cert.Kernel6Ideal.Gen
open Idealize.ShloMosaic Idealize.ShloMosaic.TcCoe
open Cert.Cross
open Cert.Reference6Ideal.Cross (qe ke ve de score dwt slot gq gk gv at_v66 at_v68 at_v70)
open Cert.Reference6Ideal.Read (val_main_v66 val_main_v68 val_main_v70)

variable (m : (ℓ : Loc nD τ sig) → Buf (Elt Ideal) ℓ)

/-- All queries and keys are real numbers. -/
def Reals (x0 : FVec Ideal S4096x1536 .f32) (x1 : FVec Ideal S256x512 .f32) : Prop :=
  (∀ h i x, ((qe x0 h i x).toReal : EReal) = qe x0 h i x) ∧ ∀ h j x, ((ke x1 h j x).toReal : EReal) = ke x1 h j x

/-- Real queries and keys have real scores. -/
theorem score_real {x0 : FVec Ideal S4096x1536 .f32} {x1 : FVec Ideal S256x512 .f32} (hr : Reals x0 x1) (h : Fin 4) (i : Fin 4096) :
    ∃ f : Fin 256 → ℝ, score x0 x1 h i = fun j => (f j : EReal) := by
  refine ⟨fun j => (∑ x, (qe x0 h i x).toReal * (ke x1 h j x).toReal) * (1 / 8), funext fun j => ?_⟩
  unfold score
  rw [scale_word, EReal.coe_mul]
  refine congrArg (fun a : EReal => a * _) (Eq.trans (Finset.sum_congr rfl fun x _ => ?_) (map_sum (⟨⟨Real.toEReal, EReal.coe_zero⟩, EReal.coe_add⟩ : ℝ →+ EReal) _ _).symm)
  rw [← hr.1 h i x, ← hr.2 h j x]
  exact (EReal.coe_mul _ _).symm

/-- The kernel's gradient of the scores is the derivative. -/
theorem grads_eq {x0 : FVec Ideal S4096x1536 .f32} {x1 : FVec Ideal S256x512 .f32} (hr : Reals x0 x1) (x2 : FVec Ideal S4096x1024 .f32) (h : Fin 4) (i : Fin 4096) (j : Fin 256) :
    grad (score x0 x1 h i) (dwt x1 x2 h i) j = quot (score x0 x1 h i) (dwt x1 x2 h i) j := by
  obtain ⟨f, hf⟩ := score_real hr h i
  rw [hf]
  exact grad_eq (n := 255) f _ j

/-- A sum over the padded columns, with the scale. -/
theorem half {l : ℕ} (f : Fin l → EReal) (g : Fin 4 → Fin l → Fin 64 → EReal) (h : Fin 4) (x : ℕ) :
    (∑ j, f j * slot g h j x) * Ideal.ofBits .f32 0x3E000000#32 = if hx : x < 64 then ∑ j, f j * Ideal.ofBits .f32 0x3E000000#32 * g h j ⟨x, hx⟩ else 0 := by
  unfold slot
  split_ifs with hx
  · exact scale_sum _ _
  · rw [Finset.sum_eq_zero fun j _ => mul_zero _, zero_mul]

variable {m} in
theorem block4 (c : Dev nD) (t : Fin cfg0.N) (hr : Reals (m ((c : Thread nD τ).loc main_arg0)) (m ((c : Thread nD τ).loc main_arg1))) (y : S4096x128.Idx) :
    k0_pay10 (F := Ideal) (iblk m c 0 t) (iblk m c 1 t) (iblk m c 3 t) (iblk m c 2 t) y
      = slot (gq (m ((c : Thread nD τ).loc main_arg0)) (m ((c : Thread nD τ).loc main_arg1)) (m ((c : Thread nD τ).loc main_arg2))) (head t) (y 0) (y 1).val := by
  refine (dqs _ _ _ _ y).trans ((congrArg (fun a : EReal => a * _) (Finset.sum_congr rfl fun j _ => congrArg₂ (fun a b : EReal => a * b) ?_ (blk1 m c t j (y 1)))).trans (half _ _ _ _))
  exact (congrArg₂ (fun a b => grad a b j) (scores m c t (y 0)) (products m c t (y 0))).trans (grads_eq hr _ _ _ _)

variable {m} in
theorem block5 (c : Dev nD) (t : Fin cfg0.N) (hr : Reals (m ((c : Thread nD τ).loc main_arg0)) (m ((c : Thread nD τ).loc main_arg1))) (y : S256x128.Idx) :
    k0_pay1 (F := Ideal) (k0_pay5 (iblk m c 0 t)) (k0_pay9 (iblk m c 0 t) (iblk m c 1 t) (iblk m c 3 t) (iblk m c 2 t)) (k0_pay3 (F := Ideal)) y
      = slot (gk (m ((c : Thread nD τ).loc main_arg0)) (m ((c : Thread nD τ).loc main_arg1)) (m ((c : Thread nD τ).loc main_arg2))) (head t) (y 0) (y 1).val := by
  refine (dks _ _ _ _ y).trans ((congrArg (fun a : EReal => a * _) (Finset.sum_congr rfl fun i _ => congrArg₂ (fun a b : EReal => a * b) ?_ (blk0 m c t i (y 1)))).trans (half _ _ _ _))
  exact (congrArg₂ (fun a b => grad a b (y 0)) (scores m c t i) (products m c t i)).trans (grads_eq hr _ _ _ _)

theorem block6 (c : Dev nD) (t : Fin cfg0.N) (y : S256x128.Idx) :
    k0_pay2 (F := Ideal) (k0_pay7 (iblk m c 3 t)) (k0_pay8 (iblk m c 0 t) (iblk m c 1 t)) (k0_pay4 (F := Ideal)) y
      = slot (gv (m ((c : Thread nD τ).loc main_arg0)) (m ((c : Thread nD τ).loc main_arg1)) (m ((c : Thread nD τ).loc main_arg2))) (head t) (y 0) (y 1).val := by
  refine (dvs _ _ _ y).trans ((Finset.sum_congr rfl fun i _ => congrArg₂ (fun a b : EReal => a * b) (congrArg (fun s => wt s (y 0)) (scores m c t i)) (blk3 m c t i (y 1))).trans ?_)
  unfold slot gv
  split_ifs with hx
  · exact Finset.sum_congr rfl fun i _ => mul_comm _ _
  · exact Finset.sum_eq_zero fun i _ => mul_zero _

theorem final4 (c : Dev nD) (hr : Reals (m ((c : Thread nD τ).loc main_arg0)) (m ((c : Thread nD τ).loc main_arg1))) : (dats m 0 c).arrAt 4 cfg0.N
    = val_main_v66 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, (outs m c t).1]
  have e0 : (((cfg0.win 4).blk t).view.emb y) 0 = y 0 := Fin.ext (by blk_simp [idx t])
  refine (block4 c t hr y).trans ((at_v66 _ _ _ (((cfg0.win 4).blk t).view.emb y) (head t) (y 1).val (y 1).isLt ?_).trans (congrArg (fun a => slot _ (head t) a (y 1).val) e0)).symm
  blk_simp [idx t]; simp [head, mul_comm]

theorem final5 (c : Dev nD) (hr : Reals (m ((c : Thread nD τ).loc main_arg0)) (m ((c : Thread nD τ).loc main_arg1))) : (dats m 0 c).arrAt 5 cfg0.N
    = val_main_v68 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5, (outs m c t).2.1]
  have e0 : (((cfg0.win 5).blk t).view.emb y) 0 = y 0 := Fin.ext (by blk_simp [idx t])
  refine (block5 c t hr y).trans ((at_v68 _ _ _ (((cfg0.win 5).blk t).view.emb y) (head t) (y 1).val (y 1).isLt ?_).trans (congrArg (fun a => slot _ (head t) a (y 1).val) e0)).symm
  blk_simp [idx t]; simp [head, mul_comm]

theorem final6 (c : Dev nD) : (dats m 0 c).arrAt 6 cfg0.N
    = val_main_v70 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6, (outs m c t).2.2]
  have e0 : (((cfg0.win 6).blk t).view.emb y) 0 = y 0 := Fin.ext (by blk_simp [idx t])
  refine (block6 m c t y).trans ((at_v70 _ _ _ (((cfg0.win 6).blk t).view.emb y) (head t) (y 1).val (y 1).isLt ?_).trans (congrArg (fun a => slot _ (head t) a (y 1).val) e0)).symm
  blk_simp [idx t]; simp [head, mul_comm]

end Cert.Kernel6Ideal.Cross

end
-- ==== Proof.Cross.Finite.lean ====
module

public import proofs.«01_k».proof.Proof.Cross.Final
public import proofs.«01_k».proof.Proof.Bwd.Finite
public import proofs.«01_k».proof.Proof.Gen.Pre_finite6

/-! Queries and keys of which the precondition holds are real numbers. -/

@[expose] public section

noncomputable section

namespace Cert.Pre_finite6.Real

open Idealize.ShloMosaic Cert.Pre_finite6 Cert.Pre_finite6.Gen
open Cert.Pre_finite.Real (inf_word real_of_lt)
open Cert.Reference6Ideal.Cross (qe ke)

variable {x0 : FVec Ideal S4096x1536 .f32} {x1 : FVec Ideal S256x512 .f32} {x2 : FVec Ideal S4096x1024 .f32}

/-- The queries. -/
def queries (x0 : FVec Ideal S4096x1536 .f32) : FVec Ideal S4096x256 .f32 := extractStridedSlice S4096x256 ![0, 1280] x0 slices_S4096x1536_S4096x256_0_1280

/-- The keys. -/
def keys (x1 : FVec Ideal S256x512 .f32) : FVec Ideal S256x256 .f32 := extractStridedSlice S256x256 ![0, 0] x1 slices_S256x512_S256x256_0_0

/-- The joined queries and keys. -/
def joined (x0 : FVec Ideal S4096x1536 .f32) (x1 : FVec Ideal S256x512 .f32) : FVec Ideal S4352x256 .f32 :=
  concatenate S4352x256 0 [⟨S4096x256, queries x0⟩, ⟨S256x256, keys x1⟩] concatenates_S4096x256_S256x256_S4352x256_d0

theorem joined_real (h : fn (F := Ideal) x0 x1 x2 = fun _ => 1#1) (y : S4352x256.Idx) : (((joined x0 x1 y).toReal : ℝ) : EReal) = joined x0 x1 y := by
  have e := congrFun h y
  unfold fn at e
  change cmpf .olt (Host.absf (joined x0 x1)) _ y = 1#1 at e
  generalize joined x0 x1 = j at e ⊢
  refine real_of_lt _ ?_
  change BitVec.ofBool (decide (max (j y) (-j y) < Ideal.ofBits .f32 0x7F800000#32)) = 1#1 at e
  rw [inf_word] at e
  by_contra hc
  rw [decide_eq_false hc] at e
  exact absurd e (by decide)

theorem joined_query (h : Fin 4) (i : Fin 4096) (x : Fin 64) : joined x0 x1 (ValueIdx.ix2 ⟨0 + i.val, by omega⟩ ⟨64 * h.val + x.val, by omega⟩) = qe x0 h i x := by
  refine (concatenate_apply_piece (t := S4352x256) 0 [⟨S4096x256, queries x0⟩, ⟨S256x256, keys x1⟩] concatenates_S4096x256_S256x256_S4352x256_d0 _ 0 (show 0 < 2 by decide) S4096x256 (queries x0) rfl rfl 0 (by rfl)
    (ValueIdx.ix2 i ⟨64 * h.val + x.val, by omega⟩) (fun b hb => ?_) rfl).trans ?_
  · match b, hb with
    | ⟨0, _⟩, hb => exact absurd rfl hb
    | ⟨1, _⟩, _ => rfl
  · refine extractStridedSlice_apply ![0, 1280] x0 slices_S4096x1536_S4096x256_0_1280 _ _ fun a => ?_
    match a with
    | ⟨0, _⟩ => exact (Nat.zero_add _).symm
    | ⟨1, _⟩ => exact Nat.add_assoc _ _ _

theorem joined_key (h : Fin 4) (j : Fin 256) (x : Fin 64) : joined x0 x1 (ValueIdx.ix2 ⟨4096 + j.val, by omega⟩ ⟨64 * h.val + x.val, by omega⟩) = ke x1 h j x := by
  refine (concatenate_apply_piece (t := S4352x256) 0 [⟨S4096x256, queries x0⟩, ⟨S256x256, keys x1⟩] concatenates_S4096x256_S256x256_S4352x256_d0 _ 1 (show 1 < 2 by decide) S256x256 (keys x1) rfl rfl 4096 (by rfl)
    (ValueIdx.ix2 j ⟨64 * h.val + x.val, by omega⟩) (fun b hb => ?_) rfl).trans ?_
  · match b, hb with
    | ⟨0, _⟩, hb => exact absurd rfl hb
    | ⟨1, _⟩, _ => rfl
  · refine extractStridedSlice_apply ![0, 0] x1 slices_S256x512_S256x256_0_0 _ _ fun a => ?_
    match a with
    | ⟨0, _⟩ => exact (Nat.zero_add _).symm
    | ⟨1, _⟩ => exact (Nat.zero_add _).symm

/-- The precondition makes queries and keys real. -/
theorem reals (h : fn (F := Ideal) x0 x1 x2 = fun _ => 1#1) : Cert.Kernel6Ideal.Cross.Reals x0 x1 :=
  ⟨fun a i x => by rw [← joined_query (x0 := x0) (x1 := x1)]; exact joined_real h _, fun a j x => by rw [← joined_key (x0 := x0) (x1 := x1)]; exact joined_real h _⟩

end Cert.Pre_finite6.Real

end
-- ==== Proof.Cross.Forward.lean ====
module

public import proofs.«01_k».proof.Proof.Cross.Host
public import proofs.«01_k».proof.Proof.Gen.Kernel12Ideal.Value
public import proofs.«01_k».proof.Proof.Gen.Reference12Ideal.Read

/-! The attention over the memory slots, forward: each head's values summed by the weights. -/

@[expose] public section

set_option maxRecDepth 16384

noncomputable section

namespace Cert.Kernel12Ideal.Cross

open Cert.Kernel12Ideal Cert.Kernel12Ideal.Gen
open Idealize.ShloMosaic Idealize.ShloMosaic.TcCoe
open Cert.Cross
open Cert.Reference6Ideal.Cross (qe ke ve score slot slots zero_int)
open Cert.Kernel6Ideal.Cross (sc padded slots_sum)
open Cert.Reference12Ideal.Read

variable (m : (ℓ : Loc nD τ sig) → Buf (Elt Ideal) ℓ)

/-- One block's output, entry by entry. -/
theorem out (q : FVec Ideal S4096x128 .bf16) (k v : FVec Ideal S256x128 .bf16) (y : S4096x128.Idx) :
    k0_pay1 (F := Ideal) k q v y = ∑ j : Fin 256, v (ix2 j (y 1)) * wt (sc q k (y 0)) j := by
  unfold k0_pay1 wt tot ex top sc
  rw [← Cert.Kernel6Ideal.Cross.bot_word]
  idx_vars y
  pointwise []

theorem out3 (x0 : Vec Ideal S4096x128 .bf16) (x1 x2 : Vec Ideal S256x128 .bf16) : out0_3 x0 x1 x2 = k0_pay1 x1 x0 x2 := by
  unfold out0_3
  rw [View.canon_unit_zero (by decide), View.ld_unit_zero (by decide), View.ld_unit_zero (by decide), View.ld_unit_zero (by decide)]

theorem idx : ∀ t : Fin cfg0.N, win0_0.index t = ![0, 20 + t.val] ∧ win0_1.index t = ![0, t.val] ∧ win0_2.index t = ![0, 4 + t.val] ∧ win0_3.index t = ![0, t.val] :=
  (by decide +kernel : ∀ t : Fin grid0.N, _)

theorem four (t : Fin cfg0.N) : t.val < 4 := lt_of_lt_of_eq t.isLt (by decide +kernel : cfg0.N = 4)

/-- The head of a grid point. -/
def head (t : Fin cfg0.N) : Fin 4 := ⟨t.val, four t⟩

theorem arg0 (c : Dev nD) : V m c main_v3 = truncf (F := Ideal) .bf16 (shapeCast S4096x3072 (pad S4096x24x128 ![0, 0, 0] ![0, 0, 64] ![0, 0, 0]
    (shapeCast S4096x24x64 (m ((c : Thread nD τ).loc main_arg0) : FVec Ideal S4096x1536 .f32) shapeCasts_S4096x1536_S4096x24x64)
    (sitofp .f32 (constantI S_ 32 0#32)) pads_S4096x24x64_S4096x24x128_000_000_0640 h_S_) shapeCasts_S4096x24x128_S4096x3072) bitsLt_bf16_f32 := by
  simp only [V, hostOps0, hostOps0_1, hostOps0_2, hostOps0_3, hostOps0_4, List.flatten_cons, List.flatten_nil, List.append_nil, List.cons_append, List.nil_append]
  after_reads_simp
  rfl

theorem arg1 (c : Dev nD) : V m c main_v7 = truncf (F := Ideal) .bf16 (shapeCast S256x1024 (pad S256x8x128 ![0, 0, 0] ![0, 0, 64] ![0, 0, 0]
    (shapeCast S256x8x64 (m ((c : Thread nD τ).loc main_arg1) : FVec Ideal S256x512 .f32) shapeCasts_S256x512_S256x8x64)
    (sitofp .f32 (constantI S_ 32 0#32)) pads_S256x8x64_S256x8x128_000_000_0640 h_S_) shapeCasts_S256x8x128_S256x1024) bitsLt_bf16_f32 := by
  simp only [V, hostOps0, hostOps0_1, hostOps0_2, hostOps0_3, hostOps0_4, List.flatten_cons, List.flatten_nil, List.append_nil, List.cons_append, List.nil_append]
  after_reads_simp
  rfl

theorem blk0 (c : Dev nD) (t : Fin cfg0.N) (i : Fin 4096) (x : Fin 128) :
    iblk m c 0 t (ix2 i x) = slot (qe (m ((c : Thread nD τ).loc main_arg0))) (head t) i x.val := by
  have ht := four t
  refine (congrFun (arg0 m c) (((cfg0.win 0).blk t).view.emb (ix2 i x))).trans ?_
  refine (padded (n := 4096) (H := 24) rfl rfl (m ((c : Thread nD τ).loc main_arg0) : FVec Ideal S4096x1536 .f32) zero_int shapeCasts_S4096x1536_S4096x24x64 pads_S4096x24x64_S4096x24x128_000_000_0640 h_S_ shapeCasts_S4096x24x128_S4096x3072
    (((cfg0.win 0).blk t).view.emb (ix2 i x)) i ⟨20 + t.val, by omega⟩ x.val x.isLt ?_ ?_).trans ?_
  · blk_simp [idx t]
  · blk_simp [idx t]; simp [mul_comm]
  · unfold slot qe
    split_ifs with hb
    · refine congrArg _ (funext fun a => Fin.ext ?_)
      fin_cases a
      · rfl
      · show 64 * (20 + t.val) + x.val = 1280 + 64 * t.val + x.val; omega
    · rfl

theorem blk1 (c : Dev nD) (t : Fin cfg0.N) (j : Fin 256) (x : Fin 128) :
    iblk m c 1 t (ix2 j x) = slot (ke (m ((c : Thread nD τ).loc main_arg1))) (head t) j x.val := by
  have ht := four t
  refine (congrFun (arg1 m c) (((cfg0.win 1).blk t).view.emb (ix2 j x))).trans ?_
  refine (padded (n := 256) (H := 8) rfl rfl (m ((c : Thread nD τ).loc main_arg1) : FVec Ideal S256x512 .f32) zero_int shapeCasts_S256x512_S256x8x64 pads_S256x8x64_S256x8x128_000_000_0640 h_S_ shapeCasts_S256x8x128_S256x1024
    (((cfg0.win 1).blk t).view.emb (ix2 j x)) j ⟨t.val, by omega⟩ x.val x.isLt ?_ ?_).trans ?_
  · blk_simp [idx t]
  · blk_simp [idx t]; simp [mul_comm]
  · rfl

theorem blk2 (c : Dev nD) (t : Fin cfg0.N) (j : Fin 256) (x : Fin 128) :
    iblk m c 2 t (ix2 j x) = slot (ve (m ((c : Thread nD τ).loc main_arg1))) (head t) j x.val := by
  have ht := four t
  refine (congrFun (arg1 m c) (((cfg0.win 2).blk t).view.emb (ix2 j x))).trans ?_
  refine (padded (n := 256) (H := 8) rfl rfl (m ((c : Thread nD τ).loc main_arg1) : FVec Ideal S256x512 .f32) zero_int shapeCasts_S256x512_S256x8x64 pads_S256x8x64_S256x8x128_000_000_0640 h_S_ shapeCasts_S256x8x128_S256x1024
    (((cfg0.win 2).blk t).view.emb (ix2 j x)) j ⟨4 + t.val, by omega⟩ x.val x.isLt ?_ ?_).trans ?_
  · blk_simp [idx t]
  · blk_simp [idx t]; simp [mul_comm]
  · unfold slot ve
    split_ifs with hb
    · refine congrArg _ (funext fun a => Fin.ext ?_)
      fin_cases a
      · rfl
      · show 64 * (4 + t.val) + x.val = 256 + 64 * t.val + x.val; omega
    · rfl

theorem scores (c : Dev nD) (t : Fin cfg0.N) (i : Fin 4096) :
    sc (iblk m c 0 t) (iblk m c 1 t) i = score (m ((c : Thread nD τ).loc main_arg0)) (m ((c : Thread nD τ).loc main_arg1)) (head t) i :=
  funext fun j => congrArg (fun a : EReal => a * _) ((Finset.sum_congr rfl fun x _ => congrArg₂ (fun a b : EReal => a * b) (blk1 m c t j x) (blk0 m c t i x)).trans (slots_sum _ _ _ _ _))

/-- A head's output. -/
def head_out (x0 : FVec Ideal S4096x1536 .f32) (x1 : FVec Ideal S256x512 .f32) (h : Fin 4) (i : Fin 4096) (x : Fin 64) : EReal := ∑ j, ve x1 h j x * wt (score x0 x1 h i) j

/-- The weights are those of the gradient's attention, operation by operation. -/
theorem same (x0 : FVec Ideal S4096x1536 .f32) (x1 : FVec Ideal S256x512 .f32) : val_main_v20 (F := Ideal) x0 x1 = Cert.Reference6Ideal.Read.val_main_v34 (F := Ideal) x0 x1 := rfl

theorem at_v22 (x0 : FVec Ideal S4096x1536 .f32) (x1 : FVec Ideal S256x512 .f32) (y : Cert.Reference12Ideal.S4096x4x64.Idx) : val_main_v22 (F := Ideal) x0 x1 y = head_out x0 x1 (y 1) (y 0) (y 2) :=
  (val_main_v22_apply (F := Ideal) x0 x1 y).trans ((val_main_v21_apply x0 x1 _).trans (Finset.sum_congr rfl fun j _ =>
    congrArg₂ (fun a b : EReal => a * b) (Cert.Reference6Ideal.Cross.at_v6 x1 _) ((congrFun (same x0 x1) _).trans (Cert.Reference6Ideal.Cross.at_v34 x0 x1 _))))

theorem at_v24 (x0 : FVec Ideal S4096x1536 .f32) (x1 : FVec Ideal S256x512 .f32) (y : S4096x512.Idx) (h : Fin 4) (x : ℕ) (hx : x < 128) (e : (y 1).val = 128 * h.val + x) :
    val_main_v25 (F := Ideal) x0 x1 y = slot (head_out x0 x1) h (y 0) x :=
  slots (at_v22 x0 x1) zero_int Cert.Reference12Ideal.Gen.pads_S4096x4x64_S4096x4x128_000_000_0640 h_S_ Cert.Reference12Ideal.Gen.shapeCasts_S4096x4x128_S4096x512 y h x hx e

theorem block3 (c : Dev nD) (t : Fin cfg0.N) (y : S4096x128.Idx) :
    k0_pay1 (F := Ideal) (iblk m c 1 t) (iblk m c 0 t) (iblk m c 2 t) y
      = slot (head_out (m ((c : Thread nD τ).loc main_arg0)) (m ((c : Thread nD τ).loc main_arg1))) (head t) (y 0) (y 1).val := by
  refine (out _ _ _ y).trans ((Finset.sum_congr rfl fun j _ => congrArg₂ (fun a b : EReal => a * b) (blk2 m c t j (y 1)) (congrArg (fun s => wt s j) (scores m c t (y 0)))).trans ?_)
  unfold slot head_out
  split_ifs with hx
  · rfl
  · exact Finset.sum_eq_zero fun i _ => zero_mul _

theorem final3 (c : Dev nD) : (dats m 0 c).arrAt 3 cfg0.N = val_main_v25 (F := Ideal) (m ((c : Thread nD τ).loc main_arg0)) (m ((c : Thread nD τ).loc main_arg1)) := by
  refine (dats m 0 c).arrAt_eq_of_covers 3 _ (by decide +kernel) fun t hf y => ?_
  blk_simp
  rw [after0_3, out3]
  have e0 : (((cfg0.win 3).blk t).view.emb y) 0 = y 0 := Fin.ext (by blk_simp [idx t])
  refine (block3 m c t y).trans ((at_v24 _ _ (((cfg0.win 3).blk t).view.emb y) (head t) (y 1).val (y 1).isLt ?_).trans (congrArg (fun a => slot _ (head t) a (y 1).val) e0)).symm
  blk_simp [idx t]; simp [head, mul_comm]

end Cert.Kernel12Ideal.Cross

end
-- ==== Proof.Out.Slots.lean ====
module

public import Idealize.ShloMosaic.Lib.Pointwise
public import Idealize.ShloMosaic.Lib.Pipeline.ValueKit
public import Idealize.ShloMosaic.Lib.KernelVsHost
public import proofs.«01_k».proof.Proof.Cross.Ref

/-! A product whose heads, 64 columns each, are laid out with 128 columns to a head. -/

@[expose] public section

set_option maxRecDepth 16384

noncomputable section

namespace Cert.Out

open Idealize.ShloMosaic
open Cert.Reference6Ideal.Cross (zero_word)

variable {n C D J : ℕ}

/-- A pair's columns before the 64th. -/
abbrev low (hi : (⟨2, ![n, 128]⟩ : Shape).Iotas .tc 32 [1]) : IVec ⟨2, ![n, 128]⟩ 1 :=
  cmpi .slt (iota .tc ⟨2, ![n, 128]⟩ 32 [1] hi) (broadcast ⟨2, ![n, 128]⟩ 64#32)

theorem low_apply (hi : (⟨2, ![n, 128]⟩ : Shape).Iotas .tc 32 [1]) (y : (⟨2, ![n, 128]⟩ : Shape).Idx) :
    low hi y = if (y 1).val < 64 then 1#1 else 0#1 := by
  have e : (y 1).val < 128 := (y 1).isLt
  exact (by decide +kernel : ∀ x : Fin 128, (Scalar.cmpi .slt (BitVec.ofNat 32 (0 * 128 + x.val)) 64#32 : BitVec 1) = if x.val < 64 then 1#1 else 0#1) ⟨_, e⟩

theorem low_lt (hi : (⟨2, ![n, 128]⟩ : Shape).Iotas .tc 32 [1]) (i : Fin n) (x : Fin 128) (h : x.val < 64) : low hi (ix2 i x) = 1#1 := (low_apply hi _).trans (if_pos h)

theorem low_ge (hi : (⟨2, ![n, 128]⟩ : Shape).Iotas .tc 32 [1]) (i : Fin n) (x : Fin 128) (h : ¬ x.val < 64) : low hi (ix2 i x) = 0#1 := (low_apply hi _).trans (if_neg h)

/-- An even head's columns, zeros after them. -/
abbrev even (o : ℕ) (P : FVec Ideal ⟨2, ![n, C]⟩ .f32) (k : IVec ⟨2, ![n, 128]⟩ 1) (hs : (⟨2, ![n, C]⟩ : Shape).Slices ![0, o] ⟨2, ![n, 128]⟩) : FVec Ideal ⟨2, ![n, 128]⟩ .f32 :=
  select k (extractStridedSlice ⟨2, ![n, 128]⟩ ![0, o] P hs) (broadcast ⟨2, ![n, 128]⟩ (Scalar.ofBits .f32 0x00000000#32))

/-- An odd head's columns, rotated to the front, zeros after them. -/
abbrev odd (o : ℕ) (P : FVec Ideal ⟨2, ![n, C]⟩ .f32) (k : IVec ⟨2, ![n, 128]⟩ 1) (hs : (⟨2, ![n, C]⟩ : Shape).Slices ![0, o] ⟨2, ![n, 128]⟩) (hr : (⟨2, ![n, 128]⟩ : Shape).Rotates 1 none) : FVec Ideal ⟨2, ![n, 128]⟩ .f32 :=
  dynamicRotate 1 64#32 none (select k (broadcast ⟨2, ![n, 128]⟩ (Scalar.ofBits .f32 0x00000000#32)) (extractStridedSlice ⟨2, ![n, 128]⟩ ![0, o] P hs)) hr

/-- A head's slot: its columns, zeros after them. -/
def Slot (P : FVec Ideal ⟨2, ![n, C]⟩ .f32) (o : ℕ) (v : FVec Ideal ⟨2, ![n, 128]⟩ .f32) : Prop :=
  ∀ (i : Fin n) (x : Fin 128) (h : o + 64 ≤ C), v (ix2 i x) = if hb : x.val < 64 then P (ix2 i ⟨o + x.val, by omega⟩) else 0

theorem even_slot (o : ℕ) (P : FVec Ideal ⟨2, ![n, C]⟩ .f32) (hi : (⟨2, ![n, 128]⟩ : Shape).Iotas .tc 32 [1]) (hs : (⟨2, ![n, C]⟩ : Shape).Slices ![0, o] ⟨2, ![n, 128]⟩) :
    Slot P o (even o P (low hi) hs) := fun i x _ => by
  show Scalar.select (low hi (ix2 i x)) _ _ = _
  split_ifs with hb
  · rw [low_lt hi i x hb]
    refine (if_pos rfl).trans (extractStridedSlice_apply _ P _ _ _ fun a => ?_)
    fin_cases a
    · exact (Nat.zero_add _).symm
    · rfl
  · rw [low_ge hi i x hb]
    exact (if_neg (by decide)).trans zero_word

theorem odd_slot (o : ℕ) (P : FVec Ideal ⟨2, ![n, C]⟩ .f32) (hi : (⟨2, ![n, 128]⟩ : Shape).Iotas .tc 32 [1]) (hs : (⟨2, ![n, C]⟩ : Shape).Slices ![0, o] ⟨2, ![n, 128]⟩)
    (hr : (⟨2, ![n, 128]⟩ : Shape).Rotates 1 none) : Slot P (o + 64) (odd o P (low hi) hs hr) := fun i x _ => by
  have hx := x.isLt
  split_ifs with hb
  · rw [odd, dynamicRotate_apply 1 64#32 _ hr (ix2 i x) (ix2 i (⟨x.val + 64, by omega⟩ : Fin 128)) (fun b => by
      fin_cases b
      · rfl
      · show x.val + 64 = (x.val + 128 - 64 % 128) % 128; omega)]
    show Scalar.select (low hi (ix2 i (⟨x.val + 64, _⟩ : Fin 128))) _ _ = _
    rw [low_ge hi i _ (show ¬ x.val + 64 < 64 by omega)]
    refine (if_neg (by decide)).trans (extractStridedSlice_apply _ P _ _ _ fun a => ?_)
    fin_cases a
    · exact (Nat.zero_add _).symm
    · show o + 64 + x.val = o + (x.val + 64); omega
  · rw [odd, dynamicRotate_apply 1 64#32 _ hr (ix2 i x) (ix2 i (⟨x.val - 64, by omega⟩ : Fin 128)) (fun b => by
      fin_cases b
      · rfl
      · show x.val - 64 = (x.val + 128 - 64 % 128) % 128; omega)]
    show Scalar.select (low hi (ix2 i (⟨x.val - 64, _⟩ : Fin 128))) _ _ = _
    rw [low_lt hi i _ (show x.val - 64 < 64 by omega)]
    exact (if_pos rfl).trans zero_word

/-- The slots of the heads from column `o` on, two heads at a time. -/
inductive Slots (P : FVec Ideal ⟨2, ![n, C]⟩ .f32) (hi : (⟨2, ![n, 128]⟩ : Shape).Iotas .tc 32 [1]) : ℕ → List ((s : Shape) × (s.Idx → EReal)) → Prop
  | nil (o : ℕ) : Slots P hi o []
  | cons (o : ℕ) (hs : (⟨2, ![n, C]⟩ : Shape).Slices ![0, o] ⟨2, ![n, 128]⟩) (hr : (⟨2, ![n, 128]⟩ : Shape).Rotates 1 none) (l : List ((s : Shape) × (s.Idx → EReal))) (h : Slots P hi (o + 128) l) :
    Slots P hi o (⟨⟨2, ![n, 128]⟩, even o P (low hi) hs⟩ :: ⟨⟨2, ![n, 128]⟩, odd o P (low hi) hs hr⟩ :: l)

theorem Slots.fn {P : FVec Ideal ⟨2, ![n, C]⟩ .f32} {hi : (⟨2, ![n, 128]⟩ : Shape).Iotas .tc 32 [1]} {o : ℕ} {xs : List ((s : Shape) × (s.Idx → EReal))} (h : Slots P hi o xs) :
    ∃ f : Fin xs.length → FVec Ideal ⟨2, ![n, 128]⟩ .f32, xs = List.ofFn (fun p => (⟨⟨2, ![n, 128]⟩, f p⟩ : (s : Shape) × (s.Idx → EReal))) ∧ ∀ p, Slot P (o + 64 * p.val) (f p) := by
  induction h with
  | nil o => exact ⟨fun p => p.elim0, by simp, fun p => p.elim0⟩
  | cons o hs hr l h ih =>
    obtain ⟨f, hf, hp⟩ := ih
    refine ⟨Fin.cons (even o P (low hi) hs) (Fin.cons (odd o P (low hi) hs hr) f), ?_, fun p => ?_⟩
    · conv_lhs => rw [hf]
      simp [List.ofFn_succ]
    · refine Fin.cases ?_ (fun q => Fin.cases ?_ (fun r => ?_) q) p
      · exact even_slot o P hi hs
      · exact odd_slot o P hi hs hr
      · have e : o + 64 * r.succ.succ.val = o + 128 + 64 * r.val := by simp only [Fin.val_succ]; omega
        rw [e]
        exact hp r

/-- The slots side by side. -/
theorem pieces {N : ℕ} (hC : C = 64 * N) {P : FVec Ideal ⟨2, ![n, C]⟩ .f32} {hi : (⟨2, ![n, 128]⟩ : Shape).Iotas .tc 32 [1]} {xs : List ((s : Shape) × (s.Idx → EReal))} (hx : Slots P hi 0 xs) (hN : xs.length = N)
    (h : Shape.Concatenates (xs.map (·.1)) ⟨2, ![n, D]⟩ 1) (y : (⟨2, ![n, D]⟩ : Shape).Idx) (g : Fin N) (x : Fin 128) (e : (y 1).val = 128 * g.val + x.val) :
    concatenate ⟨2, ![n, D]⟩ 1 xs h y = if hb : x.val < 64 then P (ix2 (y 0) ⟨64 * g.val + x.val, by omega⟩) else 0 := by
  have hx' := x.isLt
  have hx := hx.fn
  rw [hN] at hx
  obtain ⟨f, hf, hp⟩ := hx
  subst hf
  refine (concatenate_ofFn_apply 1 f h rfl 128 rfl y g (by rw [e]; omega) (ix2 (y 0) x) (by show x.val = (y 1).val % 128; omega) fun b hb => ?_).trans ((hp g (y 0) x (by omega)).trans ?_)
  · match b with
    | ⟨0, _⟩ => rfl
    | ⟨1, _⟩ => exact absurd rfl hb
  · simp only [Nat.zero_add]

/-- A pair's columns: the even head's slot and, after its columns, the odd head's. -/
abbrev pair (o o' : ℕ) (R : FVec Ideal ⟨2, ![n, C]⟩ .f32) (hs : (⟨2, ![n, C]⟩ : Shape).Slices ![0, o] ⟨2, ![n, 128]⟩) (hs' : (⟨2, ![n, C]⟩ : Shape).Slices ![0, o'] ⟨2, ![n, 128]⟩)
    (hr : (⟨2, ![n, 128]⟩ : Shape).Rotates 1 none) : FVec Ideal ⟨2, ![n, 128]⟩ .f32 :=
  addf (extractStridedSlice ⟨2, ![n, 128]⟩ ![0, o] R hs) (dynamicRotate 1 64#32 none (extractStridedSlice ⟨2, ![n, 128]⟩ ![0, o'] R hs') hr)

/-- An array of heads' slots, each with a head's columns and zeros after them. -/
def Slotted (X : Fin n → ℕ → EReal) (R : FVec Ideal ⟨2, ![n, C]⟩ .f32) : Prop :=
  ∀ (j : (⟨2, ![n, C]⟩ : Shape).Idx) (g x : ℕ), x < 128 → (j 1).val = 128 * g + x → R j = if x < 64 then X (j 0) (64 * g + x) else 0

/-- The columns of an array from the column `o` on. -/
def cols (X : FVec Ideal ⟨2, ![n, C]⟩ .f32) (o : ℕ) (i : Fin n) (c : ℕ) : EReal := if h : o + c < C then X (ix2 i ⟨o + c, h⟩) else 0

theorem cols_eq (X : FVec Ideal ⟨2, ![n, C]⟩ .f32) (o : ℕ) (i : Fin n) (c : ℕ) (q : Fin C) (h : q.val = o + c) : cols X o i c = X (ix2 i q) := by
  obtain ⟨q, hq⟩ := q
  subst h
  exact dif_pos hq

theorem pair_apply {X : Fin n → ℕ → EReal} {R : FVec Ideal ⟨2, ![n, C]⟩ .f32} (hR : Slotted X R) (p o o' : ℕ) (ho : o = 128 * (2 * p)) (ho' : o' = 128 * (2 * p + 1))
    (hs : (⟨2, ![n, C]⟩ : Shape).Slices ![0, o] ⟨2, ![n, 128]⟩) (hs' : (⟨2, ![n, C]⟩ : Shape).Slices ![0, o'] ⟨2, ![n, 128]⟩) (hr : (⟨2, ![n, 128]⟩ : Shape).Rotates 1 none) (i : Fin n) (x : Fin 128) :
    pair o o' R hs hs' hr (ix2 i x) = X i (128 * p + x.val) := by
  have hx := x.isLt
  have at_slot : ∀ (o q : ℕ) (e : o = 128 * q) (hs : (⟨2, ![n, C]⟩ : Shape).Slices ![0, o] ⟨2, ![n, 128]⟩) (z : Fin 128), extractStridedSlice ⟨2, ![n, 128]⟩ ![0, o] R hs (ix2 i z) = if z.val < 64 then X i (64 * q + z.val) else 0 := fun o q e hs z => by
    subst e
    refine (hR _ q z.val z.isLt rfl).trans ?_
    exact congrArg (fun a => if z.val < 64 then X a (64 * q + z.val) else 0) (Fin.ext (Nat.zero_add _))
  refine (congrArg₂ (fun a b : EReal => a + b) (at_slot o _ ho hs x) ((dynamicRotate_apply 1 64#32 _ hr (ix2 i x) (ix2 i (⟨(x.val + 64) % 128, by omega⟩ : Fin 128)) fun b => ?_).trans (at_slot o' _ ho' hs' _))).trans ?_
  · fin_cases b
    · rfl
    · show (x.val + 64) % 128 = (x.val + 128 - 64 % 128) % 128; omega
  · show (if x.val < 64 then X i (64 * (2 * p) + x.val) else 0) + (if (x.val + 64) % 128 < 64 then X i (64 * (2 * p + 1) + (x.val + 64) % 128) else 0) = _
    by_cases hb : x.val < 64
    · rw [if_pos hb, if_neg (by omega), add_zero, show 64 * (2 * p) + x.val = 128 * p + x.val by omega]
    · rw [if_neg hb, if_pos (by omega), zero_add, show 64 * (2 * p + 1) + (x.val + 64) % 128 = 128 * p + x.val by omega]

/-- The pairs from the pair `p` on. -/
inductive Pairs (R : FVec Ideal ⟨2, ![n, C]⟩ .f32) : ℕ → List ((s : Shape) × (s.Idx → EReal)) → Prop
  | nil (p : ℕ) : Pairs R p []
  | cons (p o o' : ℕ) (ho : o = 128 * (2 * p)) (ho' : o' = 128 * (2 * p + 1)) (hs : (⟨2, ![n, C]⟩ : Shape).Slices ![0, o] ⟨2, ![n, 128]⟩) (hs' : (⟨2, ![n, C]⟩ : Shape).Slices ![0, o'] ⟨2, ![n, 128]⟩)
    (hr : (⟨2, ![n, 128]⟩ : Shape).Rotates 1 none) (l : List ((s : Shape) × (s.Idx → EReal))) (h : Pairs R (p + 1) l) : Pairs R p (⟨⟨2, ![n, 128]⟩, pair o o' R hs hs' hr⟩ :: l)

theorem Pairs.fn {X : Fin n → ℕ → EReal} {R : FVec Ideal ⟨2, ![n, C]⟩ .f32} (hR : Slotted X R) {p : ℕ} {xs : List ((s : Shape) × (s.Idx → EReal))} (h : Pairs R p xs) :
    ∃ f : Fin xs.length → FVec Ideal ⟨2, ![n, 128]⟩ .f32, xs = List.ofFn (fun q => (⟨⟨2, ![n, 128]⟩, f q⟩ : (s : Shape) × (s.Idx → EReal))) ∧ ∀ q i x, f q (ix2 i x) = X i (128 * (p + q.val) + x.val) := by
  induction h with
  | nil p => exact ⟨fun q => q.elim0, by simp, fun q => q.elim0⟩
  | cons p o o' ho ho' hs hs' hr l h ih =>
    obtain ⟨f, hf, hp⟩ := ih
    refine ⟨Fin.cons (pair o o' R hs hs' hr) f, ?_, fun q => ?_⟩
    · conv_lhs => rw [hf]
      simp [List.ofFn_succ]
    · refine Fin.cases (fun i x => ?_) (fun r i x => ?_) q
      · exact pair_apply hR p o o' ho ho' hs hs' hr i x
      · have e : p + r.succ.val = p + 1 + r.val := by simp only [Fin.val_succ]; omega
        rw [e]
        exact hp r i x

/-- The pairs side by side. -/
theorem pairs {X : Fin n → ℕ → EReal} {R : FVec Ideal ⟨2, ![n, C]⟩ .f32} (hR : Slotted X R) {xs : List ((s : Shape) × (s.Idx → EReal))} (hx : Pairs R 0 xs)
    (h : Shape.Concatenates (xs.map (·.1)) ⟨2, ![n, D]⟩ 1) (hD : D = 128 * xs.length) (y : (⟨2, ![n, D]⟩ : Shape).Idx) :
    concatenate ⟨2, ![n, D]⟩ 1 xs h y = X (y 0) (y 1).val := by
  have e1 : (y 1).val < D := (y 1).isLt
  have hx := hx.fn hR
  generalize hN : xs.length = N at hx hD
  obtain ⟨f, hf, hp⟩ := hx
  subst hf
  refine (concatenate_ofFn_apply 1 f h rfl 128 rfl y ⟨(y 1).val / 128, by omega⟩ rfl (ix2 (y 0) ⟨(y 1).val % 128, Nat.mod_lt _ (by omega)⟩) rfl fun b hb => ?_).trans ((hp _ _ _).trans ?_)
  · match b with
    | ⟨0, _⟩ => rfl
    | ⟨1, _⟩ => exact absurd rfl hb
  · show X (y 0) (128 * (0 + (y 1).val / 128) + (y 1).val % 128) = _
    rw [Nat.zero_add, Nat.div_add_mod]

end Cert.Out

end
-- ==== Proof.Out.InputGrad.lean ====
module

public import proofs.«01_k».proof.Proof.Gen.Kernel9Ideal.Value
public import proofs.«01_k».proof.Proof.Gen.Reference9Ideal.Read
public import proofs.«01_k».proof.Proof.Out.Slots
public import proofs.«01_k».proof.Proof.Cross.Host
public import Idealize.ShloMosaic.Lib.StableHlo.ReadAt

/-! The input gradient of the two attentions' shared output product, its heads laid out with 128 columns each. -/

@[expose] public section

set_option maxRecDepth 16384

noncomputable section

namespace Cert.Kernel9Ideal.Out

open Cert.Kernel9Ideal Cert.Kernel9Ideal.Gen
open Idealize.ShloMosaic Idealize.ShloMosaic.TcCoe
open Cert.Out
open Cert.Reference9Ideal.Read
open Cert.Kernel6Ideal.Cross (padded)
open Cert.Reference6Ideal.Cross (zero_int)

variable (m : (ℓ : Loc nD τ sig) → Buf (Elt Ideal) ℓ)

/-- A block's product. -/
def prod (r : FVec Ideal S1024x1024 .bf16) (l : FVec Ideal S2048x1024 .bf16) : FVec Ideal S2048x1024 .f32 := k0_pay2 r l

theorem prod_apply (r : FVec Ideal S1024x1024 .bf16) (l : FVec Ideal S2048x1024 .bf16) (y : S2048x1024.Idx) : prod r l y = ∑ k : Fin 1024, l (ix2 (y 0) k) * r (ix2 (y 1) k) := by
  unfold prod k0_pay2
  idx_vars y
  pointwise []

theorem out (l : FVec Ideal S2048x1024 .bf16) (r : FVec Ideal S1024x1024 .bf16) (y : S2048x2048.Idx) (g : Fin 16) (x : Fin 128) (e : (y 1).val = 128 * g.val + x.val) :
    out0_2 (F := Ideal) l r y = if hb : x.val < 64 then prod r l (ix2 (y 0) ⟨64 * g.val + x.val, by omega⟩) else 0 := by
  unfold out0_2
  rw [View.canon_unit_zero (by decide), View.ld_unit_zero (by decide), View.ld_unit_zero (by decide)]
  exact pieces (P := prod r l) (N := 16) rfl (.cons 0 slices_S2048x1024_o0_0_S2048x128 rotates_S2048x128_d1 _ (.cons 128 slices_S2048x1024_o0_128_S2048x128 rotates_S2048x128_d1 _ (.cons 256 slices_S2048x1024_o0_256_S2048x128 rotates_S2048x128_d1 _ (.cons 384 slices_S2048x1024_o0_384_S2048x128 rotates_S2048x128_d1 _ (.cons 512 slices_S2048x1024_o0_512_S2048x128 rotates_S2048x128_d1 _ (.cons 640 slices_S2048x1024_o0_640_S2048x128 rotates_S2048x128_d1 _ (.cons 768 slices_S2048x1024_o0_768_S2048x128 rotates_S2048x128_d1 _ (.cons 896 slices_S2048x1024_o0_896_S2048x128 rotates_S2048x128_d1 _ (.nil _)))))))))
    rfl concatenates_S2048x128_S2048x128_S2048x128_S2048x128_S2048x128_S2048x128_S2048x128_S2048x128_S2048x128_S2048x128_S2048x128_S2048x128_S2048x128_S2048x128_S2048x128_S2048x128_S2048x2048_d1 y g x e

theorem idx : ∀ t : Fin cfg0.N, win0_0.index t = ![t.val, 0] ∧ win0_1.index t = ![0, 0] ∧ win0_2.index t = ![t.val, 0] :=
  (by decide +kernel : ∀ t : Fin grid0.N, _)

theorem two (t : Fin cfg0.N) : t.val < 2 := lt_of_lt_of_eq t.isLt (by decide +kernel : cfg0.N = 2)

theorem arg0 (c : Dev nD) : V m c main_v0 = m ((c : Thread nD τ).loc main_arg0) := by
  simp only [V, hostOps0]
  after_reads_simp
  rfl

theorem arg1 (c : Dev nD) : V m c main_v1 = m ((c : Thread nD τ).loc main_arg1) := by
  simp only [V, hostOps0]
  after_reads_simp
  rfl

theorem blk0 (c : Dev nD) (t : Fin cfg0.N) (y : S2048x1024.Idx) (i : S4096x1024.Idx) (h0 : (i 0).val = 2048 * t.val + (y 0).val) (h1 : (i 1).val = (y 1).val) :
    iblk m c 0 t y = m ((c : Thread nD τ).loc main_arg0) i := by
  refine (congrFun (arg0 m c) (((cfg0.win 0).blk t).view.emb y)).trans (congrArg _ (funext fun a => Fin.ext ?_))
  fin_cases a <;> (blk_simp [idx t]; simp [h0, h1, mul_comm])

theorem blk1 (c : Dev nD) (t : Fin cfg0.N) (y : S1024x1024.Idx) : iblk m c 1 t y = m ((c : Thread nD τ).loc main_arg1) y := by
  refine (congrFun (arg1 m c) (((cfg0.win 1).blk t).view.emb y)).trans (congrArg _ (funext fun a => Fin.ext ?_))
  fin_cases a <;> (blk_simp [idx t])

theorem ref (x : FVec Ideal S4096x1024 .f32) (w : FVec Ideal S1024x1024 .f32) (y : S4096x2048.Idx) (i : Fin 4096) (g : Fin 16) (z : ℕ) (hz : z < 128) (e0 : (y 0).val = i.val) (e1 : (y 1).val = 128 * g.val + z) :
    val_main_v6 (F := Ideal) x w y = if hb : z < 64 then ∑ k : Fin 1024, x (ix2 i k) * w (ix2 ⟨64 * g.val + z, by omega⟩ k) else 0 := by
  refine (padded (n := 4096) (H := 16) rfl rfl (val_main_v2 (F := Ideal) x w) zero_int Cert.Reference9Ideal.Gen.shapeCasts_S4096x1024_S4096x16x64 Cert.Reference9Ideal.Gen.pads_S4096x16x64_S4096x16x128_000_000_0640
    Cert.Reference9Ideal.Gen.h_S_ Cert.Reference9Ideal.Gen.shapeCasts_S4096x16x128_S4096x2048 y i g z hz e0 e1).trans ?_
  split_ifs with hb
  · refine (val_main_v2_apply x w _).trans (Finset.sum_congr rfl fun k _ => congrArg₂ (fun a b : EReal => a * b) (congrArg x (funext fun a => ?_)) (congrArg w (funext fun a => ?_))) <;> fin_cases a <;> rfl
  · rfl

theorem final2 (c : Dev nD) : (dats m 0 c).arrAt 2 cfg0.N = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  have ht := two t
  have e0 : (y 0).val < 2048 := (y 0).isLt
  have e1 : (y 1).val < 2048 := (y 1).isLt
  refine (out _ _ y ⟨(y 1).val / 128, by omega⟩ ⟨(y 1).val % 128, by omega⟩ (Nat.div_add_mod _ _).symm).trans
    ((ref _ _ _ ⟨2048 * t.val + (y 0).val, by omega⟩ ⟨(y 1).val / 128, by omega⟩ ((y 1).val % 128) (by omega) ?_ ?_).trans ?_).symm
  · blk_simp [idx t]; simp [mul_comm]
  · blk_simp [idx t]; simp; omega
  · refine dite_congr rfl (fun hb => ?_) fun _ => rfl
    have hb' : (y 1).val % 128 < 64 := hb
    exact ((prod_apply (iblk m c 1 t) (iblk m c 0 t) (ix2 (y 0) ⟨64 * ((y 1).val / 128) + (y 1).val % 128, by omega⟩)).trans
      (Finset.sum_congr rfl fun k _ => congrArg₂ (fun a b : EReal => a * b) (blk0 m c t _ (ix2 ⟨2048 * t.val + (y 0).val, by omega⟩ k) rfl rfl) (blk1 m c t _))).symm

end Cert.Kernel9Ideal.Out

end
-- ==== Proof.Out.WeightGrad.lean ====
module

public import proofs.«01_k».proof.Proof.Gen.Kernel10Ideal.Value
public import proofs.«01_k».proof.Proof.Gen.Reference10Ideal.Read
public import proofs.«01_k».proof.Proof.Out.Slots
public import proofs.«01_k».proof.Proof.Cross.Host
public import Idealize.ShloMosaic.Lib.StableHlo.ReadAt

/-! The weight gradient of the output product, for the rows of the mixer. -/

@[expose] public section

set_option maxRecDepth 16384

noncomputable section

namespace Cert.Kernel10Ideal.Out

open Cert.Kernel10Ideal Cert.Kernel10Ideal.Gen
open Idealize.ShloMosaic Idealize.ShloMosaic.TcCoe
open Cert.Out
open Cert.Reference10Ideal.Read
open Cert.Kernel6Ideal.Cross (padded)
open Cert.Reference6Ideal.Cross (zero_int)

variable (m : (ℓ : Loc nD τ sig) → Buf (Elt Ideal) ℓ)

/-- The block's slots, widened. -/
abbrev wide (s : FVec Ideal S4096x512 .bf16) : FVec Ideal S4096x512 .f32 := extf .f32 (shapeCast S4096x512 s shapeCasts_S4096x512_S4096x512) bitsLt_bf16_f32

theorem wide_apply (s : FVec Ideal S4096x512 .bf16) (y : S4096x512.Idx) : wide s y = s y := by
  unfold wide
  idx_vars y
  pointwise []

theorem mm (p : FVec Ideal S4096x256 .f32) (d : FVec Ideal S4096x1024 .bf16) (y : S256x1024.Idx) :
    matmul dot_S4096x256_S4096x1024_S256x1024_0_0_1_1_n_n none (truncf .bf16 p bitsLt_bf16_f32) (shapeCast S4096x1024 d shapeCasts_S4096x1024_S4096x1024) (constant (F := Ideal) S256x1024 .f32 0x00000000#32) y
      = ∑ k : Fin 4096, p (ix2 k (y 0)) * d (ix2 k (y 1)) := by
  idx_vars y
  pointwise []

theorem out (s : FVec Ideal S4096x512 .bf16) (d : FVec Ideal S4096x1024 .bf16) {X : Fin 4096 → ℕ → EReal} (hs : Slotted X s) (y : S256x1024.Idx) :
    out0_2 (F := Ideal) s d y = ∑ k : Fin 4096, X k (y 0).val * d (ix2 k (y 1)) := by
  unfold out0_2
  rw [View.canon_unit_zero (by decide), View.ld_unit_zero (by decide), View.ld_unit_zero (by decide)]
  have hR : Slotted X (wide s) := fun j g x hx e => (wide_apply s j).trans (hs j g x hx e)
  refine (mm _ d y).trans (Finset.sum_congr rfl fun k _ => congrArg (fun a : EReal => a * _) ?_)
  exact pairs hR (.cons 0 0 128 rfl rfl slices_S4096x512_o0_0_S4096x128 slices_S4096x512_o0_128_S4096x128 rotates_S4096x128_d1 _
    (.cons 1 256 384 rfl rfl slices_S4096x512_o0_256_S4096x128 slices_S4096x512_o0_384_S4096x128 rotates_S4096x128_d1 _ (.nil _))) concatenates_S4096x128_S4096x128_S4096x256_d1 rfl (ix2 k (y 0))

theorem idx : ∀ t : Fin cfg0.N, win0_0.index t = ![0, t.val] ∧ win0_1.index t = ![0, 0] ∧ win0_2.index t = ![t.val, 0] :=
  (by decide +kernel : ∀ t : Fin grid0.N, _)

theorem three (t : Fin cfg0.N) : t.val < 3 := lt_of_lt_of_eq t.isLt (by decide +kernel : cfg0.N = 3)

theorem arg0 (c : Dev nD) : V m c main_v3 = truncf (F := Ideal) .bf16 (shapeCast S4096x1536 (pad S4096x12x128 ![0, 0, 0] ![0, 0, 64] ![0, 0, 0]
    (shapeCast S4096x12x64 (m ((c : Thread nD τ).loc main_arg0) : FVec Ideal S4096x768 .f32) shapeCasts_S4096x768_S4096x12x64)
    (sitofp .f32 (constantI S_ 32 0#32)) pads_S4096x12x64_S4096x12x128_000_000_0640 h_S_) shapeCasts_S4096x12x128_S4096x1536) bitsLt_bf16_f32 := by
  simp only [V, hostOps0, hostOps0_1, hostOps0_2, List.flatten_cons, List.flatten_nil, List.append_nil, List.cons_append, List.nil_append]
  after_reads_simp
  rfl

theorem arg1 (c : Dev nD) : V m c main_v4 = m ((c : Thread nD τ).loc main_arg1) := by
  simp only [V, hostOps0, hostOps0_1, hostOps0_2, List.flatten_cons, List.flatten_nil, List.append_nil, List.cons_append, List.nil_append]
  after_reads_simp
  rfl

theorem blk0 (c : Dev nD) (t : Fin cfg0.N) : Slotted (cols (m ((c : Thread nD τ).loc main_arg0) : FVec Ideal S4096x768 .f32) (256 * t.val)) (iblk m c 0 t : FVec Ideal S4096x512 .bf16) := fun y g x hx e => by
  have ht := three t
  have h1 : (y 1).val < 512 := (y 1).isLt
  refine (congrFun (arg0 m c) (((cfg0.win 0).blk t).view.emb y)).trans ?_
  refine (padded (n := 4096) (H := 12) rfl rfl (m ((c : Thread nD τ).loc main_arg0) : FVec Ideal S4096x768 .f32) zero_int shapeCasts_S4096x768_S4096x12x64 pads_S4096x12x64_S4096x12x128_000_000_0640 h_S_ shapeCasts_S4096x12x128_S4096x1536
    (((cfg0.win 0).blk t).view.emb y) (y 0) ⟨4 * t.val + g, by omega⟩ x hx ?_ ?_).trans ?_
  · blk_simp [idx t]
  · blk_simp [idx t]; simp [e]; omega
  · split_ifs with hb
    · exact (cols_eq _ _ _ _ _ (show 64 * (4 * t.val + g) + x = 256 * t.val + (64 * g + x) by omega)).symm
    · rfl

theorem blk1 (c : Dev nD) (t : Fin cfg0.N) (y : S4096x1024.Idx) : iblk m c 1 t y = m ((c : Thread nD τ).loc main_arg1) y := by
  refine (congrFun (arg1 m c) (((cfg0.win 1).blk t).view.emb y)).trans (congrArg _ (funext fun a => Fin.ext ?_))
  fin_cases a <;> (blk_simp [idx t])

theorem ref (x : FVec Ideal S4096x768 .f32) (d : FVec Ideal S4096x1024 .f32) (y : S768x1024.Idx) : val_main_v3 (F := Ideal) x d y = ∑ k : Fin 4096, x (ix2 k (y 0)) * d (ix2 k (y 1)) := by
  refine (val_main_v3_apply (F := Ideal) x d y).trans ((val_main_v2_apply x d _).trans (Finset.sum_congr rfl fun k _ => (mul_comm _ _).trans
    (congrArg₂ (fun a b : EReal => a * b) (congrArg x (funext fun a => ?_)) (congrArg d (funext fun a => ?_))))) <;> fin_cases a <;> rfl

theorem final2 (c : Dev nD) : (dats m 0 c).arrAt 2 cfg0.N = val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  have ht := three t
  refine ((out _ _ (blk0 m c t) y).trans ((Finset.sum_congr rfl fun k _ => congrArg₂ (fun a b : EReal => a * b) (cols_eq _ _ _ _ _ ?_)
    ((blk1 m c t _).trans (congrArg (m ((c : Thread nD τ).loc main_arg1) : FVec Ideal S4096x1024 .f32) (funext fun a => Fin.ext ?_)))).trans (ref _ _ _).symm))
  · blk_simp [idx t]; simp [mul_comm]
  · fin_cases a
    · rfl
    · show (y 1).val = (((cfg0.win 2).blk t).view.emb y 1).val; blk_simp [idx t]

end Cert.Kernel10Ideal.Out

end
-- ==== Proof.Out.Output.lean ====
module

public import proofs.«01_k».proof.Proof.Gen.Kernel11Ideal.Value
public import proofs.«01_k».proof.Proof.Gen.Reference11Ideal.Read
public import proofs.«01_k».proof.Proof.Out.Slots
public import proofs.«01_k».proof.Proof.Cross.Host
public import Idealize.ShloMosaic.Lib.StableHlo.ReadAt

/-! The two attentions' output product with the residual added, and the next layer's input after the norm. -/

@[expose] public section

set_option maxRecDepth 16384

noncomputable section

namespace Cert.Kernel11Ideal.Out

open Cert.Kernel11Ideal Cert.Kernel11Ideal.Gen
open Idealize.ShloMosaic Idealize.ShloMosaic.TcCoe
open Cert.Out
open Cert.Reference11Ideal.Read
open Cert.Kernel6Ideal.Cross (padded)
open Cert.Reference6Ideal.Cross (zero_int zero_word)

variable (m : (ℓ : Loc nD τ sig) → Buf (Elt Ideal) ℓ)

/-- A block's slots of the latent attention, widened. -/
abbrev wide (s : FVec Ideal S512x1536 .bf16) : FVec Ideal S512x1536 .f32 := extf .f32 (shapeCast S512x1536 s shapeCasts_S512x1536_S512x1536) bitsLt_bf16_f32

theorem wide_apply (s : FVec Ideal S512x1536 .bf16) (y : S512x1536.Idx) : wide s y = s y := by
  unfold wide
  idx_vars y
  pointwise []

theorem wide4_apply (s : FVec Ideal S512x512 .bf16) (y : S512x512.Idx) : k0_pay4 (F := Ideal) s y = s y := by
  unfold k0_pay4
  idx_vars y
  pointwise []

theorem mm768 (p : FVec Ideal S512x768 .f32) (w : FVec Ideal S768x1024 .bf16) (y : S512x1024.Idx) :
    matmul dot_S512x768_S768x1024_S512x1024_1_0_0_1_n_n none (truncf .bf16 p bitsLt_bf16_f32) (shapeCast S768x1024 w shapeCasts_S768x1024_S768x1024) (constant (F := Ideal) S512x1024 .f32 0x00000000#32) y
      = ∑ k : Fin 768, p (ix2 (y 0) k) * w (ix2 k (y 1)) := by
  idx_vars y
  pointwise []

theorem mm256 (p : FVec Ideal S512x256 .f32) (w : FVec Ideal S256x1024 .bf16) (y : S512x1024.Idx) :
    matmul dot_S512x256_S256x1024_S512x1024_1_0_0_1_n_n none (truncf .bf16 p bitsLt_bf16_f32) (shapeCast S256x1024 w shapeCasts_S256x1024_S256x1024) (constant (F := Ideal) S512x1024 .f32 0x00000000#32) y
      = ∑ k : Fin 256, p (ix2 (y 0) k) * w (ix2 k (y 1)) := by
  idx_vars y
  pointwise []

/-- A block of the first result. -/
abbrev res (x0 : FVec Ideal S512x1536 .bf16) (x1 : FVec Ideal S768x1024 .bf16) (x2 : FVec Ideal S512x1024 .f32) (x4 : FVec Ideal S512x512 .bf16) (x5 : FVec Ideal S256x1024 .bf16) : FVec Ideal S512x1024 .f32 :=
  k0_pay1 (k0_pay3 x1 x0) (k0_pay5 x4) (k0_pay6 x4) x5 x2

theorem res_apply (x0 : FVec Ideal S512x1536 .bf16) (x1 : FVec Ideal S768x1024 .bf16) (x2 : FVec Ideal S512x1024 .f32) (x4 : FVec Ideal S512x512 .bf16) (x5 : FVec Ideal S256x1024 .bf16)
    {X Y : Fin 512 → ℕ → EReal} (hX : Slotted X x0) (hY : Slotted Y x4) (y : S512x1024.Idx) :
    res x0 x1 x2 x4 x5 y = ((∑ k : Fin 768, X (y 0) k.val * x1 (ix2 k (y 1))) + ∑ k : Fin 256, Y (y 0) k.val * x5 (ix2 k (y 1))) + x2 y := by
  have hX' : Slotted X (wide x0) := fun j g x hx e => (wide_apply x0 j).trans (hX j g x hx e)
  have hY' : Slotted Y (k0_pay4 (F := Ideal) x4) := fun j g x hx e => (wide4_apply x4 j).trans (hY j g x hx e)
  refine congrArg (fun a : EReal => a + x2 y) (congrArg₂ (fun a b : EReal => a + b) ?_ ?_)
  · refine (mm768 _ x1 y).trans (Finset.sum_congr rfl fun k _ => congrArg (fun a : EReal => a * _) ?_)
    exact pairs hX' (.cons 0 0 128 rfl rfl slices_S512x1536_o0_0_S512x128 slices_S512x1536_o0_128_S512x128 rotates_S512x128_d1 _ (.cons 1 256 384 rfl rfl slices_S512x1536_o0_256_S512x128 slices_S512x1536_o0_384_S512x128 rotates_S512x128_d1 _ (.cons 2 512 640 rfl rfl slices_S512x1536_o0_512_S512x128 slices_S512x1536_o0_640_S512x128 rotates_S512x128_d1 _ (.cons 3 768 896 rfl rfl slices_S512x1536_o0_768_S512x128 slices_S512x1536_o0_896_S512x128 rotates_S512x128_d1 _ (.cons 4 1024 1152 rfl rfl slices_S512x1536_o0_1024_S512x128 slices_S512x1536_o0_1152_S512x128 rotates_S512x128_d1 _ (.cons 5 1280 1408 rfl rfl slices_S512x1536_o0_1280_S512x128 slices_S512x1536_o0_1408_S512x128 rotates_S512x128_d1 _ (.nil _)))))))
      concatenates_S512x128_S512x128_S512x128_S512x128_S512x128_S512x128_S512x768_d1 rfl (ix2 (y 0) k)
  · refine (mm256 _ x5 y).trans (Finset.sum_congr rfl fun k _ => congrArg (fun a : EReal => a * _) ?_)
    exact pairs hY' (.cons 0 0 128 rfl rfl slices_S512x512_o0_0_S512x128 slices_S512x512_o0_128_S512x128 rotates_S512x128_d1 _ (.cons 1 256 384 rfl rfl slices_S512x512_o0_256_S512x128 slices_S512x512_o0_384_S512x128 rotates_S512x128_d1 _ (.nil _)))
      concatenates_S512x128_S512x128_S512x256_d1 rfl (ix2 (y 0) k)

/-- The block after the norm, entry by entry. -/
theorem normed (a : FVec Ideal S512x1024 .f32) (b c : FVec Ideal S512x128 .f32) (w : FVec Ideal S256x1024 .bf16) (x : FVec Ideal S512x1024 .f32) (g : FVec Ideal S1x1024 .f32) (y : S512x1024.Idx) :
    k0_pay2 (F := Ideal) a b c w x g y = k0_pay1 (F := Ideal) a b c w x y
      * Ideal.rsqrt (Ideal.div (∑ k : Fin 1024, k0_pay1 (F := Ideal) a b c w x (ix2 (y 0) k) * k0_pay1 (F := Ideal) a b c w x (ix2 (y 0) k)) (Ideal.ofBits .f32 0x44800000#32) + Ideal.ofBits .f32 0x358637BD#32)
      * g (ix2 0 (y 1)) := by
  unfold k0_pay2
  generalize k0_pay1 (F := Ideal) a b c w x = p
  idx_vars y
  pointwise []

theorem out6 (x0 : Vec Ideal S512x1536 .bf16) (x1 : Vec Ideal S768x1024 .bf16) (x2 : Vec Ideal S512x1024 .f32) (x3 : Vec Ideal S1x1024 .f32) (x4 : Vec Ideal S512x512 .bf16) (x5 : Vec Ideal S256x1024 .bf16) :
    out0_6 x0 x1 x2 x3 x4 x5 = res x0 x1 x2 x4 x5 := by
  unfold out0_6 k0_pay7 k0_pay8 k0_pay9
  rw [View.canon_unit_zero (by decide)]
  repeat rw [View.ld_unit_zero (by decide)]

theorem out7 (x0 : Vec Ideal S512x1536 .bf16) (x1 : Vec Ideal S768x1024 .bf16) (x2 : Vec Ideal S512x1024 .f32) (x3 : Vec Ideal S1x1024 .f32) (x4 : Vec Ideal S512x512 .bf16) (x5 : Vec Ideal S256x1024 .bf16) :
    out0_7 x0 x1 x2 x3 x4 x5 = k0_pay2 (k0_pay3 x1 x0) (k0_pay5 x4) (k0_pay6 x4) x5 x2 x3 := by
  unfold out0_7 k0_pay7 k0_pay8 k0_pay9
  rw [View.canon_unit_zero (by decide)]
  repeat rw [View.ld_unit_zero (by decide)]

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![0, 0] ∧ win0_6.index t = ![t.val, 0] ∧ win0_7.index t = ![t.val, 0] :=
  (by decide +kernel : ∀ t : Fin grid0.N, _)

theorem eight (t : Fin cfg0.N) : t.val < 8 := lt_of_lt_of_eq t.isLt (by decide +kernel : cfg0.N = 8)

/-- A block's row in the whole array. -/
def row (t : Fin cfg0.N) (i : Fin 512) : Fin 4096 := ⟨512 * t.val + i.val, by have := eight t; omega⟩

theorem slots0 (c : Dev nD) : V m c main_v6 = truncf (F := Ideal) .bf16 (shapeCast S4096x1536 (pad S4096x12x128 ![0, 0, 0] ![0, 0, 64] ![0, 0, 0]
    (shapeCast S4096x12x64 (m ((c : Thread nD τ).loc main_arg0) : FVec Ideal S4096x768 .f32) shapeCasts_S4096x768_S4096x12x64)
    (sitofp .f32 (constantI S_ 32 0#32)) pads_S4096x12x64_S4096x12x128_000_000_0640 h_S_) shapeCasts_S4096x12x128_S4096x1536) bitsLt_bf16_f32 := by
  simp only [V, hostOps0, hostOps0_1, hostOps0_2, hostOps0_3, hostOps0_4, List.flatten_cons, List.flatten_nil, List.append_nil, List.cons_append, List.nil_append]
  after_reads_simp
  rfl

theorem slots4 (c : Dev nD) : V m c main_v10 = truncf (F := Ideal) .bf16 (shapeCast S4096x512 (pad S4096x4x128 ![0, 0, 0] ![0, 0, 64] ![0, 0, 0]
    (shapeCast S4096x4x64 (m ((c : Thread nD τ).loc main_arg1) : FVec Ideal S4096x256 .f32) shapeCasts_S4096x256_S4096x4x64)
    (sitofp .f32 (constantI S_ 32 0#32)) pads_S4096x4x64_S4096x4x128_000_000_0640 h_S_) shapeCasts_S4096x4x128_S4096x512) bitsLt_bf16_f32 := by
  simp only [V, hostOps0, hostOps0_1, hostOps0_2, hostOps0_3, hostOps0_4, List.flatten_cons, List.flatten_nil, List.append_nil, List.cons_append, List.nil_append]
  after_reads_simp
  rfl

theorem arg1 (c : Dev nD) : V m c main_v1 = extractStridedSlice S768x1024 ![0, 0] (m ((c : Thread nD τ).loc main_arg2) : FVec Ideal S1024x1024 .f32) slices_S1024x1024_S768x1024_0_0 := by
  simp only [V, hostOps0, hostOps0_1, hostOps0_2, hostOps0_3, hostOps0_4, List.flatten_cons, List.flatten_nil, List.append_nil, List.cons_append, List.nil_append]
  after_reads_simp
  rfl

theorem arg5 (c : Dev nD) : V m c main_v2 = extractStridedSlice S256x1024 ![768, 0] (m ((c : Thread nD τ).loc main_arg2) : FVec Ideal S1024x1024 .f32) slices_S1024x1024_S256x1024_768_0 := by
  simp only [V, hostOps0, hostOps0_1, hostOps0_2, hostOps0_3, hostOps0_4, List.flatten_cons, List.flatten_nil, List.append_nil, List.cons_append, List.nil_append]
  after_reads_simp
  rfl

theorem arg2 (c : Dev nD) : V m c main_arg3 = m ((c : Thread nD τ).loc main_arg3) := by
  simp only [V, hostOps0, hostOps0_1, hostOps0_2, hostOps0_3, hostOps0_4, List.flatten_cons, List.flatten_nil, List.append_nil, List.cons_append, List.nil_append]
  after_reads_simp

theorem arg3 (c : Dev nD) : V m c main_v11 = shapeCast S1x1024 (m ((c : Thread nD τ).loc main_arg4) : FVec Ideal S1024 .f32) shapeCasts_S1024_S1x1024 := by
  simp only [V, hostOps0, hostOps0_1, hostOps0_2, hostOps0_3, hostOps0_4, List.flatten_cons, List.flatten_nil, List.append_nil, List.cons_append, List.nil_append]
  after_reads_simp
  rfl

theorem blk0 (c : Dev nD) (t : Fin cfg0.N) : Slotted (fun i => cols (m ((c : Thread nD τ).loc main_arg0) : FVec Ideal S4096x768 .f32) 0 (row t i)) (iblk m c 0 t : FVec Ideal S512x1536 .bf16) := fun y g x hx e => by
  have h1 : (y 1).val < 1536 := (y 1).isLt
  refine (congrFun (slots0 m c) (((cfg0.win 0).blk t).view.emb y)).trans ?_
  refine (padded (n := 4096) (H := 12) rfl rfl (m ((c : Thread nD τ).loc main_arg0) : FVec Ideal S4096x768 .f32) zero_int shapeCasts_S4096x768_S4096x12x64 pads_S4096x12x64_S4096x12x128_000_000_0640 h_S_ shapeCasts_S4096x12x128_S4096x1536
    (((cfg0.win 0).blk t).view.emb y) (row t (y 0)) ⟨g, by omega⟩ x hx ?_ ?_).trans ?_
  · unfold row; blk_simp [idx t]; simp [mul_comm]
  · blk_simp [idx t]; simp [e]
  · split_ifs with hb
    · exact (cols_eq _ _ _ _ _ (Nat.zero_add _).symm).symm
    · rfl

theorem blk4 (c : Dev nD) (t : Fin cfg0.N) : Slotted (fun i => cols (m ((c : Thread nD τ).loc main_arg1) : FVec Ideal S4096x256 .f32) 0 (row t i)) (iblk m c 4 t : FVec Ideal S512x512 .bf16) := fun y g x hx e => by
  have h1 : (y 1).val < 512 := (y 1).isLt
  refine (congrFun (slots4 m c) (((cfg0.win 4).blk t).view.emb y)).trans ?_
  refine (padded (n := 4096) (H := 4) rfl rfl (m ((c : Thread nD τ).loc main_arg1) : FVec Ideal S4096x256 .f32) zero_int shapeCasts_S4096x256_S4096x4x64 pads_S4096x4x64_S4096x4x128_000_000_0640 h_S_ shapeCasts_S4096x4x128_S4096x512
    (((cfg0.win 4).blk t).view.emb y) (row t (y 0)) ⟨g, by omega⟩ x hx ?_ ?_).trans ?_
  · unfold row; blk_simp [idx t]; simp [mul_comm]
  · blk_simp [idx t]; simp [e]
  · split_ifs with hb
    · exact (cols_eq _ _ _ _ _ (Nat.zero_add _).symm).symm
    · rfl

theorem blk1 (c : Dev nD) (t : Fin cfg0.N) (y : S768x1024.Idx) (i : S1024x1024.Idx) (h0 : (i 0).val = (y 0).val) (h1 : (i 1).val = (y 1).val) : iblk m c 1 t y = m ((c : Thread nD τ).loc main_arg2) i := by
  refine (congrFun (arg1 m c) (((cfg0.win 1).blk t).view.emb y)).trans (extractStridedSlice_apply _ _ _ _ _ fun a => ?_)
  fin_cases a <;> (blk_simp [idx t]; simp [h0, h1])

theorem blk5 (c : Dev nD) (t : Fin cfg0.N) (y : S256x1024.Idx) (i : S1024x1024.Idx) (h0 : (i 0).val = 768 + (y 0).val) (h1 : (i 1).val = (y 1).val) : iblk m c 5 t y = m ((c : Thread nD τ).loc main_arg2) i := by
  refine (congrFun (arg5 m c) (((cfg0.win 5).blk t).view.emb y)).trans (extractStridedSlice_apply _ _ _ _ _ fun a => ?_)
  fin_cases a <;> (blk_simp [idx t]; simp [h0, h1])

theorem blk2 (c : Dev nD) (t : Fin cfg0.N) (y : S512x1024.Idx) (i : S4096x1024.Idx) (h0 : (i 0).val = 512 * t.val + (y 0).val) (h1 : (i 1).val = (y 1).val) :
    iblk m c 2 t y = m ((c : Thread nD τ).loc main_arg3) i := by
  refine (congrFun (arg2 m c) (((cfg0.win 2).blk t).view.emb y)).trans (congrArg _ (funext fun a => Fin.ext ?_))
  fin_cases a <;> (blk_simp [idx t]; simp [h0, h1, mul_comm])

theorem blk3 (c : Dev nD) (t : Fin cfg0.N) (y : S1x1024.Idx) (i : S1024.Idx) (h0 : (i 0).val = (y 1).val) :
    iblk m c 3 t y = m ((c : Thread nD τ).loc main_arg4) i := by
  have e0 : (y 0).val = 0 := by have : (y 0).val < 1 := (y 0).isLt; omega
  refine (congrFun (arg3 m c) (((cfg0.win 3).blk t).view.emb y)).trans ?_
  refine shapeCast_apply _ shapeCasts_S1024_S1x1024 _ i ?_
  rw [Shape.rowMajor_val_one, Shape.rowMajor_val_two]
  blk_simp [idx t]
  simp [h0, e0]

section Reference

variable (a : FVec Ideal S4096x768 .f32) (b : FVec Ideal S4096x256 .f32) (w : FVec Ideal S1024x1024 .f32) (x : FVec Ideal S4096x1024 .f32) (g : FVec Ideal S1024 .f32)

/-- The residual with both products added. -/
def added (i : S4096x1024.Idx) : EReal :=
  x i + ((∑ k : Fin 768, a (ix2 (i 0) k) * w (ix2 (⟨k.val, by omega⟩ : Fin 1024) (i 1))) + ∑ k : Fin 256, b (ix2 (i 0) k) * w (ix2 (⟨768 + k.val, by omega⟩ : Fin 1024) (i 1)))

/-- Its rows divided by the root of their mean square, times the gain. -/
def scaled (i : S4096x1024.Idx) : EReal :=
  added a b w x i * Ideal.rsqrt (Ideal.div (∑ k : Fin 1024, added a b w x (ix2 (i 0) k) * added a b w x (ix2 (i 0) k)) (Ideal.ofBits .f32 0x44800000#32) + Ideal.ofBits .f32 0x358637BD#32) * g (ix1 (i 1))

theorem left (i : Fin 4096) (k : Fin 768) : val_main_v0 (F := Ideal) a b (ix2 i (⟨k.val, by omega⟩ : Fin 1024)) = a (ix2 i k) := by
  refine concatenate_pair_apply_left (t := Cert.Reference11Ideal.S4096x1024) 1 a b _ _ rfl (ix2 i k) fun q => ?_
  fin_cases q <;> rfl

theorem right (i : Fin 4096) (k : Fin 256) : val_main_v0 (F := Ideal) a b (ix2 i (⟨768 + k.val, by omega⟩ : Fin 1024)) = b (ix2 i k) := by
  refine concatenate_pair_apply_right (t := Cert.Reference11Ideal.S4096x1024) 1 a b _ _ rfl rfl (ix2 i k) (fun q hq => ?_) (Nat.add_comm k.val 768)
  match q with
  | ⟨0, _⟩ => rfl
  | ⟨1, _⟩ => exact absurd rfl hq

theorem ref_added (i : S4096x1024.Idx) : val_main_v2 (F := Ideal) a b w x i = added a b w x i := by
  refine (val_main_v2_apply (F := Ideal) a b w x i).trans (congrArg (fun s : EReal => x i + s) ?_)
  refine (val_main_v1_apply a b w i).trans ((Finset.sum_congr rfl fun k _ => congrArg₂ (fun p q : EReal => p * q) (congrArg (val_main_v0 (F := Ideal) a b) (funext fun q => ?_ : _ = ix2 (i 0) k)) (congrArg w (funext fun q => ?_ : _ = ix2 k (i 1)))).trans ?_)
  · fin_cases q <;> rfl
  · fin_cases q <;> rfl
  · refine (Fin.sum_univ_add (a := 768) (b := 256) _).trans (congrArg₂ (fun p q : EReal => p + q) (Finset.sum_congr rfl fun k _ => ?_) (Finset.sum_congr rfl fun k _ => ?_))
    · exact congrArg (fun p : EReal => p * _) (left a b (i 0) k)
    · exact congrArg (fun p : EReal => p * _) (right a b (i 0) k)

theorem ref_scaled (i : S4096x1024.Idx) : val_main_v16 (F := Ideal) a b w x g i = scaled a b w x g i := by
  refine (val_main_v16_apply (F := Ideal) a b w x g i).trans ((val_main_v15_apply (F := Ideal) a b w x g i).trans ?_)
  rw [val_main_v12_apply, ref_added, val_main_v11_apply, val_main_v10_apply, val_main_v9_apply, val_main_v7_apply, val_main_v5_apply, val_main_v4_apply, val_main_v6_apply,
    val_main_cst_0_apply, val_main_v8_apply, val_main_cst_1_apply, val_main_cst_apply, val_main_v14_apply, val_main_v13_apply]
  refine congrArg₂ (fun a b : EReal => a * b) (congrArg (fun s : EReal => added a b w x i * Ideal.rsqrt (Ideal.div s _ + _)) ?_) (congrArg g (funext fun q => ?_))
  · refine (congrArg (fun a : EReal => a + _) zero_word).trans ((zero_add _).trans (Finset.sum_congr rfl fun k _ => ?_))
    refine (val_main_v3_apply (F := Ideal) a b w x _).trans (congrArg (fun s : EReal => s * s) ((ref_added a b w x _).trans (congrArg (added a b w x) (funext fun q => ?_))))
    fin_cases q <;> rfl
  · fin_cases q; rfl

end Reference

/-- A block of the first result, at the block's place. -/
theorem block (c : Dev nD) (t : Fin cfg0.N) (y : S512x1024.Idx) (i : S4096x1024.Idx) (h0 : (i 0).val = 512 * t.val + (y 0).val) (h1 : (i 1).val = (y 1).val) :
    res (iblk m c 0 t) (iblk m c 1 t) (iblk m c 2 t) (iblk m c 4 t) (iblk m c 5 t) y
      = added (m ((c : Thread nD τ).loc main_arg0)) (m ((c : Thread nD τ).loc main_arg1)) (m ((c : Thread nD τ).loc main_arg2)) (m ((c : Thread nD τ).loc main_arg3)) i := by
  have e : row t (y 0) = i 0 := Fin.ext h0.symm
  refine (res_apply _ _ _ _ _ (blk0 m c t) (blk4 m c t) y).trans ((add_comm _ _).trans (congrArg₂ (fun a b : EReal => a + b) (blk2 m c t y i h0 h1)
    (congrArg₂ (fun a b : EReal => a + b) (Finset.sum_congr rfl fun k _ => congrArg₂ (fun a b : EReal => a * b) ?_ (blk1 m c t _ _ rfl h1)) (Finset.sum_congr rfl fun k _ => congrArg₂ (fun a b : EReal => a * b) ?_ (blk5 m c t _ _ rfl h1)))))
  · rw [e]; exact cols_eq _ _ _ _ _ (Nat.zero_add _).symm
  · rw [e]; exact cols_eq _ _ _ _ _ (Nat.zero_add _).symm

theorem final6 (c : Dev nD) : (dats m 0 c).arrAt 6 cfg0.N
    = val_main_v2 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6, out6]
  refine (block m c t y _ ?_ ?_).trans (ref_added _ _ _ _ _).symm
  · blk_simp [idx t]; simp [mul_comm]
  · blk_simp [idx t]

/-- A block after the norm, at the block's place. -/
theorem block_normed (c : Dev nD) (t : Fin cfg0.N) (y : S512x1024.Idx) (i : S4096x1024.Idx) (h0 : (i 0).val = 512 * t.val + (y 0).val) (h1 : (i 1).val = (y 1).val) :
    k0_pay2 (F := Ideal) (k0_pay3 (iblk m c 1 t) (iblk m c 0 t)) (k0_pay5 (iblk m c 4 t)) (k0_pay6 (iblk m c 4 t)) (iblk m c 5 t) (iblk m c 2 t) (iblk m c 3 t) y
      = scaled (m ((c : Thread nD τ).loc main_arg0)) (m ((c : Thread nD τ).loc main_arg1)) (m ((c : Thread nD τ).loc main_arg2)) (m ((c : Thread nD τ).loc main_arg3)) (m ((c : Thread nD τ).loc main_arg4)) i := by
  have hb := block m c t
  unfold res at hb
  rw [normed]
  generalize k0_pay1 (F := Ideal) _ _ _ _ _ = p at hb ⊢
  refine congrArg₂ (fun a b : EReal => a * b) (congrArg₂ (fun a b : EReal => a * Ideal.rsqrt (Ideal.div b _ + _)) (hb y i h0 h1) (Finset.sum_congr rfl fun k _ => ?_)) (blk3 m c t _ _ h1)
  exact congrArg (fun s : EReal => s * s) (hb _ (ix2 (i 0) k) h0 rfl)

theorem final7 (c : Dev nD) : (dats m 0 c).arrAt 7 cfg0.N
    = val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7, out7]
  refine (block_normed m c t y _ ?_ ?_).trans (ref_scaled _ _ _ _ _ _).symm
  · blk_simp [idx t]; simp [mul_comm]
  · blk_simp [idx t]

end Cert.Kernel11Ideal.Out

end
-- ==== Proof.Out.Project.lean ====
module

public import proofs.«01_k».proof.Proof.Gen.Kernel13Ideal.Value
public import proofs.«01_k».proof.Proof.Gen.Reference13Ideal.Read
public import proofs.«01_k».proof.Proof.Out.Slots
public import proofs.«01_k».proof.Proof.Cross.Host
public import Idealize.ShloMosaic.Lib.StableHlo.ReadAt

/-! The windowed attention's input product, its heads laid out with 128 columns each. -/

@[expose] public section

set_option maxRecDepth 16384

noncomputable section

namespace Cert.Kernel13Ideal.Out

open Cert.Kernel13Ideal Cert.Kernel13Ideal.Gen
open Idealize.ShloMosaic Idealize.ShloMosaic.TcCoe
open Cert.Out
open Cert.Reference13Ideal.Read
open Cert.Kernel6Ideal.Cross (padded)
open Cert.Reference6Ideal.Cross (zero_int)

variable (m : (ℓ : Loc nD τ sig) → Buf (Elt Ideal) ℓ)

/-- A block's product. -/
def prod (r : FVec Ideal S1024x384 .bf16) (l : FVec Ideal S4096x1024 .bf16) : FVec Ideal S4096x384 .f32 :=
  matmul dot_S4096x1024_S1024x384_S4096x384_1_0_0_1_n_n none (shapeCast S4096x1024 l shapeCasts_S4096x1024_S4096x1024) (shapeCast S1024x384 r shapeCasts_S1024x384_S1024x384) (constant (F := Ideal) S4096x384 .f32 0x00000000#32)

theorem prod_apply (r : FVec Ideal S1024x384 .bf16) (l : FVec Ideal S4096x1024 .bf16) (y : S4096x384.Idx) : prod r l y = ∑ k : Fin 1024, l (ix2 (y 0) k) * r (ix2 k (y 1)) := by
  unfold prod
  idx_vars y
  pointwise []

theorem out (r : FVec Ideal S1024x384 .bf16) (l : FVec Ideal S4096x1024 .bf16) (y : S4096x768.Idx) (g : Fin 6) (x : Fin 128) (e : (y 1).val = 128 * g.val + x.val) :
    k0_pay1 (F := Ideal) r l y = if hb : x.val < 64 then prod r l (ix2 (y 0) ⟨64 * g.val + x.val, by omega⟩) else 0 := by
  exact pieces (P := prod r l) (N := 6) rfl (.cons 0 slices_S4096x384_o0_0_S4096x128 rotates_S4096x128_d1 _ (.cons 128 slices_S4096x384_o0_128_S4096x128 rotates_S4096x128_d1 _ (.cons 256 slices_S4096x384_o0_256_S4096x128 rotates_S4096x128_d1 _ (.nil _))))
    rfl concatenates_S4096x128_S4096x128_S4096x128_S4096x128_S4096x128_S4096x128_S4096x768_d1 y g x e

theorem out2 (x0 : Vec Ideal S4096x1024 .bf16) (x1 : Vec Ideal S1024x384 .bf16) : out0_2 x0 x1 = k0_pay1 x1 x0 := by
  unfold out0_2
  rw [View.canon_unit_zero (by decide), View.ld_unit_zero (by decide), View.ld_unit_zero (by decide)]

theorem idx : ∀ t : Fin cfg0.N, win0_0.index t = ![0, 0] ∧ win0_1.index t = ![0, t.val] ∧ win0_2.index t = ![0, t.val] :=
  (by decide +kernel : ∀ t : Fin grid0.N, _)

theorem four (t : Fin cfg0.N) : t.val < 4 := lt_of_lt_of_eq t.isLt (by decide +kernel : cfg0.N = 4)

theorem arg0 (c : Dev nD) : V m c main_v0 = m ((c : Thread nD τ).loc main_arg0) := by
  simp only [V, hostOps0]
  after_reads_simp
  rfl

theorem arg1 (c : Dev nD) : V m c main_v1 = m ((c : Thread nD τ).loc main_arg1) := by
  simp only [V, hostOps0]
  after_reads_simp
  rfl

theorem blk0 (c : Dev nD) (t : Fin cfg0.N) (y : S4096x1024.Idx) : iblk m c 0 t y = m ((c : Thread nD τ).loc main_arg0) y := by
  refine (congrFun (arg0 m c) (((cfg0.win 0).blk t).view.emb y)).trans (congrArg _ (funext fun a => Fin.ext ?_))
  fin_cases a <;> (blk_simp [idx t])

theorem blk1 (c : Dev nD) (t : Fin cfg0.N) (y : S1024x384.Idx) (i : S1024x1536.Idx) (h0 : (i 0).val = (y 0).val) (h1 : (i 1).val = 384 * t.val + (y 1).val) :
    iblk m c 1 t y = m ((c : Thread nD τ).loc main_arg1) i := by
  refine (congrFun (arg1 m c) (((cfg0.win 1).blk t).view.emb y)).trans (congrArg _ (funext fun a => Fin.ext ?_))
  fin_cases a <;> (blk_simp [idx t]; simp [h0, h1, mul_comm])

theorem ref (x : FVec Ideal S4096x1024 .f32) (w : FVec Ideal S1024x1536 .f32) (y : S4096x3072.Idx) (i : Fin 4096) (g : Fin 24) (z : ℕ) (hz : z < 128) (e0 : (y 0).val = i.val) (e1 : (y 1).val = 128 * g.val + z) :
    val_main_v4 (F := Ideal) x w y = if hb : z < 64 then ∑ k : Fin 1024, x (ix2 i k) * w (ix2 k ⟨64 * g.val + z, by omega⟩) else 0 := by
  refine (padded (n := 4096) (H := 24) rfl rfl (val_main_v0 (F := Ideal) x w) zero_int Cert.Reference13Ideal.Gen.shapeCasts_S4096x1536_S4096x24x64 Cert.Reference13Ideal.Gen.pads_S4096x24x64_S4096x24x128_000_000_0640
    Cert.Reference13Ideal.Gen.h_S_ Cert.Reference13Ideal.Gen.shapeCasts_S4096x24x128_S4096x3072 y i g z hz e0 e1).trans ?_
  split_ifs with hb
  · refine (val_main_v0_apply x w _).trans (Finset.sum_congr rfl fun k _ => congrArg₂ (fun a b : EReal => a * b) (congrArg x (funext fun a => ?_)) (congrArg w (funext fun a => ?_))) <;> fin_cases a <;> rfl
  · rfl

theorem final2 (c : Dev nD) : (dats m 0 c).arrAt 2 cfg0.N = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2, out2]
  have ht := four t
  have e1 : (y 1).val < 768 := (y 1).isLt
  refine (out _ _ y ⟨(y 1).val / 128, by omega⟩ ⟨(y 1).val % 128, by omega⟩ (Nat.div_add_mod _ _).symm).trans
    ((ref _ _ _ (y 0) ⟨6 * t.val + (y 1).val / 128, by omega⟩ ((y 1).val % 128) (by omega) ?_ ?_).trans ?_).symm
  · blk_simp [idx t]
  · blk_simp [idx t]; simp; omega
  · refine dite_congr rfl (fun hb => ?_) fun _ => rfl
    refine ((prod_apply (iblk m c 1 t) (iblk m c 0 t) (ix2 (y 0) ⟨64 * ((y 1).val / 128) + (y 1).val % 128, by have : (y 1).val % 128 < 64 := hb; omega⟩)).trans (Finset.sum_congr rfl fun k _ => congrArg₂ (fun a b : EReal => a * b) (blk0 m c t _) (blk1 m c t _ (ix2 k ⟨64 * (6 * t.val + (y 1).val / 128) + (y 1).val % 128, by have : (y 1).val % 128 < 64 := hb; omega⟩) rfl ?_))).symm
    show 64 * (6 * t.val + (y 1).val / 128) + (y 1).val % 128 = 384 * t.val + (64 * ((y 1).val / 128) + (y 1).val % 128)
    omega

end Cert.Kernel13Ideal.Out

end
-- ==== Proof.Out.CrossGrad.lean ====
module

public import proofs.«01_k».proof.Proof.Gen.Kernel14Ideal.Value
public import proofs.«01_k».proof.Proof.Gen.Reference14Ideal.Read
public import proofs.«01_k».proof.Proof.Out.WeightGrad

/-! The weight gradient of the output product, for the rows of the cross attention. -/

@[expose] public section

set_option maxRecDepth 16384

noncomputable section

namespace Cert.Kernel14Ideal.Out

open Cert.Kernel14Ideal Cert.Kernel14Ideal.Gen
open Idealize.ShloMosaic Idealize.ShloMosaic.TcCoe
open Cert.Out
open Cert.Reference14Ideal.Read
open Cert.Kernel6Ideal.Cross (padded)
open Cert.Reference6Ideal.Cross (zero_int)

variable (m : (ℓ : Loc nD τ sig) → Buf (Elt Ideal) ℓ)

/-- A grid point computes what one of the mixer's rows does. -/
theorem same (s : FVec Ideal S4096x512 .bf16) (d : FVec Ideal S4096x1024 .bf16) : out0_2 (F := Ideal) s d = Cert.Kernel10Ideal.Gen.out0_2 (F := Ideal) s d := rfl

theorem idx : ∀ t : Fin cfg0.N, win0_0.index t = ![0, 0] ∧ win0_1.index t = ![0, 0] ∧ win0_2.index t = ![0, 0] :=
  (by decide +kernel : ∀ t : Fin grid0.N, _)

theorem arg0 (c : Dev nD) : V m c main_v3 = truncf (F := Ideal) .bf16 (shapeCast S4096x512 (pad S4096x4x128 ![0, 0, 0] ![0, 0, 64] ![0, 0, 0]
    (shapeCast S4096x4x64 (m ((c : Thread nD τ).loc main_arg0) : FVec Ideal S4096x256 .f32) shapeCasts_S4096x256_S4096x4x64)
    (sitofp .f32 (constantI S_ 32 0#32)) pads_S4096x4x64_S4096x4x128_000_000_0640 h_S_) shapeCasts_S4096x4x128_S4096x512) bitsLt_bf16_f32 := by
  simp only [V, hostOps0, hostOps0_1, hostOps0_2, List.flatten_cons, List.flatten_nil, List.append_nil, List.cons_append, List.nil_append]
  after_reads_simp
  rfl

theorem arg1 (c : Dev nD) : V m c main_v4 = m ((c : Thread nD τ).loc main_arg1) := by
  simp only [V, hostOps0, hostOps0_1, hostOps0_2, List.flatten_cons, List.flatten_nil, List.append_nil, List.cons_append, List.nil_append]
  after_reads_simp
  rfl

theorem blk0 (c : Dev nD) (t : Fin cfg0.N) : Slotted (cols (m ((c : Thread nD τ).loc main_arg0) : FVec Ideal S4096x256 .f32) 0) (iblk m c 0 t : FVec Ideal S4096x512 .bf16) := fun y g x hx e => by
  have h1 : (y 1).val < 512 := (y 1).isLt
  refine (congrFun (arg0 m c) (((cfg0.win 0).blk t).view.emb y)).trans ?_
  refine (padded (n := 4096) (H := 4) rfl rfl (m ((c : Thread nD τ).loc main_arg0) : FVec Ideal S4096x256 .f32) zero_int shapeCasts_S4096x256_S4096x4x64 pads_S4096x4x64_S4096x4x128_000_000_0640 h_S_ shapeCasts_S4096x4x128_S4096x512
    (((cfg0.win 0).blk t).view.emb y) (y 0) ⟨g, by omega⟩ x hx ?_ ?_).trans ?_
  · blk_simp [idx t]
  · blk_simp [idx t]; simp [e]
  · split_ifs with hb
    · exact (cols_eq _ _ _ _ _ (Nat.zero_add _).symm).symm
    · rfl

theorem blk1 (c : Dev nD) (t : Fin cfg0.N) (y : S4096x1024.Idx) : iblk m c 1 t y = m ((c : Thread nD τ).loc main_arg1) y := by
  refine (congrFun (arg1 m c) (((cfg0.win 1).blk t).view.emb y)).trans (congrArg _ (funext fun a => Fin.ext ?_))
  fin_cases a <;> (blk_simp [idx t])

theorem ref (x : FVec Ideal S4096x256 .f32) (d : FVec Ideal S4096x1024 .f32) (y : S256x1024.Idx) : val_main_v3 (F := Ideal) x d y = ∑ k : Fin 4096, x (ix2 k (y 0)) * d (ix2 k (y 1)) := by
  refine (val_main_v3_apply (F := Ideal) x d y).trans ((val_main_v2_apply x d _).trans (Finset.sum_congr rfl fun k _ => (mul_comm _ _).trans
    (congrArg₂ (fun a b : EReal => a * b) (congrArg x (funext fun a => ?_)) (congrArg d (funext fun a => ?_))))) <;> fin_cases a <;> rfl

theorem final2 (c : Dev nD) : (dats m 0 c).arrAt 2 cfg0.N = val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2, same]
  refine ((Cert.Kernel10Ideal.Out.out _ _ (blk0 m c t) y).trans ((Finset.sum_congr rfl fun k _ => congrArg₂ (fun a b : EReal => a * b) (cols_eq _ _ _ _ _ ?_)
    ((blk1 m c t _).trans (congrArg (m ((c : Thread nD τ).loc main_arg1) : FVec Ideal S4096x1024 .f32) (funext fun a => Fin.ext ?_)))).trans (ref _ _ _).symm))
  · blk_simp [idx t]
  · fin_cases a
    · rfl
    · show (y 1).val = (((cfg0.win 2).blk t).view.emb y 1).val; blk_simp [idx t]

end Cert.Kernel14Ideal.Out

end
-- ==== Proof.Out.InputWeight.lean ====
module

public import proofs.«01_k».proof.Proof.Gen.Kernel15Ideal.Value
public import proofs.«01_k».proof.Proof.Gen.Reference15Ideal.Read
public import proofs.«01_k».proof.Proof.Out.WeightGrad

/-! The weight gradient of the windowed layer's input product, its cotangent laid out with 128 columns for each head. -/

@[expose] public section

set_option maxRecDepth 16384

noncomputable section

namespace Cert.Kernel15Ideal.Out

open Cert.Kernel15Ideal Cert.Kernel15Ideal.Gen
open Idealize.ShloMosaic Idealize.ShloMosaic.TcCoe
open Cert.Out
open Cert.Reference15Ideal.Read
open Cert.Kernel6Ideal.Cross (padded)
open Cert.Reference6Ideal.Cross (zero_int)

variable (m : (ℓ : Loc nD τ sig) → Buf (Elt Ideal) ℓ)

theorem mm (h : FVec Ideal S4096x1024 .bf16) (p : FVec Ideal S4096x256 .f32) (y : S1024x256.Idx) :
    matmul dot_S4096x1024_S4096x256_S1024x256_0_0_1_1_n_n none (shapeCast S4096x1024 h shapeCasts_S4096x1024_S4096x1024) (truncf .bf16 p bitsLt_bf16_f32) (constant (F := Ideal) S1024x256 .f32 0x00000000#32) y
      = ∑ k : Fin 4096, h (ix2 k (y 0)) * p (ix2 k (y 1)) := by
  idx_vars y
  pointwise []

theorem out (h : FVec Ideal S4096x1024 .bf16) (s : FVec Ideal S4096x512 .bf16) {X : Fin 4096 → ℕ → EReal} (hs : Slotted X s) (y : S1024x256.Idx) :
    out0_2 (F := Ideal) h s y = ∑ k : Fin 4096, h (ix2 k (y 0)) * X k (y 1).val := by
  unfold out0_2
  rw [View.canon_unit_zero (by decide), View.ld_unit_zero (by decide), View.ld_unit_zero (by decide)]
  have hR : Slotted X (Cert.Kernel10Ideal.Out.wide s) := fun j g x hx e => (Cert.Kernel10Ideal.Out.wide_apply s j).trans (hs j g x hx e)
  refine (mm h _ y).trans (Finset.sum_congr rfl fun k _ => congrArg (fun a : EReal => _ * a) ?_)
  exact pairs hR (.cons 0 0 128 rfl rfl slices_S4096x512_o0_0_S4096x128 slices_S4096x512_o0_128_S4096x128 rotates_S4096x128_d1 _
    (.cons 1 256 384 rfl rfl slices_S4096x512_o0_256_S4096x128 slices_S4096x512_o0_384_S4096x128 rotates_S4096x128_d1 _ (.nil _))) concatenates_S4096x128_S4096x128_S4096x256_d1 rfl (ix2 k (y 1))

theorem idx : ∀ t : Fin cfg0.N, win0_0.index t = ![0, 0] ∧ win0_1.index t = ![0, t.val] ∧ win0_2.index t = ![0, t.val] :=
  (by decide +kernel : ∀ t : Fin grid0.N, _)

theorem six (t : Fin cfg0.N) : t.val < 6 := lt_of_lt_of_eq t.isLt (by decide +kernel : cfg0.N = 6)

theorem arg0 (c : Dev nD) : V m c main_v0 = m ((c : Thread nD τ).loc main_arg0) := by
  simp only [V, hostOps0, hostOps0_1, hostOps0_2, List.flatten_cons, List.flatten_nil, List.append_nil, List.cons_append, List.nil_append]
  after_reads_simp
  rfl

theorem arg1 (c : Dev nD) : V m c main_v4 = truncf (F := Ideal) .bf16 (shapeCast S4096x3072 (pad S4096x24x128 ![0, 0, 0] ![0, 0, 64] ![0, 0, 0]
    (shapeCast S4096x24x64 (m ((c : Thread nD τ).loc main_arg1) : FVec Ideal S4096x1536 .f32) shapeCasts_S4096x1536_S4096x24x64)
    (sitofp .f32 (constantI S_ 32 0#32)) pads_S4096x24x64_S4096x24x128_000_000_0640 h_S_) shapeCasts_S4096x24x128_S4096x3072) bitsLt_bf16_f32 := by
  simp only [V, hostOps0, hostOps0_1, hostOps0_2, List.flatten_cons, List.flatten_nil, List.append_nil, List.cons_append, List.nil_append]
  after_reads_simp
  rfl

theorem blk0 (c : Dev nD) (t : Fin cfg0.N) (y : S4096x1024.Idx) : iblk m c 0 t y = m ((c : Thread nD τ).loc main_arg0) y := by
  refine (congrFun (arg0 m c) (((cfg0.win 0).blk t).view.emb y)).trans (congrArg _ (funext fun a => Fin.ext ?_))
  fin_cases a <;> (blk_simp [idx t])

theorem blk1 (c : Dev nD) (t : Fin cfg0.N) : Slotted (cols (m ((c : Thread nD τ).loc main_arg1) : FVec Ideal S4096x1536 .f32) (256 * t.val)) (iblk m c 1 t : FVec Ideal S4096x512 .bf16) := fun y g x hx e => by
  have ht := six t
  have h1 : (y 1).val < 512 := (y 1).isLt
  refine (congrFun (arg1 m c) (((cfg0.win 1).blk t).view.emb y)).trans ?_
  refine (padded (n := 4096) (H := 24) rfl rfl (m ((c : Thread nD τ).loc main_arg1) : FVec Ideal S4096x1536 .f32) zero_int shapeCasts_S4096x1536_S4096x24x64 pads_S4096x24x64_S4096x24x128_000_000_0640 h_S_ shapeCasts_S4096x24x128_S4096x3072
    (((cfg0.win 1).blk t).view.emb y) (y 0) ⟨4 * t.val + g, by omega⟩ x hx ?_ ?_).trans ?_
  · blk_simp [idx t]
  · blk_simp [idx t]; simp [e]; omega
  · split_ifs with hb
    · exact (cols_eq _ _ _ _ _ (show 64 * (4 * t.val + g) + x = 256 * t.val + (64 * g + x) by omega)).symm
    · rfl

theorem ref (x : FVec Ideal S4096x1024 .f32) (d : FVec Ideal S4096x1536 .f32) (y : S1024x1536.Idx) : val_main_v3 (F := Ideal) x d y = ∑ k : Fin 4096, x (ix2 k (y 0)) * d (ix2 k (y 1)) := by
  refine (val_main_v3_apply (F := Ideal) x d y).trans ((val_main_v2_apply x d _).trans (Finset.sum_congr rfl fun k _ => (mul_comm _ _).trans
    (congrArg₂ (fun a b : EReal => a * b) (congrArg x (funext fun a => ?_)) (congrArg d (funext fun a => ?_))))) <;> fin_cases a <;> rfl

theorem final2 (c : Dev nD) : (dats m 0 c).arrAt 2 cfg0.N = val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  have ht := six t
  refine ((out _ _ (blk1 m c t) y).trans ((Finset.sum_congr rfl fun k _ => congrArg₂ (fun a b : EReal => a * b)
    ((blk0 m c t _).trans (congrArg (m ((c : Thread nD τ).loc main_arg0) : FVec Ideal S4096x1024 .f32) (funext fun a => Fin.ext ?_))) (cols_eq _ _ _ _ _ ?_)).trans (ref _ _ _).symm))
  · fin_cases a
    · rfl
    · show (y 0).val = (((cfg0.win 2).blk t).view.emb y 0).val; blk_simp [idx t]
  · blk_simp [idx t]; simp [mul_comm]

end Cert.Kernel15Ideal.Out

end
-- ==== Proof.Out.LayerRef.lean ====
module

public import proofs.«01_k».proof.Proof.Gen.Reference16Ideal.Read
public import proofs.«01_k».proof.Proof.Mlp.InputRef

/-! The input gradient of the windowed layer: its reference is the MLP's, when the layer's 1536 columns are taken as 4096 columns that end in zeros. -/

@[expose] public section

set_option maxRecDepth 16384

noncomputable section

namespace Cert.Kernel16Ideal.Out

open Idealize.ShloMosaic
open Cert.Kernel5Ideal.Mlp (gradU gradX gradG ref_x ref_x16 ref_g)

/-- Zero columns after the 1536th. -/
def ext {n : ℕ} (X : FVec Ideal ⟨2, ![n, 1536]⟩ .f32) : FVec Ideal ⟨2, ![n, 4096]⟩ .f32 :=
  fun i => if h : (i 1).val < 1536 then X (ix2 (i 0) ⟨(i 1).val, h⟩) else 0

/-- The zero columns add nothing to the product. -/
theorem gradU_ext (w : FVec Ideal Cert.Reference16Ideal.S1024x1536 .f32) (du : FVec Ideal Cert.Reference16Ideal.S4096x1536 .f32) (i : Fin 4096) (j : Fin 1024) :
    gradU (ext w) (ext du) i j = ∑ k : Fin 1536, du (ix2 i k) * w (ix2 j k) := by
  refine (Fin.sum_univ_add (a := 1536) (b := 2560) (fun k : Fin (1536 + 2560) => ext du (ix2 i k) * ext w (ix2 j k))).trans ?_
  refine (congrArg₂ (fun a b : EReal => a + b) (Finset.sum_congr rfl fun k _ => congrArg₂ (fun a b : EReal => a * b) (dif_pos k.isLt) (dif_pos k.isLt)) (Finset.sum_eq_zero fun k _ => ?_)).trans (add_zero _)
  exact (congrArg (fun a : EReal => a * _) (dif_neg (show ¬ 1536 + k.val < 1536 by omega))).trans (zero_mul _)

variable (x : FVec Ideal Cert.Reference16Ideal.S4096x1024 .f32) (g : FVec Ideal Cert.Reference16Ideal.S1024 .f32) (w : FVec Ideal Cert.Reference16Ideal.S1024x1536 .f32) (du : FVec Ideal Cert.Reference16Ideal.S4096x1536 .f32) (d : FVec Ideal Cert.Reference16Ideal.S4096x1024 .f32)

/-- The two references' products. -/
theorem product : Cert.Reference16Ideal.Read.val_main_v17 (F := Ideal) w du = Cert.Reference5Ideal.Read.val_main_v17 (F := Ideal) (ext w) (ext du) := funext fun i => by
  refine (Cert.Reference16Ideal.Read.val_main_v17_apply w du i).trans (Eq.trans ?_ ((Cert.Kernel5Ideal.Mlp.ref_gradU (ext w) (ext du) i).trans (gradU_ext w du (i 0) (i 1))).symm)
  refine Finset.sum_congr rfl fun k _ => congrArg₂ (fun a b : EReal => a * b) (congrArg du (funext fun a => Fin.ext ?_)) (congrArg w (funext fun a => Fin.ext ?_)) <;> fin_cases a <;> rfl

theorem scaled : Cert.Reference16Ideal.Read.val_main_v22 (F := Ideal) g w du = Cert.Reference5Ideal.Read.val_main_v22 (F := Ideal) g (ext w) (ext du) := by
  unfold Cert.Reference16Ideal.Read.val_main_v22
  rw [product]
  rfl

theorem slope : Cert.Reference16Ideal.Read.val_main_v34 (F := Ideal) x g w du = Cert.Reference5Ideal.Read.val_main_v34 (F := Ideal) x g (ext w) (ext du) := by
  unfold Cert.Reference16Ideal.Read.val_main_v34 Cert.Reference16Ideal.Read.val_main_v33 Cert.Reference16Ideal.Read.val_main_v32 Cert.Reference16Ideal.Read.val_main_v30 Cert.Reference16Ideal.Read.val_main_v26 Cert.Reference16Ideal.Read.val_main_v25 Cert.Reference16Ideal.Read.val_main_v24
  rw [scaled]
  rfl

/-- The reference's gradient of the input. -/
theorem layer_x : Cert.Reference16Ideal.Read.val_main_v38 (F := Ideal) x g w du d = gradX x g (ext w) (ext du) d := by
  refine Eq.trans ?_ (funext (ref_x x g (ext w) (ext du) d))
  unfold Cert.Reference16Ideal.Read.val_main_v38 Cert.Reference16Ideal.Read.val_main_v37 Cert.Reference16Ideal.Read.val_main_v36 Cert.Reference16Ideal.Read.val_main_v35 Cert.Reference16Ideal.Read.val_main_v29 Cert.Reference16Ideal.Read.val_main_v28
  rw [slope, scaled]
  rfl

theorem layer_x16 : Cert.Reference16Ideal.Read.val_main_v39 (F := Ideal) x g w du d = gradX x g (ext w) (ext du) d :=
  (congrArg (fun v : FVec Ideal Cert.Reference16Ideal.S4096x1024 .f32 => truncf (F := Ideal) .bf16 v Cert.Reference16Ideal.Gen.bitsLt_bf16_f32) (layer_x x g w du d)).trans rfl

/-- The reference's gradient of the gain. -/
theorem layer_g : Cert.Reference16Ideal.Read.val_main_v40 (F := Ideal) x w du = gradG x (ext w) (ext du) := by
  refine Eq.trans ?_ (funext (ref_g x (ext w) (ext du)))
  unfold Cert.Reference16Ideal.Read.val_main_v40 Cert.Reference16Ideal.Read.val_main_v23 Cert.Reference16Ideal.Read.val_main_v20 Cert.Reference16Ideal.Read.val_main_v19 Cert.Reference16Ideal.Read.val_main_v18
  rw [product]
  rfl

end Cert.Kernel16Ideal.Out

end
-- ==== Proof.Out.LayerGrad.lean ====
module

public import proofs.«01_k».proof.Proof.Gen.Kernel16Ideal.Value
public import proofs.«01_k».proof.Proof.Out.LayerRef
public import proofs.«01_k».proof.Proof.Out.Slots
public import proofs.«01_k».proof.Proof.Cross.Host
public import proofs.«01_k».proof.Proof.Mlp.InputGrad
public import Idealize.ShloMosaic.Lib.Pointwise
public import Idealize.ShloMosaic.Lib.Pipeline.ValueKit
public import Idealize.ShloMosaic.Lib.StableHlo.ReadAt

/-! The gradient of the windowed layer's input through its norm, the cotangent laid out with 128 columns for each head. -/

@[expose] public section

set_option maxRecDepth 16384

noncomputable section

namespace Cert.Kernel16Ideal.Out

open Cert.Kernel16Ideal Cert.Kernel16Ideal.Gen
open Idealize.ShloMosaic Idealize.ShloMosaic.TcCoe Idealize.ShloMosaic.Tactic
open Cert.Out
open Cert.Kernel5Ideal.Mlp (base gradU gradX gradG gainAt sum_blocks zero_word hz)
open Cert.Kernel6Ideal.Cross (padded)
open Cert.Reference6Ideal.Cross (zero_int)
open Cert.Reference16Ideal.Read (val_main_v38 val_main_v39 val_main_v40)

theorem root (x : FVec Ideal S512x1024 .f32) (y : S512x1.Idx) :
    k0_pay17 (F := Ideal) x y = Ideal.rsqrt (Ideal.div (∑ k : Fin 1024, x (ix2 (y 0) k) * x (ix2 (y 0) k)) (Ideal.ofBits .f32 0x44800000#32) + Ideal.ofBits .f32 0x358637BD#32) := by
  unfold k0_pay17
  idx_vars y
  pointwise []

theorem normed (x : FVec Ideal S512x1024 .f32) (y : S512x1024.Idx) : k0_pay18 (F := Ideal) x y = x y * k0_pay17 (F := Ideal) x (ix2 (y 0) 0) := by
  unfold k0_pay18
  generalize k0_pay17 (F := Ideal) x = q
  idx_vars y
  pointwise []

theorem gain (r : FVec Ideal S512x1024 .f32) (q : FVec Ideal S512x1024 .f32) (p : FVec Ideal S1x1024 .f32) (y : S1x1024.Idx) :
    k0_pay2 (F := Ideal) r q p y = p y + ∑ k : Fin 512, r (ix2 k (y 1)) * q (ix2 k (y 1)) := by
  unfold k0_pay2
  idx_vars y
  pointwise []

/-- The cotangent's columns without the slots. -/
def compact (s : FVec Ideal S512x3072 .bf16) : FVec Ideal S512x1536 .f32 :=
  concatenate S512x1536 1 [⟨S512x128, k0_pay5 s⟩, ⟨S512x128, k0_pay6 s⟩, ⟨S512x128, k0_pay7 s⟩, ⟨S512x128, k0_pay8 s⟩, ⟨S512x128, k0_pay9 s⟩, ⟨S512x128, k0_pay10 s⟩, ⟨S512x128, k0_pay11 s⟩, ⟨S512x128, k0_pay12 s⟩, ⟨S512x128, k0_pay13 s⟩,
    ⟨S512x128, pair 2304 2432 (k0_pay4 s) slices_S512x3072_o0_2304_S512x128 slices_S512x3072_o0_2432_S512x128 rotates_S512x128_d1⟩,
    ⟨S512x128, pair 2560 2688 (k0_pay4 s) slices_S512x3072_o0_2560_S512x128 slices_S512x3072_o0_2688_S512x128 rotates_S512x128_d1⟩,
    ⟨S512x128, pair 2816 2944 (k0_pay4 s) slices_S512x3072_o0_2816_S512x128 slices_S512x3072_o0_2944_S512x128 rotates_S512x128_d1⟩]
    concatenates_S512x128_S512x128_S512x128_S512x128_S512x128_S512x128_S512x128_S512x128_S512x128_S512x128_S512x128_S512x128_S512x1536_d1

theorem wide_apply (s : FVec Ideal S512x3072 .bf16) (y : S512x3072.Idx) : k0_pay4 (F := Ideal) s y = s y := by
  unfold k0_pay4
  idx_vars y
  pointwise []

theorem compact_at (s : FVec Ideal S512x3072 .bf16) {X : Fin 512 → ℕ → EReal} (hs : Slotted X s) (y : S512x1536.Idx) : compact s y = X (y 0) (y 1).val := by
  have hR : Slotted X (k0_pay4 (F := Ideal) s) := fun j g x hx e => (wide_apply s j).trans (hs j g x hx e)
  exact pairs hR (.cons 0 0 128 rfl rfl slices_S512x3072_o0_0_S512x128 slices_S512x3072_o0_128_S512x128 rotates_S512x128_d1 _
    (.cons 1 256 384 rfl rfl slices_S512x3072_o0_256_S512x128 slices_S512x3072_o0_384_S512x128 rotates_S512x128_d1 _
    (.cons 2 512 640 rfl rfl slices_S512x3072_o0_512_S512x128 slices_S512x3072_o0_640_S512x128 rotates_S512x128_d1 _
    (.cons 3 768 896 rfl rfl slices_S512x3072_o0_768_S512x128 slices_S512x3072_o0_896_S512x128 rotates_S512x128_d1 _
    (.cons 4 1024 1152 rfl rfl slices_S512x3072_o0_1024_S512x128 slices_S512x3072_o0_1152_S512x128 rotates_S512x128_d1 _
    (.cons 5 1280 1408 rfl rfl slices_S512x3072_o0_1280_S512x128 slices_S512x3072_o0_1408_S512x128 rotates_S512x128_d1 _
    (.cons 6 1536 1664 rfl rfl slices_S512x3072_o0_1536_S512x128 slices_S512x3072_o0_1664_S512x128 rotates_S512x128_d1 _
    (.cons 7 1792 1920 rfl rfl slices_S512x3072_o0_1792_S512x128 slices_S512x3072_o0_1920_S512x128 rotates_S512x128_d1 _
    (.cons 8 2048 2176 rfl rfl slices_S512x3072_o0_2048_S512x128 slices_S512x3072_o0_2176_S512x128 rotates_S512x128_d1 _
    (.cons 9 2304 2432 rfl rfl slices_S512x3072_o0_2304_S512x128 slices_S512x3072_o0_2432_S512x128 rotates_S512x128_d1 _
    (.cons 10 2560 2688 rfl rfl slices_S512x3072_o0_2560_S512x128 slices_S512x3072_o0_2688_S512x128 rotates_S512x128_d1 _
    (.cons 11 2816 2944 rfl rfl slices_S512x3072_o0_2816_S512x128 slices_S512x3072_o0_2944_S512x128 rotates_S512x128_d1 _ (.nil _)))))))))))))
    concatenates_S512x128_S512x128_S512x128_S512x128_S512x128_S512x128_S512x128_S512x128_S512x128_S512x128_S512x128_S512x128_S512x1536_d1 rfl y

/-- A block's product. -/
def rows (x0 : FVec Ideal S512x3072 .bf16) (x1 : FVec Ideal S1024x1536 .bf16) : FVec Ideal S512x1024 .f32 :=
  k0_pay16 (F := Ideal) (k0_pay3 x1) (k0_pay4 x0) (k0_pay5 x0) (k0_pay6 x0) (k0_pay7 x0) (k0_pay8 x0) (k0_pay9 x0) (k0_pay10 x0) (k0_pay11 x0) (k0_pay12 x0) (k0_pay13 x0) (k0_pay14 x0) (k0_pay15 x0)

theorem mm (p : FVec Ideal S512x1536 .f32) (w : FVec Ideal S1024x1536 .bf16) (y : S512x1024.Idx) :
    matmul dot_S512x1536_S1024x1536_S512x1024_1_1_0_0_n_n none (truncf .bf16 p bitsLt_bf16_f32) (k0_pay3 w) (constant (F := Ideal) S512x1024 .f32 0x00000000#32) y = ∑ k : Fin 1536, p (ix2 (y 0) k) * w (ix2 (y 1) k) := by
  unfold k0_pay3
  idx_vars y
  pointwise []

theorem rows_at (x0 : FVec Ideal S512x3072 .bf16) (x1 : FVec Ideal S1024x1536 .bf16) {X : Fin 512 → ℕ → EReal} (hs : Slotted X x0) (y : S512x1024.Idx) :
    rows x0 x1 y = ∑ k : Fin 1536, X (y 0) k.val * x1 (ix2 (y 1) k) :=
  (mm (compact x0) x1 y).trans (Finset.sum_congr rfl fun k _ => congrArg (fun a : EReal => a * _) (compact_at x0 hs (ix2 (y 0) k)))

/-- The block of the input's gradient, from the operands' blocks. -/
def outX (x0 : FVec Ideal S512x3072 .bf16) (x1 : FVec Ideal S1024x1536 .bf16) (x2 : FVec Ideal S512x1024 .f32) (x3 : FVec Ideal S1x1024 .f32) (x4 : FVec Ideal S512x1024 .f32) : FVec Ideal S512x1024 .f32 :=
  k0_pay19 (F := Ideal) (k0_pay3 x1) (k0_pay4 x0) (k0_pay5 x0) (k0_pay6 x0) (k0_pay7 x0) (k0_pay8 x0) (k0_pay9 x0) (k0_pay10 x0) (k0_pay11 x0) (k0_pay12 x0) (k0_pay13 x0) (k0_pay14 x0) (k0_pay15 x0) x2 x3 x4

theorem outX_at (x0 : FVec Ideal S512x3072 .bf16) (x1 : FVec Ideal S1024x1536 .bf16) (x2 : FVec Ideal S512x1024 .f32) (x3 : FVec Ideal S1x1024 .f32) (x4 : FVec Ideal S512x1024 .f32) (y : S512x1024.Idx) :
    outX x0 x1 x2 x3 x4 y = k0_pay17 (F := Ideal) x2 (ix2 (y 0) 0) * (rows x0 x1 y * x3 (ix2 0 (y 1)) - k0_pay18 (F := Ideal) x2 y
      * Ideal.div (∑ k : Fin 1024, rows x0 x1 (ix2 (y 0) k) * x3 (ix2 0 k) * k0_pay18 (F := Ideal) x2 (ix2 (y 0) k)) (Ideal.ofBits .f32 0x44800000#32)) + x4 y := by
  unfold outX rows k0_pay19
  generalize k0_pay16 (F := Ideal) (k0_pay3 x1) (k0_pay4 x0) (k0_pay5 x0) (k0_pay6 x0) (k0_pay7 x0) (k0_pay8 x0) (k0_pay9 x0) (k0_pay10 x0) (k0_pay11 x0) (k0_pay12 x0) (k0_pay13 x0) (k0_pay14 x0) (k0_pay15 x0) = r
  generalize k0_pay18 (F := Ideal) x2 = n
  generalize k0_pay17 (F := Ideal) x2 = q
  idx_vars y
  pointwise []

variable (m : (ℓ : Loc nD τ sig) → Buf (Elt Ideal) ℓ)

/-- What the first grid point leaves in the three output blocks. -/
theorem outsA (c : Dev nD) (t : Fin cfg0.N) (h0 : t.val % 8 = 0) :
    (outsAt0 m c t.val t.isLt).1 = outX (iblk m c 0 t) (iblk m c 1 t) (iblk m c 2 t) (iblk m c 3 t) (iblk m c 4 t)
      ∧ (outsAt0 m c t.val t.isLt).2.1 = outX (iblk m c 0 t) (iblk m c 1 t) (iblk m c 2 t) (iblk m c 3 t) (iblk m c 4 t)
      ∧ (outsAt0 m c t.val t.isLt).2.2 = k0_pay2 (F := Ideal) (rows (iblk m c 0 t) (iblk m c 1 t)) (k0_pay18 (iblk m c 2 t)) (k0_pay1 (F := Ideal)) := by
  rw [outsAt0_A m c t h0]
  dsimp only
  unfold out0_A_5 out0_A_6 out0_A_7
  rw [View.read_writes_eq_canon _ _ _ (cover0_A_5 c _ _ _ _ _ _ _ _ _ _ _ _ _ _ _ _ _ _ _ _ _ _ _), View.read_writes_eq_canon _ _ _ (cover0_A_6 c _ _ _ _ _ _ _ _ _ _ _ _ _ _ _ _ _ _ _ _ _ _ _), View.read_writes_eq_canon _ _ _ (cover0_A_7 c _ _ _ _ _ _ _ _ _ _ _ _ _ _ _ _ _ _ _ _ _ _ _)]
  unfold kernelRun0_A
  dsimp only
  sl_unfold_words
  rw [View.canon_unit_zero (S := S512x1024) hz, View.canon_unit_zero (S := S512x1024) hz, View.canon_cons_unit_zero (S := S1x1024) hz, View.readCov_unit_zero (S := S1x1024) _ hz]
  simp only [View.readAt_eq_ld, (hs0_0 t).read_unread, (hs0_1 t).read_unread, (hs0_2 t).read_unread, (hs0_3 t).read_unread, (hs0_4 t).read_unread, View.ld_unit_zero (S := S512x3072) hz, View.ld_unit_zero (S := S1024x1536) hz, View.ld_unit_zero (S := S512x1024) hz, View.ld_unit_zero (S := S1x1024) hz]
  exact ⟨rfl, rfl, rfl⟩

/-- What every later grid point leaves. -/
theorem outsB (c : Dev nD) (t : Fin cfg0.N) (h0 : ¬ t.val % 8 = 0) :
    (outsAt0 m c t.val t.isLt).1 = outX (iblk m c 0 t) (iblk m c 1 t) (iblk m c 2 t) (iblk m c 3 t) (iblk m c 4 t)
      ∧ (outsAt0 m c t.val t.isLt).2.1 = outX (iblk m c 0 t) (iblk m c 1 t) (iblk m c 2 t) (iblk m c 3 t) (iblk m c 4 t)
      ∧ (outsAt0 m c t.val t.isLt).2.2 = k0_pay2 (F := Ideal) (rows (iblk m c 0 t) (iblk m c 1 t)) (k0_pay18 (iblk m c 2 t)) (outsAt0 m c (t.val - 1) (Nat.lt_of_le_of_lt (Nat.sub_le _ _) t.isLt)).2.2 := by
  rw [outsAt0_B m c t h0]
  dsimp only
  unfold out0_B_5 out0_B_6 out0_B_7
  rw [View.read_writes_eq_canon _ _ _ (cover0_B_5 c _ _ _ _ _ _ _ _ _ _ _ _ _ _ _ _ _ _ _ _ _ _ _ _), View.read_writes_eq_canon _ _ _ (cover0_B_6 c _ _ _ _ _ _ _ _ _ _ _ _ _ _ _ _ _ _ _ _ _ _ _ _), View.read_writes_eq_canon _ _ _ (cover0_B_7 c _ _ _ _ _ _ _ _ _ _ _ _ _ _ _ _ _ _ _ _ _ _ _ _)]
  unfold kernelRun0_B
  dsimp only
  sl_unfold_words
  rw [View.canon_unit_zero (S := S512x1024) hz, View.canon_unit_zero (S := S512x1024) hz, View.canon_unit_zero (S := S1x1024) hz]
  simp only [View.readAt_eq_ld, (hs0_0 t).read_unread, (hs0_1 t).read_unread, (hs0_2 t).read_unread, (hs0_3 t).read_unread, (hs0_4 t).read_unread, (hs0_7 t).read_unread, View.ld_unit_zero (S := S512x3072) hz, View.ld_unit_zero (S := S1024x1536) hz, View.ld_unit_zero (S := S512x1024) hz, View.ld_unit_zero (S := S1x1024) hz]
  exact ⟨rfl, rfl, rfl⟩

theorem idx : ∀ t : Fin cfg0.N, win0_0.index t = ![t.val, 0] ∧ win0_1.index t = ![0, 0] ∧ win0_2.index t = ![t.val, 0] ∧ win0_3.index t = ![0, 0] ∧ win0_4.index t = ![t.val, 0]
    ∧ win0_5.index t = ![t.val, 0] ∧ win0_6.index t = ![t.val, 0] ∧ win0_7.index t = ![0, 0] :=
  (by decide +kernel : ∀ t : Fin grid0.N, _)

theorem arg0 (c : Dev nD) : V m c main_v3 = truncf (F := Ideal) .bf16 (shapeCast S4096x3072 (pad S4096x24x128 ![0, 0, 0] ![0, 0, 64] ![0, 0, 0]
    (shapeCast S4096x24x64 (m ((c : Thread nD τ).loc main_arg3) : FVec Ideal S4096x1536 .f32) shapeCasts_S4096x1536_S4096x24x64)
    (sitofp .f32 (constantI S_ 32 0#32)) pads_S4096x24x64_S4096x24x128_000_000_0640 h_S_) shapeCasts_S4096x24x128_S4096x3072) bitsLt_bf16_f32 := by
  simp only [V, hostOps0, hostOps0_1, hostOps0_2, List.flatten_cons, List.flatten_nil, List.append_nil, List.cons_append, List.nil_append]
  after_reads_simp
  rfl

theorem arg1 (c : Dev nD) : V m c main_v4 = m ((c : Thread nD τ).loc main_arg2) := by
  simp only [V, hostOps0, hostOps0_1, hostOps0_2, List.flatten_cons, List.flatten_nil, List.append_nil, List.cons_append, List.nil_append]
  after_reads_simp
  rfl

theorem arg2 (c : Dev nD) : V m c main_arg0 = m ((c : Thread nD τ).loc main_arg0) := by
  simp only [V, hostOps0, hostOps0_1, hostOps0_2, List.flatten_cons, List.flatten_nil, List.append_nil, List.cons_append, List.nil_append]
  after_reads_simp

theorem arg3 (c : Dev nD) : V m c main_v5 = shapeCast S1x1024 (m ((c : Thread nD τ).loc main_arg1) : FVec Ideal S1024 .f32) shapeCasts_S1024_S1x1024 := by
  simp only [V, hostOps0, hostOps0_1, hostOps0_2, List.flatten_cons, List.flatten_nil, List.append_nil, List.cons_append, List.nil_append]
  after_reads_simp
  rfl

theorem arg4 (c : Dev nD) : V m c main_arg4 = m ((c : Thread nD τ).loc main_arg4) := by
  simp only [V, hostOps0, hostOps0_1, hostOps0_2, List.flatten_cons, List.flatten_nil, List.append_nil, List.cons_append, List.nil_append]
  after_reads_simp

theorem blk0 (c : Dev nD) (t : Fin cfg0.N) : Slotted (fun i k => cols (m ((c : Thread nD τ).loc main_arg3) : FVec Ideal S4096x1536 .f32) 0 ⟨512 * t.val + i.val, by have : t.val < 8 := t.isLt; omega⟩ k) (iblk m c 0 t : FVec Ideal S512x3072 .bf16) := fun y g x hx e => by
  have ht : t.val < 8 := t.isLt
  have h0 : (y 0).val < 512 := (y 0).isLt
  have h1 : (y 1).val < 3072 := (y 1).isLt
  refine (congrFun (arg0 m c) (((cfg0.win 0).blk t).view.emb y)).trans ?_
  refine (padded (n := 4096) (H := 24) rfl rfl (m ((c : Thread nD τ).loc main_arg3) : FVec Ideal S4096x1536 .f32) zero_int shapeCasts_S4096x1536_S4096x24x64 pads_S4096x24x64_S4096x24x128_000_000_0640 h_S_ shapeCasts_S4096x24x128_S4096x3072
    (((cfg0.win 0).blk t).view.emb y) ⟨512 * t.val + (y 0).val, by omega⟩ ⟨g, by omega⟩ x hx ?_ ?_).trans ?_
  · blk_simp [idx t]; simp [mul_comm]
  · blk_simp [idx t]; simp [e]
  · split_ifs with hb
    · exact (cols_eq _ _ _ _ _ (Nat.zero_add _).symm).symm
    · rfl

theorem blk1 (c : Dev nD) (t : Fin cfg0.N) (y : S1024x1536.Idx) : iblk m c 1 t y = m ((c : Thread nD τ).loc main_arg2) y := by
  refine (congrFun (arg1 m c) (((cfg0.win 1).blk t).view.emb y)).trans (congrArg _ (funext fun a => Fin.ext ?_))
  fin_cases a <;> (blk_simp [idx t])

theorem blk2 (c : Dev nD) (t : Fin cfg0.N) (y : S512x1024.Idx) (i : S4096x1024.Idx) (h0 : (i 0).val = 512 * t.val + (y 0).val) (h1 : (i 1).val = (y 1).val) :
    iblk m c 2 t y = m ((c : Thread nD τ).loc main_arg0) i := by
  refine (congrFun (arg2 m c) (((cfg0.win 2).blk t).view.emb y)).trans (congrArg _ (funext fun a => Fin.ext ?_))
  fin_cases a <;> (blk_simp [idx t]; simp [h0, h1, mul_comm])

theorem blk3 (c : Dev nD) (t : Fin cfg0.N) (y : S1x1024.Idx) (i : S1024.Idx) (h0 : (i 0).val = (y 1).val) :
    iblk m c 3 t y = m ((c : Thread nD τ).loc main_arg1) i := by
  have e0 : (y 0).val = 0 := by have : (y 0).val < 1 := (y 0).isLt; omega
  refine (congrFun (arg3 m c) (((cfg0.win 3).blk t).view.emb y)).trans ?_
  refine shapeCast_apply _ shapeCasts_S1024_S1x1024 _ i ?_
  rw [Shape.rowMajor_val_one, Shape.rowMajor_val_two]
  blk_simp [idx t]
  simp [h0, e0]

theorem blk4 (c : Dev nD) (t : Fin cfg0.N) (y : S512x1024.Idx) (i : S4096x1024.Idx) (h0 : (i 0).val = 512 * t.val + (y 0).val) (h1 : (i 1).val = (y 1).val) :
    iblk m c 4 t y = m ((c : Thread nD τ).loc main_arg4) i := by
  refine (congrFun (arg4 m c) (((cfg0.win 4).blk t).view.emb y)).trans (congrArg _ (funext fun a => Fin.ext ?_))
  fin_cases a <;> (blk_simp [idx t]; simp [h0, h1, mul_comm])

/-- The block's product is the gradient at the block's rows. -/
theorem rows_eq (c : Dev nD) (t : Fin cfg0.N) (y : S512x1024.Idx) (i : Fin 4096) (j : Fin 1024) (h0 : i.val = 512 * t.val + (y 0).val) (h1 : j.val = (y 1).val) :
    rows (iblk m c 0 t) (iblk m c 1 t) y = gradU (ext (m ((c : Thread nD τ).loc main_arg2))) (ext (m ((c : Thread nD τ).loc main_arg3))) i j := by
  obtain rfl : j = y 1 := Fin.ext h1
  obtain ⟨i, hi⟩ := i
  subst h0
  refine (rows_at _ _ (blk0 m c t) y).trans (Eq.trans ?_ (gradU_ext _ _ _ _).symm)
  exact Finset.sum_congr rfl fun k _ => congrArg₂ (fun a b : EReal => a * b) (cols_eq _ _ _ _ k (Nat.zero_add _).symm) (blk1 m c t _)

/-- The block's reciprocal root is the row's. -/
theorem root_eq (c : Dev nD) (t : Fin cfg0.N) (y : S512x1.Idx) (i : Fin 4096) (h0 : i.val = 512 * t.val + (y 0).val) :
    k0_pay17 (F := Ideal) (iblk m c 2 t) y = Ideal.rsqrt (base (m ((c : Thread nD τ).loc main_arg0)) i) := by
  refine (root _ y).trans (congrArg (fun s : EReal => Ideal.rsqrt (Ideal.div s _ + _)) (Finset.sum_congr rfl fun k _ => ?_))
  exact congrArg₂ (fun a b : EReal => a * b) (blk2 m c t _ (ix2 i k) h0 rfl) (blk2 m c t _ (ix2 i k) h0 rfl)

/-- A block's gradient is the gradient, if the block's data are the arguments' row. -/
theorem outX_of {x0 : FVec Ideal S512x3072 .bf16} {x1 : FVec Ideal S1024x1536 .bf16} {x2 : FVec Ideal S512x1024 .f32} {x3 : FVec Ideal S1x1024 .f32} {x4 : FVec Ideal S512x1024 .f32}
    {x : FVec Ideal S4096x1024 .f32} {g : FVec Ideal S1024 .f32} {w : FVec Ideal Cert.Kernel5Ideal.S1024x4096 .f32} {du : FVec Ideal Cert.Kernel5Ideal.S4096x4096 .f32} {d : FVec Ideal S4096x1024 .f32}
    (r : Fin 512) (i : Fin 4096) (j : Fin 1024) (hr : ∀ k, rows x0 x1 (ix2 r k) = gradU w du i k) (hg : ∀ k, x3 (ix2 0 k) = g (ix1 k))
    (hx : ∀ k, x2 (ix2 r k) = x (ix2 i k)) (hd : x4 (ix2 r j) = d (ix2 i j)) (hq : k0_pay17 (F := Ideal) x2 (ix2 r 0) = Ideal.rsqrt (base x i)) :
    outX x0 x1 x2 x3 x4 (ix2 r j) = gradX x g w du d (ix2 i j) := by
  refine (outX_at x0 x1 x2 x3 x4 (ix2 r j)).trans ?_
  simp only [normed]
  show k0_pay17 (F := Ideal) x2 (ix2 r 0) * (rows x0 x1 (ix2 r j) * x3 (ix2 0 j) - x2 (ix2 r j) * k0_pay17 (F := Ideal) x2 (ix2 r 0)
      * Ideal.div (∑ k : Fin 1024, rows x0 x1 (ix2 r k) * x3 (ix2 0 k) * (x2 (ix2 r k) * k0_pay17 (F := Ideal) x2 (ix2 r 0))) (Ideal.ofBits .f32 0x44800000#32)) + x4 (ix2 r j) = _
  simp only [hr, hg, hx, hd, hq]
  rfl

/-- A block of the input's gradient. -/
theorem outX_eq (c : Dev nD) (t : Fin cfg0.N) (y : S512x1024.Idx) (i : S4096x1024.Idx) (h0 : (i 0).val = 512 * t.val + (y 0).val) (h1 : (i 1).val = (y 1).val) :
    outX (iblk m c 0 t) (iblk m c 1 t) (iblk m c 2 t) (iblk m c 3 t) (iblk m c 4 t) y
      = gradX (m ((c : Thread nD τ).loc main_arg0)) (m ((c : Thread nD τ).loc main_arg1)) (ext (m ((c : Thread nD τ).loc main_arg2))) (ext (m ((c : Thread nD τ).loc main_arg3))) (m ((c : Thread nD τ).loc main_arg4)) i := by
  have hy : y = ix2 (y 0) (y 1) := funext fun a => by fin_cases a <;> rfl
  have hi : i = ix2 (i 0) (y 1) := funext fun a => Fin.ext (by fin_cases a; exacts [rfl, h1])
  rw [hy, hi]
  exact outX_of (y 0) (i 0) (y 1) (fun k => rows_eq m c t _ (i 0) k h0 rfl) (fun k => blk3 m c t _ (ix1 k) rfl) (fun k => blk2 m c t _ (ix2 (i 0) k) h0 rfl)
    (blk4 m c t _ (ix2 (i 0) (y 1)) h0 rfl) (root_eq m c t _ (i 0) h0)

/-- One grid point's summand of the gain's gradient. -/
theorem gain_eq (c : Dev nD) (t : Fin cfg0.N) (p : FVec Ideal S1x1024 .f32) (y : S1x1024.Idx) :
    k0_pay2 (F := Ideal) (rows (iblk m c 0 t) (iblk m c 1 t)) (k0_pay18 (iblk m c 2 t)) p y
      = p y + ∑ k : Fin 512, gainAt (m ((c : Thread nD τ).loc main_arg0)) (ext (m ((c : Thread nD τ).loc main_arg2))) (ext (m ((c : Thread nD τ).loc main_arg3))) (y 1)
          ⟨512 * t.val + k.val, by have : t.val < 8 := t.isLt; omega⟩ := by
  refine (gain _ _ _ y).trans (congrArg (fun s : EReal => p y + s) (Finset.sum_congr rfl fun k _ => ?_))
  refine congrArg₂ (fun a b : EReal => a * b) (rows_eq m c t _ _ _ rfl rfl) ((normed _ _).trans ?_)
  exact congrArg₂ (fun a b : EReal => a * b) (blk2 m c t _ (ix2 _ (y 1)) rfl rfl) (root_eq m c t _ _ rfl)

/-- The gain's gradient after each grid point: the rows of the points so far. -/
theorem gains (c : Dev nD) (y : S1x1024.Idx) : ∀ (n : ℕ) (h : n < cfg0.N), (outsAt0 m c n h).2.2 y
    = ∑ d : Fin (n + 1), ∑ k : Fin 512, gainAt (m ((c : Thread nD τ).loc main_arg0)) (ext (m ((c : Thread nD τ).loc main_arg2))) (ext (m ((c : Thread nD τ).loc main_arg3))) (y 1)
        ⟨512 * d.val + k.val, by have : n < 8 := h; omega⟩
  | 0, h => by
    rw [(outsA m c ⟨0, h⟩ rfl).2.2, gain_eq, Fin.sum_univ_one]
    exact (congrArg (fun a : EReal => a + _) zero_word).trans (zero_add _)
  | n + 1, h => by
    have hn : n + 1 < 8 := h
    rw [(outsB m c ⟨n + 1, h⟩ (by show ¬ (n + 1) % 8 = 0; omega)).2.2, gain_eq, Fin.sum_univ_castSucc (n := n + 1)]
    exact congrArg₂ (fun a b : EReal => a + b) (gains c y n (Nat.lt_of_succ_lt h)) rfl

theorem final5 (c : Dev nD) : (dats m 0 c).arrAt 5 cfg0.N
    = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  have h : (outsAt0 m c t.val t.isLt).1 = outX (iblk m c 0 t) (iblk m c 1 t) (iblk m c 2 t) (iblk m c 3 t) (iblk m c 4 t) :=
    if h0 : t.val % 8 = 0 then (outsA m c t h0).1 else (outsB m c t h0).1
  rw [h]
  refine (outX_eq m c t y _ ?_ ?_).trans (congrFun (layer_x _ _ _ _ _) _).symm
  · blk_simp [idx t]; simp [mul_comm]
  · blk_simp [idx t]

theorem final6 (c : Dev nD) : (dats m 0 c).arrAt 6 cfg0.N
    = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have h : (outsAt0 m c t.val t.isLt).2.1 = outX (iblk m c 0 t) (iblk m c 1 t) (iblk m c 2 t) (iblk m c 3 t) (iblk m c 4 t) :=
    if h0 : t.val % 8 = 0 then (outsA m c t h0).2.1 else (outsB m c t h0).2.1
  rw [h]
  refine (outX_eq m c t y _ ?_ ?_).trans (congrFun (layer_x16 _ _ _ _ _) _).symm
  · blk_simp [idx t]; simp [mul_comm]
  · blk_simp [idx t]

theorem final7 (c : Dev nD) : (dats m 0 c).arrAt 7 cfg0.N
    = val_main_v40 (F := Ideal) (m ((c : Thread nD τ).loc main_arg0)) (m ((c : Thread nD τ).loc main_arg2)) (m ((c : Thread nD τ).loc main_arg3)) := by
  refine (dats m 0 c).arrAt_eq_of_covers 7 _ (by decide +kernel) fun t hf y => ?_
  have ht : t.val < 8 := t.isLt
  have h7 : t.val = 7 := by have := (flush0_7 t).mp hf; omega
  blk_simp
  rw [after0_7]
  refine (gains m c y t.val t.isLt).trans (Eq.trans ?_ (congrFun (layer_g _ _ _) _).symm)
  have e7 : win0_7.index t 1 = 0 := congrFun (idx t).2.2.2.2.2.2.2 1
  obtain rfl : t = ⟨7, by decide⟩ := Fin.ext h7
  refine Eq.trans ?_ (sum_blocks 8 512 _ fun d k => by omega).symm
  refine Finset.sum_congr rfl fun d _ => Finset.sum_congr rfl fun k _ => congrArg (fun j => gainAt _ _ _ j _) (Fin.ext ?_)
  blk_simp
  exact ((congrArg (fun n : ℕ => n * 1024 + (y 1).val) e7).trans (by simp)).symm

end Cert.Kernel16Ideal.Out

end
-- ==== Proof.Latent.Products.lean ====
module

public import proofs.«01_k».proof.Proof.Gen.Kernel17Ideal.Value
public import proofs.«01_k».proof.Proof.Gen.Reference17Ideal.Read
public import proofs.«01_k».proof.Proof.Gen.Kernel18Ideal.Value
public import proofs.«01_k».proof.Proof.Gen.Reference18Ideal.Read
public import proofs.«01_k».proof.Proof.Gen.Kernel19Ideal.Value
public import proofs.«01_k».proof.Proof.Gen.Reference19Ideal.Read
public import Idealize.ShloMosaic.Lib.Pointwise
public import Idealize.ShloMosaic.Lib.Pipeline.ValueKit
public import Idealize.ShloMosaic.Lib.StableHlo.ReadAt

/-! The product from the normalised latent vectors to the keys and values, and its two gradients, block by block. -/

@[expose] public section

set_option maxRecDepth 16384

noncomputable section

open Idealize.ShloMosaic Idealize.ShloMosaic.TcCoe

namespace Cert.Kernel17Ideal.Latent

open Cert.Kernel17Ideal Cert.Kernel17Ideal.Gen Cert.Reference17Ideal.Read

variable (m : (ℓ : Loc nD τ sig) → Buf (Elt Ideal) ℓ)

theorem mm (l : FVec Ideal S4096x256 .bf16) (r : FVec Ideal S256x512 .bf16) (y : S4096x512.Idx) : k0_pay1 (F := Ideal) r l y = ∑ k : Fin 256, l (ix2 (y 0) k) * r (ix2 k (y 1)) := by
  unfold k0_pay1
  idx_vars y
  pointwise []

theorem out (x0 : Vec Ideal S4096x256 .bf16) (x1 : Vec Ideal S256x512 .bf16) : out0_2 x0 x1 = k0_pay1 x1 x0 := by
  unfold out0_2
  rw [View.canon_unit_zero (by decide), View.ld_unit_zero (by decide), View.ld_unit_zero (by decide)]

theorem idx : ∀ t : Fin cfg0.N, win0_0.index t = ![0, 0] ∧ win0_1.index t = ![0, t.val] ∧ win0_2.index t = ![0, t.val] :=
  (by decide +kernel : ∀ t : Fin grid0.N, _)

theorem arg0 (c : Dev nD) : V m c main_v0 = m ((c : Thread nD τ).loc main_arg0) := by
  simp only [V, hostOps0]
  after_reads_simp
  rfl

theorem arg1 (c : Dev nD) : V m c main_v1 = m ((c : Thread nD τ).loc main_arg1) := by
  simp only [V, hostOps0]
  after_reads_simp
  rfl

theorem blk0 (c : Dev nD) (t : Fin cfg0.N) (y : S4096x256.Idx) (i : S4096x256.Idx) (h0 : (i 0).val = (y 0).val) (h1 : (i 1).val = (y 1).val) : iblk m c 0 t y = m ((c : Thread nD τ).loc main_arg0) i := by
  refine (congrFun (arg0 m c) (((cfg0.win 0).blk t).view.emb y)).trans (congrArg _ (funext fun a => Fin.ext ?_))
  fin_cases a <;> (blk_simp [idx t]; simp [h0, h1, mul_comm])

theorem blk1 (c : Dev nD) (t : Fin cfg0.N) (y : S256x512.Idx) (i : S256x1536.Idx) (h0 : (i 0).val = (y 0).val) (h1 : (i 1).val = 512 * t.val + (y 1).val) : iblk m c 1 t y = m ((c : Thread nD τ).loc main_arg1) i := by
  refine (congrFun (arg1 m c) (((cfg0.win 1).blk t).view.emb y)).trans (congrArg _ (funext fun a => Fin.ext ?_))
  fin_cases a <;> (blk_simp [idx t]; simp [h0, h1, mul_comm])

theorem ref (x : FVec Ideal S4096x256 .f32) (w : FVec Ideal S256x1536 .f32) (y : S4096x1536.Idx) : val_main_v0 (F := Ideal) x w y = ∑ k : Fin 256, x (ix2 (y 0) k) * w (ix2 k (y 1)) := by
  refine (val_main_v0_apply x w y).trans (Finset.sum_congr rfl fun k _ => congrArg₂ (fun a b : EReal => a * b) (congrArg x (funext fun a => ?_)) (congrArg w (funext fun a => ?_))) <;> fin_cases a <;> rfl

theorem final2 (c : Dev nD) : (dats m 0 c).arrAt 2 cfg0.N = val_main_v0 (F := Ideal) (m ((c : Thread nD τ).loc main_arg0)) (m ((c : Thread nD τ).loc main_arg1)) := by
  refine (dats m 0 c).arrAt_eq_of_covers 2 _ (by decide +kernel) fun t hf y => ?_
  blk_simp
  rw [after0_2, out]
  refine (mm _ _ y).trans (Eq.trans ?_ (ref _ _ _).symm)
  refine Finset.sum_congr rfl fun k _ => congrArg₂ (fun a b : EReal => a * b) (blk0 m c t _ _ ?_ rfl) (blk1 m c t _ _ rfl ?_)
  · blk_simp [idx t]
  · blk_simp [idx t]; simp [mul_comm]

end Cert.Kernel17Ideal.Latent

namespace Cert.Kernel18Ideal.Latent

open Cert.Kernel18Ideal Cert.Kernel18Ideal.Gen Cert.Reference18Ideal.Read

variable (m : (ℓ : Loc nD τ sig) → Buf (Elt Ideal) ℓ)

theorem mm (l : FVec Ideal S4096x1536 .bf16) (r : FVec Ideal S256x1536 .bf16) (y : S4096x256.Idx) : k0_pay1 (F := Ideal) r l y = ∑ k : Fin 1536, l (ix2 (y 0) k) * r (ix2 (y 1) k) := by
  unfold k0_pay1
  idx_vars y
  pointwise []

theorem out (x0 : Vec Ideal S4096x1536 .bf16) (x1 : Vec Ideal S256x1536 .bf16) : out0_2 x0 x1 = k0_pay1 x1 x0 := by
  unfold out0_2
  rw [View.canon_unit_zero (by decide), View.ld_unit_zero (by decide), View.ld_unit_zero (by decide)]

theorem idx : ∀ t : Fin cfg0.N, win0_0.index t = ![0, 0] ∧ win0_1.index t = ![0, 0] ∧ win0_2.index t = ![0, 0] :=
  (by decide +kernel : ∀ t : Fin grid0.N, _)

theorem arg0 (c : Dev nD) : V m c main_v0 = m ((c : Thread nD τ).loc main_arg1) := by
  simp only [V, hostOps0]
  after_reads_simp
  rfl

theorem arg1 (c : Dev nD) : V m c main_v1 = m ((c : Thread nD τ).loc main_arg0) := by
  simp only [V, hostOps0]
  after_reads_simp
  rfl

theorem blk0 (c : Dev nD) (t : Fin cfg0.N) (y : S4096x1536.Idx) (i : S4096x1536.Idx) (h0 : (i 0).val = (y 0).val) (h1 : (i 1).val = (y 1).val) : iblk m c 0 t y = m ((c : Thread nD τ).loc main_arg1) i := by
  refine (congrFun (arg0 m c) (((cfg0.win 0).blk t).view.emb y)).trans (congrArg _ (funext fun a => Fin.ext ?_))
  fin_cases a <;> (blk_simp [idx t]; simp [h0, h1, mul_comm])

theorem blk1 (c : Dev nD) (t : Fin cfg0.N) (y : S256x1536.Idx) (i : S256x1536.Idx) (h0 : (i 0).val = (y 0).val) (h1 : (i 1).val = (y 1).val) : iblk m c 1 t y = m ((c : Thread nD τ).loc main_arg0) i := by
  refine (congrFun (arg1 m c) (((cfg0.win 1).blk t).view.emb y)).trans (congrArg _ (funext fun a => Fin.ext ?_))
  fin_cases a <;> (blk_simp [idx t]; simp [h0, h1, mul_comm])

theorem ref (x : FVec Ideal S4096x1536 .f32) (w : FVec Ideal S256x1536 .f32) (y : S4096x256.Idx) : val_main_v2 (F := Ideal) w x y = ∑ k : Fin 1536, x (ix2 (y 0) k) * w (ix2 (y 1) k) := by
  refine (val_main_v2_apply w x y).trans (Finset.sum_congr rfl fun k _ => congrArg₂ (fun a b : EReal => a * b) (congrArg x (funext fun a => ?_)) (congrArg w (funext fun a => ?_))) <;> fin_cases a <;> rfl

theorem final2 (c : Dev nD) : (dats m 0 c).arrAt 2 cfg0.N = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2, out]
  refine (mm _ _ y).trans (Eq.trans ?_ (ref _ _ _).symm)
  refine Finset.sum_congr rfl fun k _ => congrArg₂ (fun a b : EReal => a * b) (blk0 m c t _ _ ?_ rfl) (blk1 m c t _ _ ?_ rfl)
  · blk_simp [idx t]
  · blk_simp [idx t]

end Cert.Kernel18Ideal.Latent

namespace Cert.Kernel19Ideal.Latent

open Cert.Kernel19Ideal Cert.Kernel19Ideal.Gen Cert.Reference19Ideal.Read

variable (m : (ℓ : Loc nD τ sig) → Buf (Elt Ideal) ℓ)

theorem mm (l : FVec Ideal S4096x256 .bf16) (r : FVec Ideal S4096x768 .bf16) (y : S256x768.Idx) : k0_pay1 (F := Ideal) r l y = ∑ k : Fin 4096, l (ix2 k (y 0)) * r (ix2 k (y 1)) := by
  unfold k0_pay1
  idx_vars y
  pointwise []

theorem out (x0 : Vec Ideal S4096x256 .bf16) (x1 : Vec Ideal S4096x768 .bf16) : out0_2 x0 x1 = k0_pay1 x1 x0 := by
  unfold out0_2
  rw [View.canon_unit_zero (by decide), View.ld_unit_zero (by decide), View.ld_unit_zero (by decide)]

theorem idx : ∀ t : Fin cfg0.N, win0_0.index t = ![0, 0] ∧ win0_1.index t = ![0, t.val] ∧ win0_2.index t = ![0, t.val] :=
  (by decide +kernel : ∀ t : Fin grid0.N, _)

theorem arg0 (c : Dev nD) : V m c main_v0 = m ((c : Thread nD τ).loc main_arg0) := by
  simp only [V, hostOps0]
  after_reads_simp
  rfl

theorem arg1 (c : Dev nD) : V m c main_v1 = m ((c : Thread nD τ).loc main_arg1) := by
  simp only [V, hostOps0]
  after_reads_simp
  rfl

theorem blk0 (c : Dev nD) (t : Fin cfg0.N) (y : S4096x256.Idx) (i : S4096x256.Idx) (h0 : (i 0).val = (y 0).val) (h1 : (i 1).val = (y 1).val) : iblk m c 0 t y = m ((c : Thread nD τ).loc main_arg0) i := by
  refine (congrFun (arg0 m c) (((cfg0.win 0).blk t).view.emb y)).trans (congrArg _ (funext fun a => Fin.ext ?_))
  fin_cases a <;> (blk_simp [idx t]; simp [h0, h1, mul_comm])

theorem blk1 (c : Dev nD) (t : Fin cfg0.N) (y : S4096x768.Idx) (i : S4096x1536.Idx) (h0 : (i 0).val = (y 0).val) (h1 : (i 1).val = 768 * t.val + (y 1).val) : iblk m c 1 t y = m ((c : Thread nD τ).loc main_arg1) i := by
  refine (congrFun (arg1 m c) (((cfg0.win 1).blk t).view.emb y)).trans (congrArg _ (funext fun a => Fin.ext ?_))
  fin_cases a <;> (blk_simp [idx t]; simp [h0, h1, mul_comm])

theorem ref (x : FVec Ideal S4096x256 .f32) (w : FVec Ideal S4096x1536 .f32) (y : S256x1536.Idx) : val_main_v3 (F := Ideal) x w y = ∑ k : Fin 4096, x (ix2 k (y 0)) * w (ix2 k (y 1)) := by
  refine (val_main_v3_apply (F := Ideal) x w y).trans ((val_main_v2_apply x w _).trans ?_)
  refine (Finset.sum_congr rfl fun k _ => (mul_comm _ _).trans (congrArg₂ (fun a b : EReal => a * b) (congrArg x (funext fun a => ?_)) (congrArg w (funext fun a => ?_)))) <;> fin_cases a <;> rfl

theorem final2 (c : Dev nD) : (dats m 0 c).arrAt 2 cfg0.N = val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2, out]
  refine (mm _ _ y).trans (Eq.trans ?_ (ref _ _ _).symm)
  refine Finset.sum_congr rfl fun k _ => congrArg₂ (fun a b : EReal => a * b) (blk0 m c t _ _ rfl ?_) (blk1 m c t _ _ rfl ?_)
  · blk_simp [idx t]
  · blk_simp [idx t]; simp [mul_comm]

end Cert.Kernel19Ideal.Latent

end
-- ==== Proof.Latent.Queries.lean ====
module

public import proofs.«01_k».proof.Proof.Gen.Kernel20Ideal.Value
public import proofs.«01_k».proof.Proof.Gen.Reference20Ideal.Read
public import proofs.«01_k».proof.Proof.Gen.Kernel21Ideal.Value
public import proofs.«01_k».proof.Proof.Gen.Reference21Ideal.Read
public import proofs.«01_k».proof.Proof.Gen.Kernel22Ideal.Value
public import proofs.«01_k».proof.Proof.Gen.Reference22Ideal.Read
public import proofs.«01_k».proof.Proof.Gen.Kernel23Ideal.Value
public import proofs.«01_k».proof.Proof.Gen.Reference23Ideal.Read
public import proofs.«01_k».proof.Proof.Gen.Kernel24Ideal.Value
public import proofs.«01_k».proof.Proof.Gen.Reference24Ideal.Read
public import Idealize.ShloMosaic.Lib.Pointwise
public import Idealize.ShloMosaic.Lib.Pipeline.ValueKit
public import Idealize.ShloMosaic.Lib.StableHlo.ReadAt

/-! The input product of the latent attention's layer with the gradient of its weight, and the product from the latent vectors to the queries with both gradients, block by block. -/

@[expose] public section

set_option maxRecDepth 16384

noncomputable section

open Idealize.ShloMosaic Idealize.ShloMosaic.TcCoe

namespace Cert.Kernel20Ideal.Latent

open Cert.Kernel20Ideal Cert.Kernel20Ideal.Gen Cert.Reference20Ideal.Read

variable (m : (ℓ : Loc nD τ sig) → Buf (Elt Ideal) ℓ)

theorem mm (l : FVec Ideal S2048x1024 .bf16) (r : FVec Ideal S1024x640 .bf16) (y : S2048x640.Idx) : k0_pay1 (F := Ideal) r l y = ∑ k : Fin 1024, l (ix2 (y 0) k) * r (ix2 k (y 1)) := by
  unfold k0_pay1
  idx_vars y
  pointwise []

theorem out (x0 : Vec Ideal S2048x1024 .bf16) (x1 : Vec Ideal S1024x640 .bf16) : out0_2 x0 x1 = k0_pay1 x1 x0 := by
  unfold out0_2
  rw [View.canon_unit_zero (by decide), View.ld_unit_zero (by decide), View.ld_unit_zero (by decide)]

theorem idx : ∀ t : Fin cfg0.N, win0_0.index t = ![t.val / 2, 0] ∧ win0_1.index t = ![0, t.val % 2] ∧ win0_2.index t = ![t.val / 2, t.val % 2] :=
  (by decide +kernel : ∀ t : Fin grid0.N, _)

theorem arg0 (c : Dev nD) : V m c main_v0 = m ((c : Thread nD τ).loc main_arg0) := by
  simp only [V, hostOps0]
  after_reads_simp
  rfl

theorem arg1 (c : Dev nD) : V m c main_v1 = m ((c : Thread nD τ).loc main_arg1) := by
  simp only [V, hostOps0]
  after_reads_simp
  rfl

theorem blk0 (c : Dev nD) (t : Fin cfg0.N) (y : S2048x1024.Idx) (i : S4096x1024.Idx) (h0 : (i 0).val = 2048 * (t.val / 2) + (y 0).val) (h1 : (i 1).val = (y 1).val) : iblk m c 0 t y = m ((c : Thread nD τ).loc main_arg0) i := by
  refine (congrFun (arg0 m c) (((cfg0.win 0).blk t).view.emb y)).trans (congrArg _ (funext fun a => Fin.ext ?_))
  fin_cases a <;> (blk_simp [idx t]; simp [h0, h1, mul_comm])

theorem blk1 (c : Dev nD) (t : Fin cfg0.N) (y : S1024x640.Idx) (i : S1024x1280.Idx) (h0 : (i 0).val = (y 0).val) (h1 : (i 1).val = 640 * (t.val % 2) + (y 1).val) : iblk m c 1 t y = m ((c : Thread nD τ).loc main_arg1) i := by
  refine (congrFun (arg1 m c) (((cfg0.win 1).blk t).view.emb y)).trans (congrArg _ (funext fun a => Fin.ext ?_))
  fin_cases a <;> (blk_simp [idx t]; simp [h0, h1, mul_comm])

theorem ref (x : FVec Ideal S4096x1024 .f32) (w : FVec Ideal S1024x1280 .f32) (y : S4096x1280.Idx) : val_main_v0 (F := Ideal) x w y = ∑ k : Fin 1024, x (ix2 (y 0) k) * w (ix2 k (y 1)) := by
  refine (val_main_v0_apply x w y).trans (Finset.sum_congr rfl fun k _ => congrArg₂ (fun a b : EReal => a * b) (congrArg x (funext fun a => ?_)) (congrArg w (funext fun a => ?_))) <;> fin_cases a <;> rfl

theorem final2 (c : Dev nD) : (dats m 0 c).arrAt 2 cfg0.N = val_main_v0 (F := Ideal) (m ((c : Thread nD τ).loc main_arg0)) (m ((c : Thread nD τ).loc main_arg1)) := by
  refine (dats m 0 c).arrAt_eq_of_covers 2 _ (by decide +kernel) fun t hf y => ?_
  blk_simp
  rw [after0_2, out]
  refine (mm _ _ y).trans (Eq.trans ?_ (ref _ _ _).symm)
  refine Finset.sum_congr rfl fun k _ => congrArg₂ (fun a b : EReal => a * b) (blk0 m c t _ _ ?_ rfl) (blk1 m c t _ _ rfl ?_)
  · blk_simp [idx t]; simp [mul_comm]
  · blk_simp [idx t]; simp [mul_comm]

end Cert.Kernel20Ideal.Latent

namespace Cert.Kernel21Ideal.Latent

open Cert.Kernel21Ideal Cert.Kernel21Ideal.Gen Cert.Reference21Ideal.Read

variable (m : (ℓ : Loc nD τ sig) → Buf (Elt Ideal) ℓ)

theorem mm (l : FVec Ideal S4096x1024 .bf16) (r : FVec Ideal S4096x640 .bf16) (y : S1024x640.Idx) : k0_pay1 (F := Ideal) r l y = ∑ k : Fin 4096, l (ix2 k (y 0)) * r (ix2 k (y 1)) := by
  unfold k0_pay1
  idx_vars y
  pointwise []

theorem out (x0 : Vec Ideal S4096x1024 .bf16) (x1 : Vec Ideal S4096x640 .bf16) : out0_2 x0 x1 = k0_pay1 x1 x0 := by
  unfold out0_2
  rw [View.canon_unit_zero (by decide), View.ld_unit_zero (by decide), View.ld_unit_zero (by decide)]

theorem idx : ∀ t : Fin cfg0.N, win0_0.index t = ![0, 0] ∧ win0_1.index t = ![0, t.val] ∧ win0_2.index t = ![0, t.val] :=
  (by decide +kernel : ∀ t : Fin grid0.N, _)

theorem arg0 (c : Dev nD) : V m c main_v0 = m ((c : Thread nD τ).loc main_arg0) := by
  simp only [V, hostOps0]
  after_reads_simp
  rfl

theorem arg1 (c : Dev nD) : V m c main_v1 = m ((c : Thread nD τ).loc main_arg1) := by
  simp only [V, hostOps0]
  after_reads_simp
  rfl

theorem blk0 (c : Dev nD) (t : Fin cfg0.N) (y : S4096x1024.Idx) (i : S4096x1024.Idx) (h0 : (i 0).val = (y 0).val) (h1 : (i 1).val = (y 1).val) : iblk m c 0 t y = m ((c : Thread nD τ).loc main_arg0) i := by
  refine (congrFun (arg0 m c) (((cfg0.win 0).blk t).view.emb y)).trans (congrArg _ (funext fun a => Fin.ext ?_))
  fin_cases a <;> (blk_simp [idx t]; simp [h0, h1, mul_comm])

theorem blk1 (c : Dev nD) (t : Fin cfg0.N) (y : S4096x640.Idx) (i : S4096x1280.Idx) (h0 : (i 0).val = (y 0).val) (h1 : (i 1).val = 640 * t.val + (y 1).val) : iblk m c 1 t y = m ((c : Thread nD τ).loc main_arg1) i := by
  refine (congrFun (arg1 m c) (((cfg0.win 1).blk t).view.emb y)).trans (congrArg _ (funext fun a => Fin.ext ?_))
  fin_cases a <;> (blk_simp [idx t]; simp [h0, h1, mul_comm])

theorem ref (x : FVec Ideal S4096x1024 .f32) (w : FVec Ideal S4096x1280 .f32) (y : S1024x1280.Idx) : val_main_v3 (F := Ideal) x w y = ∑ k : Fin 4096, x (ix2 k (y 0)) * w (ix2 k (y 1)) := by
  refine (val_main_v3_apply (F := Ideal) x w y).trans ((val_main_v2_apply x w _).trans ?_)
  refine (Finset.sum_congr rfl fun k _ => (mul_comm _ _).trans (congrArg₂ (fun a b : EReal => a * b) (congrArg x (funext fun a => ?_)) (congrArg w (funext fun a => ?_)))) <;> fin_cases a <;> rfl

theorem final2 (c : Dev nD) : (dats m 0 c).arrAt 2 cfg0.N = val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2, out]
  refine (mm _ _ y).trans (Eq.trans ?_ (ref _ _ _).symm)
  refine Finset.sum_congr rfl fun k _ => congrArg₂ (fun a b : EReal => a * b) (blk0 m c t _ _ rfl ?_) (blk1 m c t _ _ rfl ?_)
  · blk_simp [idx t]
  · blk_simp [idx t]; simp [mul_comm]

end Cert.Kernel21Ideal.Latent

namespace Cert.Kernel22Ideal.Latent

open Cert.Kernel22Ideal Cert.Kernel22Ideal.Gen Cert.Reference22Ideal.Read

variable (m : (ℓ : Loc nD τ sig) → Buf (Elt Ideal) ℓ)

theorem mm (l : FVec Ideal S4096x384 .bf16) (r : FVec Ideal S384x512 .bf16) (y : S4096x512.Idx) : k0_pay1 (F := Ideal) r l y = ∑ k : Fin 384, l (ix2 (y 0) k) * r (ix2 k (y 1)) := by
  unfold k0_pay1
  idx_vars y
  pointwise []

theorem out (x0 : Vec Ideal S4096x384 .bf16) (x1 : Vec Ideal S384x512 .bf16) : out0_2 x0 x1 = k0_pay1 x1 x0 := by
  unfold out0_2
  rw [View.canon_unit_zero (by decide), View.ld_unit_zero (by decide), View.ld_unit_zero (by decide)]

theorem idx : ∀ t : Fin cfg0.N, win0_0.index t = ![0, 0] ∧ win0_1.index t = ![0, t.val] ∧ win0_2.index t = ![0, t.val] :=
  (by decide +kernel : ∀ t : Fin grid0.N, _)

theorem arg0 (c : Dev nD) : V m c main_v0 = m ((c : Thread nD τ).loc main_arg0) := by
  simp only [V, hostOps0]
  after_reads_simp
  rfl

theorem arg1 (c : Dev nD) : V m c main_v1 = m ((c : Thread nD τ).loc main_arg1) := by
  simp only [V, hostOps0]
  after_reads_simp
  rfl

theorem blk0 (c : Dev nD) (t : Fin cfg0.N) (y : S4096x384.Idx) (i : S4096x384.Idx) (h0 : (i 0).val = (y 0).val) (h1 : (i 1).val = (y 1).val) : iblk m c 0 t y = m ((c : Thread nD τ).loc main_arg0) i := by
  refine (congrFun (arg0 m c) (((cfg0.win 0).blk t).view.emb y)).trans (congrArg _ (funext fun a => Fin.ext ?_))
  fin_cases a <;> (blk_simp [idx t]; simp [h0, h1, mul_comm])

theorem blk1 (c : Dev nD) (t : Fin cfg0.N) (y : S384x512.Idx) (i : S384x1536.Idx) (h0 : (i 0).val = (y 0).val) (h1 : (i 1).val = 512 * t.val + (y 1).val) : iblk m c 1 t y = m ((c : Thread nD τ).loc main_arg1) i := by
  refine (congrFun (arg1 m c) (((cfg0.win 1).blk t).view.emb y)).trans (congrArg _ (funext fun a => Fin.ext ?_))
  fin_cases a <;> (blk_simp [idx t]; simp [h0, h1, mul_comm])

theorem ref (x : FVec Ideal S4096x384 .f32) (w : FVec Ideal S384x1536 .f32) (y : S4096x1536.Idx) : val_main_v0 (F := Ideal) x w y = ∑ k : Fin 384, x (ix2 (y 0) k) * w (ix2 k (y 1)) := by
  refine (val_main_v0_apply x w y).trans (Finset.sum_congr rfl fun k _ => congrArg₂ (fun a b : EReal => a * b) (congrArg x (funext fun a => ?_)) (congrArg w (funext fun a => ?_))) <;> fin_cases a <;> rfl

theorem final2 (c : Dev nD) : (dats m 0 c).arrAt 2 cfg0.N = val_main_v0 (F := Ideal) (m ((c : Thread nD τ).loc main_arg0)) (m ((c : Thread nD τ).loc main_arg1)) := by
  refine (dats m 0 c).arrAt_eq_of_covers 2 _ (by decide +kernel) fun t hf y => ?_
  blk_simp
  rw [after0_2, out]
  refine (mm _ _ y).trans (Eq.trans ?_ (ref _ _ _).symm)
  refine Finset.sum_congr rfl fun k _ => congrArg₂ (fun a b : EReal => a * b) (blk0 m c t _ _ ?_ rfl) (blk1 m c t _ _ rfl ?_)
  · blk_simp [idx t]
  · blk_simp [idx t]; simp [mul_comm]

end Cert.Kernel22Ideal.Latent

namespace Cert.Kernel23Ideal.Latent

open Cert.Kernel23Ideal Cert.Kernel23Ideal.Gen Cert.Reference23Ideal.Read

variable (m : (ℓ : Loc nD τ sig) → Buf (Elt Ideal) ℓ)

theorem mm (l : FVec Ideal S2048x1536 .bf16) (r : FVec Ideal S384x1536 .bf16) (y : S2048x384.Idx) : k0_pay1 (F := Ideal) r l y = ∑ k : Fin 1536, l (ix2 (y 0) k) * r (ix2 (y 1) k) := by
  unfold k0_pay1
  idx_vars y
  pointwise []

theorem out (x0 : Vec Ideal S2048x1536 .bf16) (x1 : Vec Ideal S384x1536 .bf16) : out0_2 x0 x1 = k0_pay1 x1 x0 := by
  unfold out0_2
  rw [View.canon_unit_zero (by decide), View.ld_unit_zero (by decide), View.ld_unit_zero (by decide)]

theorem idx : ∀ t : Fin cfg0.N, win0_0.index t = ![t.val, 0] ∧ win0_1.index t = ![0, 0] ∧ win0_2.index t = ![t.val, 0] :=
  (by decide +kernel : ∀ t : Fin grid0.N, _)

theorem arg0 (c : Dev nD) : V m c main_v0 = m ((c : Thread nD τ).loc main_arg1) := by
  simp only [V, hostOps0]
  after_reads_simp
  rfl

theorem arg1 (c : Dev nD) : V m c main_v1 = m ((c : Thread nD τ).loc main_arg0) := by
  simp only [V, hostOps0]
  after_reads_simp
  rfl

theorem blk0 (c : Dev nD) (t : Fin cfg0.N) (y : S2048x1536.Idx) (i : S4096x1536.Idx) (h0 : (i 0).val = 2048 * t.val + (y 0).val) (h1 : (i 1).val = (y 1).val) : iblk m c 0 t y = m ((c : Thread nD τ).loc main_arg1) i := by
  refine (congrFun (arg0 m c) (((cfg0.win 0).blk t).view.emb y)).trans (congrArg _ (funext fun a => Fin.ext ?_))
  fin_cases a <;> (blk_simp [idx t]; simp [h0, h1, mul_comm])

theorem blk1 (c : Dev nD) (t : Fin cfg0.N) (y : S384x1536.Idx) (i : S384x1536.Idx) (h0 : (i 0).val = (y 0).val) (h1 : (i 1).val = (y 1).val) : iblk m c 1 t y = m ((c : Thread nD τ).loc main_arg0) i := by
  refine (congrFun (arg1 m c) (((cfg0.win 1).blk t).view.emb y)).trans (congrArg _ (funext fun a => Fin.ext ?_))
  fin_cases a <;> (blk_simp [idx t]; simp [h0, h1, mul_comm])

theorem ref (x : FVec Ideal S4096x1536 .f32) (w : FVec Ideal S384x1536 .f32) (y : S4096x384.Idx) : val_main_v2 (F := Ideal) w x y = ∑ k : Fin 1536, x (ix2 (y 0) k) * w (ix2 (y 1) k) := by
  refine (val_main_v2_apply w x y).trans (Finset.sum_congr rfl fun k _ => congrArg₂ (fun a b : EReal => a * b) (congrArg x (funext fun a => ?_)) (congrArg w (funext fun a => ?_))) <;> fin_cases a <;> rfl

theorem final2 (c : Dev nD) : (dats m 0 c).arrAt 2 cfg0.N = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2, out]
  refine (mm _ _ y).trans (Eq.trans ?_ (ref _ _ _).symm)
  refine Finset.sum_congr rfl fun k _ => congrArg₂ (fun a b : EReal => a * b) (blk0 m c t _ _ ?_ rfl) (blk1 m c t _ _ ?_ rfl)
  · blk_simp [idx t]; simp [mul_comm]
  · blk_simp [idx t]

end Cert.Kernel23Ideal.Latent

namespace Cert.Kernel24Ideal.Latent

open Cert.Kernel24Ideal Cert.Kernel24Ideal.Gen Cert.Reference24Ideal.Read

variable (m : (ℓ : Loc nD τ sig) → Buf (Elt Ideal) ℓ)

theorem mm (l : FVec Ideal S4096x384 .bf16) (r : FVec Ideal S4096x768 .bf16) (y : S384x768.Idx) : k0_pay1 (F := Ideal) r l y = ∑ k : Fin 4096, l (ix2 k (y 0)) * r (ix2 k (y 1)) := by
  unfold k0_pay1
  idx_vars y
  pointwise []

theorem out (x0 : Vec Ideal S4096x384 .bf16) (x1 : Vec Ideal S4096x768 .bf16) : out0_2 x0 x1 = k0_pay1 x1 x0 := by
  unfold out0_2
  rw [View.canon_unit_zero (by decide), View.ld_unit_zero (by decide), View.ld_unit_zero (by decide)]

theorem idx : ∀ t : Fin cfg0.N, win0_0.index t = ![0, 0] ∧ win0_1.index t = ![0, t.val] ∧ win0_2.index t = ![0, t.val] :=
  (by decide +kernel : ∀ t : Fin grid0.N, _)

theorem arg0 (c : Dev nD) : V m c main_v0 = m ((c : Thread nD τ).loc main_arg0) := by
  simp only [V, hostOps0]
  after_reads_simp
  rfl

theorem arg1 (c : Dev nD) : V m c main_v1 = m ((c : Thread nD τ).loc main_arg1) := by
  simp only [V, hostOps0]
  after_reads_simp
  rfl

theorem blk0 (c : Dev nD) (t : Fin cfg0.N) (y : S4096x384.Idx) (i : S4096x384.Idx) (h0 : (i 0).val = (y 0).val) (h1 : (i 1).val = (y 1).val) : iblk m c 0 t y = m ((c : Thread nD τ).loc main_arg0) i := by
  refine (congrFun (arg0 m c) (((cfg0.win 0).blk t).view.emb y)).trans (congrArg _ (funext fun a => Fin.ext ?_))
  fin_cases a <;> (blk_simp [idx t]; simp [h0, h1, mul_comm])

theorem blk1 (c : Dev nD) (t : Fin cfg0.N) (y : S4096x768.Idx) (i : S4096x1536.Idx) (h0 : (i 0).val = (y 0).val) (h1 : (i 1).val = 768 * t.val + (y 1).val) : iblk m c 1 t y = m ((c : Thread nD τ).loc main_arg1) i := by
  refine (congrFun (arg1 m c) (((cfg0.win 1).blk t).view.emb y)).trans (congrArg _ (funext fun a => Fin.ext ?_))
  fin_cases a <;> (blk_simp [idx t]; simp [h0, h1, mul_comm])

theorem ref (x : FVec Ideal S4096x384 .f32) (w : FVec Ideal S4096x1536 .f32) (y : S384x1536.Idx) : val_main_v3 (F := Ideal) x w y = ∑ k : Fin 4096, x (ix2 k (y 0)) * w (ix2 k (y 1)) := by
  refine (val_main_v3_apply (F := Ideal) x w y).trans ((val_main_v2_apply x w _).trans ?_)
  refine (Finset.sum_congr rfl fun k _ => (mul_comm _ _).trans (congrArg₂ (fun a b : EReal => a * b) (congrArg x (funext fun a => ?_)) (congrArg w (funext fun a => ?_)))) <;> fin_cases a <;> rfl

theorem final2 (c : Dev nD) : (dats m 0 c).arrAt 2 cfg0.N = val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2, out]
  refine (mm _ _ y).trans (Eq.trans ?_ (ref _ _ _).symm)
  refine Finset.sum_congr rfl fun k _ => congrArg₂ (fun a b : EReal => a * b) (blk0 m c t _ _ rfl ?_) (blk1 m c t _ _ rfl ?_)
  · blk_simp [idx t]
  · blk_simp [idx t]; simp [mul_comm]

end Cert.Kernel24Ideal.Latent

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Kernel9.Frame
public import proofs.«01_k».proof.Proof.Gen.Reference9Ideal.Run
public import proofs.«01_k».proof.Proof.Gen.Kernel10.Frame
public import proofs.«01_k».proof.Proof.Gen.Reference10Ideal.Run
public import proofs.«01_k».proof.Proof.Gen.Kernel11.Frame
public import proofs.«01_k».proof.Proof.Gen.Reference11Ideal.Run
public import proofs.«01_k».proof.Proof.Gen.Kernel12.Frame
public import proofs.«01_k».proof.Proof.Gen.Reference12Ideal.Run
public import proofs.«01_k».proof.Proof.Gen.Kernel13.Frame
public import proofs.«01_k».proof.Proof.Gen.Reference13Ideal.Run
public import proofs.«01_k».proof.Proof.Gen.Kernel14.Frame
public import proofs.«01_k».proof.Proof.Gen.Reference14Ideal.Run
public import proofs.«01_k».proof.Proof.Gen.Kernel15.Frame
public import proofs.«01_k».proof.Proof.Gen.Reference15Ideal.Run
public import proofs.«01_k».proof.Proof.Gen.Kernel16.Frame
public import proofs.«01_k».proof.Proof.Gen.Reference16Ideal.Run
public import proofs.«01_k».proof.Proof.Gen.Kernel17.Frame
public import proofs.«01_k».proof.Proof.Gen.Reference17Ideal.Run
public import proofs.«01_k».proof.Proof.Gen.Kernel18.Frame
public import proofs.«01_k».proof.Proof.Gen.Reference18Ideal.Run
public import proofs.«01_k».proof.Proof.Gen.Kernel19.Frame
public import proofs.«01_k».proof.Proof.Gen.Reference19Ideal.Run
public import proofs.«01_k».proof.Proof.Gen.Kernel20.Frame
public import proofs.«01_k».proof.Proof.Gen.Reference20Ideal.Run
public import proofs.«01_k».proof.Proof.Gen.Kernel21.Frame
public import proofs.«01_k».proof.Proof.Gen.Reference21Ideal.Run
public import proofs.«01_k».proof.Proof.Gen.Kernel22.Frame
public import proofs.«01_k».proof.Proof.Gen.Reference22Ideal.Run
public import proofs.«01_k».proof.Proof.Gen.Kernel23.Frame
public import proofs.«01_k».proof.Proof.Gen.Reference23Ideal.Run
public import proofs.«01_k».proof.Proof.Gen.Kernel24.Frame
public import proofs.«01_k».proof.Proof.Gen.Reference24Ideal.Run
public import proofs.«01_k».proof.Proof.Bwd.Blocks
public import proofs.«01_k».proof.Proof.Bwd.Word
public import proofs.«01_k».proof.Proof.Bwd.Final
public import proofs.«01_k».proof.Proof.Bwd.Finite
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Reference2Ideal.Run
public import proofs.«01_k».proof.Proof.Gen.Kernel3.Frame
public import proofs.«01_k».proof.Proof.Gen.Reference3Ideal.Run
public import proofs.«01_k».proof.Proof.Gen.Kernel4.Frame
public import proofs.«01_k».proof.Proof.Gen.Kernel5.Frame
public import proofs.«01_k».proof.Proof.Gen.Kernel6.Frame
public import proofs.«01_k».proof.Proof.Gen.Reference6Ideal.Run
public import proofs.«01_k».proof.Proof.Gen.Kernel7.Frame
public import proofs.«01_k».proof.Proof.Gen.Reference7Ideal.Run
public import proofs.«01_k».proof.Proof.Gen.Kernel8.Frame
public import proofs.«01_k».proof.Proof.Gen.Reference8Ideal.Run
public import proofs.«01_k».proof.Proof.Gen.Reference5Ideal.Run
public import proofs.«01_k».proof.Proof.Gen.Reference4Ideal.Run
public import proofs.«01_k».proof.Proof.Mlp.HiddenGrad
public import proofs.«01_k».proof.Proof.Mlp.DownGrad
public import proofs.«01_k».proof.Proof.Mlp.UpGrad
public import proofs.«01_k».proof.Proof.Mlp.InputGrad
public import proofs.«01_k».proof.Proof.Mlp.Up
public import proofs.«01_k».proof.Proof.Mlp.Down
public import proofs.«01_k».proof.Proof.Cross.Final
public import proofs.«01_k».proof.Proof.Cross.Finite
public import proofs.«01_k».proof.Proof.Cross.Forward
public import proofs.«01_k».proof.Proof.Out.InputGrad
public import proofs.«01_k».proof.Proof.Out.WeightGrad
public import proofs.«01_k».proof.Proof.Out.Output
public import proofs.«01_k».proof.Proof.Out.Project
public import proofs.«01_k».proof.Proof.Out.CrossGrad
public import proofs.«01_k».proof.Proof.Out.InputWeight
public import proofs.«01_k».proof.Proof.Out.LayerGrad
public import proofs.«01_k».proof.Proof.Latent.Products
public import proofs.«01_k».proof.Proof.Latent.Queries
public import proofs.«01_k».proof.Proof.Gen.Pre_finite6
public import Idealize.ShloMosaic.Lib.Claim
public import Idealize.ShloMosaic.Adequacy
public import Idealize.ShloMosaic.Init

@[expose] public section

noncomputable section

namespace Cert.Proof

open Idealize.ShloMosaic Idealize.SL.Sem Cert.Kernel

set_option maxHeartbeats 4000000 in
/-- The two programs from memories that agree on finite arguments. -/
theorem pair : algebraic_KernelIdeal_ReferenceIdeal_pre_finite := by
  intro m g m' g' hpre hagree
  have e6 : ∀ c : Dev Cert.KernelIdeal.nD, Cert.ReferenceIdeal.Value.res_main_v66 m' c = (Cert.KernelIdeal.Bwd.dats m 0 c).arrAt 6 Cert.KernelIdeal.cfg0.N := fun c => by
    have h := hpre c
    rw [Cert.ReferenceIdeal.Read.val_main_v66_eq, (hagree c).1, (hagree c).2.1, (hagree c).2.2.1, (hagree c).2.2.2]
    exact (Cert.KernelIdeal.Bwd.res6 m c (Cert.Pre_finite.Real.real0 h) (Cert.Pre_finite.Real.real1 h) (Cert.Pre_finite.Real.real2 h) (Cert.Pre_finite.Real.real3 h)).symm
  have e7 : ∀ c : Dev Cert.KernelIdeal.nD, Cert.ReferenceIdeal.Value.res_main_v68 m' c = (Cert.KernelIdeal.Bwd.dats m 0 c).arrAt 7 Cert.KernelIdeal.cfg0.N := fun c => by
    have h := hpre c
    rw [Cert.ReferenceIdeal.Read.val_main_v68_eq, (hagree c).1, (hagree c).2.1, (hagree c).2.2.1, (hagree c).2.2.2]
    exact (Cert.KernelIdeal.Bwd.res7 m c (Cert.Pre_finite.Real.real0 h) (Cert.Pre_finite.Real.real1 h) (Cert.Pre_finite.Real.real2 h) (Cert.Pre_finite.Real.real3 h)).symm
  have e8 : ∀ c : Dev Cert.KernelIdeal.nD, Cert.ReferenceIdeal.Value.res_main_v71 m' c = (Cert.KernelIdeal.Bwd.dats m 0 c).arrAt 8 Cert.KernelIdeal.cfg0.N := fun c => by
    have h := hpre c
    rw [Cert.ReferenceIdeal.Read.val_main_v71_eq, (hagree c).1, (hagree c).2.1, (hagree c).2.2.2]
    exact (Cert.KernelIdeal.Bwd.res8 m c (Cert.Pre_finite.Real.real0 h) (Cert.Pre_finite.Real.real1 h) (Cert.Pre_finite.Real.real2 h) (Cert.Pre_finite.Real.real3 h)).symm
  refine ⟨fun c => (Cert.KernelIdeal.Bwd.dats m 0 c).arrAt 6 Cert.KernelIdeal.cfg0.N, fun c => (Cert.KernelIdeal.Bwd.dats m 0 c).arrAt 7 Cert.KernelIdeal.cfg0.N,
    fun c => (Cert.KernelIdeal.Bwd.dats m 0 c).arrAt 8 Cert.KernelIdeal.cfg0.N, Cert.KernelIdeal.Bwd.run_blocks m g, ?_⟩
  refine (θ_run _ _ _).mono (fun r h c => ?_) (Cert.ReferenceIdeal.Value.run m' g')
  obtain ⟨r6, r7, r8, rest⟩ := h c
  exact ⟨r6.trans (e6 c), r7.trans (e7 c), r8.trans (e8 c), rest⟩

/-- The reference runs and leaves its arguments; it declares no semaphore. -/
theorem quiet (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) := by
  refine (θ_run _ _ _).mono (fun r h => ⟨fun c => (h c).2.2.2, sem_eq_zero_of_no_sems (by decide) r.2⟩) (Cert.ReferenceIdeal.Value.run (F := Ideal) m g)

/-- Kernel and reference of the gradient of the MLP's hidden values, from memories that agree on the arguments. -/
theorem pair2 : algebraic_Kernel2Ideal_Reference2Ideal := by
  intro m g m' g' _ hagree
  refine ⟨fun c => (Cert.Kernel2Ideal.Gen.dats m 0 c).arrAt 3 Cert.Kernel2Ideal.cfg0.N, Cert.Kernel2Ideal.Value.run_blocks m g, ?_⟩
  refine (θ_run _ _ _).mono (fun r h c => ⟨(h c).1.trans ?_, (h c).2⟩) (Cert.Reference2Ideal.Value.run (F := Ideal) m' g')
  refine (Cert.Reference2Ideal.Read.val_main_v12_eq (F := Ideal) _ _ _).trans ?_
  rw [(hagree c).1, (hagree c).2.1, (hagree c).2.2]
  exact (Cert.Kernel2Ideal.Mlp.final m c).symm

/-- The reference of the gradient of the MLP's hidden values runs and leaves its arguments; it declares no semaphore. -/
theorem quiet2 : quiescent_Reference2Ideal := fun m g _ =>
  (θ_run _ _ _).mono (fun r h => ⟨fun c => (h c).2, sem_eq_zero_of_no_sems (by decide) r.2⟩) (Cert.Reference2Ideal.Value.run (F := Ideal) m g)

/-- Kernel and reference of the gradient of the MLP's down projection, from memories that agree on the arguments. -/
theorem pair3 : algebraic_Kernel3Ideal_Reference3Ideal := by
  intro m g m' g' _ hagree
  refine ⟨fun c => (Cert.Kernel3Ideal.Gen.dats m 0 c).arrAt 2 Cert.Kernel3Ideal.cfg0.N, Cert.Kernel3Ideal.Value.run_blocks m g, ?_⟩
  refine (θ_run _ _ _).mono (fun r h c => ⟨(h c).1.trans ?_, (h c).2⟩) (Cert.Reference3Ideal.Value.run (F := Ideal) m' g')
  refine (Cert.Reference3Ideal.Read.val_main_v7_eq (F := Ideal) _ _).trans ?_
  rw [(hagree c).1, (hagree c).2]
  exact (Cert.Kernel3Ideal.Mlp.final m c).symm

/-- The reference of the gradient of the MLP's down projection runs and leaves its arguments; it declares no semaphore. -/
theorem quiet3 : quiescent_Reference3Ideal := fun m g _ =>
  (θ_run _ _ _).mono (fun r h => ⟨fun c => (h c).2, sem_eq_zero_of_no_sems (by decide) r.2⟩) (Cert.Reference3Ideal.Value.run (F := Ideal) m g)

/-- Kernel and reference of the gradient of the MLP's up projection, from memories that agree on the arguments. -/
theorem pair4 : algebraic_Kernel4Ideal_Reference4Ideal := by
  intro m g m' g' _ hagree
  refine ⟨fun c => (Cert.Kernel4Ideal.Gen.dats m 0 c).arrAt 2 Cert.Kernel4Ideal.cfg0.N, Cert.Kernel4Ideal.Value.run_blocks m g, ?_⟩
  refine (θ_run _ _ _).mono (fun r h c => ⟨(h c).1.trans ?_, (h c).2⟩) (Cert.Reference4Ideal.Value.run (F := Ideal) m' g')
  refine (Cert.Reference4Ideal.Read.val_main_v6_eq (F := Ideal) _ _).trans ?_
  rw [(hagree c).1, (hagree c).2]
  exact (Cert.Kernel4Ideal.Mlp.final m c).symm

/-- The reference of the gradient of the MLP's up projection runs and leaves its arguments; it declares no semaphore. -/
theorem quiet4 : quiescent_Reference4Ideal := fun m g _ =>
  (θ_run _ _ _).mono (fun r h => ⟨fun c => (h c).2, sem_eq_zero_of_no_sems (by decide) r.2⟩) (Cert.Reference4Ideal.Value.run (F := Ideal) m g)

set_option maxHeartbeats 4000000 in
/-- Kernel and reference of the gradient of the MLP's input, from memories that agree on the arguments. -/
theorem pair5 : algebraic_Kernel5Ideal_Reference5Ideal := by
  intro m g m' g' _ hagree
  have e5 : ∀ c : Dev Cert.Kernel5Ideal.nD, Cert.Reference5Ideal.Value.res_main_v38 m' c = (Cert.Kernel5Ideal.Gen.dats m 0 c).arrAt 5 Cert.Kernel5Ideal.cfg0.N := fun c => by
    rw [Cert.Reference5Ideal.Read.val_main_v38_eq, (hagree c).1, (hagree c).2.1, (hagree c).2.2.1, (hagree c).2.2.2.1, (hagree c).2.2.2.2]
    exact (Cert.Kernel5Ideal.Mlp.final5 m c).symm
  have e6 : ∀ c : Dev Cert.Kernel5Ideal.nD, Cert.Reference5Ideal.Value.res_main_v39 m' c = (Cert.Kernel5Ideal.Gen.dats m 0 c).arrAt 6 Cert.Kernel5Ideal.cfg0.N := fun c => by
    rw [Cert.Reference5Ideal.Read.val_main_v39_eq, (hagree c).1, (hagree c).2.1, (hagree c).2.2.1, (hagree c).2.2.2.1, (hagree c).2.2.2.2]
    exact (Cert.Kernel5Ideal.Mlp.final6 m c).symm
  refine ⟨fun c => (Cert.Kernel5Ideal.Gen.dats m 0 c).arrAt 5 Cert.Kernel5Ideal.cfg0.N, fun c => (Cert.Kernel5Ideal.Gen.dats m 0 c).arrAt 6 Cert.Kernel5Ideal.cfg0.N,
    fun c => (Cert.Kernel5Ideal.Gen.dats m 0 c).arrAt 7 Cert.Kernel5Ideal.cfg0.N, Cert.Kernel5Ideal.Value.run_blocks m g, ?_⟩
  refine (θ_run _ _ _).mono (fun r h c => ?_) (Cert.Reference5Ideal.Value.run (F := Ideal) m' g')
  obtain ⟨r5, r6, r7, rest⟩ := h c
  refine ⟨r5.trans (e5 c), r6.trans (e6 c), r7.trans ?_, rest⟩
  refine (Cert.Reference5Ideal.Read.val_main_v40_eq (F := Ideal) _ _ _).trans ?_
  rw [(hagree c).1, (hagree c).2.2.1, (hagree c).2.2.2.1]
  exact (Cert.Kernel5Ideal.Mlp.final7 m c).symm

/-- The reference of the gradient of the MLP's input runs and leaves its arguments; it declares no semaphore. -/
theorem quiet5 : quiescent_Reference5Ideal := fun m g _ =>
  (θ_run _ _ _).mono (fun r h => ⟨fun c => (h c).2.2.2, sem_eq_zero_of_no_sems (by decide) r.2⟩) (Cert.Reference5Ideal.Value.run (F := Ideal) m g)

set_option maxHeartbeats 4000000 in
/-- Kernel and reference of the gradient of the attention over the memory slots, from memories that agree on arguments with finite queries and keys. -/
theorem pair6 : algebraic_Kernel6Ideal_Reference6Ideal_pre_finite6 := by
  intro m g m' g' hpre hagree
  have e4 : ∀ c : Dev Cert.Kernel6Ideal.nD, Cert.Reference6Ideal.Value.res_main_v66 m' c = (Cert.Kernel6Ideal.Gen.dats m 0 c).arrAt 4 Cert.Kernel6Ideal.cfg0.N := fun c => by
    rw [Cert.Reference6Ideal.Read.val_main_v66_eq, (hagree c).1, (hagree c).2.1, (hagree c).2.2]
    exact (Cert.Kernel6Ideal.Cross.final4 m c (Cert.Pre_finite6.Real.reals (hpre c))).symm
  have e5 : ∀ c : Dev Cert.Kernel6Ideal.nD, Cert.Reference6Ideal.Value.res_main_v68 m' c = (Cert.Kernel6Ideal.Gen.dats m 0 c).arrAt 5 Cert.Kernel6Ideal.cfg0.N := fun c => by
    rw [Cert.Reference6Ideal.Read.val_main_v68_eq, (hagree c).1, (hagree c).2.1, (hagree c).2.2]
    exact (Cert.Kernel6Ideal.Cross.final5 m c (Cert.Pre_finite6.Real.reals (hpre c))).symm
  refine ⟨fun c => (Cert.Kernel6Ideal.Gen.dats m 0 c).arrAt 4 Cert.Kernel6Ideal.cfg0.N, fun c => (Cert.Kernel6Ideal.Gen.dats m 0 c).arrAt 5 Cert.Kernel6Ideal.cfg0.N, fun c => (Cert.Kernel6Ideal.Gen.dats m 0 c).arrAt 6 Cert.Kernel6Ideal.cfg0.N, Cert.Kernel6Ideal.Value.run_blocks m g, ?_⟩
  refine (θ_run _ _ _).mono (fun r h c => ?_) (Cert.Reference6Ideal.Value.run (F := Ideal) m' g')
  obtain ⟨r4, r5, r6, rest⟩ := h c
  refine ⟨r4.trans (e4 c), r5.trans (e5 c), r6.trans ?_, rest⟩
  refine (Cert.Reference6Ideal.Read.val_main_v70_eq (F := Ideal) _ _ _).trans ?_
  rw [(hagree c).1, (hagree c).2.1, (hagree c).2.2]
  exact (Cert.Kernel6Ideal.Cross.final6 m c).symm

/-- The reference of the gradient of the attention over the memory slots runs and leaves its arguments; it declares no semaphore. -/
theorem quiet6 : quiescent_Reference6Ideal := fun m g _ =>
  (θ_run _ _ _).mono (fun r h => ⟨fun c => (h c).2.2.2, sem_eq_zero_of_no_sems (by decide) r.2⟩) (Cert.Reference6Ideal.Value.run (F := Ideal) m g)

/-- Kernel and reference of the MLP's up projection, from memories that agree on the arguments. -/
theorem pair7 : algebraic_Kernel7Ideal_Reference7Ideal := by
  intro m g m' g' _ hagree
  refine ⟨fun c => (Cert.Kernel7Ideal.Gen.dats m 0 c).arrAt 2 Cert.Kernel7Ideal.cfg0.N, fun c => (Cert.Kernel7Ideal.Gen.dats m 0 c).arrAt 3 Cert.Kernel7Ideal.cfg0.N, Cert.Kernel7Ideal.Value.run_blocks m g, ?_⟩
  refine (θ_run _ _ _).mono (fun r h c => ?_) (Cert.Reference7Ideal.Value.run (F := Ideal) m' g')
  obtain ⟨r2, r3, rest⟩ := h c
  refine ⟨r2.trans ((Cert.Reference7Ideal.Read.val_main_v2_eq (F := Ideal) _ _).trans ?_), r3.trans ((Cert.Reference7Ideal.Read.val_main_v4_eq (F := Ideal) _ _).trans ?_), rest⟩
  · rw [(hagree c).1, (hagree c).2]
    exact (Cert.Kernel7Ideal.Mlp.final2 m c).symm
  · rw [(hagree c).1, (hagree c).2]
    exact (Cert.Kernel7Ideal.Mlp.final3 m c).symm

/-- The reference of the MLP's up projection runs and leaves its arguments; it declares no semaphore. -/
theorem quiet7 : quiescent_Reference7Ideal := fun m g _ =>
  (θ_run _ _ _).mono (fun r h => ⟨fun c => (h c).2.2, sem_eq_zero_of_no_sems (by decide) r.2⟩) (Cert.Reference7Ideal.Value.run (F := Ideal) m g)

/-- Kernel and reference of the MLP's down projection, from memories that agree on the arguments. -/
theorem pair8 : algebraic_Kernel8Ideal_Reference8Ideal := by
  intro m g m' g' _ hagree
  refine ⟨fun c => (Cert.Kernel8Ideal.Gen.dats m 0 c).arrAt 4 Cert.Kernel8Ideal.cfg0.N, fun c => (Cert.Kernel8Ideal.Gen.dats m 0 c).arrAt 5 Cert.Kernel8Ideal.cfg0.N, Cert.Kernel8Ideal.Value.run_blocks m g, ?_⟩
  refine (θ_run _ _ _).mono (fun r h c => ?_) (Cert.Reference8Ideal.Value.run (F := Ideal) m' g')
  obtain ⟨r4, r5, rest⟩ := h c
  refine ⟨r4.trans ((Cert.Reference8Ideal.Read.val_main_v2_eq (F := Ideal) _ _ _).trans ?_), r5.trans ((Cert.Reference8Ideal.Read.val_main_v16_eq (F := Ideal) _ _ _ _).trans ?_), rest⟩
  · rw [(hagree c).1, (hagree c).2.1, (hagree c).2.2.1]
    exact (Cert.Kernel8Ideal.Mlp.final4 m c).symm
  · rw [(hagree c).1, (hagree c).2.1, (hagree c).2.2.1, (hagree c).2.2.2]
    exact (Cert.Kernel8Ideal.Mlp.final5 m c).symm

/-- The reference of the MLP's down projection runs and leaves its arguments; it declares no semaphore. -/
theorem quiet8 : quiescent_Reference8Ideal := fun m g _ =>
  (θ_run _ _ _).mono (fun r h => ⟨fun c => (h c).2.2, sem_eq_zero_of_no_sems (by decide) r.2⟩) (Cert.Reference8Ideal.Value.run (F := Ideal) m g)

/-- Kernel and reference of the input gradient of the attentions' output product, from memories that agree on the arguments. -/
theorem pair9 : algebraic_Kernel9Ideal_Reference9Ideal := by
  intro m g m' g' _ hagree
  refine ⟨fun c => (Cert.Kernel9Ideal.Gen.dats m 0 c).arrAt 2 Cert.Kernel9Ideal.cfg0.N, Cert.Kernel9Ideal.Value.run_blocks m g, ?_⟩
  refine (θ_run _ _ _).mono (fun r h c => ⟨(h c).1.trans ?_, (h c).2⟩) (Cert.Reference9Ideal.Value.run (F := Ideal) m' g')
  refine (Cert.Reference9Ideal.Read.val_main_v6_eq (F := Ideal) _ _).trans ?_
  rw [(hagree c).1, (hagree c).2]
  exact (Cert.Kernel9Ideal.Out.final2 m c).symm

/-- The reference of the input gradient of the attentions' output product runs and leaves its arguments; it declares no semaphore. -/
theorem quiet9 : quiescent_Reference9Ideal := fun m g _ =>
  (θ_run _ _ _).mono (fun r h => ⟨fun c => (h c).2, sem_eq_zero_of_no_sems (by decide) r.2⟩) (Cert.Reference9Ideal.Value.run (F := Ideal) m g)

/-- Kernel and reference of the mixer's rows of the output weight's gradient, from memories that agree on the arguments. -/
theorem pair10 : algebraic_Kernel10Ideal_Reference10Ideal := by
  intro m g m' g' _ hagree
  refine ⟨fun c => (Cert.Kernel10Ideal.Gen.dats m 0 c).arrAt 2 Cert.Kernel10Ideal.cfg0.N, Cert.Kernel10Ideal.Value.run_blocks m g, ?_⟩
  refine (θ_run _ _ _).mono (fun r h c => ⟨(h c).1.trans ?_, (h c).2⟩) (Cert.Reference10Ideal.Value.run (F := Ideal) m' g')
  refine (Cert.Reference10Ideal.Read.val_main_v3_eq (F := Ideal) _ _).trans ?_
  rw [(hagree c).1, (hagree c).2]
  exact (Cert.Kernel10Ideal.Out.final2 m c).symm

/-- The reference of the mixer's rows of the output weight's gradient runs and leaves its arguments; it declares no semaphore. -/
theorem quiet10 : quiescent_Reference10Ideal := fun m g _ =>
  (θ_run _ _ _).mono (fun r h => ⟨fun c => (h c).2, sem_eq_zero_of_no_sems (by decide) r.2⟩) (Cert.Reference10Ideal.Value.run (F := Ideal) m g)

/-- Kernel and reference of the attentions' output product, from memories that agree on the arguments. -/
theorem pair11 : algebraic_Kernel11Ideal_Reference11Ideal := by
  intro m g m' g' _ hagree
  refine ⟨fun c => (Cert.Kernel11Ideal.Gen.dats m 0 c).arrAt 6 Cert.Kernel11Ideal.cfg0.N, fun c => (Cert.Kernel11Ideal.Gen.dats m 0 c).arrAt 7 Cert.Kernel11Ideal.cfg0.N, Cert.Kernel11Ideal.Value.run_blocks m g, ?_⟩
  refine (θ_run _ _ _).mono (fun r h c => ?_) (Cert.Reference11Ideal.Value.run (F := Ideal) m' g')
  obtain ⟨r6, r7, rest⟩ := h c
  refine ⟨r6.trans ((Cert.Reference11Ideal.Read.val_main_v2_eq (F := Ideal) _ _ _ _).trans ?_), r7.trans ((Cert.Reference11Ideal.Read.val_main_v16_eq (F := Ideal) _ _ _ _ _).trans ?_), rest⟩
  · rw [(hagree c).1, (hagree c).2.1, (hagree c).2.2.1, (hagree c).2.2.2.1]
    exact (Cert.Kernel11Ideal.Out.final6 m c).symm
  · rw [(hagree c).1, (hagree c).2.1, (hagree c).2.2.1, (hagree c).2.2.2.1, (hagree c).2.2.2.2]
    exact (Cert.Kernel11Ideal.Out.final7 m c).symm

/-- The reference of the attentions' output product runs and leaves its arguments; it declares no semaphore. -/
theorem quiet11 : quiescent_Reference11Ideal := fun m g _ =>
  (θ_run _ _ _).mono (fun r h => ⟨fun c => (h c).2.2, sem_eq_zero_of_no_sems (by decide) r.2⟩) (Cert.Reference11Ideal.Value.run (F := Ideal) m g)

/-- Kernel and reference of the attention over the memory slots, from memories that agree on the arguments. -/
theorem pair12 : algebraic_Kernel12Ideal_Reference12Ideal := by
  intro m g m' g' _ hagree
  refine ⟨fun c => (Cert.Kernel12Ideal.Gen.dats m 0 c).arrAt 3 Cert.Kernel12Ideal.cfg0.N, Cert.Kernel12Ideal.Value.run_blocks m g, ?_⟩
  refine (θ_run _ _ _).mono (fun r h c => ⟨(h c).1.trans ?_, (h c).2⟩) (Cert.Reference12Ideal.Value.run (F := Ideal) m' g')
  refine (Cert.Reference12Ideal.Read.val_main_v25_eq (F := Ideal) _ _).trans ?_
  rw [(hagree c).1, (hagree c).2]
  exact (Cert.Kernel12Ideal.Cross.final3 m c).symm

/-- The reference of the attention over the memory slots runs and leaves its arguments; it declares no semaphore. -/
theorem quiet12 : quiescent_Reference12Ideal := fun m g _ =>
  (θ_run _ _ _).mono (fun r h => ⟨fun c => (h c).2, sem_eq_zero_of_no_sems (by decide) r.2⟩) (Cert.Reference12Ideal.Value.run (F := Ideal) m g)

/-- Kernel and reference of the windowed attention's input product, from memories that agree on the arguments. -/
theorem pair13 : algebraic_Kernel13Ideal_Reference13Ideal := by
  intro m g m' g' _ hagree
  refine ⟨fun c => (Cert.Kernel13Ideal.Gen.dats m 0 c).arrAt 2 Cert.Kernel13Ideal.cfg0.N, Cert.Kernel13Ideal.Value.run_blocks m g, ?_⟩
  refine (θ_run _ _ _).mono (fun r h c => ⟨(h c).1.trans ?_, (h c).2⟩) (Cert.Reference13Ideal.Value.run (F := Ideal) m' g')
  refine (Cert.Reference13Ideal.Read.val_main_v4_eq (F := Ideal) _ _).trans ?_
  rw [(hagree c).1, (hagree c).2]
  exact (Cert.Kernel13Ideal.Out.final2 m c).symm

/-- The reference of the windowed attention's input product runs and leaves its arguments; it declares no semaphore. -/
theorem quiet13 : quiescent_Reference13Ideal := fun m g _ =>
  (θ_run _ _ _).mono (fun r h => ⟨fun c => (h c).2, sem_eq_zero_of_no_sems (by decide) r.2⟩) (Cert.Reference13Ideal.Value.run (F := Ideal) m g)

/-- Kernel and reference of the cross attention's rows of the output weight's gradient, from memories that agree on the arguments. -/
theorem pair14 : algebraic_Kernel14Ideal_Reference14Ideal := by
  intro m g m' g' _ hagree
  refine ⟨fun c => (Cert.Kernel14Ideal.Gen.dats m 0 c).arrAt 2 Cert.Kernel14Ideal.cfg0.N, Cert.Kernel14Ideal.Value.run_blocks m g, ?_⟩
  refine (θ_run _ _ _).mono (fun r h c => ⟨(h c).1.trans ?_, (h c).2⟩) (Cert.Reference14Ideal.Value.run (F := Ideal) m' g')
  refine (Cert.Reference14Ideal.Read.val_main_v3_eq (F := Ideal) _ _).trans ?_
  rw [(hagree c).1, (hagree c).2]
  exact (Cert.Kernel14Ideal.Out.final2 m c).symm

/-- The reference of the cross attention's rows of the output weight's gradient runs and leaves its arguments; it declares no semaphore. -/
theorem quiet14 : quiescent_Reference14Ideal := fun m g _ =>
  (θ_run _ _ _).mono (fun r h => ⟨fun c => (h c).2, sem_eq_zero_of_no_sems (by decide) r.2⟩) (Cert.Reference14Ideal.Value.run (F := Ideal) m g)

/-- Kernel and reference of the gradient of the windowed layer's input weight, from memories that agree on the arguments. -/
theorem pair15 : algebraic_Kernel15Ideal_Reference15Ideal := by
  intro m g m' g' _ hagree
  refine ⟨fun c => (Cert.Kernel15Ideal.Gen.dats m 0 c).arrAt 2 Cert.Kernel15Ideal.cfg0.N, Cert.Kernel15Ideal.Value.run_blocks m g, ?_⟩
  refine (θ_run _ _ _).mono (fun r h c => ⟨(h c).1.trans ?_, (h c).2⟩) (Cert.Reference15Ideal.Value.run (F := Ideal) m' g')
  refine (Cert.Reference15Ideal.Read.val_main_v3_eq (F := Ideal) _ _).trans ?_
  rw [(hagree c).1, (hagree c).2]
  exact (Cert.Kernel15Ideal.Out.final2 m c).symm

/-- The reference of the gradient of the windowed layer's input weight runs and leaves its arguments; it declares no semaphore. -/
theorem quiet15 : quiescent_Reference15Ideal := fun m g _ =>
  (θ_run _ _ _).mono (fun r h => ⟨fun c => (h c).2, sem_eq_zero_of_no_sems (by decide) r.2⟩) (Cert.Reference15Ideal.Value.run (F := Ideal) m g)

set_option maxHeartbeats 4000000 in
/-- Kernel and reference of the gradient of the windowed layer's input, from memories that agree on the arguments. -/
theorem pair16 : algebraic_Kernel16Ideal_Reference16Ideal := by
  intro m g m' g' _ hagree
  have e5 : ∀ c : Dev Cert.Kernel16Ideal.nD, Cert.Reference16Ideal.Value.res_main_v38 m' c = (Cert.Kernel16Ideal.Gen.dats m 0 c).arrAt 5 Cert.Kernel16Ideal.cfg0.N := fun c => by
    rw [Cert.Reference16Ideal.Read.val_main_v38_eq, (hagree c).1, (hagree c).2.1, (hagree c).2.2.1, (hagree c).2.2.2.1, (hagree c).2.2.2.2]
    exact (Cert.Kernel16Ideal.Out.final5 m c).symm
  have e6 : ∀ c : Dev Cert.Kernel16Ideal.nD, Cert.Reference16Ideal.Value.res_main_v39 m' c = (Cert.Kernel16Ideal.Gen.dats m 0 c).arrAt 6 Cert.Kernel16Ideal.cfg0.N := fun c => by
    rw [Cert.Reference16Ideal.Read.val_main_v39_eq, (hagree c).1, (hagree c).2.1, (hagree c).2.2.1, (hagree c).2.2.2.1, (hagree c).2.2.2.2]
    exact (Cert.Kernel16Ideal.Out.final6 m c).symm
  refine ⟨fun c => (Cert.Kernel16Ideal.Gen.dats m 0 c).arrAt 5 Cert.Kernel16Ideal.cfg0.N, fun c => (Cert.Kernel16Ideal.Gen.dats m 0 c).arrAt 6 Cert.Kernel16Ideal.cfg0.N,
    fun c => (Cert.Kernel16Ideal.Gen.dats m 0 c).arrAt 7 Cert.Kernel16Ideal.cfg0.N, Cert.Kernel16Ideal.Value.run_blocks m g, ?_⟩
  refine (θ_run _ _ _).mono (fun r h c => ?_) (Cert.Reference16Ideal.Value.run (F := Ideal) m' g')
  obtain ⟨r5, r6, r7, rest⟩ := h c
  refine ⟨r5.trans (e5 c), r6.trans (e6 c), r7.trans ?_, rest⟩
  refine (Cert.Reference16Ideal.Read.val_main_v40_eq (F := Ideal) _ _ _).trans ?_
  rw [(hagree c).1, (hagree c).2.2.1, (hagree c).2.2.2.1]
  exact (Cert.Kernel16Ideal.Out.final7 m c).symm

/-- The reference of the gradient of the windowed layer's input runs and leaves its arguments; it declares no semaphore. -/
theorem quiet16 : quiescent_Reference16Ideal := fun m g _ =>
  (θ_run _ _ _).mono (fun r h => ⟨fun c => (h c).2.2.2, sem_eq_zero_of_no_sems (by decide) r.2⟩) (Cert.Reference16Ideal.Value.run (F := Ideal) m g)

/-- Kernel and reference of the product from the latent vectors to the keys and values, from memories that agree on the arguments. -/
theorem pair17 : algebraic_Kernel17Ideal_Reference17Ideal := by
  intro m g m' g' _ hagree
  refine ⟨fun c => (Cert.Kernel17Ideal.Gen.dats m 0 c).arrAt 2 Cert.Kernel17Ideal.cfg0.N, Cert.Kernel17Ideal.Value.run_blocks m g, ?_⟩
  refine (θ_run _ _ _).mono (fun r h c => ⟨(h c).1.trans ?_, (h c).2⟩) (Cert.Reference17Ideal.Value.run (F := Ideal) m' g')
  refine (Cert.Reference17Ideal.Read.val_main_v0_eq (F := Ideal) _ _).trans ?_
  rw [(hagree c).1, (hagree c).2]
  exact (Cert.Kernel17Ideal.Latent.final2 m c).symm

/-- The reference of the product from the latent vectors to the keys and values runs and leaves its arguments; it declares no semaphore. -/
theorem quiet17 : quiescent_Reference17Ideal := fun m g _ =>
  (θ_run _ _ _).mono (fun r h => ⟨fun c => (h c).2, sem_eq_zero_of_no_sems (by decide) r.2⟩) (Cert.Reference17Ideal.Value.run (F := Ideal) m g)

/-- Kernel and reference of the gradient of the latent vectors, from memories that agree on the arguments. -/
theorem pair18 : algebraic_Kernel18Ideal_Reference18Ideal := by
  intro m g m' g' _ hagree
  refine ⟨fun c => (Cert.Kernel18Ideal.Gen.dats m 0 c).arrAt 2 Cert.Kernel18Ideal.cfg0.N, Cert.Kernel18Ideal.Value.run_blocks m g, ?_⟩
  refine (θ_run _ _ _).mono (fun r h c => ⟨(h c).1.trans ?_, (h c).2⟩) (Cert.Reference18Ideal.Value.run (F := Ideal) m' g')
  refine (Cert.Reference18Ideal.Read.val_main_v2_eq (F := Ideal) _ _).trans ?_
  rw [(hagree c).1, (hagree c).2]
  exact (Cert.Kernel18Ideal.Latent.final2 m c).symm

/-- The reference of the gradient of the latent vectors runs and leaves its arguments; it declares no semaphore. -/
theorem quiet18 : quiescent_Reference18Ideal := fun m g _ =>
  (θ_run _ _ _).mono (fun r h => ⟨fun c => (h c).2, sem_eq_zero_of_no_sems (by decide) r.2⟩) (Cert.Reference18Ideal.Value.run (F := Ideal) m g)

/-- Kernel and reference of the gradient of the weight from the latent vectors, from memories that agree on the arguments. -/
theorem pair19 : algebraic_Kernel19Ideal_Reference19Ideal := by
  intro m g m' g' _ hagree
  refine ⟨fun c => (Cert.Kernel19Ideal.Gen.dats m 0 c).arrAt 2 Cert.Kernel19Ideal.cfg0.N, Cert.Kernel19Ideal.Value.run_blocks m g, ?_⟩
  refine (θ_run _ _ _).mono (fun r h c => ⟨(h c).1.trans ?_, (h c).2⟩) (Cert.Reference19Ideal.Value.run (F := Ideal) m' g')
  refine (Cert.Reference19Ideal.Read.val_main_v3_eq (F := Ideal) _ _).trans ?_
  rw [(hagree c).1, (hagree c).2]
  exact (Cert.Kernel19Ideal.Latent.final2 m c).symm

/-- The reference of the gradient of the weight from the latent vectors runs and leaves its arguments; it declares no semaphore. -/
theorem quiet19 : quiescent_Reference19Ideal := fun m g _ =>
  (θ_run _ _ _).mono (fun r h => ⟨fun c => (h c).2, sem_eq_zero_of_no_sems (by decide) r.2⟩) (Cert.Reference19Ideal.Value.run (F := Ideal) m g)

/-- Kernel and reference of the input product of the latent attention's layer, from memories that agree on the arguments. -/
theorem pair20 : algebraic_Kernel20Ideal_Reference20Ideal := by
  intro m g m' g' _ hagree
  refine ⟨fun c => (Cert.Kernel20Ideal.Gen.dats m 0 c).arrAt 2 Cert.Kernel20Ideal.cfg0.N, Cert.Kernel20Ideal.Value.run_blocks m g, ?_⟩
  refine (θ_run _ _ _).mono (fun r h c => ⟨(h c).1.trans ?_, (h c).2⟩) (Cert.Reference20Ideal.Value.run (F := Ideal) m' g')
  refine (Cert.Reference20Ideal.Read.val_main_v0_eq (F := Ideal) _ _).trans ?_
  rw [(hagree c).1, (hagree c).2]
  exact (Cert.Kernel20Ideal.Latent.final2 m c).symm

/-- The reference of the input product of the latent attention's layer runs and leaves its arguments; it declares no semaphore. -/
theorem quiet20 : quiescent_Reference20Ideal := fun m g _ =>
  (θ_run _ _ _).mono (fun r h => ⟨fun c => (h c).2, sem_eq_zero_of_no_sems (by decide) r.2⟩) (Cert.Reference20Ideal.Value.run (F := Ideal) m g)

/-- Kernel and reference of the gradient of the input weight of the latent attention's layer, from memories that agree on the arguments. -/
theorem pair21 : algebraic_Kernel21Ideal_Reference21Ideal := by
  intro m g m' g' _ hagree
  refine ⟨fun c => (Cert.Kernel21Ideal.Gen.dats m 0 c).arrAt 2 Cert.Kernel21Ideal.cfg0.N, Cert.Kernel21Ideal.Value.run_blocks m g, ?_⟩
  refine (θ_run _ _ _).mono (fun r h c => ⟨(h c).1.trans ?_, (h c).2⟩) (Cert.Reference21Ideal.Value.run (F := Ideal) m' g')
  refine (Cert.Reference21Ideal.Read.val_main_v3_eq (F := Ideal) _ _).trans ?_
  rw [(hagree c).1, (hagree c).2]
  exact (Cert.Kernel21Ideal.Latent.final2 m c).symm

/-- The reference of the gradient of the input weight of the latent attention's layer runs and leaves its arguments; it declares no semaphore. -/
theorem quiet21 : quiescent_Reference21Ideal := fun m g _ =>
  (θ_run _ _ _).mono (fun r h => ⟨fun c => (h c).2, sem_eq_zero_of_no_sems (by decide) r.2⟩) (Cert.Reference21Ideal.Value.run (F := Ideal) m g)

/-- Kernel and reference of the product from the latent vectors to the queries, from memories that agree on the arguments. -/
theorem pair22 : algebraic_Kernel22Ideal_Reference22Ideal := by
  intro m g m' g' _ hagree
  refine ⟨fun c => (Cert.Kernel22Ideal.Gen.dats m 0 c).arrAt 2 Cert.Kernel22Ideal.cfg0.N, Cert.Kernel22Ideal.Value.run_blocks m g, ?_⟩
  refine (θ_run _ _ _).mono (fun r h c => ⟨(h c).1.trans ?_, (h c).2⟩) (Cert.Reference22Ideal.Value.run (F := Ideal) m' g')
  refine (Cert.Reference22Ideal.Read.val_main_v0_eq (F := Ideal) _ _).trans ?_
  rw [(hagree c).1, (hagree c).2]
  exact (Cert.Kernel22Ideal.Latent.final2 m c).symm

/-- The reference of the product from the latent vectors to the queries runs and leaves its arguments; it declares no semaphore. -/
theorem quiet22 : quiescent_Reference22Ideal := fun m g _ =>
  (θ_run _ _ _).mono (fun r h => ⟨fun c => (h c).2, sem_eq_zero_of_no_sems (by decide) r.2⟩) (Cert.Reference22Ideal.Value.run (F := Ideal) m g)

/-- Kernel and reference of the gradient of the queries' latent vectors, from memories that agree on the arguments. -/
theorem pair23 : algebraic_Kernel23Ideal_Reference23Ideal := by
  intro m g m' g' _ hagree
  refine ⟨fun c => (Cert.Kernel23Ideal.Gen.dats m 0 c).arrAt 2 Cert.Kernel23Ideal.cfg0.N, Cert.Kernel23Ideal.Value.run_blocks m g, ?_⟩
  refine (θ_run _ _ _).mono (fun r h c => ⟨(h c).1.trans ?_, (h c).2⟩) (Cert.Reference23Ideal.Value.run (F := Ideal) m' g')
  refine (Cert.Reference23Ideal.Read.val_main_v2_eq (F := Ideal) _ _).trans ?_
  rw [(hagree c).1, (hagree c).2]
  exact (Cert.Kernel23Ideal.Latent.final2 m c).symm

/-- The reference of the gradient of the queries' latent vectors runs and leaves its arguments; it declares no semaphore. -/
theorem quiet23 : quiescent_Reference23Ideal := fun m g _ =>
  (θ_run _ _ _).mono (fun r h => ⟨fun c => (h c).2, sem_eq_zero_of_no_sems (by decide) r.2⟩) (Cert.Reference23Ideal.Value.run (F := Ideal) m g)

/-- Kernel and reference of the gradient of the weight from the latent vectors to the queries, from memories that agree on the arguments. -/
theorem pair24 : algebraic_Kernel24Ideal_Reference24Ideal := by
  intro m g m' g' _ hagree
  refine ⟨fun c => (Cert.Kernel24Ideal.Gen.dats m 0 c).arrAt 2 Cert.Kernel24Ideal.cfg0.N, Cert.Kernel24Ideal.Value.run_blocks m g, ?_⟩
  refine (θ_run _ _ _).mono (fun r h c => ⟨(h c).1.trans ?_, (h c).2⟩) (Cert.Reference24Ideal.Value.run (F := Ideal) m' g')
  refine (Cert.Reference24Ideal.Read.val_main_v3_eq (F := Ideal) _ _).trans ?_
  rw [(hagree c).1, (hagree c).2]
  exact (Cert.Kernel24Ideal.Latent.final2 m c).symm

/-- The reference of the gradient of the weight from the latent vectors to the queries runs and leaves its arguments; it declares no semaphore. -/
theorem quiet24 : quiescent_Reference24Ideal := fun m g _ =>
  (θ_run _ _ _).mono (fun r h => ⟨fun c => (h c).2, sem_eq_zero_of_no_sems (by decide) r.2⟩) (Cert.Reference24Ideal.Value.run (F := Ideal) m g)

/-- All claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts, Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Pre_finite.Gen.facts, Cert.Pre_finite6.Gen.facts,
  Cert.Kernel.Word.frame,
  fun m ρ _ => Cert.KernelIdeal.Bwd.frame m ρ, fun m ρ _ => Cert.KernelIdeal.Bwd.frame m ρ, fun m ρ _ => quiet m ρ, fun m ρ _ => quiet m ρ,
  fun m ρ _ => Cert.Kernel2.Gen.frame m ρ, fun m ρ _ => Cert.Kernel2Ideal.Gen.frame m ρ, quiet2,
  fun m ρ _ => Cert.Kernel3.Gen.frame m ρ, fun m ρ _ => Cert.Kernel3Ideal.Gen.frame m ρ, quiet3,
  fun m ρ _ => Cert.Kernel4.Gen.frame m ρ, fun m ρ _ => Cert.Kernel4Ideal.Gen.frame m ρ, quiet4,
  fun m ρ _ => Cert.Kernel5.Gen.frame m ρ, fun m ρ _ => Cert.Kernel5Ideal.Gen.frame m ρ, quiet5,
  fun m ρ _ => Cert.Kernel6.Gen.frame m ρ, fun m ρ _ => Cert.Kernel6Ideal.Gen.frame m ρ, fun m ρ _ => Cert.Kernel6Ideal.Gen.frame m ρ, quiet6, fun m ρ _ => quiet6 m ρ trivial,
  fun m ρ _ => Cert.Kernel7.Gen.frame m ρ, fun m ρ _ => Cert.Kernel7Ideal.Gen.frame m ρ, quiet7,
  fun m ρ _ => Cert.Kernel8.Gen.frame m ρ, fun m ρ _ => Cert.Kernel8Ideal.Gen.frame m ρ, quiet8,
  fun m ρ _ => Cert.Kernel9.Gen.frame m ρ, fun m ρ _ => Cert.Kernel9Ideal.Gen.frame m ρ, quiet9,
  fun m ρ _ => Cert.Kernel10.Gen.frame m ρ, fun m ρ _ => Cert.Kernel10Ideal.Gen.frame m ρ, quiet10,
  fun m ρ _ => Cert.Kernel11.Gen.frame m ρ, fun m ρ _ => Cert.Kernel11Ideal.Gen.frame m ρ, quiet11,
  fun m ρ _ => Cert.Kernel12.Gen.frame m ρ, fun m ρ _ => Cert.Kernel12Ideal.Gen.frame m ρ, quiet12,
  fun m ρ _ => Cert.Kernel13.Gen.frame m ρ, fun m ρ _ => Cert.Kernel13Ideal.Gen.frame m ρ, quiet13,
  fun m ρ _ => Cert.Kernel14.Gen.frame m ρ, fun m ρ _ => Cert.Kernel14Ideal.Gen.frame m ρ, quiet14,
  fun m ρ _ => Cert.Kernel15.Gen.frame m ρ, fun m ρ _ => Cert.Kernel15Ideal.Gen.frame m ρ, quiet15,
  fun m ρ _ => Cert.Kernel16.Gen.frame m ρ, fun m ρ _ => Cert.Kernel16Ideal.Gen.frame m ρ, quiet16,
  fun m ρ _ => Cert.Kernel17.Gen.frame m ρ, fun m ρ _ => Cert.Kernel17Ideal.Gen.frame m ρ, quiet17,
  fun m ρ _ => Cert.Kernel18.Gen.frame m ρ, fun m ρ _ => Cert.Kernel18Ideal.Gen.frame m ρ, quiet18,
  fun m ρ _ => Cert.Kernel19.Gen.frame m ρ, fun m ρ _ => Cert.Kernel19Ideal.Gen.frame m ρ, quiet19,
  fun m ρ _ => Cert.Kernel20.Gen.frame m ρ, fun m ρ _ => Cert.Kernel20Ideal.Gen.frame m ρ, quiet20,
  fun m ρ _ => Cert.Kernel21.Gen.frame m ρ, fun m ρ _ => Cert.Kernel21Ideal.Gen.frame m ρ, quiet21,
  fun m ρ _ => Cert.Kernel22.Gen.frame m ρ, fun m ρ _ => Cert.Kernel22Ideal.Gen.frame m ρ, quiet22,
  fun m ρ _ => Cert.Kernel23.Gen.frame m ρ, fun m ρ _ => Cert.Kernel23Ideal.Gen.frame m ρ, quiet23,
  fun m ρ _ => Cert.Kernel24.Gen.frame m ρ, fun m ρ _ => Cert.Kernel24Ideal.Gen.frame m ρ, quiet24,
  ⟨IdealRules.named_const.statement Cert.KernelIdeal.κ "mask" .f32 0xF149F2CA#32 ⊥ rfl,
    IdealRules.named_const.statement Cert.KernelIdeal.κ "ln2" .f32 0x3F317218#32 ((Real.log 2 : ℝ) : EReal) rfl⟩,
  pair, trivial, pair2, trivial, pair3, trivial, pair4, trivial, pair5, trivial, pair6, trivial, pair7, trivial, pair8, trivial, pair9, trivial, pair10, trivial, pair11, trivial, pair12, trivial, pair13, trivial, pair14, trivial, pair15, trivial, pair16, trivial, pair17, trivial, pair18, trivial, pair19, trivial, pair20, trivial, pair21, trivial, pair22, trivial, pair23, trivial, pair24⟩

end Cert.Proof

end
